-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InEven (m : (ℓ : Loc Cert.InEven.nD Cert.InEven.τ Cert.InEven.sig) → Buf (Elt Bits) ℓ) : Prop :=
  True

def Pre_InEvenIdeal (m : (ℓ : Loc Cert.InEvenIdeal.nD Cert.InEvenIdeal.τ Cert.InEvenIdeal.sig) → Buf (Elt Ideal) ℓ) : Prop :=
  True

def Pre_InEvenRefIdeal (m : (ℓ : Loc Cert.InEvenRefIdeal.nD Cert.InEvenRefIdeal.τ Cert.InEvenRefIdeal.sig) → Buf (Elt Ideal) ℓ) : Prop :=
  True

def Pre_OutEven (m : (ℓ : Loc Cert.OutEven.nD Cert.OutEven.τ Cert.OutEven.sig) → Buf (Elt Bits) ℓ) : Prop :=
  True

def Pre_OutEvenIdeal (m : (ℓ : Loc Cert.OutEvenIdeal.nD Cert.OutEvenIdeal.τ Cert.OutEvenIdeal.sig) → Buf (Elt Ideal) ℓ) : Prop :=
  True

def Pre_OutEvenRefIdeal (m : (ℓ : Loc Cert.OutEvenRefIdeal.nD Cert.OutEvenRefIdeal.τ Cert.OutEvenRefIdeal.sig) → Buf (Elt Ideal) ℓ) : Prop :=
  True

def Pre_InOdd (m : (ℓ : Loc Cert.InOdd.nD Cert.InOdd.τ Cert.InOdd.sig) → Buf (Elt Bits) ℓ) : Prop :=
  True

def Pre_InOddIdeal (m : (ℓ : Loc Cert.InOddIdeal.nD Cert.InOddIdeal.τ Cert.InOddIdeal.sig) → Buf (Elt Ideal) ℓ) : Prop :=
  True

def Pre_InOddRefIdeal (m : (ℓ : Loc Cert.InOddRefIdeal.nD Cert.InOddRefIdeal.τ Cert.InOddRefIdeal.sig) → Buf (Elt Ideal) ℓ) : Prop :=
  True

def Pre_OutOdd (m : (ℓ : Loc Cert.OutOdd.nD Cert.OutOdd.τ Cert.OutOdd.sig) → Buf (Elt Bits) ℓ) : Prop :=
  True

def Pre_OutOddIdeal (m : (ℓ : Loc Cert.OutOddIdeal.nD Cert.OutOddIdeal.τ Cert.OutOddIdeal.sig) → Buf (Elt Ideal) ℓ) : Prop :=
  True

def Pre_OutOddRefIdeal (m : (ℓ : Loc Cert.OutOddRefIdeal.nD Cert.OutOddRefIdeal.τ Cert.OutOddRefIdeal.sig) → Buf (Elt Ideal) ℓ) : Prop :=
  True

def Pre_Adaln (m : (ℓ : Loc Cert.Adaln.nD Cert.Adaln.τ Cert.Adaln.sig) → Buf (Elt Bits) ℓ) : Prop :=
  True

def Pre_AdalnIdeal (m : (ℓ : Loc Cert.AdalnIdeal.nD Cert.AdalnIdeal.τ Cert.AdalnIdeal.sig) → Buf (Elt Ideal) ℓ) : Prop :=
  True

def Pre_AdalnRefIdeal (m : (ℓ : Loc Cert.AdalnRefIdeal.nD Cert.AdalnRefIdeal.τ Cert.AdalnRefIdeal.sig) → Buf (Elt Ideal) ℓ) : Prop :=
  True

def Pre_Params (m : (ℓ : Loc Cert.Params.nD Cert.Params.τ Cert.Params.sig) → Buf (Elt Bits) ℓ) : Prop :=
  True

def Pre_ParamsIdeal (m : (ℓ : Loc Cert.ParamsIdeal.nD Cert.ParamsIdeal.τ Cert.ParamsIdeal.sig) → Buf (Elt Ideal) ℓ) : Prop :=
  True

def Pre_ParamsRefIdeal (m : (ℓ : Loc Cert.ParamsRefIdeal.nD Cert.ParamsRefIdeal.τ Cert.ParamsRefIdeal.sig) → Buf (Elt Ideal) ℓ) : Prop :=
  True

def Pre_InEvenS (m : (ℓ : Loc Cert.InEvenS.nD Cert.InEvenS.τ Cert.InEvenS.sig) → Buf (Elt Bits) ℓ) : Prop :=
  True

def Pre_InEvenSIdeal (m : (ℓ : Loc Cert.InEvenSIdeal.nD Cert.InEvenSIdeal.τ Cert.InEvenSIdeal.sig) → Buf (Elt Ideal) ℓ) : Prop :=
  True

def Pre_InEvenSRefIdeal (m : (ℓ : Loc Cert.InEvenSRefIdeal.nD Cert.InEvenSRefIdeal.τ Cert.InEvenSRefIdeal.sig) → Buf (Elt Ideal) ℓ) : Prop :=
  True

def Pre_OutEvenS (m : (ℓ : Loc Cert.OutEvenS.nD Cert.OutEvenS.τ Cert.OutEvenS.sig) → Buf (Elt Bits) ℓ) : Prop :=
  True

def Pre_OutEvenSIdeal (m : (ℓ : Loc Cert.OutEvenSIdeal.nD Cert.OutEvenSIdeal.τ Cert.OutEvenSIdeal.sig) → Buf (Elt Ideal) ℓ) : Prop :=
  True

def Pre_OutEvenSRefIdeal (m : (ℓ : Loc Cert.OutEvenSRefIdeal.nD Cert.OutEvenSRefIdeal.τ Cert.OutEvenSRefIdeal.sig) → Buf (Elt Ideal) ℓ) : Prop :=
  True

def Pre_InOddS (m : (ℓ : Loc Cert.InOddS.nD Cert.InOddS.τ Cert.InOddS.sig) → Buf (Elt Bits) ℓ) : Prop :=
  True

def Pre_InOddSIdeal (m : (ℓ : Loc Cert.InOddSIdeal.nD Cert.InOddSIdeal.τ Cert.InOddSIdeal.sig) → Buf (Elt Ideal) ℓ) : Prop :=
  True

def Pre_InOddSRefIdeal (m : (ℓ : Loc Cert.InOddSRefIdeal.nD Cert.InOddSRefIdeal.τ Cert.InOddSRefIdeal.sig) → Buf (Elt Ideal) ℓ) : Prop :=
  True

def Pre_OutOddS (m : (ℓ : Loc Cert.OutOddS.nD Cert.OutOddS.τ Cert.OutOddS.sig) → Buf (Elt Bits) ℓ) : Prop :=
  True

def Pre_OutOddSIdeal (m : (ℓ : Loc Cert.OutOddSIdeal.nD Cert.OutOddSIdeal.τ Cert.OutOddSIdeal.sig) → Buf (Elt Ideal) ℓ) : Prop :=
  True

def Pre_OutOddSRefIdeal (m : (ℓ : Loc Cert.OutOddSRefIdeal.nD Cert.OutOddSRefIdeal.τ Cert.OutOddSRefIdeal.sig) → Buf (Elt Ideal) ℓ) : Prop :=
  True

def Pre_S5S (m : (ℓ : Loc Cert.S5S.nD Cert.S5S.τ Cert.S5S.sig) → Buf (Elt Bits) ℓ) : Prop :=
  True

def Pre_S5SIdeal (m : (ℓ : Loc Cert.S5SIdeal.nD Cert.S5SIdeal.τ Cert.S5SIdeal.sig) → Buf (Elt Ideal) ℓ) : Prop :=
  True

def Pre_S5SRefIdeal (m : (ℓ : Loc Cert.S5SRefIdeal.nD Cert.S5SRefIdeal.τ Cert.S5SRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_InEven [hInEven : Cert.InEven.Facts] : Prop :=
  ∀ (m : (ℓ : Loc Cert.InEven.nD Cert.InEven.τ Cert.InEven.sig) → Buf (Elt Bits) ℓ) (g : Dev Cert.InEven.nD → PrngReg), Pre_InEven m →
    θ_run (Cert.InEven.defs (F := Bits)) (onTc (τ := Cert.InEven.τ) (Cert.InEven.main (F := Bits))) ⟨m, fun _ => 0, g⟩ (fun r => (∀ c : Dev Cert.InEven.nD,
      r.2.mem ((c.tc : Thread Cert.InEven.nD Cert.InEven.τ).loc Cert.InEven.main_arg0) = m ((c.tc : Thread Cert.InEven.nD Cert.InEven.τ).loc Cert.InEven.main_arg0)
      ∧ r.2.mem ((c.tc : Thread Cert.InEven.nD Cert.InEven.τ).loc Cert.InEven.main_arg1) = m ((c.tc : Thread Cert.InEven.nD Cert.InEven.τ).loc Cert.InEven.main_arg1)
      ∧ r.2.mem ((c.tc : Thread Cert.InEven.nD Cert.InEven.τ).loc Cert.InEven.main_arg2) = m ((c.tc : Thread Cert.InEven.nD Cert.InEven.τ).loc Cert.InEven.main_arg2)
      ∧ r.2.mem ((c.tc : Thread Cert.InEven.nD Cert.InEven.τ).loc Cert.InEven.main_arg3) = m ((c.tc : Thread Cert.InEven.nD Cert.InEven.τ).loc Cert.InEven.main_arg3)
      ∧ r.2.mem ((c.tc : Thread Cert.InEven.nD Cert.InEven.τ).loc Cert.InEven.main_arg4) = m ((c.tc : Thread Cert.InEven.nD Cert.InEven.τ).loc Cert.InEven.main_arg4)
      ∧ r.2.mem ((c.tc : Thread Cert.InEven.nD Cert.InEven.τ).loc Cert.InEven.main_arg5) = m ((c.tc : Thread Cert.InEven.nD Cert.InEven.τ).loc Cert.InEven.main_arg5)
      ∧ r.2.mem ((c.tc : Thread Cert.InEven.nD Cert.InEven.τ).loc Cert.InEven.main_arg6) = m ((c.tc : Thread Cert.InEven.nD Cert.InEven.τ).loc Cert.InEven.main_arg6))
      ∧ r.2.sem = fun _ => 0)

def quiescent_InEvenIdeal [hInEvenIdeal : Cert.InEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
      ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
      ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3)
      ∧ r.2.mem ((c.tc : Thread Cert.InEvenIdeal.nD Cert.InEvenIdeal.τ).loc Cert.InEvenIdeal.main_arg4) = m ((c.tc : Thread Cert.InEvenIdeal.nD Cert.InEvenIdeal.τ).loc Cert.InEvenIdeal.main_arg4)
      ∧ r.2.mem ((c.tc : Thread Cert.InEvenIdeal.nD Cert.InEvenIdeal.τ).loc Cert.InEvenIdeal.main_arg5) = m ((c.tc : Thread Cert.InEvenIdeal.nD Cert.InEvenIdeal.τ).loc Cert.InEvenIdeal.main_arg5)
      ∧ r.2.mem ((c.tc : Thread Cert.InEvenIdeal.nD Cert.InEvenIdeal.τ).loc Cert.InEvenIdeal.main_arg6) = m ((c.tc : Thread Cert.InEvenIdeal.nD Cert.InEvenIdeal.τ).loc Cert.InEvenIdeal.main_arg6))
      ∧ r.2.sem = fun _ => 0)

def quiescent_InEvenRefIdeal [hInEvenRefIdeal : Cert.InEvenRefIdeal.Facts] : Prop :=
  ∀ (m : (ℓ : Loc Cert.InEvenRefIdeal.nD Cert.InEvenRefIdeal.τ Cert.InEvenRefIdeal.sig) → Buf (Elt Ideal) ℓ) (g : Dev Cert.InEvenRefIdeal.nD → PrngReg), Pre_InEvenRefIdeal m →
    θ_run (Cert.InEvenRefIdeal.defs (F := Ideal)) (onTc (τ := Cert.InEvenRefIdeal.τ) (Cert.InEvenRefIdeal.main (F := Ideal))) ⟨m, fun _ => 0, g⟩ (fun r => (∀ c : Dev Cert.InEvenRefIdeal.nD,
      r.2.mem ((c.tc : Thread Cert.InEvenRefIdeal.nD Cert.InEvenRefIdeal.τ).loc Cert.InEvenRefIdeal.main_arg0) = m ((c.tc : Thread Cert.InEvenRefIdeal.nD Cert.InEvenRefIdeal.τ).loc Cert.InEvenRefIdeal.main_arg0)
      ∧ r.2.mem ((c.tc : Thread Cert.InEvenRefIdeal.nD Cert.InEvenRefIdeal.τ).loc Cert.InEvenRefIdeal.main_arg1) = m ((c.tc : Thread Cert.InEvenRefIdeal.nD Cert.InEvenRefIdeal.τ).loc Cert.InEvenRefIdeal.main_arg1)
      ∧ r.2.mem ((c.tc : Thread Cert.InEvenRefIdeal.nD Cert.InEvenRefIdeal.τ).loc Cert.InEvenRefIdeal.main_arg2) = m ((c.tc : Thread Cert.InEvenRefIdeal.nD Cert.InEvenRefIdeal.τ).loc Cert.InEvenRefIdeal.main_arg2)
      ∧ r.2.mem ((c.tc : Thread Cert.InEvenRefIdeal.nD Cert.InEvenRefIdeal.τ).loc Cert.InEvenRefIdeal.main_arg3) = m ((c.tc : Thread Cert.InEvenRefIdeal.nD Cert.InEvenRefIdeal.τ).loc Cert.InEvenRefIdeal.main_arg3)
      ∧ r.2.mem ((c.tc : Thread Cert.InEvenRefIdeal.nD Cert.InEvenRefIdeal.τ).loc Cert.InEvenRefIdeal.main_arg4) = m ((c.tc : Thread Cert.InEvenRefIdeal.nD Cert.InEvenRefIdeal.τ).loc Cert.InEvenRefIdeal.main_arg4)
      ∧ r.2.mem ((c.tc : Thread Cert.InEvenRefIdeal.nD Cert.InEvenRefIdeal.τ).loc Cert.InEvenRefIdeal.main_arg5) = m ((c.tc : Thread Cert.InEvenRefIdeal.nD Cert.InEvenRefIdeal.τ).loc Cert.InEvenRefIdeal.main_arg5)
      ∧ r.2.mem ((c.tc : Thread Cert.InEvenRefIdeal.nD Cert.InEvenRefIdeal.τ).loc Cert.InEvenRefIdeal.main_arg6) = m ((c.tc : Thread Cert.InEvenRefIdeal.nD Cert.InEvenRefIdeal.τ).loc Cert.InEvenRefIdeal.main_arg6))
      ∧ r.2.sem = fun _ => 0)

def quiescent_OutEven [hOutEven : Cert.OutEven.Facts] : Prop :=
  ∀ (m : (ℓ : Loc Cert.OutEven.nD Cert.OutEven.τ Cert.OutEven.sig) → Buf (Elt Bits) ℓ) (g : Dev Cert.OutEven.nD → PrngReg), Pre_OutEven m →
    θ_run (Cert.OutEven.defs (F := Bits)) (onTc (τ := Cert.OutEven.τ) (Cert.OutEven.main (F := Bits))) ⟨m, fun _ => 0, g⟩ (fun r => (∀ c : Dev Cert.OutEven.nD,
      r.2.mem ((c.tc : Thread Cert.OutEven.nD Cert.OutEven.τ).loc Cert.OutEven.main_arg0) = m ((c.tc : Thread Cert.OutEven.nD Cert.OutEven.τ).loc Cert.OutEven.main_arg0)
      ∧ r.2.mem ((c.tc : Thread Cert.OutEven.nD Cert.OutEven.τ).loc Cert.OutEven.main_arg1) = m ((c.tc : Thread Cert.OutEven.nD Cert.OutEven.τ).loc Cert.OutEven.main_arg1)
      ∧ r.2.mem ((c.tc : Thread Cert.OutEven.nD Cert.OutEven.τ).loc Cert.OutEven.main_arg2) = m ((c.tc : Thread Cert.OutEven.nD Cert.OutEven.τ).loc Cert.OutEven.main_arg2)
      ∧ r.2.mem ((c.tc : Thread Cert.OutEven.nD Cert.OutEven.τ).loc Cert.OutEven.main_arg3) = m ((c.tc : Thread Cert.OutEven.nD Cert.OutEven.τ).loc Cert.OutEven.main_arg3)
      ∧ r.2.mem ((c.tc : Thread Cert.OutEven.nD Cert.OutEven.τ).loc Cert.OutEven.main_arg4) = m ((c.tc : Thread Cert.OutEven.nD Cert.OutEven.τ).loc Cert.OutEven.main_arg4)
      ∧ r.2.mem ((c.tc : Thread Cert.OutEven.nD Cert.OutEven.τ).loc Cert.OutEven.main_arg5) = m ((c.tc : Thread Cert.OutEven.nD Cert.OutEven.τ).loc Cert.OutEven.main_arg5)
      ∧ r.2.mem ((c.tc : Thread Cert.OutEven.nD Cert.OutEven.τ).loc Cert.OutEven.main_arg6) = m ((c.tc : Thread Cert.OutEven.nD Cert.OutEven.τ).loc Cert.OutEven.main_arg6)
      ∧ r.2.mem ((c.tc : Thread Cert.OutEven.nD Cert.OutEven.τ).loc Cert.OutEven.main_arg7) = m ((c.tc : Thread Cert.OutEven.nD Cert.OutEven.τ).loc Cert.OutEven.main_arg7))
      ∧ r.2.sem = fun _ => 0)

def quiescent_OutEvenIdeal [hOutEvenIdeal : Cert.OutEvenIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg), Pre_OutEvenIdeal m →
    θ_run (Cert.OutEvenIdeal.defs (F := Ideal)) (onTc (τ := Cert.OutEvenIdeal.τ) (Cert.OutEvenIdeal.main (F := Ideal))) ⟨m, fun _ => 0, g⟩ (fun r => (∀ c : Dev Cert.OutEvenIdeal.nD,
      r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
      ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
      ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
      ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
      ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4)
      ∧ r.2.mem ((c.tc : Thread Cert.OutEvenIdeal.nD Cert.OutEvenIdeal.τ).loc Cert.OutEvenIdeal.main_arg5) = m ((c.tc : Thread Cert.OutEvenIdeal.nD Cert.OutEvenIdeal.τ).loc Cert.OutEvenIdeal.main_arg5)
      ∧ r.2.mem ((c.tc : Thread Cert.OutEvenIdeal.nD Cert.OutEvenIdeal.τ).loc Cert.OutEvenIdeal.main_arg6) = m ((c.tc : Thread Cert.OutEvenIdeal.nD Cert.OutEvenIdeal.τ).loc Cert.OutEvenIdeal.main_arg6)
      ∧ r.2.mem ((c.tc : Thread Cert.OutEvenIdeal.nD Cert.OutEvenIdeal.τ).loc Cert.OutEvenIdeal.main_arg7) = m ((c.tc : Thread Cert.OutEvenIdeal.nD Cert.OutEvenIdeal.τ).loc Cert.OutEvenIdeal.main_arg7))
      ∧ r.2.sem = fun _ => 0)

def quiescent_OutEvenRefIdeal [hOutEvenRefIdeal : Cert.OutEvenRefIdeal.Facts] : Prop :=
  ∀ (m : (ℓ : Loc Cert.OutEvenRefIdeal.nD Cert.OutEvenRefIdeal.τ Cert.OutEvenRefIdeal.sig) → Buf (Elt Ideal) ℓ) (g : Dev Cert.OutEvenRefIdeal.nD → PrngReg), Pre_OutEvenRefIdeal m →
    θ_run (Cert.OutEvenRefIdeal.defs (F := Ideal)) (onTc (τ := Cert.OutEvenRefIdeal.τ) (Cert.OutEvenRefIdeal.main (F := Ideal))) ⟨m, fun _ => 0, g⟩ (fun r => (∀ c : Dev Cert.OutEvenRefIdeal.nD,
      r.2.mem ((c.tc : Thread Cert.OutEvenRefIdeal.nD Cert.OutEvenRefIdeal.τ).loc Cert.OutEvenRefIdeal.main_arg0) = m ((c.tc : Thread Cert.OutEvenRefIdeal.nD Cert.OutEvenRefIdeal.τ).loc Cert.OutEvenRefIdeal.main_arg0)
      ∧ r.2.mem ((c.tc : Thread Cert.OutEvenRefIdeal.nD Cert.OutEvenRefIdeal.τ).loc Cert.OutEvenRefIdeal.main_arg1) = m ((c.tc : Thread Cert.OutEvenRefIdeal.nD Cert.OutEvenRefIdeal.τ).loc Cert.OutEvenRefIdeal.main_arg1)
      ∧ r.2.mem ((c.tc : Thread Cert.OutEvenRefIdeal.nD Cert.OutEvenRefIdeal.τ).loc Cert.OutEvenRefIdeal.main_arg2) = m ((c.tc : Thread Cert.OutEvenRefIdeal.nD Cert.OutEvenRefIdeal.τ).loc Cert.OutEvenRefIdeal.main_arg2)
      ∧ r.2.mem ((c.tc : Thread Cert.OutEvenRefIdeal.nD Cert.OutEvenRefIdeal.τ).loc Cert.OutEvenRefIdeal.main_arg3) = m ((c.tc : Thread Cert.OutEvenRefIdeal.nD Cert.OutEvenRefIdeal.τ).loc Cert.OutEvenRefIdeal.main_arg3)
      ∧ r.2.mem ((c.tc : Thread Cert.OutEvenRefIdeal.nD Cert.OutEvenRefIdeal.τ).loc Cert.OutEvenRefIdeal.main_arg4) = m ((c.tc : Thread Cert.OutEvenRefIdeal.nD Cert.OutEvenRefIdeal.τ).loc Cert.OutEvenRefIdeal.main_arg4)
      ∧ r.2.mem ((c.tc : Thread Cert.OutEvenRefIdeal.nD Cert.OutEvenRefIdeal.τ).loc Cert.OutEvenRefIdeal.main_arg5) = m ((c.tc : Thread Cert.OutEvenRefIdeal.nD Cert.OutEvenRefIdeal.τ).loc Cert.OutEvenRefIdeal.main_arg5)
      ∧ r.2.mem ((c.tc : Thread Cert.OutEvenRefIdeal.nD Cert.OutEvenRefIdeal.τ).loc Cert.OutEvenRefIdeal.main_arg6) = m ((c.tc : Thread Cert.OutEvenRefIdeal.nD Cert.OutEvenRefIdeal.τ).loc Cert.OutEvenRefIdeal.main_arg6)
      ∧ r.2.mem ((c.tc : Thread Cert.OutEvenRefIdeal.nD Cert.OutEvenRefIdeal.τ).loc Cert.OutEvenRefIdeal.main_arg7) = m ((c.tc : Thread Cert.OutEvenRefIdeal.nD Cert.OutEvenRefIdeal.τ).loc Cert.OutEvenRefIdeal.main_arg7))
      ∧ r.2.sem = fun _ => 0)

def quiescent_InOdd [hInOdd : Cert.InOdd.Facts] : Prop :=
  ∀ (m : (ℓ : Loc Cert.InOdd.nD Cert.InOdd.τ Cert.InOdd.sig) → Buf (Elt Bits) ℓ) (g : Dev Cert.InOdd.nD → PrngReg), Pre_InOdd m →
    θ_run (Cert.InOdd.defs (F := Bits)) (onTc (τ := Cert.InOdd.τ) (Cert.InOdd.main (F := Bits))) ⟨m, fun _ => 0, g⟩ (fun r => (∀ c : Dev Cert.InOdd.nD,
      r.2.mem ((c.tc : Thread Cert.InOdd.nD Cert.InOdd.τ).loc Cert.InOdd.main_arg0) = m ((c.tc : Thread Cert.InOdd.nD Cert.InOdd.τ).loc Cert.InOdd.main_arg0)
      ∧ r.2.mem ((c.tc : Thread Cert.InOdd.nD Cert.InOdd.τ).loc Cert.InOdd.main_arg1) = m ((c.tc : Thread Cert.InOdd.nD Cert.InOdd.τ).loc Cert.InOdd.main_arg1)
      ∧ r.2.mem ((c.tc : Thread Cert.InOdd.nD Cert.InOdd.τ).loc Cert.InOdd.main_arg2) = m ((c.tc : Thread Cert.InOdd.nD Cert.InOdd.τ).loc Cert.InOdd.main_arg2)
      ∧ r.2.mem ((c.tc : Thread Cert.InOdd.nD Cert.InOdd.τ).loc Cert.InOdd.main_arg3) = m ((c.tc : Thread Cert.InOdd.nD Cert.InOdd.τ).loc Cert.InOdd.main_arg3))
      ∧ r.2.sem = fun _ => 0)

def quiescent_InOddIdeal [hInOddIdeal : Cert.InOddIdeal.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
      ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2)
      ∧ r.2.mem ((c.tc : Thread Cert.InOddIdeal.nD Cert.InOddIdeal.τ).loc Cert.InOddIdeal.main_arg3) = m ((c.tc : Thread Cert.InOddIdeal.nD Cert.InOddIdeal.τ).loc Cert.InOddIdeal.main_arg3))
      ∧ r.2.sem = fun _ => 0)

def quiescent_InOddRefIdeal [hInOddRefIdeal : Cert.InOddRefIdeal.Facts] : Prop :=
  ∀ (m : (ℓ : Loc Cert.InOddRefIdeal.nD Cert.InOddRefIdeal.τ Cert.InOddRefIdeal.sig) → Buf (Elt Ideal) ℓ) (g : Dev Cert.InOddRefIdeal.nD → PrngReg), Pre_InOddRefIdeal m →
    θ_run (Cert.InOddRefIdeal.defs (F := Ideal)) (onTc (τ := Cert.InOddRefIdeal.τ) (Cert.InOddRefIdeal.main (F := Ideal))) ⟨m, fun _ => 0, g⟩ (fun r => (∀ c : Dev Cert.InOddRefIdeal.nD,
      r.2.mem ((c.tc : Thread Cert.InOddRefIdeal.nD Cert.InOddRefIdeal.τ).loc Cert.InOddRefIdeal.main_arg0) = m ((c.tc : Thread Cert.InOddRefIdeal.nD Cert.InOddRefIdeal.τ).loc Cert.InOddRefIdeal.main_arg0)
      ∧ r.2.mem ((c.tc : Thread Cert.InOddRefIdeal.nD Cert.InOddRefIdeal.τ).loc Cert.InOddRefIdeal.main_arg1) = m ((c.tc : Thread Cert.InOddRefIdeal.nD Cert.InOddRefIdeal.τ).loc Cert.InOddRefIdeal.main_arg1)
      ∧ r.2.mem ((c.tc : Thread Cert.InOddRefIdeal.nD Cert.InOddRefIdeal.τ).loc Cert.InOddRefIdeal.main_arg2) = m ((c.tc : Thread Cert.InOddRefIdeal.nD Cert.InOddRefIdeal.τ).loc Cert.InOddRefIdeal.main_arg2)
      ∧ r.2.mem ((c.tc : Thread Cert.InOddRefIdeal.nD Cert.InOddRefIdeal.τ).loc Cert.InOddRefIdeal.main_arg3) = m ((c.tc : Thread Cert.InOddRefIdeal.nD Cert.InOddRefIdeal.τ).loc Cert.InOddRefIdeal.main_arg3))
      ∧ r.2.sem = fun _ => 0)

def quiescent_OutOdd [hOutOdd : Cert.OutOdd.Facts] : Prop :=
  ∀ (m : (ℓ : Loc Cert.OutOdd.nD Cert.OutOdd.τ Cert.OutOdd.sig) → Buf (Elt Bits) ℓ) (g : Dev Cert.OutOdd.nD → PrngReg), Pre_OutOdd m →
    θ_run (Cert.OutOdd.defs (F := Bits)) (onTc (τ := Cert.OutOdd.τ) (Cert.OutOdd.main (F := Bits))) ⟨m, fun _ => 0, g⟩ (fun r => (∀ c : Dev Cert.OutOdd.nD,
      r.2.mem ((c.tc : Thread Cert.OutOdd.nD Cert.OutOdd.τ).loc Cert.OutOdd.main_arg0) = m ((c.tc : Thread Cert.OutOdd.nD Cert.OutOdd.τ).loc Cert.OutOdd.main_arg0)
      ∧ r.2.mem ((c.tc : Thread Cert.OutOdd.nD Cert.OutOdd.τ).loc Cert.OutOdd.main_arg1) = m ((c.tc : Thread Cert.OutOdd.nD Cert.OutOdd.τ).loc Cert.OutOdd.main_arg1)
      ∧ r.2.mem ((c.tc : Thread Cert.OutOdd.nD Cert.OutOdd.τ).loc Cert.OutOdd.main_arg2) = m ((c.tc : Thread Cert.OutOdd.nD Cert.OutOdd.τ).loc Cert.OutOdd.main_arg2)
      ∧ r.2.mem ((c.tc : Thread Cert.OutOdd.nD Cert.OutOdd.τ).loc Cert.OutOdd.main_arg3) = m ((c.tc : Thread Cert.OutOdd.nD Cert.OutOdd.τ).loc Cert.OutOdd.main_arg3)
      ∧ r.2.mem ((c.tc : Thread Cert.OutOdd.nD Cert.OutOdd.τ).loc Cert.OutOdd.main_arg4) = m ((c.tc : Thread Cert.OutOdd.nD Cert.OutOdd.τ).loc Cert.OutOdd.main_arg4)
      ∧ r.2.mem ((c.tc : Thread Cert.OutOdd.nD Cert.OutOdd.τ).loc Cert.OutOdd.main_arg5) = m ((c.tc : Thread Cert.OutOdd.nD Cert.OutOdd.τ).loc Cert.OutOdd.main_arg5))
      ∧ r.2.sem = fun _ => 0)

def quiescent_OutOddIdeal [hOutOddIdeal : Cert.OutOddIdeal.Facts] : Prop :=
  ∀ (m : (ℓ : Loc Cert.OutOddIdeal.nD Cert.OutOddIdeal.τ Cert.OutOddIdeal.sig) → Buf (Elt Ideal) ℓ) (g : Dev Cert.OutOddIdeal.nD → PrngReg), Pre_OutOddIdeal m →
    θ_run (Cert.OutOddIdeal.defs (F := Ideal)) (onTc (τ := Cert.OutOddIdeal.τ) (Cert.OutOddIdeal.main (F := Ideal))) ⟨m, fun _ => 0, g⟩ (fun r => (∀ c : Dev Cert.OutOddIdeal.nD,
      r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
      ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
      ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
      ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3)
      ∧ r.2.mem ((c.tc : Thread Cert.OutOddIdeal.nD Cert.OutOddIdeal.τ).loc Cert.OutOddIdeal.main_arg4) = m ((c.tc : Thread Cert.OutOddIdeal.nD Cert.OutOddIdeal.τ).loc Cert.OutOddIdeal.main_arg4)
      ∧ r.2.mem ((c.tc : Thread Cert.OutOddIdeal.nD Cert.OutOddIdeal.τ).loc Cert.OutOddIdeal.main_arg5) = m ((c.tc : Thread Cert.OutOddIdeal.nD Cert.OutOddIdeal.τ).loc Cert.OutOddIdeal.main_arg5))
      ∧ r.2.sem = fun _ => 0)

def quiescent_OutOddRefIdeal [hOutOddRefIdeal : Cert.OutOddRefIdeal.Facts] : Prop :=
  ∀ (m : (ℓ : Loc Cert.OutOddRefIdeal.nD Cert.OutOddRefIdeal.τ Cert.OutOddRefIdeal.sig) → Buf (Elt Ideal) ℓ) (g : Dev Cert.OutOddRefIdeal.nD → PrngReg), Pre_OutOddRefIdeal m →
    θ_run (Cert.OutOddRefIdeal.defs (F := Ideal)) (onTc (τ := Cert.OutOddRefIdeal.τ) (Cert.OutOddRefIdeal.main (F := Ideal))) ⟨m, fun _ => 0, g⟩ (fun r => (∀ c : Dev Cert.OutOddRefIdeal.nD,
      r.2.mem ((c.tc : Thread Cert.OutOddRefIdeal.nD Cert.OutOddRefIdeal.τ).loc Cert.OutOddRefIdeal.main_arg0) = m ((c.tc : Thread Cert.OutOddRefIdeal.nD Cert.OutOddRefIdeal.τ).loc Cert.OutOddRefIdeal.main_arg0)
      ∧ r.2.mem ((c.tc : Thread Cert.OutOddRefIdeal.nD Cert.OutOddRefIdeal.τ).loc Cert.OutOddRefIdeal.main_arg1) = m ((c.tc : Thread Cert.OutOddRefIdeal.nD Cert.OutOddRefIdeal.τ).loc Cert.OutOddRefIdeal.main_arg1)
      ∧ r.2.mem ((c.tc : Thread Cert.OutOddRefIdeal.nD Cert.OutOddRefIdeal.τ).loc Cert.OutOddRefIdeal.main_arg2) = m ((c.tc : Thread Cert.OutOddRefIdeal.nD Cert.OutOddRefIdeal.τ).loc Cert.OutOddRefIdeal.main_arg2)
      ∧ r.2.mem ((c.tc : Thread Cert.OutOddRefIdeal.nD Cert.OutOddRefIdeal.τ).loc Cert.OutOddRefIdeal.main_arg3) = m ((c.tc : Thread Cert.OutOddRefIdeal.nD Cert.OutOddRefIdeal.τ).loc Cert.OutOddRefIdeal.main_arg3)
      ∧ r.2.mem ((c.tc : Thread Cert.OutOddRefIdeal.nD Cert.OutOddRefIdeal.τ).loc Cert.OutOddRefIdeal.main_arg4) = m ((c.tc : Thread Cert.OutOddRefIdeal.nD Cert.OutOddRefIdeal.τ).loc Cert.OutOddRefIdeal.main_arg4)
      ∧ r.2.mem ((c.tc : Thread Cert.OutOddRefIdeal.nD Cert.OutOddRefIdeal.τ).loc Cert.OutOddRefIdeal.main_arg5) = m ((c.tc : Thread Cert.OutOddRefIdeal.nD Cert.OutOddRefIdeal.τ).loc Cert.OutOddRefIdeal.main_arg5))
      ∧ r.2.sem = fun _ => 0)

def quiescent_Adaln [hAdaln : Cert.Adaln.Facts] : Prop :=
  ∀ (m : (ℓ : Loc Cert.Adaln.nD Cert.Adaln.τ Cert.Adaln.sig) → Buf (Elt Bits) ℓ) (g : Dev Cert.Adaln.nD → PrngReg), Pre_Adaln m →
    θ_run (Cert.Adaln.defs (F := Bits)) (onTc (τ := Cert.Adaln.τ) (Cert.Adaln.main (F := Bits))) ⟨m, fun _ => 0, g⟩ (fun r => (∀ c : Dev Cert.Adaln.nD,
      r.2.mem ((c.tc : Thread Cert.Adaln.nD Cert.Adaln.τ).loc Cert.Adaln.main_arg0) = m ((c.tc : Thread Cert.Adaln.nD Cert.Adaln.τ).loc Cert.Adaln.main_arg0)
      ∧ r.2.mem ((c.tc : Thread Cert.Adaln.nD Cert.Adaln.τ).loc Cert.Adaln.main_arg1) = m ((c.tc : Thread Cert.Adaln.nD Cert.Adaln.τ).loc Cert.Adaln.main_arg1)
      ∧ r.2.mem ((c.tc : Thread Cert.Adaln.nD Cert.Adaln.τ).loc Cert.Adaln.main_arg2) = m ((c.tc : Thread Cert.Adaln.nD Cert.Adaln.τ).loc Cert.Adaln.main_arg2))
      ∧ r.2.sem = fun _ => 0)

def quiescent_AdalnIdeal [hAdalnIdeal : Cert.AdalnIdeal.Facts] : Prop :=
  ∀ (m : (ℓ : Loc Cert.AdalnIdeal.nD Cert.AdalnIdeal.τ Cert.AdalnIdeal.sig) → Buf (Elt Ideal) ℓ) (g : Dev Cert.AdalnIdeal.nD → PrngReg), Pre_AdalnIdeal m →
    θ_run (Cert.AdalnIdeal.defs (F := Ideal)) (onTc (τ := Cert.AdalnIdeal.τ) (Cert.AdalnIdeal.main (F := Ideal))) ⟨m, fun _ => 0, g⟩ (fun r => (∀ c : Dev Cert.AdalnIdeal.nD,
      r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
      ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
      ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ r.2.sem = fun _ => 0)

def quiescent_AdalnRefIdeal [hAdalnRefIdeal : Cert.AdalnRefIdeal.Facts] : Prop :=
  ∀ (m : (ℓ : Loc Cert.AdalnRefIdeal.nD Cert.AdalnRefIdeal.τ Cert.AdalnRefIdeal.sig) → Buf (Elt Ideal) ℓ) (g : Dev Cert.AdalnRefIdeal.nD → PrngReg), Pre_AdalnRefIdeal m →
    θ_run (Cert.AdalnRefIdeal.defs (F := Ideal)) (onTc (τ := Cert.AdalnRefIdeal.τ) (Cert.AdalnRefIdeal.main (F := Ideal))) ⟨m, fun _ => 0, g⟩ (fun r => (∀ c : Dev Cert.AdalnRefIdeal.nD,
      r.2.mem ((c.tc : Thread Cert.AdalnRefIdeal.nD Cert.AdalnRefIdeal.τ).loc Cert.AdalnRefIdeal.main_arg0) = m ((c.tc : Thread Cert.AdalnRefIdeal.nD Cert.AdalnRefIdeal.τ).loc Cert.AdalnRefIdeal.main_arg0)
      ∧ r.2.mem ((c.tc : Thread Cert.AdalnRefIdeal.nD Cert.AdalnRefIdeal.τ).loc Cert.AdalnRefIdeal.main_arg1) = m ((c.tc : Thread Cert.AdalnRefIdeal.nD Cert.AdalnRefIdeal.τ).loc Cert.AdalnRefIdeal.main_arg1)
      ∧ r.2.mem ((c.tc : Thread Cert.AdalnRefIdeal.nD Cert.AdalnRefIdeal.τ).loc Cert.AdalnRefIdeal.main_arg2) = m ((c.tc : Thread Cert.AdalnRefIdeal.nD Cert.AdalnRefIdeal.τ).loc Cert.AdalnRefIdeal.main_arg2))
      ∧ r.2.sem = fun _ => 0)

def quiescent_Params [hParams : Cert.Params.Facts] : Prop :=
  ∀ (m : (ℓ : Loc Cert.Params.nD Cert.Params.τ Cert.Params.sig) → Buf (Elt Bits) ℓ) (g : Dev Cert.Params.nD → PrngReg), Pre_Params m →
    θ_run (Cert.Params.defs (F := Bits)) (onTc (τ := Cert.Params.τ) (Cert.Params.main (F := Bits))) ⟨m, fun _ => 0, g⟩ (fun r => (∀ c : Dev Cert.Params.nD,
      r.2.mem ((c.tc : Thread Cert.Params.nD Cert.Params.τ).loc Cert.Params.main_arg0) = m ((c.tc : Thread Cert.Params.nD Cert.Params.τ).loc Cert.Params.main_arg0)
      ∧ r.2.mem ((c.tc : Thread Cert.Params.nD Cert.Params.τ).loc Cert.Params.main_arg1) = m ((c.tc : Thread Cert.Params.nD Cert.Params.τ).loc Cert.Params.main_arg1)
      ∧ r.2.mem ((c.tc : Thread Cert.Params.nD Cert.Params.τ).loc Cert.Params.main_arg2) = m ((c.tc : Thread Cert.Params.nD Cert.Params.τ).loc Cert.Params.main_arg2)
      ∧ r.2.mem ((c.tc : Thread Cert.Params.nD Cert.Params.τ).loc Cert.Params.main_arg3) = m ((c.tc : Thread Cert.Params.nD Cert.Params.τ).loc Cert.Params.main_arg3)
      ∧ r.2.mem ((c.tc : Thread Cert.Params.nD Cert.Params.τ).loc Cert.Params.main_arg4) = m ((c.tc : Thread Cert.Params.nD Cert.Params.τ).loc Cert.Params.main_arg4))
      ∧ r.2.sem = fun _ => 0)

def quiescent_ParamsIdeal [hParamsIdeal : Cert.ParamsIdeal.Facts] : Prop :=
  ∀ (m : (ℓ : Loc Cert.ParamsIdeal.nD Cert.ParamsIdeal.τ Cert.ParamsIdeal.sig) → Buf (Elt Ideal) ℓ) (g : Dev Cert.ParamsIdeal.nD → PrngReg), Pre_ParamsIdeal m →
    θ_run (Cert.ParamsIdeal.defs (F := Ideal)) (onTc (τ := Cert.ParamsIdeal.τ) (Cert.ParamsIdeal.main (F := Ideal))) ⟨m, fun _ => 0, g⟩ (fun r => (∀ c : Dev Cert.ParamsIdeal.nD,
      r.2.mem ((c.tc : Thread Cert.ParamsIdeal.nD Cert.ParamsIdeal.τ).loc Cert.ParamsIdeal.main_arg0) = m ((c.tc : Thread Cert.ParamsIdeal.nD Cert.ParamsIdeal.τ).loc Cert.ParamsIdeal.main_arg0)
      ∧ r.2.mem ((c.tc : Thread Cert.ParamsIdeal.nD Cert.ParamsIdeal.τ).loc Cert.ParamsIdeal.main_arg1) = m ((c.tc : Thread Cert.ParamsIdeal.nD Cert.ParamsIdeal.τ).loc Cert.ParamsIdeal.main_arg1)
      ∧ r.2.mem ((c.tc : Thread Cert.ParamsIdeal.nD Cert.ParamsIdeal.τ).loc Cert.ParamsIdeal.main_arg2) = m ((c.tc : Thread Cert.ParamsIdeal.nD Cert.ParamsIdeal.τ).loc Cert.ParamsIdeal.main_arg2)
      ∧ r.2.mem ((c.tc : Thread Cert.ParamsIdeal.nD Cert.ParamsIdeal.τ).loc Cert.ParamsIdeal.main_arg3) = m ((c.tc : Thread Cert.ParamsIdeal.nD Cert.ParamsIdeal.τ).loc Cert.ParamsIdeal.main_arg3)
      ∧ r.2.mem ((c.tc : Thread Cert.ParamsIdeal.nD Cert.ParamsIdeal.τ).loc Cert.ParamsIdeal.main_arg4) = m ((c.tc : Thread Cert.ParamsIdeal.nD Cert.ParamsIdeal.τ).loc Cert.ParamsIdeal.main_arg4))
      ∧ r.2.sem = fun _ => 0)

def quiescent_ParamsRefIdeal [hParamsRefIdeal : Cert.ParamsRefIdeal.Facts] : Prop :=
  ∀ (m : (ℓ : Loc Cert.ParamsRefIdeal.nD Cert.ParamsRefIdeal.τ Cert.ParamsRefIdeal.sig) → Buf (Elt Ideal) ℓ) (g : Dev Cert.ParamsRefIdeal.nD → PrngReg), Pre_ParamsRefIdeal m →
    θ_run (Cert.ParamsRefIdeal.defs (F := Ideal)) (onTc (τ := Cert.ParamsRefIdeal.τ) (Cert.ParamsRefIdeal.main (F := Ideal))) ⟨m, fun _ => 0, g⟩ (fun r => (∀ c : Dev Cert.ParamsRefIdeal.nD,
      r.2.mem ((c.tc : Thread Cert.ParamsRefIdeal.nD Cert.ParamsRefIdeal.τ).loc Cert.ParamsRefIdeal.main_arg0) = m ((c.tc : Thread Cert.ParamsRefIdeal.nD Cert.ParamsRefIdeal.τ).loc Cert.ParamsRefIdeal.main_arg0)
      ∧ r.2.mem ((c.tc : Thread Cert.ParamsRefIdeal.nD Cert.ParamsRefIdeal.τ).loc Cert.ParamsRefIdeal.main_arg1) = m ((c.tc : Thread Cert.ParamsRefIdeal.nD Cert.ParamsRefIdeal.τ).loc Cert.ParamsRefIdeal.main_arg1)
      ∧ r.2.mem ((c.tc : Thread Cert.ParamsRefIdeal.nD Cert.ParamsRefIdeal.τ).loc Cert.ParamsRefIdeal.main_arg2) = m ((c.tc : Thread Cert.ParamsRefIdeal.nD Cert.ParamsRefIdeal.τ).loc Cert.ParamsRefIdeal.main_arg2)
      ∧ r.2.mem ((c.tc : Thread Cert.ParamsRefIdeal.nD Cert.ParamsRefIdeal.τ).loc Cert.ParamsRefIdeal.main_arg3) = m ((c.tc : Thread Cert.ParamsRefIdeal.nD Cert.ParamsRefIdeal.τ).loc Cert.ParamsRefIdeal.main_arg3)
      ∧ r.2.mem ((c.tc : Thread Cert.ParamsRefIdeal.nD Cert.ParamsRefIdeal.τ).loc Cert.ParamsRefIdeal.main_arg4) = m ((c.tc : Thread Cert.ParamsRefIdeal.nD Cert.ParamsRefIdeal.τ).loc Cert.ParamsRefIdeal.main_arg4))
      ∧ r.2.sem = fun _ => 0)

def quiescent_InEvenS [hInEvenS : Cert.InEvenS.Facts] : Prop :=
  ∀ (m : (ℓ : Loc Cert.InEvenS.nD Cert.InEvenS.τ Cert.InEvenS.sig) → Buf (Elt Bits) ℓ) (g : Dev Cert.InEvenS.nD → PrngReg), Pre_InEvenS m →
    θ_run (Cert.InEvenS.defs (F := Bits)) (onTc (τ := Cert.InEvenS.τ) (Cert.InEvenS.main (F := Bits))) ⟨m, fun _ => 0, g⟩ (fun r => (∀ c : Dev Cert.InEvenS.nD,
      r.2.mem ((c.tc : Thread Cert.InEvenS.nD Cert.InEvenS.τ).loc Cert.InEvenS.main_arg0) = m ((c.tc : Thread Cert.InEvenS.nD Cert.InEvenS.τ).loc Cert.InEvenS.main_arg0)
      ∧ r.2.mem ((c.tc : Thread Cert.InEvenS.nD Cert.InEvenS.τ).loc Cert.InEvenS.main_arg1) = m ((c.tc : Thread Cert.InEvenS.nD Cert.InEvenS.τ).loc Cert.InEvenS.main_arg1)
      ∧ r.2.mem ((c.tc : Thread Cert.InEvenS.nD Cert.InEvenS.τ).loc Cert.InEvenS.main_arg2) = m ((c.tc : Thread Cert.InEvenS.nD Cert.InEvenS.τ).loc Cert.InEvenS.main_arg2)
      ∧ r.2.mem ((c.tc : Thread Cert.InEvenS.nD Cert.InEvenS.τ).loc Cert.InEvenS.main_arg3) = m ((c.tc : Thread Cert.InEvenS.nD Cert.InEvenS.τ).loc Cert.InEvenS.main_arg3)
      ∧ r.2.mem ((c.tc : Thread Cert.InEvenS.nD Cert.InEvenS.τ).loc Cert.InEvenS.main_arg4) = m ((c.tc : Thread Cert.InEvenS.nD Cert.InEvenS.τ).loc Cert.InEvenS.main_arg4)
      ∧ r.2.mem ((c.tc : Thread Cert.InEvenS.nD Cert.InEvenS.τ).loc Cert.InEvenS.main_arg5) = m ((c.tc : Thread Cert.InEvenS.nD Cert.InEvenS.τ).loc Cert.InEvenS.main_arg5)
      ∧ r.2.mem ((c.tc : Thread Cert.InEvenS.nD Cert.InEvenS.τ).loc Cert.InEvenS.main_arg6) = m ((c.tc : Thread Cert.InEvenS.nD Cert.InEvenS.τ).loc Cert.InEvenS.main_arg6))
      ∧ r.2.sem = fun _ => 0)

def quiescent_InEvenSIdeal [hInEvenSIdeal : Cert.InEvenSIdeal.Facts] : Prop :=
  ∀ (m : (ℓ : Loc Cert.InEvenSIdeal.nD Cert.InEvenSIdeal.τ Cert.InEvenSIdeal.sig) → Buf (Elt Ideal) ℓ) (g : Dev Cert.InEvenSIdeal.nD → PrngReg), Pre_InEvenSIdeal m →
    θ_run (Cert.InEvenSIdeal.defs (F := Ideal)) (onTc (τ := Cert.InEvenSIdeal.τ) (Cert.InEvenSIdeal.main (F := Ideal))) ⟨m, fun _ => 0, g⟩ (fun r => (∀ c : Dev Cert.InEvenSIdeal.nD,
      r.2.mem ((c.tc : Thread Cert.InEvenSIdeal.nD Cert.InEvenSIdeal.τ).loc Cert.InEvenSIdeal.main_arg0) = m ((c.tc : Thread Cert.InEvenSIdeal.nD Cert.InEvenSIdeal.τ).loc Cert.InEvenSIdeal.main_arg0)
      ∧ r.2.mem ((c.tc : Thread Cert.InEvenSIdeal.nD Cert.InEvenSIdeal.τ).loc Cert.InEvenSIdeal.main_arg1) = m ((c.tc : Thread Cert.InEvenSIdeal.nD Cert.InEvenSIdeal.τ).loc Cert.InEvenSIdeal.main_arg1)
      ∧ r.2.mem ((c.tc : Thread Cert.InEvenSIdeal.nD Cert.InEvenSIdeal.τ).loc Cert.InEvenSIdeal.main_arg2) = m ((c.tc : Thread Cert.InEvenSIdeal.nD Cert.InEvenSIdeal.τ).loc Cert.InEvenSIdeal.main_arg2)
      ∧ r.2.mem ((c.tc : Thread Cert.InEvenSIdeal.nD Cert.InEvenSIdeal.τ).loc Cert.InEvenSIdeal.main_arg3) = m ((c.tc : Thread Cert.InEvenSIdeal.nD Cert.InEvenSIdeal.τ).loc Cert.InEvenSIdeal.main_arg3)
      ∧ r.2.mem ((c.tc : Thread Cert.InEvenSIdeal.nD Cert.InEvenSIdeal.τ).loc Cert.InEvenSIdeal.main_arg4) = m ((c.tc : Thread Cert.InEvenSIdeal.nD Cert.InEvenSIdeal.τ).loc Cert.InEvenSIdeal.main_arg4)
      ∧ r.2.mem ((c.tc : Thread Cert.InEvenSIdeal.nD Cert.InEvenSIdeal.τ).loc Cert.InEvenSIdeal.main_arg5) = m ((c.tc : Thread Cert.InEvenSIdeal.nD Cert.InEvenSIdeal.τ).loc Cert.InEvenSIdeal.main_arg5)
      ∧ r.2.mem ((c.tc : Thread Cert.InEvenSIdeal.nD Cert.InEvenSIdeal.τ).loc Cert.InEvenSIdeal.main_arg6) = m ((c.tc : Thread Cert.InEvenSIdeal.nD Cert.InEvenSIdeal.τ).loc Cert.InEvenSIdeal.main_arg6))
      ∧ r.2.sem = fun _ => 0)

def quiescent_InEvenSRefIdeal [hInEvenSRefIdeal : Cert.InEvenSRefIdeal.Facts] : Prop :=
  ∀ (m : (ℓ : Loc Cert.InEvenSRefIdeal.nD Cert.InEvenSRefIdeal.τ Cert.InEvenSRefIdeal.sig) → Buf (Elt Ideal) ℓ) (g : Dev Cert.InEvenSRefIdeal.nD → PrngReg), Pre_InEvenSRefIdeal m →
    θ_run (Cert.InEvenSRefIdeal.defs (F := Ideal)) (onTc (τ := Cert.InEvenSRefIdeal.τ) (Cert.InEvenSRefIdeal.main (F := Ideal))) ⟨m, fun _ => 0, g⟩ (fun r => (∀ c : Dev Cert.InEvenSRefIdeal.nD,
      r.2.mem ((c.tc : Thread Cert.InEvenSRefIdeal.nD Cert.InEvenSRefIdeal.τ).loc Cert.InEvenSRefIdeal.main_arg0) = m ((c.tc : Thread Cert.InEvenSRefIdeal.nD Cert.InEvenSRefIdeal.τ).loc Cert.InEvenSRefIdeal.main_arg0)
      ∧ r.2.mem ((c.tc : Thread Cert.InEvenSRefIdeal.nD Cert.InEvenSRefIdeal.τ).loc Cert.InEvenSRefIdeal.main_arg1) = m ((c.tc : Thread Cert.InEvenSRefIdeal.nD Cert.InEvenSRefIdeal.τ).loc Cert.InEvenSRefIdeal.main_arg1)
      ∧ r.2.mem ((c.tc : Thread Cert.InEvenSRefIdeal.nD Cert.InEvenSRefIdeal.τ).loc Cert.InEvenSRefIdeal.main_arg2) = m ((c.tc : Thread Cert.InEvenSRefIdeal.nD Cert.InEvenSRefIdeal.τ).loc Cert.InEvenSRefIdeal.main_arg2)
      ∧ r.2.mem ((c.tc : Thread Cert.InEvenSRefIdeal.nD Cert.InEvenSRefIdeal.τ).loc Cert.InEvenSRefIdeal.main_arg3) = m ((c.tc : Thread Cert.InEvenSRefIdeal.nD Cert.InEvenSRefIdeal.τ).loc Cert.InEvenSRefIdeal.main_arg3)
      ∧ r.2.mem ((c.tc : Thread Cert.InEvenSRefIdeal.nD Cert.InEvenSRefIdeal.τ).loc Cert.InEvenSRefIdeal.main_arg4) = m ((c.tc : Thread Cert.InEvenSRefIdeal.nD Cert.InEvenSRefIdeal.τ).loc Cert.InEvenSRefIdeal.main_arg4)
      ∧ r.2.mem ((c.tc : Thread Cert.InEvenSRefIdeal.nD Cert.InEvenSRefIdeal.τ).loc Cert.InEvenSRefIdeal.main_arg5) = m ((c.tc : Thread Cert.InEvenSRefIdeal.nD Cert.InEvenSRefIdeal.τ).loc Cert.InEvenSRefIdeal.main_arg5)
      ∧ r.2.mem ((c.tc : Thread Cert.InEvenSRefIdeal.nD Cert.InEvenSRefIdeal.τ).loc Cert.InEvenSRefIdeal.main_arg6) = m ((c.tc : Thread Cert.InEvenSRefIdeal.nD Cert.InEvenSRefIdeal.τ).loc Cert.InEvenSRefIdeal.main_arg6))
      ∧ r.2.sem = fun _ => 0)

def quiescent_OutEvenS [hOutEvenS : Cert.OutEvenS.Facts] : Prop :=
  ∀ (m : (ℓ : Loc Cert.OutEvenS.nD Cert.OutEvenS.τ Cert.OutEvenS.sig) → Buf (Elt Bits) ℓ) (g : Dev Cert.OutEvenS.nD → PrngReg), Pre_OutEvenS m →
    θ_run (Cert.OutEvenS.defs (F := Bits)) (onTc (τ := Cert.OutEvenS.τ) (Cert.OutEvenS.main (F := Bits))) ⟨m, fun _ => 0, g⟩ (fun r => (∀ c : Dev Cert.OutEvenS.nD,
      r.2.mem ((c.tc : Thread Cert.OutEvenS.nD Cert.OutEvenS.τ).loc Cert.OutEvenS.main_arg0) = m ((c.tc : Thread Cert.OutEvenS.nD Cert.OutEvenS.τ).loc Cert.OutEvenS.main_arg0)
      ∧ r.2.mem ((c.tc : Thread Cert.OutEvenS.nD Cert.OutEvenS.τ).loc Cert.OutEvenS.main_arg1) = m ((c.tc : Thread Cert.OutEvenS.nD Cert.OutEvenS.τ).loc Cert.OutEvenS.main_arg1)
      ∧ r.2.mem ((c.tc : Thread Cert.OutEvenS.nD Cert.OutEvenS.τ).loc Cert.OutEvenS.main_arg2) = m ((c.tc : Thread Cert.OutEvenS.nD Cert.OutEvenS.τ).loc Cert.OutEvenS.main_arg2)
      ∧ r.2.mem ((c.tc : Thread Cert.OutEvenS.nD Cert.OutEvenS.τ).loc Cert.OutEvenS.main_arg3) = m ((c.tc : Thread Cert.OutEvenS.nD Cert.OutEvenS.τ).loc Cert.OutEvenS.main_arg3)
      ∧ r.2.mem ((c.tc : Thread Cert.OutEvenS.nD Cert.OutEvenS.τ).loc Cert.OutEvenS.main_arg4) = m ((c.tc : Thread Cert.OutEvenS.nD Cert.OutEvenS.τ).loc Cert.OutEvenS.main_arg4)
      ∧ r.2.mem ((c.tc : Thread Cert.OutEvenS.nD Cert.OutEvenS.τ).loc Cert.OutEvenS.main_arg5) = m ((c.tc : Thread Cert.OutEvenS.nD Cert.OutEvenS.τ).loc Cert.OutEvenS.main_arg5)
      ∧ r.2.mem ((c.tc : Thread Cert.OutEvenS.nD Cert.OutEvenS.τ).loc Cert.OutEvenS.main_arg6) = m ((c.tc : Thread Cert.OutEvenS.nD Cert.OutEvenS.τ).loc Cert.OutEvenS.main_arg6)
      ∧ r.2.mem ((c.tc : Thread Cert.OutEvenS.nD Cert.OutEvenS.τ).loc Cert.OutEvenS.main_arg7) = m ((c.tc : Thread Cert.OutEvenS.nD Cert.OutEvenS.τ).loc Cert.OutEvenS.main_arg7))
      ∧ r.2.sem = fun _ => 0)

def quiescent_OutEvenSIdeal [hOutEvenSIdeal : Cert.OutEvenSIdeal.Facts] : Prop :=
  ∀ (m : (ℓ : Loc Cert.OutEvenSIdeal.nD Cert.OutEvenSIdeal.τ Cert.OutEvenSIdeal.sig) → Buf (Elt Ideal) ℓ) (g : Dev Cert.OutEvenSIdeal.nD → PrngReg), Pre_OutEvenSIdeal m →
    θ_run (Cert.OutEvenSIdeal.defs (F := Ideal)) (onTc (τ := Cert.OutEvenSIdeal.τ) (Cert.OutEvenSIdeal.main (F := Ideal))) ⟨m, fun _ => 0, g⟩ (fun r => (∀ c : Dev Cert.OutEvenSIdeal.nD,
      r.2.mem ((c.tc : Thread Cert.OutEvenSIdeal.nD Cert.OutEvenSIdeal.τ).loc Cert.OutEvenSIdeal.main_arg0) = m ((c.tc : Thread Cert.OutEvenSIdeal.nD Cert.OutEvenSIdeal.τ).loc Cert.OutEvenSIdeal.main_arg0)
      ∧ r.2.mem ((c.tc : Thread Cert.OutEvenSIdeal.nD Cert.OutEvenSIdeal.τ).loc Cert.OutEvenSIdeal.main_arg1) = m ((c.tc : Thread Cert.OutEvenSIdeal.nD Cert.OutEvenSIdeal.τ).loc Cert.OutEvenSIdeal.main_arg1)
      ∧ r.2.mem ((c.tc : Thread Cert.OutEvenSIdeal.nD Cert.OutEvenSIdeal.τ).loc Cert.OutEvenSIdeal.main_arg2) = m ((c.tc : Thread Cert.OutEvenSIdeal.nD Cert.OutEvenSIdeal.τ).loc Cert.OutEvenSIdeal.main_arg2)
      ∧ r.2.mem ((c.tc : Thread Cert.OutEvenSIdeal.nD Cert.OutEvenSIdeal.τ).loc Cert.OutEvenSIdeal.main_arg3) = m ((c.tc : Thread Cert.OutEvenSIdeal.nD Cert.OutEvenSIdeal.τ).loc Cert.OutEvenSIdeal.main_arg3)
      ∧ r.2.mem ((c.tc : Thread Cert.OutEvenSIdeal.nD Cert.OutEvenSIdeal.τ).loc Cert.OutEvenSIdeal.main_arg4) = m ((c.tc : Thread Cert.OutEvenSIdeal.nD Cert.OutEvenSIdeal.τ).loc Cert.OutEvenSIdeal.main_arg4)
      ∧ r.2.mem ((c.tc : Thread Cert.OutEvenSIdeal.nD Cert.OutEvenSIdeal.τ).loc Cert.OutEvenSIdeal.main_arg5) = m ((c.tc : Thread Cert.OutEvenSIdeal.nD Cert.OutEvenSIdeal.τ).loc Cert.OutEvenSIdeal.main_arg5)
      ∧ r.2.mem ((c.tc : Thread Cert.OutEvenSIdeal.nD Cert.OutEvenSIdeal.τ).loc Cert.OutEvenSIdeal.main_arg6) = m ((c.tc : Thread Cert.OutEvenSIdeal.nD Cert.OutEvenSIdeal.τ).loc Cert.OutEvenSIdeal.main_arg6)
      ∧ r.2.mem ((c.tc : Thread Cert.OutEvenSIdeal.nD Cert.OutEvenSIdeal.τ).loc Cert.OutEvenSIdeal.main_arg7) = m ((c.tc : Thread Cert.OutEvenSIdeal.nD Cert.OutEvenSIdeal.τ).loc Cert.OutEvenSIdeal.main_arg7))
      ∧ r.2.sem = fun _ => 0)

def quiescent_OutEvenSRefIdeal [hOutEvenSRefIdeal : Cert.OutEvenSRefIdeal.Facts] : Prop :=
  ∀ (m : (ℓ : Loc Cert.OutEvenSRefIdeal.nD Cert.OutEvenSRefIdeal.τ Cert.OutEvenSRefIdeal.sig) → Buf (Elt Ideal) ℓ) (g : Dev Cert.OutEvenSRefIdeal.nD → PrngReg), Pre_OutEvenSRefIdeal m →
    θ_run (Cert.OutEvenSRefIdeal.defs (F := Ideal)) (onTc (τ := Cert.OutEvenSRefIdeal.τ) (Cert.OutEvenSRefIdeal.main (F := Ideal))) ⟨m, fun _ => 0, g⟩ (fun r => (∀ c : Dev Cert.OutEvenSRefIdeal.nD,
      r.2.mem ((c.tc : Thread Cert.OutEvenSRefIdeal.nD Cert.OutEvenSRefIdeal.τ).loc Cert.OutEvenSRefIdeal.main_arg0) = m ((c.tc : Thread Cert.OutEvenSRefIdeal.nD Cert.OutEvenSRefIdeal.τ).loc Cert.OutEvenSRefIdeal.main_arg0)
      ∧ r.2.mem ((c.tc : Thread Cert.OutEvenSRefIdeal.nD Cert.OutEvenSRefIdeal.τ).loc Cert.OutEvenSRefIdeal.main_arg1) = m ((c.tc : Thread Cert.OutEvenSRefIdeal.nD Cert.OutEvenSRefIdeal.τ).loc Cert.OutEvenSRefIdeal.main_arg1)
      ∧ r.2.mem ((c.tc : Thread Cert.OutEvenSRefIdeal.nD Cert.OutEvenSRefIdeal.τ).loc Cert.OutEvenSRefIdeal.main_arg2) = m ((c.tc : Thread Cert.OutEvenSRefIdeal.nD Cert.OutEvenSRefIdeal.τ).loc Cert.OutEvenSRefIdeal.main_arg2)
      ∧ r.2.mem ((c.tc : Thread Cert.OutEvenSRefIdeal.nD Cert.OutEvenSRefIdeal.τ).loc Cert.OutEvenSRefIdeal.main_arg3) = m ((c.tc : Thread Cert.OutEvenSRefIdeal.nD Cert.OutEvenSRefIdeal.τ).loc Cert.OutEvenSRefIdeal.main_arg3)
      ∧ r.2.mem ((c.tc : Thread Cert.OutEvenSRefIdeal.nD Cert.OutEvenSRefIdeal.τ).loc Cert.OutEvenSRefIdeal.main_arg4) = m ((c.tc : Thread Cert.OutEvenSRefIdeal.nD Cert.OutEvenSRefIdeal.τ).loc Cert.OutEvenSRefIdeal.main_arg4)
      ∧ r.2.mem ((c.tc : Thread Cert.OutEvenSRefIdeal.nD Cert.OutEvenSRefIdeal.τ).loc Cert.OutEvenSRefIdeal.main_arg5) = m ((c.tc : Thread Cert.OutEvenSRefIdeal.nD Cert.OutEvenSRefIdeal.τ).loc Cert.OutEvenSRefIdeal.main_arg5)
      ∧ r.2.mem ((c.tc : Thread Cert.OutEvenSRefIdeal.nD Cert.OutEvenSRefIdeal.τ).loc Cert.OutEvenSRefIdeal.main_arg6) = m ((c.tc : Thread Cert.OutEvenSRefIdeal.nD Cert.OutEvenSRefIdeal.τ).loc Cert.OutEvenSRefIdeal.main_arg6)
      ∧ r.2.mem ((c.tc : Thread Cert.OutEvenSRefIdeal.nD Cert.OutEvenSRefIdeal.τ).loc Cert.OutEvenSRefIdeal.main_arg7) = m ((c.tc : Thread Cert.OutEvenSRefIdeal.nD Cert.OutEvenSRefIdeal.τ).loc Cert.OutEvenSRefIdeal.main_arg7))
      ∧ r.2.sem = fun _ => 0)

def quiescent_InOddS [hInOddS : Cert.InOddS.Facts] : Prop :=
  ∀ (m : (ℓ : Loc Cert.InOddS.nD Cert.InOddS.τ Cert.InOddS.sig) → Buf (Elt Bits) ℓ) (g : Dev Cert.InOddS.nD → PrngReg), Pre_InOddS m →
    θ_run (Cert.InOddS.defs (F := Bits)) (onTc (τ := Cert.InOddS.τ) (Cert.InOddS.main (F := Bits))) ⟨m, fun _ => 0, g⟩ (fun r => (∀ c : Dev Cert.InOddS.nD,
      r.2.mem ((c.tc : Thread Cert.InOddS.nD Cert.InOddS.τ).loc Cert.InOddS.main_arg0) = m ((c.tc : Thread Cert.InOddS.nD Cert.InOddS.τ).loc Cert.InOddS.main_arg0)
      ∧ r.2.mem ((c.tc : Thread Cert.InOddS.nD Cert.InOddS.τ).loc Cert.InOddS.main_arg1) = m ((c.tc : Thread Cert.InOddS.nD Cert.InOddS.τ).loc Cert.InOddS.main_arg1)
      ∧ r.2.mem ((c.tc : Thread Cert.InOddS.nD Cert.InOddS.τ).loc Cert.InOddS.main_arg2) = m ((c.tc : Thread Cert.InOddS.nD Cert.InOddS.τ).loc Cert.InOddS.main_arg2)
      ∧ r.2.mem ((c.tc : Thread Cert.InOddS.nD Cert.InOddS.τ).loc Cert.InOddS.main_arg3) = m ((c.tc : Thread Cert.InOddS.nD Cert.InOddS.τ).loc Cert.InOddS.main_arg3))
      ∧ r.2.sem = fun _ => 0)

def quiescent_InOddSIdeal [hInOddSIdeal : Cert.InOddSIdeal.Facts] : Prop :=
  ∀ (m : (ℓ : Loc Cert.InOddSIdeal.nD Cert.InOddSIdeal.τ Cert.InOddSIdeal.sig) → Buf (Elt Ideal) ℓ) (g : Dev Cert.InOddSIdeal.nD → PrngReg), Pre_InOddSIdeal m →
    θ_run (Cert.InOddSIdeal.defs (F := Ideal)) (onTc (τ := Cert.InOddSIdeal.τ) (Cert.InOddSIdeal.main (F := Ideal))) ⟨m, fun _ => 0, g⟩ (fun r => (∀ c : Dev Cert.InOddSIdeal.nD,
      r.2.mem ((c.tc : Thread Cert.InOddSIdeal.nD Cert.InOddSIdeal.τ).loc Cert.InOddSIdeal.main_arg0) = m ((c.tc : Thread Cert.InOddSIdeal.nD Cert.InOddSIdeal.τ).loc Cert.InOddSIdeal.main_arg0)
      ∧ r.2.mem ((c.tc : Thread Cert.InOddSIdeal.nD Cert.InOddSIdeal.τ).loc Cert.InOddSIdeal.main_arg1) = m ((c.tc : Thread Cert.InOddSIdeal.nD Cert.InOddSIdeal.τ).loc Cert.InOddSIdeal.main_arg1)
      ∧ r.2.mem ((c.tc : Thread Cert.InOddSIdeal.nD Cert.InOddSIdeal.τ).loc Cert.InOddSIdeal.main_arg2) = m ((c.tc : Thread Cert.InOddSIdeal.nD Cert.InOddSIdeal.τ).loc Cert.InOddSIdeal.main_arg2)
      ∧ r.2.mem ((c.tc : Thread Cert.InOddSIdeal.nD Cert.InOddSIdeal.τ).loc Cert.InOddSIdeal.main_arg3) = m ((c.tc : Thread Cert.InOddSIdeal.nD Cert.InOddSIdeal.τ).loc Cert.InOddSIdeal.main_arg3))
      ∧ r.2.sem = fun _ => 0)

def quiescent_InOddSRefIdeal [hInOddSRefIdeal : Cert.InOddSRefIdeal.Facts] : Prop :=
  ∀ (m : (ℓ : Loc Cert.InOddSRefIdeal.nD Cert.InOddSRefIdeal.τ Cert.InOddSRefIdeal.sig) → Buf (Elt Ideal) ℓ) (g : Dev Cert.InOddSRefIdeal.nD → PrngReg), Pre_InOddSRefIdeal m →
    θ_run (Cert.InOddSRefIdeal.defs (F := Ideal)) (onTc (τ := Cert.InOddSRefIdeal.τ) (Cert.InOddSRefIdeal.main (F := Ideal))) ⟨m, fun _ => 0, g⟩ (fun r => (∀ c : Dev Cert.InOddSRefIdeal.nD,
      r.2.mem ((c.tc : Thread Cert.InOddSRefIdeal.nD Cert.InOddSRefIdeal.τ).loc Cert.InOddSRefIdeal.main_arg0) = m ((c.tc : Thread Cert.InOddSRefIdeal.nD Cert.InOddSRefIdeal.τ).loc Cert.InOddSRefIdeal.main_arg0)
      ∧ r.2.mem ((c.tc : Thread Cert.InOddSRefIdeal.nD Cert.InOddSRefIdeal.τ).loc Cert.InOddSRefIdeal.main_arg1) = m ((c.tc : Thread Cert.InOddSRefIdeal.nD Cert.InOddSRefIdeal.τ).loc Cert.InOddSRefIdeal.main_arg1)
      ∧ r.2.mem ((c.tc : Thread Cert.InOddSRefIdeal.nD Cert.InOddSRefIdeal.τ).loc Cert.InOddSRefIdeal.main_arg2) = m ((c.tc : Thread Cert.InOddSRefIdeal.nD Cert.InOddSRefIdeal.τ).loc Cert.InOddSRefIdeal.main_arg2)
      ∧ r.2.mem ((c.tc : Thread Cert.InOddSRefIdeal.nD Cert.InOddSRefIdeal.τ).loc Cert.InOddSRefIdeal.main_arg3) = m ((c.tc : Thread Cert.InOddSRefIdeal.nD Cert.InOddSRefIdeal.τ).loc Cert.InOddSRefIdeal.main_arg3))
      ∧ r.2.sem = fun _ => 0)

def quiescent_OutOddS [hOutOddS : Cert.OutOddS.Facts] : Prop :=
  ∀ (m : (ℓ : Loc Cert.OutOddS.nD Cert.OutOddS.τ Cert.OutOddS.sig) → Buf (Elt Bits) ℓ) (g : Dev Cert.OutOddS.nD → PrngReg), Pre_OutOddS m →
    θ_run (Cert.OutOddS.defs (F := Bits)) (onTc (τ := Cert.OutOddS.τ) (Cert.OutOddS.main (F := Bits))) ⟨m, fun _ => 0, g⟩ (fun r => (∀ c : Dev Cert.OutOddS.nD,
      r.2.mem ((c.tc : Thread Cert.OutOddS.nD Cert.OutOddS.τ).loc Cert.OutOddS.main_arg0) = m ((c.tc : Thread Cert.OutOddS.nD Cert.OutOddS.τ).loc Cert.OutOddS.main_arg0)
      ∧ r.2.mem ((c.tc : Thread Cert.OutOddS.nD Cert.OutOddS.τ).loc Cert.OutOddS.main_arg1) = m ((c.tc : Thread Cert.OutOddS.nD Cert.OutOddS.τ).loc Cert.OutOddS.main_arg1)
      ∧ r.2.mem ((c.tc : Thread Cert.OutOddS.nD Cert.OutOddS.τ).loc Cert.OutOddS.main_arg2) = m ((c.tc : Thread Cert.OutOddS.nD Cert.OutOddS.τ).loc Cert.OutOddS.main_arg2)
      ∧ r.2.mem ((c.tc : Thread Cert.OutOddS.nD Cert.OutOddS.τ).loc Cert.OutOddS.main_arg3) = m ((c.tc : Thread Cert.OutOddS.nD Cert.OutOddS.τ).loc Cert.OutOddS.main_arg3)
      ∧ r.2.mem ((c.tc : Thread Cert.OutOddS.nD Cert.OutOddS.τ).loc Cert.OutOddS.main_arg4) = m ((c.tc : Thread Cert.OutOddS.nD Cert.OutOddS.τ).loc Cert.OutOddS.main_arg4)
      ∧ r.2.mem ((c.tc : Thread Cert.OutOddS.nD Cert.OutOddS.τ).loc Cert.OutOddS.main_arg5) = m ((c.tc : Thread Cert.OutOddS.nD Cert.OutOddS.τ).loc Cert.OutOddS.main_arg5))
      ∧ r.2.sem = fun _ => 0)

def quiescent_OutOddSIdeal [hOutOddSIdeal : Cert.OutOddSIdeal.Facts] : Prop :=
  ∀ (m : (ℓ : Loc Cert.OutOddSIdeal.nD Cert.OutOddSIdeal.τ Cert.OutOddSIdeal.sig) → Buf (Elt Ideal) ℓ) (g : Dev Cert.OutOddSIdeal.nD → PrngReg), Pre_OutOddSIdeal m →
    θ_run (Cert.OutOddSIdeal.defs (F := Ideal)) (onTc (τ := Cert.OutOddSIdeal.τ) (Cert.OutOddSIdeal.main (F := Ideal))) ⟨m, fun _ => 0, g⟩ (fun r => (∀ c : Dev Cert.OutOddSIdeal.nD,
      r.2.mem ((c.tc : Thread Cert.OutOddSIdeal.nD Cert.OutOddSIdeal.τ).loc Cert.OutOddSIdeal.main_arg0) = m ((c.tc : Thread Cert.OutOddSIdeal.nD Cert.OutOddSIdeal.τ).loc Cert.OutOddSIdeal.main_arg0)
      ∧ r.2.mem ((c.tc : Thread Cert.OutOddSIdeal.nD Cert.OutOddSIdeal.τ).loc Cert.OutOddSIdeal.main_arg1) = m ((c.tc : Thread Cert.OutOddSIdeal.nD Cert.OutOddSIdeal.τ).loc Cert.OutOddSIdeal.main_arg1)
      ∧ r.2.mem ((c.tc : Thread Cert.OutOddSIdeal.nD Cert.OutOddSIdeal.τ).loc Cert.OutOddSIdeal.main_arg2) = m ((c.tc : Thread Cert.OutOddSIdeal.nD Cert.OutOddSIdeal.τ).loc Cert.OutOddSIdeal.main_arg2)
      ∧ r.2.mem ((c.tc : Thread Cert.OutOddSIdeal.nD Cert.OutOddSIdeal.τ).loc Cert.OutOddSIdeal.main_arg3) = m ((c.tc : Thread Cert.OutOddSIdeal.nD Cert.OutOddSIdeal.τ).loc Cert.OutOddSIdeal.main_arg3)
      ∧ r.2.mem ((c.tc : Thread Cert.OutOddSIdeal.nD Cert.OutOddSIdeal.τ).loc Cert.OutOddSIdeal.main_arg4) = m ((c.tc : Thread Cert.OutOddSIdeal.nD Cert.OutOddSIdeal.τ).loc Cert.OutOddSIdeal.main_arg4)
      ∧ r.2.mem ((c.tc : Thread Cert.OutOddSIdeal.nD Cert.OutOddSIdeal.τ).loc Cert.OutOddSIdeal.main_arg5) = m ((c.tc : Thread Cert.OutOddSIdeal.nD Cert.OutOddSIdeal.τ).loc Cert.OutOddSIdeal.main_arg5))
      ∧ r.2.sem = fun _ => 0)

def quiescent_OutOddSRefIdeal [hOutOddSRefIdeal : Cert.OutOddSRefIdeal.Facts] : Prop :=
  ∀ (m : (ℓ : Loc Cert.OutOddSRefIdeal.nD Cert.OutOddSRefIdeal.τ Cert.OutOddSRefIdeal.sig) → Buf (Elt Ideal) ℓ) (g : Dev Cert.OutOddSRefIdeal.nD → PrngReg), Pre_OutOddSRefIdeal m →
    θ_run (Cert.OutOddSRefIdeal.defs (F := Ideal)) (onTc (τ := Cert.OutOddSRefIdeal.τ) (Cert.OutOddSRefIdeal.main (F := Ideal))) ⟨m, fun _ => 0, g⟩ (fun r => (∀ c : Dev Cert.OutOddSRefIdeal.nD,
      r.2.mem ((c.tc : Thread Cert.OutOddSRefIdeal.nD Cert.OutOddSRefIdeal.τ).loc Cert.OutOddSRefIdeal.main_arg0) = m ((c.tc : Thread Cert.OutOddSRefIdeal.nD Cert.OutOddSRefIdeal.τ).loc Cert.OutOddSRefIdeal.main_arg0)
      ∧ r.2.mem ((c.tc : Thread Cert.OutOddSRefIdeal.nD Cert.OutOddSRefIdeal.τ).loc Cert.OutOddSRefIdeal.main_arg1) = m ((c.tc : Thread Cert.OutOddSRefIdeal.nD Cert.OutOddSRefIdeal.τ).loc Cert.OutOddSRefIdeal.main_arg1)
      ∧ r.2.mem ((c.tc : Thread Cert.OutOddSRefIdeal.nD Cert.OutOddSRefIdeal.τ).loc Cert.OutOddSRefIdeal.main_arg2) = m ((c.tc : Thread Cert.OutOddSRefIdeal.nD Cert.OutOddSRefIdeal.τ).loc Cert.OutOddSRefIdeal.main_arg2)
      ∧ r.2.mem ((c.tc : Thread Cert.OutOddSRefIdeal.nD Cert.OutOddSRefIdeal.τ).loc Cert.OutOddSRefIdeal.main_arg3) = m ((c.tc : Thread Cert.OutOddSRefIdeal.nD Cert.OutOddSRefIdeal.τ).loc Cert.OutOddSRefIdeal.main_arg3)
      ∧ r.2.mem ((c.tc : Thread Cert.OutOddSRefIdeal.nD Cert.OutOddSRefIdeal.τ).loc Cert.OutOddSRefIdeal.main_arg4) = m ((c.tc : Thread Cert.OutOddSRefIdeal.nD Cert.OutOddSRefIdeal.τ).loc Cert.OutOddSRefIdeal.main_arg4)
      ∧ r.2.mem ((c.tc : Thread Cert.OutOddSRefIdeal.nD Cert.OutOddSRefIdeal.τ).loc Cert.OutOddSRefIdeal.main_arg5) = m ((c.tc : Thread Cert.OutOddSRefIdeal.nD Cert.OutOddSRefIdeal.τ).loc Cert.OutOddSRefIdeal.main_arg5))
      ∧ r.2.sem = fun _ => 0)

def quiescent_S5S [hS5S : Cert.S5S.Facts] : Prop :=
  ∀ (m : (ℓ : Loc Cert.S5S.nD Cert.S5S.τ Cert.S5S.sig) → Buf (Elt Bits) ℓ) (g : Dev Cert.S5S.nD → PrngReg), Pre_S5S m →
    θ_run (Cert.S5S.defs (F := Bits)) (onTc (τ := Cert.S5S.τ) (Cert.S5S.main (F := Bits))) ⟨m, fun _ => 0, g⟩ (fun r => (∀ c : Dev Cert.S5S.nD,
      r.2.mem ((c.tc : Thread Cert.S5S.nD Cert.S5S.τ).loc Cert.S5S.main_arg0) = m ((c.tc : Thread Cert.S5S.nD Cert.S5S.τ).loc Cert.S5S.main_arg0)
      ∧ r.2.mem ((c.tc : Thread Cert.S5S.nD Cert.S5S.τ).loc Cert.S5S.main_arg1) = m ((c.tc : Thread Cert.S5S.nD Cert.S5S.τ).loc Cert.S5S.main_arg1)
      ∧ r.2.mem ((c.tc : Thread Cert.S5S.nD Cert.S5S.τ).loc Cert.S5S.main_arg2) = m ((c.tc : Thread Cert.S5S.nD Cert.S5S.τ).loc Cert.S5S.main_arg2)
      ∧ r.2.mem ((c.tc : Thread Cert.S5S.nD Cert.S5S.τ).loc Cert.S5S.main_arg3) = m ((c.tc : Thread Cert.S5S.nD Cert.S5S.τ).loc Cert.S5S.main_arg3)
      ∧ r.2.mem ((c.tc : Thread Cert.S5S.nD Cert.S5S.τ).loc Cert.S5S.main_arg4) = m ((c.tc : Thread Cert.S5S.nD Cert.S5S.τ).loc Cert.S5S.main_arg4)
      ∧ r.2.mem ((c.tc : Thread Cert.S5S.nD Cert.S5S.τ).loc Cert.S5S.main_arg5) = m ((c.tc : Thread Cert.S5S.nD Cert.S5S.τ).loc Cert.S5S.main_arg5)
      ∧ r.2.mem ((c.tc : Thread Cert.S5S.nD Cert.S5S.τ).loc Cert.S5S.main_arg6) = m ((c.tc : Thread Cert.S5S.nD Cert.S5S.τ).loc Cert.S5S.main_arg6)
      ∧ r.2.mem ((c.tc : Thread Cert.S5S.nD Cert.S5S.τ).loc Cert.S5S.main_arg7) = m ((c.tc : Thread Cert.S5S.nD Cert.S5S.τ).loc Cert.S5S.main_arg7)
      ∧ r.2.mem ((c.tc : Thread Cert.S5S.nD Cert.S5S.τ).loc Cert.S5S.main_arg8) = m ((c.tc : Thread Cert.S5S.nD Cert.S5S.τ).loc Cert.S5S.main_arg8)
      ∧ r.2.mem ((c.tc : Thread Cert.S5S.nD Cert.S5S.τ).loc Cert.S5S.main_arg9) = m ((c.tc : Thread Cert.S5S.nD Cert.S5S.τ).loc Cert.S5S.main_arg9))
      ∧ r.2.sem = fun _ => 0)

def quiescent_S5SIdeal [hS5SIdeal : Cert.S5SIdeal.Facts] : Prop :=
  ∀ (m : (ℓ : Loc Cert.S5SIdeal.nD Cert.S5SIdeal.τ Cert.S5SIdeal.sig) → Buf (Elt Ideal) ℓ) (g : Dev Cert.S5SIdeal.nD → PrngReg), Pre_S5SIdeal m →
    θ_run (Cert.S5SIdeal.defs (F := Ideal)) (onTc (τ := Cert.S5SIdeal.τ) (Cert.S5SIdeal.main (F := Ideal))) ⟨m, fun _ => 0, g⟩ (fun r => (∀ c : Dev Cert.S5SIdeal.nD,
      r.2.mem ((c.tc : Thread Cert.S5SIdeal.nD Cert.S5SIdeal.τ).loc Cert.S5SIdeal.main_arg0) = m ((c.tc : Thread Cert.S5SIdeal.nD Cert.S5SIdeal.τ).loc Cert.S5SIdeal.main_arg0)
      ∧ r.2.mem ((c.tc : Thread Cert.S5SIdeal.nD Cert.S5SIdeal.τ).loc Cert.S5SIdeal.main_arg1) = m ((c.tc : Thread Cert.S5SIdeal.nD Cert.S5SIdeal.τ).loc Cert.S5SIdeal.main_arg1)
      ∧ r.2.mem ((c.tc : Thread Cert.S5SIdeal.nD Cert.S5SIdeal.τ).loc Cert.S5SIdeal.main_arg2) = m ((c.tc : Thread Cert.S5SIdeal.nD Cert.S5SIdeal.τ).loc Cert.S5SIdeal.main_arg2)
      ∧ r.2.mem ((c.tc : Thread Cert.S5SIdeal.nD Cert.S5SIdeal.τ).loc Cert.S5SIdeal.main_arg3) = m ((c.tc : Thread Cert.S5SIdeal.nD Cert.S5SIdeal.τ).loc Cert.S5SIdeal.main_arg3)
      ∧ r.2.mem ((c.tc : Thread Cert.S5SIdeal.nD Cert.S5SIdeal.τ).loc Cert.S5SIdeal.main_arg4) = m ((c.tc : Thread Cert.S5SIdeal.nD Cert.S5SIdeal.τ).loc Cert.S5SIdeal.main_arg4)
      ∧ r.2.mem ((c.tc : Thread Cert.S5SIdeal.nD Cert.S5SIdeal.τ).loc Cert.S5SIdeal.main_arg5) = m ((c.tc : Thread Cert.S5SIdeal.nD Cert.S5SIdeal.τ).loc Cert.S5SIdeal.main_arg5)
      ∧ r.2.mem ((c.tc : Thread Cert.S5SIdeal.nD Cert.S5SIdeal.τ).loc Cert.S5SIdeal.main_arg6) = m ((c.tc : Thread Cert.S5SIdeal.nD Cert.S5SIdeal.τ).loc Cert.S5SIdeal.main_arg6)
      ∧ r.2.mem ((c.tc : Thread Cert.S5SIdeal.nD Cert.S5SIdeal.τ).loc Cert.S5SIdeal.main_arg7) = m ((c.tc : Thread Cert.S5SIdeal.nD Cert.S5SIdeal.τ).loc Cert.S5SIdeal.main_arg7)
      ∧ r.2.mem ((c.tc : Thread Cert.S5SIdeal.nD Cert.S5SIdeal.τ).loc Cert.S5SIdeal.main_arg8) = m ((c.tc : Thread Cert.S5SIdeal.nD Cert.S5SIdeal.τ).loc Cert.S5SIdeal.main_arg8)
      ∧ r.2.mem ((c.tc : Thread Cert.S5SIdeal.nD Cert.S5SIdeal.τ).loc Cert.S5SIdeal.main_arg9) = m ((c.tc : Thread Cert.S5SIdeal.nD Cert.S5SIdeal.τ).loc Cert.S5SIdeal.main_arg9))
      ∧ r.2.sem = fun _ => 0)

def quiescent_S5SRefIdeal [hS5SRefIdeal : Cert.S5SRefIdeal.Facts] : Prop :=
  ∀ (m : (ℓ : Loc Cert.S5SRefIdeal.nD Cert.S5SRefIdeal.τ Cert.S5SRefIdeal.sig) → Buf (Elt Ideal) ℓ) (g : Dev Cert.S5SRefIdeal.nD → PrngReg), Pre_S5SRefIdeal m →
    θ_run (Cert.S5SRefIdeal.defs (F := Ideal)) (onTc (τ := Cert.S5SRefIdeal.τ) (Cert.S5SRefIdeal.main (F := Ideal))) ⟨m, fun _ => 0, g⟩ (fun r => (∀ c : Dev Cert.S5SRefIdeal.nD,
      r.2.mem ((c.tc : Thread Cert.S5SRefIdeal.nD Cert.S5SRefIdeal.τ).loc Cert.S5SRefIdeal.main_arg0) = m ((c.tc : Thread Cert.S5SRefIdeal.nD Cert.S5SRefIdeal.τ).loc Cert.S5SRefIdeal.main_arg0)
      ∧ r.2.mem ((c.tc : Thread Cert.S5SRefIdeal.nD Cert.S5SRefIdeal.τ).loc Cert.S5SRefIdeal.main_arg1) = m ((c.tc : Thread Cert.S5SRefIdeal.nD Cert.S5SRefIdeal.τ).loc Cert.S5SRefIdeal.main_arg1)
      ∧ r.2.mem ((c.tc : Thread Cert.S5SRefIdeal.nD Cert.S5SRefIdeal.τ).loc Cert.S5SRefIdeal.main_arg2) = m ((c.tc : Thread Cert.S5SRefIdeal.nD Cert.S5SRefIdeal.τ).loc Cert.S5SRefIdeal.main_arg2)
      ∧ r.2.mem ((c.tc : Thread Cert.S5SRefIdeal.nD Cert.S5SRefIdeal.τ).loc Cert.S5SRefIdeal.main_arg3) = m ((c.tc : Thread Cert.S5SRefIdeal.nD Cert.S5SRefIdeal.τ).loc Cert.S5SRefIdeal.main_arg3)
      ∧ r.2.mem ((c.tc : Thread Cert.S5SRefIdeal.nD Cert.S5SRefIdeal.τ).loc Cert.S5SRefIdeal.main_arg4) = m ((c.tc : Thread Cert.S5SRefIdeal.nD Cert.S5SRefIdeal.τ).loc Cert.S5SRefIdeal.main_arg4)
      ∧ r.2.mem ((c.tc : Thread Cert.S5SRefIdeal.nD Cert.S5SRefIdeal.τ).loc Cert.S5SRefIdeal.main_arg5) = m ((c.tc : Thread Cert.S5SRefIdeal.nD Cert.S5SRefIdeal.τ).loc Cert.S5SRefIdeal.main_arg5)
      ∧ r.2.mem ((c.tc : Thread Cert.S5SRefIdeal.nD Cert.S5SRefIdeal.τ).loc Cert.S5SRefIdeal.main_arg6) = m ((c.tc : Thread Cert.S5SRefIdeal.nD Cert.S5SRefIdeal.τ).loc Cert.S5SRefIdeal.main_arg6)
      ∧ r.2.mem ((c.tc : Thread Cert.S5SRefIdeal.nD Cert.S5SRefIdeal.τ).loc Cert.S5SRefIdeal.main_arg7) = m ((c.tc : Thread Cert.S5SRefIdeal.nD Cert.S5SRefIdeal.τ).loc Cert.S5SRefIdeal.main_arg7)
      ∧ r.2.mem ((c.tc : Thread Cert.S5SRefIdeal.nD Cert.S5SRefIdeal.τ).loc Cert.S5SRefIdeal.main_arg8) = m ((c.tc : Thread Cert.S5SRefIdeal.nD Cert.S5SRefIdeal.τ).loc Cert.S5SRefIdeal.main_arg8)
      ∧ r.2.mem ((c.tc : Thread Cert.S5SRefIdeal.nD Cert.S5SRefIdeal.τ).loc Cert.S5SRefIdeal.main_arg9) = m ((c.tc : Thread Cert.S5SRefIdeal.nD Cert.S5SRefIdeal.τ).loc Cert.S5SRefIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v64_0)) (v1 : (c : Dev Cert.KernelIdeal.nD) → Buf (Elt Ideal) ((c.tc : Thread Cert.KernelIdeal.nD Cert.KernelIdeal.τ).loc Cert.KernelIdeal.main_v64_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64_0) = v0 c
          ∧ r.2.mem ((c.tc : Thread Cert.KernelIdeal.nD Cert.KernelIdeal.τ).loc Cert.KernelIdeal.main_v64_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_InEven_InEvenIdeal : Prop :=
  True

def algebraic_InEvenIdeal_InEvenRefIdeal [hInEvenIdeal : Cert.InEvenIdeal.Facts] [hInEvenRefIdeal : Cert.InEvenRefIdeal.Facts] : Prop :=
  ∀ (m : (ℓ : Loc Cert.InEvenIdeal.nD Cert.InEvenIdeal.τ Cert.InEvenIdeal.sig) → Buf (Elt Ideal) ℓ) (g : Dev Cert.InEvenIdeal.nD → PrngReg)
    (m' : (ℓ : Loc Cert.InEvenRefIdeal.nD Cert.InEvenRefIdeal.τ Cert.InEvenRefIdeal.sig) → Buf (Elt Ideal) ℓ) (g' : Dev Cert.InEvenRefIdeal.nD → PrngReg), Pre_InEvenIdeal m →
    (∀ c : Dev Cert.InEvenIdeal.nD,
      m' ((c.tc : Thread Cert.InEvenRefIdeal.nD Cert.InEvenRefIdeal.τ).loc Cert.InEvenRefIdeal.main_arg0) = m ((c.tc : Thread Cert.InEvenIdeal.nD Cert.InEvenIdeal.τ).loc Cert.InEvenIdeal.main_arg0)
      ∧ m' ((c.tc : Thread Cert.InEvenRefIdeal.nD Cert.InEvenRefIdeal.τ).loc Cert.InEvenRefIdeal.main_arg1) = m ((c.tc : Thread Cert.InEvenIdeal.nD Cert.InEvenIdeal.τ).loc Cert.InEvenIdeal.main_arg1)
      ∧ m' ((c.tc : Thread Cert.InEvenRefIdeal.nD Cert.InEvenRefIdeal.τ).loc Cert.InEvenRefIdeal.main_arg2) = m ((c.tc : Thread Cert.InEvenIdeal.nD Cert.InEvenIdeal.τ).loc Cert.InEvenIdeal.main_arg2)
      ∧ m' ((c.tc : Thread Cert.InEvenRefIdeal.nD Cert.InEvenRefIdeal.τ).loc Cert.InEvenRefIdeal.main_arg3) = m ((c.tc : Thread Cert.InEvenIdeal.nD Cert.InEvenIdeal.τ).loc Cert.InEvenIdeal.main_arg3)
      ∧ m' ((c.tc : Thread Cert.InEvenRefIdeal.nD Cert.InEvenRefIdeal.τ).loc Cert.InEvenRefIdeal.main_arg4) = m ((c.tc : Thread Cert.InEvenIdeal.nD Cert.InEvenIdeal.τ).loc Cert.InEvenIdeal.main_arg4)
      ∧ m' ((c.tc : Thread Cert.InEvenRefIdeal.nD Cert.InEvenRefIdeal.τ).loc Cert.InEvenRefIdeal.main_arg5) = m ((c.tc : Thread Cert.InEvenIdeal.nD Cert.InEvenIdeal.τ).loc Cert.InEvenIdeal.main_arg5)
      ∧ m' ((c.tc : Thread Cert.InEvenRefIdeal.nD Cert.InEvenRefIdeal.τ).loc Cert.InEvenRefIdeal.main_arg6) = m ((c.tc : Thread Cert.InEvenIdeal.nD Cert.InEvenIdeal.τ).loc Cert.InEvenIdeal.main_arg6)) →
    ∃ (v0 : (c : Dev Cert.InEvenIdeal.nD) → Buf (Elt Ideal) ((c.tc : Thread Cert.InEvenIdeal.nD Cert.InEvenIdeal.τ).loc Cert.InEvenIdeal.main_v3_0)) (v1 : (c : Dev Cert.InEvenIdeal.nD) → Buf (Elt Ideal) ((c.tc : Thread Cert.InEvenIdeal.nD Cert.InEvenIdeal.τ).loc Cert.InEvenIdeal.main_v3_1)) (v2 : (c : Dev Cert.InEvenIdeal.nD) → Buf (Elt Ideal) ((c.tc : Thread Cert.InEvenIdeal.nD Cert.InEvenIdeal.τ).loc Cert.InEvenIdeal.main_v3_2)) (v3 : (c : Dev Cert.InEvenIdeal.nD) → Buf (Elt Ideal) ((c.tc : Thread Cert.InEvenIdeal.nD Cert.InEvenIdeal.τ).loc Cert.InEvenIdeal.main_v3_3)),
      θ_run (Cert.InEvenIdeal.defs (F := Ideal)) (onTc (τ := Cert.InEvenIdeal.τ) (Cert.InEvenIdeal.main (F := Ideal))) ⟨m, fun _ => 0, g⟩ (fun r => ∀ c : Dev Cert.InEvenIdeal.nD,
          r.2.mem ((c.tc : Thread Cert.InEvenIdeal.nD Cert.InEvenIdeal.τ).loc Cert.InEvenIdeal.main_v3_0) = v0 c
          ∧ r.2.mem ((c.tc : Thread Cert.InEvenIdeal.nD Cert.InEvenIdeal.τ).loc Cert.InEvenIdeal.main_v3_1) = v1 c
          ∧ r.2.mem ((c.tc : Thread Cert.InEvenIdeal.nD Cert.InEvenIdeal.τ).loc Cert.InEvenIdeal.main_v3_2) = v2 c
          ∧ r.2.mem ((c.tc : Thread Cert.InEvenIdeal.nD Cert.InEvenIdeal.τ).loc Cert.InEvenIdeal.main_v3_3) = v3 c
          ∧ r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
          ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
          ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2)
          ∧ r.2.mem ((c.tc : Thread Cert.InEvenIdeal.nD Cert.InEvenIdeal.τ).loc Cert.InEvenIdeal.main_arg3) = m ((c.tc : Thread Cert.InEvenIdeal.nD Cert.InEvenIdeal.τ).loc Cert.InEvenIdeal.main_arg3)
          ∧ r.2.mem ((c.tc : Thread Cert.InEvenIdeal.nD Cert.InEvenIdeal.τ).loc Cert.InEvenIdeal.main_arg4) = m ((c.tc : Thread Cert.InEvenIdeal.nD Cert.InEvenIdeal.τ).loc Cert.InEvenIdeal.main_arg4)
          ∧ r.2.mem ((c.tc : Thread Cert.InEvenIdeal.nD Cert.InEvenIdeal.τ).loc Cert.InEvenIdeal.main_arg5) = m ((c.tc : Thread Cert.InEvenIdeal.nD Cert.InEvenIdeal.τ).loc Cert.InEvenIdeal.main_arg5)
          ∧ r.2.mem ((c.tc : Thread Cert.InEvenIdeal.nD Cert.InEvenIdeal.τ).loc Cert.InEvenIdeal.main_arg6) = m ((c.tc : Thread Cert.InEvenIdeal.nD Cert.InEvenIdeal.τ).loc Cert.InEvenIdeal.main_arg6))
      ∧ θ_run (Cert.InEvenRefIdeal.defs (F := Ideal)) (onTc (τ := Cert.InEvenRefIdeal.τ) (Cert.InEvenRefIdeal.main (F := Ideal))) ⟨m', fun _ => 0, g'⟩ (fun r => ∀ c : Dev Cert.InEvenRefIdeal.nD,
          r.2.mem ((c.tc : Thread Cert.InEvenRefIdeal.nD Cert.InEvenRefIdeal.τ).loc Cert.InEvenRefIdeal.main_v58) = v0 c
          ∧ r.2.mem ((c.tc : Thread Cert.InEvenRefIdeal.nD Cert.InEvenRefIdeal.τ).loc Cert.InEvenRefIdeal.main_v27) = v1 c
          ∧ r.2.mem ((c.tc : Thread Cert.InEvenRefIdeal.nD Cert.InEvenRefIdeal.τ).loc Cert.InEvenRefIdeal.main_v59) = v2 c
          ∧ r.2.mem ((c.tc : Thread Cert.InEvenRefIdeal.nD Cert.InEvenRefIdeal.τ).loc Cert.InEvenRefIdeal.main_v60) = v3 c
          ∧ r.2.mem ((c.tc : Thread Cert.InEvenRefIdeal.nD Cert.InEvenRefIdeal.τ).loc Cert.InEvenRefIdeal.main_arg0) = m' ((c.tc : Thread Cert.InEvenRefIdeal.nD Cert.InEvenRefIdeal.τ).loc Cert.InEvenRefIdeal.main_arg0)
          ∧ r.2.mem ((c.tc : Thread Cert.InEvenRefIdeal.nD Cert.InEvenRefIdeal.τ).loc Cert.InEvenRefIdeal.main_arg1) = m' ((c.tc : Thread Cert.InEvenRefIdeal.nD Cert.InEvenRefIdeal.τ).loc Cert.InEvenRefIdeal.main_arg1)
          ∧ r.2.mem ((c.tc : Thread Cert.InEvenRefIdeal.nD Cert.InEvenRefIdeal.τ).loc Cert.InEvenRefIdeal.main_arg2) = m' ((c.tc : Thread Cert.InEvenRefIdeal.nD Cert.InEvenRefIdeal.τ).loc Cert.InEvenRefIdeal.main_arg2)
          ∧ r.2.mem ((c.tc : Thread Cert.InEvenRefIdeal.nD Cert.InEvenRefIdeal.τ).loc Cert.InEvenRefIdeal.main_arg3) = m' ((c.tc : Thread Cert.InEvenRefIdeal.nD Cert.InEvenRefIdeal.τ).loc Cert.InEvenRefIdeal.main_arg3)
          ∧ r.2.mem ((c.tc : Thread Cert.InEvenRefIdeal.nD Cert.InEvenRefIdeal.τ).loc Cert.InEvenRefIdeal.main_arg4) = m' ((c.tc : Thread Cert.InEvenRefIdeal.nD Cert.InEvenRefIdeal.τ).loc Cert.InEvenRefIdeal.main_arg4)
          ∧ r.2.mem ((c.tc : Thread Cert.InEvenRefIdeal.nD Cert.InEvenRefIdeal.τ).loc Cert.InEvenRefIdeal.main_arg5) = m' ((c.tc : Thread Cert.InEvenRefIdeal.nD Cert.InEvenRefIdeal.τ).loc Cert.InEvenRefIdeal.main_arg5)
          ∧ r.2.mem ((c.tc : Thread Cert.InEvenRefIdeal.nD Cert.InEvenRefIdeal.τ).loc Cert.InEvenRefIdeal.main_arg6) = m' ((c.tc : Thread Cert.InEvenRefIdeal.nD Cert.InEvenRefIdeal.τ).loc Cert.InEvenRefIdeal.main_arg6))

def preserves_OutEven_OutEvenIdeal : Prop :=
  True

def algebraic_OutEvenIdeal_OutEvenRefIdeal [hOutEvenIdeal : Cert.OutEvenIdeal.Facts] [hOutEvenRefIdeal : Cert.OutEvenRefIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg)
    (m' : (ℓ : Loc Cert.OutEvenRefIdeal.nD Cert.OutEvenRefIdeal.τ Cert.OutEvenRefIdeal.sig) → Buf (Elt Ideal) ℓ) (g' : Dev Cert.OutEvenRefIdeal.nD → PrngReg), Pre_OutEvenIdeal m →
    (∀ c : Dev Cert.OutEvenIdeal.nD,
      m' ((c.tc : Thread Cert.OutEvenRefIdeal.nD Cert.OutEvenRefIdeal.τ).loc Cert.OutEvenRefIdeal.main_arg0) = m ((c.tc : Thread Cert.OutEvenIdeal.nD Cert.OutEvenIdeal.τ).loc Cert.OutEvenIdeal.main_arg0)
      ∧ m' ((c.tc : Thread Cert.OutEvenRefIdeal.nD Cert.OutEvenRefIdeal.τ).loc Cert.OutEvenRefIdeal.main_arg1) = m ((c.tc : Thread Cert.OutEvenIdeal.nD Cert.OutEvenIdeal.τ).loc Cert.OutEvenIdeal.main_arg1)
      ∧ m' ((c.tc : Thread Cert.OutEvenRefIdeal.nD Cert.OutEvenRefIdeal.τ).loc Cert.OutEvenRefIdeal.main_arg2) = m ((c.tc : Thread Cert.OutEvenIdeal.nD Cert.OutEvenIdeal.τ).loc Cert.OutEvenIdeal.main_arg2)
      ∧ m' ((c.tc : Thread Cert.OutEvenRefIdeal.nD Cert.OutEvenRefIdeal.τ).loc Cert.OutEvenRefIdeal.main_arg3) = m ((c.tc : Thread Cert.OutEvenIdeal.nD Cert.OutEvenIdeal.τ).loc Cert.OutEvenIdeal.main_arg3)
      ∧ m' ((c.tc : Thread Cert.OutEvenRefIdeal.nD Cert.OutEvenRefIdeal.τ).loc Cert.OutEvenRefIdeal.main_arg4) = m ((c.tc : Thread Cert.OutEvenIdeal.nD Cert.OutEvenIdeal.τ).loc Cert.OutEvenIdeal.main_arg4)
      ∧ m' ((c.tc : Thread Cert.OutEvenRefIdeal.nD Cert.OutEvenRefIdeal.τ).loc Cert.OutEvenRefIdeal.main_arg5) = m ((c.tc : Thread Cert.OutEvenIdeal.nD Cert.OutEvenIdeal.τ).loc Cert.OutEvenIdeal.main_arg5)
      ∧ m' ((c.tc : Thread Cert.OutEvenRefIdeal.nD Cert.OutEvenRefIdeal.τ).loc Cert.OutEvenRefIdeal.main_arg6) = m ((c.tc : Thread Cert.OutEvenIdeal.nD Cert.OutEvenIdeal.τ).loc Cert.OutEvenIdeal.main_arg6)
      ∧ m' ((c.tc : Thread Cert.OutEvenRefIdeal.nD Cert.OutEvenRefIdeal.τ).loc Cert.OutEvenRefIdeal.main_arg7) = m ((c.tc : Thread Cert.OutEvenIdeal.nD Cert.OutEvenIdeal.τ).loc Cert.OutEvenIdeal.main_arg7)) →
    ∃ (v0 : (c : Dev Cert.OutEvenIdeal.nD) → Buf (Elt Ideal) ((c.tc : Thread Cert.OutEvenIdeal.nD Cert.OutEvenIdeal.τ).loc Cert.OutEvenIdeal.main_v3)),
      θ_run (Cert.OutEvenIdeal.defs (F := Ideal)) (onTc (τ := Cert.OutEvenIdeal.τ) (Cert.OutEvenIdeal.main (F := Ideal))) ⟨m, fun _ => 0, g⟩ (fun r => ∀ c : Dev Cert.OutEvenIdeal.nD,
          r.2.mem ((c.tc : Thread Cert.OutEvenIdeal.nD Cert.OutEvenIdeal.τ).loc Cert.OutEvenIdeal.main_v3) = v0 c
          ∧ r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
          ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
          ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
          ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
          ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4)
          ∧ r.2.mem ((c.tc : Thread Cert.OutEvenIdeal.nD Cert.OutEvenIdeal.τ).loc Cert.OutEvenIdeal.main_arg5) = m ((c.tc : Thread Cert.OutEvenIdeal.nD Cert.OutEvenIdeal.τ).loc Cert.OutEvenIdeal.main_arg5)
          ∧ r.2.mem ((c.tc : Thread Cert.OutEvenIdeal.nD Cert.OutEvenIdeal.τ).loc Cert.OutEvenIdeal.main_arg6) = m ((c.tc : Thread Cert.OutEvenIdeal.nD Cert.OutEvenIdeal.τ).loc Cert.OutEvenIdeal.main_arg6)
          ∧ r.2.mem ((c.tc : Thread Cert.OutEvenIdeal.nD Cert.OutEvenIdeal.τ).loc Cert.OutEvenIdeal.main_arg7) = m ((c.tc : Thread Cert.OutEvenIdeal.nD Cert.OutEvenIdeal.τ).loc Cert.OutEvenIdeal.main_arg7))
      ∧ θ_run (Cert.OutEvenRefIdeal.defs (F := Ideal)) (onTc (τ := Cert.OutEvenRefIdeal.τ) (Cert.OutEvenRefIdeal.main (F := Ideal))) ⟨m', fun _ => 0, g'⟩ (fun r => ∀ c : Dev Cert.OutEvenRefIdeal.nD,
          r.2.mem ((c.tc : Thread Cert.OutEvenRefIdeal.nD Cert.OutEvenRefIdeal.τ).loc Cert.OutEvenRefIdeal.main_v44) = v0 c
          ∧ r.2.mem ((c.tc : Thread Cert.OutEvenRefIdeal.nD Cert.OutEvenRefIdeal.τ).loc Cert.OutEvenRefIdeal.main_arg0) = m' ((c.tc : Thread Cert.OutEvenRefIdeal.nD Cert.OutEvenRefIdeal.τ).loc Cert.OutEvenRefIdeal.main_arg0)
          ∧ r.2.mem ((c.tc : Thread Cert.OutEvenRefIdeal.nD Cert.OutEvenRefIdeal.τ).loc Cert.OutEvenRefIdeal.main_arg1) = m' ((c.tc : Thread Cert.OutEvenRefIdeal.nD Cert.OutEvenRefIdeal.τ).loc Cert.OutEvenRefIdeal.main_arg1)
          ∧ r.2.mem ((c.tc : Thread Cert.OutEvenRefIdeal.nD Cert.OutEvenRefIdeal.τ).loc Cert.OutEvenRefIdeal.main_arg2) = m' ((c.tc : Thread Cert.OutEvenRefIdeal.nD Cert.OutEvenRefIdeal.τ).loc Cert.OutEvenRefIdeal.main_arg2)
          ∧ r.2.mem ((c.tc : Thread Cert.OutEvenRefIdeal.nD Cert.OutEvenRefIdeal.τ).loc Cert.OutEvenRefIdeal.main_arg3) = m' ((c.tc : Thread Cert.OutEvenRefIdeal.nD Cert.OutEvenRefIdeal.τ).loc Cert.OutEvenRefIdeal.main_arg3)
          ∧ r.2.mem ((c.tc : Thread Cert.OutEvenRefIdeal.nD Cert.OutEvenRefIdeal.τ).loc Cert.OutEvenRefIdeal.main_arg4) = m' ((c.tc : Thread Cert.OutEvenRefIdeal.nD Cert.OutEvenRefIdeal.τ).loc Cert.OutEvenRefIdeal.main_arg4)
          ∧ r.2.mem ((c.tc : Thread Cert.OutEvenRefIdeal.nD Cert.OutEvenRefIdeal.τ).loc Cert.OutEvenRefIdeal.main_arg5) = m' ((c.tc : Thread Cert.OutEvenRefIdeal.nD Cert.OutEvenRefIdeal.τ).loc Cert.OutEvenRefIdeal.main_arg5)
          ∧ r.2.mem ((c.tc : Thread Cert.OutEvenRefIdeal.nD Cert.OutEvenRefIdeal.τ).loc Cert.OutEvenRefIdeal.main_arg6) = m' ((c.tc : Thread Cert.OutEvenRefIdeal.nD Cert.OutEvenRefIdeal.τ).loc Cert.OutEvenRefIdeal.main_arg6)
          ∧ r.2.mem ((c.tc : Thread Cert.OutEvenRefIdeal.nD Cert.OutEvenRefIdeal.τ).loc Cert.OutEvenRefIdeal.main_arg7) = m' ((c.tc : Thread Cert.OutEvenRefIdeal.nD Cert.OutEvenRefIdeal.τ).loc Cert.OutEvenRefIdeal.main_arg7))

def preserves_InOdd_InOddIdeal : Prop :=
  True

def algebraic_InOddIdeal_InOddRefIdeal [hInOddIdeal : Cert.InOddIdeal.Facts] [hInOddRefIdeal : Cert.InOddRefIdeal.Facts] : Prop :=
  ∀ (m : (ℓ : Loc Cert.InOddIdeal.nD Cert.InOddIdeal.τ Cert.InOddIdeal.sig) → Buf (Elt Ideal) ℓ) (g : Dev Cert.InOddIdeal.nD → PrngReg)
    (m' : (ℓ : Loc Cert.InOddRefIdeal.nD Cert.InOddRefIdeal.τ Cert.InOddRefIdeal.sig) → Buf (Elt Ideal) ℓ) (g' : Dev Cert.InOddRefIdeal.nD → PrngReg), Pre_InOddIdeal m →
    (∀ c : Dev Cert.InOddIdeal.nD,
      m' ((c.tc : Thread Cert.InOddRefIdeal.nD Cert.InOddRefIdeal.τ).loc Cert.InOddRefIdeal.main_arg0) = m ((c.tc : Thread Cert.InOddIdeal.nD Cert.InOddIdeal.τ).loc Cert.InOddIdeal.main_arg0)
      ∧ m' ((c.tc : Thread Cert.InOddRefIdeal.nD Cert.InOddRefIdeal.τ).loc Cert.InOddRefIdeal.main_arg1) = m ((c.tc : Thread Cert.InOddIdeal.nD Cert.InOddIdeal.τ).loc Cert.InOddIdeal.main_arg1)
      ∧ m' ((c.tc : Thread Cert.InOddRefIdeal.nD Cert.InOddRefIdeal.τ).loc Cert.InOddRefIdeal.main_arg2) = m ((c.tc : Thread Cert.InOddIdeal.nD Cert.InOddIdeal.τ).loc Cert.InOddIdeal.main_arg2)
      ∧ m' ((c.tc : Thread Cert.InOddRefIdeal.nD Cert.InOddRefIdeal.τ).loc Cert.InOddRefIdeal.main_arg3) = m ((c.tc : Thread Cert.InOddIdeal.nD Cert.InOddIdeal.τ).loc Cert.InOddIdeal.main_arg3)) →
    ∃ (v0 : (c : Dev Cert.InOddIdeal.nD) → Buf (Elt Ideal) ((c.tc : Thread Cert.InOddIdeal.nD Cert.InOddIdeal.τ).loc Cert.InOddIdeal.main_v2_0)) (v1 : (c : Dev Cert.InOddIdeal.nD) → Buf (Elt Ideal) ((c.tc : Thread Cert.InOddIdeal.nD Cert.InOddIdeal.τ).loc Cert.InOddIdeal.main_v2_1)) (v2 : (c : Dev Cert.InOddIdeal.nD) → Buf (Elt Ideal) ((c.tc : Thread Cert.InOddIdeal.nD Cert.InOddIdeal.τ).loc Cert.InOddIdeal.main_v2_2)) (v3 : (c : Dev Cert.InOddIdeal.nD) → Buf (Elt Ideal) ((c.tc : Thread Cert.InOddIdeal.nD Cert.InOddIdeal.τ).loc Cert.InOddIdeal.main_v2_3)) (v4 : (c : Dev Cert.InOddIdeal.nD) → Buf (Elt Ideal) ((c.tc : Thread Cert.InOddIdeal.nD Cert.InOddIdeal.τ).loc Cert.InOddIdeal.main_v2_6)),
      θ_run (Cert.InOddIdeal.defs (F := Ideal)) (onTc (τ := Cert.InOddIdeal.τ) (Cert.InOddIdeal.main (F := Ideal))) ⟨m, fun _ => 0, g⟩ (fun r => ∀ c : Dev Cert.InOddIdeal.nD,
          r.2.mem ((c.tc : Thread Cert.InOddIdeal.nD Cert.InOddIdeal.τ).loc Cert.InOddIdeal.main_v2_0) = v0 c
          ∧ r.2.mem ((c.tc : Thread Cert.InOddIdeal.nD Cert.InOddIdeal.τ).loc Cert.InOddIdeal.main_v2_1) = v1 c
          ∧ r.2.mem ((c.tc : Thread Cert.InOddIdeal.nD Cert.InOddIdeal.τ).loc Cert.InOddIdeal.main_v2_2) = v2 c
          ∧ r.2.mem ((c.tc : Thread Cert.InOddIdeal.nD Cert.InOddIdeal.τ).loc Cert.InOddIdeal.main_v2_3) = v3 c
          ∧ r.2.mem ((c.tc : Thread Cert.InOddIdeal.nD Cert.InOddIdeal.τ).loc Cert.InOddIdeal.main_v2_6) = v4 c
          ∧ r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
          ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
          ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2)
          ∧ r.2.mem ((c.tc : Thread Cert.InOddIdeal.nD Cert.InOddIdeal.τ).loc Cert.InOddIdeal.main_arg3) = m ((c.tc : Thread Cert.InOddIdeal.nD Cert.InOddIdeal.τ).loc Cert.InOddIdeal.main_arg3))
      ∧ θ_run (Cert.InOddRefIdeal.defs (F := Ideal)) (onTc (τ := Cert.InOddRefIdeal.τ) (Cert.InOddRefIdeal.main (F := Ideal))) ⟨m', fun _ => 0, g'⟩ (fun r => ∀ c : Dev Cert.InOddRefIdeal.nD,
          r.2.mem ((c.tc : Thread Cert.InOddRefIdeal.nD Cert.InOddRefIdeal.τ).loc Cert.InOddRefIdeal.main_v24) = v0 c
          ∧ r.2.mem ((c.tc : Thread Cert.InOddRefIdeal.nD Cert.InOddRefIdeal.τ).loc Cert.InOddRefIdeal.main_v25) = v1 c
          ∧ r.2.mem ((c.tc : Thread Cert.InOddRefIdeal.nD Cert.InOddRefIdeal.τ).loc Cert.InOddRefIdeal.main_v35) = v2 c
          ∧ r.2.mem ((c.tc : Thread Cert.InOddRefIdeal.nD Cert.InOddRefIdeal.τ).loc Cert.InOddRefIdeal.main_v29) = v3 c
          ∧ r.2.mem ((c.tc : Thread Cert.InOddRefIdeal.nD Cert.InOddRefIdeal.τ).loc Cert.InOddRefIdeal.main_v34) = v4 c
          ∧ r.2.mem ((c.tc : Thread Cert.InOddRefIdeal.nD Cert.InOddRefIdeal.τ).loc Cert.InOddRefIdeal.main_arg0) = m' ((c.tc : Thread Cert.InOddRefIdeal.nD Cert.InOddRefIdeal.τ).loc Cert.InOddRefIdeal.main_arg0)
          ∧ r.2.mem ((c.tc : Thread Cert.InOddRefIdeal.nD Cert.InOddRefIdeal.τ).loc Cert.InOddRefIdeal.main_arg1) = m' ((c.tc : Thread Cert.InOddRefIdeal.nD Cert.InOddRefIdeal.τ).loc Cert.InOddRefIdeal.main_arg1)
          ∧ r.2.mem ((c.tc : Thread Cert.InOddRefIdeal.nD Cert.InOddRefIdeal.τ).loc Cert.InOddRefIdeal.main_arg2) = m' ((c.tc : Thread Cert.InOddRefIdeal.nD Cert.InOddRefIdeal.τ).loc Cert.InOddRefIdeal.main_arg2)
          ∧ r.2.mem ((c.tc : Thread Cert.InOddRefIdeal.nD Cert.InOddRefIdeal.τ).loc Cert.InOddRefIdeal.main_arg3) = m' ((c.tc : Thread Cert.InOddRefIdeal.nD Cert.InOddRefIdeal.τ).loc Cert.InOddRefIdeal.main_arg3))

def preserves_OutOdd_OutOddIdeal : Prop :=
  True

def algebraic_OutOddIdeal_OutOddRefIdeal [hOutOddIdeal : Cert.OutOddIdeal.Facts] [hOutOddRefIdeal : Cert.OutOddRefIdeal.Facts] : Prop :=
  ∀ (m : (ℓ : Loc Cert.OutOddIdeal.nD Cert.OutOddIdeal.τ Cert.OutOddIdeal.sig) → Buf (Elt Ideal) ℓ) (g : Dev Cert.OutOddIdeal.nD → PrngReg)
    (m' : (ℓ : Loc Cert.OutOddRefIdeal.nD Cert.OutOddRefIdeal.τ Cert.OutOddRefIdeal.sig) → Buf (Elt Ideal) ℓ) (g' : Dev Cert.OutOddRefIdeal.nD → PrngReg), Pre_OutOddIdeal m →
    (∀ c : Dev Cert.OutOddIdeal.nD,
      m' ((c.tc : Thread Cert.OutOddRefIdeal.nD Cert.OutOddRefIdeal.τ).loc Cert.OutOddRefIdeal.main_arg0) = m ((c.tc : Thread Cert.OutOddIdeal.nD Cert.OutOddIdeal.τ).loc Cert.OutOddIdeal.main_arg0)
      ∧ m' ((c.tc : Thread Cert.OutOddRefIdeal.nD Cert.OutOddRefIdeal.τ).loc Cert.OutOddRefIdeal.main_arg1) = m ((c.tc : Thread Cert.OutOddIdeal.nD Cert.OutOddIdeal.τ).loc Cert.OutOddIdeal.main_arg1)
      ∧ m' ((c.tc : Thread Cert.OutOddRefIdeal.nD Cert.OutOddRefIdeal.τ).loc Cert.OutOddRefIdeal.main_arg2) = m ((c.tc : Thread Cert.OutOddIdeal.nD Cert.OutOddIdeal.τ).loc Cert.OutOddIdeal.main_arg2)
      ∧ m' ((c.tc : Thread Cert.OutOddRefIdeal.nD Cert.OutOddRefIdeal.τ).loc Cert.OutOddRefIdeal.main_arg3) = m ((c.tc : Thread Cert.OutOddIdeal.nD Cert.OutOddIdeal.τ).loc Cert.OutOddIdeal.main_arg3)
      ∧ m' ((c.tc : Thread Cert.OutOddRefIdeal.nD Cert.OutOddRefIdeal.τ).loc Cert.OutOddRefIdeal.main_arg4) = m ((c.tc : Thread Cert.OutOddIdeal.nD Cert.OutOddIdeal.τ).loc Cert.OutOddIdeal.main_arg4)
      ∧ m' ((c.tc : Thread Cert.OutOddRefIdeal.nD Cert.OutOddRefIdeal.τ).loc Cert.OutOddRefIdeal.main_arg5) = m ((c.tc : Thread Cert.OutOddIdeal.nD Cert.OutOddIdeal.τ).loc Cert.OutOddIdeal.main_arg5)) →
    ∃ (v0 : (c : Dev Cert.OutOddIdeal.nD) → Buf (Elt Ideal) ((c.tc : Thread Cert.OutOddIdeal.nD Cert.OutOddIdeal.τ).loc Cert.OutOddIdeal.main_v2)),
      θ_run (Cert.OutOddIdeal.defs (F := Ideal)) (onTc (τ := Cert.OutOddIdeal.τ) (Cert.OutOddIdeal.main (F := Ideal))) ⟨m, fun _ => 0, g⟩ (fun r => ∀ c : Dev Cert.OutOddIdeal.nD,
          r.2.mem ((c.tc : Thread Cert.OutOddIdeal.nD Cert.OutOddIdeal.τ).loc Cert.OutOddIdeal.main_v2) = v0 c
          ∧ r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
          ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
          ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
          ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3)
          ∧ r.2.mem ((c.tc : Thread Cert.OutOddIdeal.nD Cert.OutOddIdeal.τ).loc Cert.OutOddIdeal.main_arg4) = m ((c.tc : Thread Cert.OutOddIdeal.nD Cert.OutOddIdeal.τ).loc Cert.OutOddIdeal.main_arg4)
          ∧ r.2.mem ((c.tc : Thread Cert.OutOddIdeal.nD Cert.OutOddIdeal.τ).loc Cert.OutOddIdeal.main_arg5) = m ((c.tc : Thread Cert.OutOddIdeal.nD Cert.OutOddIdeal.τ).loc Cert.OutOddIdeal.main_arg5))
      ∧ θ_run (Cert.OutOddRefIdeal.defs (F := Ideal)) (onTc (τ := Cert.OutOddRefIdeal.τ) (Cert.OutOddRefIdeal.main (F := Ideal))) ⟨m', fun _ => 0, g'⟩ (fun r => ∀ c : Dev Cert.OutOddRefIdeal.nD,
          r.2.mem ((c.tc : Thread Cert.OutOddRefIdeal.nD Cert.OutOddRefIdeal.τ).loc Cert.OutOddRefIdeal.main_v24) = v0 c
          ∧ r.2.mem ((c.tc : Thread Cert.OutOddRefIdeal.nD Cert.OutOddRefIdeal.τ).loc Cert.OutOddRefIdeal.main_arg0) = m' ((c.tc : Thread Cert.OutOddRefIdeal.nD Cert.OutOddRefIdeal.τ).loc Cert.OutOddRefIdeal.main_arg0)
          ∧ r.2.mem ((c.tc : Thread Cert.OutOddRefIdeal.nD Cert.OutOddRefIdeal.τ).loc Cert.OutOddRefIdeal.main_arg1) = m' ((c.tc : Thread Cert.OutOddRefIdeal.nD Cert.OutOddRefIdeal.τ).loc Cert.OutOddRefIdeal.main_arg1)
          ∧ r.2.mem ((c.tc : Thread Cert.OutOddRefIdeal.nD Cert.OutOddRefIdeal.τ).loc Cert.OutOddRefIdeal.main_arg2) = m' ((c.tc : Thread Cert.OutOddRefIdeal.nD Cert.OutOddRefIdeal.τ).loc Cert.OutOddRefIdeal.main_arg2)
          ∧ r.2.mem ((c.tc : Thread Cert.OutOddRefIdeal.nD Cert.OutOddRefIdeal.τ).loc Cert.OutOddRefIdeal.main_arg3) = m' ((c.tc : Thread Cert.OutOddRefIdeal.nD Cert.OutOddRefIdeal.τ).loc Cert.OutOddRefIdeal.main_arg3)
          ∧ r.2.mem ((c.tc : Thread Cert.OutOddRefIdeal.nD Cert.OutOddRefIdeal.τ).loc Cert.OutOddRefIdeal.main_arg4) = m' ((c.tc : Thread Cert.OutOddRefIdeal.nD Cert.OutOddRefIdeal.τ).loc Cert.OutOddRefIdeal.main_arg4)
          ∧ r.2.mem ((c.tc : Thread Cert.OutOddRefIdeal.nD Cert.OutOddRefIdeal.τ).loc Cert.OutOddRefIdeal.main_arg5) = m' ((c.tc : Thread Cert.OutOddRefIdeal.nD Cert.OutOddRefIdeal.τ).loc Cert.OutOddRefIdeal.main_arg5))

def preserves_Adaln_AdalnIdeal : Prop :=
  True

def algebraic_AdalnIdeal_AdalnRefIdeal [hAdalnIdeal : Cert.AdalnIdeal.Facts] [hAdalnRefIdeal : Cert.AdalnRefIdeal.Facts] : Prop :=
  ∀ (m : (ℓ : Loc Cert.AdalnIdeal.nD Cert.AdalnIdeal.τ Cert.AdalnIdeal.sig) → Buf (Elt Ideal) ℓ) (g : Dev Cert.AdalnIdeal.nD → PrngReg)
    (m' : (ℓ : Loc Cert.AdalnRefIdeal.nD Cert.AdalnRefIdeal.τ Cert.AdalnRefIdeal.sig) → Buf (Elt Ideal) ℓ) (g' : Dev Cert.AdalnRefIdeal.nD → PrngReg), Pre_AdalnIdeal m →
    (∀ c : Dev Cert.AdalnIdeal.nD,
      m' ((c.tc : Thread Cert.AdalnRefIdeal.nD Cert.AdalnRefIdeal.τ).loc Cert.AdalnRefIdeal.main_arg0) = m ((c.tc : Thread Cert.AdalnIdeal.nD Cert.AdalnIdeal.τ).loc Cert.AdalnIdeal.main_arg0)
      ∧ m' ((c.tc : Thread Cert.AdalnRefIdeal.nD Cert.AdalnRefIdeal.τ).loc Cert.AdalnRefIdeal.main_arg1) = m ((c.tc : Thread Cert.AdalnIdeal.nD Cert.AdalnIdeal.τ).loc Cert.AdalnIdeal.main_arg1)
      ∧ m' ((c.tc : Thread Cert.AdalnRefIdeal.nD Cert.AdalnRefIdeal.τ).loc Cert.AdalnRefIdeal.main_arg2) = m ((c.tc : Thread Cert.AdalnIdeal.nD Cert.AdalnIdeal.τ).loc Cert.AdalnIdeal.main_arg2)) →
    ∃ (v0 : (c : Dev Cert.AdalnIdeal.nD) → Buf (Elt Ideal) ((c.tc : Thread Cert.AdalnIdeal.nD Cert.AdalnIdeal.τ).loc Cert.AdalnIdeal.main_v1)),
      θ_run (Cert.AdalnIdeal.defs (F := Ideal)) (onTc (τ := Cert.AdalnIdeal.τ) (Cert.AdalnIdeal.main (F := Ideal))) ⟨m, fun _ => 0, g⟩ (fun r => ∀ c : Dev Cert.AdalnIdeal.nD,
          r.2.mem ((c.tc : Thread Cert.AdalnIdeal.nD Cert.AdalnIdeal.τ).loc Cert.AdalnIdeal.main_v1) = v0 c
          ∧ r.2.mem ((c.tc : Thread Cert.AdalnIdeal.nD Cert.AdalnIdeal.τ).loc Cert.AdalnIdeal.main_arg0) = m ((c.tc : Thread Cert.AdalnIdeal.nD Cert.AdalnIdeal.τ).loc Cert.AdalnIdeal.main_arg0)
          ∧ r.2.mem ((c.tc : Thread Cert.AdalnIdeal.nD Cert.AdalnIdeal.τ).loc Cert.AdalnIdeal.main_arg1) = m ((c.tc : Thread Cert.AdalnIdeal.nD Cert.AdalnIdeal.τ).loc Cert.AdalnIdeal.main_arg1)
          ∧ r.2.mem ((c.tc : Thread Cert.AdalnIdeal.nD Cert.AdalnIdeal.τ).loc Cert.AdalnIdeal.main_arg2) = m ((c.tc : Thread Cert.AdalnIdeal.nD Cert.AdalnIdeal.τ).loc Cert.AdalnIdeal.main_arg2))
      ∧ θ_run (Cert.AdalnRefIdeal.defs (F := Ideal)) (onTc (τ := Cert.AdalnRefIdeal.τ) (Cert.AdalnRefIdeal.main (F := Ideal))) ⟨m', fun _ => 0, g'⟩ (fun r => ∀ c : Dev Cert.AdalnRefIdeal.nD,
          r.2.mem ((c.tc : Thread Cert.AdalnRefIdeal.nD Cert.AdalnRefIdeal.τ).loc Cert.AdalnRefIdeal.main_v20) = v0 c
          ∧ r.2.mem ((c.tc : Thread Cert.AdalnRefIdeal.nD Cert.AdalnRefIdeal.τ).loc Cert.AdalnRefIdeal.main_arg0) = m' ((c.tc : Thread Cert.AdalnRefIdeal.nD Cert.AdalnRefIdeal.τ).loc Cert.AdalnRefIdeal.main_arg0)
          ∧ r.2.mem ((c.tc : Thread Cert.AdalnRefIdeal.nD Cert.AdalnRefIdeal.τ).loc Cert.AdalnRefIdeal.main_arg1) = m' ((c.tc : Thread Cert.AdalnRefIdeal.nD Cert.AdalnRefIdeal.τ).loc Cert.AdalnRefIdeal.main_arg1)
          ∧ r.2.mem ((c.tc : Thread Cert.AdalnRefIdeal.nD Cert.AdalnRefIdeal.τ).loc Cert.AdalnRefIdeal.main_arg2) = m' ((c.tc : Thread Cert.AdalnRefIdeal.nD Cert.AdalnRefIdeal.τ).loc Cert.AdalnRefIdeal.main_arg2))

def preserves_Params_ParamsIdeal : Prop :=
  True

def algebraic_ParamsIdeal_ParamsRefIdeal [hParamsIdeal : Cert.ParamsIdeal.Facts] [hParamsRefIdeal : Cert.ParamsRefIdeal.Facts] : Prop :=
  ∀ (m : (ℓ : Loc Cert.ParamsIdeal.nD Cert.ParamsIdeal.τ Cert.ParamsIdeal.sig) → Buf (Elt Ideal) ℓ) (g : Dev Cert.ParamsIdeal.nD → PrngReg)
    (m' : (ℓ : Loc Cert.ParamsRefIdeal.nD Cert.ParamsRefIdeal.τ Cert.ParamsRefIdeal.sig) → Buf (Elt Ideal) ℓ) (g' : Dev Cert.ParamsRefIdeal.nD → PrngReg), Pre_ParamsIdeal m →
    (∀ c : Dev Cert.ParamsIdeal.nD,
      m' ((c.tc : Thread Cert.ParamsRefIdeal.nD Cert.ParamsRefIdeal.τ).loc Cert.ParamsRefIdeal.main_arg0) = m ((c.tc : Thread Cert.ParamsIdeal.nD Cert.ParamsIdeal.τ).loc Cert.ParamsIdeal.main_arg0)
      ∧ m' ((c.tc : Thread Cert.ParamsRefIdeal.nD Cert.ParamsRefIdeal.τ).loc Cert.ParamsRefIdeal.main_arg1) = m ((c.tc : Thread Cert.ParamsIdeal.nD Cert.ParamsIdeal.τ).loc Cert.ParamsIdeal.main_arg1)
      ∧ m' ((c.tc : Thread Cert.ParamsRefIdeal.nD Cert.ParamsRefIdeal.τ).loc Cert.ParamsRefIdeal.main_arg2) = m ((c.tc : Thread Cert.ParamsIdeal.nD Cert.ParamsIdeal.τ).loc Cert.ParamsIdeal.main_arg2)
      ∧ m' ((c.tc : Thread Cert.ParamsRefIdeal.nD Cert.ParamsRefIdeal.τ).loc Cert.ParamsRefIdeal.main_arg3) = m ((c.tc : Thread Cert.ParamsIdeal.nD Cert.ParamsIdeal.τ).loc Cert.ParamsIdeal.main_arg3)
      ∧ m' ((c.tc : Thread Cert.ParamsRefIdeal.nD Cert.ParamsRefIdeal.τ).loc Cert.ParamsRefIdeal.main_arg4) = m ((c.tc : Thread Cert.ParamsIdeal.nD Cert.ParamsIdeal.τ).loc Cert.ParamsIdeal.main_arg4)) →
    ∃ (v0 : (c : Dev Cert.ParamsIdeal.nD) → Buf (Elt Ideal) ((c.tc : Thread Cert.ParamsIdeal.nD Cert.ParamsIdeal.τ).loc Cert.ParamsIdeal.main_v12_0)) (v1 : (c : Dev Cert.ParamsIdeal.nD) → Buf (Elt Ideal) ((c.tc : Thread Cert.ParamsIdeal.nD Cert.ParamsIdeal.τ).loc Cert.ParamsIdeal.main_v12_1)) (v2 : (c : Dev Cert.ParamsIdeal.nD) → Buf (Elt Ideal) ((c.tc : Thread Cert.ParamsIdeal.nD Cert.ParamsIdeal.τ).loc Cert.ParamsIdeal.main_v12_2)) (v3 : (c : Dev Cert.ParamsIdeal.nD) → Buf (Elt Ideal) ((c.tc : Thread Cert.ParamsIdeal.nD Cert.ParamsIdeal.τ).loc Cert.ParamsIdeal.main_v12_3)),
      θ_run (Cert.ParamsIdeal.defs (F := Ideal)) (onTc (τ := Cert.ParamsIdeal.τ) (Cert.ParamsIdeal.main (F := Ideal))) ⟨m, fun _ => 0, g⟩ (fun r => ∀ c : Dev Cert.ParamsIdeal.nD,
          r.2.mem ((c.tc : Thread Cert.ParamsIdeal.nD Cert.ParamsIdeal.τ).loc Cert.ParamsIdeal.main_v12_0) = v0 c
          ∧ r.2.mem ((c.tc : Thread Cert.ParamsIdeal.nD Cert.ParamsIdeal.τ).loc Cert.ParamsIdeal.main_v12_1) = v1 c
          ∧ r.2.mem ((c.tc : Thread Cert.ParamsIdeal.nD Cert.ParamsIdeal.τ).loc Cert.ParamsIdeal.main_v12_2) = v2 c
          ∧ r.2.mem ((c.tc : Thread Cert.ParamsIdeal.nD Cert.ParamsIdeal.τ).loc Cert.ParamsIdeal.main_v12_3) = v3 c
          ∧ r.2.mem ((c.tc : Thread Cert.ParamsIdeal.nD Cert.ParamsIdeal.τ).loc Cert.ParamsIdeal.main_arg0) = m ((c.tc : Thread Cert.ParamsIdeal.nD Cert.ParamsIdeal.τ).loc Cert.ParamsIdeal.main_arg0)
          ∧ r.2.mem ((c.tc : Thread Cert.ParamsIdeal.nD Cert.ParamsIdeal.τ).loc Cert.ParamsIdeal.main_arg1) = m ((c.tc : Thread Cert.ParamsIdeal.nD Cert.ParamsIdeal.τ).loc Cert.ParamsIdeal.main_arg1)
          ∧ r.2.mem ((c.tc : Thread Cert.ParamsIdeal.nD Cert.ParamsIdeal.τ).loc Cert.ParamsIdeal.main_arg2) = m ((c.tc : Thread Cert.ParamsIdeal.nD Cert.ParamsIdeal.τ).loc Cert.ParamsIdeal.main_arg2)
          ∧ r.2.mem ((c.tc : Thread Cert.ParamsIdeal.nD Cert.ParamsIdeal.τ).loc Cert.ParamsIdeal.main_arg3) = m ((c.tc : Thread Cert.ParamsIdeal.nD Cert.ParamsIdeal.τ).loc Cert.ParamsIdeal.main_arg3)
          ∧ r.2.mem ((c.tc : Thread Cert.ParamsIdeal.nD Cert.ParamsIdeal.τ).loc Cert.ParamsIdeal.main_arg4) = m ((c.tc : Thread Cert.ParamsIdeal.nD Cert.ParamsIdeal.τ).loc Cert.ParamsIdeal.main_arg4))
      ∧ θ_run (Cert.ParamsRefIdeal.defs (F := Ideal)) (onTc (τ := Cert.ParamsRefIdeal.τ) (Cert.ParamsRefIdeal.main (F := Ideal))) ⟨m', fun _ => 0, g'⟩ (fun r => ∀ c : Dev Cert.ParamsRefIdeal.nD,
          r.2.mem ((c.tc : Thread Cert.ParamsRefIdeal.nD Cert.ParamsRefIdeal.τ).loc Cert.ParamsRefIdeal.main_v41) = v0 c
          ∧ r.2.mem ((c.tc : Thread Cert.ParamsRefIdeal.nD Cert.ParamsRefIdeal.τ).loc Cert.ParamsRefIdeal.main_v43) = v1 c
          ∧ r.2.mem ((c.tc : Thread Cert.ParamsRefIdeal.nD Cert.ParamsRefIdeal.τ).loc Cert.ParamsRefIdeal.main_v45) = v2 c
          ∧ r.2.mem ((c.tc : Thread Cert.ParamsRefIdeal.nD Cert.ParamsRefIdeal.τ).loc Cert.ParamsRefIdeal.main_v47) = v3 c
          ∧ r.2.mem ((c.tc : Thread Cert.ParamsRefIdeal.nD Cert.ParamsRefIdeal.τ).loc Cert.ParamsRefIdeal.main_arg0) = m' ((c.tc : Thread Cert.ParamsRefIdeal.nD Cert.ParamsRefIdeal.τ).loc Cert.ParamsRefIdeal.main_arg0)
          ∧ r.2.mem ((c.tc : Thread Cert.ParamsRefIdeal.nD Cert.ParamsRefIdeal.τ).loc Cert.ParamsRefIdeal.main_arg1) = m' ((c.tc : Thread Cert.ParamsRefIdeal.nD Cert.ParamsRefIdeal.τ).loc Cert.ParamsRefIdeal.main_arg1)
          ∧ r.2.mem ((c.tc : Thread Cert.ParamsRefIdeal.nD Cert.ParamsRefIdeal.τ).loc Cert.ParamsRefIdeal.main_arg2) = m' ((c.tc : Thread Cert.ParamsRefIdeal.nD Cert.ParamsRefIdeal.τ).loc Cert.ParamsRefIdeal.main_arg2)
          ∧ r.2.mem ((c.tc : Thread Cert.ParamsRefIdeal.nD Cert.ParamsRefIdeal.τ).loc Cert.ParamsRefIdeal.main_arg3) = m' ((c.tc : Thread Cert.ParamsRefIdeal.nD Cert.ParamsRefIdeal.τ).loc Cert.ParamsRefIdeal.main_arg3)
          ∧ r.2.mem ((c.tc : Thread Cert.ParamsRefIdeal.nD Cert.ParamsRefIdeal.τ).loc Cert.ParamsRefIdeal.main_arg4) = m' ((c.tc : Thread Cert.ParamsRefIdeal.nD Cert.ParamsRefIdeal.τ).loc Cert.ParamsRefIdeal.main_arg4))

def preserves_InEvenS_InEvenSIdeal : Prop :=
  True

def algebraic_InEvenSIdeal_InEvenSRefIdeal [hInEvenSIdeal : Cert.InEvenSIdeal.Facts] [hInEvenSRefIdeal : Cert.InEvenSRefIdeal.Facts] : Prop :=
  ∀ (m : (ℓ : Loc Cert.InEvenSIdeal.nD Cert.InEvenSIdeal.τ Cert.InEvenSIdeal.sig) → Buf (Elt Ideal) ℓ) (g : Dev Cert.InEvenSIdeal.nD → PrngReg)
    (m' : (ℓ : Loc Cert.InEvenSRefIdeal.nD Cert.InEvenSRefIdeal.τ Cert.InEvenSRefIdeal.sig) → Buf (Elt Ideal) ℓ) (g' : Dev Cert.InEvenSRefIdeal.nD → PrngReg), Pre_InEvenSIdeal m →
    (∀ c : Dev Cert.InEvenSIdeal.nD,
      m' ((c.tc : Thread Cert.InEvenSRefIdeal.nD Cert.InEvenSRefIdeal.τ).loc Cert.InEvenSRefIdeal.main_arg0) = m ((c.tc : Thread Cert.InEvenSIdeal.nD Cert.InEvenSIdeal.τ).loc Cert.InEvenSIdeal.main_arg0)
      ∧ m' ((c.tc : Thread Cert.InEvenSRefIdeal.nD Cert.InEvenSRefIdeal.τ).loc Cert.InEvenSRefIdeal.main_arg1) = m ((c.tc : Thread Cert.InEvenSIdeal.nD Cert.InEvenSIdeal.τ).loc Cert.InEvenSIdeal.main_arg1)
      ∧ m' ((c.tc : Thread Cert.InEvenSRefIdeal.nD Cert.InEvenSRefIdeal.τ).loc Cert.InEvenSRefIdeal.main_arg2) = m ((c.tc : Thread Cert.InEvenSIdeal.nD Cert.InEvenSIdeal.τ).loc Cert.InEvenSIdeal.main_arg2)
      ∧ m' ((c.tc : Thread Cert.InEvenSRefIdeal.nD Cert.InEvenSRefIdeal.τ).loc Cert.InEvenSRefIdeal.main_arg3) = m ((c.tc : Thread Cert.InEvenSIdeal.nD Cert.InEvenSIdeal.τ).loc Cert.InEvenSIdeal.main_arg3)
      ∧ m' ((c.tc : Thread Cert.InEvenSRefIdeal.nD Cert.InEvenSRefIdeal.τ).loc Cert.InEvenSRefIdeal.main_arg4) = m ((c.tc : Thread Cert.InEvenSIdeal.nD Cert.InEvenSIdeal.τ).loc Cert.InEvenSIdeal.main_arg4)
      ∧ m' ((c.tc : Thread Cert.InEvenSRefIdeal.nD Cert.InEvenSRefIdeal.τ).loc Cert.InEvenSRefIdeal.main_arg5) = m ((c.tc : Thread Cert.InEvenSIdeal.nD Cert.InEvenSIdeal.τ).loc Cert.InEvenSIdeal.main_arg5)
      ∧ m' ((c.tc : Thread Cert.InEvenSRefIdeal.nD Cert.InEvenSRefIdeal.τ).loc Cert.InEvenSRefIdeal.main_arg6) = m ((c.tc : Thread Cert.InEvenSIdeal.nD Cert.InEvenSIdeal.τ).loc Cert.InEvenSIdeal.main_arg6)) →
    ∃ (v0 : (c : Dev Cert.InEvenSIdeal.nD) → Buf (Elt Ideal) ((c.tc : Thread Cert.InEvenSIdeal.nD Cert.InEvenSIdeal.τ).loc Cert.InEvenSIdeal.main_v3_0)) (v1 : (c : Dev Cert.InEvenSIdeal.nD) → Buf (Elt Ideal) ((c.tc : Thread Cert.InEvenSIdeal.nD Cert.InEvenSIdeal.τ).loc Cert.InEvenSIdeal.main_v3_1)) (v2 : (c : Dev Cert.InEvenSIdeal.nD) → Buf (Elt Ideal) ((c.tc : Thread Cert.InEvenSIdeal.nD Cert.InEvenSIdeal.τ).loc Cert.InEvenSIdeal.main_v3_2)) (v3 : (c : Dev Cert.InEvenSIdeal.nD) → Buf (Elt Ideal) ((c.tc : Thread Cert.InEvenSIdeal.nD Cert.InEvenSIdeal.τ).loc Cert.InEvenSIdeal.main_v3_3)),
      θ_run (Cert.InEvenSIdeal.defs (F := Ideal)) (onTc (τ := Cert.InEvenSIdeal.τ) (Cert.InEvenSIdeal.main (F := Ideal))) ⟨m, fun _ => 0, g⟩ (fun r => ∀ c : Dev Cert.InEvenSIdeal.nD,
          r.2.mem ((c.tc : Thread Cert.InEvenSIdeal.nD Cert.InEvenSIdeal.τ).loc Cert.InEvenSIdeal.main_v3_0) = v0 c
          ∧ r.2.mem ((c.tc : Thread Cert.InEvenSIdeal.nD Cert.InEvenSIdeal.τ).loc Cert.InEvenSIdeal.main_v3_1) = v1 c
          ∧ r.2.mem ((c.tc : Thread Cert.InEvenSIdeal.nD Cert.InEvenSIdeal.τ).loc Cert.InEvenSIdeal.main_v3_2) = v2 c
          ∧ r.2.mem ((c.tc : Thread Cert.InEvenSIdeal.nD Cert.InEvenSIdeal.τ).loc Cert.InEvenSIdeal.main_v3_3) = v3 c
          ∧ r.2.mem ((c.tc : Thread Cert.InEvenSIdeal.nD Cert.InEvenSIdeal.τ).loc Cert.InEvenSIdeal.main_arg0) = m ((c.tc : Thread Cert.InEvenSIdeal.nD Cert.InEvenSIdeal.τ).loc Cert.InEvenSIdeal.main_arg0)
          ∧ r.2.mem ((c.tc : Thread Cert.InEvenSIdeal.nD Cert.InEvenSIdeal.τ).loc Cert.InEvenSIdeal.main_arg1) = m ((c.tc : Thread Cert.InEvenSIdeal.nD Cert.InEvenSIdeal.τ).loc Cert.InEvenSIdeal.main_arg1)
          ∧ r.2.mem ((c.tc : Thread Cert.InEvenSIdeal.nD Cert.InEvenSIdeal.τ).loc Cert.InEvenSIdeal.main_arg2) = m ((c.tc : Thread Cert.InEvenSIdeal.nD Cert.InEvenSIdeal.τ).loc Cert.InEvenSIdeal.main_arg2)
          ∧ r.2.mem ((c.tc : Thread Cert.InEvenSIdeal.nD Cert.InEvenSIdeal.τ).loc Cert.InEvenSIdeal.main_arg3) = m ((c.tc : Thread Cert.InEvenSIdeal.nD Cert.InEvenSIdeal.τ).loc Cert.InEvenSIdeal.main_arg3)
          ∧ r.2.mem ((c.tc : Thread Cert.InEvenSIdeal.nD Cert.InEvenSIdeal.τ).loc Cert.InEvenSIdeal.main_arg4) = m ((c.tc : Thread Cert.InEvenSIdeal.nD Cert.InEvenSIdeal.τ).loc Cert.InEvenSIdeal.main_arg4)
          ∧ r.2.mem ((c.tc : Thread Cert.InEvenSIdeal.nD Cert.InEvenSIdeal.τ).loc Cert.InEvenSIdeal.main_arg5) = m ((c.tc : Thread Cert.InEvenSIdeal.nD Cert.InEvenSIdeal.τ).loc Cert.InEvenSIdeal.main_arg5)
          ∧ r.2.mem ((c.tc : Thread Cert.InEvenSIdeal.nD Cert.InEvenSIdeal.τ).loc Cert.InEvenSIdeal.main_arg6) = m ((c.tc : Thread Cert.InEvenSIdeal.nD Cert.InEvenSIdeal.τ).loc Cert.InEvenSIdeal.main_arg6))
      ∧ θ_run (Cert.InEvenSRefIdeal.defs (F := Ideal)) (onTc (τ := Cert.InEvenSRefIdeal.τ) (Cert.InEvenSRefIdeal.main (F := Ideal))) ⟨m', fun _ => 0, g'⟩ (fun r => ∀ c : Dev Cert.InEvenSRefIdeal.nD,
          r.2.mem ((c.tc : Thread Cert.InEvenSRefIdeal.nD Cert.InEvenSRefIdeal.τ).loc Cert.InEvenSRefIdeal.main_v58) = v0 c
          ∧ r.2.mem ((c.tc : Thread Cert.InEvenSRefIdeal.nD Cert.InEvenSRefIdeal.τ).loc Cert.InEvenSRefIdeal.main_v27) = v1 c
          ∧ r.2.mem ((c.tc : Thread Cert.InEvenSRefIdeal.nD Cert.InEvenSRefIdeal.τ).loc Cert.InEvenSRefIdeal.main_v59) = v2 c
          ∧ r.2.mem ((c.tc : Thread Cert.InEvenSRefIdeal.nD Cert.InEvenSRefIdeal.τ).loc Cert.InEvenSRefIdeal.main_v60) = v3 c
          ∧ r.2.mem ((c.tc : Thread Cert.InEvenSRefIdeal.nD Cert.InEvenSRefIdeal.τ).loc Cert.InEvenSRefIdeal.main_arg0) = m' ((c.tc : Thread Cert.InEvenSRefIdeal.nD Cert.InEvenSRefIdeal.τ).loc Cert.InEvenSRefIdeal.main_arg0)
          ∧ r.2.mem ((c.tc : Thread Cert.InEvenSRefIdeal.nD Cert.InEvenSRefIdeal.τ).loc Cert.InEvenSRefIdeal.main_arg1) = m' ((c.tc : Thread Cert.InEvenSRefIdeal.nD Cert.InEvenSRefIdeal.τ).loc Cert.InEvenSRefIdeal.main_arg1)
          ∧ r.2.mem ((c.tc : Thread Cert.InEvenSRefIdeal.nD Cert.InEvenSRefIdeal.τ).loc Cert.InEvenSRefIdeal.main_arg2) = m' ((c.tc : Thread Cert.InEvenSRefIdeal.nD Cert.InEvenSRefIdeal.τ).loc Cert.InEvenSRefIdeal.main_arg2)
          ∧ r.2.mem ((c.tc : Thread Cert.InEvenSRefIdeal.nD Cert.InEvenSRefIdeal.τ).loc Cert.InEvenSRefIdeal.main_arg3) = m' ((c.tc : Thread Cert.InEvenSRefIdeal.nD Cert.InEvenSRefIdeal.τ).loc Cert.InEvenSRefIdeal.main_arg3)
          ∧ r.2.mem ((c.tc : Thread Cert.InEvenSRefIdeal.nD Cert.InEvenSRefIdeal.τ).loc Cert.InEvenSRefIdeal.main_arg4) = m' ((c.tc : Thread Cert.InEvenSRefIdeal.nD Cert.InEvenSRefIdeal.τ).loc Cert.InEvenSRefIdeal.main_arg4)
          ∧ r.2.mem ((c.tc : Thread Cert.InEvenSRefIdeal.nD Cert.InEvenSRefIdeal.τ).loc Cert.InEvenSRefIdeal.main_arg5) = m' ((c.tc : Thread Cert.InEvenSRefIdeal.nD Cert.InEvenSRefIdeal.τ).loc Cert.InEvenSRefIdeal.main_arg5)
          ∧ r.2.mem ((c.tc : Thread Cert.InEvenSRefIdeal.nD Cert.InEvenSRefIdeal.τ).loc Cert.InEvenSRefIdeal.main_arg6) = m' ((c.tc : Thread Cert.InEvenSRefIdeal.nD Cert.InEvenSRefIdeal.τ).loc Cert.InEvenSRefIdeal.main_arg6))

def preserves_OutEvenS_OutEvenSIdeal : Prop :=
  True

def algebraic_OutEvenSIdeal_OutEvenSRefIdeal [hOutEvenSIdeal : Cert.OutEvenSIdeal.Facts] [hOutEvenSRefIdeal : Cert.OutEvenSRefIdeal.Facts] : Prop :=
  ∀ (m : (ℓ : Loc Cert.OutEvenSIdeal.nD Cert.OutEvenSIdeal.τ Cert.OutEvenSIdeal.sig) → Buf (Elt Ideal) ℓ) (g : Dev Cert.OutEvenSIdeal.nD → PrngReg)
    (m' : (ℓ : Loc Cert.OutEvenSRefIdeal.nD Cert.OutEvenSRefIdeal.τ Cert.OutEvenSRefIdeal.sig) → Buf (Elt Ideal) ℓ) (g' : Dev Cert.OutEvenSRefIdeal.nD → PrngReg), Pre_OutEvenSIdeal m →
    (∀ c : Dev Cert.OutEvenSIdeal.nD,
      m' ((c.tc : Thread Cert.OutEvenSRefIdeal.nD Cert.OutEvenSRefIdeal.τ).loc Cert.OutEvenSRefIdeal.main_arg0) = m ((c.tc : Thread Cert.OutEvenSIdeal.nD Cert.OutEvenSIdeal.τ).loc Cert.OutEvenSIdeal.main_arg0)
      ∧ m' ((c.tc : Thread Cert.OutEvenSRefIdeal.nD Cert.OutEvenSRefIdeal.τ).loc Cert.OutEvenSRefIdeal.main_arg1) = m ((c.tc : Thread Cert.OutEvenSIdeal.nD Cert.OutEvenSIdeal.τ).loc Cert.OutEvenSIdeal.main_arg1)
      ∧ m' ((c.tc : Thread Cert.OutEvenSRefIdeal.nD Cert.OutEvenSRefIdeal.τ).loc Cert.OutEvenSRefIdeal.main_arg2) = m ((c.tc : Thread Cert.OutEvenSIdeal.nD Cert.OutEvenSIdeal.τ).loc Cert.OutEvenSIdeal.main_arg2)
      ∧ m' ((c.tc : Thread Cert.OutEvenSRefIdeal.nD Cert.OutEvenSRefIdeal.τ).loc Cert.OutEvenSRefIdeal.main_arg3) = m ((c.tc : Thread Cert.OutEvenSIdeal.nD Cert.OutEvenSIdeal.τ).loc Cert.OutEvenSIdeal.main_arg3)
      ∧ m' ((c.tc : Thread Cert.OutEvenSRefIdeal.nD Cert.OutEvenSRefIdeal.τ).loc Cert.OutEvenSRefIdeal.main_arg4) = m ((c.tc : Thread Cert.OutEvenSIdeal.nD Cert.OutEvenSIdeal.τ).loc Cert.OutEvenSIdeal.main_arg4)
      ∧ m' ((c.tc : Thread Cert.OutEvenSRefIdeal.nD Cert.OutEvenSRefIdeal.τ).loc Cert.OutEvenSRefIdeal.main_arg5) = m ((c.tc : Thread Cert.OutEvenSIdeal.nD Cert.OutEvenSIdeal.τ).loc Cert.OutEvenSIdeal.main_arg5)
      ∧ m' ((c.tc : Thread Cert.OutEvenSRefIdeal.nD Cert.OutEvenSRefIdeal.τ).loc Cert.OutEvenSRefIdeal.main_arg6) = m ((c.tc : Thread Cert.OutEvenSIdeal.nD Cert.OutEvenSIdeal.τ).loc Cert.OutEvenSIdeal.main_arg6)
      ∧ m' ((c.tc : Thread Cert.OutEvenSRefIdeal.nD Cert.OutEvenSRefIdeal.τ).loc Cert.OutEvenSRefIdeal.main_arg7) = m ((c.tc : Thread Cert.OutEvenSIdeal.nD Cert.OutEvenSIdeal.τ).loc Cert.OutEvenSIdeal.main_arg7)) →
    ∃ (v0 : (c : Dev Cert.OutEvenSIdeal.nD) → Buf (Elt Ideal) ((c.tc : Thread Cert.OutEvenSIdeal.nD Cert.OutEvenSIdeal.τ).loc Cert.OutEvenSIdeal.main_v3)),
      θ_run (Cert.OutEvenSIdeal.defs (F := Ideal)) (onTc (τ := Cert.OutEvenSIdeal.τ) (Cert.OutEvenSIdeal.main (F := Ideal))) ⟨m, fun _ => 0, g⟩ (fun r => ∀ c : Dev Cert.OutEvenSIdeal.nD,
          r.2.mem ((c.tc : Thread Cert.OutEvenSIdeal.nD Cert.OutEvenSIdeal.τ).loc Cert.OutEvenSIdeal.main_v3) = v0 c
          ∧ r.2.mem ((c.tc : Thread Cert.OutEvenSIdeal.nD Cert.OutEvenSIdeal.τ).loc Cert.OutEvenSIdeal.main_arg0) = m ((c.tc : Thread Cert.OutEvenSIdeal.nD Cert.OutEvenSIdeal.τ).loc Cert.OutEvenSIdeal.main_arg0)
          ∧ r.2.mem ((c.tc : Thread Cert.OutEvenSIdeal.nD Cert.OutEvenSIdeal.τ).loc Cert.OutEvenSIdeal.main_arg1) = m ((c.tc : Thread Cert.OutEvenSIdeal.nD Cert.OutEvenSIdeal.τ).loc Cert.OutEvenSIdeal.main_arg1)
          ∧ r.2.mem ((c.tc : Thread Cert.OutEvenSIdeal.nD Cert.OutEvenSIdeal.τ).loc Cert.OutEvenSIdeal.main_arg2) = m ((c.tc : Thread Cert.OutEvenSIdeal.nD Cert.OutEvenSIdeal.τ).loc Cert.OutEvenSIdeal.main_arg2)
          ∧ r.2.mem ((c.tc : Thread Cert.OutEvenSIdeal.nD Cert.OutEvenSIdeal.τ).loc Cert.OutEvenSIdeal.main_arg3) = m ((c.tc : Thread Cert.OutEvenSIdeal.nD Cert.OutEvenSIdeal.τ).loc Cert.OutEvenSIdeal.main_arg3)
          ∧ r.2.mem ((c.tc : Thread Cert.OutEvenSIdeal.nD Cert.OutEvenSIdeal.τ).loc Cert.OutEvenSIdeal.main_arg4) = m ((c.tc : Thread Cert.OutEvenSIdeal.nD Cert.OutEvenSIdeal.τ).loc Cert.OutEvenSIdeal.main_arg4)
          ∧ r.2.mem ((c.tc : Thread Cert.OutEvenSIdeal.nD Cert.OutEvenSIdeal.τ).loc Cert.OutEvenSIdeal.main_arg5) = m ((c.tc : Thread Cert.OutEvenSIdeal.nD Cert.OutEvenSIdeal.τ).loc Cert.OutEvenSIdeal.main_arg5)
          ∧ r.2.mem ((c.tc : Thread Cert.OutEvenSIdeal.nD Cert.OutEvenSIdeal.τ).loc Cert.OutEvenSIdeal.main_arg6) = m ((c.tc : Thread Cert.OutEvenSIdeal.nD Cert.OutEvenSIdeal.τ).loc Cert.OutEvenSIdeal.main_arg6)
          ∧ r.2.mem ((c.tc : Thread Cert.OutEvenSIdeal.nD Cert.OutEvenSIdeal.τ).loc Cert.OutEvenSIdeal.main_arg7) = m ((c.tc : Thread Cert.OutEvenSIdeal.nD Cert.OutEvenSIdeal.τ).loc Cert.OutEvenSIdeal.main_arg7))
      ∧ θ_run (Cert.OutEvenSRefIdeal.defs (F := Ideal)) (onTc (τ := Cert.OutEvenSRefIdeal.τ) (Cert.OutEvenSRefIdeal.main (F := Ideal))) ⟨m', fun _ => 0, g'⟩ (fun r => ∀ c : Dev Cert.OutEvenSRefIdeal.nD,
          r.2.mem ((c.tc : Thread Cert.OutEvenSRefIdeal.nD Cert.OutEvenSRefIdeal.τ).loc Cert.OutEvenSRefIdeal.main_v44) = v0 c
          ∧ r.2.mem ((c.tc : Thread Cert.OutEvenSRefIdeal.nD Cert.OutEvenSRefIdeal.τ).loc Cert.OutEvenSRefIdeal.main_arg0) = m' ((c.tc : Thread Cert.OutEvenSRefIdeal.nD Cert.OutEvenSRefIdeal.τ).loc Cert.OutEvenSRefIdeal.main_arg0)
          ∧ r.2.mem ((c.tc : Thread Cert.OutEvenSRefIdeal.nD Cert.OutEvenSRefIdeal.τ).loc Cert.OutEvenSRefIdeal.main_arg1) = m' ((c.tc : Thread Cert.OutEvenSRefIdeal.nD Cert.OutEvenSRefIdeal.τ).loc Cert.OutEvenSRefIdeal.main_arg1)
          ∧ r.2.mem ((c.tc : Thread Cert.OutEvenSRefIdeal.nD Cert.OutEvenSRefIdeal.τ).loc Cert.OutEvenSRefIdeal.main_arg2) = m' ((c.tc : Thread Cert.OutEvenSRefIdeal.nD Cert.OutEvenSRefIdeal.τ).loc Cert.OutEvenSRefIdeal.main_arg2)
          ∧ r.2.mem ((c.tc : Thread Cert.OutEvenSRefIdeal.nD Cert.OutEvenSRefIdeal.τ).loc Cert.OutEvenSRefIdeal.main_arg3) = m' ((c.tc : Thread Cert.OutEvenSRefIdeal.nD Cert.OutEvenSRefIdeal.τ).loc Cert.OutEvenSRefIdeal.main_arg3)
          ∧ r.2.mem ((c.tc : Thread Cert.OutEvenSRefIdeal.nD Cert.OutEvenSRefIdeal.τ).loc Cert.OutEvenSRefIdeal.main_arg4) = m' ((c.tc : Thread Cert.OutEvenSRefIdeal.nD Cert.OutEvenSRefIdeal.τ).loc Cert.OutEvenSRefIdeal.main_arg4)
          ∧ r.2.mem ((c.tc : Thread Cert.OutEvenSRefIdeal.nD Cert.OutEvenSRefIdeal.τ).loc Cert.OutEvenSRefIdeal.main_arg5) = m' ((c.tc : Thread Cert.OutEvenSRefIdeal.nD Cert.OutEvenSRefIdeal.τ).loc Cert.OutEvenSRefIdeal.main_arg5)
          ∧ r.2.mem ((c.tc : Thread Cert.OutEvenSRefIdeal.nD Cert.OutEvenSRefIdeal.τ).loc Cert.OutEvenSRefIdeal.main_arg6) = m' ((c.tc : Thread Cert.OutEvenSRefIdeal.nD Cert.OutEvenSRefIdeal.τ).loc Cert.OutEvenSRefIdeal.main_arg6)
          ∧ r.2.mem ((c.tc : Thread Cert.OutEvenSRefIdeal.nD Cert.OutEvenSRefIdeal.τ).loc Cert.OutEvenSRefIdeal.main_arg7) = m' ((c.tc : Thread Cert.OutEvenSRefIdeal.nD Cert.OutEvenSRefIdeal.τ).loc Cert.OutEvenSRefIdeal.main_arg7))

def preserves_InOddS_InOddSIdeal : Prop :=
  True

def algebraic_InOddSIdeal_InOddSRefIdeal [hInOddSIdeal : Cert.InOddSIdeal.Facts] [hInOddSRefIdeal : Cert.InOddSRefIdeal.Facts] : Prop :=
  ∀ (m : (ℓ : Loc Cert.InOddSIdeal.nD Cert.InOddSIdeal.τ Cert.InOddSIdeal.sig) → Buf (Elt Ideal) ℓ) (g : Dev Cert.InOddSIdeal.nD → PrngReg)
    (m' : (ℓ : Loc Cert.InOddSRefIdeal.nD Cert.InOddSRefIdeal.τ Cert.InOddSRefIdeal.sig) → Buf (Elt Ideal) ℓ) (g' : Dev Cert.InOddSRefIdeal.nD → PrngReg), Pre_InOddSIdeal m →
    (∀ c : Dev Cert.InOddSIdeal.nD,
      m' ((c.tc : Thread Cert.InOddSRefIdeal.nD Cert.InOddSRefIdeal.τ).loc Cert.InOddSRefIdeal.main_arg0) = m ((c.tc : Thread Cert.InOddSIdeal.nD Cert.InOddSIdeal.τ).loc Cert.InOddSIdeal.main_arg0)
      ∧ m' ((c.tc : Thread Cert.InOddSRefIdeal.nD Cert.InOddSRefIdeal.τ).loc Cert.InOddSRefIdeal.main_arg1) = m ((c.tc : Thread Cert.InOddSIdeal.nD Cert.InOddSIdeal.τ).loc Cert.InOddSIdeal.main_arg1)
      ∧ m' ((c.tc : Thread Cert.InOddSRefIdeal.nD Cert.InOddSRefIdeal.τ).loc Cert.InOddSRefIdeal.main_arg2) = m ((c.tc : Thread Cert.InOddSIdeal.nD Cert.InOddSIdeal.τ).loc Cert.InOddSIdeal.main_arg2)
      ∧ m' ((c.tc : Thread Cert.InOddSRefIdeal.nD Cert.InOddSRefIdeal.τ).loc Cert.InOddSRefIdeal.main_arg3) = m ((c.tc : Thread Cert.InOddSIdeal.nD Cert.InOddSIdeal.τ).loc Cert.InOddSIdeal.main_arg3)) →
    ∃ (v0 : (c : Dev Cert.InOddSIdeal.nD) → Buf (Elt Ideal) ((c.tc : Thread Cert.InOddSIdeal.nD Cert.InOddSIdeal.τ).loc Cert.InOddSIdeal.main_v2_0)) (v1 : (c : Dev Cert.InOddSIdeal.nD) → Buf (Elt Ideal) ((c.tc : Thread Cert.InOddSIdeal.nD Cert.InOddSIdeal.τ).loc Cert.InOddSIdeal.main_v2_1)) (v2 : (c : Dev Cert.InOddSIdeal.nD) → Buf (Elt Ideal) ((c.tc : Thread Cert.InOddSIdeal.nD Cert.InOddSIdeal.τ).loc Cert.InOddSIdeal.main_v2_2)) (v3 : (c : Dev Cert.InOddSIdeal.nD) → Buf (Elt Ideal) ((c.tc : Thread Cert.InOddSIdeal.nD Cert.InOddSIdeal.τ).loc Cert.InOddSIdeal.main_v2_3)),
      θ_run (Cert.InOddSIdeal.defs (F := Ideal)) (onTc (τ := Cert.InOddSIdeal.τ) (Cert.InOddSIdeal.main (F := Ideal))) ⟨m, fun _ => 0, g⟩ (fun r => ∀ c : Dev Cert.InOddSIdeal.nD,
          r.2.mem ((c.tc : Thread Cert.InOddSIdeal.nD Cert.InOddSIdeal.τ).loc Cert.InOddSIdeal.main_v2_0) = v0 c
          ∧ r.2.mem ((c.tc : Thread Cert.InOddSIdeal.nD Cert.InOddSIdeal.τ).loc Cert.InOddSIdeal.main_v2_1) = v1 c
          ∧ r.2.mem ((c.tc : Thread Cert.InOddSIdeal.nD Cert.InOddSIdeal.τ).loc Cert.InOddSIdeal.main_v2_2) = v2 c
          ∧ r.2.mem ((c.tc : Thread Cert.InOddSIdeal.nD Cert.InOddSIdeal.τ).loc Cert.InOddSIdeal.main_v2_3) = v3 c
          ∧ r.2.mem ((c.tc : Thread Cert.InOddSIdeal.nD Cert.InOddSIdeal.τ).loc Cert.InOddSIdeal.main_arg0) = m ((c.tc : Thread Cert.InOddSIdeal.nD Cert.InOddSIdeal.τ).loc Cert.InOddSIdeal.main_arg0)
          ∧ r.2.mem ((c.tc : Thread Cert.InOddSIdeal.nD Cert.InOddSIdeal.τ).loc Cert.InOddSIdeal.main_arg1) = m ((c.tc : Thread Cert.InOddSIdeal.nD Cert.InOddSIdeal.τ).loc Cert.InOddSIdeal.main_arg1)
          ∧ r.2.mem ((c.tc : Thread Cert.InOddSIdeal.nD Cert.InOddSIdeal.τ).loc Cert.InOddSIdeal.main_arg2) = m ((c.tc : Thread Cert.InOddSIdeal.nD Cert.InOddSIdeal.τ).loc Cert.InOddSIdeal.main_arg2)
          ∧ r.2.mem ((c.tc : Thread Cert.InOddSIdeal.nD Cert.InOddSIdeal.τ).loc Cert.InOddSIdeal.main_arg3) = m ((c.tc : Thread Cert.InOddSIdeal.nD Cert.InOddSIdeal.τ).loc Cert.InOddSIdeal.main_arg3))
      ∧ θ_run (Cert.InOddSRefIdeal.defs (F := Ideal)) (onTc (τ := Cert.InOddSRefIdeal.τ) (Cert.InOddSRefIdeal.main (F := Ideal))) ⟨m', fun _ => 0, g'⟩ (fun r => ∀ c : Dev Cert.InOddSRefIdeal.nD,
          r.2.mem ((c.tc : Thread Cert.InOddSRefIdeal.nD Cert.InOddSRefIdeal.τ).loc Cert.InOddSRefIdeal.main_v24) = v0 c
          ∧ r.2.mem ((c.tc : Thread Cert.InOddSRefIdeal.nD Cert.InOddSRefIdeal.τ).loc Cert.InOddSRefIdeal.main_v25) = v1 c
          ∧ r.2.mem ((c.tc : Thread Cert.InOddSRefIdeal.nD Cert.InOddSRefIdeal.τ).loc Cert.InOddSRefIdeal.main_v27) = v2 c
          ∧ r.2.mem ((c.tc : Thread Cert.InOddSRefIdeal.nD Cert.InOddSRefIdeal.τ).loc Cert.InOddSRefIdeal.main_v23) = v3 c
          ∧ r.2.mem ((c.tc : Thread Cert.InOddSRefIdeal.nD Cert.InOddSRefIdeal.τ).loc Cert.InOddSRefIdeal.main_arg0) = m' ((c.tc : Thread Cert.InOddSRefIdeal.nD Cert.InOddSRefIdeal.τ).loc Cert.InOddSRefIdeal.main_arg0)
          ∧ r.2.mem ((c.tc : Thread Cert.InOddSRefIdeal.nD Cert.InOddSRefIdeal.τ).loc Cert.InOddSRefIdeal.main_arg1) = m' ((c.tc : Thread Cert.InOddSRefIdeal.nD Cert.InOddSRefIdeal.τ).loc Cert.InOddSRefIdeal.main_arg1)
          ∧ r.2.mem ((c.tc : Thread Cert.InOddSRefIdeal.nD Cert.InOddSRefIdeal.τ).loc Cert.InOddSRefIdeal.main_arg2) = m' ((c.tc : Thread Cert.InOddSRefIdeal.nD Cert.InOddSRefIdeal.τ).loc Cert.InOddSRefIdeal.main_arg2)
          ∧ r.2.mem ((c.tc : Thread Cert.InOddSRefIdeal.nD Cert.InOddSRefIdeal.τ).loc Cert.InOddSRefIdeal.main_arg3) = m' ((c.tc : Thread Cert.InOddSRefIdeal.nD Cert.InOddSRefIdeal.τ).loc Cert.InOddSRefIdeal.main_arg3))

def preserves_OutOddS_OutOddSIdeal : Prop :=
  True

def algebraic_OutOddSIdeal_OutOddSRefIdeal [hOutOddSIdeal : Cert.OutOddSIdeal.Facts] [hOutOddSRefIdeal : Cert.OutOddSRefIdeal.Facts] : Prop :=
  ∀ (m : (ℓ : Loc Cert.OutOddSIdeal.nD Cert.OutOddSIdeal.τ Cert.OutOddSIdeal.sig) → Buf (Elt Ideal) ℓ) (g : Dev Cert.OutOddSIdeal.nD → PrngReg)
    (m' : (ℓ : Loc Cert.OutOddSRefIdeal.nD Cert.OutOddSRefIdeal.τ Cert.OutOddSRefIdeal.sig) → Buf (Elt Ideal) ℓ) (g' : Dev Cert.OutOddSRefIdeal.nD → PrngReg), Pre_OutOddSIdeal m →
    (∀ c : Dev Cert.OutOddSIdeal.nD,
      m' ((c.tc : Thread Cert.OutOddSRefIdeal.nD Cert.OutOddSRefIdeal.τ).loc Cert.OutOddSRefIdeal.main_arg0) = m ((c.tc : Thread Cert.OutOddSIdeal.nD Cert.OutOddSIdeal.τ).loc Cert.OutOddSIdeal.main_arg0)
      ∧ m' ((c.tc : Thread Cert.OutOddSRefIdeal.nD Cert.OutOddSRefIdeal.τ).loc Cert.OutOddSRefIdeal.main_arg1) = m ((c.tc : Thread Cert.OutOddSIdeal.nD Cert.OutOddSIdeal.τ).loc Cert.OutOddSIdeal.main_arg1)
      ∧ m' ((c.tc : Thread Cert.OutOddSRefIdeal.nD Cert.OutOddSRefIdeal.τ).loc Cert.OutOddSRefIdeal.main_arg2) = m ((c.tc : Thread Cert.OutOddSIdeal.nD Cert.OutOddSIdeal.τ).loc Cert.OutOddSIdeal.main_arg2)
      ∧ m' ((c.tc : Thread Cert.OutOddSRefIdeal.nD Cert.OutOddSRefIdeal.τ).loc Cert.OutOddSRefIdeal.main_arg3) = m ((c.tc : Thread Cert.OutOddSIdeal.nD Cert.OutOddSIdeal.τ).loc Cert.OutOddSIdeal.main_arg3)
      ∧ m' ((c.tc : Thread Cert.OutOddSRefIdeal.nD Cert.OutOddSRefIdeal.τ).loc Cert.OutOddSRefIdeal.main_arg4) = m ((c.tc : Thread Cert.OutOddSIdeal.nD Cert.OutOddSIdeal.τ).loc Cert.OutOddSIdeal.main_arg4)
      ∧ m' ((c.tc : Thread Cert.OutOddSRefIdeal.nD Cert.OutOddSRefIdeal.τ).loc Cert.OutOddSRefIdeal.main_arg5) = m ((c.tc : Thread Cert.OutOddSIdeal.nD Cert.OutOddSIdeal.τ).loc Cert.OutOddSIdeal.main_arg5)) →
    ∃ (v0 : (c : Dev Cert.OutOddSIdeal.nD) → Buf (Elt Ideal) ((c.tc : Thread Cert.OutOddSIdeal.nD Cert.OutOddSIdeal.τ).loc Cert.OutOddSIdeal.main_v2)),
      θ_run (Cert.OutOddSIdeal.defs (F := Ideal)) (onTc (τ := Cert.OutOddSIdeal.τ) (Cert.OutOddSIdeal.main (F := Ideal))) ⟨m, fun _ => 0, g⟩ (fun r => ∀ c : Dev Cert.OutOddSIdeal.nD,
          r.2.mem ((c.tc : Thread Cert.OutOddSIdeal.nD Cert.OutOddSIdeal.τ).loc Cert.OutOddSIdeal.main_v2) = v0 c
          ∧ r.2.mem ((c.tc : Thread Cert.OutOddSIdeal.nD Cert.OutOddSIdeal.τ).loc Cert.OutOddSIdeal.main_arg0) = m ((c.tc : Thread Cert.OutOddSIdeal.nD Cert.OutOddSIdeal.τ).loc Cert.OutOddSIdeal.main_arg0)
          ∧ r.2.mem ((c.tc : Thread Cert.OutOddSIdeal.nD Cert.OutOddSIdeal.τ).loc Cert.OutOddSIdeal.main_arg1) = m ((c.tc : Thread Cert.OutOddSIdeal.nD Cert.OutOddSIdeal.τ).loc Cert.OutOddSIdeal.main_arg1)
          ∧ r.2.mem ((c.tc : Thread Cert.OutOddSIdeal.nD Cert.OutOddSIdeal.τ).loc Cert.OutOddSIdeal.main_arg2) = m ((c.tc : Thread Cert.OutOddSIdeal.nD Cert.OutOddSIdeal.τ).loc Cert.OutOddSIdeal.main_arg2)
          ∧ r.2.mem ((c.tc : Thread Cert.OutOddSIdeal.nD Cert.OutOddSIdeal.τ).loc Cert.OutOddSIdeal.main_arg3) = m ((c.tc : Thread Cert.OutOddSIdeal.nD Cert.OutOddSIdeal.τ).loc Cert.OutOddSIdeal.main_arg3)
          ∧ r.2.mem ((c.tc : Thread Cert.OutOddSIdeal.nD Cert.OutOddSIdeal.τ).loc Cert.OutOddSIdeal.main_arg4) = m ((c.tc : Thread Cert.OutOddSIdeal.nD Cert.OutOddSIdeal.τ).loc Cert.OutOddSIdeal.main_arg4)
          ∧ r.2.mem ((c.tc : Thread Cert.OutOddSIdeal.nD Cert.OutOddSIdeal.τ).loc Cert.OutOddSIdeal.main_arg5) = m ((c.tc : Thread Cert.OutOddSIdeal.nD Cert.OutOddSIdeal.τ).loc Cert.OutOddSIdeal.main_arg5))
      ∧ θ_run (Cert.OutOddSRefIdeal.defs (F := Ideal)) (onTc (τ := Cert.OutOddSRefIdeal.τ) (Cert.OutOddSRefIdeal.main (F := Ideal))) ⟨m', fun _ => 0, g'⟩ (fun r => ∀ c : Dev Cert.OutOddSRefIdeal.nD,
          r.2.mem ((c.tc : Thread Cert.OutOddSRefIdeal.nD Cert.OutOddSRefIdeal.τ).loc Cert.OutOddSRefIdeal.main_v22) = v0 c
          ∧ r.2.mem ((c.tc : Thread Cert.OutOddSRefIdeal.nD Cert.OutOddSRefIdeal.τ).loc Cert.OutOddSRefIdeal.main_arg0) = m' ((c.tc : Thread Cert.OutOddSRefIdeal.nD Cert.OutOddSRefIdeal.τ).loc Cert.OutOddSRefIdeal.main_arg0)
          ∧ r.2.mem ((c.tc : Thread Cert.OutOddSRefIdeal.nD Cert.OutOddSRefIdeal.τ).loc Cert.OutOddSRefIdeal.main_arg1) = m' ((c.tc : Thread Cert.OutOddSRefIdeal.nD Cert.OutOddSRefIdeal.τ).loc Cert.OutOddSRefIdeal.main_arg1)
          ∧ r.2.mem ((c.tc : Thread Cert.OutOddSRefIdeal.nD Cert.OutOddSRefIdeal.τ).loc Cert.OutOddSRefIdeal.main_arg2) = m' ((c.tc : Thread Cert.OutOddSRefIdeal.nD Cert.OutOddSRefIdeal.τ).loc Cert.OutOddSRefIdeal.main_arg2)
          ∧ r.2.mem ((c.tc : Thread Cert.OutOddSRefIdeal.nD Cert.OutOddSRefIdeal.τ).loc Cert.OutOddSRefIdeal.main_arg3) = m' ((c.tc : Thread Cert.OutOddSRefIdeal.nD Cert.OutOddSRefIdeal.τ).loc Cert.OutOddSRefIdeal.main_arg3)
          ∧ r.2.mem ((c.tc : Thread Cert.OutOddSRefIdeal.nD Cert.OutOddSRefIdeal.τ).loc Cert.OutOddSRefIdeal.main_arg4) = m' ((c.tc : Thread Cert.OutOddSRefIdeal.nD Cert.OutOddSRefIdeal.τ).loc Cert.OutOddSRefIdeal.main_arg4)
          ∧ r.2.mem ((c.tc : Thread Cert.OutOddSRefIdeal.nD Cert.OutOddSRefIdeal.τ).loc Cert.OutOddSRefIdeal.main_arg5) = m' ((c.tc : Thread Cert.OutOddSRefIdeal.nD Cert.OutOddSRefIdeal.τ).loc Cert.OutOddSRefIdeal.main_arg5))

def preserves_S5S_S5SIdeal : Prop :=
  True

def Claim : Prop :=
  ∃ (hKernel : Cert.Kernel.Facts) (hKernelIdeal : Cert.KernelIdeal.Facts) (hReferenceIdeal : Cert.ReferenceIdeal.Facts) (hInEven : Cert.InEven.Facts) (hInEvenIdeal : Cert.InEvenIdeal.Facts) (hInEvenRefIdeal : Cert.InEvenRefIdeal.Facts) (hOutEven : Cert.OutEven.Facts) (hOutEvenIdeal : Cert.OutEvenIdeal.Facts) (hOutEvenRefIdeal : Cert.OutEvenRefIdeal.Facts) (hInOdd : Cert.InOdd.Facts) (hInOddIdeal : Cert.InOddIdeal.Facts) (hInOddRefIdeal : Cert.InOddRefIdeal.Facts) (hOutOdd : Cert.OutOdd.Facts) (hOutOddIdeal : Cert.OutOddIdeal.Facts) (hOutOddRefIdeal : Cert.OutOddRefIdeal.Facts) (hAdaln : Cert.Adaln.Facts) (hAdalnIdeal : Cert.AdalnIdeal.Facts) (hAdalnRefIdeal : Cert.AdalnRefIdeal.Facts) (hParams : Cert.Params.Facts) (hParamsIdeal : Cert.ParamsIdeal.Facts) (hParamsRefIdeal : Cert.ParamsRefIdeal.Facts) (hInEvenS : Cert.InEvenS.Facts) (hInEvenSIdeal : Cert.InEvenSIdeal.Facts) (hInEvenSRefIdeal : Cert.InEvenSRefIdeal.Facts) (hOutEvenS : Cert.OutEvenS.Facts) (hOutEvenSIdeal : Cert.OutEvenSIdeal.Facts) (hOutEvenSRefIdeal : Cert.OutEvenSRefIdeal.Facts) (hInOddS : Cert.InOddS.Facts) (hInOddSIdeal : Cert.InOddSIdeal.Facts) (hInOddSRefIdeal : Cert.InOddSRefIdeal.Facts) (hOutOddS : Cert.OutOddS.Facts) (hOutOddSIdeal : Cert.OutOddSIdeal.Facts) (hOutOddSRefIdeal : Cert.OutOddSRefIdeal.Facts) (hS5S : Cert.S5S.Facts) (hS5SIdeal : Cert.S5SIdeal.Facts) (hS5SRefIdeal : Cert.S5SRefIdeal.Facts),
    quiescent_Kernel (hKernel := hKernel)
    ∧ quiescent_KernelIdeal (hKernelIdeal := hKernelIdeal)
    ∧ quiescent_ReferenceIdeal (hReferenceIdeal := hReferenceIdeal)
    ∧ quiescent_InEven (hInEven := hInEven)
    ∧ quiescent_InEvenIdeal (hInEvenIdeal := hInEvenIdeal)
    ∧ quiescent_InEvenRefIdeal (hInEvenRefIdeal := hInEvenRefIdeal)
    ∧ quiescent_OutEven (hOutEven := hOutEven)
    ∧ quiescent_OutEvenIdeal (hOutEvenIdeal := hOutEvenIdeal)
    ∧ quiescent_OutEvenRefIdeal (hOutEvenRefIdeal := hOutEvenRefIdeal)
    ∧ quiescent_InOdd (hInOdd := hInOdd)
    ∧ quiescent_InOddIdeal (hInOddIdeal := hInOddIdeal)
    ∧ quiescent_InOddRefIdeal (hInOddRefIdeal := hInOddRefIdeal)
    ∧ quiescent_OutOdd (hOutOdd := hOutOdd)
    ∧ quiescent_OutOddIdeal (hOutOddIdeal := hOutOddIdeal)
    ∧ quiescent_OutOddRefIdeal (hOutOddRefIdeal := hOutOddRefIdeal)
    ∧ quiescent_Adaln (hAdaln := hAdaln)
    ∧ quiescent_AdalnIdeal (hAdalnIdeal := hAdalnIdeal)
    ∧ quiescent_AdalnRefIdeal (hAdalnRefIdeal := hAdalnRefIdeal)
    ∧ quiescent_Params (hParams := hParams)
    ∧ quiescent_ParamsIdeal (hParamsIdeal := hParamsIdeal)
    ∧ quiescent_ParamsRefIdeal (hParamsRefIdeal := hParamsRefIdeal)
    ∧ quiescent_InEvenS (hInEvenS := hInEvenS)
    ∧ quiescent_InEvenSIdeal (hInEvenSIdeal := hInEvenSIdeal)
    ∧ quiescent_InEvenSRefIdeal (hInEvenSRefIdeal := hInEvenSRefIdeal)
    ∧ quiescent_OutEvenS (hOutEvenS := hOutEvenS)
    ∧ quiescent_OutEvenSIdeal (hOutEvenSIdeal := hOutEvenSIdeal)
    ∧ quiescent_OutEvenSRefIdeal (hOutEvenSRefIdeal := hOutEvenSRefIdeal)
    ∧ quiescent_InOddS (hInOddS := hInOddS)
    ∧ quiescent_InOddSIdeal (hInOddSIdeal := hInOddSIdeal)
    ∧ quiescent_InOddSRefIdeal (hInOddSRefIdeal := hInOddSRefIdeal)
    ∧ quiescent_OutOddS (hOutOddS := hOutOddS)
    ∧ quiescent_OutOddSIdeal (hOutOddSIdeal := hOutOddSIdeal)
    ∧ quiescent_OutOddSRefIdeal (hOutOddSRefIdeal := hOutOddSRefIdeal)
    ∧ quiescent_S5S (hS5S := hS5S)
    ∧ quiescent_S5SIdeal (hS5SIdeal := hS5SIdeal)
    ∧ quiescent_S5SRefIdeal (hS5SRefIdeal := hS5SRefIdeal)
    ∧ preserves_Kernel_KernelIdeal
    ∧ algebraic_KernelIdeal_ReferenceIdeal (hKernelIdeal := hKernelIdeal) (hReferenceIdeal := hReferenceIdeal)
    ∧ preserves_InEven_InEvenIdeal
    ∧ algebraic_InEvenIdeal_InEvenRefIdeal (hInEvenIdeal := hInEvenIdeal) (hInEvenRefIdeal := hInEvenRefIdeal)
    ∧ preserves_OutEven_OutEvenIdeal
    ∧ algebraic_OutEvenIdeal_OutEvenRefIdeal (hOutEvenIdeal := hOutEvenIdeal) (hOutEvenRefIdeal := hOutEvenRefIdeal)
    ∧ preserves_InOdd_InOddIdeal
    ∧ algebraic_InOddIdeal_InOddRefIdeal (hInOddIdeal := hInOddIdeal) (hInOddRefIdeal := hInOddRefIdeal)
    ∧ preserves_OutOdd_OutOddIdeal
    ∧ algebraic_OutOddIdeal_OutOddRefIdeal (hOutOddIdeal := hOutOddIdeal) (hOutOddRefIdeal := hOutOddRefIdeal)
    ∧ preserves_Adaln_AdalnIdeal
    ∧ algebraic_AdalnIdeal_AdalnRefIdeal (hAdalnIdeal := hAdalnIdeal) (hAdalnRefIdeal := hAdalnRefIdeal)
    ∧ preserves_Params_ParamsIdeal
    ∧ algebraic_ParamsIdeal_ParamsRefIdeal (hParamsIdeal := hParamsIdeal) (hParamsRefIdeal := hParamsRefIdeal)
    ∧ preserves_InEvenS_InEvenSIdeal
    ∧ algebraic_InEvenSIdeal_InEvenSRefIdeal (hInEvenSIdeal := hInEvenSIdeal) (hInEvenSRefIdeal := hInEvenSRefIdeal)
    ∧ preserves_OutEvenS_OutEvenSIdeal
    ∧ algebraic_OutEvenSIdeal_OutEvenSRefIdeal (hOutEvenSIdeal := hOutEvenSIdeal) (hOutEvenSRefIdeal := hOutEvenSRefIdeal)
    ∧ preserves_InOddS_InOddSIdeal
    ∧ algebraic_InOddSIdeal_InOddSRefIdeal (hInOddSIdeal := hInOddSIdeal) (hInOddSRefIdeal := hInOddSRefIdeal)
    ∧ preserves_OutOddS_OutOddSIdeal
    ∧ algebraic_OutOddSIdeal_OutOddSRefIdeal (hOutOddSIdeal := hOutOddSIdeal) (hOutOddSRefIdeal := hOutOddSRefIdeal)
    ∧ preserves_S5S_S5SIdeal
-- ==== Kernel.lean ====
abbrev S1x16384x512 : Shape := ⟨3, ![1, 16384, 512]⟩
abbrev S1x32x64 : Shape := ⟨3, ![1, 32, 64]⟩
abbrev S32x64 : Shape := ⟨2, ![32, 64]⟩
abbrev S32x64x16 : Shape := ⟨3, ![32, 64, 16]⟩
abbrev S32x16x64 : Shape := ⟨3, ![32, 16, 64]⟩
abbrev S512 : Shape := ⟨1, ![512]⟩
abbrev S512x64 : Shape := ⟨2, ![512, 64]⟩
abbrev S32x1x64 : Shape := ⟨3, ![32, 1, 64]⟩
abbrev S4x512 : Shape := ⟨2, ![4, 512]⟩
abbrev S8x512 : Shape := ⟨2, ![8, 512]⟩
abbrev S8x8 : Shape := ⟨2, ![8, 8]⟩
abbrev S_ : Shape := ⟨0, ![]⟩
abbrev S4x8x16x64 : Shape := ⟨4, ![4, 8, 16, 64]⟩
abbrev S4x8x16x1x64 : Shape := ⟨5, ![4, 8, 16, 1, 64]⟩
abbrev S1x8x1x8x1 : Shape := ⟨5, ![1, 8, 1, 8, 1]⟩
abbrev S4x8x16x8x64 : Shape := ⟨5, ![4, 8, 16, 8, 64]⟩
abbrev S4x128x512 : Shape := ⟨3, ![4, 128, 512]⟩
abbrev S8x128x512 : Shape := ⟨3, ![8, 128, 512]⟩
abbrev S4x8x64x16 : Shape := ⟨4, ![4, 8, 64, 16]⟩
abbrev S4x8x64x1x16 : Shape := ⟨5, ![4, 8, 64, 1, 16]⟩
abbrev S4x8x64x8x16 : Shape := ⟨5, ![4, 8, 64, 8, 16]⟩
abbrev S4x512x128 : Shape := ⟨3, ![4, 512, 128]⟩
abbrev S4x1024x128 : Shape := ⟨3, ![4, 1024, 128]⟩
abbrev S1x4x512 : Shape := ⟨3, ![1, 4, 512]⟩
abbrev S1x8x512 : Shape := ⟨3, ![1, 8, 512]⟩
abbrev S1x512 : Shape := ⟨2, ![1, 512]⟩
abbrev S1x256x512 : Shape := ⟨3, ![1, 256, 512]⟩
abbrev S4x2048x128 : Shape := ⟨3, ![4, 2048, 128]⟩
abbrev S256x512 : Shape := ⟨2, ![256, 512]⟩
abbrev S256x128 : Shape := ⟨2, ![256, 128]⟩
abbrev S1x128x512 : Shape := ⟨3, ![1, 128, 512]⟩
abbrev S128x512 : Shape := ⟨2, ![128, 512]⟩
abbrev S1x256x128 : Shape := ⟨3, ![1, 256, 128]⟩
abbrev S8x128 : Shape := ⟨2, ![8, 128]⟩
abbrev S1x8x128 : Shape := ⟨3, ![1, 8, 128]⟩
abbrev S256x1024 : Shape := ⟨2, ![256, 1024]⟩
abbrev S1x1024x128 : Shape := ⟨3, ![1, 1024, 128]⟩
abbrev S1024x128 : Shape := ⟨2, ![1024, 128]⟩

abbrev nBuf : Space → Nat
  | .hbm => 77
  | .vmem => 13
  | .smem => 0
  | _ => 0

abbrev bufTy : (tb : Table) → Fin (tcTables nBuf tb) → BufTy
  | .hbm, ⟨0, _⟩ => ⟨S1x16384x512, .f32⟩
  | .hbm, ⟨1, _⟩ => ⟨S1x32x64, .f32⟩
  | .hbm, ⟨2, _⟩ => ⟨S1x32x64, .f32⟩
  | .hbm, ⟨3, _⟩ => ⟨S32x64, .f32⟩
  | .hbm, ⟨4, _⟩ => ⟨S32x64, .f32⟩
  | .hbm, ⟨5, _⟩ => ⟨S32x64x16, .f32⟩
  | .hbm, ⟨6, _⟩ => ⟨S32x64x16, .f32⟩
  | .hbm, ⟨7, _⟩ => ⟨S32x16x64, .f32⟩
  | .hbm, ⟨8, _⟩ => ⟨S32x16x64, .f32⟩
  | .hbm, ⟨9, _⟩ => ⟨S512, .f32⟩
  | .hbm, ⟨10, _⟩ => ⟨S32x16x64, .f32⟩
  | .hbm, ⟨11, _⟩ => ⟨S512x64, .f32⟩
  | .hbm, ⟨12, _⟩ => ⟨S32x16x64, .f32⟩
  | .hbm, ⟨13, _⟩ => ⟨S512x64, .f32⟩
  | .hbm, ⟨14, _⟩ => ⟨S32x16x64, .f32⟩
  | .hbm, ⟨15, _⟩ => ⟨S512x64, .f32⟩
  | .hbm, ⟨16, _⟩ => ⟨S32x16x64, .f32⟩
  | .hbm, ⟨17, _⟩ => ⟨S512x64, .f32⟩
  | .hbm, ⟨18, _⟩ => ⟨S32x16x64, .f32⟩
  | .hbm, ⟨19, _⟩ => ⟨S32x1x64, .f32⟩
  | .hbm, ⟨20, _⟩ => ⟨S32x64, .f32⟩
  | .hbm, ⟨21, _⟩ => ⟨S4x512, .f32⟩
  | .hbm, ⟨22, _⟩ => ⟨S32x16x64, .f32⟩
  | .hbm, ⟨23, _⟩ => ⟨S32x1x64, .f32⟩
  | .hbm, ⟨24, _⟩ => ⟨S32x64, .f32⟩
  | .hbm, ⟨25, _⟩ => ⟨S4x512, .f32⟩
  | .hbm, ⟨26, _⟩ => ⟨S8x512, .f32⟩
  | .hbm, ⟨27, _⟩ => ⟨S4x512, .f32⟩
  | .hbm, ⟨28, _⟩ => ⟨S8x512, .f32⟩
  | .hbm, ⟨29, _⟩ => ⟨S8x8, .i32⟩
  | .hbm, ⟨30, _⟩ => ⟨S8x8, .i32⟩
  | .hbm, ⟨31, _⟩ => ⟨S_, .i32⟩
  | .hbm, ⟨32, _⟩ => ⟨S8x8, .i32⟩
  | .hbm, ⟨33, _⟩ => ⟨S8x8, .i32⟩
  | .hbm, ⟨34, _⟩ => ⟨S8x8, .i1⟩
  | .hbm, ⟨35, _⟩ => ⟨S8x8, .f32⟩
  | .hbm, ⟨36, _⟩ => ⟨S4x8x16x64, .f32⟩
  | .hbm, ⟨37, _⟩ => ⟨S4x8x16x1x64, .f32⟩
  | .hbm, ⟨38, _⟩ => ⟨S1x8x1x8x1, .f32⟩
  | .hbm, ⟨39, _⟩ => ⟨S4x8x16x8x64, .f32⟩
  | .hbm, ⟨40, _⟩ => ⟨S4x8x16x8x64, .f32⟩
  | .hbm, ⟨41, _⟩ => ⟨S4x8x16x8x64, .f32⟩
  | .hbm, ⟨42, _⟩ => ⟨S4x128x512, .f32⟩
  | .hbm, ⟨43, _⟩ => ⟨S4x8x16x64, .f32⟩
  | .hbm, ⟨44, _⟩ => ⟨S4x8x16x1x64, .f32⟩
  | .hbm, ⟨45, _⟩ => ⟨S1x8x1x8x1, .f32⟩
  | .hbm, ⟨46, _⟩ => ⟨S4x8x16x8x64, .f32⟩
  | .hbm, ⟨47, _⟩ => ⟨S4x8x16x8x64, .f32⟩
  | .hbm, ⟨48, _⟩ => ⟨S4x8x16x8x64, .f32⟩
  | .hbm, ⟨49, _⟩ => ⟨S4x128x512, .f32⟩
  | .hbm, ⟨50, _⟩ => ⟨S8x128x512, .f32⟩
  | .hbm, ⟨51, _⟩ => ⟨S8x128x512, .bf16⟩
  | .hbm, ⟨52, _⟩ => ⟨S4x8x16x64, .f32⟩
  | .hbm, ⟨53, _⟩ => ⟨S4x8x64x16, .f32⟩
  | .hbm, ⟨54, _⟩ => ⟨S4x8x64x1x16, .f32⟩
  | .hbm, ⟨55, _⟩ => ⟨S1x8x1x8x1, .f32⟩
  | .hbm, ⟨56, _⟩ => ⟨S4x8x64x8x16, .f32⟩
  | .hbm, ⟨57, _⟩ => ⟨S4x8x64x8x16, .f32⟩
  | .hbm, ⟨58, _⟩ => ⟨S4x8x64x8x16, .f32⟩
  | .hbm, ⟨59, _⟩ => ⟨S4x512x128, .f32⟩
  | .hbm, ⟨60, _⟩ => ⟨S4x8x16x64, .f32⟩
  | .hbm, ⟨61, _⟩ => ⟨S4x8x64x16, .f32⟩
  | .hbm, ⟨62, _⟩ => ⟨S4x8x64x1x16, .f32⟩
  | .hbm, ⟨63, _⟩ => ⟨S1x8x1x8x1, .f32⟩
  | .hbm, ⟨64, _⟩ => ⟨S4x8x64x8x16, .f32⟩
  | .hbm, ⟨65, _⟩ => ⟨S4x8x64x8x16, .f32⟩
  | .hbm, ⟨66, _⟩ => ⟨S4x8x64x8x16, .f32⟩
  | .hbm, ⟨67, _⟩ => ⟨S4x512x128, .f32⟩
  | .hbm, ⟨68, _⟩ => ⟨S4x512x128, .f32⟩
  | .hbm, ⟨69, _⟩ => ⟨S4x1024x128, .f32⟩
  | .hbm, ⟨70, _⟩ => ⟨S4x1024x128, .bf16⟩
  | .hbm, ⟨71, _⟩ => ⟨S1x4x512, .f32⟩
  | .hbm, ⟨72, _⟩ => ⟨S1x4x512, .f32⟩
  | .hbm, ⟨73, _⟩ => ⟨S1x8x512, .f32⟩
  | .hbm, ⟨74, _⟩ => ⟨S1x512, .f32⟩
  | .hbm, ⟨75, _⟩ => ⟨S1x16384x512, .f32⟩
  | .hbm, ⟨76, _⟩ => ⟨S1x8x512, .f32⟩
  | .local _ .vmem, ⟨0, _⟩ => ⟨S1x256x512, .f32⟩
  | .local _ .vmem, ⟨1, _⟩ => ⟨S1x256x512, .f32⟩
  | .local _ .vmem, ⟨2, _⟩ => ⟨S1x8x512, .f32⟩
  | .local _ .vmem, ⟨3, _⟩ => ⟨S8x512, .f32⟩
  | .local _ .vmem, ⟨4, _⟩ => ⟨S8x512, .f32⟩
  | .local _ .vmem, ⟨5, _⟩ => ⟨S8x128x512, .bf16⟩
  | .local _ .vmem, ⟨6, _⟩ => ⟨S4x1024x128, .bf16⟩
  | .local _ .vmem, ⟨7, _⟩ => ⟨S1x512, .f32⟩
  | .local _ .vmem, ⟨8, _⟩ => ⟨S1x256x512, .f32⟩
  | .local _ .vmem, ⟨9, _⟩ => ⟨S1x256x512, .f32⟩
  | .local _ .vmem, ⟨10, _⟩ => ⟨S1x8x512, .f32⟩
  | .local _ .vmem, ⟨11, _⟩ => ⟨S8x512, .f32⟩
  | .local _ .vmem, ⟨12, _⟩ => ⟨S4x2048x128, .f32⟩
  | _, _ => ⟨S1x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64_0 : Ref sig .tc := ⟨.hbm, 75, rfl⟩
abbrev main_v64_1 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10

abbrev nD : Nat := 1
abbrev τ : Topo := Topo.v7x

variable {F : FTy → Type} [FloatOps F]

abbrev grid0 : Pipeline.Grid := ⟨2, ![1, 64], ![false, false]⟩

@[reducible] def k0_t1_loop : Scf.Loop 32 :=
  let c0_i32_144 : BitVec 32 := 0#32
  let c256_i32 : BitVec 32 := 256#32
  let v186 : BitVec 32 := Scalar.addi c0_i32_144 c256_i32
  let c1_i32 : BitVec 32 := 1#32
  ⟨c0_i32_144, v186, c1_i32⟩
def k0_mult1 (k0_t1 : Fin k0_t1_loop.trips) : BitVec 32 :=
  let c0_i32_144 : BitVec 32 := 0#32
  let c1_i32 : BitVec 32 := 1#32
  let arg13 : BitVec 32 := Scf.iv c0_i32_144 c1_i32 k0_t1
  let c8_i32 : BitVec 32 := 8#32
  let v288 : BitVec 32 := Scalar.muli arg13 c8_i32
  v288
def k0_off1 (k0_t1 : Fin k0_t1_loop.trips) : Fin 3 → Nat :=
  let c0_268 : Index := 0#32
  let c0_i32_144 : BitVec 32 := 0#32
  let c1_i32 : BitVec 32 := 1#32
  let arg13 : BitVec 32 := Scf.iv c0_i32_144 c1_i32 k0_t1
  let c8_i32 : BitVec 32 := 8#32
  let v288 : BitVec 32 := Scalar.muli arg13 c8_i32
  let v289 : BitVec 32 := v288
  let v294 : Index := Scalar.indexCast v289
  let c0_269 : Index := 0#32
  ![0, v294.toNat, 0]
def k0_off2 (k0_t1 : Fin k0_t1_loop.trips) : Fin 3 → Nat :=
  let c1_273 : Index := 1#32
  let c0_i32_144 : BitVec 32 := 0#32
  let c1_i32 : BitVec 32 := 1#32
  let arg13 : BitVec 32 := Scf.iv c0_i32_144 c1_i32 k0_t1
  let c8_i32 : BitVec 32 := 8#32
  let v288 : BitVec 32 := Scalar.muli arg13 c8_i32
  let v289 : BitVec 32 := v288
  let v306 : Index := Scalar.indexCast v289
  let c0_274 : Index := 0#32
  ![1, v306.toNat, 0]
def k0_off3 (k0_t1 : Fin k0_t1_loop.trips) : Fin 3 → Nat :=
  let c2_278 : Index := 2#32
  let c0_i32_144 : BitVec 32 := 0#32
  let c1_i32 : BitVec 32 := 1#32
  let arg13 : BitVec 32 := Scf.iv c0_i32_144 c1_i32 k0_t1
  let c8_i32 : BitVec 32 := 8#32
  let v288 : BitVec 32 := Scalar.muli arg13 c8_i32
  let v289 : BitVec 32 := v288
  let v318 : Index := Scalar.indexCast v289
  let c0_279 : Index := 0#32
  ![2, v318.toNat, 0]
def k0_off4 (k0_t1 : Fin k0_t1_loop.trips) : Fin 3 → Nat :=
  let c3_283 : Index := 3#32
  let c0_i32_144 : BitVec 32 := 0#32
  let c1_i32 : BitVec 32 := 1#32
  let arg13 : BitVec 32 := Scf.iv c0_i32_144 c1_i32 k0_t1
  let c8_i32 : BitVec 32 := 8#32
  let v288 : BitVec 32 := Scalar.muli arg13 c8_i32
  let v289 : BitVec 32 := v288
  let v330 : Index := Scalar.indexCast v289
  let c0_284 : Index := 0#32
  ![3, v330.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== ReferenceIdeal.lean ====
abbrev S1x16384x512 : Shape := ⟨3, ![1, 16384, 512]⟩
abbrev S1x32x64 : Shape := ⟨3, ![1, 32, 64]⟩
abbrev S32x64 : Shape := ⟨2, ![32, 64]⟩
abbrev S32x64x16 : Shape := ⟨3, ![32, 64, 16]⟩
abbrev S32x16x64 : Shape := ⟨3, ![32, 16, 64]⟩
abbrev S512 : Shape := ⟨1, ![512]⟩
abbrev S1x16384x32x16 : Shape := ⟨4, ![1, 16384, 32, 16]⟩
abbrev S32x64x1x16384 : Shape := ⟨4, ![32, 64, 1, 16384]⟩
abbrev S1x16384x32x64 : Shape := ⟨4, ![1, 16384, 32, 64]⟩
abbrev S16384x1x32x64 : Shape := ⟨4, ![16384, 1, 32, 64]⟩
abbrev S_ : Shape := ⟨0, ![]⟩
abbrev S1x1x32x64 : Shape := ⟨4, ![1, 1, 32, 64]⟩
abbrev S32x16x16384x1 : Shape := ⟨4, ![32, 16, 16384, 1]⟩
abbrev S1x1x512 : Shape := ⟨3, ![1, 1, 512]⟩
abbrev S1x4x512 : Shape := ⟨3, ![1, 4, 512]⟩
abbrev S1x8x512 : Shape := ⟨3, ![1, 8, 512]⟩

abbrev nBuf : Space → Nat
  | .hbm => 81
  | .vmem => 0
  | .smem => 0
  | _ => 0

abbrev bufTy : (tb : Table) → Fin (tcTables nBuf tb) → BufTy
  | .hbm, ⟨0, _⟩ => ⟨S1x16384x512, .f32⟩
  | .hbm, ⟨1, _⟩ => ⟨S1x32x64, .f32⟩
  | .hbm, ⟨2, _⟩ => ⟨S1x32x64, .f32⟩
  | .hbm, ⟨3, _⟩ => ⟨S32x64, .f32⟩
  | .hbm, ⟨4, _⟩ => ⟨S32x64, .f32⟩
  | .hbm, ⟨5, _⟩ => ⟨S32x64x16, .f32⟩
  | .hbm, ⟨6, _⟩ => ⟨S32x64x16, .f32⟩
  | .hbm, ⟨7, _⟩ => ⟨S32x16x64, .f32⟩
  | .hbm, ⟨8, _⟩ => ⟨S32x16x64, .f32⟩
  | .hbm, ⟨9, _⟩ => ⟨S512, .f32⟩
  | .hbm, ⟨10, _⟩ => ⟨S1x16384x32x16, .f32⟩
  | .hbm, ⟨11, _⟩ => ⟨S32x64x1x16384, .f32⟩
  | .hbm, ⟨12, _⟩ => ⟨S1x16384x32x64, .f32⟩
  | .hbm, ⟨13, _⟩ => ⟨S32x64x1x16384, .f32⟩
  | .hbm, ⟨14, _⟩ => ⟨S1x16384x32x64, .f32⟩
  | .hbm, ⟨15, _⟩ => ⟨S16384x1x32x64, .f32⟩
  | .hbm, ⟨16, _⟩ => ⟨S16384x1x32x64, .f32⟩
  | .hbm, ⟨17, _⟩ => ⟨S_, .f32⟩
  | .hbm, ⟨18, _⟩ => ⟨S16384x1x32x64, .f32⟩
  | .hbm, ⟨19, _⟩ => ⟨S_, .f32⟩
  | .hbm, ⟨20, _⟩ => ⟨S16384x1x32x64, .f32⟩
  | .hbm, ⟨21, _⟩ => ⟨S_, .i32⟩
  | .hbm, ⟨22, _⟩ => ⟨S16384x1x32x64, .f32⟩
  | .hbm, ⟨23, _⟩ => ⟨S16384x1x32x64, .f32⟩
  | .hbm, ⟨24, _⟩ => ⟨S32x64, .f32⟩
  | .hbm, ⟨25, _⟩ => ⟨S32x64, .f32⟩
  | .hbm, ⟨26, _⟩ => ⟨S_, .i32⟩
  | .hbm, ⟨27, _⟩ => ⟨S1x32x64, .f32⟩
  | .hbm, ⟨28, _⟩ => ⟨S1x32x64, .f32⟩
  | .hbm, ⟨29, _⟩ => ⟨S16384x1x32x64, .f32⟩
  | .hbm, ⟨30, _⟩ => ⟨S16384x1x32x64, .f32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S1x1x32x64, .f32⟩
  | .hbm, ⟨37, _⟩ => ⟨S1x32x64, .f32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S1x1x32x64, .f32⟩
  | .hbm, ⟨42, _⟩ => ⟨S1x32x64, .f32⟩
  | .hbm, ⟨43, _⟩ => ⟨S1x32x64, .f32⟩
  | .hbm, ⟨44, _⟩ => ⟨S1x32x64, .f32⟩
  | .hbm, ⟨45, _⟩ => ⟨S1x32x64, .f32⟩
  | .hbm, ⟨46, _⟩ => ⟨S1x32x64, .f32⟩
  | .hbm, ⟨47, _⟩ => ⟨S1x32x64, .f32⟩
  | .hbm, ⟨48, _⟩ => ⟨S1x32x64, .f32⟩
  | .hbm, ⟨49, _⟩ => ⟨S1x32x64, .f32⟩
  | .hbm, ⟨50, _⟩ => ⟨S1x32x64, .f32⟩
  | .hbm, ⟨51, _⟩ => ⟨S1x32x64, .f32⟩
  | .hbm, ⟨52, _⟩ => ⟨S1x32x64, .f32⟩
  | .hbm, ⟨53, _⟩ => ⟨S1x32x64, .f32⟩
  | .hbm, ⟨54, _⟩ => ⟨S1x32x64, .f32⟩
  | .hbm, ⟨55, _⟩ => ⟨S1x1x32x64, .f32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S16384x1x32x64, .f32⟩
  | .hbm, ⟨60, _⟩ => ⟨S1x1x32x64, .f32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S16384x1x32x64, .f32⟩
  | .hbm, ⟨65, _⟩ => ⟨S_, .i32⟩
  | .hbm, ⟨66, _⟩ => ⟨S_, .i32⟩
  | .hbm, ⟨67, _⟩ => ⟨S32x16x16384x1, .f32⟩
  | .hbm, ⟨68, _⟩ => ⟨S1x16384x32x16, .f32⟩
  | .hbm, ⟨69, _⟩ => ⟨S32x16x64, .f32⟩
  | .hbm, ⟨70, _⟩ => ⟨S32x16x16384x1, .f32⟩
  | .hbm, ⟨71, _⟩ => ⟨S1x16384x32x16, .f32⟩
  | .hbm, ⟨72, _⟩ => ⟨S1x16384x32x16, .f32⟩
  | .hbm, ⟨73, _⟩ => ⟨S1x16384x512, .f32⟩
  | .hbm, ⟨74, _⟩ => ⟨S1x1x512, .f32⟩
  | .hbm, ⟨75, _⟩ => ⟨S1x16384x512, .f32⟩
  | .hbm, ⟨76, _⟩ => ⟨S1x16384x512, .f32⟩
  | .hbm, ⟨77, _⟩ => ⟨S1x16384x512, .f32⟩
  | .hbm, ⟨78, _⟩ => ⟨S1x4x512, .f32⟩
  | .hbm, ⟨79, _⟩ => ⟨S1x4x512, .f32⟩
  | .hbm, ⟨80, _⟩ => ⟨S1x8x512, .f32⟩
  | _, _ => ⟨S1x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_c : Ref sig .tc := ⟨.hbm, 21, rfl⟩
abbrev main_v9_0 : Ref sig .tc := ⟨.hbm, 22, rfl⟩
abbrev main_v9_1 : Ref sig .tc := ⟨.hbm, 23, rfl⟩
abbrev main_v9_2 : Ref sig .tc := ⟨.hbm, 24, rfl⟩
abbrev main_v9_3 : Ref sig .tc := ⟨.hbm, 25, rfl⟩
abbrev main_v9_4 : Ref sig .tc := ⟨.hbm, 26, rfl⟩
abbrev main_v9_5 : Ref sig .tc := ⟨.hbm, 27, rfl⟩
abbrev main_v9_6 : Ref sig .tc := ⟨.hbm, 28, rfl⟩
abbrev main_v9_7 : Ref sig .tc := ⟨.hbm, 29, rfl⟩
abbrev main_v9_8 : Ref sig .tc := ⟨.hbm, 30, rfl⟩
abbrev main_while0c_c_9 : Ref sig .tc := ⟨.hbm, 31, rfl⟩
abbrev main_while0c_v24 : Ref sig .tc := ⟨.hbm, 32, rfl⟩
abbrev main_while0b_call0_c : Ref sig .tc := ⟨.hbm, 33, rfl⟩
abbrev main_while0b_call0_c_0 : Ref sig .tc := ⟨.hbm, 34, rfl⟩
abbrev main_while0b_call0_c_1 : Ref sig .tc := ⟨.hbm, 35, rfl⟩
abbrev main_while0b_call0_v0 : Ref sig .tc := ⟨.hbm, 36, rfl⟩
abbrev main_while0b_v24 : Ref sig .tc := ⟨.hbm, 37, rfl⟩
abbrev main_while0b_call1_c : Ref sig .tc := ⟨.hbm, 38, rfl⟩
abbrev main_while0b_call1_c_0 : Ref sig .tc := ⟨.hbm, 39, rfl⟩
abbrev main_while0b_call1_c_1 : Ref sig .tc := ⟨.hbm, 40, rfl⟩
abbrev main_while0b_call1_v0 : Ref sig .tc := ⟨.hbm, 41, rfl⟩
abbrev main_while0b_v25 : Ref sig .tc := ⟨.hbm, 42, rfl⟩
abbrev main_while0b_v26 : Ref sig .tc := ⟨.hbm, 43, rfl⟩
abbrev main_while0b_v27 : Ref sig .tc := ⟨.hbm, 44, rfl⟩
abbrev main_while0b_v28 : Ref sig .tc := ⟨.hbm, 45, rfl⟩
abbrev main_while0b_v29 : Ref sig .tc := ⟨.hbm, 46, rfl⟩
abbrev main_while0b_v30 : Ref sig .tc := ⟨.hbm, 47, rfl⟩
abbrev main_while0b_v31 : Ref sig .tc := ⟨.hbm, 48, rfl⟩
abbrev main_while0b_v32 : Ref sig .tc := ⟨.hbm, 49, rfl⟩
abbrev main_while0b_v33 : Ref sig .tc := ⟨.hbm, 50, rfl⟩
abbrev main_while0b_v34 : Ref sig .tc := ⟨.hbm, 51, rfl⟩
abbrev main_while0b_v35 : Ref sig .tc := ⟨.hbm, 52, rfl⟩
abbrev main_while0b_v36 : Ref sig .tc := ⟨.hbm, 53, rfl⟩
abbrev main_while0b_v37 : Ref sig .tc := ⟨.hbm, 54, rfl⟩
abbrev main_while0b_call2_v0 : Ref sig .tc := ⟨.hbm, 55, rfl⟩
abbrev main_while0b_call2_c : Ref sig .tc := ⟨.hbm, 56, rfl⟩
abbrev main_while0b_call2_c_0 : Ref sig .tc := ⟨.hbm, 57, rfl⟩
abbrev main_while0b_call2_c_1 : Ref sig .tc := ⟨.hbm, 58, rfl⟩
abbrev main_while0b_v38 : Ref sig .tc := ⟨.hbm, 59, rfl⟩
abbrev main_while0b_call3_v0 : Ref sig .tc := ⟨.hbm, 60, rfl⟩
abbrev main_while0b_call3_c : Ref sig .tc := ⟨.hbm, 61, rfl⟩
abbrev main_while0b_call3_c_0 : Ref sig .tc := ⟨.hbm, 62, rfl⟩
abbrev main_while0b_call3_c_1 : Ref sig .tc := ⟨.hbm, 63, rfl⟩
abbrev main_while0b_v39 : Ref sig .tc := ⟨.hbm, 64, rfl⟩
abbrev main_while0b_c_9 : Ref sig .tc := ⟨.hbm, 65, rfl⟩
abbrev main_while0b_v40 : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩

abbrev nD : Nat := 1
abbrev τ : Topo := Topo.v7x

variable {F : FTy → Type} [FloatOps F]

abbrev main_while0_count : Scf.Loop 32 := ⟨0#32, 16384#32, 1#32⟩
-- ==== InEven.lean ====
abbrev S1x16384x1024 : Shape := ⟨3, ![1, 16384, 1024]⟩
abbrev S1x1x3072 : Shape := ⟨3, ![1, 1, 3072]⟩
abbrev S1024 : Shape := ⟨1, ![1024]⟩
abbrev S1024x3072 : Shape := ⟨2, ![1024, 3072]⟩
abbrev S3x512 : Shape := ⟨2, ![3, 512]⟩
abbrev S512 : Shape := ⟨1, ![512]⟩
abbrev S1x2x512 : Shape := ⟨3, ![1, 2, 512]⟩
abbrev S1x1024 : Shape := ⟨2, ![1, 1024]⟩
abbrev S1x512 : Shape := ⟨2, ![1, 512]⟩
abbrev S1x16384x512 : Shape := ⟨3, ![1, 16384, 512]⟩
abbrev S1x512x1024 : Shape := ⟨3, ![1, 512, 1024]⟩
abbrev S1x512x512 : Shape := ⟨3, ![1, 512, 512]⟩
abbrev S1x520x512 : Shape := ⟨3, ![1, 520, 512]⟩
abbrev S1x1x1024 : Shape := ⟨3, ![1, 1, 1024]⟩
abbrev S1x512x1 : Shape := ⟨3, ![1, 512, 1]⟩
abbrev S512x1024 : Shape := ⟨2, ![512, 1024]⟩
abbrev S512x3072 : Shape := ⟨2, ![512, 3072]⟩
abbrev S512x512 : Shape := ⟨2, ![512, 512]⟩
abbrev S1x1x512 : Shape := ⟨3, ![1, 1, 512]⟩

abbrev nBuf : Space → Nat
  | .hbm => 14
  | .vmem => 16
  | .smem => 0
  | _ => 0

abbrev bufTy : (tb : Table) → Fin (tcTables nBuf tb) → BufTy
  | .hbm, ⟨0, _⟩ => ⟨S1x16384x1024, .f32⟩
  | .hbm, ⟨1, _⟩ => ⟨S1x1x3072, .f32⟩
  | .hbm, ⟨2, _⟩ => ⟨S1024, .f32⟩
  | .hbm, ⟨3, _⟩ => ⟨S1024x3072, .f32⟩
  | .hbm, ⟨4, _⟩ => ⟨S3x512, .f32⟩
  | .hbm, ⟨5, _⟩ => ⟨S512, .f32⟩
  | .hbm, ⟨6, _⟩ => ⟨S1x2x512, .f32⟩
  | .hbm, ⟨7, _⟩ => ⟨S1024x3072, .bf16⟩
  | .hbm, ⟨8, _⟩ => ⟨S1x1024, .f32⟩
  | .hbm, ⟨9, _⟩ => ⟨S1x512, .f32⟩
  | .hbm, ⟨10, _⟩ => ⟨S1x16384x512, .f32⟩
  | .hbm, ⟨11, _⟩ => ⟨S1x16384x512, .f32⟩
  | .hbm, ⟨12, _⟩ => ⟨S1x16384x512, .f32⟩
  | .hbm, ⟨13, _⟩ => ⟨S1x2x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1x3072, .f32⟩
  | .local _ .vmem, ⟨3, _⟩ => ⟨S1x1024, .f32⟩
  | .local _ .vmem, ⟨4, _⟩ => ⟨S1024x3072, .bf16⟩
  | .local _ .vmem, ⟨5, _⟩ => ⟨S3x512, .f32⟩
  | .local _ .vmem, ⟨6, _⟩ => ⟨S1x512, .f32⟩
  | .local _ .vmem, ⟨7, _⟩ => ⟨S1x2x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x2x512, .f32⟩
  | .local _ .vmem, ⟨15, _⟩ => ⟨S1x520x512, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InEvenRefIdeal.lean ====
abbrev S1x16384x1024 : Shape := ⟨3, ![1, 16384, 1024]⟩
abbrev S1x1x3072 : Shape := ⟨3, ![1, 1, 3072]⟩
abbrev S1024 : Shape := ⟨1, ![1024]⟩
abbrev S1024x3072 : Shape := ⟨2, ![1024, 3072]⟩
abbrev S3x512 : Shape := ⟨2, ![3, 512]⟩
abbrev S512 : Shape := ⟨1, ![512]⟩
abbrev S1x2x512 : Shape := ⟨3, ![1, 2, 512]⟩
abbrev S1x1x1024 : Shape := ⟨3, ![1, 1, 1024]⟩
abbrev S_ : Shape := ⟨0, ![]⟩
abbrev S1x16384 : Shape := ⟨2, ![1, 16384]⟩
abbrev S1x16384x1 : Shape := ⟨3, ![1, 16384, 1]⟩
abbrev S1x16384x3072 : Shape := ⟨3, ![1, 16384, 3072]⟩
abbrev S1x16384x512 : Shape := ⟨3, ![1, 16384, 512]⟩
abbrev S1x16386x512 : Shape := ⟨3, ![1, 16386, 512]⟩
abbrev S1x512 : Shape := ⟨2, ![1, 512]⟩
abbrev S1x1x512 : Shape := ⟨3, ![1, 1, 512]⟩

abbrev nBuf : Space → Nat
  | .hbm => 89
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x1x3072, .f32⟩
  | .hbm, ⟨2, _⟩ => ⟨S1024, .f32⟩
  | .hbm, ⟨3, _⟩ => ⟨S1024x3072, .f32⟩
  | .hbm, ⟨4, _⟩ => ⟨S3x512, .f32⟩
  | .hbm, ⟨5, _⟩ => ⟨S512, .f32⟩
  | .hbm, ⟨6, _⟩ => ⟨S1x2x512, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S1x16384x1024, .f32⟩
  | .hbm, ⟨11, _⟩ => ⟨S_, .f32⟩
  | .hbm, ⟨12, _⟩ => ⟨S1x16384, .f32⟩
  | .hbm, ⟨13, _⟩ => ⟨S1x16384x1, .f32⟩
  | .hbm, ⟨14, _⟩ => ⟨S_, .f32⟩
  | .hbm, ⟨15, _⟩ => ⟨S1x16384x1, .f32⟩
  | .hbm, ⟨16, _⟩ => ⟨S1x16384x1, .f32⟩
  | .hbm, ⟨17, _⟩ => ⟨S_, .f32⟩
  | .hbm, ⟨18, _⟩ => ⟨S1x16384x1, .f32⟩
  | .hbm, ⟨19, _⟩ => ⟨S1x16384x1, .f32⟩
  | .hbm, ⟨20, _⟩ => ⟨S1x16384x1, .f32⟩
  | .hbm, ⟨21, _⟩ => ⟨S1x16384x1024, .f32⟩
  | .hbm, ⟨22, _⟩ => ⟨S1x16384x1024, .f32⟩
  | .hbm, ⟨23, _⟩ => ⟨S1x1x1024, .f32⟩
  | .hbm, ⟨24, _⟩ => ⟨S1x16384x1024, .f32⟩
  | .hbm, ⟨25, _⟩ => ⟨S1x16384x1024, .f32⟩
  | .hbm, ⟨26, _⟩ => ⟨S_, .f32⟩
  | .hbm, ⟨27, _⟩ => ⟨S1x1x1024, .f32⟩
  | .hbm, ⟨28, _⟩ => ⟨S1x1x1024, .f32⟩
  | .hbm, ⟨29, _⟩ => ⟨S1x16384x1024, .f32⟩
  | .hbm, ⟨30, _⟩ => ⟨S1x16384x1024, .f32⟩
  | .hbm, ⟨31, _⟩ => ⟨S1x16384x1024, .f32⟩
  | .hbm, ⟨32, _⟩ => ⟨S1x16384x1024, .f32⟩
  | .hbm, ⟨33, _⟩ => ⟨S1x16384x3072, .f32⟩
  | .hbm, ⟨34, _⟩ => ⟨S1x16384x512, .f32⟩
  | .hbm, ⟨35, _⟩ => ⟨S1x16384x512, .f32⟩
  | .hbm, ⟨36, _⟩ => ⟨S1x16384x512, .f32⟩
  | .hbm, ⟨37, _⟩ => ⟨S1x16384x512, .f32⟩
  | .hbm, ⟨38, _⟩ => ⟨S1x16384x512, .f32⟩
  | .hbm, ⟨39, _⟩ => ⟨S1x16384x512, .f32⟩
  | .hbm, ⟨40, _⟩ => ⟨S1x16384x512, .f32⟩
  | .hbm, ⟨41, _⟩ => ⟨S1x16386x512, .f32⟩
  | .hbm, ⟨42, _⟩ => ⟨S1x16384x512, .f32⟩
  | .hbm, ⟨43, _⟩ => ⟨S1x512, .f32⟩
  | .hbm, ⟨44, _⟩ => ⟨S512, .f32⟩
  | .hbm, ⟨45, _⟩ => ⟨S1x1x512, .f32⟩
  | .hbm, ⟨46, _⟩ => ⟨S1x16384x512, .f32⟩
  | .hbm, ⟨47, _⟩ => ⟨S1x16384x512, .f32⟩
  | .hbm, ⟨48, _⟩ => ⟨S_, .f32⟩
  | .hbm, ⟨49, _⟩ => ⟨S1x16384x512, .f32⟩
  | .hbm, ⟨50, _⟩ => ⟨S1x16384x512, .f32⟩
  | .hbm, ⟨51, _⟩ => ⟨S1x16384x512, .f32⟩
  | .hbm, ⟨52, _⟩ => ⟨S1x512, .f32⟩
  | .hbm, ⟨53, _⟩ => ⟨S512, .f32⟩
  | .hbm, ⟨54, _⟩ => ⟨S1x1x512, .f32⟩
  | .hbm, ⟨55, _⟩ => ⟨S1x16384x512, .f32⟩
  | .hbm, ⟨56, _⟩ => ⟨S1x16384x512, .f32⟩
  | .hbm, ⟨57, _⟩ => ⟨S1x16384x512, .f32⟩
  | .hbm, ⟨58, _⟩ => ⟨S1x16384x512, .f32⟩
  | .hbm, ⟨59, _⟩ => ⟨S1x512, .f32⟩
  | .hbm, ⟨60, _⟩ => ⟨S512, .f32⟩
  | .hbm, ⟨61, _⟩ => ⟨S1x1x512, .f32⟩
  | .hbm, ⟨62, _⟩ => ⟨S1x16384x512, .f32⟩
  | .hbm, ⟨63, _⟩ => ⟨S1x16384x512, .f32⟩
  | .hbm, ⟨64, _⟩ => ⟨S1x16384x512, .f32⟩
  | .hbm, ⟨65, _⟩ => ⟨S1x1x512, .f32⟩
  | .hbm, ⟨66, _⟩ => ⟨S1x16384x512, .f32⟩
  | .hbm, ⟨67, _⟩ => ⟨S1x16384x512, .f32⟩
  | .hbm, ⟨68, _⟩ => ⟨S1x16384x512, .f32⟩
  | .hbm, ⟨69, _⟩ => ⟨S1x16384x512, .f32⟩
  | .hbm, ⟨70, _⟩ => ⟨S1x16384x512, .f32⟩
  | .hbm, ⟨71, _⟩ => ⟨S_, .f32⟩
  | .hbm, ⟨72, _⟩ => ⟨S1x16384x512, .f32⟩
  | .hbm, ⟨73, _⟩ => ⟨S1x16384x512, .f32⟩
  | .hbm, ⟨74, _⟩ => ⟨S_, .f32⟩
  | .hbm, ⟨75, _⟩ => ⟨S1x16384x512, .f32⟩
  | .hbm, ⟨76, _⟩ => ⟨S1x16384x512, .f32⟩
  | .hbm, ⟨77, _⟩ => ⟨S1x16384x512, .f32⟩
  | .hbm, ⟨78, _⟩ => ⟨S1x16384x512, .f32⟩
  | .hbm, ⟨79, _⟩ => ⟨S1x16384x512, .f32⟩
  | .hbm, ⟨80, _⟩ => ⟨S1x16384x512, .f32⟩
  | .hbm, ⟨81, _⟩ => ⟨S_, .f32⟩
  | .hbm, ⟨82, _⟩ => ⟨S1x16384x512, .f32⟩
  | .hbm, ⟨83, _⟩ => ⟨S1x16384x512, .f32⟩
  | .hbm, ⟨84, _⟩ => ⟨S_, .f32⟩
  | .hbm, ⟨85, _⟩ => ⟨S1x16384x512, .f32⟩
  | .hbm, ⟨86, _⟩ => ⟨S1x16384x512, .f32⟩
  | .hbm, ⟨87, _⟩ => ⟨S1x16384x512, .f32⟩
  | .hbm, ⟨88, _⟩ => ⟨S1x2x512, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v57 : Ref sig .tc := ⟨.hbm, 77, rfl⟩
abbrev main_v58 : Ref sig .tc := ⟨.hbm, 78, rfl⟩
abbrev main_call1_v0 : Ref sig .tc := ⟨.hbm, 79, rfl⟩
abbrev main_call1_v1 : Ref sig .tc := ⟨.hbm, 80, rfl⟩
abbrev main_call1_cst : Ref sig .tc := ⟨.hbm, 81, rfl⟩
abbrev main_call1_v2 : Ref sig .tc := ⟨.hbm, 82, rfl⟩
abbrev main_call1_v3 : Ref sig .tc := ⟨.hbm, 83, rfl⟩
abbrev main_call1_cst_0 : Ref sig .tc := ⟨.hbm, 84, rfl⟩
abbrev main_call1_v4 : Ref sig .tc := ⟨.hbm, 85, rfl⟩
abbrev main_call1_v5 : Ref sig .tc := ⟨.hbm, 86, rfl⟩
abbrev main_v59 : Ref sig .tc := ⟨.hbm, 87, rfl⟩
abbrev main_v60 : Ref sig .tc := ⟨.hbm, 88, rfl⟩

abbrev nD : Nat := 1
abbrev τ : Topo := Topo.v7x

variable {F : FTy → Type} [FloatOps F]
-- ==== OutEven.lean ====
abbrev S1x16384x1024 : Shape := ⟨3, ![1, 16384, 1024]⟩
abbrev S1x16384x512 : Shape := ⟨3, ![1, 16384, 512]⟩
abbrev S1x1x3072 : Shape := ⟨3, ![1, 1, 3072]⟩
abbrev S1024 : Shape := ⟨1, ![1024]⟩
abbrev S512x512 : Shape := ⟨2, ![512, 512]⟩
abbrev S1024x1024 : Shape := ⟨2, ![1024, 1024]⟩
abbrev S1x1024 : Shape := ⟨2, ![1, 1024]⟩
abbrev S1x512x1024 : Shape := ⟨3, ![1, 512, 1024]⟩
abbrev S1x512x512 : Shape := ⟨3, ![1, 512, 512]⟩
abbrev S512x1024 : Shape := ⟨2, ![512, 1024]⟩
abbrev S1x1x1024 : Shape := ⟨3, ![1, 1, 1024]⟩
abbrev S1x512 : Shape := ⟨2, ![1, 512]⟩
abbrev S1x512x1 : Shape := ⟨3, ![1, 512, 1]⟩

abbrev nBuf : Space → Nat
  | .hbm => 12
  | .vmem => 14
  | .smem => 0
  | _ => 0

abbrev bufTy : (tb : Table) → Fin (tcTables nBuf tb) → BufTy
  | .hbm, ⟨0, _⟩ => ⟨S1x16384x1024, .f32⟩
  | .hbm, ⟨1, _⟩ => ⟨S1x16384x512, .f32⟩
  | .hbm, ⟨2, _⟩ => ⟨S1x16384x512, .f32⟩
  | .hbm, ⟨3, _⟩ => ⟨S1x16384x512, .f32⟩
  | .hbm, ⟨4, _⟩ => ⟨S1x1x3072, .f32⟩
  | .hbm, ⟨5, _⟩ => ⟨S1024, .f32⟩
  | .hbm, ⟨6, _⟩ => ⟨S512x512, .f32⟩
  | .hbm, ⟨7, _⟩ => ⟨S1024x1024, .f32⟩
  | .hbm, ⟨8, _⟩ => ⟨S512x512, .bf16⟩
  | .hbm, ⟨9, _⟩ => ⟨S1024x1024, .bf16⟩
  | .hbm, ⟨10, _⟩ => ⟨S1x1024, .f32⟩
  | .hbm, ⟨11, _⟩ => ⟨S1x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x1x3072, .f32⟩
  | .local _ .vmem, ⟨9, _⟩ => ⟨S1x1024, .f32⟩
  | .local _ .vmem, ⟨10, _⟩ => ⟨S512x512, .bf16⟩
  | .local _ .vmem, ⟨11, _⟩ => ⟨S1024x1024, .bf16⟩
  | .local _ .vmem, ⟨12, _⟩ => ⟨S1x512x1024, .f32⟩
  | .local _ .vmem, ⟨13, _⟩ => ⟨S1x512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutEvenRefIdeal.lean ====
abbrev S1x16384x1024 : Shape := ⟨3, ![1, 16384, 1024]⟩
abbrev S1x16384x512 : Shape := ⟨3, ![1, 16384, 512]⟩
abbrev S1x1x3072 : Shape := ⟨3, ![1, 1, 3072]⟩
abbrev S1024 : Shape := ⟨1, ![1024]⟩
abbrev S512x512 : Shape := ⟨2, ![512, 512]⟩
abbrev S1024x1024 : Shape := ⟨2, ![1024, 1024]⟩
abbrev S1x1x1024 : Shape := ⟨3, ![1, 1, 1024]⟩
abbrev S_ : Shape := ⟨0, ![]⟩
abbrev S1x16384 : Shape := ⟨2, ![1, 16384]⟩
abbrev S1x16384x1 : Shape := ⟨3, ![1, 16384, 1]⟩

abbrev nBuf : Space → Nat
  | .hbm => 63
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x16384x512, .f32⟩
  | .hbm, ⟨2, _⟩ => ⟨S1x16384x512, .f32⟩
  | .hbm, ⟨3, _⟩ => ⟨S1x16384x512, .f32⟩
  | .hbm, ⟨4, _⟩ => ⟨S1x1x3072, .f32⟩
  | .hbm, ⟨5, _⟩ => ⟨S1024, .f32⟩
  | .hbm, ⟨6, _⟩ => ⟨S512x512, .f32⟩
  | .hbm, ⟨7, _⟩ => ⟨S1024x1024, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S1x16384x512, .f32⟩
  | .hbm, ⟨12, _⟩ => ⟨S1x16384x512, .f32⟩
  | .hbm, ⟨13, _⟩ => ⟨S_, .f32⟩
  | .hbm, ⟨14, _⟩ => ⟨S1x16384x512, .f32⟩
  | .hbm, ⟨15, _⟩ => ⟨S1x16384x512, .f32⟩
  | .hbm, ⟨16, _⟩ => ⟨S1x16384x512, .f32⟩
  | .hbm, ⟨17, _⟩ => ⟨S_, .f32⟩
  | .hbm, ⟨18, _⟩ => ⟨S1x16384x512, .f32⟩
  | .hbm, ⟨19, _⟩ => ⟨S1x16384x512, .f32⟩
  | .hbm, ⟨20, _⟩ => ⟨S1x16384x512, .f32⟩
  | .hbm, ⟨21, _⟩ => ⟨S_, .f32⟩
  | .hbm, ⟨22, _⟩ => ⟨S1x16384x512, .f32⟩
  | .hbm, ⟨23, _⟩ => ⟨S1x16384x512, .f32⟩
  | .hbm, ⟨24, _⟩ => ⟨S_, .f32⟩
  | .hbm, ⟨25, _⟩ => ⟨S1x16384x512, .f32⟩
  | .hbm, ⟨26, _⟩ => ⟨S1x16384x512, .f32⟩
  | .hbm, ⟨27, _⟩ => ⟨S1x16384x512, .f32⟩
  | .hbm, ⟨28, _⟩ => ⟨S1x16384x512, .f32⟩
  | .hbm, ⟨29, _⟩ => ⟨S1x16384x512, .f32⟩
  | .hbm, ⟨30, _⟩ => ⟨S1x16384x512, .f32⟩
  | .hbm, ⟨31, _⟩ => ⟨S_, .f32⟩
  | .hbm, ⟨32, _⟩ => ⟨S1x16384x512, .f32⟩
  | .hbm, ⟨33, _⟩ => ⟨S1x16384x512, .f32⟩
  | .hbm, ⟨34, _⟩ => ⟨S_, .f32⟩
  | .hbm, ⟨35, _⟩ => ⟨S1x16384x512, .f32⟩
  | .hbm, ⟨36, _⟩ => ⟨S1x16384x512, .f32⟩
  | .hbm, ⟨37, _⟩ => ⟨S1x16384x512, .f32⟩
  | .hbm, ⟨38, _⟩ => ⟨S1x16384x512, .f32⟩
  | .hbm, ⟨39, _⟩ => ⟨S1x16384x1024, .f32⟩
  | .hbm, ⟨40, _⟩ => ⟨S1x16384x1024, .f32⟩
  | .hbm, ⟨41, _⟩ => ⟨S_, .f32⟩
  | .hbm, ⟨42, _⟩ => ⟨S1x1x1024, .f32⟩
  | .hbm, ⟨43, _⟩ => ⟨S1x1x1024, .f32⟩
  | .hbm, ⟨44, _⟩ => ⟨S1x16384x1024, .f32⟩
  | .hbm, ⟨45, _⟩ => ⟨S_, .f32⟩
  | .hbm, ⟨46, _⟩ => ⟨S1x16384, .f32⟩
  | .hbm, ⟨47, _⟩ => ⟨S1x16384x1, .f32⟩
  | .hbm, ⟨48, _⟩ => ⟨S_, .f32⟩
  | .hbm, ⟨49, _⟩ => ⟨S1x16384x1, .f32⟩
  | .hbm, ⟨50, _⟩ => ⟨S1x16384x1, .f32⟩
  | .hbm, ⟨51, _⟩ => ⟨S_, .f32⟩
  | .hbm, ⟨52, _⟩ => ⟨S1x16384x1, .f32⟩
  | .hbm, ⟨53, _⟩ => ⟨S1x16384x1, .f32⟩
  | .hbm, ⟨54, _⟩ => ⟨S1x16384x1, .f32⟩
  | .hbm, ⟨55, _⟩ => ⟨S1x16384x1024, .f32⟩
  | .hbm, ⟨56, _⟩ => ⟨S1x16384x1024, .f32⟩
  | .hbm, ⟨57, _⟩ => ⟨S1x1x1024, .f32⟩
  | .hbm, ⟨58, _⟩ => ⟨S1x16384x1024, .f32⟩
  | .hbm, ⟨59, _⟩ => ⟨S1x16384x1024, .f32⟩
  | .hbm, ⟨60, _⟩ => ⟨S1x16384x1024, .f32⟩
  | .hbm, ⟨61, _⟩ => ⟨S1x16384x1024, .f32⟩
  | .hbm, ⟨62, _⟩ => ⟨S1x16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== InOdd.lean ====
abbrev S1x16384x1024 : Shape := ⟨3, ![1, 16384, 1024]⟩
abbrev S1x1x3072 : Shape := ⟨3, ![1, 1, 3072]⟩
abbrev S1024 : Shape := ⟨1, ![1024]⟩
abbrev S1024x4096 : Shape := ⟨2, ![1024, 4096]⟩
abbrev S1x1024 : Shape := ⟨2, ![1, 1024]⟩
abbrev S16x64x16384 : Shape := ⟨3, ![16, 64, 16384]⟩
abbrev S16x64x256x256 : Shape := ⟨4, ![16, 64, 256, 256]⟩
abbrev S16x16x80x1024 : Shape := ⟨4, ![16, 16, 80, 1024]⟩
abbrev S64x1x1024 : Shape := ⟨3, ![64, 1, 1024]⟩
abbrev S1x256x1024 : Shape := ⟨3, ![1, 256, 1024]⟩
abbrev S16x64x256 : Shape := ⟨3, ![16, 64, 256]⟩
abbrev S16x1x256x256 : Shape := ⟨4, ![16, 1, 256, 256]⟩
abbrev S16x1x80x256 : Shape := ⟨4, ![16, 1, 80, 256]⟩
abbrev S1x1x1024 : Shape := ⟨3, ![1, 1, 1024]⟩
abbrev S1x256 : Shape := ⟨2, ![1, 256]⟩
abbrev S1x256x1 : Shape := ⟨3, ![1, 256, 1]⟩
abbrev S256x1024 : Shape := ⟨2, ![256, 1024]⟩
abbrev S256x4096 : Shape := ⟨2, ![256, 4096]⟩
abbrev S1024x256 : Shape := ⟨2, ![1024, 256]⟩
abbrev S16x16x256 : Shape := ⟨3, ![16, 16, 256]⟩
abbrev S16x80x256 : Shape := ⟨3, ![16, 80, 256]⟩
abbrev S256x128 : Shape := ⟨2, ![256, 128]⟩
abbrev S256x256 : Shape := ⟨2, ![256, 256]⟩
abbrev S1x1x256x256 : Shape := ⟨4, ![1, 1, 256, 256]⟩

abbrev nBuf : Space → Nat
  | .hbm => 13
  | .vmem => 19
  | .smem => 0
  | _ => 0

abbrev bufTy : (tb : Table) → Fin (tcTables nBuf tb) → BufTy
  | .hbm, ⟨0, _⟩ => ⟨S1x16384x1024, .f32⟩
  | .hbm, ⟨1, _⟩ => ⟨S1x1x3072, .f32⟩
  | .hbm, ⟨2, _⟩ => ⟨S1024, .f32⟩
  | .hbm, ⟨3, _⟩ => ⟨S1024x4096, .f32⟩
  | .hbm, ⟨4, _⟩ => ⟨S1024x4096, .bf16⟩
  | .hbm, ⟨5, _⟩ => ⟨S1x1024, .f32⟩
  | .hbm, ⟨6, _⟩ => ⟨S1x16384x1024, .f32⟩
  | .hbm, ⟨7, _⟩ => ⟨S1x16384x1024, .f32⟩
  | .hbm, ⟨8, _⟩ => ⟨S1x16384x1024, .f32⟩
  | .hbm, ⟨9, _⟩ => ⟨S16x64x16384, .f32⟩
  | .hbm, ⟨10, _⟩ => ⟨S16x64x256x256, .bf16⟩
  | .hbm, ⟨11, _⟩ => ⟨S16x16x80x1024, .bf16⟩
  | .hbm, ⟨12, _⟩ => ⟨S64x1x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x3072, .f32⟩
  | .local _ .vmem, ⟨3, _⟩ => ⟨S1x1024, .f32⟩
  | .local _ .vmem, ⟨4, _⟩ => ⟨S1024x4096, .bf16⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S16x64x256, .f32⟩
  | .local _ .vmem, ⟨12, _⟩ => ⟨S16x64x256, .f32⟩
  | .local _ .vmem, ⟨13, _⟩ => ⟨S16x1x256x256, .bf16⟩
  | .local _ .vmem, ⟨14, _⟩ => ⟨S16x1x256x256, .bf16⟩
  | .local _ .vmem, ⟨15, _⟩ => ⟨S16x1x80x256, .bf16⟩
  | .local _ .vmem, ⟨16, _⟩ => ⟨S16x1x80x256, .bf16⟩
  | .local _ .vmem, ⟨17, _⟩ => ⟨S1x1x1024, .f32⟩
  | .local _ .vmem, ⟨18, _⟩ => ⟨S1x1x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v2_5 : Ref sig .tc := ⟨.hbm, 11, rfl⟩
abbrev main_v2_6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_9 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, c0_i32_11.toNat, v26.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x1x80x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== InOddRefIdeal.lean ====
abbrev S1x16384x1024 : Shape := ⟨3, ![1, 16384, 1024]⟩
abbrev S1x1x3072 : Shape := ⟨3, ![1, 1, 3072]⟩
abbrev S1024 : Shape := ⟨1, ![1024]⟩
abbrev S1024x4096 : Shape := ⟨2, ![1024, 4096]⟩
abbrev S1x1x1024 : Shape := ⟨3, ![1, 1, 1024]⟩
abbrev S_ : Shape := ⟨0, ![]⟩
abbrev S1x16384 : Shape := ⟨2, ![1, 16384]⟩
abbrev S1x16384x1 : Shape := ⟨3, ![1, 16384, 1]⟩
abbrev S1x16384x4096 : Shape := ⟨3, ![1, 16384, 4096]⟩
abbrev S16384x1024 : Shape := ⟨2, ![16384, 1024]⟩
abbrev S16384x16x64 : Shape := ⟨3, ![16384, 16, 64]⟩
abbrev S16x64x16384 : Shape := ⟨3, ![16, 64, 16384]⟩
abbrev S64x256x1024 : Shape := ⟨3, ![64, 256, 1024]⟩
abbrev S64x1024 : Shape := ⟨2, ![64, 1024]⟩
abbrev S64x1x1024 : Shape := ⟨3, ![64, 1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x1x3072, .f32⟩
  | .hbm, ⟨2, _⟩ => ⟨S1024, .f32⟩
  | .hbm, ⟨3, _⟩ => ⟨S1024x4096, .f32⟩
  | .hbm, ⟨4, _⟩ => ⟨S1x1x1024, .f32⟩
  | .hbm, ⟨5, _⟩ => ⟨S1x1x1024, .f32⟩
  | .hbm, ⟨6, _⟩ => ⟨S1x1x1024, .f32⟩
  | .hbm, ⟨7, _⟩ => ⟨S1x16384x1024, .f32⟩
  | .hbm, ⟨8, _⟩ => ⟨S_, .f32⟩
  | .hbm, ⟨9, _⟩ => ⟨S1x16384, .f32⟩
  | .hbm, ⟨10, _⟩ => ⟨S1x16384x1, .f32⟩
  | .hbm, ⟨11, _⟩ => ⟨S_, .f32⟩
  | .hbm, ⟨12, _⟩ => ⟨S1x16384x1, .f32⟩
  | .hbm, ⟨13, _⟩ => ⟨S1x16384x1, .f32⟩
  | .hbm, ⟨14, _⟩ => ⟨S_, .f32⟩
  | .hbm, ⟨15, _⟩ => ⟨S1x16384x1, .f32⟩
  | .hbm, ⟨16, _⟩ => ⟨S1x16384x1, .f32⟩
  | .hbm, ⟨17, _⟩ => ⟨S1x16384x1, .f32⟩
  | .hbm, ⟨18, _⟩ => ⟨S1x16384x1024, .f32⟩
  | .hbm, ⟨19, _⟩ => ⟨S1x16384x1024, .f32⟩
  | .hbm, ⟨20, _⟩ => ⟨S1x1x1024, .f32⟩
  | .hbm, ⟨21, _⟩ => ⟨S1x16384x1024, .f32⟩
  | .hbm, ⟨22, _⟩ => ⟨S1x16384x1024, .f32⟩
  | .hbm, ⟨23, _⟩ => ⟨S_, .f32⟩
  | .hbm, ⟨24, _⟩ => ⟨S1x1x1024, .f32⟩
  | .hbm, ⟨25, _⟩ => ⟨S1x1x1024, .f32⟩
  | .hbm, ⟨26, _⟩ => ⟨S1x16384x1024, .f32⟩
  | .hbm, ⟨27, _⟩ => ⟨S1x16384x1024, .f32⟩
  | .hbm, ⟨28, _⟩ => ⟨S1x16384x1024, .f32⟩
  | .hbm, ⟨29, _⟩ => ⟨S1x16384x1024, .f32⟩
  | .hbm, ⟨30, _⟩ => ⟨S1x16384x4096, .f32⟩
  | .hbm, ⟨31, _⟩ => ⟨S1x16384x1024, .f32⟩
  | .hbm, ⟨32, _⟩ => ⟨S1x16384x1024, .f32⟩
  | .hbm, ⟨33, _⟩ => ⟨S1x16384x1024, .f32⟩
  | .hbm, ⟨34, _⟩ => ⟨S1x16384x1024, .f32⟩
  | .hbm, ⟨35, _⟩ => ⟨S16384x1024, .f32⟩
  | .hbm, ⟨36, _⟩ => ⟨S16384x16x64, .f32⟩
  | .hbm, ⟨37, _⟩ => ⟨S16x64x16384, .f32⟩
  | .hbm, ⟨38, _⟩ => ⟨S64x256x1024, .f32⟩
  | .hbm, ⟨39, _⟩ => ⟨S_, .f32⟩
  | .hbm, ⟨40, _⟩ => ⟨S64x1024, .f32⟩
  | .hbm, ⟨41, _⟩ => ⟨S64x1x1024, .f32⟩
  | .hbm, ⟨42, _⟩ => ⟨S_, .f32⟩
  | .hbm, ⟨43, _⟩ => ⟨S64x1x1024, .f32⟩
  | .hbm, ⟨44, _⟩ => ⟨S64x1x1024, .f32⟩
  | .hbm, ⟨45, _⟩ => ⟨S1x16384x1024, .f32⟩
  | .hbm, ⟨46, _⟩ => ⟨S1x16384x1024, .f32⟩
  | .hbm, ⟨47, _⟩ => ⟨S_, .f32⟩
  | .hbm, ⟨48, _⟩ => ⟨S1x16384x1024, .f32⟩
  | .hbm, ⟨49, _⟩ => ⟨S1x16384x1024, .f32⟩
  | .hbm, ⟨50, _⟩ => ⟨S_, .f32⟩
  | .hbm, ⟨51, _⟩ => ⟨S1x16384x1024, .f32⟩
  | .hbm, ⟨52, _⟩ => ⟨S1x16384x1024, .f32⟩
  | .hbm, ⟨53, _⟩ => ⟨S1x16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v35 : Ref sig .tc := ⟨.hbm, 53, rfl⟩

abbrev nD : Nat := 1
abbrev τ : Topo := Topo.v7x

variable {F : FTy → Type} [FloatOps F]
-- ==== OutOdd.lean ====
abbrev S1x16384x1024 : Shape := ⟨3, ![1, 16384, 1024]⟩
abbrev S16x64x16384 : Shape := ⟨3, ![16, 64, 16384]⟩
abbrev S1x1x3072 : Shape := ⟨3, ![1, 1, 3072]⟩
abbrev S1024 : Shape := ⟨1, ![1024]⟩
abbrev S1024x1024 : Shape := ⟨2, ![1024, 1024]⟩
abbrev S1x1024 : Shape := ⟨2, ![1, 1024]⟩
abbrev S1x256x1024 : Shape := ⟨3, ![1, 256, 1024]⟩
abbrev S16x64x256 : Shape := ⟨3, ![16, 64, 256]⟩
abbrev S1024x256 : Shape := ⟨2, ![1024, 256]⟩
abbrev S256x1024 : Shape := ⟨2, ![256, 1024]⟩
abbrev S1x1x1024 : Shape := ⟨3, ![1, 1, 1024]⟩
abbrev S1x256 : Shape := ⟨2, ![1, 256]⟩
abbrev S1x256x1 : Shape := ⟨3, ![1, 256, 1]⟩

abbrev nBuf : Space → Nat
  | .hbm => 9
  | .vmem => 11
  | .smem => 0
  | _ => 0

abbrev bufTy : (tb : Table) → Fin (tcTables nBuf tb) → BufTy
  | .hbm, ⟨0, _⟩ => ⟨S1x16384x1024, .f32⟩
  | .hbm, ⟨1, _⟩ => ⟨S16x64x16384, .f32⟩
  | .hbm, ⟨2, _⟩ => ⟨S1x16384x1024, .f32⟩
  | .hbm, ⟨3, _⟩ => ⟨S1x1x3072, .f32⟩
  | .hbm, ⟨4, _⟩ => ⟨S1024, .f32⟩
  | .hbm, ⟨5, _⟩ => ⟨S1024x1024, .f32⟩
  | .hbm, ⟨6, _⟩ => ⟨S1024x1024, .bf16⟩
  | .hbm, ⟨7, _⟩ => ⟨S1x1024, .f32⟩
  | .hbm, ⟨8, _⟩ => ⟨S1x16384x1024, .f32⟩
  | .local _ .vmem, ⟨0, _⟩ => ⟨S1x256x1024, .f32⟩
  | .local _ .vmem, ⟨1, _⟩ => ⟨S1x256x1024, .f32⟩
  | .local _ .vmem, ⟨2, _⟩ => ⟨S16x64x256, .f32⟩
  | .local _ .vmem, ⟨3, _⟩ => ⟨S16x64x256, .f32⟩
  | .local _ .vmem, ⟨4, _⟩ => ⟨S1x256x1024, .f32⟩
  | .local _ .vmem, ⟨5, _⟩ => ⟨S1x256x1024, .f32⟩
  | .local _ .vmem, ⟨6, _⟩ => ⟨S1x1x3072, .f32⟩
  | .local _ .vmem, ⟨7, _⟩ => ⟨S1x1024, .f32⟩
  | .local _ .vmem, ⟨8, _⟩ => ⟨S1024x1024, .bf16⟩
  | .local _ .vmem, ⟨9, _⟩ => ⟨S1x256x1024, .f32⟩
  | .local _ .vmem, ⟨10, _⟩ => ⟨S1x256x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutOddRefIdeal.lean ====
abbrev S1x16384x1024 : Shape := ⟨3, ![1, 16384, 1024]⟩
abbrev S16x64x16384 : Shape := ⟨3, ![16, 64, 16384]⟩
abbrev S1x1x3072 : Shape := ⟨3, ![1, 1, 3072]⟩
abbrev S1024 : Shape := ⟨1, ![1024]⟩
abbrev S1024x1024 : Shape := ⟨2, ![1024, 1024]⟩
abbrev S1x1x1024 : Shape := ⟨3, ![1, 1, 1024]⟩
abbrev S16384x16x64 : Shape := ⟨3, ![16384, 16, 64]⟩
abbrev S_ : Shape := ⟨0, ![]⟩
abbrev S1x16384 : Shape := ⟨2, ![1, 16384]⟩
abbrev S1x16384x1 : Shape := ⟨3, ![1, 16384, 1]⟩

abbrev nBuf : Space → Nat
  | .hbm => 35
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S16x64x16384, .f32⟩
  | .hbm, ⟨2, _⟩ => ⟨S1x16384x1024, .f32⟩
  | .hbm, ⟨3, _⟩ => ⟨S1x1x3072, .f32⟩
  | .hbm, ⟨4, _⟩ => ⟨S1024, .f32⟩
  | .hbm, ⟨5, _⟩ => ⟨S1024x1024, .f32⟩
  | .hbm, ⟨6, _⟩ => ⟨S1x1x1024, .f32⟩
  | .hbm, ⟨7, _⟩ => ⟨S1x1x1024, .f32⟩
  | .hbm, ⟨8, _⟩ => ⟨S1x1x1024, .f32⟩
  | .hbm, ⟨9, _⟩ => ⟨S16384x16x64, .f32⟩
  | .hbm, ⟨10, _⟩ => ⟨S1x16384x1024, .f32⟩
  | .hbm, ⟨11, _⟩ => ⟨S_, .f32⟩
  | .hbm, ⟨12, _⟩ => ⟨S1x1x1024, .f32⟩
  | .hbm, ⟨13, _⟩ => ⟨S1x1x1024, .f32⟩
  | .hbm, ⟨14, _⟩ => ⟨S1x16384x1024, .f32⟩
  | .hbm, ⟨15, _⟩ => ⟨S1x16384x1024, .f32⟩
  | .hbm, ⟨16, _⟩ => ⟨S1x16384x1024, .f32⟩
  | .hbm, ⟨17, _⟩ => ⟨S_, .f32⟩
  | .hbm, ⟨18, _⟩ => ⟨S1x16384, .f32⟩
  | .hbm, ⟨19, _⟩ => ⟨S1x16384x1, .f32⟩
  | .hbm, ⟨20, _⟩ => ⟨S_, .f32⟩
  | .hbm, ⟨21, _⟩ => ⟨S1x16384x1, .f32⟩
  | .hbm, ⟨22, _⟩ => ⟨S1x16384x1, .f32⟩
  | .hbm, ⟨23, _⟩ => ⟨S_, .f32⟩
  | .hbm, ⟨24, _⟩ => ⟨S1x16384x1, .f32⟩
  | .hbm, ⟨25, _⟩ => ⟨S1x16384x1, .f32⟩
  | .hbm, ⟨26, _⟩ => ⟨S1x16384x1, .f32⟩
  | .hbm, ⟨27, _⟩ => ⟨S1x16384x1024, .f32⟩
  | .hbm, ⟨28, _⟩ => ⟨S1x16384x1024, .f32⟩
  | .hbm, ⟨29, _⟩ => ⟨S1x1x1024, .f32⟩
  | .hbm, ⟨30, _⟩ => ⟨S1x16384x1024, .f32⟩
  | .hbm, ⟨31, _⟩ => ⟨S1x16384x1024, .f32⟩
  | .hbm, ⟨32, _⟩ => ⟨S1x16384x1024, .f32⟩
  | .hbm, ⟨33, _⟩ => ⟨S1x16384x1024, .f32⟩
  | .hbm, ⟨34, _⟩ => ⟨S1x16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Adaln.lean ====
abbrev S40x1024 : Shape := ⟨2, ![40, 1024]⟩
abbrev S2x1024x3072 : Shape := ⟨3, ![2, 1024, 3072]⟩
abbrev S2x3072 : Shape := ⟨2, ![2, 3072]⟩
abbrev S2x1x3072 : Shape := ⟨3, ![2, 1, 3072]⟩
abbrev S2x40x3072 : Shape := ⟨3, ![2, 40, 3072]⟩
abbrev S1x1024x1024 : Shape := ⟨3, ![1, 1024, 1024]⟩
abbrev S1x1x1024 : Shape := ⟨3, ![1, 1, 1024]⟩
abbrev S1x40x1024 : Shape := ⟨3, ![1, 40, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S40x1024, .f32⟩
  | .hbm, ⟨1, _⟩ => ⟨S2x1024x3072, .f32⟩
  | .hbm, ⟨2, _⟩ => ⟨S2x3072, .f32⟩
  | .hbm, ⟨3, _⟩ => ⟨S2x1x3072, .f32⟩
  | .hbm, ⟨4, _⟩ => ⟨S2x40x3072, .f32⟩
  | .local _ .vmem, ⟨0, _⟩ => ⟨S40x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x40x1024, .f32⟩
  | .local _ .vmem, ⟨6, _⟩ => ⟨S1x40x1024, .f32⟩
  | _, _ => ⟨S40x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x40x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdalnRefIdeal.lean ====
abbrev S40x1024 : Shape := ⟨2, ![40, 1024]⟩
abbrev S2x1024x3072 : Shape := ⟨3, ![2, 1024, 3072]⟩
abbrev S2x3072 : Shape := ⟨2, ![2, 3072]⟩
abbrev S_ : Shape := ⟨0, ![]⟩
abbrev S1x1024x3072 : Shape := ⟨3, ![1, 1024, 3072]⟩
abbrev S1024x3072 : Shape := ⟨2, ![1024, 3072]⟩
abbrev S40x3072 : Shape := ⟨2, ![40, 3072]⟩
abbrev S1x3072 : Shape := ⟨2, ![1, 3072]⟩
abbrev S3072 : Shape := ⟨1, ![3072]⟩
abbrev S1x40x3072 : Shape := ⟨3, ![1, 40, 3072]⟩
abbrev S2x40x3072 : Shape := ⟨3, ![2, 40, 3072]⟩

abbrev nBuf : Space → Nat
  | .hbm => 40
  | .vmem => 0
  | .smem => 0
  | _ => 0

abbrev bufTy : (tb : Table) → Fin (tcTables nBuf tb) → BufTy
  | .hbm, ⟨0, _⟩ => ⟨S40x1024, .f32⟩
  | .hbm, ⟨1, _⟩ => ⟨S2x1024x3072, .f32⟩
  | .hbm, ⟨2, _⟩ => ⟨S2x3072, .f32⟩
  | .hbm, ⟨3, _⟩ => ⟨S40x1024, .f32⟩
  | .hbm, ⟨4, _⟩ => ⟨S40x1024, .f32⟩
  | .hbm, ⟨5, _⟩ => ⟨S_, .f32⟩
  | .hbm, ⟨6, _⟩ => ⟨S40x1024, .f32⟩
  | .hbm, ⟨7, _⟩ => ⟨S40x1024, .f32⟩
  | .hbm, ⟨8, _⟩ => ⟨S_, .f32⟩
  | .hbm, ⟨9, _⟩ => ⟨S40x1024, .f32⟩
  | .hbm, ⟨10, _⟩ => ⟨S40x1024, .f32⟩
  | .hbm, ⟨11, _⟩ => ⟨S40x1024, .f32⟩
  | .hbm, ⟨12, _⟩ => ⟨S1x1024x3072, .f32⟩
  | .hbm, ⟨13, _⟩ => ⟨S1024x3072, .f32⟩
  | .hbm, ⟨14, _⟩ => ⟨S40x3072, .f32⟩
  | .hbm, ⟨15, _⟩ => ⟨S1x3072, .f32⟩
  | .hbm, ⟨16, _⟩ => ⟨S3072, .f32⟩
  | .hbm, ⟨17, _⟩ => ⟨S1x3072, .f32⟩
  | .hbm, ⟨18, _⟩ => ⟨S40x3072, .f32⟩
  | .hbm, ⟨19, _⟩ => ⟨S40x3072, .f32⟩
  | .hbm, ⟨20, _⟩ => ⟨S40x1024, .f32⟩
  | .hbm, ⟨21, _⟩ => ⟨S40x1024, .f32⟩
  | .hbm, ⟨22, _⟩ => ⟨S_, .f32⟩
  | .hbm, ⟨23, _⟩ => ⟨S40x1024, .f32⟩
  | .hbm, ⟨24, _⟩ => ⟨S40x1024, .f32⟩
  | .hbm, ⟨25, _⟩ => ⟨S_, .f32⟩
  | .hbm, ⟨26, _⟩ => ⟨S40x1024, .f32⟩
  | .hbm, ⟨27, _⟩ => ⟨S40x1024, .f32⟩
  | .hbm, ⟨28, _⟩ => ⟨S40x1024, .f32⟩
  | .hbm, ⟨29, _⟩ => ⟨S1x1024x3072, .f32⟩
  | .hbm, ⟨30, _⟩ => ⟨S1024x3072, .f32⟩
  | .hbm, ⟨31, _⟩ => ⟨S40x3072, .f32⟩
  | .hbm, ⟨32, _⟩ => ⟨S1x3072, .f32⟩
  | .hbm, ⟨33, _⟩ => ⟨S3072, .f32⟩
  | .hbm, ⟨34, _⟩ => ⟨S1x3072, .f32⟩
  | .hbm, ⟨35, _⟩ => ⟨S40x3072, .f32⟩
  | .hbm, ⟨36, _⟩ => ⟨S40x3072, .f32⟩
  | .hbm, ⟨37, _⟩ => ⟨S1x40x3072, .f32⟩
  | .hbm, ⟨38, _⟩ => ⟨S1x40x3072, .f32⟩
  | .hbm, ⟨39, _⟩ => ⟨S2x40x3072, .f32⟩
  | _, _ => ⟨S40x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Params.lean ====
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S32x16x64 : Shape := ⟨3, ![32, 16, 64]⟩
abbrev S512x64 : Shape := ⟨2, ![512, 64]⟩

abbrev nBuf : Space → Nat
  | .hbm => 21
  | .vmem => 9
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32x1, .f32⟩
  | .hbm, ⟨6, _⟩ => ⟨S32x64, .f32⟩
  | .hbm, ⟨7, _⟩ => ⟨S32x16x64, .f32⟩
  | .hbm, ⟨8, _⟩ => ⟨S512x64, .f32⟩
  | .hbm, ⟨9, _⟩ => ⟨S32x16x64, .f32⟩
  | .hbm, ⟨10, _⟩ => ⟨S512x64, .f32⟩
  | .hbm, ⟨11, _⟩ => ⟨S32x16x64, .f32⟩
  | .hbm, ⟨12, _⟩ => ⟨S512x64, .f32⟩
  | .hbm, ⟨13, _⟩ => ⟨S32x16x64, .f32⟩
  | .hbm, ⟨14, _⟩ => ⟨S512x64, .f32⟩
  | .hbm, ⟨15, _⟩ => ⟨S32x16x64, .f32⟩
  | .hbm, ⟨16, _⟩ => ⟨S512x64, .f32⟩
  | .hbm, ⟨17, _⟩ => ⟨S512x64, .f32⟩
  | .hbm, ⟨18, _⟩ => ⟨S512x64, .f32⟩
  | .hbm, ⟨19, _⟩ => ⟨S512x64, .f32⟩
  | .hbm, ⟨20, _⟩ => ⟨S512x64, .f32⟩
  | .local _ .vmem, ⟨0, _⟩ => ⟨S512x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v12_3 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S512x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ParamsRefIdeal.lean ====
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S_ : Shape := ⟨0, ![]⟩
abbrev S32x64x1 : Shape := ⟨3, ![32, 64, 1]⟩
abbrev S32x16x64 : Shape := ⟨3, ![32, 16, 64]⟩
abbrev S512x64 : Shape := ⟨2, ![512, 64]⟩

abbrev nBuf : Space → Nat
  | .hbm => 55
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32, .f32⟩
  | .hbm, ⟨6, _⟩ => ⟨S32x1, .f32⟩
  | .hbm, ⟨7, _⟩ => ⟨S32x64, .f32⟩
  | .hbm, ⟨8, _⟩ => ⟨S32x64, .f32⟩
  | .hbm, ⟨9, _⟩ => ⟨S32x64, .f32⟩
  | .hbm, ⟨10, _⟩ => ⟨S32x64, .f32⟩
  | .hbm, ⟨11, _⟩ => ⟨S32x64, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S_, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64x1, .f32⟩
  | .hbm, ⟨29, _⟩ => ⟨S32x64, .f32⟩
  | .hbm, ⟨30, _⟩ => ⟨S_, .f32⟩
  | .hbm, ⟨31, _⟩ => ⟨S32x64, .f32⟩
  | .hbm, ⟨32, _⟩ => ⟨S32x64, .f32⟩
  | .hbm, ⟨33, _⟩ => ⟨S32x64, .f32⟩
  | .hbm, ⟨34, _⟩ => ⟨S32x64, .f32⟩
  | .hbm, ⟨35, _⟩ => ⟨S32x64, .f32⟩
  | .hbm, ⟨36, _⟩ => ⟨S32x64x1, .f32⟩
  | .hbm, ⟨37, _⟩ => ⟨S32x64x16, .f32⟩
  | .hbm, ⟨38, _⟩ => ⟨S32x64x16, .f32⟩
  | .hbm, ⟨39, _⟩ => ⟨S32x64x16, .f32⟩
  | .hbm, ⟨40, _⟩ => ⟨S32x64x16, .f32⟩
  | .hbm, ⟨41, _⟩ => ⟨S32x64x16, .f32⟩
  | .hbm, ⟨42, _⟩ => ⟨S32x64x16, .f32⟩
  | .hbm, ⟨43, _⟩ => ⟨S32x64x16, .f32⟩
  | .hbm, ⟨44, _⟩ => ⟨S32x64x16, .f32⟩
  | .hbm, ⟨45, _⟩ => ⟨S32x64x16, .f32⟩
  | .hbm, ⟨46, _⟩ => ⟨S32x64x16, .f32⟩
  | .hbm, ⟨47, _⟩ => ⟨S32x16x64, .f32⟩
  | .hbm, ⟨48, _⟩ => ⟨S512x64, .f32⟩
  | .hbm, ⟨49, _⟩ => ⟨S32x16x64, .f32⟩
  | .hbm, ⟨50, _⟩ => ⟨S512x64, .f32⟩
  | .hbm, ⟨51, _⟩ => ⟨S32x16x64, .f32⟩
  | .hbm, ⟨52, _⟩ => ⟨S512x64, .f32⟩
  | .hbm, ⟨53, _⟩ => ⟨S32x16x64, .f32⟩
  | .hbm, ⟨54, _⟩ => ⟨S512x64, .f32⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩

abbrev nD : Nat := 1
abbrev τ : Topo := Topo.v7x

variable {F : FTy → Type} [FloatOps F]
-- ==== InEvenS.lean ====
abbrev S32x8x1024 : Shape := ⟨3, ![32, 8, 1024]⟩
abbrev S32x1x3072 : Shape := ⟨3, ![32, 1, 3072]⟩
abbrev S1024 : Shape := ⟨1, ![1024]⟩
abbrev S1024x3072 : Shape := ⟨2, ![1024, 3072]⟩
abbrev S3x512 : Shape := ⟨2, ![3, 512]⟩
abbrev S512 : Shape := ⟨1, ![512]⟩
abbrev S32x2x512 : Shape := ⟨3, ![32, 2, 512]⟩
abbrev S1x1024 : Shape := ⟨2, ![1, 1024]⟩
abbrev S1x512 : Shape := ⟨2, ![1, 512]⟩
abbrev S32x8x512 : Shape := ⟨3, ![32, 8, 512]⟩
abbrev S32x16x512 : Shape := ⟨3, ![32, 16, 512]⟩
abbrev S32x1x1024 : Shape := ⟨3, ![32, 1, 1024]⟩
abbrev S32x8 : Shape := ⟨2, ![32, 8]⟩
abbrev S32x8x1 : Shape := ⟨3, ![32, 8, 1]⟩
abbrev S1x1x1024 : Shape := ⟨3, ![1, 1, 1024]⟩
abbrev S256x1024 : Shape := ⟨2, ![256, 1024]⟩
abbrev S256x3072 : Shape := ⟨2, ![256, 3072]⟩
abbrev S256x512 : Shape := ⟨2, ![256, 512]⟩
abbrev S1x1x512 : Shape := ⟨3, ![1, 1, 512]⟩

abbrev nBuf : Space → Nat
  | .hbm => 14
  | .vmem => 12
  | .smem => 0
  | _ => 0

abbrev bufTy : (tb : Table) → Fin (tcTables nBuf tb) → BufTy
  | .hbm, ⟨0, _⟩ => ⟨S32x8x1024, .f32⟩
  | .hbm, ⟨1, _⟩ => ⟨S32x1x3072, .f32⟩
  | .hbm, ⟨2, _⟩ => ⟨S1024, .f32⟩
  | .hbm, ⟨3, _⟩ => ⟨S1024x3072, .f32⟩
  | .hbm, ⟨4, _⟩ => ⟨S3x512, .f32⟩
  | .hbm, ⟨5, _⟩ => ⟨S512, .f32⟩
  | .hbm, ⟨6, _⟩ => ⟨S32x2x512, .f32⟩
  | .hbm, ⟨7, _⟩ => ⟨S1024x3072, .bf16⟩
  | .hbm, ⟨8, _⟩ => ⟨S1x1024, .f32⟩
  | .hbm, ⟨9, _⟩ => ⟨S1x512, .f32⟩
  | .hbm, ⟨10, _⟩ => ⟨S32x8x512, .f32⟩
  | .hbm, ⟨11, _⟩ => ⟨S32x8x512, .f32⟩
  | .hbm, ⟨12, _⟩ => ⟨S32x8x512, .f32⟩
  | .hbm, ⟨13, _⟩ => ⟨S32x2x512, .f32⟩
  | .local _ .vmem, ⟨0, _⟩ => ⟨S32x8x1024, .f32⟩
  | .local _ .vmem, ⟨1, _⟩ => ⟨S32x1x3072, .f32⟩
  | .local _ .vmem, ⟨2, _⟩ => ⟨S1x1024, .f32⟩
  | .local _ .vmem, ⟨3, _⟩ => ⟨S1024x3072, .bf16⟩
  | .local _ .vmem, ⟨4, _⟩ => ⟨S3x512, .f32⟩
  | .local _ .vmem, ⟨5, _⟩ => ⟨S1x512, .f32⟩
  | .local _ .vmem, ⟨6, _⟩ => ⟨S32x2x512, .f32⟩
  | .local _ .vmem, ⟨7, _⟩ => ⟨S32x8x512, .f32⟩
  | .local _ .vmem, ⟨8, _⟩ => ⟨S32x8x512, .f32⟩
  | .local _ .vmem, ⟨9, _⟩ => ⟨S32x8x512, .f32⟩
  | .local _ .vmem, ⟨10, _⟩ => ⟨S32x2x512, .f32⟩
  | .local _ .vmem, ⟨11, _⟩ => ⟨S32x16x512, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S32x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S32x8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S32x8x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S32x2x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== InEvenSRefIdeal.lean ====
abbrev S32x8x1024 : Shape := ⟨3, ![32, 8, 1024]⟩
abbrev S32x1x3072 : Shape := ⟨3, ![32, 1, 3072]⟩
abbrev S1024 : Shape := ⟨1, ![1024]⟩
abbrev S1024x3072 : Shape := ⟨2, ![1024, 3072]⟩
abbrev S3x512 : Shape := ⟨2, ![3, 512]⟩
abbrev S512 : Shape := ⟨1, ![512]⟩
abbrev S32x2x512 : Shape := ⟨3, ![32, 2, 512]⟩
abbrev S32x1x1024 : Shape := ⟨3, ![32, 1, 1024]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x3072 : Shape := ⟨3, ![32, 8, 3072]⟩
abbrev S32x8x512 : Shape := ⟨3, ![32, 8, 512]⟩
abbrev S32x10x512 : Shape := ⟨3, ![32, 10, 512]⟩
abbrev S1x512 : Shape := ⟨2, ![1, 512]⟩
abbrev S1x1x512 : Shape := ⟨3, ![1, 1, 512]⟩

abbrev nBuf : Space → Nat
  | .hbm => 89
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x1x3072, .f32⟩
  | .hbm, ⟨2, _⟩ => ⟨S1024, .f32⟩
  | .hbm, ⟨3, _⟩ => ⟨S1024x3072, .f32⟩
  | .hbm, ⟨4, _⟩ => ⟨S3x512, .f32⟩
  | .hbm, ⟨5, _⟩ => ⟨S512, .f32⟩
  | .hbm, ⟨6, _⟩ => ⟨S32x2x512, .f32⟩
  | .hbm, ⟨7, _⟩ => ⟨S32x1x1024, .f32⟩
  | .hbm, ⟨8, _⟩ => ⟨S32x1x1024, .f32⟩
  | .hbm, ⟨9, _⟩ => ⟨S32x1x1024, .f32⟩
  | .hbm, ⟨10, _⟩ => ⟨S32x8x1024, .f32⟩
  | .hbm, ⟨11, _⟩ => ⟨S_, .f32⟩
  | .hbm, ⟨12, _⟩ => ⟨S32x8, .f32⟩
  | .hbm, ⟨13, _⟩ => ⟨S32x8x1, .f32⟩
  | .hbm, ⟨14, _⟩ => ⟨S_, .f32⟩
  | .hbm, ⟨15, _⟩ => ⟨S32x8x1, .f32⟩
  | .hbm, ⟨16, _⟩ => ⟨S32x8x1, .f32⟩
  | .hbm, ⟨17, _⟩ => ⟨S_, .f32⟩
  | .hbm, ⟨18, _⟩ => ⟨S32x8x1, .f32⟩
  | .hbm, ⟨19, _⟩ => ⟨S32x8x1, .f32⟩
  | .hbm, ⟨20, _⟩ => ⟨S32x8x1, .f32⟩
  | .hbm, ⟨21, _⟩ => ⟨S32x8x1024, .f32⟩
  | .hbm, ⟨22, _⟩ => ⟨S32x8x1024, .f32⟩
  | .hbm, ⟨23, _⟩ => ⟨S1x1x1024, .f32⟩
  | .hbm, ⟨24, _⟩ => ⟨S32x8x1024, .f32⟩
  | .hbm, ⟨25, _⟩ => ⟨S32x8x1024, .f32⟩
  | .hbm, ⟨26, _⟩ => ⟨S_, .f32⟩
  | .hbm, ⟨27, _⟩ => ⟨S32x1x1024, .f32⟩
  | .hbm, ⟨28, _⟩ => ⟨S32x1x1024, .f32⟩
  | .hbm, ⟨29, _⟩ => ⟨S32x8x1024, .f32⟩
  | .hbm, ⟨30, _⟩ => ⟨S32x8x1024, .f32⟩
  | .hbm, ⟨31, _⟩ => ⟨S32x8x1024, .f32⟩
  | .hbm, ⟨32, _⟩ => ⟨S32x8x1024, .f32⟩
  | .hbm, ⟨33, _⟩ => ⟨S32x8x3072, .f32⟩
  | .hbm, ⟨34, _⟩ => ⟨S32x8x512, .f32⟩
  | .hbm, ⟨35, _⟩ => ⟨S32x8x512, .f32⟩
  | .hbm, ⟨36, _⟩ => ⟨S32x8x512, .f32⟩
  | .hbm, ⟨37, _⟩ => ⟨S32x8x512, .f32⟩
  | .hbm, ⟨38, _⟩ => ⟨S32x8x512, .f32⟩
  | .hbm, ⟨39, _⟩ => ⟨S32x8x512, .f32⟩
  | .hbm, ⟨40, _⟩ => ⟨S32x8x512, .f32⟩
  | .hbm, ⟨41, _⟩ => ⟨S32x10x512, .f32⟩
  | .hbm, ⟨42, _⟩ => ⟨S32x8x512, .f32⟩
  | .hbm, ⟨43, _⟩ => ⟨S1x512, .f32⟩
  | .hbm, ⟨44, _⟩ => ⟨S512, .f32⟩
  | .hbm, ⟨45, _⟩ => ⟨S1x1x512, .f32⟩
  | .hbm, ⟨46, _⟩ => ⟨S32x8x512, .f32⟩
  | .hbm, ⟨47, _⟩ => ⟨S32x8x512, .f32⟩
  | .hbm, ⟨48, _⟩ => ⟨S_, .f32⟩
  | .hbm, ⟨49, _⟩ => ⟨S32x8x512, .f32⟩
  | .hbm, ⟨50, _⟩ => ⟨S32x8x512, .f32⟩
  | .hbm, ⟨51, _⟩ => ⟨S32x8x512, .f32⟩
  | .hbm, ⟨52, _⟩ => ⟨S1x512, .f32⟩
  | .hbm, ⟨53, _⟩ => ⟨S512, .f32⟩
  | .hbm, ⟨54, _⟩ => ⟨S1x1x512, .f32⟩
  | .hbm, ⟨55, _⟩ => ⟨S32x8x512, .f32⟩
  | .hbm, ⟨56, _⟩ => ⟨S32x8x512, .f32⟩
  | .hbm, ⟨57, _⟩ => ⟨S32x8x512, .f32⟩
  | .hbm, ⟨58, _⟩ => ⟨S32x8x512, .f32⟩
  | .hbm, ⟨59, _⟩ => ⟨S1x512, .f32⟩
  | .hbm, ⟨60, _⟩ => ⟨S512, .f32⟩
  | .hbm, ⟨61, _⟩ => ⟨S1x1x512, .f32⟩
  | .hbm, ⟨62, _⟩ => ⟨S32x8x512, .f32⟩
  | .hbm, ⟨63, _⟩ => ⟨S32x8x512, .f32⟩
  | .hbm, ⟨64, _⟩ => ⟨S32x8x512, .f32⟩
  | .hbm, ⟨65, _⟩ => ⟨S1x1x512, .f32⟩
  | .hbm, ⟨66, _⟩ => ⟨S32x8x512, .f32⟩
  | .hbm, ⟨67, _⟩ => ⟨S32x8x512, .f32⟩
  | .hbm, ⟨68, _⟩ => ⟨S32x8x512, .f32⟩
  | .hbm, ⟨69, _⟩ => ⟨S32x8x512, .f32⟩
  | .hbm, ⟨70, _⟩ => ⟨S32x8x512, .f32⟩
  | .hbm, ⟨71, _⟩ => ⟨S_, .f32⟩
  | .hbm, ⟨72, _⟩ => ⟨S32x8x512, .f32⟩
  | .hbm, ⟨73, _⟩ => ⟨S32x8x512, .f32⟩
  | .hbm, ⟨74, _⟩ => ⟨S_, .f32⟩
  | .hbm, ⟨75, _⟩ => ⟨S32x8x512, .f32⟩
  | .hbm, ⟨76, _⟩ => ⟨S32x8x512, .f32⟩
  | .hbm, ⟨77, _⟩ => ⟨S32x8x512, .f32⟩
  | .hbm, ⟨78, _⟩ => ⟨S32x8x512, .f32⟩
  | .hbm, ⟨79, _⟩ => ⟨S32x8x512, .f32⟩
  | .hbm, ⟨80, _⟩ => ⟨S32x8x512, .f32⟩
  | .hbm, ⟨81, _⟩ => ⟨S_, .f32⟩
  | .hbm, ⟨82, _⟩ => ⟨S32x8x512, .f32⟩
  | .hbm, ⟨83, _⟩ => ⟨S32x8x512, .f32⟩
  | .hbm, ⟨84, _⟩ => ⟨S_, .f32⟩
  | .hbm, ⟨85, _⟩ => ⟨S32x8x512, .f32⟩
  | .hbm, ⟨86, _⟩ => ⟨S32x8x512, .f32⟩
  | .hbm, ⟨87, _⟩ => ⟨S32x8x512, .f32⟩
  | .hbm, ⟨88, _⟩ => ⟨S32x2x512, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v57 : Ref sig .tc := ⟨.hbm, 77, rfl⟩
abbrev main_v58 : Ref sig .tc := ⟨.hbm, 78, rfl⟩
abbrev main_call1_v0 : Ref sig .tc := ⟨.hbm, 79, rfl⟩
abbrev main_call1_v1 : Ref sig .tc := ⟨.hbm, 80, rfl⟩
abbrev main_call1_cst : Ref sig .tc := ⟨.hbm, 81, rfl⟩
abbrev main_call1_v2 : Ref sig .tc := ⟨.hbm, 82, rfl⟩
abbrev main_call1_v3 : Ref sig .tc := ⟨.hbm, 83, rfl⟩
abbrev main_call1_cst_0 : Ref sig .tc := ⟨.hbm, 84, rfl⟩
abbrev main_call1_v4 : Ref sig .tc := ⟨.hbm, 85, rfl⟩
abbrev main_call1_v5 : Ref sig .tc := ⟨.hbm, 86, rfl⟩
abbrev main_v59 : Ref sig .tc := ⟨.hbm, 87, rfl⟩
abbrev main_v60 : Ref sig .tc := ⟨.hbm, 88, rfl⟩

abbrev nD : Nat := 1
abbrev τ : Topo := Topo.v7x

variable {F : FTy → Type} [FloatOps F]
-- ==== OutEvenS.lean ====
abbrev S32x8x1024 : Shape := ⟨3, ![32, 8, 1024]⟩
abbrev S32x8x512 : Shape := ⟨3, ![32, 8, 512]⟩
abbrev S32x1x3072 : Shape := ⟨3, ![32, 1, 3072]⟩
abbrev S1024 : Shape := ⟨1, ![1024]⟩
abbrev S512x512 : Shape := ⟨2, ![512, 512]⟩
abbrev S1024x1024 : Shape := ⟨2, ![1024, 1024]⟩
abbrev S1x1024 : Shape := ⟨2, ![1, 1024]⟩
abbrev S256x512 : Shape := ⟨2, ![256, 512]⟩
abbrev S256x1024 : Shape := ⟨2, ![256, 1024]⟩
abbrev S32x1x1024 : Shape := ⟨3, ![32, 1, 1024]⟩
abbrev S32x8 : Shape := ⟨2, ![32, 8]⟩
abbrev S32x8x1 : Shape := ⟨3, ![32, 8, 1]⟩
abbrev S1x1x1024 : Shape := ⟨3, ![1, 1, 1024]⟩

abbrev nBuf : Space → Nat
  | .hbm => 12
  | .vmem => 9
  | .smem => 0
  | _ => 0

abbrev bufTy : (tb : Table) → Fin (tcTables nBuf tb) → BufTy
  | .hbm, ⟨0, _⟩ => ⟨S32x8x1024, .f32⟩
  | .hbm, ⟨1, _⟩ => ⟨S32x8x512, .f32⟩
  | .hbm, ⟨2, _⟩ => ⟨S32x8x512, .f32⟩
  | .hbm, ⟨3, _⟩ => ⟨S32x8x512, .f32⟩
  | .hbm, ⟨4, _⟩ => ⟨S32x1x3072, .f32⟩
  | .hbm, ⟨5, _⟩ => ⟨S1024, .f32⟩
  | .hbm, ⟨6, _⟩ => ⟨S512x512, .f32⟩
  | .hbm, ⟨7, _⟩ => ⟨S1024x1024, .f32⟩
  | .hbm, ⟨8, _⟩ => ⟨S512x512, .bf16⟩
  | .hbm, ⟨9, _⟩ => ⟨S1024x1024, .bf16⟩
  | .hbm, ⟨10, _⟩ => ⟨S1x1024, .f32⟩
  | .hbm, ⟨11, _⟩ => ⟨S32x8x1024, .f32⟩
  | .local _ .vmem, ⟨0, _⟩ => ⟨S32x8x1024, .f32⟩
  | .local _ .vmem, ⟨1, _⟩ => ⟨S32x8x512, .f32⟩
  | .local _ .vmem, ⟨2, _⟩ => ⟨S32x8x512, .f32⟩
  | .local _ .vmem, ⟨3, _⟩ => ⟨S32x8x512, .f32⟩
  | .local _ .vmem, ⟨4, _⟩ => ⟨S32x1x3072, .f32⟩
  | .local _ .vmem, ⟨5, _⟩ => ⟨S1x1024, .f32⟩
  | .local _ .vmem, ⟨6, _⟩ => ⟨S512x512, .bf16⟩
  | .local _ .vmem, ⟨7, _⟩ => ⟨S1024x1024, .bf16⟩
  | .local _ .vmem, ⟨8, _⟩ => ⟨S32x8x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S32x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== OutEvenSRefIdeal.lean ====
abbrev S32x8x1024 : Shape := ⟨3, ![32, 8, 1024]⟩
abbrev S32x8x512 : Shape := ⟨3, ![32, 8, 512]⟩
abbrev S32x1x3072 : Shape := ⟨3, ![32, 1, 3072]⟩
abbrev S1024 : Shape := ⟨1, ![1024]⟩
abbrev S512x512 : Shape := ⟨2, ![512, 512]⟩
abbrev S1024x1024 : Shape := ⟨2, ![1024, 1024]⟩
abbrev S32x1x1024 : Shape := ⟨3, ![32, 1, 1024]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x8x512, .f32⟩
  | .hbm, ⟨2, _⟩ => ⟨S32x8x512, .f32⟩
  | .hbm, ⟨3, _⟩ => ⟨S32x8x512, .f32⟩
  | .hbm, ⟨4, _⟩ => ⟨S32x1x3072, .f32⟩
  | .hbm, ⟨5, _⟩ => ⟨S1024, .f32⟩
  | .hbm, ⟨6, _⟩ => ⟨S512x512, .f32⟩
  | .hbm, ⟨7, _⟩ => ⟨S1024x1024, .f32⟩
  | .hbm, ⟨8, _⟩ => ⟨S32x1x1024, .f32⟩
  | .hbm, ⟨9, _⟩ => ⟨S32x1x1024, .f32⟩
  | .hbm, ⟨10, _⟩ => ⟨S32x1x1024, .f32⟩
  | .hbm, ⟨11, _⟩ => ⟨S32x8x512, .f32⟩
  | .hbm, ⟨12, _⟩ => ⟨S32x8x512, .f32⟩
  | .hbm, ⟨13, _⟩ => ⟨S_, .f32⟩
  | .hbm, ⟨14, _⟩ => ⟨S32x8x512, .f32⟩
  | .hbm, ⟨15, _⟩ => ⟨S32x8x512, .f32⟩
  | .hbm, ⟨16, _⟩ => ⟨S32x8x512, .f32⟩
  | .hbm, ⟨17, _⟩ => ⟨S_, .f32⟩
  | .hbm, ⟨18, _⟩ => ⟨S32x8x512, .f32⟩
  | .hbm, ⟨19, _⟩ => ⟨S32x8x512, .f32⟩
  | .hbm, ⟨20, _⟩ => ⟨S32x8x512, .f32⟩
  | .hbm, ⟨21, _⟩ => ⟨S_, .f32⟩
  | .hbm, ⟨22, _⟩ => ⟨S32x8x512, .f32⟩
  | .hbm, ⟨23, _⟩ => ⟨S32x8x512, .f32⟩
  | .hbm, ⟨24, _⟩ => ⟨S_, .f32⟩
  | .hbm, ⟨25, _⟩ => ⟨S32x8x512, .f32⟩
  | .hbm, ⟨26, _⟩ => ⟨S32x8x512, .f32⟩
  | .hbm, ⟨27, _⟩ => ⟨S32x8x512, .f32⟩
  | .hbm, ⟨28, _⟩ => ⟨S32x8x512, .f32⟩
  | .hbm, ⟨29, _⟩ => ⟨S32x8x512, .f32⟩
  | .hbm, ⟨30, _⟩ => ⟨S32x8x512, .f32⟩
  | .hbm, ⟨31, _⟩ => ⟨S_, .f32⟩
  | .hbm, ⟨32, _⟩ => ⟨S32x8x512, .f32⟩
  | .hbm, ⟨33, _⟩ => ⟨S32x8x512, .f32⟩
  | .hbm, ⟨34, _⟩ => ⟨S_, .f32⟩
  | .hbm, ⟨35, _⟩ => ⟨S32x8x512, .f32⟩
  | .hbm, ⟨36, _⟩ => ⟨S32x8x512, .f32⟩
  | .hbm, ⟨37, _⟩ => ⟨S32x8x512, .f32⟩
  | .hbm, ⟨38, _⟩ => ⟨S32x8x512, .f32⟩
  | .hbm, ⟨39, _⟩ => ⟨S32x8x1024, .f32⟩
  | .hbm, ⟨40, _⟩ => ⟨S32x8x1024, .f32⟩
  | .hbm, ⟨41, _⟩ => ⟨S_, .f32⟩
  | .hbm, ⟨42, _⟩ => ⟨S32x1x1024, .f32⟩
  | .hbm, ⟨43, _⟩ => ⟨S32x1x1024, .f32⟩
  | .hbm, ⟨44, _⟩ => ⟨S32x8x1024, .f32⟩
  | .hbm, ⟨45, _⟩ => ⟨S_, .f32⟩
  | .hbm, ⟨46, _⟩ => ⟨S32x8, .f32⟩
  | .hbm, ⟨47, _⟩ => ⟨S32x8x1, .f32⟩
  | .hbm, ⟨48, _⟩ => ⟨S_, .f32⟩
  | .hbm, ⟨49, _⟩ => ⟨S32x8x1, .f32⟩
  | .hbm, ⟨50, _⟩ => ⟨S32x8x1, .f32⟩
  | .hbm, ⟨51, _⟩ => ⟨S_, .f32⟩
  | .hbm, ⟨52, _⟩ => ⟨S32x8x1, .f32⟩
  | .hbm, ⟨53, _⟩ => ⟨S32x8x1, .f32⟩
  | .hbm, ⟨54, _⟩ => ⟨S32x8x1, .f32⟩
  | .hbm, ⟨55, _⟩ => ⟨S32x8x1024, .f32⟩
  | .hbm, ⟨56, _⟩ => ⟨S32x8x1024, .f32⟩
  | .hbm, ⟨57, _⟩ => ⟨S1x1x1024, .f32⟩
  | .hbm, ⟨58, _⟩ => ⟨S32x8x1024, .f32⟩
  | .hbm, ⟨59, _⟩ => ⟨S32x8x1024, .f32⟩
  | .hbm, ⟨60, _⟩ => ⟨S32x8x1024, .f32⟩
  | .hbm, ⟨61, _⟩ => ⟨S32x8x1024, .f32⟩
  | .hbm, ⟨62, _⟩ => ⟨S32x8x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== InOddS.lean ====
abbrev S32x8x1024 : Shape := ⟨3, ![32, 8, 1024]⟩
abbrev S32x1x3072 : Shape := ⟨3, ![32, 1, 3072]⟩
abbrev S1024 : Shape := ⟨1, ![1024]⟩
abbrev S1024x4096 : Shape := ⟨2, ![1024, 4096]⟩
abbrev S1x1024 : Shape := ⟨2, ![1, 1024]⟩
abbrev S32x1x1024 : Shape := ⟨3, ![32, 1, 1024]⟩
abbrev S32x8 : Shape := ⟨2, ![32, 8]⟩
abbrev S32x8x1 : Shape := ⟨3, ![32, 8, 1]⟩
abbrev S1x1x1024 : Shape := ⟨3, ![1, 1, 1024]⟩
abbrev S256x1024 : Shape := ⟨2, ![256, 1024]⟩
abbrev S256x4096 : Shape := ⟨2, ![256, 4096]⟩

abbrev nBuf : Space → Nat
  | .hbm => 10
  | .vmem => 8
  | .smem => 0
  | _ => 0

abbrev bufTy : (tb : Table) → Fin (tcTables nBuf tb) → BufTy
  | .hbm, ⟨0, _⟩ => ⟨S32x8x1024, .f32⟩
  | .hbm, ⟨1, _⟩ => ⟨S32x1x3072, .f32⟩
  | .hbm, ⟨2, _⟩ => ⟨S1024, .f32⟩
  | .hbm, ⟨3, _⟩ => ⟨S1024x4096, .f32⟩
  | .hbm, ⟨4, _⟩ => ⟨S1024x4096, .bf16⟩
  | .hbm, ⟨5, _⟩ => ⟨S1x1024, .f32⟩
  | .hbm, ⟨6, _⟩ => ⟨S32x8x1024, .f32⟩
  | .hbm, ⟨7, _⟩ => ⟨S32x8x1024, .f32⟩
  | .hbm, ⟨8, _⟩ => ⟨S32x8x1024, .f32⟩
  | .hbm, ⟨9, _⟩ => ⟨S32x8x1024, .f32⟩
  | .local _ .vmem, ⟨0, _⟩ => ⟨S32x8x1024, .f32⟩
  | .local _ .vmem, ⟨1, _⟩ => ⟨S32x1x3072, .f32⟩
  | .local _ .vmem, ⟨2, _⟩ => ⟨S1x1024, .f32⟩
  | .local _ .vmem, ⟨3, _⟩ => ⟨S1024x4096, .bf16⟩
  | .local _ .vmem, ⟨4, _⟩ => ⟨S32x8x1024, .f32⟩
  | .local _ .vmem, ⟨5, _⟩ => ⟨S32x8x1024, .f32⟩
  | .local _ .vmem, ⟨6, _⟩ => ⟨S32x8x1024, .f32⟩
  | .local _ .vmem, ⟨7, _⟩ => ⟨S32x8x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S32x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== InOddSRefIdeal.lean ====
abbrev S32x8x1024 : Shape := ⟨3, ![32, 8, 1024]⟩
abbrev S32x1x3072 : Shape := ⟨3, ![32, 1, 3072]⟩
abbrev S1024 : Shape := ⟨1, ![1024]⟩
abbrev S1024x4096 : Shape := ⟨2, ![1024, 4096]⟩
abbrev S32x1x1024 : Shape := ⟨3, ![32, 1, 1024]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x8x4096 : Shape := ⟨3, ![32, 8, 4096]⟩

abbrev nBuf : Space → Nat
  | .hbm => 44
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x1x3072, .f32⟩
  | .hbm, ⟨2, _⟩ => ⟨S1024, .f32⟩
  | .hbm, ⟨3, _⟩ => ⟨S1024x4096, .f32⟩
  | .hbm, ⟨4, _⟩ => ⟨S32x1x1024, .f32⟩
  | .hbm, ⟨5, _⟩ => ⟨S32x1x1024, .f32⟩
  | .hbm, ⟨6, _⟩ => ⟨S32x1x1024, .f32⟩
  | .hbm, ⟨7, _⟩ => ⟨S32x8x1024, .f32⟩
  | .hbm, ⟨8, _⟩ => ⟨S_, .f32⟩
  | .hbm, ⟨9, _⟩ => ⟨S32x8, .f32⟩
  | .hbm, ⟨10, _⟩ => ⟨S32x8x1, .f32⟩
  | .hbm, ⟨11, _⟩ => ⟨S_, .f32⟩
  | .hbm, ⟨12, _⟩ => ⟨S32x8x1, .f32⟩
  | .hbm, ⟨13, _⟩ => ⟨S32x8x1, .f32⟩
  | .hbm, ⟨14, _⟩ => ⟨S_, .f32⟩
  | .hbm, ⟨15, _⟩ => ⟨S32x8x1, .f32⟩
  | .hbm, ⟨16, _⟩ => ⟨S32x8x1, .f32⟩
  | .hbm, ⟨17, _⟩ => ⟨S32x8x1, .f32⟩
  | .hbm, ⟨18, _⟩ => ⟨S32x8x1024, .f32⟩
  | .hbm, ⟨19, _⟩ => ⟨S32x8x1024, .f32⟩
  | .hbm, ⟨20, _⟩ => ⟨S1x1x1024, .f32⟩
  | .hbm, ⟨21, _⟩ => ⟨S32x8x1024, .f32⟩
  | .hbm, ⟨22, _⟩ => ⟨S32x8x1024, .f32⟩
  | .hbm, ⟨23, _⟩ => ⟨S_, .f32⟩
  | .hbm, ⟨24, _⟩ => ⟨S32x1x1024, .f32⟩
  | .hbm, ⟨25, _⟩ => ⟨S32x1x1024, .f32⟩
  | .hbm, ⟨26, _⟩ => ⟨S32x8x1024, .f32⟩
  | .hbm, ⟨27, _⟩ => ⟨S32x8x1024, .f32⟩
  | .hbm, ⟨28, _⟩ => ⟨S32x8x1024, .f32⟩
  | .hbm, ⟨29, _⟩ => ⟨S32x8x1024, .f32⟩
  | .hbm, ⟨30, _⟩ => ⟨S32x8x4096, .f32⟩
  | .hbm, ⟨31, _⟩ => ⟨S32x8x1024, .f32⟩
  | .hbm, ⟨32, _⟩ => ⟨S32x8x1024, .f32⟩
  | .hbm, ⟨33, _⟩ => ⟨S32x8x1024, .f32⟩
  | .hbm, ⟨34, _⟩ => ⟨S32x8x1024, .f32⟩
  | .hbm, ⟨35, _⟩ => ⟨S32x8x1024, .f32⟩
  | .hbm, ⟨36, _⟩ => ⟨S32x8x1024, .f32⟩
  | .hbm, ⟨37, _⟩ => ⟨S_, .f32⟩
  | .hbm, ⟨38, _⟩ => ⟨S32x8x1024, .f32⟩
  | .hbm, ⟨39, _⟩ => ⟨S32x8x1024, .f32⟩
  | .hbm, ⟨40, _⟩ => ⟨S_, .f32⟩
  | .hbm, ⟨41, _⟩ => ⟨S32x8x1024, .f32⟩
  | .hbm, ⟨42, _⟩ => ⟨S32x8x1024, .f32⟩
  | .hbm, ⟨43, _⟩ => ⟨S32x8x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== OutOddS.lean ====
abbrev S32x8x1024 : Shape := ⟨3, ![32, 8, 1024]⟩
abbrev S32x1x3072 : Shape := ⟨3, ![32, 1, 3072]⟩
abbrev S1024 : Shape := ⟨1, ![1024]⟩
abbrev S1024x1024 : Shape := ⟨2, ![1024, 1024]⟩
abbrev S1x1024 : Shape := ⟨2, ![1, 1024]⟩
abbrev S256x1024 : Shape := ⟨2, ![256, 1024]⟩
abbrev S32x1x1024 : Shape := ⟨3, ![32, 1, 1024]⟩
abbrev S32x8 : Shape := ⟨2, ![32, 8]⟩
abbrev S32x8x1 : Shape := ⟨3, ![32, 8, 1]⟩
abbrev S1x1x1024 : Shape := ⟨3, ![1, 1, 1024]⟩

abbrev nBuf : Space → Nat
  | .hbm => 9
  | .vmem => 7
  | .smem => 0
  | _ => 0

abbrev bufTy : (tb : Table) → Fin (tcTables nBuf tb) → BufTy
  | .hbm, ⟨0, _⟩ => ⟨S32x8x1024, .f32⟩
  | .hbm, ⟨1, _⟩ => ⟨S32x8x1024, .f32⟩
  | .hbm, ⟨2, _⟩ => ⟨S32x8x1024, .f32⟩
  | .hbm, ⟨3, _⟩ => ⟨S32x1x3072, .f32⟩
  | .hbm, ⟨4, _⟩ => ⟨S1024, .f32⟩
  | .hbm, ⟨5, _⟩ => ⟨S1024x1024, .f32⟩
  | .hbm, ⟨6, _⟩ => ⟨S1024x1024, .bf16⟩
  | .hbm, ⟨7, _⟩ => ⟨S1x1024, .f32⟩
  | .hbm, ⟨8, _⟩ => ⟨S32x8x1024, .f32⟩
  | .local _ .vmem, ⟨0, _⟩ => ⟨S32x8x1024, .f32⟩
  | .local _ .vmem, ⟨1, _⟩ => ⟨S32x8x1024, .f32⟩
  | .local _ .vmem, ⟨2, _⟩ => ⟨S32x8x1024, .f32⟩
  | .local _ .vmem, ⟨3, _⟩ => ⟨S32x1x3072, .f32⟩
  | .local _ .vmem, ⟨4, _⟩ => ⟨S1x1024, .f32⟩
  | .local _ .vmem, ⟨5, _⟩ => ⟨S1024x1024, .bf16⟩
  | .local _ .vmem, ⟨6, _⟩ => ⟨S32x8x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S32x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== OutOddSRefIdeal.lean ====
abbrev S32x8x1024 : Shape := ⟨3, ![32, 8, 1024]⟩
abbrev S32x1x3072 : Shape := ⟨3, ![32, 1, 3072]⟩
abbrev S1024 : Shape := ⟨1, ![1024]⟩
abbrev S1024x1024 : Shape := ⟨2, ![1024, 1024]⟩
abbrev S32x1x1024 : Shape := ⟨3, ![32, 1, 1024]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x8x1024, .f32⟩
  | .hbm, ⟨2, _⟩ => ⟨S32x8x1024, .f32⟩
  | .hbm, ⟨3, _⟩ => ⟨S32x1x3072, .f32⟩
  | .hbm, ⟨4, _⟩ => ⟨S1024, .f32⟩
  | .hbm, ⟨5, _⟩ => ⟨S1024x1024, .f32⟩
  | .hbm, ⟨6, _⟩ => ⟨S32x1x1024, .f32⟩
  | .hbm, ⟨7, _⟩ => ⟨S32x1x1024, .f32⟩
  | .hbm, ⟨8, _⟩ => ⟨S32x1x1024, .f32⟩
  | .hbm, ⟨9, _⟩ => ⟨S_, .f32⟩
  | .hbm, ⟨10, _⟩ => ⟨S32x1x1024, .f32⟩
  | .hbm, ⟨11, _⟩ => ⟨S32x1x1024, .f32⟩
  | .hbm, ⟨12, _⟩ => ⟨S32x8x1024, .f32⟩
  | .hbm, ⟨13, _⟩ => ⟨S32x8x1024, .f32⟩
  | .hbm, ⟨14, _⟩ => ⟨S32x8x1024, .f32⟩
  | .hbm, ⟨15, _⟩ => ⟨S_, .f32⟩
  | .hbm, ⟨16, _⟩ => ⟨S32x8, .f32⟩
  | .hbm, ⟨17, _⟩ => ⟨S32x8x1, .f32⟩
  | .hbm, ⟨18, _⟩ => ⟨S_, .f32⟩
  | .hbm, ⟨19, _⟩ => ⟨S32x8x1, .f32⟩
  | .hbm, ⟨20, _⟩ => ⟨S32x8x1, .f32⟩
  | .hbm, ⟨21, _⟩ => ⟨S_, .f32⟩
  | .hbm, ⟨22, _⟩ => ⟨S32x8x1, .f32⟩
  | .hbm, ⟨23, _⟩ => ⟨S32x8x1, .f32⟩
  | .hbm, ⟨24, _⟩ => ⟨S32x8x1, .f32⟩
  | .hbm, ⟨25, _⟩ => ⟨S32x8x1024, .f32⟩
  | .hbm, ⟨26, _⟩ => ⟨S32x8x1024, .f32⟩
  | .hbm, ⟨27, _⟩ => ⟨S1x1x1024, .f32⟩
  | .hbm, ⟨28, _⟩ => ⟨S32x8x1024, .f32⟩
  | .hbm, ⟨29, _⟩ => ⟨S32x8x1024, .f32⟩
  | .hbm, ⟨30, _⟩ => ⟨S32x8x1024, .f32⟩
  | .hbm, ⟨31, _⟩ => ⟨S32x8x1024, .f32⟩
  | .hbm, ⟨32, _⟩ => ⟨S32x8x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== S5S.lean ====
abbrev S32x8x512 : Shape := ⟨3, ![32, 8, 512]⟩
abbrev S32x32x64 : Shape := ⟨3, ![32, 32, 64]⟩
abbrev S32x64 : Shape := ⟨2, ![32, 64]⟩
abbrev S32x64x16 : Shape := ⟨3, ![32, 64, 16]⟩
abbrev S32x16x64 : Shape := ⟨3, ![32, 16, 64]⟩
abbrev S512 : Shape := ⟨1, ![512]⟩
abbrev S512x64 : Shape := ⟨2, ![512, 64]⟩
abbrev S32x1x64 : Shape := ⟨3, ![32, 1, 64]⟩
abbrev S4x512 : Shape := ⟨2, ![4, 512]⟩
abbrev S8x512 : Shape := ⟨2, ![8, 512]⟩
abbrev S8x8 : Shape := ⟨2, ![8, 8]⟩
abbrev S_ : Shape := ⟨0, ![]⟩
abbrev S4x8x16x64 : Shape := ⟨4, ![4, 8, 16, 64]⟩
abbrev S4x8x16x1x64 : Shape := ⟨5, ![4, 8, 16, 1, 64]⟩
abbrev S1x8x1x8x1 : Shape := ⟨5, ![1, 8, 1, 8, 1]⟩
abbrev S4x8x16x8x64 : Shape := ⟨5, ![4, 8, 16, 8, 64]⟩
abbrev S4x128x512 : Shape := ⟨3, ![4, 128, 512]⟩
abbrev S8x128x512 : Shape := ⟨3, ![8, 128, 512]⟩
abbrev S4x8x64x16 : Shape := ⟨4, ![4, 8, 64, 16]⟩
abbrev S4x8x64x1x16 : Shape := ⟨5, ![4, 8, 64, 1, 16]⟩
abbrev S4x8x64x8x16 : Shape := ⟨5, ![4, 8, 64, 8, 16]⟩
abbrev S4x512x128 : Shape := ⟨3, ![4, 512, 128]⟩
abbrev S4x1024x128 : Shape := ⟨3, ![4, 1024, 128]⟩
abbrev S32x4x512 : Shape := ⟨3, ![32, 4, 512]⟩
abbrev S1x512 : Shape := ⟨2, ![1, 512]⟩
abbrev S1x8x512 : Shape := ⟨3, ![1, 8, 512]⟩
abbrev S4x64x128 : Shape := ⟨3, ![4, 64, 128]⟩
abbrev S8x128 : Shape := ⟨2, ![8, 128]⟩
abbrev S1x128x512 : Shape := ⟨3, ![1, 128, 512]⟩
abbrev S128x512 : Shape := ⟨2, ![128, 512]⟩
abbrev S1x8x128 : Shape := ⟨3, ![1, 8, 128]⟩
abbrev S8x1024 : Shape := ⟨2, ![8, 1024]⟩
abbrev S1x1024x128 : Shape := ⟨3, ![1, 1024, 128]⟩
abbrev S1024x128 : Shape := ⟨2, ![1024, 128]⟩

abbrev nBuf : Space → Nat
  | .hbm => 77
  | .vmem => 15
  | .smem => 0
  | _ => 0

abbrev bufTy : (tb : Table) → Fin (tcTables nBuf tb) → BufTy
  | .hbm, ⟨0, _⟩ => ⟨S32x8x512, .f32⟩
  | .hbm, ⟨1, _⟩ => ⟨S32x32x64, .f32⟩
  | .hbm, ⟨2, _⟩ => ⟨S32x32x64, .f32⟩
  | .hbm, ⟨3, _⟩ => ⟨S32x64, .f32⟩
  | .hbm, ⟨4, _⟩ => ⟨S32x64, .f32⟩
  | .hbm, ⟨5, _⟩ => ⟨S32x64x16, .f32⟩
  | .hbm, ⟨6, _⟩ => ⟨S32x64x16, .f32⟩
  | .hbm, ⟨7, _⟩ => ⟨S32x16x64, .f32⟩
  | .hbm, ⟨8, _⟩ => ⟨S32x16x64, .f32⟩
  | .hbm, ⟨9, _⟩ => ⟨S512, .f32⟩
  | .hbm, ⟨10, _⟩ => ⟨S32x16x64, .f32⟩
  | .hbm, ⟨11, _⟩ => ⟨S512x64, .f32⟩
  | .hbm, ⟨12, _⟩ => ⟨S32x16x64, .f32⟩
  | .hbm, ⟨13, _⟩ => ⟨S512x64, .f32⟩
  | .hbm, ⟨14, _⟩ => ⟨S32x16x64, .f32⟩
  | .hbm, ⟨15, _⟩ => ⟨S512x64, .f32⟩
  | .hbm, ⟨16, _⟩ => ⟨S32x16x64, .f32⟩
  | .hbm, ⟨17, _⟩ => ⟨S512x64, .f32⟩
  | .hbm, ⟨18, _⟩ => ⟨S32x16x64, .f32⟩
  | .hbm, ⟨19, _⟩ => ⟨S32x1x64, .f32⟩
  | .hbm, ⟨20, _⟩ => ⟨S32x64, .f32⟩
  | .hbm, ⟨21, _⟩ => ⟨S4x512, .f32⟩
  | .hbm, ⟨22, _⟩ => ⟨S32x16x64, .f32⟩
  | .hbm, ⟨23, _⟩ => ⟨S32x1x64, .f32⟩
  | .hbm, ⟨24, _⟩ => ⟨S32x64, .f32⟩
  | .hbm, ⟨25, _⟩ => ⟨S4x512, .f32⟩
  | .hbm, ⟨26, _⟩ => ⟨S8x512, .f32⟩
  | .hbm, ⟨27, _⟩ => ⟨S4x512, .f32⟩
  | .hbm, ⟨28, _⟩ => ⟨S8x512, .f32⟩
  | .hbm, ⟨29, _⟩ => ⟨S8x8, .i32⟩
  | .hbm, ⟨30, _⟩ => ⟨S8x8, .i32⟩
  | .hbm, ⟨31, _⟩ => ⟨S_, .i32⟩
  | .hbm, ⟨32, _⟩ => ⟨S8x8, .i32⟩
  | .hbm, ⟨33, _⟩ => ⟨S8x8, .i32⟩
  | .hbm, ⟨34, _⟩ => ⟨S8x8, .i1⟩
  | .hbm, ⟨35, _⟩ => ⟨S8x8, .f32⟩
  | .hbm, ⟨36, _⟩ => ⟨S4x8x16x64, .f32⟩
  | .hbm, ⟨37, _⟩ => ⟨S4x8x16x1x64, .f32⟩
  | .hbm, ⟨38, _⟩ => ⟨S1x8x1x8x1, .f32⟩
  | .hbm, ⟨39, _⟩ => ⟨S4x8x16x8x64, .f32⟩
  | .hbm, ⟨40, _⟩ => ⟨S4x8x16x8x64, .f32⟩
  | .hbm, ⟨41, _⟩ => ⟨S4x8x16x8x64, .f32⟩
  | .hbm, ⟨42, _⟩ => ⟨S4x128x512, .f32⟩
  | .hbm, ⟨43, _⟩ => ⟨S4x8x16x64, .f32⟩
  | .hbm, ⟨44, _⟩ => ⟨S4x8x16x1x64, .f32⟩
  | .hbm, ⟨45, _⟩ => ⟨S1x8x1x8x1, .f32⟩
  | .hbm, ⟨46, _⟩ => ⟨S4x8x16x8x64, .f32⟩
  | .hbm, ⟨47, _⟩ => ⟨S4x8x16x8x64, .f32⟩
  | .hbm, ⟨48, _⟩ => ⟨S4x8x16x8x64, .f32⟩
  | .hbm, ⟨49, _⟩ => ⟨S4x128x512, .f32⟩
  | .hbm, ⟨50, _⟩ => ⟨S8x128x512, .f32⟩
  | .hbm, ⟨51, _⟩ => ⟨S8x128x512, .bf16⟩
  | .hbm, ⟨52, _⟩ => ⟨S4x8x16x64, .f32⟩
  | .hbm, ⟨53, _⟩ => ⟨S4x8x64x16, .f32⟩
  | .hbm, ⟨54, _⟩ => ⟨S4x8x64x1x16, .f32⟩
  | .hbm, ⟨55, _⟩ => ⟨S1x8x1x8x1, .f32⟩
  | .hbm, ⟨56, _⟩ => ⟨S4x8x64x8x16, .f32⟩
  | .hbm, ⟨57, _⟩ => ⟨S4x8x64x8x16, .f32⟩
  | .hbm, ⟨58, _⟩ => ⟨S4x8x64x8x16, .f32⟩
  | .hbm, ⟨59, _⟩ => ⟨S4x512x128, .f32⟩
  | .hbm, ⟨60, _⟩ => ⟨S4x8x16x64, .f32⟩
  | .hbm, ⟨61, _⟩ => ⟨S4x8x64x16, .f32⟩
  | .hbm, ⟨62, _⟩ => ⟨S4x8x64x1x16, .f32⟩
  | .hbm, ⟨63, _⟩ => ⟨S1x8x1x8x1, .f32⟩
  | .hbm, ⟨64, _⟩ => ⟨S4x8x64x8x16, .f32⟩
  | .hbm, ⟨65, _⟩ => ⟨S4x8x64x8x16, .f32⟩
  | .hbm, ⟨66, _⟩ => ⟨S4x8x64x8x16, .f32⟩
  | .hbm, ⟨67, _⟩ => ⟨S4x512x128, .f32⟩
  | .hbm, ⟨68, _⟩ => ⟨S4x512x128, .f32⟩
  | .hbm, ⟨69, _⟩ => ⟨S4x1024x128, .f32⟩
  | .hbm, ⟨70, _⟩ => ⟨S4x1024x128, .bf16⟩
  | .hbm, ⟨71, _⟩ => ⟨S32x4x512, .f32⟩
  | .hbm, ⟨72, _⟩ => ⟨S32x4x512, .f32⟩
  | .hbm, ⟨73, _⟩ => ⟨S32x8x512, .f32⟩
  | .hbm, ⟨74, _⟩ => ⟨S1x512, .f32⟩
  | .hbm, ⟨75, _⟩ => ⟨S32x8x512, .f32⟩
  | .hbm, ⟨76, _⟩ => ⟨S32x8x512, .f32⟩
  | .local _ .vmem, ⟨0, _⟩ => ⟨S1x8x512, .f32⟩
  | .local _ .vmem, ⟨1, _⟩ => ⟨S1x8x512, .f32⟩
  | .local _ .vmem, ⟨2, _⟩ => ⟨S1x8x512, .f32⟩
  | .local _ .vmem, ⟨3, _⟩ => ⟨S1x8x512, .f32⟩
  | .local _ .vmem, ⟨4, _⟩ => ⟨S8x512, .f32⟩
  | .local _ .vmem, ⟨5, _⟩ => ⟨S8x512, .f32⟩
  | .local _ .vmem, ⟨6, _⟩ => ⟨S8x128x512, .bf16⟩
  | .local _ .vmem, ⟨7, _⟩ => ⟨S4x1024x128, .bf16⟩
  | .local _ .vmem, ⟨8, _⟩ => ⟨S1x512, .f32⟩
  | .local _ .vmem, ⟨9, _⟩ => ⟨S1x8x512, .f32⟩
  | .local _ .vmem, ⟨10, _⟩ => ⟨S1x8x512, .f32⟩
  | .local _ .vmem, ⟨11, _⟩ => ⟨S1x8x512, .f32⟩
  | .local _ .vmem, ⟨12, _⟩ => ⟨S1x8x512, .f32⟩
  | .local _ .vmem, ⟨13, _⟩ => ⟨S8x512, .f32⟩
  | .local _ .vmem, ⟨14, _⟩ => ⟨S4x64x128, .f32⟩
  | _, _ => ⟨S32x8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64_0 : Ref sig .tc := ⟨.hbm, 75, rfl⟩
abbrev main_v64_1 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![32, 1], ![false, false]⟩

def k0_mult1 : BitVec 32 :=
  let c0_i32_144 : BitVec 32 := 0#32
  let c8_i32 : BitVec 32 := 8#32
  let v186 : BitVec 32 := Scalar.muli c0_i32_144 c8_i32
  v186
def k0_off1 (c0_i32_144 : BitVec 32) : Fin 3 → Nat :=
  let c0_145 : Index := 0#32
  let c8_i32 : BitVec 32 := 8#32
  let v186 : BitVec 32 := Scalar.muli c0_i32_144 c8_i32
  let v187 : BitVec 32 := v186
  let v192 : Index := Scalar.indexCast v187
  let c0_146 : Index := 0#32
  ![0, v192.toNat, 0]
def k0_off2 (c0_i32_144 : BitVec 32) : Fin 3 → Nat :=
  let c1_150 : Index := 1#32
  let c8_i32 : BitVec 32 := 8#32
  let v186 : BitVec 32 := Scalar.muli c0_i32_144 c8_i32
  let v187 : BitVec 32 := v186
  let v204 : Index := Scalar.indexCast v187
  let c0_151 : Index := 0#32
  ![1, v204.toNat, 0]
def k0_off3 (c0_i32_144 : BitVec 32) : Fin 3 → Nat :=
  let c2_155 : Index := 2#32
  let c8_i32 : BitVec 32 := 8#32
  let v186 : BitVec 32 := Scalar.muli c0_i32_144 c8_i32
  let v187 : BitVec 32 := v186
  let v216 : Index := Scalar.indexCast v187
  let c0_156 : Index := 0#32
  ![2, v216.toNat, 0]
def k0_off4 (c0_i32_144 : BitVec 32) : Fin 3 → Nat :=
  let c3_160 : Index := 3#32
  let c8_i32 : BitVec 32 := 8#32
  let v186 : BitVec 32 := Scalar.muli c0_i32_144 c8_i32
  let v187 : BitVec 32 := v186
  let v228 : Index := Scalar.indexCast v187
  let c0_161 : Index := 0#32
  ![3, v228.toNat, 0]
def k0_mult2 : BitVec 32 :=
  let c1_i32 : BitVec 32 := 1#32
  let c8_i32_164 : BitVec 32 := 8#32
  let v236 : BitVec 32 := Scalar.muli c1_i32 c8_i32_164
  v236
def k0_mult3 : BitVec 32 :=
  let c2_i32 : BitVec 32 := 2#32
  let c8_i32_185 : BitVec 32 := 8#32
  let v286 : BitVec 32 := Scalar.muli c2_i32 c8_i32_185
  v286
def k0_mult4 : BitVec 32 :=
  let c3_i32 : BitVec 32 := 3#32
  let c8_i32_206 : BitVec 32 := 8#32
  let v336 : BitVec 32 := Scalar.muli c3_i32 c8_i32_206
  v336
def k0_mult5 : BitVec 32 :=
  let c4_i32_227 : BitVec 32 := 4#32
  let c8_i32_228 : BitVec 32 := 8#32
  let v386 : BitVec 32 := Scalar.muli c4_i32_227 c8_i32_228
  v386
def k0_mult6 : BitVec 32 :=
  let c5_i32 : BitVec 32 := 5#32
  let c8_i32_249 : BitVec 32 := 8#32
  let v436 : BitVec 32 := Scalar.muli c5_i32 c8_i32_249
  v436
def k0_mult7 : BitVec 32 :=
  let c6_i32 : BitVec 32 := 6#32
  let c8_i32_270 : BitVec 32 := 8#32
  let v486 : BitVec 32 := Scalar.muli c6_i32 c8_i32_270
  v486
def k0_mult8 : BitVec 32 :=
  let c7_i32 : BitVec 32 := 7#32
  let c8_i32_291 : BitVec 32 := 8#32
  let v536 : BitVec 32 := Scalar.muli c7_i32 c8_i32_291
  v536
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== S5SRefIdeal.lean ====
abbrev S32x8x512 : Shape := ⟨3, ![32, 8, 512]⟩
abbrev S32x32x64 : Shape := ⟨3, ![32, 32, 64]⟩
abbrev S32x64 : Shape := ⟨2, ![32, 64]⟩
abbrev S32x64x16 : Shape := ⟨3, ![32, 64, 16]⟩
abbrev S32x16x64 : Shape := ⟨3, ![32, 16, 64]⟩
abbrev S512 : Shape := ⟨1, ![512]⟩
abbrev S32x8x32x16 : Shape := ⟨4, ![32, 8, 32, 16]⟩
abbrev S32x64x32x8 : Shape := ⟨4, ![32, 64, 32, 8]⟩
abbrev S32x8x32x64 : Shape := ⟨4, ![32, 8, 32, 64]⟩
abbrev S8x32x32x64 : Shape := ⟨4, ![8, 32, 32, 64]⟩
abbrev S_ : Shape := ⟨0, ![]⟩
abbrev S1x32x32x64 : Shape := ⟨4, ![1, 32, 32, 64]⟩
abbrev S1x32x64 : Shape := ⟨3, ![1, 32, 64]⟩
abbrev S32x16x8x32 : Shape := ⟨4, ![32, 16, 8, 32]⟩
abbrev S1x1x512 : Shape := ⟨3, ![1, 1, 512]⟩
abbrev S32x4x512 : Shape := ⟨3, ![32, 4, 512]⟩

abbrev nBuf : Space → Nat
  | .hbm => 85
  | .vmem => 0
  | .smem => 0
  | _ => 0

abbrev bufTy : (tb : Table) → Fin (tcTables nBuf tb) → BufTy
  | .hbm, ⟨0, _⟩ => ⟨S32x8x512, .f32⟩
  | .hbm, ⟨1, _⟩ => ⟨S32x32x64, .f32⟩
  | .hbm, ⟨2, _⟩ => ⟨S32x32x64, .f32⟩
  | .hbm, ⟨3, _⟩ => ⟨S32x64, .f32⟩
  | .hbm, ⟨4, _⟩ => ⟨S32x64, .f32⟩
  | .hbm, ⟨5, _⟩ => ⟨S32x64x16, .f32⟩
  | .hbm, ⟨6, _⟩ => ⟨S32x64x16, .f32⟩
  | .hbm, ⟨7, _⟩ => ⟨S32x16x64, .f32⟩
  | .hbm, ⟨8, _⟩ => ⟨S32x16x64, .f32⟩
  | .hbm, ⟨9, _⟩ => ⟨S512, .f32⟩
  | .hbm, ⟨10, _⟩ => ⟨S32x8x32x16, .f32⟩
  | .hbm, ⟨11, _⟩ => ⟨S32x64x32x8, .f32⟩
  | .hbm, ⟨12, _⟩ => ⟨S32x8x32x64, .f32⟩
  | .hbm, ⟨13, _⟩ => ⟨S32x64x32x8, .f32⟩
  | .hbm, ⟨14, _⟩ => ⟨S32x8x32x64, .f32⟩
  | .hbm, ⟨15, _⟩ => ⟨S8x32x32x64, .f32⟩
  | .hbm, ⟨16, _⟩ => ⟨S8x32x32x64, .f32⟩
  | .hbm, ⟨17, _⟩ => ⟨S_, .f32⟩
  | .hbm, ⟨18, _⟩ => ⟨S8x32x32x64, .f32⟩
  | .hbm, ⟨19, _⟩ => ⟨S_, .f32⟩
  | .hbm, ⟨20, _⟩ => ⟨S8x32x32x64, .f32⟩
  | .hbm, ⟨21, _⟩ => ⟨S_, .i32⟩
  | .hbm, ⟨22, _⟩ => ⟨S8x32x32x64, .f32⟩
  | .hbm, ⟨23, _⟩ => ⟨S8x32x32x64, .f32⟩
  | .hbm, ⟨24, _⟩ => ⟨S32x64, .f32⟩
  | .hbm, ⟨25, _⟩ => ⟨S32x64, .f32⟩
  | .hbm, ⟨26, _⟩ => ⟨S_, .i32⟩
  | .hbm, ⟨27, _⟩ => ⟨S32x32x64, .f32⟩
  | .hbm, ⟨28, _⟩ => ⟨S32x32x64, .f32⟩
  | .hbm, ⟨29, _⟩ => ⟨S8x32x32x64, .f32⟩
  | .hbm, ⟨30, _⟩ => ⟨S8x32x32x64, .f32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S1x32x32x64, .f32⟩
  | .hbm, ⟨37, _⟩ => ⟨S32x32x64, .f32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S1x32x32x64, .f32⟩
  | .hbm, ⟨42, _⟩ => ⟨S32x32x64, .f32⟩
  | .hbm, ⟨43, _⟩ => ⟨S1x32x64, .f32⟩
  | .hbm, ⟨44, _⟩ => ⟨S32x32x64, .f32⟩
  | .hbm, ⟨45, _⟩ => ⟨S32x32x64, .f32⟩
  | .hbm, ⟨46, _⟩ => ⟨S1x32x64, .f32⟩
  | .hbm, ⟨47, _⟩ => ⟨S32x32x64, .f32⟩
  | .hbm, ⟨48, _⟩ => ⟨S32x32x64, .f32⟩
  | .hbm, ⟨49, _⟩ => ⟨S32x32x64, .f32⟩
  | .hbm, ⟨50, _⟩ => ⟨S32x32x64, .f32⟩
  | .hbm, ⟨51, _⟩ => ⟨S1x32x64, .f32⟩
  | .hbm, ⟨52, _⟩ => ⟨S32x32x64, .f32⟩
  | .hbm, ⟨53, _⟩ => ⟨S32x32x64, .f32⟩
  | .hbm, ⟨54, _⟩ => ⟨S1x32x64, .f32⟩
  | .hbm, ⟨55, _⟩ => ⟨S32x32x64, .f32⟩
  | .hbm, ⟨56, _⟩ => ⟨S32x32x64, .f32⟩
  | .hbm, ⟨57, _⟩ => ⟨S32x32x64, .f32⟩
  | .hbm, ⟨58, _⟩ => ⟨S32x32x64, .f32⟩
  | .hbm, ⟨59, _⟩ => ⟨S1x32x32x64, .f32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S8x32x32x64, .f32⟩
  | .hbm, ⟨64, _⟩ => ⟨S1x32x32x64, .f32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S8x32x32x64, .f32⟩
  | .hbm, ⟨69, _⟩ => ⟨S_, .i32⟩
  | .hbm, ⟨70, _⟩ => ⟨S_, .i32⟩
  | .hbm, ⟨71, _⟩ => ⟨S32x16x8x32, .f32⟩
  | .hbm, ⟨72, _⟩ => ⟨S32x8x32x16, .f32⟩
  | .hbm, ⟨73, _⟩ => ⟨S32x16x64, .f32⟩
  | .hbm, ⟨74, _⟩ => ⟨S32x16x8x32, .f32⟩
  | .hbm, ⟨75, _⟩ => ⟨S32x8x32x16, .f32⟩
  | .hbm, ⟨76, _⟩ => ⟨S32x8x32x16, .f32⟩
  | .hbm, ⟨77, _⟩ => ⟨S32x8x512, .f32⟩
  | .hbm, ⟨78, _⟩ => ⟨S1x1x512, .f32⟩
  | .hbm, ⟨79, _⟩ => ⟨S32x8x512, .f32⟩
  | .hbm, ⟨80, _⟩ => ⟨S32x8x512, .f32⟩
  | .hbm, ⟨81, _⟩ => ⟨S32x8x512, .f32⟩
  | .hbm, ⟨82, _⟩ => ⟨S32x4x512, .f32⟩
  | .hbm, ⟨83, _⟩ => ⟨S32x4x512, .f32⟩
  | .hbm, ⟨84, _⟩ => ⟨S32x8x512, .f32⟩
  | _, _ => ⟨S32x8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_c : Ref sig .tc := ⟨.hbm, 21, rfl⟩
abbrev main_v9_0 : Ref sig .tc := ⟨.hbm, 22, rfl⟩
abbrev main_v9_1 : Ref sig .tc := ⟨.hbm, 23, rfl⟩
abbrev main_v9_2 : Ref sig .tc := ⟨.hbm, 24, rfl⟩
abbrev main_v9_3 : Ref sig .tc := ⟨.hbm, 25, rfl⟩
abbrev main_v9_4 : Ref sig .tc := ⟨.hbm, 26, rfl⟩
abbrev main_v9_5 : Ref sig .tc := ⟨.hbm, 27, rfl⟩
abbrev main_v9_6 : Ref sig .tc := ⟨.hbm, 28, rfl⟩
abbrev main_v9_7 : Ref sig .tc := ⟨.hbm, 29, rfl⟩
abbrev main_v9_8 : Ref sig .tc := ⟨.hbm, 30, rfl⟩
abbrev main_while0c_c_9 : Ref sig .tc := ⟨.hbm, 31, rfl⟩
abbrev main_while0c_v24 : Ref sig .tc := ⟨.hbm, 32, rfl⟩
abbrev main_while0b_call0_c : Ref sig .tc := ⟨.hbm, 33, rfl⟩
abbrev main_while0b_call0_c_0 : Ref sig .tc := ⟨.hbm, 34, rfl⟩
abbrev main_while0b_call0_c_1 : Ref sig .tc := ⟨.hbm, 35, rfl⟩
abbrev main_while0b_call0_v0 : Ref sig .tc := ⟨.hbm, 36, rfl⟩
abbrev main_while0b_v24 : Ref sig .tc := ⟨.hbm, 37, rfl⟩
abbrev main_while0b_call1_c : Ref sig .tc := ⟨.hbm, 38, rfl⟩
abbrev main_while0b_call1_c_0 : Ref sig .tc := ⟨.hbm, 39, rfl⟩
abbrev main_while0b_call1_c_1 : Ref sig .tc := ⟨.hbm, 40, rfl⟩
abbrev main_while0b_call1_v0 : Ref sig .tc := ⟨.hbm, 41, rfl⟩
abbrev main_while0b_v25 : Ref sig .tc := ⟨.hbm, 42, rfl⟩
abbrev main_while0b_v26 : Ref sig .tc := ⟨.hbm, 43, rfl⟩
abbrev main_while0b_v27 : Ref sig .tc := ⟨.hbm, 44, rfl⟩
abbrev main_while0b_v28 : Ref sig .tc := ⟨.hbm, 45, rfl⟩
abbrev main_while0b_v29 : Ref sig .tc := ⟨.hbm, 46, rfl⟩
abbrev main_while0b_v30 : Ref sig .tc := ⟨.hbm, 47, rfl⟩
abbrev main_while0b_v31 : Ref sig .tc := ⟨.hbm, 48, rfl⟩
abbrev main_while0b_v32 : Ref sig .tc := ⟨.hbm, 49, rfl⟩
abbrev main_while0b_v33 : Ref sig .tc := ⟨.hbm, 50, rfl⟩
abbrev main_while0b_v34 : Ref sig .tc := ⟨.hbm, 51, rfl⟩
abbrev main_while0b_v35 : Ref sig .tc := ⟨.hbm, 52, rfl⟩
abbrev main_while0b_v36 : Ref sig .tc := ⟨.hbm, 53, rfl⟩
abbrev main_while0b_v37 : Ref sig .tc := ⟨.hbm, 54, rfl⟩
abbrev main_while0b_v38 : Ref sig .tc := ⟨.hbm, 55, rfl⟩
abbrev main_while0b_v39 : Ref sig .tc := ⟨.hbm, 56, rfl⟩
abbrev main_while0b_v40 : Ref sig .tc := ⟨.hbm, 57, rfl⟩
abbrev main_while0b_v41 : Ref sig .tc := ⟨.hbm, 58, rfl⟩
abbrev main_while0b_call2_v0 : Ref sig .tc := ⟨.hbm, 59, rfl⟩
abbrev main_while0b_call2_c : Ref sig .tc := ⟨.hbm, 60, rfl⟩
abbrev main_while0b_call2_c_0 : Ref sig .tc := ⟨.hbm, 61, rfl⟩
abbrev main_while0b_call2_c_1 : Ref sig .tc := ⟨.hbm, 62, rfl⟩
abbrev main_while0b_v42 : Ref sig .tc := ⟨.hbm, 63, rfl⟩
abbrev main_while0b_call3_v0 : Ref sig .tc := ⟨.hbm, 64, rfl⟩
abbrev main_while0b_call3_c : Ref sig .tc := ⟨.hbm, 65, rfl⟩
abbrev main_while0b_call3_c_0 : Ref sig .tc := ⟨.hbm, 66, rfl⟩
abbrev main_while0b_call3_c_1 : Ref sig .tc := ⟨.hbm, 67, rfl⟩
abbrev main_while0b_v43 : Ref sig .tc := ⟨.hbm, 68, rfl⟩
abbrev main_while0b_c_9 : Ref sig .tc := ⟨.hbm, 69, rfl⟩
abbrev main_while0b_v44 : Ref sig .tc := ⟨.hbm, 70, rfl⟩
abbrev main_v10 : Ref sig .tc := ⟨.hbm, 71, rfl⟩
abbrev main_v11 : Ref sig .tc := ⟨.hbm, 72, rfl⟩
abbrev main_v12 : Ref sig .tc := ⟨.hbm, 73, rfl⟩
abbrev main_v13 : Ref sig .tc := ⟨.hbm, 74, rfl⟩
abbrev main_v14 : Ref sig .tc := ⟨.hbm, 75, rfl⟩
abbrev main_v15 : Ref sig .tc := ⟨.hbm, 76, rfl⟩
abbrev main_v16 : Ref sig .tc := ⟨.hbm, 77, rfl⟩
abbrev main_v17 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩

abbrev nD : Nat := 1
abbrev τ : Topo := Topo.v7x

variable {F : FTy → Type} [FloatOps F]

abbrev main_while0_count : Scf.Loop 32 := ⟨0#32, 8#32, 1#32⟩
-- ==== Proof.S5.Step.lean ====
/-
  The recurrence of one grid point of the kernel, as plain functions of the arrays it reads.

  The scratch holds, per chunk `q` of 128 channels, 8 rows per time step. It is first filled with the input
  projections (`bu`), then the loop replaces the rows of step `k` by the state after that step (`hst`), one step after
  another (`hist k` is the scratch before step `k`). The output reads the finished scratch (`yOut`).
-/
module

public import proofs.«01_k».proof.Proof.Gen.KernelIdeal.Loops
public import Idealize.ShloMosaic.Lib.PointwiseCore
public import Idealize.ShloMosaic.Lib.WritesUnit
public import Idealize.ShloMosaic.Lib.VecWindow
public import Idealize.ShloMosaic.Lib.Pipeline.ReadBack

@[expose] public section

set_option maxRecDepth 16384

noncomputable section

namespace Cert.KernelIdeal

open Idealize.ShloMosaic Idealize.ShloMosaic.TcCoe
open Idealize.SL Idealize.SL.Sem
open Gen

variable {F : FTy → Type} [FloatOps F]

/-! ## What the point reads -/

/-- 128 columns of an `[8, 512]` array, from column `o`. -/
def lanes (o : ℕ) (X : Vec F S8x512 .f32) : Vec F S8x128 .f32 :=
  fun y => X (ix2 (y 0) ⟨(o + (y 1).val) % 512, Nat.mod_lt _ (by decide)⟩)

/-- Slab `j` of the input weights. -/
def wbSlab (x4 : Vec F S8x128x512 .bf16) (j : ℕ) : Vec F S1x128x512 .bf16 :=
  fun y => x4 (ix3 ⟨j % 8, Nat.mod_lt _ (by decide)⟩ (y 1) (y 2))

/-- Slab `o` of the output weights. -/
def wcSlab (x5 : Vec F S4x1024x128 .bf16) (o : ℕ) : Vec F S1x1024x128 .bf16 :=
  fun y => x5 (ix3 ⟨o % 4, Nat.mod_lt _ (by decide)⟩ (y 1) (y 2))

/-- Row `j` of every step's 8 rows, in chunk `q` of the scratch. -/
def tile (S : Vec F S4x2048x128 .f32) (q j : ℕ) : Vec F S1x256x128 .f32 :=
  fun y => S (ix3 ⟨q % 4, Nat.mod_lt _ (by decide)⟩ ⟨(j + 8 * (y 1).val) % 2048, Nat.mod_lt _ (by decide)⟩ (y 2))

/-- The 8 rows of step `k` in chunk `q` of the scratch. -/
def slab (S : Vec F S4x2048x128 .f32) (q k : ℕ) : Vec F S1x8x128 .f32 :=
  fun y => S (ix3 ⟨q % 4, Nat.mod_lt _ (by decide)⟩ ⟨(8 * k + (y 1).val) % 2048, Nat.mod_lt _ (by decide)⟩ (y 2))

/-! ## What the point computes -/

/-- A quarter of the input block's columns, narrowed. -/
def uCols (x0 : Vec F S1x256x512 .f32) : Fin 4 → FVec F S256x128 .bf16
  | 0 => extractStridedSlice S256x128 ![0, 0] (k0_pay11 x0) slices_S256x512_o0_0_S256x128
  | 1 => extractStridedSlice S256x128 ![0, 128] (k0_pay11 x0) slices_S256x512_o0_128_S256x128
  | 2 => extractStridedSlice S256x128 ![0, 256] (k0_pay11 x0) slices_S256x512_o0_256_S256x128
  | 3 => extractStridedSlice S256x128 ![0, 384] (k0_pay11 x0) slices_S256x512_o0_384_S256x128

/-- The `j`-th input projection. -/
def buMat (x0 : Vec F S1x256x512 .f32) (x4 : Vec F S8x128x512 .bf16) (j : Fin 8) : FVec F S256x512 .f32 :=
  matmul dot_S256x128_S128x512_S256x512_1_0_0_1_n_n none (uCols x0 ⟨j.val % 4, Nat.mod_lt _ (by decide)⟩)
    (k0_pay18 (wbSlab x4 j.val)) (constant S256x512 .f32 0x00000000#32)

/-- The scratch after the projections. -/
def bu (x0 : Vec F S1x256x512 .f32) (x4 : Vec F S8x128x512 .bf16) : Vec F S4x2048x128 .f32 :=
  fun y => buMat x0 x4 ⟨(y 1).val % 8, Nat.mod_lt _ (by decide)⟩
    (ix2 ⟨(y 1).val / 8, by have : (y 1).val < 2048 := (y 1).isLt; omega⟩
      ⟨128 * (y 0).val + (y 2).val, by have : (y 0).val < 4 := (y 0).isLt; have : (y 2).val < 128 := (y 2).isLt; omega⟩)

/-- The state of chunk `q` after `k` steps from `h`. -/
def hst (x0 : Vec F S1x256x512 .f32) (x2 x3 : Vec F S8x512 .f32) (x4 : Vec F S8x128x512 .bf16) (h : Vec F S8x512 .f32) :
    ℕ → ℕ → Vec F S8x128 .f32
  | 0 => fun q => lanes (128 * q) h
  | k + 1 => fun q => k0_pay2 (lanes (128 * q) x2) (lanes (128 * q) x3) (hst x0 x2 x3 x4 h k q) (slab (bu x0 x4) q k)

/-- The scratch before step `k`. -/
def hist (x0 : Vec F S1x256x512 .f32) (x2 x3 : Vec F S8x512 .f32) (x4 : Vec F S8x128x512 .bf16) (h : Vec F S8x512 .f32)
    (k : ℕ) : Vec F S4x2048x128 .f32 :=
  fun y => if (y 1).val < 8 * k then
      hst x0 x2 x3 x4 h ((y 1).val / 8 + 1) (y 0).val (ix2 ⟨(y 1).val % 8, Nat.mod_lt _ (by decide)⟩ (y 2))
    else bu x0 x4 y

/-- The state after the point's 256 steps, the chunks side by side. -/
def hOut (x0 : Vec F S1x256x512 .f32) (x2 x3 : Vec F S8x512 .f32) (x4 : Vec F S8x128x512 .bf16) (h : Vec F S8x512 .f32) :
    FVec F S8x512 .f32 :=
  k0_pay69 (hst x0 x2 x3 x4 h 256 0) (hst x0 x2 x3 x4 h 256 1) (hst x0 x2 x3 x4 h 256 2) (hst x0 x2 x3 x4 h 256 3)

/-- The same, as the block that is written back. -/
def hTile (x0 : Vec F S1x256x512 .f32) (x2 x3 : Vec F S8x512 .f32) (x4 : Vec F S8x128x512 .bf16) (h : Vec F S8x512 .f32) :
    FVec F S1x8x512 .f32 :=
  shapeCast S1x8x512 (hOut x0 x2 x3 x4 h) shapeCasts_S8x512_S1x8x512

/-- The projection of the states onto 128 output columns. -/
def outMat (S : Vec F S4x2048x128 .f32) (x5 : Vec F S4x1024x128 .bf16) (o : ℕ) : FVec F S256x128 .f32 :=
  k0_pay76 (k0_pay72 (tile S 0 o)) (k0_pay72 (tile S 1 o)) (k0_pay72 (tile S 2 o)) (k0_pay72 (tile S 3 o))
    (tile S 0 (o + 4)) (tile S 1 (o + 4)) (tile S 2 (o + 4)) (tile S 3 (o + 4)) (wcSlab x5 o)

/-- The output block. -/
def yOut (x0 : Vec F S1x256x512 .f32) (S : Vec F S4x2048x128 .f32) (x5 : Vec F S4x1024x128 .bf16) (x6 : Vec F S1x512 .f32) :
    FVec F S1x256x512 .f32 :=
  k0_pay1 (k0_pay10 x0)
    (k0_pay85 (outMat S x5 0) (outMat S x5 1)
      (k0_pay84 (tile S 0 2) (tile S 1 2) (tile S 2 2) (tile S 3 2) (tile S 0 6) (tile S 1 6) (tile S 2 6) (tile S 3 6))
      (wcSlab x5 2) (tile S 0 3) (tile S 1 3) (tile S 2 3) (tile S 3 3) (tile S 0 7) (tile S 1 7) (tile S 2 7) (tile S 3 7)
      (wcSlab x5 3))
    (k0_pay86 x6)

/-! ## Loads, as these functions -/

section Loads
variable {sp : Space}

theorem ld_lanes (o : ℕ) (X : Vec F S8x512 .f32) (inb : ∀ a, (![0, o] : Fin 2 → ℕ) a + (![8, 128] : Fin 2 → ℕ) a ≤ S8x512.size a) :
    View.ld X (Rect.unit (s := S8x512) ![0, o] ![8, 128] inb) = lanes o X := by
  funext y
  refine congrArg X (funext fun a => Fin.ext ?_)
  have h1 := inb 1
  have hy : (y 1).val < 128 := (y 1).isLt
  have h1' : o + 128 ≤ 512 := h1
  match a with
  | 0 => show 0 + 1 * (y 0).val = (y 0).val; omega
  | 1 => show o + 1 * (y 1).val = (o + (y 1).val) % 512; omega

theorem ld_wbSlab (j : ℕ) (X : Vec F S8x128x512 .bf16)
    (inb : ∀ a, (![j, 0, 0] : Fin 3 → ℕ) a + (![1, 128, 512] : Fin 3 → ℕ) a ≤ S8x128x512.size a) :
    View.ld X (Rect.unit (s := S8x128x512) ![j, 0, 0] ![1, 128, 512] inb) = wbSlab X j := by
  funext y
  refine congrArg X (funext fun a => Fin.ext ?_)
  have h0 : j + 1 ≤ 8 := inb 0
  have hy : (y 0).val < 1 := (y 0).isLt
  match a with
  | 0 => show j + 1 * (y 0).val = j % 8; omega
  | 1 => show 0 + 1 * (y 1).val = (y 1).val; omega
  | 2 => show 0 + 1 * (y 2).val = (y 2).val; omega

theorem ld_wcSlab (o : ℕ) (X : Vec F S4x1024x128 .bf16)
    (inb : ∀ a, (![o, 0, 0] : Fin 3 → ℕ) a + (![1, 1024, 128] : Fin 3 → ℕ) a ≤ S4x1024x128.size a) :
    View.ld X (Rect.unit (s := S4x1024x128) ![o, 0, 0] ![1, 1024, 128] inb) = wcSlab X o := by
  funext y
  refine congrArg X (funext fun a => Fin.ext ?_)
  have h0 : o + 1 ≤ 4 := inb 0
  have hy : (y 0).val < 1 := (y 0).isLt
  match a with
  | 0 => show o + 1 * (y 0).val = o % 4; omega
  | 1 => show 0 + 1 * (y 1).val = (y 1).val; omega
  | 2 => show 0 + 1 * (y 2).val = (y 2).val; omega

theorem idx_tile (q j : ℕ) (inb : ∀ a, (![1, 256, 128] : Fin 3 → ℕ) a = 0 ∨ (![q, j, 0] : Fin 3 → ℕ) a + (![1, 8, 1] : Fin 3 → ℕ) a * ((![1, 256, 128] : Fin 3 → ℕ) a - 1) < S4x2048x128.size a)
    (y : S1x256x128.Idx) :
    (⟨![q, j, 0], ![1, 256, 128], ![1, 8, 1], inb⟩ : LoadRect S4x2048x128).idx y
      = ix3 ⟨q % 4, Nat.mod_lt _ (by decide)⟩ ⟨(j + 8 * (y 1).val) % 2048, Nat.mod_lt _ (by decide)⟩ (y 2) := by
  refine funext fun a => Fin.ext ?_
  have h0 : q + 1 * (1 - 1) < 4 := (inb 0).resolve_left (by decide)
  have h1 : j + 8 * (256 - 1) < 2048 := (inb 1).resolve_left (by decide)
  have hy : (y 0).val < 1 := (y 0).isLt
  have hy1 : (y 1).val < 256 := (y 1).isLt
  match a with
  | 0 => show q + 1 * (y 0).val = q % 4; omega
  | 1 => show j + 8 * (y 1).val = (j + 8 * (y 1).val) % 2048; omega
  | 2 => show 0 + 1 * (y 2).val = (y 2).val; omega

theorem readAt_tile (v : View sig .tc sp S4x2048x128 .f32) (f : v.ty.Contents (Elt F)) (q j : ℕ)
    (inb : ∀ a, (![1, 256, 128] : Fin 3 → ℕ) a = 0 ∨ (![q, j, 0] : Fin 3 → ℕ) a + (![1, 8, 1] : Fin 3 → ℕ) a * ((![1, 256, 128] : Fin 3 → ℕ) a - 1) < S4x2048x128.size a) :
    v.readAt (Elt F) (⟨![q, j, 0], ![1, 256, 128], ![1, 8, 1], inb⟩ : LoadRect S4x2048x128) f = tile (v.read (Elt F) f) q j :=
  funext fun y => congrArg (v.read (Elt F) f) (idx_tile q j inb y)

theorem readAt_slab (v : View sig .tc sp S4x2048x128 .f32) (f : v.ty.Contents (Elt F)) (q k : ℕ) (hk : k < 256) (off : Fin 3 → ℕ)
    (ho : off = ![q, 8 * k, 0]) (inb : ∀ a, off a + S1x8x128.size a ≤ S4x2048x128.size a) :
    v.readAt (Elt F) (Rect.unit (s := S4x2048x128) off S1x8x128.size inb).toLoadRect f = slab (v.read (Elt F) f) q k := by
  subst ho
  funext y
  refine congrArg (v.read (Elt F) f) (funext fun a => Fin.ext ?_)
  have h0 : q + 1 ≤ 4 := inb 0
  have hy : (y 0).val < 1 := (y 0).isLt
  have hy1 : (y 1).val < 8 := (y 1).isLt
  match a with
  | 0 => show q + 1 * (y 0).val = q % 4; omega
  | 1 => show 8 * k + 1 * (y 1).val = (8 * k + (y 1).val) % 2048; omega
  | 2 => show 0 + 1 * (y 2).val = (y 2).val; omega

end Loads

/-! ## The projections' stores -/

/-- A store of 128 columns of the `j`-th projection is a tile of `bu`. -/
theorem piece_bu (x0 : Vec F S1x256x512 .f32) (x4 : Vec F S8x128x512 .bf16) (q j o : ℕ) (hj : j < 8) (M : FVec F S256x512 .f32)
    (hM : M = buMat x0 x4 ⟨j, hj⟩) (ho : o = 128 * q) (hs : S256x512.Slices ![0, o] S256x128)
    (hc : S256x128.ShapeCasts S1x256x128)
    (inb : ∀ a, (![1, 256, 128] : Fin 3 → ℕ) a = 0 ∨ (![q, j, 0] : Fin 3 → ℕ) a + (![1, 8, 1] : Fin 3 → ℕ) a * ((![1, 256, 128] : Fin 3 → ℕ) a - 1) < S4x2048x128.size a)
    (hp : ∀ a, 0 < (![1, 8, 1] : Fin 3 → ℕ) a) (y : S1x256x128.Idx) :
    shapeCast S1x256x128 (extractStridedSlice S256x128 ![0, o] M hs) hc y
      = bu x0 x4 ((⟨⟨![q, j, 0], ![1, 256, 128], ![1, 8, 1], inb⟩, hp⟩ : Rect S4x2048x128).emb y) := by
  subst hM ho
  rw [show (⟨⟨![q, j, 0], ![1, 256, 128], ![1, 8, 1], inb⟩, hp⟩ : Rect S4x2048x128).emb y = _ from idx_tile q j inb y]
  have h0 : q + 1 * (1 - 1) < 4 := (inb 0).resolve_left (by decide)
  have hy : (y 0).val < 1 := (y 0).isLt
  have hy1 : (y 1).val < 256 := (y 1).isLt
  have hy2 : (y 2).val < 128 := (y 2).isLt
  rw [shapeCast_apply _ hc y (ix2 (y 1) (y 2)) (by
    rw [Shape.rowMajor_val_three, Shape.rowMajor_val_two]
    show (y 1).val * 128 + (y 2).val = ((y 0).val * 256 + (y 1).val) * 128 + (y 2).val
    omega)]
  rw [extractStridedSlice_apply _ _ hs _ (ix2 (y 1) ⟨128 * q + (y 2).val, by omega⟩) (fun a => by
    match a with
    | 0 => show (y 1).val = 0 + (y 1).val; omega
    | 1 => rfl)]
  unfold bu
  have e : (⟨j, hj⟩ : Fin 8) = ⟨((j + 8 * (y 1).val) % 2048) % 8, Nat.mod_lt _ (by decide)⟩ := Fin.ext (by
    show j = ((j + 8 * (y 1).val) % 2048) % 8
    omega)
  show buMat x0 x4 ⟨j, hj⟩ _ = buMat x0 x4 ⟨((j + 8 * (y 1).val) % 2048) % 8, _⟩ _
  rw [← e]
  refine congrArg _ (funext fun a => Fin.ext ?_)
  match a with
  | 0 => show (y 1).val = ((j + 8 * (y 1).val) % 2048) / 8; omega
  | 1 => show 128 * q + (y 2).val = 128 * (q % 4) + (y 2).val; omega

/-! ## The loop -/

section Loop

variable {sp : Space} (x0 : Vec F S1x256x512 .f32) (x2 x3 : Vec F S8x512 .f32) (x4 : Vec F S8x128x512 .bf16) (h : Vec F S8x512 .f32)

theorem hist_zero : hist x0 x2 x3 x4 h 0 = bu x0 x4 := by
  funext y
  unfold hist
  rw [if_neg (by omega)]

/-- Step `k` finds its rows still holding the projections. -/
theorem slab_hist (q k : ℕ) (hk : k < 256) : slab (hist x0 x2 x3 x4 h k) q k = slab (bu x0 x4) q k := by
  funext y
  have hy1 : (y 1).val < 8 := (y 1).isLt
  unfold slab hist
  rw [if_neg]
  show ¬ ((8 * k + (y 1).val) % 2048 < 8 * k)
  omega

/-- The store of step `k`'s state in chunk `q`. -/
theorem pay_hst (q k : ℕ) (H : Vec F S8x128 .f32) (hH : H = hst x0 x2 x3 x4 h (k + 1) q) (hc : S8x128.ShapeCasts S1x8x128)
    (y : S1x8x128.Idx) : shapeCast S1x8x128 H hc y = hst x0 x2 x3 x4 h (k + 1) q (ix2 (y 1) (y 2)) := by
  subst hH
  have hy : (y 0).val < 1 := (y 0).isLt
  exact shapeCast_apply _ hc y (ix2 (y 1) (y 2)) (by
    rw [Shape.rowMajor_val_three, Shape.rowMajor_val_two]
    show (y 1).val * 128 + (y 2).val = ((y 0).val * 8 + (y 1).val) * 128 + (y 2).val
    omega)

/-- The four stores of step `k` turn the scratch before step `k` into the scratch before the next. -/
theorem hist_succ (v : View sig .tc sp S4x2048x128 .f32) (f : v.ty.Contents (Elt F)) (k : ℕ) (hk : k < 256)
    (hf : v.read (Elt F) f = hist x0 x2 x3 x4 h k) (o0 o1 o2 o3 : Fin 3 → ℕ) (e0 : o0 = ![0, 8 * k, 0]) (e1 : o1 = ![1, 8 * k, 0])
    (e2 : o2 = ![2, 8 * k, 0]) (e3 : o3 = ![3, 8 * k, 0]) (i0 : ∀ a, o0 a + S1x8x128.size a ≤ S4x2048x128.size a)
    (i1 : ∀ a, o1 a + S1x8x128.size a ≤ S4x2048x128.size a) (i2 : ∀ a, o2 a + S1x8x128.size a ≤ S4x2048x128.size a)
    (i3 : ∀ a, o3 a + S1x8x128.size a ≤ S4x2048x128.size a) (w0 w1 w2 w3 : S1x8x128.Idx → Elt F .f32)
    (h0 : ∀ y, w0 y = hst x0 x2 x3 x4 h (k + 1) 0 (ix2 (y 1) (y 2))) (h1 : ∀ y, w1 y = hst x0 x2 x3 x4 h (k + 1) 1 (ix2 (y 1) (y 2)))
    (h2 : ∀ y, w2 y = hst x0 x2 x3 x4 h (k + 1) 2 (ix2 (y 1) (y 2))) (h3 : ∀ y, w3 y = hst x0 x2 x3 x4 h (k + 1) 3 (ix2 (y 1) (y 2))) :
    v.read (Elt F) (v.writes (Elt F) f
      [(⟨Rect.unit (s := S4x2048x128) o3 S1x8x128.size i3, w3⟩ : View.Piece (Elt F) S4x2048x128 .f32),
       ⟨Rect.unit (s := S4x2048x128) o2 S1x8x128.size i2, w2⟩, ⟨Rect.unit (s := S4x2048x128) o1 S1x8x128.size i1, w1⟩,
       ⟨Rect.unit (s := S4x2048x128) o0 S1x8x128.size i0, w0⟩])
      = hist x0 x2 x3 x4 h (k + 1) := by
  funext y
  have hy0 : (y 0).val < 4 := (y 0).isLt
  have hy1 : (y 1).val < 2048 := (y 1).isLt
  have hy2 : (y 2).val < 128 := (y 2).isLt
  by_cases hrow : 8 * k ≤ (y 1).val ∧ (y 1).val < 8 * k + 8
  · have hd : (y 1).val / 8 = k := by omega
    have hR : hist x0 x2 x3 x4 h (k + 1) y
        = hst x0 x2 x3 x4 h (k + 1) (y 0).val (ix2 ⟨(y 1).val % 8, Nat.mod_lt _ (by decide)⟩ (y 2)) := by
      unfold hist
      rw [if_pos (by omega), hd]
    rw [hR]
    have hx : ∀ q : ℕ, (y 0).val = q → ∀ a : Fin 3, (y a).val = (![q, 8 * k, 0] : Fin 3 → ℕ) a
        + ((ix3 (0 : Fin 1) ⟨(y 1).val % 8, Nat.mod_lt _ (by decide)⟩ (y 2) : S1x8x128.Idx) a).val := by
      intro q hq a
      match a with
      | 0 => show (y 0).val = q + 0; omega
      | 1 => show (y 1).val = 8 * k + (y 1).val % 8; omega
      | 2 => show (y 2).val = 0 + (y 2).val; omega
    have hn : ∀ q q' : ℕ, (y 0).val = q → q ≠ q' → (y 0).val < (![q', 8 * k, 0] : Fin 3 → ℕ) 0 ∨ (![q', 8 * k, 0] : Fin 3 → ℕ) 0 + S1x8x128.size 0 ≤ (y 0).val := by
      intro q q' hq hne
      show (y 0).val < q' ∨ q' + 1 ≤ (y 0).val
      omega
    obtain hq | hq | hq | hq : (y 0).val = 0 ∨ (y 0).val = 1 ∨ (y 0).val = 2 ∨ (y 0).val = 3 := by omega
    · rw [View.read_writes_cons_unit_of_not_mem v f i3 w3 _ y e3 0 (hn _ _ hq (by decide)),
        View.read_writes_cons_unit_of_not_mem v f i2 w2 _ y e2 0 (hn _ _ hq (by decide)),
        View.read_writes_cons_unit_of_not_mem v f i1 w1 _ y e1 0 (hn _ _ hq (by decide)),
        View.read_writes_cons_unit_of_mem v f i0 w0 _ y _ e0 (hx _ hq), hq]
      exact h0 _
    · rw [View.read_writes_cons_unit_of_not_mem v f i3 w3 _ y e3 0 (hn _ _ hq (by decide)),
        View.read_writes_cons_unit_of_not_mem v f i2 w2 _ y e2 0 (hn _ _ hq (by decide)),
        View.read_writes_cons_unit_of_mem v f i1 w1 _ y _ e1 (hx _ hq), hq]
      exact h1 _
    · rw [View.read_writes_cons_unit_of_not_mem v f i3 w3 _ y e3 0 (hn _ _ hq (by decide)),
        View.read_writes_cons_unit_of_mem v f i2 w2 _ y _ e2 (hx _ hq), hq]
      exact h2 _
    · rw [View.read_writes_cons_unit_of_mem v f i3 w3 _ y _ e3 (hx _ hq), hq]
      exact h3 _
  · have hn : ∀ q' : ℕ, (y 1).val < (![q', 8 * k, 0] : Fin 3 → ℕ) 1 ∨ (![q', 8 * k, 0] : Fin 3 → ℕ) 1 + S1x8x128.size 1 ≤ (y 1).val := by
      intro q'
      show (y 1).val < 8 * k ∨ 8 * k + 8 ≤ (y 1).val
      omega
    rw [View.read_writes_cons_unit_of_not_mem v f i3 w3 _ y e3 1 (hn _),
      View.read_writes_cons_unit_of_not_mem v f i2 w2 _ y e2 1 (hn _),
      View.read_writes_cons_unit_of_not_mem v f i1 w1 _ y e1 1 (hn _),
      View.read_writes_cons_unit_of_not_mem v f i0 w0 _ y e0 1 (hn _)]
    show v.read (Elt F) f y = _
    rw [hf]
    unfold hist
    by_cases hlt : (y 1).val < 8 * k
    · rw [if_pos hlt, if_pos (by omega)]
    · rw [if_neg hlt, if_neg (by omega)]

end Loop

end Cert.KernelIdeal

end
-- ==== Proof.S5.Loop.lean ====
/-
  The kernel's loop over the 256 steps of one grid point: what it carries and what it leaves in the scratch.
-/
module

public import proofs.«01_k».proof.Proof.S5.Step

@[expose] public section

set_option maxRecDepth 16384

noncomputable section

namespace Cert.KernelIdeal

open Idealize.ShloMosaic Idealize.ShloMosaic.TcCoe
open Idealize.SL Idealize.SL.Sem
open Gen

variable {F : FTy → Type} [FloatOps F]

theorem trips_eq : k0_t1_loop.trips = 256 := by decide +kernel

set_option maxHeartbeats 2000000 in
/-- Before step `k` the loop carries the state after `k` steps, chunk by chunk, and the scratch is `hist k`. -/
theorem loop_state (c : Dev nD) (i : grid0.Coords) (arg2 : Memref sig .tc .vmem S1x256x512 .f32) (harg2 : arg2.IsWhole) (arg3 : Memref sig .tc .vmem S1x8x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x128x512 .bf16) (harg6 : arg6.IsWhole) (arg7 : Memref sig .tc .vmem S4x1024x128 .bf16) (harg7 : arg7.IsWhole) (arg8 : Memref sig .tc .vmem S1x512 .f32) (harg8 : arg8.IsWhole) (arg9 : Memref sig .tc .vmem S1x256x512 .f32) (harg9 : arg9.IsWhole) (arg10 : Memref sig .tc .vmem S1x8x512 .f32) (harg10 : arg10.IsWhole) (arg11 : Memref sig .tc .vmem S8x512 .f32) (harg11 : arg11.IsWhole) (arg12 : Memref sig .tc .vmem S4x2048x128 .f32) (harg12 : arg12.IsWhole)
    (x0 : Vec F S1x256x512 .f32) (x2 x3 : Vec F S8x512 .f32) (x4 : Vec F S8x128x512 .bf16) (h : Vec F S8x512 .f32)
    (v167 v169 v171 v173 v175 v177 : FVec F S8x128 .f32) (v178 v180 : Vec F S8x128 .f32)
    (h167 : v167 = lanes (128 * 0) x2) (h169 : v169 = lanes (128 * 1) x2) (h171 : v171 = lanes (128 * 2) x2) (h173 : v173 = lanes (128 * 3) x2)
    (h175 : v175 = lanes (128 * 0) x3) (h177 : v177 = lanes (128 * 1) x3) (h178 : v178 = lanes (128 * 2) x3) (h180 : v180 = lanes (128 * 3) x3)
    (G : BufTy.Contents (Elt F) arg12.view.ty) (hG : arg12.view.read (Elt F) G = bu x0 x4)
    (init : Vec F S8x128 .f32 × Vec F S8x128 .f32 × Vec F S8x128 .f32 × Vec F S8x128 .f32)
    (hinit : init = (lanes (128 * 0) h, lanes (128 * 1) h, lanes (128 * 2) h, lanes (128 * 3) h)) (k : ℕ) (hk : k ≤ 256) :
    (st_k0_t1 (F := F) Variants.none c none i arg2 harg2 arg3 harg3 arg4 harg4 arg5 harg5 arg6 harg6 arg7 harg7 arg8 harg8 arg9 harg9 arg10 harg10 arg11 harg11 arg12 harg12 v167 v169 v171 v173 v175 v177 v178 v180 G init k).1
        = (hst x0 x2 x3 x4 h k 0, hst x0 x2 x3 x4 h k 1, hst x0 x2 x3 x4 h k 2, hst x0 x2 x3 x4 h k 3)
      ∧ arg12.view.read (Elt F) (arg12.view.writes (Elt F) G (st_k0_t1 (F := F) Variants.none c none i arg2 harg2 arg3 harg3 arg4 harg4 arg5 harg5 arg6 harg6 arg7 harg7 arg8 harg8 arg9 harg9 arg10 harg10 arg11 harg11 arg12 harg12 v167 v169 v171 v173 v175 v177 v178 v180 G init k).2)
        = hist x0 x2 x3 x4 h k := by
  induction k with
  | zero =>
    refine ⟨?_, ?_⟩
    · rw [st_k0_t1_zero, hinit]; rfl
    · rw [hist_zero]; exact hG
  | succ k ih =>
    obtain ⟨ih1, ih2⟩ := ih (by omega)
    have hkt : k < k0_t1_loop.trips := by rw [trips_eq]; omega
    have hk' : k < 256 := by omega
    have hs := st_k0_t1_succ (F := F) Variants.none c none i arg2 harg2 arg3 harg3 arg4 harg4 arg5 harg5 arg6 harg6 arg7 harg7 arg8 harg8 arg9 harg9 arg10 harg10 arg11 harg11 arg12 harg12 v167 v169 v171 v173 v175 v177 v178 v180 G init ⟨k, hkt⟩
    dsimp only at hs
    rw [hs]
    generalize (st_k0_t1 (F := F) Variants.none c none i arg2 harg2 arg3 harg3 arg4 harg4 arg5 harg5 arg6 harg6 arg7 harg7 arg8 harg8 arg9 harg9 arg10 harg10 arg11 harg11 arg12 harg12 v167 v169 v171 v173 v175 v177 v178 v180 G init k) = st at ih1 ih2 ⊢
    clear hs
    dsimp only
    rw [View.writes_append, ih1]
    generalize arg12.view.writes (Elt F) G st.2 = f at ih2 ⊢
    have e0 := Gen.k0_off1_eq ⟨k, hkt⟩
    have e1 := Gen.k0_off2_eq ⟨k, hkt⟩
    have e2 := Gen.k0_off3_eq ⟨k, hkt⟩
    have e3 := Gen.k0_off4_eq ⟨k, hkt⟩
    have s0 := fun inb => (readAt_slab arg12.view f 0 k hk' _ e0 inb).trans ((congrArg (slab · 0 k) ih2).trans (slab_hist x0 x2 x3 x4 h 0 k hk'))
    have s1 := fun inb => (readAt_slab arg12.view f 1 k hk' _ e1 inb).trans ((congrArg (slab · 1 k) ih2).trans (slab_hist x0 x2 x3 x4 h 1 k hk'))
    have s2 := fun inb => (readAt_slab arg12.view f 2 k hk' _ e2 inb).trans ((congrArg (slab · 2 k) ih2).trans (slab_hist x0 x2 x3 x4 h 2 k hk'))
    have s3 := fun inb => (readAt_slab arg12.view f 3 k hk' _ e3 inb).trans ((congrArg (slab · 3 k) ih2).trans (slab_hist x0 x2 x3 x4 h 3 k hk'))
    unfold tripR_k0_t1 tripL_k0_t1 trip_k0_t1
    dsimp only
    simp only [trip_k0_t1.sl.r, trip_k0_t1.sl.r_1, trip_k0_t1.sl.r_2, trip_k0_t1.sl.r_3, trip_k0_t1.sl.v307, trip_k0_t1.sl.v319, trip_k0_t1.sl.v331, s0, s1, s2, s3]
    subst h167 h169 h171 h173 h175 h177 h178 h180
    have sc : ∀ (X : Vec F S8x128 .f32), shapeCast S8x128 X shapeCasts_S8x128_S8x128 = X := fun X => shapeCast_self X _
    have p0 : k0_pay2 (lanes (128 * 0) x2) (lanes (128 * 0) x3) (hst x0 x2 x3 x4 h k 0) (slab (bu x0 x4) 0 k) = hst x0 x2 x3 x4 h (k + 1) 0 := rfl
    have p1 : k0_pay4 (lanes (128 * 1) x2) (lanes (128 * 1) x3) (hst x0 x2 x3 x4 h k 1) (slab (bu x0 x4) 1 k) = hst x0 x2 x3 x4 h (k + 1) 1 := rfl
    have p2 : k0_pay6 (lanes (128 * 2) x2) (k0_pay66 (lanes (128 * 2) x3)) (hst x0 x2 x3 x4 h k 2) (slab (bu x0 x4) 2 k) = hst x0 x2 x3 x4 h (k + 1) 2 := by
      unfold k0_pay66; rw [sc]; rfl
    have p3 : k0_pay67 (lanes (128 * 3) x3) (hst x0 x2 x3 x4 h k 3) (k0_pay8 (lanes (128 * 3) x2) (hst x0 x2 x3 x4 h k 3)) 4#32 (slab (bu x0 x4) 3 k) = hst x0 x2 x3 x4 h (k + 1) 3 := by
      unfold k0_pay67; rw [sc]; rfl
    refine ⟨?_, ?_⟩
    · rw [p0, p1, p2, p3]
    · exact hist_succ x0 x2 x3 x4 h arg12.view f k hk' ih2 _ _ _ _ e0 e1 e2 e3 _ _ _ _ _ _ _ _
        (pay_hst x0 x2 x3 x4 h 0 k _ p0 _) (pay_hst x0 x2 x3 x4 h 1 k _ p1 _) (pay_hst x0 x2 x3 x4 h 2 k _ p2 _)
        (pay_hst x0 x2 x3 x4 h 3 k _ p3 _)

end Cert.KernelIdeal

end
-- ==== Proof.S5.After.lean ====
/-
  The scratch when the loop is done: from the 32 stores of the projections and the loop, whatever it held before.
-/
module

public import proofs.«01_k».proof.Proof.S5.Loop

@[expose] public section

set_option maxRecDepth 16384

noncomputable section

namespace Cert.KernelIdeal

open Idealize.ShloMosaic Idealize.ShloMosaic.TcCoe
open Idealize.SL Idealize.SL.Sem
open Gen

variable {F : FTy → Type} [FloatOps F]

/-- The rows `j`, `j + 8`, … of chunk `q`. -/
def rowsRect (q : Fin 4) (j : Fin 8) : Rect S4x2048x128 :=
  ⟨⟨![q.val, j.val, 0], ![1, 256, 128], ![1, 8, 1], fun a => .inr (by
    have := q.isLt
    have := j.isLt
    match a with
    | 0 => show q.val + 1 * (1 - 1) < 4; omega
    | 1 => show j.val + 8 * (256 - 1) < 2048; omega
    | 2 => show 0 + 1 * (128 - 1) < 128; omega)⟩, fun a => by
    match a with
    | 0 => show 0 < 1; omega
    | 1 => show 0 < 8; omega
    | 2 => show 0 < 1; omega⟩

/-- The 32 stores' rectangles, last first. -/
def rowsRects : List (Rect S4x2048x128) :=
  [rowsRect 3 7, rowsRect 2 7, rowsRect 1 7, rowsRect 0 7, rowsRect 3 6, rowsRect 2 6, rowsRect 1 6, rowsRect 0 6,
   rowsRect 3 5, rowsRect 2 5, rowsRect 1 5, rowsRect 0 5, rowsRect 3 4, rowsRect 2 4, rowsRect 1 4, rowsRect 0 4,
   rowsRect 3 3, rowsRect 2 3, rowsRect 1 3, rowsRect 0 3, rowsRect 3 2, rowsRect 2 2, rowsRect 1 2, rowsRect 0 2,
   rowsRect 3 1, rowsRect 2 1, rowsRect 1 1, rowsRect 0 1, rowsRect 3 0, rowsRect 2 0, rowsRect 1 0, rowsRect 0 0]

theorem rowsRect_mem (q : Fin 4) (j : Fin 8) : rowsRect q j ∈ rowsRects := by
  unfold rowsRects
  fin_cases q <;> fin_cases j <;> simp

/-- They cover the scratch. -/
theorem rowsRects_cover (L : List (View.Piece (Elt F) S4x2048x128 .f32)) (hR : L.map (fun p => p.1) = rowsRects) (y : S4x2048x128.Idx) :
    ∃ p ∈ L, y ∈ p.1.set := by
  have h0 : (y 0).val < 4 := (y 0).isLt
  have h1 : (y 1).val < 2048 := (y 1).isLt
  have h2 : (y 2).val < 128 := (y 2).isLt
  have hm := rowsRect_mem ⟨(y 0).val, h0⟩ ⟨(y 1).val % 8, Nat.mod_lt _ (by decide)⟩
  rw [← hR] at hm
  obtain ⟨p, hp, he⟩ := List.mem_map.1 hm
  refine ⟨p, hp, ?_⟩
  show y ∈ (p.1).toLoadRect.set
  rw [show p.1 = _ from he]
  refine (LoadRect.mem_set _).2 fun a => ?_
  match a with
  | 0 => exact ⟨0, by show 0 < 1; omega, by show (y 0).val = (y 0).val + 1 * 0; omega⟩
  | 1 => exact ⟨(y 1).val / 8, by show (y 1).val / 8 < 256; omega, by show (y 1).val = (y 1).val % 8 + 8 * ((y 1).val / 8); omega⟩
  | 2 => exact ⟨(y 2).val, h2, by show (y 2).val = 0 + 1 * (y 2).val; omega⟩

set_option maxHeartbeats 2000000 in
theorem after_loop (c : Dev nD) (i : grid0.Coords) (arg2 : Memref sig .tc .vmem S1x256x512 .f32) (harg2 : arg2.IsWhole) (arg3 : Memref sig .tc .vmem S1x8x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x128x512 .bf16) (harg6 : arg6.IsWhole) (arg7 : Memref sig .tc .vmem S4x1024x128 .bf16) (harg7 : arg7.IsWhole) (arg8 : Memref sig .tc .vmem S1x512 .f32) (harg8 : arg8.IsWhole) (arg9 : Memref sig .tc .vmem S1x256x512 .f32) (harg9 : arg9.IsWhole) (arg10 : Memref sig .tc .vmem S1x8x512 .f32) (harg10 : arg10.IsWhole) (arg11 : Memref sig .tc .vmem S8x512 .f32) (harg11 : arg11.IsWhole) (arg12 : Memref sig .tc .vmem S4x2048x128 .f32) (harg12 : arg12.IsWhole)
    (x0 : Vec F S1x256x512 .f32) (x2 x3 : Vec F S8x512 .f32) (x4 : Vec F S8x128x512 .bf16) (h : Vec F S8x512 .f32)
    (v167 v169 v171 v173 v175 v177 : FVec F S8x128 .f32) (v178 v180 : Vec F S8x128 .f32) (g : BufTy.Contents (Elt F) arg12.view.ty)
    (L : List (View.Piece (Elt F) S4x2048x128 .f32)) (i0 i1 i2 i3 : Vec F S8x128 .f32) (k : ℕ) (hk : k = 256)
    (h167 : v167 = lanes 0 x2) (h169 : v169 = lanes 128 x2) (h171 : v171 = lanes 256 x2) (h173 : v173 = lanes 384 x2)
    (h175 : v175 = lanes 0 x3) (h177 : v177 = lanes 128 x3) (h178 : v178 = lanes 256 x3) (h180 : v180 = lanes 384 x3)
    (hi0 : i0 = lanes 0 h) (hi1 : i1 = lanes 128 h) (hi2 : i2 = lanes 256 h) (hi3 : i3 = lanes 384 h)
    (hL : View.PiecesOf (bu x0 x4) L) (hR : L.map (fun p => p.1) = rowsRects) :
    (st_k0_t1 (F := F) Variants.none c none i arg2 harg2 arg3 harg3 arg4 harg4 arg5 harg5 arg6 harg6 arg7 harg7 arg8 harg8 arg9 harg9 arg10 harg10 arg11 harg11 arg12 harg12 v167 v169 v171 v173 v175 v177 v178 v180 (arg12.view.writes (Elt F) g L) (i0, i1, i2, i3) k).1
        = (hst x0 x2 x3 x4 h 256 0, hst x0 x2 x3 x4 h 256 1, hst x0 x2 x3 x4 h 256 2, hst x0 x2 x3 x4 h 256 3)
      ∧ arg12.view.read (Elt F) (arg12.view.writes (Elt F) g ((st_k0_t1 (F := F) Variants.none c none i arg2 harg2 arg3 harg3 arg4 harg4 arg5 harg5 arg6 harg6 arg7 harg7 arg8 harg8 arg9 harg9 arg10 harg10 arg11 harg11 arg12 harg12 v167 v169 v171 v173 v175 v177 v178 v180 (arg12.view.writes (Elt F) g L) (i0, i1, i2, i3) k).2 ++ L))
        = hist x0 x2 x3 x4 h 256 := by
  subst hk
  rw [View.writes_append]
  refine loop_state c i arg2 harg2 arg3 harg3 arg4 harg4 arg5 harg5 arg6 harg6 arg7 harg7 arg8 harg8 arg9 harg9 arg10 harg10 arg11 harg11 arg12 harg12 x0 x2 x3 x4 h
    v167 v169 v171 v173 v175 v177 v178 v180 h167 h169 h171 h173 h175 h177 h178 h180 _ ?_ (i0, i1, i2, i3) ?_ 256 le_rfl
  · have hc := rowsRects_cover L hR
    rw [View.read_writes_eq_canon _ _ _ hc]
    exact funext fun y => View.canon_apply_of_pieces _ L hL.mem y (hc y)
  · rw [hi0, hi1, hi2, hi3]

/-- The 32 stores of the projections, last first. -/
def projPieces (x0 : Vec F S1x256x512 .f32) (x4 : Vec F S8x128x512 .bf16) : List (View.Piece (Elt F) S4x2048x128 .f32) :=
    [⟨⟨⟨![3, 7, 0], ![1, 256, 128], ![1, 8, 1], inb_S4x2048x128_S1x256x128_3_7_0_s_1_8_1⟩, spos_1_8_1⟩, k0_pay59 (k0_pay53 (k0_pay11 x0)) (k0_pay54 (wbSlab x4 7))⟩,
     ⟨⟨⟨![2, 7, 0], ![1, 256, 128], ![1, 8, 1], inb_S4x2048x128_S1x256x128_2_7_0_s_1_8_1⟩, spos_1_8_1⟩, k0_pay58 (k0_pay53 (k0_pay11 x0)) (k0_pay54 (wbSlab x4 7))⟩,
     ⟨⟨⟨![1, 7, 0], ![1, 256, 128], ![1, 8, 1], inb_S4x2048x128_S1x256x128_1_7_0_s_1_8_1⟩, spos_1_8_1⟩, k0_pay57 (k0_pay53 (k0_pay11 x0)) (k0_pay54 (wbSlab x4 7))⟩,
     ⟨⟨⟨![0, 7, 0], ![1, 256, 128], ![1, 8, 1], inb_S4x2048x128_S1x256x128_0_7_0_s_1_8_1⟩, spos_1_8_1⟩, k0_pay56 (k0_pay53 (k0_pay11 x0)) (k0_pay54 (wbSlab x4 7))⟩,
     ⟨⟨⟨![3, 6, 0], ![1, 256, 128], ![1, 8, 1], inb_S4x2048x128_S1x256x128_3_6_0_s_1_8_1⟩, spos_1_8_1⟩, k0_pay52 (k0_pay11 x0) (wbSlab x4 6)⟩,
     ⟨⟨⟨![2, 6, 0], ![1, 256, 128], ![1, 8, 1], inb_S4x2048x128_S1x256x128_2_6_0_s_1_8_1⟩, spos_1_8_1⟩, k0_pay51 (k0_pay11 x0) (wbSlab x4 6)⟩,
     ⟨⟨⟨![1, 6, 0], ![1, 256, 128], ![1, 8, 1], inb_S4x2048x128_S1x256x128_1_6_0_s_1_8_1⟩, spos_1_8_1⟩, k0_pay50 (k0_pay11 x0) (wbSlab x4 6)⟩,
     ⟨⟨⟨![0, 6, 0], ![1, 256, 128], ![1, 8, 1], inb_S4x2048x128_S1x256x128_0_6_0_s_1_8_1⟩, spos_1_8_1⟩, k0_pay49 (k0_pay11 x0) (wbSlab x4 6)⟩,
     ⟨⟨⟨![3, 5, 0], ![1, 256, 128], ![1, 8, 1], inb_S4x2048x128_S1x256x128_3_5_0_s_1_8_1⟩, spos_1_8_1⟩, k0_pay47 (k0_pay42 (k0_pay11 x0) (wbSlab x4 5))⟩,
     ⟨⟨⟨![2, 5, 0], ![1, 256, 128], ![1, 8, 1], inb_S4x2048x128_S1x256x128_2_5_0_s_1_8_1⟩, spos_1_8_1⟩, k0_pay46 (k0_pay45 (k0_pay11 x0) (wbSlab x4 5))⟩,
     ⟨⟨⟨![1, 5, 0], ![1, 256, 128], ![1, 8, 1], inb_S4x2048x128_S1x256x128_1_5_0_s_1_8_1⟩, spos_1_8_1⟩, k0_pay44 (k0_pay11 x0) (wbSlab x4 5)⟩,
     ⟨⟨⟨![0, 5, 0], ![1, 256, 128], ![1, 8, 1], inb_S4x2048x128_S1x256x128_0_5_0_s_1_8_1⟩, spos_1_8_1⟩, k0_pay43 (k0_pay11 x0) (wbSlab x4 5)⟩,
     ⟨⟨⟨![3, 4, 0], ![1, 256, 128], ![1, 8, 1], inb_S4x2048x128_S1x256x128_3_4_0_s_1_8_1⟩, spos_1_8_1⟩, k0_pay41 (k0_pay35 (k0_pay11 x0)) (k0_pay36 (wbSlab x4 4))⟩,
     ⟨⟨⟨![2, 4, 0], ![1, 256, 128], ![1, 8, 1], inb_S4x2048x128_S1x256x128_2_4_0_s_1_8_1⟩, spos_1_8_1⟩, k0_pay40 (k0_pay35 (k0_pay11 x0)) (k0_pay36 (wbSlab x4 4))⟩,
     ⟨⟨⟨![1, 4, 0], ![1, 256, 128], ![1, 8, 1], inb_S4x2048x128_S1x256x128_1_4_0_s_1_8_1⟩, spos_1_8_1⟩, k0_pay39 (k0_pay35 (k0_pay11 x0)) (k0_pay36 (wbSlab x4 4))⟩,
     ⟨⟨⟨![0, 4, 0], ![1, 256, 128], ![1, 8, 1], inb_S4x2048x128_S1x256x128_0_4_0_s_1_8_1⟩, spos_1_8_1⟩, k0_pay38 (k0_pay35 (k0_pay11 x0)) (k0_pay36 (wbSlab x4 4))⟩,
     ⟨⟨⟨![3, 3, 0], ![1, 256, 128], ![1, 8, 1], inb_S4x2048x128_S1x256x128_3_3_0_s_1_8_1⟩, spos_1_8_1⟩, k0_pay34 (k0_pay11 x0) (wbSlab x4 3)⟩,
     ⟨⟨⟨![2, 3, 0], ![1, 256, 128], ![1, 8, 1], inb_S4x2048x128_S1x256x128_2_3_0_s_1_8_1⟩, spos_1_8_1⟩, k0_pay33 (k0_pay11 x0) (wbSlab x4 3)⟩,
     ⟨⟨⟨![1, 3, 0], ![1, 256, 128], ![1, 8, 1], inb_S4x2048x128_S1x256x128_1_3_0_s_1_8_1⟩, spos_1_8_1⟩, k0_pay32 (k0_pay11 x0) (wbSlab x4 3)⟩,
     ⟨⟨⟨![0, 3, 0], ![1, 256, 128], ![1, 8, 1], inb_S4x2048x128_S1x256x128_0_3_0_s_1_8_1⟩, spos_1_8_1⟩, k0_pay31 (k0_pay11 x0) (wbSlab x4 3)⟩,
     ⟨⟨⟨![3, 2, 0], ![1, 256, 128], ![1, 8, 1], inb_S4x2048x128_S1x256x128_3_2_0_s_1_8_1⟩, spos_1_8_1⟩, k0_pay29 (k0_pay24 (k0_pay11 x0) (wbSlab x4 2))⟩,
     ⟨⟨⟨![2, 2, 0], ![1, 256, 128], ![1, 8, 1], inb_S4x2048x128_S1x256x128_2_2_0_s_1_8_1⟩, spos_1_8_1⟩, k0_pay28 (k0_pay27 (k0_pay11 x0) (wbSlab x4 2))⟩,
     ⟨⟨⟨![1, 2, 0], ![1, 256, 128], ![1, 8, 1], inb_S4x2048x128_S1x256x128_1_2_0_s_1_8_1⟩, spos_1_8_1⟩, k0_pay26 (k0_pay11 x0) (wbSlab x4 2)⟩,
     ⟨⟨⟨![0, 2, 0], ![1, 256, 128], ![1, 8, 1], inb_S4x2048x128_S1x256x128_0_2_0_s_1_8_1⟩, spos_1_8_1⟩, k0_pay25 (k0_pay11 x0) (wbSlab x4 2)⟩,
     ⟨⟨⟨![3, 1, 0], ![1, 256, 128], ![1, 8, 1], inb_S4x2048x128_S1x256x128_3_1_0_s_1_8_1⟩, spos_1_8_1⟩, k0_pay23 (k0_pay17 x0) (k0_pay18 (wbSlab x4 1))⟩,
     ⟨⟨⟨![2, 1, 0], ![1, 256, 128], ![1, 8, 1], inb_S4x2048x128_S1x256x128_2_1_0_s_1_8_1⟩, spos_1_8_1⟩, k0_pay22 (k0_pay17 x0) (k0_pay18 (wbSlab x4 1))⟩,
     ⟨⟨⟨![1, 1, 0], ![1, 256, 128], ![1, 8, 1], inb_S4x2048x128_S1x256x128_1_1_0_s_1_8_1⟩, spos_1_8_1⟩, k0_pay21 (k0_pay17 x0) (k0_pay18 (wbSlab x4 1))⟩,
     ⟨⟨⟨![0, 1, 0], ![1, 256, 128], ![1, 8, 1], inb_S4x2048x128_S1x256x128_0_1_0_s_1_8_1⟩, spos_1_8_1⟩, k0_pay20 (k0_pay17 x0) (k0_pay18 (wbSlab x4 1))⟩,
     ⟨⟨⟨![3, 0, 0], ![1, 256, 128], ![1, 8, 1], inb_S4x2048x128_S1x256x128_3_0_0_s_1_8_1⟩, spos_1_8_1⟩, k0_pay16 x0 (wbSlab x4 0)⟩,
     ⟨⟨⟨![2, 0, 0], ![1, 256, 128], ![1, 8, 1], inb_S4x2048x128_S1x256x128_2_0_0_s_1_8_1⟩, spos_1_8_1⟩, k0_pay15 x0 (wbSlab x4 0)⟩,
     ⟨⟨⟨![1, 0, 0], ![1, 256, 128], ![1, 8, 1], inb_S4x2048x128_S1x256x128_1_0_0_s_1_8_1⟩, spos_1_8_1⟩, k0_pay14 x0 (wbSlab x4 0)⟩,
     ⟨⟨⟨![0, 0, 0], ![1, 256, 128], ![1, 8, 1], inb_S4x2048x128_S1x256x128_0_0_0_s_1_8_1⟩, spos_1_8_1⟩, k0_pay13 x0 (wbSlab x4 0)⟩]

set_option maxHeartbeats 2000000 in
theorem projPieces_bu (x0 : Vec F S1x256x512 .f32) (x4 : Vec F S8x128x512 .bf16) : View.PiecesOf (bu x0 x4) (projPieces x0 x4) := by
  refine ⟨fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, trivial⟩
  · exact piece_bu x0 x4 3 7 384 (by decide) _ rfl rfl slices_S256x512_o0_384_S256x128 shapeCasts_S256x128_S1x256x128 _ spos_1_8_1 y
  · exact piece_bu x0 x4 2 7 256 (by decide) _ rfl rfl slices_S256x512_o0_256_S256x128 shapeCasts_S256x128_S1x256x128 _ spos_1_8_1 y
  · exact piece_bu x0 x4 1 7 128 (by decide) _ rfl rfl slices_S256x512_o0_128_S256x128 shapeCasts_S256x128_S1x256x128 _ spos_1_8_1 y
  · exact piece_bu x0 x4 0 7 0 (by decide) _ rfl rfl slices_S256x512_o0_0_S256x128 shapeCasts_S256x128_S1x256x128 _ spos_1_8_1 y
  · exact piece_bu x0 x4 3 6 384 (by decide) _ rfl rfl slices_S256x512_o0_384_S256x128 shapeCasts_S256x128_S1x256x128 _ spos_1_8_1 y
  · exact piece_bu x0 x4 2 6 256 (by decide) _ rfl rfl slices_S256x512_o0_256_S256x128 shapeCasts_S256x128_S1x256x128 _ spos_1_8_1 y
  · exact piece_bu x0 x4 1 6 128 (by decide) _ rfl rfl slices_S256x512_o0_128_S256x128 shapeCasts_S256x128_S1x256x128 _ spos_1_8_1 y
  · exact piece_bu x0 x4 0 6 0 (by decide) _ rfl rfl slices_S256x512_o0_0_S256x128 shapeCasts_S256x128_S1x256x128 _ spos_1_8_1 y
  · exact piece_bu x0 x4 3 5 384 (by decide) _ rfl rfl slices_S256x512_o0_384_S256x128 shapeCasts_S256x128_S1x256x128 _ spos_1_8_1 y
  · exact piece_bu x0 x4 2 5 256 (by decide) _ rfl rfl slices_S256x512_o0_256_S256x128 shapeCasts_S256x128_S1x256x128 _ spos_1_8_1 y
  · exact piece_bu x0 x4 1 5 128 (by decide) _ rfl rfl slices_S256x512_o0_128_S256x128 shapeCasts_S256x128_S1x256x128 _ spos_1_8_1 y
  · exact piece_bu x0 x4 0 5 0 (by decide) _ rfl rfl slices_S256x512_o0_0_S256x128 shapeCasts_S256x128_S1x256x128 _ spos_1_8_1 y
  · exact piece_bu x0 x4 3 4 384 (by decide) _ rfl rfl slices_S256x512_o0_384_S256x128 shapeCasts_S256x128_S1x256x128 _ spos_1_8_1 y
  · exact piece_bu x0 x4 2 4 256 (by decide) _ rfl rfl slices_S256x512_o0_256_S256x128 shapeCasts_S256x128_S1x256x128 _ spos_1_8_1 y
  · exact piece_bu x0 x4 1 4 128 (by decide) _ rfl rfl slices_S256x512_o0_128_S256x128 shapeCasts_S256x128_S1x256x128 _ spos_1_8_1 y
  · exact piece_bu x0 x4 0 4 0 (by decide) _ rfl rfl slices_S256x512_o0_0_S256x128 shapeCasts_S256x128_S1x256x128 _ spos_1_8_1 y
  · exact piece_bu x0 x4 3 3 384 (by decide) _ rfl rfl slices_S256x512_o0_384_S256x128 shapeCasts_S256x128_S1x256x128 _ spos_1_8_1 y
  · exact piece_bu x0 x4 2 3 256 (by decide) _ rfl rfl slices_S256x512_o0_256_S256x128 shapeCasts_S256x128_S1x256x128 _ spos_1_8_1 y
  · exact piece_bu x0 x4 1 3 128 (by decide) _ rfl rfl slices_S256x512_o0_128_S256x128 shapeCasts_S256x128_S1x256x128 _ spos_1_8_1 y
  · exact piece_bu x0 x4 0 3 0 (by decide) _ rfl rfl slices_S256x512_o0_0_S256x128 shapeCasts_S256x128_S1x256x128 _ spos_1_8_1 y
  · exact piece_bu x0 x4 3 2 384 (by decide) _ rfl rfl slices_S256x512_o0_384_S256x128 shapeCasts_S256x128_S1x256x128 _ spos_1_8_1 y
  · exact piece_bu x0 x4 2 2 256 (by decide) _ rfl rfl slices_S256x512_o0_256_S256x128 shapeCasts_S256x128_S1x256x128 _ spos_1_8_1 y
  · exact piece_bu x0 x4 1 2 128 (by decide) _ rfl rfl slices_S256x512_o0_128_S256x128 shapeCasts_S256x128_S1x256x128 _ spos_1_8_1 y
  · exact piece_bu x0 x4 0 2 0 (by decide) _ rfl rfl slices_S256x512_o0_0_S256x128 shapeCasts_S256x128_S1x256x128 _ spos_1_8_1 y
  · exact piece_bu x0 x4 3 1 384 (by decide) _ rfl rfl slices_S256x512_o0_384_S256x128 shapeCasts_S256x128_S1x256x128 _ spos_1_8_1 y
  · exact piece_bu x0 x4 2 1 256 (by decide) _ rfl rfl slices_S256x512_o0_256_S256x128 shapeCasts_S256x128_S1x256x128 _ spos_1_8_1 y
  · exact piece_bu x0 x4 1 1 128 (by decide) _ rfl rfl slices_S256x512_o0_128_S256x128 shapeCasts_S256x128_S1x256x128 _ spos_1_8_1 y
  · exact piece_bu x0 x4 0 1 0 (by decide) _ rfl rfl slices_S256x512_o0_0_S256x128 shapeCasts_S256x128_S1x256x128 _ spos_1_8_1 y
  · exact piece_bu x0 x4 3 0 384 (by decide) _ rfl rfl slices_S256x512_o0_384_S256x128 shapeCasts_S256x128_S1x256x128 _ spos_1_8_1 y
  · exact piece_bu x0 x4 2 0 256 (by decide) _ rfl rfl slices_S256x512_o0_256_S256x128 shapeCasts_S256x128_S1x256x128 _ spos_1_8_1 y
  · exact piece_bu x0 x4 1 0 128 (by decide) _ rfl rfl slices_S256x512_o0_128_S256x128 shapeCasts_S256x128_S1x256x128 _ spos_1_8_1 y
  · exact piece_bu x0 x4 0 0 0 (by decide) _ rfl rfl slices_S256x512_o0_0_S256x128 shapeCasts_S256x128_S1x256x128 _ spos_1_8_1 y

/-- The point is the first of its sequence, as the kernel tests it. -/
abbrev isFirst (i : grid0.Coords) : Prop :=
  (Scalar.cmpi .ne (Scalar.extui (Scalar.cmpi .eq (BitVec.ofNat 32 (i 1).val) 0#32)) 0#32) = 1#1

/-- The initial state, read back chunk by chunk after it was stored. -/
theorem cov_lanes {sp : Space} (v : View sig .tc sp S8x512 .f32) (Z : Vec F S8x512 .f32) (L : List (View.Piece (Elt F) S8x512 .f32)) (o : ℕ)
    (inb : ∀ a, (![0, 0] : Fin 2 → ℕ) a + (![8, 512] : Fin 2 → ℕ) a ≤ S8x512.size a)
    (inb' : ∀ a, (![0, o] : Fin 2 → ℕ) a + (![8, 128] : Fin 2 → ℕ) a ≤ S8x512.size a) :
    v.readCov ((⟨Rect.unit (s := S8x512) ![0, 0] ![8, 512] inb, Z⟩ : View.Piece (Elt F) S8x512 .f32) :: L)
      (Rect.unit (s := S8x512) ![0, o] ![8, 128] inb').toLoadRect = lanes o Z :=
  (View.readCov_fill v (off := ![0, 0]) inb Z L (Rect.unit (s := S8x512) ![0, o] ![8, 128] inb') (by decide)).trans (ld_lanes o Z inb')

theorem ld_u (X : Vec F S1x256x512 .f32) (inb : ∀ a, (![0, 0, 0] : Fin 3 → ℕ) a + (![1, 256, 512] : Fin 3 → ℕ) a ≤ S1x256x512.size a) :
    View.ld X (Rect.unit (s := S1x256x512) ![0, 0, 0] ![1, 256, 512] inb) = X :=
  View.ld_unit_zero (S := S1x256x512) (off := ![0, 0, 0]) (by decide) inb X

theorem ld_h0 (X : Vec F S1x8x512 .f32) (inb : ∀ a, (![0, 0, 0] : Fin 3 → ℕ) a + (![1, 8, 512] : Fin 3 → ℕ) a ≤ S1x8x512.size a) :
    View.ld X (Rect.unit (s := S1x8x512) ![0, 0, 0] ![1, 8, 512] inb) = X :=
  View.ld_unit_zero (S := S1x8x512) (off := ![0, 0, 0]) (by decide) inb X

theorem ld_d (X : Vec F S1x512 .f32) (inb : ∀ a, (![0, 0] : Fin 2 → ℕ) a + (![1, 512] : Fin 2 → ℕ) a ≤ S1x512.size a) :
    View.ld X (Rect.unit (s := S1x512) ![0, 0] ![1, 512] inb) = X :=
  View.ld_unit_zero (S := S1x512) (off := ![0, 0]) (by decide) inb X

end Cert.KernelIdeal

end
-- ==== Proof.S5.RunA.lean ====
/-
  One grid point of the kernel, run from what it finds: the first point of a sequence, which takes the initial state from its window.
-/
module

public import proofs.«01_k».proof.Proof.S5.After
public import proofs.«01_k».proof.Proof.Gen.KernelIdeal.Frame

@[expose] public section

set_option maxRecDepth 16384
set_option pp.maxSteps 60

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]
local notation "𝕄" => MT nD τ sig Unit (Elt F) ℕ (UR sig nD τ) ℕ

set_option maxHeartbeats 8000000 in
theorem run_A (c : Dev nD) (i : grid0.Coords) (arg2 : Memref sig .tc .vmem S1x256x512 .f32) (harg2 : arg2.IsWhole) (arg3 : Memref sig .tc .vmem S1x8x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x128x512 .bf16) (harg6 : arg6.IsWhole) (arg7 : Memref sig .tc .vmem S4x1024x128 .bf16) (harg7 : arg7.IsWhole) (arg8 : Memref sig .tc .vmem S1x512 .f32) (harg8 : arg8.IsWhole) (arg9 : Memref sig .tc .vmem S1x256x512 .f32) (harg9 : arg9.IsWhole) (arg10 : Memref sig .tc .vmem S1x8x512 .f32) (harg10 : arg10.IsWhole) (arg11 : Memref sig .tc .vmem S8x512 .f32) (harg11 : arg11.IsWhole) (arg12 : Memref sig .tc .vmem S4x2048x128 .f32) (harg12 : arg12.IsWhole) (hc0 : isFirst i)
    (x0 : Vec F S1x256x512 .f32) (x1 : Vec F S1x8x512 .f32) (x2 x3 : Vec F S8x512 .f32) (x4 : Vec F S8x128x512 .bf16) (x5 : Vec F S4x1024x128 .bf16) (x6 : Vec F S1x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (yOut x0 (hist x0 x2 x3 x4 (k0_pay9 x1) 256) x5 x6) ∗ owns (c : Thread nD τ) arg10 fullShare (hTile x0 x2 x3 x4 (k0_pay9 x1)) ∗ owns (c : Thread nD τ) arg11 fullShare (hOut x0 x2 x3 x4 (k0_pay9 x1)) ∗ (∃ d, owns (c : Thread nD τ) arg12 fullShare d)) -∗ K ⟨⟩))
      ⊢ wp frame (wpE (defs₀ (F := F)) Variants.none c none) E (cc0__s5_kernel i arg2 harg2 arg3 harg3 arg4 harg4 arg5 harg5 arg6 harg6 arg7 harg7 arg8 harg8 arg9 harg9 arg10 harg10 arg11 harg11 arg12 harg12) K := by
  simp only [cc0__s5_kernel_eq_skeleton]; unfold cc0__s5_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap
    · iexact H7
    · skip
      ipureintro
      rw [View.read_writes_full]
      repeat delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11 run_A.sl.r_12 run_A.sl.r_13 run_A.sl.r_14 run_A.sl.r_15 run_A.sl.r_16 run_A.sl.r_17 run_A.sl.r_18 run_A.sl.r_19 run_A.sl.r_20 run_A.sl.r_21 run_A.sl.r_22 run_A.sl.r_23 run_A.sl.r_24 run_A.sl.r_25 run_A.sl.r_26 run_A.sl.r_27 run_A.sl.r_28 run_A.sl.r_29 run_A.sl.r_30 run_A.sl.r_31 run_A.sl.r_32 run_A.sl.v0 run_A.sl.v1 run_A.sl.v2 run_A.sl.v195 run_A.sl.v197 run_A.sl.v199 run_A.sl.v201 run_A.sl.v203 run_A.sl.v205 run_A.sl.v207 run_A.sl.v209 run_A.sl.v216 run_A.sl.v218 run_A.sl.v220 run_A.sl.v222 run_A.sl.v224 run_A.sl.v226 run_A.sl.v228 run_A.sl.v230 run_A.sl.v237 run_A.sl.v239 run_A.sl.v241 run_A.sl.v243 run_A.sl.v245 run_A.sl.v247 run_A.sl.v249 run_A.sl.v251 run_A.sl.v258 run_A.sl.v260 run_A.sl.v262 run_A.sl.v264 run_A.sl.v266 run_A.sl.v268 run_A.sl.v270 run_A.sl.v272 run_A.sl.v182 run_A.sl.v183 run_A.sl.v184 run_A.sl.v185 run_A.sl.HS0_1
      simp only [readAt_tile]
      simp only [cov_lanes]
      simp only [View.readAt_eq_ld, harg2.read_unread, harg3.read_unread, harg4.read_unread, harg5.read_unread, harg6.read_unread, harg7.read_unread, harg8.read_unread, harg11.read_unread, ld_lanes, ld_wbSlab, ld_wcSlab, ld_u, ld_h0, ld_d]
      rw [(after_loop c i arg2 harg2 arg3 harg3 arg4 harg4 arg5 harg5 arg6 harg6 arg7 harg7 arg8 harg8 arg9 harg9 arg10 harg10 arg11 harg11 arg12 harg12 x0 x2 x3 x4 (k0_pay9 x1) _ _ _ _ _ _ _ _ fs1 _ _ _ _ _ _ ?_ ?_ ?_ ?_ ?_ ?_ ?_ ?_ ?_ ?_ ?_ ?_ ?_ ?_ ?_).2]
      · rfl
      · exact trips_eq
      iterate 6 exact shapeCast_self _ _
      iterate 6 rfl
      · exact projPieces_bu x0 x4
      · rfl
  isplitl [H8]
  · iexists _; isplitr; swap
    · iexact H8
    · skip
      ipureintro
      rw [View.read_writes_full]
      repeat delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11 run_A.sl.r_12 run_A.sl.r_13 run_A.sl.r_14 run_A.sl.r_15 run_A.sl.r_16 run_A.sl.r_17 run_A.sl.r_18 run_A.sl.r_19 run_A.sl.r_20 run_A.sl.r_21 run_A.sl.r_22 run_A.sl.r_23 run_A.sl.r_24 run_A.sl.r_25 run_A.sl.r_26 run_A.sl.r_27 run_A.sl.r_28 run_A.sl.r_29 run_A.sl.r_30 run_A.sl.r_31 run_A.sl.r_32 run_A.sl.v0 run_A.sl.v1 run_A.sl.v2 run_A.sl.v195 run_A.sl.v197 run_A.sl.v199 run_A.sl.v201 run_A.sl.v203 run_A.sl.v205 run_A.sl.v207 run_A.sl.v209 run_A.sl.v216 run_A.sl.v218 run_A.sl.v220 run_A.sl.v222 run_A.sl.v224 run_A.sl.v226 run_A.sl.v228 run_A.sl.v230 run_A.sl.v237 run_A.sl.v239 run_A.sl.v241 run_A.sl.v243 run_A.sl.v245 run_A.sl.v247 run_A.sl.v249 run_A.sl.v251 run_A.sl.v258 run_A.sl.v260 run_A.sl.v262 run_A.sl.v264 run_A.sl.v266 run_A.sl.v268 run_A.sl.v270 run_A.sl.v272 run_A.sl.v182 run_A.sl.v183 run_A.sl.v184 run_A.sl.v185 run_A.sl.HS0_1
      simp only [cov_lanes]
      simp only [View.readAt_eq_ld, harg2.read_unread, harg3.read_unread, harg4.read_unread, harg5.read_unread, harg6.read_unread, harg7.read_unread, harg8.read_unread, harg11.read_unread, ld_lanes, ld_wbSlab, ld_wcSlab, ld_u, ld_h0, ld_d]
      refine (congrArg (fun p : Vec F S8x128 .f32 × Vec F S8x128 .f32 × Vec F S8x128 .f32 × Vec F S8x128 .f32 => k0_pay71 p.1 p.2.1 p.2.2.1 p.2.2.2) (after_loop c i arg2 harg2 arg3 harg3 arg4 harg4 arg5 harg5 arg6 harg6 arg7 harg7 arg8 harg8 arg9 harg9 arg10 harg10 arg11 harg11 arg12 harg12 x0 x2 x3 x4 (k0_pay9 x1) _ _ _ _ _ _ _ _ fs1 _ _ _ _ _ _ ?_ ?_ ?_ ?_ ?_ ?_ ?_ ?_ ?_ ?_ ?_ ?_ ?_ ?_ ?_).1).trans ?_
      · exact trips_eq
      iterate 6 exact shapeCast_self _ _
      iterate 6 rfl
      · exact projPieces_bu x0 x4
      · rfl
      · rfl
  isplitl [HS0]
  · iexists _; isplitr; swap
    · iexact HS0
    · skip
      ipureintro
      rw [View.read_writes_full]
      repeat delta run_A.sl.r run_A.sl.r_1 run_A.sl.r_2 run_A.sl.r_3 run_A.sl.r_4 run_A.sl.r_5 run_A.sl.r_6 run_A.sl.r_7 run_A.sl.r_8 run_A.sl.r_9 run_A.sl.r_10 run_A.sl.r_11 run_A.sl.r_12 run_A.sl.r_13 run_A.sl.r_14 run_A.sl.r_15 run_A.sl.r_16 run_A.sl.r_17 run_A.sl.r_18 run_A.sl.r_19 run_A.sl.r_20 run_A.sl.r_21 run_A.sl.r_22 run_A.sl.r_23 run_A.sl.r_24 run_A.sl.r_25 run_A.sl.r_26 run_A.sl.r_27 run_A.sl.r_28 run_A.sl.r_29 run_A.sl.r_30 run_A.sl.r_31 run_A.sl.r_32 run_A.sl.v0 run_A.sl.v1 run_A.sl.v2 run_A.sl.v195 run_A.sl.v197 run_A.sl.v199 run_A.sl.v201 run_A.sl.v203 run_A.sl.v205 run_A.sl.v207 run_A.sl.v209 run_A.sl.v216 run_A.sl.v218 run_A.sl.v220 run_A.sl.v222 run_A.sl.v224 run_A.sl.v226 run_A.sl.v228 run_A.sl.v230 run_A.sl.v237 run_A.sl.v239 run_A.sl.v241 run_A.sl.v243 run_A.sl.v245 run_A.sl.v247 run_A.sl.v249 run_A.sl.v251 run_A.sl.v258 run_A.sl.v260 run_A.sl.v262 run_A.sl.v264 run_A.sl.v266 run_A.sl.v268 run_A.sl.v270 run_A.sl.v272 run_A.sl.v182 run_A.sl.v183 run_A.sl.v184 run_A.sl.v185 run_A.sl.HS0_1
      simp only [cov_lanes]
      simp only [View.readAt_eq_ld, harg2.read_unread, harg3.read_unread, harg4.read_unread, harg5.read_unread, harg6.read_unread, harg7.read_unread, harg8.read_unread, harg11.read_unread, ld_lanes, ld_wbSlab, ld_wcSlab, ld_u, ld_h0, ld_d]
      refine (congrArg (fun p : Vec F S8x128 .f32 × Vec F S8x128 .f32 × Vec F S8x128 .f32 × Vec F S8x128 .f32 => k0_pay70 p.1 p.2.1 p.2.2.1 p.2.2.2) (after_loop c i arg2 harg2 arg3 harg3 arg4 harg4 arg5 harg5 arg6 harg6 arg7 harg7 arg8 harg8 arg9 harg9 arg10 harg10 arg11 harg11 arg12 harg12 x0 x2 x3 x4 (k0_pay9 x1) _ _ _ _ _ _ _ _ fs1 _ _ _ _ _ _ ?_ ?_ ?_ ?_ ?_ ?_ ?_ ?_ ?_ ?_ ?_ ?_ ?_ ?_ ?_).1).trans ?_
      · exact trips_eq
      iterate 6 exact shapeCast_self _ _
      iterate 6 rfl
      · exact projPieces_bu x0 x4
      · rfl
      · exact shapeCast_self _ _
  iexists _, _; isplitr; swap
  · iexact HS1
  · ipureintro; rfl

end Cert.KernelIdeal

end
-- ==== Proof.S5.RunB.lean ====
/-
  One grid point of the kernel, run from what it finds: a later point of a sequence, which continues from the state the scratch holds.
-/
module

public import proofs.«01_k».proof.Proof.S5.After
public import proofs.«01_k».proof.Proof.Gen.KernelIdeal.Frame

@[expose] public section

set_option maxRecDepth 16384
set_option pp.maxSteps 60

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]
local notation "𝕄" => MT nD τ sig Unit (Elt F) ℕ (UR sig nD τ) ℕ

set_option maxHeartbeats 8000000 in
theorem run_B (c : Dev nD) (i : grid0.Coords) (arg2 : Memref sig .tc .vmem S1x256x512 .f32) (harg2 : arg2.IsWhole) (arg3 : Memref sig .tc .vmem S1x8x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x128x512 .bf16) (harg6 : arg6.IsWhole) (arg7 : Memref sig .tc .vmem S4x1024x128 .bf16) (harg7 : arg7.IsWhole) (arg8 : Memref sig .tc .vmem S1x512 .f32) (harg8 : arg8.IsWhole) (arg9 : Memref sig .tc .vmem S1x256x512 .f32) (harg9 : arg9.IsWhole) (arg10 : Memref sig .tc .vmem S1x8x512 .f32) (harg10 : arg10.IsWhole) (arg11 : Memref sig .tc .vmem S8x512 .f32) (harg11 : arg11.IsWhole) (arg12 : Memref sig .tc .vmem S4x2048x128 .f32) (harg12 : arg12.IsWhole) (hc0 : ¬ isFirst i)
    (x0 : Vec F S1x256x512 .f32) (x1 : Vec F S1x8x512 .f32) (x2 x3 : Vec F S8x512 .f32) (x4 : Vec F S8x128x512 .bf16) (x5 : Vec F S4x1024x128 .bf16) (x6 : Vec F S1x512 .f32) (h : Vec F S8x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare h ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (yOut x0 (hist x0 x2 x3 x4 h 256) x5 x6) ∗ owns (c : Thread nD τ) arg10 fullShare (hTile x0 x2 x3 x4 h) ∗ owns (c : Thread nD τ) arg11 fullShare (hOut x0 x2 x3 x4 h) ∗ (∃ d, owns (c : Thread nD τ) arg12 fullShare d)) -∗ K ⟨⟩))
      ⊢ wp frame (wpE (defs₀ (F := F)) Variants.none c none) E (cc0__s5_kernel i arg2 harg2 arg3 harg3 arg4 harg4 arg5 harg5 arg6 harg6 arg7 harg7 arg8 harg8 arg9 harg9 arg10 harg10 arg11 harg11 arg12 harg12) K := by
  simp only [cc0__s5_kernel_eq_skeleton]; unfold cc0__s5_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hs0, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hs0
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap
    · iexact H7
    · skip
      ipureintro
      rw [View.read_writes_full]
      repeat delta run_B.sl.r run_B.sl.r_1 run_B.sl.r_2 run_B.sl.r_3 run_B.sl.r_4 run_B.sl.r_5 run_B.sl.r_6 run_B.sl.r_7 run_B.sl.r_8 run_B.sl.r_9 run_B.sl.r_10 run_B.sl.r_11 run_B.sl.r_12 run_B.sl.r_13 run_B.sl.r_14 run_B.sl.r_15 run_B.sl.r_16 run_B.sl.r_17 run_B.sl.r_18 run_B.sl.r_19 run_B.sl.r_20 run_B.sl.r_21 run_B.sl.r_22 run_B.sl.r_23 run_B.sl.r_24 run_B.sl.r_25 run_B.sl.r_26 run_B.sl.r_27 run_B.sl.r_28 run_B.sl.r_29 run_B.sl.r_30 run_B.sl.r_31 run_B.sl.r_32 run_B.sl.v0 run_B.sl.v1 run_B.sl.v2 run_B.sl.v195 run_B.sl.v197 run_B.sl.v199 run_B.sl.v201 run_B.sl.v203 run_B.sl.v205 run_B.sl.v207 run_B.sl.v209 run_B.sl.v216 run_B.sl.v218 run_B.sl.v220 run_B.sl.v222 run_B.sl.v224 run_B.sl.v226 run_B.sl.v228 run_B.sl.v230 run_B.sl.v237 run_B.sl.v239 run_B.sl.v241 run_B.sl.v243 run_B.sl.v245 run_B.sl.v247 run_B.sl.v249 run_B.sl.v251 run_B.sl.v258 run_B.sl.v260 run_B.sl.v262 run_B.sl.v264 run_B.sl.v266 run_B.sl.v268 run_B.sl.v270 run_B.sl.v272
      simp only [readAt_tile]
      simp only [View.readAt_eq_ld, harg2.read_unread, harg3.read_unread, harg4.read_unread, harg5.read_unread, harg6.read_unread, harg7.read_unread, harg8.read_unread, harg11.read_unread, ld_lanes, ld_wbSlab, ld_wcSlab, ld_u, ld_h0, ld_d]
      rw [(after_loop c i arg2 harg2 arg3 harg3 arg4 harg4 arg5 harg5 arg6 harg6 arg7 harg7 arg8 harg8 arg9 harg9 arg10 harg10 arg11 harg11 arg12 harg12 x0 x2 x3 x4 h _ _ _ _ _ _ _ _ fs1 _ _ _ _ _ _ ?_ ?_ ?_ ?_ ?_ ?_ ?_ ?_ ?_ ?_ ?_ ?_ ?_ ?_ ?_).2]
      · rfl
      · exact trips_eq
      iterate 6 exact shapeCast_self _ _
      iterate 6 rfl
      · exact projPieces_bu x0 x4
      · rfl
  isplitl [H8]
  · iexists _; isplitr; swap
    · iexact H8
    · skip
      ipureintro
      rw [View.read_writes_full]
      repeat delta run_B.sl.r run_B.sl.r_1 run_B.sl.r_2 run_B.sl.r_3 run_B.sl.r_4 run_B.sl.r_5 run_B.sl.r_6 run_B.sl.r_7 run_B.sl.r_8 run_B.sl.r_9 run_B.sl.r_10 run_B.sl.r_11 run_B.sl.r_12 run_B.sl.r_13 run_B.sl.r_14 run_B.sl.r_15 run_B.sl.r_16 run_B.sl.r_17 run_B.sl.r_18 run_B.sl.r_19 run_B.sl.r_20 run_B.sl.r_21 run_B.sl.r_22 run_B.sl.r_23 run_B.sl.r_24 run_B.sl.r_25 run_B.sl.r_26 run_B.sl.r_27 run_B.sl.r_28 run_B.sl.r_29 run_B.sl.r_30 run_B.sl.r_31 run_B.sl.r_32 run_B.sl.v0 run_B.sl.v1 run_B.sl.v2 run_B.sl.v195 run_B.sl.v197 run_B.sl.v199 run_B.sl.v201 run_B.sl.v203 run_B.sl.v205 run_B.sl.v207 run_B.sl.v209 run_B.sl.v216 run_B.sl.v218 run_B.sl.v220 run_B.sl.v222 run_B.sl.v224 run_B.sl.v226 run_B.sl.v228 run_B.sl.v230 run_B.sl.v237 run_B.sl.v239 run_B.sl.v241 run_B.sl.v243 run_B.sl.v245 run_B.sl.v247 run_B.sl.v249 run_B.sl.v251 run_B.sl.v258 run_B.sl.v260 run_B.sl.v262 run_B.sl.v264 run_B.sl.v266 run_B.sl.v268 run_B.sl.v270 run_B.sl.v272
      simp only [View.readAt_eq_ld, harg2.read_unread, harg3.read_unread, harg4.read_unread, harg5.read_unread, harg6.read_unread, harg7.read_unread, harg8.read_unread, harg11.read_unread, ld_lanes, ld_wbSlab, ld_wcSlab, ld_u, ld_h0, ld_d]
      refine (congrArg (fun p : Vec F S8x128 .f32 × Vec F S8x128 .f32 × Vec F S8x128 .f32 × Vec F S8x128 .f32 => k0_pay71 p.1 p.2.1 p.2.2.1 p.2.2.2) (after_loop c i arg2 harg2 arg3 harg3 arg4 harg4 arg5 harg5 arg6 harg6 arg7 harg7 arg8 harg8 arg9 harg9 arg10 harg10 arg11 harg11 arg12 harg12 x0 x2 x3 x4 h _ _ _ _ _ _ _ _ fs1 _ _ _ _ _ _ ?_ ?_ ?_ ?_ ?_ ?_ ?_ ?_ ?_ ?_ ?_ ?_ ?_ ?_ ?_).1).trans ?_
      · exact trips_eq
      iterate 6 exact shapeCast_self _ _
      iterate 6 rfl
      · exact projPieces_bu x0 x4
      · rfl
      · rfl
  isplitl [HS0]
  · iexists _; isplitr; swap
    · iexact HS0
    · skip
      ipureintro
      rw [View.read_writes_full]
      repeat delta run_B.sl.r run_B.sl.r_1 run_B.sl.r_2 run_B.sl.r_3 run_B.sl.r_4 run_B.sl.r_5 run_B.sl.r_6 run_B.sl.r_7 run_B.sl.r_8 run_B.sl.r_9 run_B.sl.r_10 run_B.sl.r_11 run_B.sl.r_12 run_B.sl.r_13 run_B.sl.r_14 run_B.sl.r_15 run_B.sl.r_16 run_B.sl.r_17 run_B.sl.r_18 run_B.sl.r_19 run_B.sl.r_20 run_B.sl.r_21 run_B.sl.r_22 run_B.sl.r_23 run_B.sl.r_24 run_B.sl.r_25 run_B.sl.r_26 run_B.sl.r_27 run_B.sl.r_28 run_B.sl.r_29 run_B.sl.r_30 run_B.sl.r_31 run_B.sl.r_32 run_B.sl.v0 run_B.sl.v1 run_B.sl.v2 run_B.sl.v195 run_B.sl.v197 run_B.sl.v199 run_B.sl.v201 run_B.sl.v203 run_B.sl.v205 run_B.sl.v207 run_B.sl.v209 run_B.sl.v216 run_B.sl.v218 run_B.sl.v220 run_B.sl.v222 run_B.sl.v224 run_B.sl.v226 run_B.sl.v228 run_B.sl.v230 run_B.sl.v237 run_B.sl.v239 run_B.sl.v241 run_B.sl.v243 run_B.sl.v245 run_B.sl.v247 run_B.sl.v249 run_B.sl.v251 run_B.sl.v258 run_B.sl.v260 run_B.sl.v262 run_B.sl.v264 run_B.sl.v266 run_B.sl.v268 run_B.sl.v270 run_B.sl.v272
      simp only [View.readAt_eq_ld, harg2.read_unread, harg3.read_unread, harg4.read_unread, harg5.read_unread, harg6.read_unread, harg7.read_unread, harg8.read_unread, harg11.read_unread, ld_lanes, ld_wbSlab, ld_wcSlab, ld_u, ld_h0, ld_d]
      refine (congrArg (fun p : Vec F S8x128 .f32 × Vec F S8x128 .f32 × Vec F S8x128 .f32 × Vec F S8x128 .f32 => k0_pay70 p.1 p.2.1 p.2.2.1 p.2.2.2) (after_loop c i arg2 harg2 arg3 harg3 arg4 harg4 arg5 harg5 arg6 harg6 arg7 harg7 arg8 harg8 arg9 harg9 arg10 harg10 arg11 harg11 arg12 harg12 x0 x2 x3 x4 h _ _ _ _ _ _ _ _ fs1 _ _ _ _ _ _ ?_ ?_ ?_ ?_ ?_ ?_ ?_ ?_ ?_ ?_ ?_ ?_ ?_ ?_ ?_).1).trans ?_
      · exact trips_eq
      iterate 6 exact shapeCast_self _ _
      iterate 6 rfl
      · exact projPieces_bu x0 x4
      · rfl
      · exact shapeCast_self _ _
  iexists _, _; isplitr; swap
  · iexact HS1
  · ipureintro; rfl

end Cert.KernelIdeal

end
-- ==== Proof.S5.Frame.lean ====
/-
  The recurrence call as a whole: the state the scratch holds between grid points, the body at every point, the run of the
  program, and the frame claims of both programs from that one run.
-/
module

public import proofs.«01_k».proof.Proof.S5.RunA
public import proofs.«01_k».proof.Proof.S5.RunB
public import Idealize.ShloMosaic.Lib.WordCmp
public import Idealize.ShloMosaic.Lib.Claim

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- A grid point, from its number (the last one past the end). -/
def pt (n : ℕ) : Fin cfg0.N := ⟨min n 63, Nat.lt_of_le_of_lt (Nat.min_le_right n 63) (Nat.lt_of_lt_of_eq (by decide) N_0.symm)⟩

theorem pt_val (t : Fin cfg0.N) : pt t.val = t := by
  have h : t.val < 64 := Nat.lt_of_lt_of_eq t.isLt N_0
  apply Fin.ext; show min t.val 63 = t.val; omega

/-- The state in front of point `n`: the given one, then what each point leaves. -/
def hAt (c : Dev nD) : ℕ → Vec F S8x512 .f32
  | 0 => k0_pay9 (iblk m c 1 (pt 0))
  | n + 1 => hOut (iblk m c 0 (pt n)) (iblk m c 2 (pt n)) (iblk m c 3 (pt n)) (iblk m c 4 (pt n)) (hAt c n)

theorem hAt_succ (c : Dev nD) (t : Fin cfg0.N) :
    hAt m c (t.val + 1) = hOut (iblk m c 0 t) (iblk m c 2 t) (iblk m c 3 t) (iblk m c 4 t) (hAt m c t.val) := by
  conv_lhs => rw [hAt]
  rw [pt_val]

/-- The scratch buffers, whole: the carried state and the rows of one tile. -/
abbrev scSt : Memref sig .tc .vmem S8x512 .f32 := Memref.whole cc0_scratch0
abbrev scBu : Memref sig .tc .vmem S4x2048x128 .f32 := Memref.whole cc0_scratch1

/-- The launch's invariant with its two scratch buffers named. -/
theorem PhiA_eq (c : Dev nD) : (Pipeline.ΦA spec0 c : sProp 𝕄)
    = iprop(iprop((∃ d, owns (c : Thread nD τ) scSt fullShare d) ∗ (∃ d, owns (c : Thread nD τ) scBu fullShare d)) ∗ (∃ r, prngReg c r)) := by
  unfold Pipeline.ΦA; rw [scopedRest0_eq]; simp only [scSt, scBu, owns_whole]; try rfl

/-- The proof data: each input's buffer at its block, the outputs at what the point computes from the blocks and the state
    it started from; between points the scratch holds the state (anything in front of the first one). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => yOut (iblk m c 0 t) (hist (iblk m c 0 t) (iblk m c 2 t) (iblk m c 3 t) (iblk m c 4 t) (hAt m c t.val) 256) (iblk m c 5 t) (iblk m c 6 t)
    | ⟨8, _⟩ => hTile (iblk m c 0 t) (iblk m c 2 t) (iblk m c 3 t) (iblk m c 4 t) (hAt m c t.val)
  Φ t := iprop(iprop((∃ d, ⌜t.val ≠ 0 → d = hAt m c t.val⌝ ∗ owns (c : Thread nD τ) scSt fullShare d) ∗ (∃ d, owns (c : Thread nD τ) scBu fullShare d)) ∗ (∃ r, prngReg c r))
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = yOut (iblk m c 0 t) (hist (iblk m c 0 t) (iblk m c 2 t) (iblk m c 3 t) (iblk m c 4 t) (hAt m c t.val) 256) (iblk m c 5 t) (iblk m c 6 t) := by dsimp only [dats]
theorem after0_8 (c : Dev nD) (t : Fin cfg0.N) : (dats m 0 c).after 8 t = hTile (iblk m c 0 t) (iblk m c 2 t) (iblk m c 3 t) (iblk m c 4 t) (hAt m c t.val) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- Only the first point takes the state from the argument. -/
theorem isFirst_iff : ∀ t : Fin cfg0.N, isFirst (grid0.coords t) ↔ t.val = 0 :=
  (fun t => by
    have ht : t.val < 64 := Nat.lt_of_lt_of_eq t.isLt N_0
    have e1 : (grid0.coords t 1).val = t.val / 1 % 64 := Pipeline.Grid.coords_val t 1 (by decide) rfl
    simp only [isFirst, e1]
    word_cmp : ∀ t : Fin grid0.N, _)

theorem Phi_cast (c : Dev nD) (t : Fin cfg0.N) : (dats m 0 c).Φ t.castSucc
    = iprop(iprop((∃ d, ⌜t.val ≠ 0 → d = hAt m c t.val⌝ ∗ owns (c : Thread nD τ) scSt fullShare d) ∗ (∃ d, owns (c : Thread nD τ) scBu fullShare d)) ∗ (∃ r, prngReg c r)) := by
  dsimp only [dats]; rfl
theorem Phi_succ (c : Dev nD) (t : Fin cfg0.N) : (dats m 0 c).Φ t.succ
    = iprop(iprop((∃ d, ⌜t.val + 1 ≠ 0 → d = hAt m c (t.val + 1)⌝ ∗ owns (c : Thread nD τ) scSt fullShare d) ∗ (∃ d, owns (c : Thread nD τ) scBu fullShare d)) ∗ (∃ r, prngReg c r)) := by
  dsimp only [dats]; rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl, Phi_cast, Phi_succ,
    after0_0, after0_1, after0_2, after0_3, after0_4, after0_5, after0_6, after0_7, after0_8]
  iintro ⟨⟨⟨⟨%dS, %hS, HS0⟩, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  by_cases h0 : t.val = 0
  · have e : k0_pay9 (iblk m c 1 t) = hAt m c t.val := by
      have := pt_val t; rw [h0] at this ⊢; rw [hAt, this]
    iapply (run_A c (grid0.coords t) _ _ _ _ _ _ _ _ _ _ _ _ _ _ _ _ _ _ _ _ _ _ ((isFirst_iff t).mpr h0) (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexists _; iexact HS0
    isplitl [HS1]; · iexact HS1
    rw [e]
    iintro ⟨H0, H1, H2, H3, H4, H5, H6, H7, H8, HS0, HS1⟩
    isplitl [HS0 HS1 Hr]
    · isplitl [HS0 HS1]
      · isplitl [HS0]
        · iexists _; isplitr; · ipureintro; exact fun _ => (hAt_succ m c t).symm
          iexact HS0
        · iexact HS1
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have e : dS = hAt m c t.val := hS h0
    iapply (run_B c (grid0.coords t) _ _ _ _ _ _ _ _ _ _ _ _ _ _ _ _ _ _ _ _ _ _ (fun h => h0 ((isFirst_iff t).mp h)) (iblk m c 0 t) (iblk m c 1 t) (iblk m c 2 t) (iblk m c 3 t) (iblk m c 4 t) (iblk m c 5 t) (iblk m c 6 t) dS Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    isplitl [HS1]; · iexact HS1
    rw [e]
    iintro ⟨H0, H1, H2, H3, H4, H5, H6, H7, H8, HS0, HS1⟩
    isplitl [HS0 HS1 Hr]
    · isplitl [HS0 HS1]
      · isplitl [HS0]
        · iexists _; isplitr; · ipureintro; exact fun _ => (hAt_succ m c t).symm
          iexact HS0
        · iexact HS1
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- In front of the first point the scratch may hold anything. -/
theorem hin (c : Dev nD) : (Pipeline.ΦA spec0 c : sProp 𝕄) ⊢ (dats m 0 c).Φ 0 := by
  rw [PhiA_eq]; dsimp only [dats]
  iintro ⟨⟨⟨%d, H0⟩, H1⟩, Hr⟩
  isplitl [H0 H1]
  · isplitl [H0]
    · iexists d; isplitr; · ipureintro; exact fun h => absurd rfl h
      iexact H0
    · iexact H1
  · iexact Hr

/-- After the last point what it holds is forgotten. -/
theorem hout (c : Dev nD) : (dats m 0 c).Φ (Fin.last cfg0.N) ⊢ (Pipeline.ΦA spec0 c : sProp 𝕄) := by
  rw [PhiA_eq]; dsimp only [dats]
  iintro ⟨⟨⟨%d, -, H0⟩, H1⟩, Hr⟩
  isplitl [H0 H1]
  · isplitl [H0]
    · iexists d; iexact H0
    · iexact H1
  · iexact Hr

set_option backward.isDefEq.respectTransparency.types false in
set_option maxHeartbeats 800000 in
/-- The run of the program: every array of the call at what the points wrote back, everything else as the host left it. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal

end
-- ==== Proof.S5.Same.lean ====
/- The recurrence's program at the chip's words and at the reals is one text, printed once for each. Here the two
   texts are shown to be one program: what is proved of the second over any numbers then holds of the first. -/
module

public import proofs.«01_k».proof.Proof.Gen.Kernel.Launch
public import proofs.«01_k».proof.Proof.Gen.KernelIdeal.Launch

@[expose] public section

set_option maxHeartbeats 0

namespace Cert.Kernel

open Idealize.ShloMosaic Idealize.SL.Sem

variable {F : FTy → Type} [FloatOps F]

/-- The body tables of the two texts agree. -/
theorem same_defs₀ : Cert.Kernel.defs₀ (F := F) = Cert.KernelIdeal.defs₀ (F := F) := by
  unfold Cert.Kernel.defs₀ Cert.KernelIdeal.defs₀
  refine congrArg Defs.onTc ?_
  funext k a
  match k, a with
  | 0, a => rfl
  | ⟨_+1, h⟩, _ => exact absurd h (by omega)

/-- So do the tables with the pipeline's own labels. -/
theorem same_defs : Cert.Kernel.defs (F := F) = Cert.KernelIdeal.defs (F := F) := by
  unfold Cert.Kernel.defs Cert.KernelIdeal.defs
  rw [same_defs₀]
  rfl

/-- The host's statements before the last seven agree. -/
theorem same_part0 (c : Dev 1) : Cert.Kernel.main_part0 (F := F) c = Cert.KernelIdeal.main_part0 (F := F) c := rfl

/-- The last seven, with the pallas_call among them, agree. -/
theorem same_part1 (c : Dev 1) : Cert.Kernel.main_part1 (F := F) c = Cert.KernelIdeal.main_part1 (F := F) c := rfl

/-- The whole host functions agree. -/
theorem same_main : Cert.Kernel.main (F := F) = Cert.KernelIdeal.main (F := F) := by
  funext c
  show (Cert.Kernel.main_part0 (F := F) c >>= fun _ => Cert.Kernel.main_part1 (F := F) c) = _
  rw [same_part0, same_part1]
  rfl

end Cert.Kernel
-- ==== Proof.S5.Host.lean ====
/-
  The arrays that the host makes for the recurrence's call, entry by entry: the transition's coefficients, and the
  block-diagonal input and output weights.
-/
module

public import proofs.«01_k».proof.Proof.Gen.KernelIdeal.Frame
public import Idealize.ShloMosaic.Lib.Pointwise

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.StableHlo

/-- A transition array, 8 groups of 64 states to a row. -/
def lamArr (a : Vec Ideal S32x64 .f32) : Vec Ideal S4x512 .f32 :=
  shapeCast S4x512 (shapeCast S32x64 (extractStridedSlice S32x1x64 ![0, 0, 0]
    (shapeCast S32x16x64 (shapeCast S512x64 (broadcastInDim S32x16x64 ![0, 2] bcast_S32x64_S32x16x64_0_2 a) shapeCasts_S32x16x64_S512x64)
      shapeCasts_S512x64_S32x16x64) slices_S32x16x64_S32x1x64_0_0_0) shapeCasts_S32x1x64_S32x64) shapeCasts_S32x64_S4x512

theorem lamArr_eq (a : Vec Ideal S32x64 .f32) (j : Fin 4) (l : Fin 512) :
    lamArr a (ix2 j l) = a (ix2 ⟨j.val * 8 + l.val / 64, by omega⟩ ⟨l.val % 64, by omega⟩) := by
  pointwise [lamArr]

/-- The 8 × 8 identity. -/
def eyeArr : Vec Ideal S8x8 .f32 :=
  uitofp (F := Ideal) .f32 (cmpi .eq (addi (iotaInDim S8x8 32 0) (broadcastInDim S8x8 ![] bcast_S_S8x8 (constantI S_ 32 0#32))) (iotaInDim S8x8 32 1))

theorem eyeArr_eq (a b : Fin 8) : (eyeArr (ix2 a b) : EReal) = if a = b then 1 else 0 := by
  pointwise [eyeArr]
  have e : ∀ a b : Fin 8, IntOp.cmpi .eq (IntOp.addi (BitVec.ofNat 32 a.val) 0#32) (BitVec.ofNat 32 b.val) = if a = b then 1#1 else 0#1 := by
    decide
  rw [e]
  split_ifs
  · show (((1 : ℕ) : ℝ) : EReal) = 1
    norm_num
  · show (((0 : ℕ) : ℝ) : EReal) = 0
    norm_num

/-- The input weights of one part, block-diagonal over 8 groups. -/
def wbArr (b : Vec Ideal S32x64x16 .f32) : Vec Ideal S4x128x512 .f32 :=
  shapeCast S4x128x512 (mulf (F := Ideal) (φ := .f32)
    (broadcastInDim S4x8x16x8x64 ![0, 1, 2, 3, 4] bcast_S4x8x16x1x64_S4x8x16x8x64_0_1_2_3_4
      (broadcastInDim S4x8x16x1x64 ![0, 1, 2, 4] bcast_S4x8x16x64_S4x8x16x1x64_0_1_2_4
        (shapeCast S4x8x16x64 (shapeCast S512x64 (transpose S32x16x64 [0, 2, 1] b transposes_S32x64x16_S32x16x64_0_2_1)
          shapeCasts_S32x16x64_S512x64) shapeCasts_S512x64_S4x8x16x64)))
    (broadcastInDim S4x8x16x8x64 ![0, 1, 2, 3, 4] bcast_S1x8x1x8x1_S4x8x16x8x64_0_1_2_3_4
      (broadcastInDim S1x8x1x8x1 ![1, 3] bcast_S8x8_S1x8x1x8x1_1_3 eyeArr))) shapeCasts_S4x8x16x8x64_S4x128x512

theorem wbArr_eq (b : Vec Ideal S32x64x16 .f32) (j : Fin 4) (k : Fin 128) (l : Fin 512) :
    (wbArr b (ix3 j k l) : EReal) = b (ix3 ⟨j.val * 8 + k.val / 16, by omega⟩ ⟨l.val % 64, by omega⟩ ⟨k.val % 16, by omega⟩)
      * eyeArr (ix2 ⟨k.val / 16, by omega⟩ ⟨l.val / 64, by omega⟩) := by
  pointwise [wbArr]

/-- The output weights of one part, block-diagonal over 8 groups. -/
def wcArr (a : Vec Ideal S32x16x64 .f32) : Vec Ideal S4x512x128 .f32 :=
  shapeCast S4x512x128 (mulf (F := Ideal) (φ := .f32)
    (broadcastInDim S4x8x64x8x16 ![0, 1, 2, 3, 4] bcast_S4x8x64x1x16_S4x8x64x8x16_0_1_2_3_4
      (broadcastInDim S4x8x64x1x16 ![0, 1, 2, 4] bcast_S4x8x64x16_S4x8x64x1x16_0_1_2_4
        (transpose S4x8x64x16 [0, 1, 3, 2] (shapeCast S4x8x16x64 a shapeCasts_S32x16x64_S4x8x16x64) transposes_S4x8x16x64_S4x8x64x16_0_1_3_2)))
    (broadcastInDim S4x8x64x8x16 ![0, 1, 2, 3, 4] bcast_S1x8x1x8x1_S4x8x64x8x16_0_1_2_3_4
      (broadcastInDim S1x8x1x8x1 ![1, 3] bcast_S8x8_S1x8x1x8x1_1_3 eyeArr))) shapeCasts_S4x8x64x8x16_S4x512x128

theorem wcArr_eq (a : Vec Ideal S32x16x64 .f32) (j : Fin 4) (k : Fin 512) (l : Fin 128) :
    (wcArr a (ix3 j k l) : EReal) = a (ix3 ⟨j.val * 8 + k.val / 64, by omega⟩ ⟨l.val % 16, by omega⟩ ⟨k.val % 64, by omega⟩)
      * eyeArr (ix2 ⟨k.val / 64, by omega⟩ ⟨l.val / 16, by omega⟩) := by
  pointwise [wcArr]

section Entries

variable (m : (ℓ : Loc nD τ sig) → Buf (Elt Ideal) ℓ) (c : Dev nD)

abbrev argU : Vec Ideal S1x16384x512 .f32 := m ((c.tc : Thread nD τ).loc main_arg0)
abbrev argHr : Vec Ideal S1x32x64 .f32 := m ((c.tc : Thread nD τ).loc main_arg1)
abbrev argHi : Vec Ideal S1x32x64 .f32 := m ((c.tc : Thread nD τ).loc main_arg2)
abbrev argLr : Vec Ideal S32x64 .f32 := m ((c.tc : Thread nD τ).loc main_arg3)
abbrev argLi : Vec Ideal S32x64 .f32 := m ((c.tc : Thread nD τ).loc main_arg4)
abbrev argBr : Vec Ideal S32x64x16 .f32 := m ((c.tc : Thread nD τ).loc main_arg5)
abbrev argBi : Vec Ideal S32x64x16 .f32 := m ((c.tc : Thread nD τ).loc main_arg6)
abbrev argCr : Vec Ideal S32x16x64 .f32 := m ((c.tc : Thread nD τ).loc main_arg7)
abbrev argCi : Vec Ideal S32x16x64 .f32 := m ((c.tc : Thread nD τ).loc main_arg8)
abbrev argD : Vec Ideal S512 .f32 := m ((c.tc : Thread nD τ).loc main_arg9)

theorem entry_h0 : V m c main_v62 = (concatenate S1x8x512 1 [⟨S1x4x512, (shapeCast S1x4x512 (argHr m c) shapeCasts_S1x32x64_S1x4x512)⟩,
    ⟨S1x4x512, (shapeCast S1x4x512 (argHi m c) shapeCasts_S1x32x64_S1x4x512)⟩] concatenates_S1x4x512_S1x4x512_S1x8x512_d1 : Vec Ideal S1x8x512 .f32) := rfl

theorem entry_lre : V m c main_v16 = (concatenate S8x512 0 [⟨S4x512, lamArr (argLr m c)⟩, ⟨S4x512, lamArr (argLr m c)⟩]
    concatenates_S4x512_S4x512_S8x512_d0 : Vec Ideal S8x512 .f32) := rfl

theorem entry_lim : V m c main_v18 = (concatenate S8x512 0 [⟨S4x512, (Host.negf (lamArr (argLi m c) : FVec Ideal S4x512 .f32) : FVec Ideal S4x512 .f32)⟩, ⟨S4x512, lamArr (argLi m c)⟩]
    concatenates_S4x512_S4x512_S8x512_d0 : Vec Ideal S8x512 .f32) := rfl

theorem entry_wb : V m c main_v40 = (truncf .bf16 (concatenate S8x128x512 0 [⟨S4x128x512, wbArr (argBr m c)⟩, ⟨S4x128x512, wbArr (argBi m c)⟩]
    concatenates_S4x128x512_S4x128x512_S8x128x512_d0 : FVec Ideal S8x128x512 .f32) bitsLt_bf16_f32 : FVec Ideal S8x128x512 .bf16) := rfl

theorem entry_wc : V m c main_v59 = (truncf .bf16 (concatenate S4x1024x128 1 [⟨S4x512x128, wcArr (argCr m c)⟩,
    ⟨S4x512x128, (Host.negf (wcArr (argCi m c) : FVec Ideal S4x512x128 .f32) : FVec Ideal S4x512x128 .f32)⟩]
    concatenates_S4x512x128_S4x512x128_S4x1024x128_d1 : FVec Ideal S4x1024x128 .f32) bitsLt_bf16_f32 : FVec Ideal S4x1024x128 .bf16) := rfl

theorem entry_d : V m c main_v63 = (shapeCast S1x512 (argD m c) shapeCasts_S512_S1x512 : Vec Ideal S1x512 .f32) := rfl

end Entries

end Cert.KernelIdeal.Hand

end
-- ==== Proof.S5.Scan.lean ====
/-
  The reference's loop, read: before trip `k` its carried arrays are the recurrence's state after `k` tokens and the
  states of the tokens before.
-/
module

public import proofs.«01_k».proof.Proof.Gen.ReferenceIdeal.Run
public import Idealize.ShloMosaic.Lib.Pointwise
public import Idealize.ShloMosaic.Lib.DynamicIndex

@[expose] public section

noncomputable section

namespace Cert.ReferenceIdeal.Hand

open Cert.ReferenceIdeal Cert.ReferenceIdeal.Gen Cert.ReferenceIdeal.Value Idealize.ShloMosaic Idealize.ShloMosaic.TcCoe Idealize.SL.Sem
open Idealize.ShloMosaic.StableHlo

/-! ## The recurrence -/

section Defs

variable (u : Vec Ideal S1x16384x512 .f32) (hr hi : Vec Ideal S1x32x64 .f32) (lr li : Vec Ideal S32x64 .f32)
  (br bi : Vec Ideal S32x64x16 .f32)

/-- Token `t`'s input projection: state `p` of group `g` reads the group's 16 channels. -/
def proj (b : Vec Ideal S32x64x16 .f32) (t : ℕ) (g : Fin 32) (p : Fin 64) : EReal :=
  ∑ h : Fin 16, (b (ix3 g p h) : EReal) * u (ix3 0 ⟨t % 16384, Nat.mod_lt _ (by decide)⟩ ⟨g.val * 16 + h.val, by omega⟩)

/-- The state (real and imaginary part) after `k` tokens. -/
def scan : ℕ → Fin 32 → Fin 64 → EReal × EReal
  | 0 => fun g p => (hr (ix3 0 g p), hi (ix3 0 g p))
  | k + 1 => fun g p =>
    ((lr (ix2 g p) : EReal) * (scan k g p).1 - li (ix2 g p) * (scan k g p).2 + proj u br k g p,
     (lr (ix2 g p) : EReal) * (scan k g p).2 + li (ix2 g p) * (scan k g p).1 + proj u bi k g p)

end Defs

/-! ## One trip -/

abbrev c0 (V : Valuation τ sig (Elt Ideal)) : Vec Ideal S16384x1x32x64 .f32 := V (Proc.devRef .tc main_v9_0)
abbrev c1 (V : Valuation τ sig (Elt Ideal)) : Vec Ideal S16384x1x32x64 .f32 := V (Proc.devRef .tc main_v9_1)
abbrev c2 (V : Valuation τ sig (Elt Ideal)) : Vec Ideal S32x64 .f32 := V (Proc.devRef .tc main_v9_2)
abbrev c3 (V : Valuation τ sig (Elt Ideal)) : Vec Ideal S32x64 .f32 := V (Proc.devRef .tc main_v9_3)
abbrev c5 (V : Valuation τ sig (Elt Ideal)) : Vec Ideal S1x32x64 .f32 := V (Proc.devRef .tc main_v9_5)
abbrev c6 (V : Valuation τ sig (Elt Ideal)) : Vec Ideal S1x32x64 .f32 := V (Proc.devRef .tc main_v9_6)
abbrev c7 (V : Valuation τ sig (Elt Ideal)) : Vec Ideal S16384x1x32x64 .f32 := V (Proc.devRef .tc main_v9_7)
abbrev c8 (V : Valuation τ sig (Elt Ideal)) : Vec Ideal S16384x1x32x64 .f32 := V (Proc.devRef .tc main_v9_8)

theorem re_form (A B : Vec Ideal S32x64 .f32) (X Y Z : Vec Ideal S1x32x64 .f32) (g : Fin 32) (p : Fin 64) :
    addf (F := Ideal) (φ := .f32) (subf (F := Ideal) (φ := .f32) (mulf (F := Ideal) (φ := .f32) (broadcastInDim S1x32x64 ![1, 2] bcast_S32x64_S1x32x64_1_2 A) X)
      (mulf (F := Ideal) (φ := .f32) (broadcastInDim S1x32x64 ![1, 2] bcast_S32x64_S1x32x64_1_2 B) Y)) Z (ix3 0 g p)
      = (A (ix2 g p) : EReal) * X (ix3 0 g p) - B (ix2 g p) * Y (ix3 0 g p) + Z (ix3 0 g p) := by
  pointwise []

theorem im_form (A B : Vec Ideal S32x64 .f32) (X Y Z : Vec Ideal S1x32x64 .f32) (g : Fin 32) (p : Fin 64) :
    addf (F := Ideal) (φ := .f32) (addf (F := Ideal) (φ := .f32) (mulf (F := Ideal) (φ := .f32) (broadcastInDim S1x32x64 ![1, 2] bcast_S32x64_S1x32x64_1_2 A) X)
      (mulf (F := Ideal) (φ := .f32) (broadcastInDim S1x32x64 ![1, 2] bcast_S32x64_S1x32x64_1_2 B) Y)) Z (ix3 0 g p)
      = (A (ix2 g p) : EReal) * X (ix3 0 g p) + B (ix2 g p) * Y (ix3 0 g p) + Z (ix3 0 g p) := by
  pointwise []

section Trip

variable (V : Valuation τ sig (Elt Ideal)) (k : ℕ) (hk : k < 16384)
  (hc : V (Proc.devRef .tc main_v9_4) = fun _ => BitVec.ofNat 32 k)

include hk hc

theorem start_eq : (fun a : Fin 4 => (((![V (Proc.devRef .tc main_v9_4), constantI S_ 32 0#32, constantI S_ 32 0#32, constantI S_ 32 0#32] : Fin 4 → (⟨S_, .i32⟩ : BufTy).Contents (Elt Ideal))) a (Shape.Idx.first h_S_)).toInt)
    = fun a => ((![k, 0, 0, 0] : Fin 4 → ℕ) a : ℤ) := by
  funext a
  rw [hc]
  match a with
  | 0 => exact toInt_ofNat_of_lt (by omega)
  | 1 => rfl
  | 2 => rfl
  | 3 => rfl

theorem slice_eq (X : Vec Ideal S16384x1x32x64 .f32) (g : Fin 32) (p : Fin 64) :
    shapeCast S1x32x64 (Host.dynamicSlice S1x1x32x64 X (fun a : Fin 4 => (((![V (Proc.devRef .tc main_v9_4), constantI S_ 32 0#32, constantI S_ 32 0#32, constantI S_ 32 0#32] : Fin 4 → (⟨S_, .i32⟩ : BufTy).Contents (Elt Ideal))) a (Shape.Idx.first h_S_)).toInt)
      sliceFits_S16384x1x32x64_S1x1x32x64) shapeCasts_S1x1x32x64_S1x32x64 (ix3 0 g p) = X (ix4 ⟨k, hk⟩ 0 g p) := by
  rw [start_eq V k hk hc,
    Host.dynamicSlice_eq_extractStridedSlice S1x1x32x64 X _ ![k, 0, 0, 0] sliceFits_S16384x1x32x64_S1x1x32x64
      ⟨rfl, fun a => by
        match a with
        | 0 => show k + 1 ≤ 16384; omega
        | 1 => show 0 + 1 ≤ 1; omega
        | 2 => show 0 + 32 ≤ 32; omega
        | 3 => show 0 + 64 ≤ 64; omega⟩ (fun _ => rfl)]
  rw [shapeCast_apply _ _ _ (ix4 0 0 g p) (by
    rw [Shape.rowMajor_val_three, Shape.rowMajor_val_four]; rfl)]
  refine congrArg X (funext fun a => Fin.ext ?_)
  match a with
  | 0 => rfl
  | 1 => rfl
  | 2 => show 0 + g.val = g.val; omega
  | 3 => show 0 + p.val = p.val; omega

theorem update_eq (X : Vec Ideal S16384x1x32x64 .f32) (Y : Vec Ideal S1x32x64 .f32) (t : Fin 16384) (g : Fin 32) (p : Fin 64) :
    Host.dynamicUpdateSlice X (broadcastInDim S1x1x32x64 ![1, 2, 3] bcast_S1x32x64_S1x1x32x64_1_2_3 Y)
      (fun a : Fin 4 => (((![V (Proc.devRef .tc main_v9_4), constantI S_ 32 0#32, constantI S_ 32 0#32, constantI S_ 32 0#32] : Fin 4 → (⟨S_, .i32⟩ : BufTy).Contents (Elt Ideal))) a (Shape.Idx.first h_S_)).toInt)
      updateFits_S16384x1x32x64_S1x1x32x64 (ix4 t 0 g p)
      = if t.val = k then Y (ix3 0 g p) else X (ix4 t 0 g p) := by
  rw [start_eq V k hk hc, Host.dynamicUpdateSlice_apply]
  have hs : ∀ a : Fin 4, Host.clampedStart S16384x1x32x64 S1x1x32x64 rfl (fun a => ((![k, 0, 0, 0] : Fin 4 → ℕ) a : ℤ)) a
      = (![k, 0, 0, 0] : Fin 4 → ℕ) a := fun a =>
    Host.clampedStart_of_le (s := S16384x1x32x64) (t := S1x1x32x64) rfl _ a ((![k, 0, 0, 0] : Fin 4 → ℕ) a) rfl (by
      match a with
      | 0 => show k + 1 ≤ 16384; omega
      | 1 => show 0 + 1 ≤ 1; omega
      | 2 => show 0 + 32 ≤ 32; omega
      | 3 => show 0 + 64 ≤ 64; omega)
  by_cases ht : t.val = k
  · rw [if_pos ht, dif_pos]
    · unfold broadcastInDim
      refine congrArg Y (funext fun a => Fin.ext ?_)
      match a with
      | 0 => rfl
      | 1 => show g.val - Host.clampedStart S16384x1x32x64 S1x1x32x64 rfl _ (2 : Fin 4) = g.val; rw [hs 2]; rfl
      | 2 => show p.val - Host.clampedStart S16384x1x32x64 S1x1x32x64 rfl _ (3 : Fin 4) = p.val; rw [hs 3]; rfl
    · intro a
      rw [hs a]
      match a with
      | 0 => show k ≤ t.val ∧ t.val < k + 1; omega
      | 1 => show 0 ≤ 0 ∧ 0 < 0 + 1; omega
      | 2 => show 0 ≤ g.val ∧ g.val < 0 + 32; omega
      | 3 => show 0 ≤ p.val ∧ p.val < 0 + 64; omega
  · rw [if_neg ht, dif_neg]
    intro h
    have h0 := h 0
    rw [hs 0] at h0
    have h1 : k ≤ t.val ∧ t.val < k + 1 := h0
    omega

/-- The real part after the trip. -/
theorem re_eq (g : Fin 32) (p : Fin 64) : res_main_while0b_v31 V (ix3 0 g p)
    = (c2 V (ix2 g p) : EReal) * (c5 V (ix3 0 g p) : EReal)
      - (c3 V (ix2 g p) : EReal) * (c6 V (ix3 0 g p) : EReal)
      + (c0 V (ix4 ⟨k, hk⟩ 0 g p) : EReal) := by
  rw [← slice_eq V k hk hc (c0 V) g p]
  exact re_form _ _ _ _ _ g p

/-- The imaginary part after the trip. -/
theorem im_eq (g : Fin 32) (p : Fin 64) : res_main_while0b_v37 V (ix3 0 g p)
    = (c2 V (ix2 g p) : EReal) * (c6 V (ix3 0 g p) : EReal)
      + (c3 V (ix2 g p) : EReal) * (c5 V (ix3 0 g p) : EReal)
      + (c1 V (ix4 ⟨k, hk⟩ 0 g p) : EReal) := by
  rw [← slice_eq V k hk hc (c1 V) g p]
  exact im_form _ _ _ _ _ g p

end Trip

/-! ## What the loop starts from -/

section Entry

variable (m : (ℓ : Loc nD τ sig) → Buf (Elt Ideal) ℓ) (c : Dev nD)

abbrev argU : Vec Ideal S1x16384x512 .f32 := m ((c.tc : Thread nD τ).loc main_arg0)
abbrev argHr : Vec Ideal S1x32x64 .f32 := m ((c.tc : Thread nD τ).loc main_arg1)
abbrev argHi : Vec Ideal S1x32x64 .f32 := m ((c.tc : Thread nD τ).loc main_arg2)
abbrev argLr : Vec Ideal S32x64 .f32 := m ((c.tc : Thread nD τ).loc main_arg3)
abbrev argLi : Vec Ideal S32x64 .f32 := m ((c.tc : Thread nD τ).loc main_arg4)
abbrev argBr : Vec Ideal S32x64x16 .f32 := m ((c.tc : Thread nD τ).loc main_arg5)
abbrev argBi : Vec Ideal S32x64x16 .f32 := m ((c.tc : Thread nD τ).loc main_arg6)

/-- The input projections of all tokens, as the operations in front of the loop make them. -/
def projArr (b : Vec Ideal S32x64x16 .f32) (u : Vec Ideal S1x16384x512 .f32) : Vec Ideal S16384x1x32x64 .f32 :=
  transpose S16384x1x32x64 [1, 0, 2, 3] (transpose S1x16384x32x64 [2, 3, 0, 1]
    (Host.dotGeneral (φ₁ := .f32) (φ₂ := .f32) dot_S32x64x16_S1x16384x32x16_S32x64x1x16384_2_3_1_01_0_2 none (b : FVec Ideal S32x64x16 .f32)
      (shapeCast S1x16384x32x16 u shapeCasts_S1x16384x512_S1x16384x32x16 : FVec Ideal S1x16384x32x16 .f32) : FVec Ideal S32x64x1x16384 .f32)
    transposes_S32x64x1x16384_S1x16384x32x64_2_3_0_1) transposes_S1x16384x32x64_S16384x1x32x64_1_0_2_3

theorem projArr_eq (b : Vec Ideal S32x64x16 .f32) (u : Vec Ideal S1x16384x512 .f32) (t : Fin 16384) (g : Fin 32) (p : Fin 64) :
    projArr b u (ix4 t 0 g p) = proj u b t.val g p := by
  unfold proj
  have e : (⟨t.val % 16384, Nat.mod_lt _ (by decide)⟩ : Fin 16384) = t := Fin.ext (Nat.mod_eq_of_lt t.isLt)
  rw [e]
  pointwise [projArr]

theorem entry0 : entryContents preI m c (Proc.devRef .tc main_v9_0) = projArr (argBr m c) (argU m c) := by
  simp only [entryContents, afterL_cons, afterL_nil]
  after_reads_simp
  rfl
theorem entry1 : entryContents preI m c (Proc.devRef .tc main_v9_1) = projArr (argBi m c) (argU m c) := by
  simp only [entryContents, afterL_cons, afterL_nil]
  after_reads_simp
  rfl
theorem entry2 : entryContents preI m c (Proc.devRef .tc main_v9_2) = argLr m c := by
  simp only [entryContents, afterL_cons, afterL_nil]
  after_reads_simp
  rfl
theorem entry3 : entryContents preI m c (Proc.devRef .tc main_v9_3) = argLi m c := by
  simp only [entryContents, afterL_cons, afterL_nil]
  after_reads_simp
  rfl
theorem entry5 : entryContents preI m c (Proc.devRef .tc main_v9_5) = argHr m c := by
  simp only [entryContents, afterL_cons, afterL_nil]
  after_reads_simp
  rfl
theorem entry6 : entryContents preI m c (Proc.devRef .tc main_v9_6) = argHi m c := by
  simp only [entryContents, afterL_cons, afterL_nil]
  after_reads_simp
  rfl

/-- Before trip `k`. -/
abbrev at_ (k : ℕ) : Valuation τ sig (Elt Ideal) := STEP^[k] (entryContents preI m c)

theorem at_succ (k : ℕ) : at_ m c (k + 1) = STEP (at_ m c k) := Function.iterate_succ_apply' _ _ _

theorem at_const (k : ℕ) : c0 (at_ m c k) = projArr (argBr m c) (argU m c) ∧ c1 (at_ m c k) = projArr (argBi m c) (argU m c)
    ∧ c2 (at_ m c k) = argLr m c ∧ c3 (at_ m c k) = argLi m c := by
  induction k with
  | zero => exact ⟨entry0 m c, entry1 m c, entry2 m c, entry3 m c⟩
  | succ k ih =>
    rw [at_succ]
    exact ⟨(STEP_main_v9_0 _).trans ih.1, (STEP_main_v9_1 _).trans ih.2.1, (STEP_main_v9_2 _).trans ih.2.2.1,
      (STEP_main_v9_3 _).trans ih.2.2.2⟩

theorem at_ctr (k : ℕ) : at_ m c k (Proc.devRef .tc main_v9_4) = fun _ => BitVec.ofNat 32 k := by
  refine ((atK_agree m c k main_v9_4 (by decide)).symm.trans (atK_ctr m c k)).trans ?_
  funext _
  unfold Scf.iv
  apply BitVec.eq_of_toNat_eq
  simp

/-- The state in front of trip `k`, and the states that the trips before it wrote. -/
abbrev sc : ℕ → Fin 32 → Fin 64 → EReal × EReal :=
  scan (argU m c) (argHr m c) (argHi m c) (argLr m c) (argLi m c) (argBr m c) (argBi m c)

theorem at_state (k : ℕ) (hk : k ≤ 16384) (g : Fin 32) (p : Fin 64) :
    c5 (at_ m c k) (ix3 0 g p) = (sc m c k g p).1 ∧ c6 (at_ m c k) (ix3 0 g p) = (sc m c k g p).2 := by
  induction k generalizing g p with
  | zero => exact ⟨congrFun (entry5 m c) _, congrFun (entry6 m c) _⟩
  | succ k ih =>
    obtain ⟨i5, i6⟩ := ih (by omega) g p
    obtain ⟨h0, h1, h2, h3⟩ := at_const m c k
    have hc := at_ctr m c k
    constructor
    · refine (congrFun ((congrFun (at_succ m c k) _).trans (STEP_main_v9_5 _)) (ix3 0 g p)).trans ?_
      refine (re_eq (at_ m c k) k (by omega) hc g p).trans ?_
      rw [i5, i6, h0, h2, h3, projArr_eq]
      rfl
    · refine (congrFun ((congrFun (at_succ m c k) _).trans (STEP_main_v9_6 _)) (ix3 0 g p)).trans ?_
      refine (im_eq (at_ m c k) k (by omega) hc g p).trans ?_
      rw [i5, i6, h1, h2, h3, projArr_eq]
      rfl

theorem at_rows (k : ℕ) (hk : k ≤ 16384) (t : Fin 16384) (ht : t.val < k) (g : Fin 32) (p : Fin 64) :
    c7 (at_ m c k) (ix4 t 0 g p) = (sc m c (t.val + 1) g p).1 ∧ c8 (at_ m c k) (ix4 t 0 g p) = (sc m c (t.val + 1) g p).2 := by
  induction k with
  | zero => exact absurd ht (by omega)
  | succ k ih =>
    have hc := at_ctr m c k
    obtain ⟨i5, i6⟩ := at_state m c (k + 1) hk g p
    have e5 := congrFun ((congrFun (at_succ m c k) _).trans (STEP_main_v9_5 _)) (ix3 0 g p)
    have e6 := congrFun ((congrFun (at_succ m c k) _).trans (STEP_main_v9_6 _)) (ix3 0 g p)
    constructor
    · refine (congrFun ((congrFun (at_succ m c k) _).trans (STEP_main_v9_7 _)) (ix4 t 0 g p)).trans ?_
      refine (update_eq (at_ m c k) k (by omega) hc _ (res_main_while0b_v31 (at_ m c k)) t g p).trans ?_
      by_cases h : t.val = k
      · rw [if_pos h, h]; exact e5.symm.trans i5
      · rw [if_neg h]; exact (ih (by omega) (by omega)).1
    · refine (congrFun ((congrFun (at_succ m c k) _).trans (STEP_main_v9_8 _)) (ix4 t 0 g p)).trans ?_
      refine (update_eq (at_ m c k) k (by omega) hc _ (res_main_while0b_v37 (at_ m c k)) t g p).trans ?_
      by_cases h : t.val = k
      · rw [if_pos h, h]; exact e6.symm.trans i6
      · rw [if_neg h]; exact (ih (by omega) (by omega)).2

/-! ## The results -/

abbrev argCr : Vec Ideal S32x16x64 .f32 := m ((c.tc : Thread nD τ).loc main_arg7)
abbrev argCi : Vec Ideal S32x16x64 .f32 := m ((c.tc : Thread nD τ).loc main_arg8)
abbrev argD : Vec Ideal S512 .f32 := m ((c.tc : Thread nD τ).loc main_arg9)

/-- Output channel `h` of group `g` at token `t`, of the states `s` behind the token. -/
def outAt (u : Vec Ideal S1x16384x512 .f32) (cr ci : Vec Ideal S32x16x64 .f32) (d : Vec Ideal S512 .f32)
    (s : ℕ → Fin 32 → Fin 64 → EReal × EReal) (t : Fin 16384) (g : Fin 32) (h : Fin 16) : EReal :=
  (∑ p : Fin 64, (cr (ix3 g h p) : EReal) * (s (t.val + 1) g p).1) + (∑ p : Fin 64, -(ci (ix3 g h p) : EReal) * (s (t.val + 1) g p).2)
    + d (ix1 ⟨g.val * 16 + h.val, by omega⟩) * u (ix3 0 t ⟨g.val * 16 + h.val, by omega⟩)

/-- The output, as the operations behind the loop make it of the states of all tokens. -/
def outArr (u : Vec Ideal S1x16384x512 .f32) (cr ci : Vec Ideal S32x16x64 .f32) (d : Vec Ideal S512 .f32)
    (sr si : Vec Ideal S16384x1x32x64 .f32) : Vec Ideal S1x16384x512 .f32 :=
  addf (φ := .f32) (shapeCast S1x16384x512 (addf (φ := .f32)
      (transpose S1x16384x32x16 [3, 2, 0, 1] (Host.dotGeneral (φ₁ := .f32) (φ₂ := .f32) dot_S32x16x64_S16384x1x32x64_S32x16x16384x1_2_3_1_01_0_2 none
        (cr : FVec Ideal S32x16x64 .f32) (sr : FVec Ideal S16384x1x32x64 .f32) : FVec Ideal S32x16x16384x1 .f32) transposes_S32x16x16384x1_S1x16384x32x16_3_2_0_1)
      (transpose S1x16384x32x16 [3, 2, 0, 1] (Host.dotGeneral (φ₁ := .f32) (φ₂ := .f32) dot_S32x16x64_S16384x1x32x64_S32x16x16384x1_2_3_1_01_0_2 none
        (Host.negf (ci : FVec Ideal S32x16x64 .f32)) (si : FVec Ideal S16384x1x32x64 .f32) : FVec Ideal S32x16x16384x1 .f32) transposes_S32x16x16384x1_S1x16384x32x16_3_2_0_1))
    shapeCasts_S1x16384x32x16_S1x16384x512)
    (mulf (φ := .f32) (broadcastInDim S1x16384x512 ![0, 1, 2] bcast_S1x1x512_S1x16384x512_0_1_2 (broadcastInDim S1x1x512 ![2] bcast_S512_S1x1x512_2 d)) u)

theorem outArr_eq (u : Vec Ideal S1x16384x512 .f32) (cr ci : Vec Ideal S32x16x64 .f32) (d : Vec Ideal S512 .f32)
    (sr si : Vec Ideal S16384x1x32x64 .f32) (t : Fin 16384) (g : Fin 32) (h : Fin 16) :
    outArr u cr ci d sr si (ix3 0 t ⟨g.val * 16 + h.val, by omega⟩)
      = (∑ p : Fin 64, (cr (ix3 g h p) : EReal) * sr (ix4 t 0 g p)) + (∑ p : Fin 64, -(ci (ix3 g h p) : EReal) * si (ix4 t 0 g p))
        + d (ix1 ⟨g.val * 16 + h.val, by omega⟩) * u (ix3 0 t ⟨g.val * 16 + h.val, by omega⟩) := by
  pointwise [outArr]

theorem out_eq (t : Fin 16384) (g : Fin 32) (h : Fin 16) :
    (out_main_v20 (at_ m c 16384) : Vec Ideal S1x16384x512 .f32) (ix3 0 t ⟨g.val * 16 + h.val, by omega⟩)
      = outAt (argU m c) (argCr m c) (argCi m c) (argD m c) (sc m c) t g h := by
  have hr := fun p => at_rows m c 16384 (Nat.le_refl _) t t.isLt g p
  have e : (out_main_v20 (at_ m c 16384) : Vec Ideal S1x16384x512 .f32)
      = outArr (at_ m c 16384 (Proc.devRef .tc main_arg0)) (at_ m c 16384 (Proc.devRef .tc main_arg7))
        (at_ m c 16384 (Proc.devRef .tc main_arg8)) (at_ m c 16384 (Proc.devRef .tc main_arg9)) (c7 (at_ m c 16384)) (c8 (at_ m c 16384)) := rfl
  rw [e, outArr_eq]
  simp only [(hr _).1, (hr _).2]
  unfold outAt
  have a7 : at_ m c 16384 (Proc.devRef .tc main_arg7) = argCr m c := iter_main_arg7 m c 16384
  have a8 : at_ m c 16384 (Proc.devRef .tc main_arg8) = argCi m c := iter_main_arg8 m c 16384
  have a9 : at_ m c 16384 (Proc.devRef .tc main_arg9) = argD m c := iter_main_arg9 m c 16384
  have a0 : at_ m c 16384 (Proc.devRef .tc main_arg0) = argU m c := iter_main_arg0 m c 16384
  rw [a7, a8, a9, a0]

/-- The final state: the real parts in rows 0 to 3, the imaginary parts in rows 4 to 7. -/
theorem last_eq (j : Fin 4) (l : Fin 512) :
    (out_main_v23 (at_ m c 16384) : Vec Ideal S1x8x512 .f32) (ix3 0 ⟨j.val, by omega⟩ l)
        = (sc m c 16384 ⟨j.val * 8 + l.val / 64, by omega⟩ ⟨l.val % 64, by omega⟩).1
    ∧ (out_main_v23 (at_ m c 16384) : Vec Ideal S1x8x512 .f32) (ix3 0 ⟨j.val + 4, by omega⟩ l)
        = (sc m c 16384 ⟨j.val * 8 + l.val / 64, by omega⟩ ⟨l.val % 64, by omega⟩).2 := by
  have hs := at_state m c 16384 (Nat.le_refl _) ⟨j.val * 8 + l.val / 64, by omega⟩ ⟨l.val % 64, by omega⟩
  unfold out_main_v23
  constructor
  · rw [← hs.1]
    pointwise []
  · rw [← hs.2]
    pointwise []
    rw [dif_neg (by omega)]
    simp only [Nat.add_sub_cancel]

end Entry

end Cert.ReferenceIdeal.Hand

end
-- ==== Proof.S5.Value.lean ====
/-
  One grid point of the recurrence's kernel computes 256 steps of the reference's recurrence: its block-diagonal
  products are the groups' sums, its rotated rows the imaginary and real parts.
-/
module

public import proofs.«01_k».proof.Proof.S5.Frame
public import proofs.«01_k».proof.Proof.S5.Host
public import proofs.«01_k».proof.Proof.S5.Scan
public import Idealize.ShloMosaic.Lib.FinSumWindow
public import Idealize.ShloMosaic.Lib.KernelVsHost

@[expose] public section

set_option maxRecDepth 16384

noncomputable section

namespace Cert.KernelIdeal.Hand

open Cert.KernelIdeal Cert.KernelIdeal.Gen Idealize.ShloMosaic Idealize.ShloMosaic.TcCoe Idealize.SL.Sem
open Cert.ReferenceIdeal.Hand (proj outAt)
open Cert.ReferenceIdeal.Hand renaming scan → refScan
open scoped BigOperators

/-- Rows 0 to 3 hold real parts, rows 4 to 7 imaginary parts. -/
def part (j : ℕ) (z : EReal × EReal) : EReal := if j < 4 then z.1 else z.2

/-! ## The block-diagonal products -/

theorem buMat_sum (x0 : Vec Ideal S1x256x512 .f32) (x4 : Vec Ideal S8x128x512 .bf16) (j : Fin 8) (r : Fin 256) (l : Fin 512) :
    (buMat x0 x4 j (ix2 r l) : EReal) = ∑ k : Fin 128, (x0 (ix3 0 r ⟨j.val % 4 * 128 + k.val, by omega⟩) : EReal) * x4 (ix3 j k l) := by
  fin_cases j <;> pointwise [buMat, uCols, k0_pay10, k0_pay11, k0_pay18, wbSlab]

theorem pay2_eq (A B H : Vec Ideal S8x128 .f32) (S : Vec Ideal S1x8x128 .f32) (j : Fin 8) (c : Fin 128) :
    (k0_pay2 A B H S (ix2 j c) : EReal) = A (ix2 j c) * H (ix2 j c) + B (ix2 j c) * H (ix2 ⟨(j.val + 4) % 8, by omega⟩ c) + S (ix3 0 j c) := by
  have e : (⟨(j.val + 8 - 4) % 8, Nat.mod_lt _ (by decide)⟩ : Fin 8) = ⟨(j.val + 4) % 8, by omega⟩ := Fin.ext (by
    show (j.val + 8 - 4) % 8 = (j.val + 4) % 8
    omega)
  pointwise [k0_pay2]
  rw [e]

theorem ix3_ext {n0 n1 n2 : ℕ} (a a' : Fin n0) (b b' : Fin n1) (c c' : Fin n2) (ha : a.val = a'.val) (hb : b.val = b'.val) (hc : c.val = c'.val) :
    ix3 a b c = ix3 a' b' c' := by
  rw [Fin.ext ha, Fin.ext hb, Fin.ext hc]

theorem ix2_ext {n0 n1 : ℕ} (a a' : Fin n0) (b b' : Fin n1) (ha : a.val = a'.val) (hb : b.val = b'.val) : ix2 a b = ix2 a' b' := by
  rw [Fin.ext ha, Fin.ext hb]

theorem outMat_sum (S : Vec Ideal S4x2048x128 .f32) (x5 : Vec Ideal S4x1024x128 .bf16) (o : Fin 4) (r : Fin 256) (c : Fin 128) :
    (outMat S x5 o.val (ix2 r c) : EReal) = ∑ k : Fin 1024, (S (ix3 ⟨k.val / 128 % 4, by omega⟩ ⟨o.val + k.val / 512 * 4 + 8 * r.val, by omega⟩ ⟨k.val % 128, by omega⟩) : EReal)
      * x5 (ix3 o k c) := by
  pointwise [outMat, k0_pay76, k0_pay72, wcSlab, tile]
  refine Finset.sum_congr rfl fun k _ => ?_
  refine congrArg₂ (fun a b : EReal => a * b) ?_ (congrArg x5 (ix3_ext _ _ _ _ _ _ (Nat.mod_eq_of_lt o.isLt) rfl rfl))
  split_ifs <;> exact congrArg S (ix3_ext _ _ _ _ _ _ (by dsimp; omega) (by dsimp; omega) (by dsimp; omega))

/-- The same, the real and the imaginary rows apart. -/
theorem outMat_parts (S : Vec Ideal S4x2048x128 .f32) (x5 : Vec Ideal S4x1024x128 .bf16) (o : Fin 4) (r : Fin 256) (c : Fin 128) :
    (outMat S x5 o.val (ix2 r c) : EReal)
      = (∑ k : Fin 512, (S (ix3 ⟨k.val / 128, by omega⟩ ⟨o.val + 8 * r.val, by omega⟩ ⟨k.val % 128, by omega⟩) : EReal) * x5 (ix3 o ⟨k.val, by omega⟩ c))
        + ∑ k : Fin 512, (S (ix3 ⟨k.val / 128, by omega⟩ ⟨o.val + 4 + 8 * r.val, by omega⟩ ⟨k.val % 128, by omega⟩) : EReal) * x5 (ix3 o ⟨512 + k.val, by omega⟩ c) := by
  rw [outMat_sum, Fin.sum_univ_add (a := 512) (b := 512)]
  refine congrArg₂ (fun a b : EReal => a + b) (Finset.sum_congr rfl fun k _ => ?_) (Finset.sum_congr rfl fun k _ => ?_)
  · refine congrArg₂ (fun a b : EReal => a * b) (congrArg S (ix3_ext _ _ _ _ _ _ ?_ ?_ ?_)) rfl
    · show k.val / 128 % 4 = k.val / 128; omega
    · show o.val + k.val / 512 * 4 + 8 * r.val = o.val + 8 * r.val; omega
    · rfl
  · refine congrArg₂ (fun a b : EReal => a * b) (congrArg S (ix3_ext _ _ _ _ _ _ ?_ ?_ ?_)) rfl
    · show (512 + k.val) / 128 % 4 = k.val / 128; omega
    · show o.val + (512 + k.val) / 512 * 4 + 8 * r.val = o.val + 4 + 8 * r.val; omega
    · show (512 + k.val) % 128 = k.val % 128; omega

theorem cat_eq (A : Fin 4 → FVec Ideal S256x128 .f32) (r : Fin 256) (l : Fin 512) :
    concatenate S256x512 1 [⟨S256x128, A 0⟩, ⟨S256x128, A 1⟩, ⟨S256x128, A 2⟩, ⟨S256x128, A 3⟩] concatenates_S256x128_S256x128_S256x128_S256x128_S256x512_d1 (ix2 r l)
      = A ⟨l.val / 128, by omega⟩ (ix2 r ⟨l.val % 128, by omega⟩) := by
  have key : ∀ (q : Fin 4) (a : Fin 128), l.val = q.val * 128 + a.val → A q (ix2 r a) = A ⟨l.val / 128, by omega⟩ (ix2 r ⟨l.val % 128, by omega⟩) := by
    intro q a e
    have hq : q = ⟨l.val / 128, by omega⟩ := Fin.ext (by show q.val = l.val / 128; omega)
    have ha : a = ⟨l.val % 128, by omega⟩ := Fin.ext (by show a.val = l.val % 128; omega)
    exact congrArg₂ (fun q a => A q (ix2 r a)) hq ha
  pointwise []
  split_ifs <;> first
    | exact key 0 ⟨_, _⟩ (by simp)
    | exact key 1 ⟨_, _⟩ (by dsimp; omega)
    | exact key 2 ⟨_, _⟩ (by dsimp; omega)
    | exact key 3 ⟨_, _⟩ (by dsimp; omega)

theorem cat8_eq (A : Fin 4 → Vec Ideal S8x128 .f32) (r : Fin 8) (l : Fin 512) :
    k0_pay69 (A 0) (A 1) (A 2) (A 3) (ix2 r l) = A ⟨l.val / 128, by omega⟩ (ix2 r ⟨l.val % 128, by omega⟩) := by
  have key : ∀ (q : Fin 4) (a : Fin 128), l.val = q.val * 128 + a.val → A q (ix2 r a) = A ⟨l.val / 128, by omega⟩ (ix2 r ⟨l.val % 128, by omega⟩) := by
    intro q a e
    have hq : q = ⟨l.val / 128, by omega⟩ := Fin.ext (by show q.val = l.val / 128; omega)
    have ha : a = ⟨l.val % 128, by omega⟩ := Fin.ext (by show a.val = l.val % 128; omega)
    exact congrArg₂ (fun q a => A q (ix2 r a)) hq ha
  pointwise [k0_pay69]
  split_ifs <;> first
    | exact key 0 ⟨_, _⟩ (by simp)
    | exact key 1 ⟨_, _⟩ (by dsimp; omega)
    | exact key 2 ⟨_, _⟩ (by dsimp; omega)
    | exact key 3 ⟨_, _⟩ (by dsimp; omega)

theorem pay1_eq (a b c : FVec Ideal S256x512 .f32) (r : Fin 256) (l : Fin 512) :
    (k0_pay1 a b c (ix3 0 r l) : EReal) = b (ix2 r l) + c (ix2 r l) * a (ix2 r l) := by
  pointwise [k0_pay1]

theorem pay10_eq (x0 : Vec Ideal S1x256x512 .f32) (r : Fin 256) (l : Fin 512) : (k0_pay10 x0 (ix2 r l) : EReal) = x0 (ix3 0 r l) := by
  pointwise [k0_pay10]

theorem pay86_eq (x6 : Vec Ideal S1x512 .f32) (r : Fin 256) (l : Fin 512) : (k0_pay86 x6 (ix2 r l) : EReal) = x6 (ix2 0 l) := by
  pointwise [k0_pay86]

theorem yOut_eq (x0 : Vec Ideal S1x256x512 .f32) (S : Vec Ideal S4x2048x128 .f32) (x5 : Vec Ideal S4x1024x128 .bf16) (x6 : Vec Ideal S1x512 .f32)
    (r : Fin 256) (l : Fin 512) :
    (yOut x0 S x5 x6 (ix3 0 r l) : EReal) = outMat S x5 (l.val / 128) (ix2 r ⟨l.val % 128, by omega⟩) + x6 (ix2 0 l) * x0 (ix3 0 r l) := by
  unfold yOut
  rw [pay1_eq, pay10_eq, pay86_eq]
  refine congrArg (fun a : EReal => a + (x6 (ix2 0 l) : EReal) * x0 (ix3 0 r l)) ?_
  exact cat_eq (fun q => outMat S x5 q.val) r l

/-! ## The steps of one point -/

section Steps

/-- The state array's entry, of the reference's state. -/
def rowsOf (s : Fin 32 → Fin 64 → EReal × EReal) (j : Fin 8) (l : Fin 512) : EReal :=
  part j.val (s ⟨j.val % 4 * 8 + l.val / 64, by omega⟩ ⟨l.val % 64, by omega⟩)

/-- The block holds tokens `256 t` onwards. -/
abbrev IsU (u : Vec Ideal S1x16384x512 .f32) (x0 : Vec Ideal S1x256x512 .f32) (t : ℕ) : Prop :=
  ∀ (r : Fin 256) (l : Fin 512), (x0 (ix3 0 r l) : EReal) = u (ix3 0 ⟨(256 * t + r.val) % 16384, Nat.mod_lt _ (by decide)⟩ l)

/-- The rows are the transition's real parts. -/
abbrev IsLre (lr : Vec Ideal S32x64 .f32) (x2 : Vec Ideal S8x512 .f32) : Prop :=
  ∀ (j : Fin 8) (l : Fin 512), (x2 (ix2 j l) : EReal) = lr (ix2 ⟨j.val % 4 * 8 + l.val / 64, by omega⟩ ⟨l.val % 64, by omega⟩)

/-- The rows are the transition's imaginary parts, signed. -/
abbrev IsLim (li : Vec Ideal S32x64 .f32) (x3 : Vec Ideal S8x512 .f32) : Prop :=
  ∀ (j : Fin 8) (l : Fin 512), (x3 (ix2 j l) : EReal)
    = if j.val < 4 then -(li (ix2 ⟨j.val % 4 * 8 + l.val / 64, by omega⟩ ⟨l.val % 64, by omega⟩) : EReal)
      else li (ix2 ⟨j.val % 4 * 8 + l.val / 64, by omega⟩ ⟨l.val % 64, by omega⟩)

/-- The slabs are the input weights, block-diagonal. -/
abbrev IsWb (br : Vec Ideal S32x64x16 .f32) (bi : Vec Ideal S32x64x16 .f32) (x4 : Vec Ideal S8x128x512 .bf16) : Prop :=
  ∀ (j : Fin 8) (k : Fin 128) (l : Fin 512), (x4 (ix3 j k l) : EReal)
    = (if j.val < 4 then br else bi) (ix3 ⟨j.val % 4 * 8 + k.val / 16, by omega⟩ ⟨l.val % 64, by omega⟩ ⟨k.val % 16, by omega⟩)
      * (if k.val / 16 = l.val / 64 then (1 : EReal) else 0)

/-- The upper halves are the output weights' real parts, block-diagonal. -/
abbrev IsWcr (cr : Vec Ideal S32x16x64 .f32) (x5 : Vec Ideal S4x1024x128 .bf16) : Prop :=
  ∀ (o : Fin 4) (k : Fin 512) (l : Fin 128), (x5 (ix3 o ⟨k.val, by omega⟩ l) : EReal)
    = (cr (ix3 ⟨o.val * 8 + k.val / 64, by omega⟩ ⟨l.val % 16, by omega⟩ ⟨k.val % 64, by omega⟩) : EReal)
          * (if k.val / 64 = l.val / 16 then (1 : EReal) else 0)

/-- The lower halves are the output weights' imaginary parts, block-diagonal and negated. -/
abbrev IsWci (ci : Vec Ideal S32x16x64 .f32) (x5 : Vec Ideal S4x1024x128 .bf16) : Prop :=
  ∀ (o : Fin 4) (k : Fin 512) (l : Fin 128), (x5 (ix3 o ⟨512 + k.val, by omega⟩ l) : EReal)
    = -((ci (ix3 ⟨o.val * 8 + k.val / 64, by omega⟩ ⟨l.val % 16, by omega⟩ ⟨k.val % 64, by omega⟩) : EReal)
          * (if k.val / 64 = l.val / 16 then (1 : EReal) else 0))

/-- The row is the skip weights. -/
abbrev IsD (d : Vec Ideal S512 .f32) (x6 : Vec Ideal S1x512 .f32) : Prop :=
  ∀ l : Fin 512, (x6 (ix2 0 l) : EReal) = d (ix1 l)

/-- The rows are the state after `256 t` tokens. -/
abbrev IsSt (u : Vec Ideal S1x16384x512 .f32) (hr : Vec Ideal S1x32x64 .f32) (hi : Vec Ideal S1x32x64 .f32) (lr : Vec Ideal S32x64 .f32) (li : Vec Ideal S32x64 .f32) (br : Vec Ideal S32x64x16 .f32) (bi : Vec Ideal S32x64x16 .f32) (h : Vec Ideal S8x512 .f32) (t : ℕ) : Prop :=
  ∀ (j : Fin 8) (l : Fin 512), (h (ix2 j l) : EReal) = rowsOf (refScan u hr hi lr li br bi (256 * t)) j l

variable (u : Vec Ideal S1x16384x512 .f32) (hr hi : Vec Ideal S1x32x64 .f32) (lr li : Vec Ideal S32x64 .f32)
  (br bi : Vec Ideal S32x64x16 .f32) (cr ci : Vec Ideal S32x16x64 .f32) (d : Vec Ideal S512 .f32)
variable (x0 : Vec Ideal S1x256x512 .f32) (x2 x3 : Vec Ideal S8x512 .f32) (x4 : Vec Ideal S8x128x512 .bf16)
  (x5 : Vec Ideal S4x1024x128 .bf16) (x6 : Vec Ideal S1x512 .f32) (h : Vec Ideal S8x512 .f32) (t : ℕ)

variable (h0 : IsU u x0 t) (h2 : IsLre lr x2) (h3 : IsLim li x3) (h4 : IsWb br bi x4) (h5r : IsWcr cr x5) (h5i : IsWci ci x5) (h6 : IsD d x6) (hh : IsSt u hr hi lr li br bi h t)

include h0 h4 in
theorem buMat_eq (j : Fin 8) (r : Fin 256) (l : Fin 512) :
    (buMat x0 x4 j (ix2 r l) : EReal)
      = proj u (if j.val < 4 then br else bi) (256 * t + r.val) ⟨j.val % 4 * 8 + l.val / 64, by omega⟩ ⟨l.val % 64, by omega⟩ := by
  rw [buMat_sum, FinSumWindow.sum_window (16 * (l.val / 64)) (W := 16) (by omega) _ (by
    intro P hP
    rw [h4, if_neg (show ¬ P.val / 16 = l.val / 64 by omega), mul_zero, mul_zero])]
  unfold proj
  refine Finset.sum_congr rfl fun k _ => ?_
  rw [h4, if_pos (show (16 * (l.val / 64) + k.val) / 16 = l.val / 64 by omega), mul_one, h0, mul_comm]
  refine congrArg₂ (fun a b : EReal => a * b) (congrArg _ (ix3_ext _ _ _ _ _ _ ?_ rfl ?_)) (congrArg u (ix3_ext _ _ _ _ _ _ rfl rfl ?_))
  · dsimp; omega
  · dsimp; omega
  · dsimp; omega

include h0 h2 h3 h4 hh in
/-- After `k` steps, the rows are the reference's state after `256 t + k` tokens. -/
theorem hst_eq (k : ℕ) (hk : k ≤ 256) (q : Fin 4) (j : Fin 8) (c : Fin 128) :
    (hst x0 x2 x3 x4 h k q.val (ix2 j c) : EReal) = rowsOf (refScan u hr hi lr li br bi (256 * t + k)) j ⟨128 * q.val + c.val, by omega⟩ := by
  induction k generalizing j with
  | zero =>
    show (h (ix2 j ⟨(128 * q.val + c.val) % 512, _⟩) : EReal) = _
    rw [hh]
    exact congrArg (rowsOf _ j) (Fin.ext (Nat.mod_eq_of_lt (by omega)))
  | succ k ih =>
    show (k0_pay2 (lanes (128 * q.val) x2) (lanes (128 * q.val) x3) (hst x0 x2 x3 x4 h k q.val) (slab (bu x0 x4) q.val k) (ix2 j c) : EReal) = _
    rw [pay2_eq, ih (by omega), ih (by omega)]
    have l2 : (lanes (128 * q.val) x2 (ix2 j c) : EReal) = x2 (ix2 j ⟨128 * q.val + c.val, by omega⟩) :=
      congrArg x2 (ix2_ext _ _ _ _ rfl (Nat.mod_eq_of_lt (by show 128 * q.val + c.val < 512; omega)))
    have l3 : (lanes (128 * q.val) x3 (ix2 j c) : EReal) = x3 (ix2 j ⟨128 * q.val + c.val, by omega⟩) :=
      congrArg x3 (ix2_ext _ _ _ _ rfl (Nat.mod_eq_of_lt (by show 128 * q.val + c.val < 512; omega)))
    have lb : (slab (bu x0 x4) q.val k (ix3 0 j c) : EReal) = buMat x0 x4 j (ix2 ⟨k, by omega⟩ ⟨128 * q.val + c.val, by omega⟩) := by
      show (buMat x0 x4 ⟨(8 * k + j.val) % 2048 % 8, _⟩ (ix2 ⟨(8 * k + j.val) % 2048 / 8, _⟩ ⟨128 * (q.val % 4) + c.val, _⟩) : EReal) = _
      have ej : (⟨(8 * k + j.val) % 2048 % 8, Nat.mod_lt _ (by decide)⟩ : Fin 8) = j := Fin.ext (by show (8 * k + j.val) % 2048 % 8 = j.val; omega)
      rw [ej]
      exact congrArg (buMat x0 x4 j) (ix2_ext _ _ _ _ (by dsimp; omega) (by dsimp; omega))
    rw [l2, l3, lb, h2, h3, buMat_eq u br bi x0 x4 t h0 h4]
    unfold rowsOf part
    by_cases hj : j.val < 4
    · have hj' : ¬ (j.val + 4) % 8 < 4 := by omega
      simp only [hj, hj', if_true, if_false]
      show _ = (_ : EReal) * _ - _ * _ + _
      rw [sub_eq_add_neg, EReal.neg_mul]
      have e4 : (j.val + 4) % 8 % 4 = j.val % 4 := by omega
      simp only [e4]
      rfl
    · have hj' : (j.val + 4) % 8 < 4 := by omega
      simp only [hj, hj', if_true, if_false]
      have e4 : (j.val + 4) % 8 % 4 = j.val % 4 := by omega
      simp only [e4]
      rfl

include h0 h2 h3 h4 hh in
theorem hOut_eq (j : Fin 8) (l : Fin 512) :
    (hOut x0 x2 x3 x4 h (ix2 j l) : EReal) = rowsOf (refScan u hr hi lr li br bi (256 * (t + 1))) j l := by
  have key : ∀ (q : Fin 4) (a : Fin 128), l.val = q.val * 128 + a.val →
      (hst x0 x2 x3 x4 h 256 q.val (ix2 j a) : EReal) = rowsOf (refScan u hr hi lr li br bi (256 * (t + 1))) j l := by
    intro q a e
    rw [hst_eq u hr hi lr li br bi x0 x2 x3 x4 h t h0 h2 h3 h4 hh 256 le_rfl q j a]
    exact congrArg (rowsOf _ j) (Fin.ext (by dsimp; omega))
  exact (cat8_eq (fun q => hst x0 x2 x3 x4 h 256 q.val) j l).trans (key ⟨l.val / 128, by omega⟩ ⟨l.val % 128, by omega⟩ (by show l.val = l.val / 128 * 128 + l.val % 128; omega))

include h0 h2 h3 h4 hh in
theorem hist_eq (q : Fin 4) (j : Fin 8) (r : Fin 256) (c : Fin 128) (y : Fin 2048) (hy : y.val = j.val + 8 * r.val) :
    (hist x0 x2 x3 x4 h 256 (ix3 q y c) : EReal)
      = rowsOf (refScan u hr hi lr li br bi (256 * t + (r.val + 1))) j ⟨128 * q.val + c.val, by omega⟩ := by
  show ((if y.val < 8 * 256 then hst x0 x2 x3 x4 h (y.val / 8 + 1) q.val (ix2 ⟨y.val % 8, _⟩ c) else _) : EReal) = _
  rw [if_pos (by omega), ← hst_eq u hr hi lr li br bi x0 x2 x3 x4 h t h0 h2 h3 h4 hh (r.val + 1) (by omega) q j c]
  have e1 : y.val / 8 = r.val := by omega
  have e2 : (⟨y.val % 8, Nat.mod_lt _ (by decide)⟩ : Fin 8) = j := Fin.ext (by dsimp; omega)
  rw [e1, e2]

include h0 h2 h3 h4 h5r h5i h6 hh in
theorem yOut_value (ht : t < 64) (r : Fin 256) (l : Fin 512) :
    (yOut x0 (hist x0 x2 x3 x4 h 256) x5 x6 (ix3 0 r l) : EReal)
      = outAt u cr ci d (refScan u hr hi lr li br bi) ⟨256 * t + r.val, by omega⟩ ⟨l.val / 16, by omega⟩ ⟨l.val % 16, by omega⟩ := by
  have hl : (⟨l.val / 16 * 16 + l.val % 16, by omega⟩ : Fin 512) = l := Fin.ext (by show l.val / 16 * 16 + l.val % 16 = l.val; omega)
  have hm : (⟨(256 * t + r.val) % 16384, Nat.mod_lt _ (by decide)⟩ : Fin 16384) = ⟨256 * t + r.val, by omega⟩ :=
    Fin.ext (Nat.mod_eq_of_lt (by omega))
  have main : ∀ (o : Fin 4) (c : Fin 128) (g : Fin 32) (k : Fin 16), g.val = o.val * 8 + c.val / 16 → k.val = c.val % 16 →
      (outMat (hist x0 x2 x3 x4 h 256) x5 o.val (ix2 r c) : EReal)
        = (∑ p : Fin 64, (cr (ix3 g k p) : EReal) * (refScan u hr hi lr li br bi (256 * t + r.val + 1) g p).1)
          + ∑ p : Fin 64, -(ci (ix3 g k p) : EReal) * (refScan u hr hi lr li br bi (256 * t + r.val + 1) g p).2 := by
    intro o c g k hg hk
    rw [outMat_parts]
    refine congrArg₂ (fun a b : EReal => a + b) ?_ ?_
    · rw [FinSumWindow.sum_window (64 * (c.val / 16)) (W := 64) (by omega) _ (by
        intro P hP
        rw [h5r, if_neg (show ¬ P.val / 64 = c.val / 16 by omega), mul_zero, mul_zero])]
      refine Finset.sum_congr rfl fun p _ => ?_
      have hp := p.isLt
      rw [h5r, if_pos (show (64 * (c.val / 16) + p.val) / 64 = c.val / 16 by omega), mul_one, mul_comm,
        hist_eq u hr hi lr li br bi x0 x2 x3 x4 h t h0 h2 h3 h4 hh _ ⟨o.val, by omega⟩ r _ _ rfl]
      unfold rowsOf part
      rw [if_pos (show o.val < 4 from o.isLt)]
      refine congrArg₂ (fun a b : EReal => a * b) (congrArg cr (ix3_ext _ _ _ _ _ _ ?_ ?_ ?_)) ?_
      · show o.val * 8 + (64 * (c.val / 16) + p.val) / 64 = g.val; omega
      · show c.val % 16 = k.val; omega
      · show (64 * (c.val / 16) + p.val) % 64 = p.val; omega
      · refine congrArg Prod.fst (congrArg₂ (refScan u hr hi lr li br bi (256 * t + r.val + 1)) (Fin.ext ?_) (Fin.ext ?_))
        · show o.val % 4 * 8 + (128 * ((64 * (c.val / 16) + p.val) / 128) + (64 * (c.val / 16) + p.val) % 128) / 64 = g.val; omega
        · show (128 * ((64 * (c.val / 16) + p.val) / 128) + (64 * (c.val / 16) + p.val) % 128) % 64 = p.val; omega
    · rw [FinSumWindow.sum_window (64 * (c.val / 16)) (W := 64) (by omega) _ (by
        intro P hP
        rw [h5i, if_neg (show ¬ P.val / 64 = c.val / 16 by omega), mul_zero, neg_zero, mul_zero])]
      refine Finset.sum_congr rfl fun p _ => ?_
      have hp := p.isLt
      rw [h5i, if_pos (show (64 * (c.val / 16) + p.val) / 64 = c.val / 16 by omega), mul_one, mul_comm,
        hist_eq u hr hi lr li br bi x0 x2 x3 x4 h t h0 h2 h3 h4 hh _ ⟨o.val + 4, by omega⟩ r _ _ rfl]
      unfold rowsOf part
      rw [if_neg (show ¬ o.val + 4 < 4 by omega)]
      refine congrArg₂ (fun a b : EReal => -a * b) (congrArg ci (ix3_ext _ _ _ _ _ _ ?_ ?_ ?_)) ?_
      · show o.val * 8 + (64 * (c.val / 16) + p.val) / 64 = g.val; omega
      · show c.val % 16 = k.val; omega
      · show (64 * (c.val / 16) + p.val) % 64 = p.val; omega
      · refine congrArg Prod.snd (congrArg₂ (refScan u hr hi lr li br bi (256 * t + r.val + 1)) (Fin.ext ?_) (Fin.ext ?_))
        · show (o.val + 4) % 4 * 8 + (128 * ((64 * (c.val / 16) + p.val) / 128) + (64 * (c.val / 16) + p.val) % 128) / 64 = g.val; omega
        · show (128 * ((64 * (c.val / 16) + p.val) / 128) + (64 * (c.val / 16) + p.val) % 128) % 64 = p.val; omega
  rw [yOut_eq, h6, h0, hm]
  unfold outAt
  rw [hl]
  refine congrArg (fun a : EReal => a + _) ?_
  exact main ⟨l.val / 128, by omega⟩ ⟨l.val % 128, by omega⟩ _ _
    (by show l.val / 16 = l.val / 128 * 8 + l.val % 128 / 16; omega) (by show l.val % 16 = l.val % 128 % 16; omega)

end Steps

end Cert.KernelIdeal.Hand

end
-- ==== Proof.S5.Result.lean ====
/-
  The two arrays of the recurrence's call after the run: the output of every token and the last state, as the
  reference defines them.
-/
module

public import proofs.«01_k».proof.Proof.S5.Value

@[expose] public section

set_option maxRecDepth 16384

noncomputable section

namespace Cert.KernelIdeal.Hand

open Cert.KernelIdeal Cert.KernelIdeal.Gen Idealize.ShloMosaic Idealize.ShloMosaic.TcCoe Idealize.SL.Sem
open Cert.ReferenceIdeal.Hand (proj outAt)
open Cert.ReferenceIdeal.Hand renaming scan → refScan

variable (m : (ℓ : Loc nD τ sig) → Buf (Elt Ideal) ℓ)

/-- Where each window stands at a grid point: the token windows at the point, the others at the origin. -/
theorem idx_facts : ∀ t : Fin cfg0.N,
    (win0_0.index t 0 = 0 ∧ win0_0.index t 1 = t.val ∧ win0_0.index t 2 = 0)
    ∧ (win0_1.index t 0 = 0 ∧ win0_1.index t 1 = 0 ∧ win0_1.index t 2 = 0)
    ∧ (win0_2.index t 0 = 0 ∧ win0_2.index t 1 = 0)
    ∧ (win0_3.index t 0 = 0 ∧ win0_3.index t 1 = 0)
    ∧ (win0_4.index t 0 = 0 ∧ win0_4.index t 1 = 0 ∧ win0_4.index t 2 = 0)
    ∧ (win0_5.index t 0 = 0 ∧ win0_5.index t 1 = 0 ∧ win0_5.index t 2 = 0)
    ∧ (win0_6.index t 0 = 0 ∧ win0_6.index t 1 = 0)
    ∧ (win0_7.index t 0 = 0 ∧ win0_7.index t 1 = t.val ∧ win0_7.index t 2 = 0)
    ∧ (win0_8.index t 0 = 0 ∧ win0_8.index t 1 = 0 ∧ win0_8.index t 2 = 0) :=
  (by decide +kernel : ∀ t : Fin grid0.N, _)

variable (c : Dev nD) (t : Fin cfg0.N)

/-! ## The blocks that a point reads -/

theorem blk0 (r : Fin 256) (l : Fin 512) :
    (iblk m c 0 t (ix3 0 r l) : EReal) = argU m c (ix3 0 ⟨(256 * t.val + r.val) % 16384, Nat.mod_lt _ (by decide)⟩ l) := by
  obtain ⟨h, -⟩ := idx_facts t
  have ht : t.val < 64 := Nat.lt_of_lt_of_eq t.isLt N_0
  unfold iblk
  rw [View.read_apply]
  show _ = m ((c : Thread nD τ).loc main_arg0) _
  rw [← V_main_arg0 m c]
  refine congrArg (V m c main_arg0) (funext fun a => Fin.ext ?_)
  match a with
  | ⟨0, _⟩ => show win0_0.index t 0 * 1 + 1 * 0 = 0; rw [h.1]
  | ⟨1, _⟩ => show win0_0.index t 1 * 256 + 1 * r.val = (256 * t.val + r.val) % 16384; rw [h.2.1]; omega
  | ⟨2, _⟩ => show win0_0.index t 2 * 512 + 1 * l.val = l.val; rw [h.2.2]; omega

theorem blk1 : iblk m c 1 t = V m c main_v62 := by
  obtain ⟨-, h, -⟩ := idx_facts t
  funext j
  unfold iblk
  rw [View.read_apply]
  refine congrArg (V m c main_v62) (funext fun a => Fin.ext ?_)
  match a with
  | ⟨0, _⟩ => show win0_1.index t 0 * 1 + 1 * (j 0).val = (j 0).val; rw [h.1]; omega
  | ⟨1, _⟩ => show win0_1.index t 1 * 8 + 1 * (j 1).val = (j 1).val; rw [h.2.1]; omega
  | ⟨2, _⟩ => show win0_1.index t 2 * 512 + 1 * (j 2).val = (j 2).val; rw [h.2.2]; omega

theorem blk2 : iblk m c 2 t = V m c main_v16 := by
  obtain ⟨-, -, h, -⟩ := idx_facts t
  funext j
  unfold iblk
  rw [View.read_apply]
  refine congrArg (V m c main_v16) (funext fun a => Fin.ext ?_)
  match a with
  | ⟨0, _⟩ => show win0_2.index t 0 * 8 + 1 * (j 0).val = (j 0).val; rw [h.1]; omega
  | ⟨1, _⟩ => show win0_2.index t 1 * 512 + 1 * (j 1).val = (j 1).val; rw [h.2]; omega

theorem blk3 : iblk m c 3 t = V m c main_v18 := by
  obtain ⟨-, -, -, h, -⟩ := idx_facts t
  funext j
  unfold iblk
  rw [View.read_apply]
  refine congrArg (V m c main_v18) (funext fun a => Fin.ext ?_)
  match a with
  | ⟨0, _⟩ => show win0_3.index t 0 * 8 + 1 * (j 0).val = (j 0).val; rw [h.1]; omega
  | ⟨1, _⟩ => show win0_3.index t 1 * 512 + 1 * (j 1).val = (j 1).val; rw [h.2]; omega

theorem blk4 : iblk m c 4 t = V m c main_v40 := by
  obtain ⟨-, -, -, -, h, -⟩ := idx_facts t
  funext j
  unfold iblk
  rw [View.read_apply]
  refine congrArg (V m c main_v40) (funext fun a => Fin.ext ?_)
  match a with
  | ⟨0, _⟩ => show win0_4.index t 0 * 8 + 1 * (j 0).val = (j 0).val; rw [h.1]; omega
  | ⟨1, _⟩ => show win0_4.index t 1 * 128 + 1 * (j 1).val = (j 1).val; rw [h.2.1]; omega
  | ⟨2, _⟩ => show win0_4.index t 2 * 512 + 1 * (j 2).val = (j 2).val; rw [h.2.2]; omega

theorem blk5 : iblk m c 5 t = V m c main_v59 := by
  obtain ⟨-, -, -, -, -, h, -⟩ := idx_facts t
  funext j
  unfold iblk
  rw [View.read_apply]
  refine congrArg (V m c main_v59) (funext fun a => Fin.ext ?_)
  match a with
  | ⟨0, _⟩ => show win0_5.index t 0 * 4 + 1 * (j 0).val = (j 0).val; rw [h.1]; omega
  | ⟨1, _⟩ => show win0_5.index t 1 * 1024 + 1 * (j 1).val = (j 1).val; rw [h.2.1]; omega
  | ⟨2, _⟩ => show win0_5.index t 2 * 128 + 1 * (j 2).val = (j 2).val; rw [h.2.2]; omega

theorem blk6 : iblk m c 6 t = V m c main_v63 := by
  obtain ⟨-, -, -, -, -, -, h, -⟩ := idx_facts t
  funext j
  unfold iblk
  rw [View.read_apply]
  refine congrArg (V m c main_v63) (funext fun a => Fin.ext ?_)
  match a with
  | ⟨0, _⟩ => show win0_6.index t 0 * 1 + 1 * (j 0).val = (j 0).val; rw [h.1]; omega
  | ⟨1, _⟩ => show win0_6.index t 1 * 512 + 1 * (j 1).val = (j 1).val; rw [h.2]; omega

/-! ## Their entries -/

theorem h0_read (j : Fin 8) (l : Fin 512) :
    (V m c main_v62 (ix3 0 j l) : EReal) = rowsOf (refScan (argU m c) (argHr m c) (argHi m c) (argLr m c) (argLi m c) (argBr m c) (argBi m c) 0) j l := by
  rw [entry_h0]
  show _ = part j.val (argHr m c (ix3 0 _ _), argHi m c (ix3 0 _ _))
  pointwise [part]
  have hj := j.isLt
  by_cases h : j.val < 4
  · rw [dif_pos h, if_pos h]
    exact congrArg (argHr m c) (ix3_ext _ _ _ _ _ _ rfl (by dsimp; omega) rfl)
  · rw [dif_neg h, if_neg h]
    exact congrArg (argHi m c) (ix3_ext _ _ _ _ _ _ rfl (by dsimp; omega) rfl)

theorem lre_read (j : Fin 8) (l : Fin 512) :
    (V m c main_v16 (ix2 j l) : EReal) = argLr m c (ix2 ⟨j.val % 4 * 8 + l.val / 64, by omega⟩ ⟨l.val % 64, by omega⟩) := by
  rw [entry_lre]
  generalize hA : lamArr (argLr m c) = A
  pointwise []
  have hj := j.isLt
  by_cases h : j.val < 4
  · rw [dif_pos h, ← hA, lamArr_eq]
    exact congrArg (argLr m c) (ix2_ext _ _ _ _ (by dsimp; omega) rfl)
  · rw [dif_neg h, ← hA, lamArr_eq]
    exact congrArg (argLr m c) (ix2_ext _ _ _ _ (by dsimp; omega) rfl)

theorem lim_read (j : Fin 8) (l : Fin 512) :
    (V m c main_v18 (ix2 j l) : EReal)
      = if j.val < 4 then -(argLi m c (ix2 ⟨j.val % 4 * 8 + l.val / 64, by omega⟩ ⟨l.val % 64, by omega⟩) : EReal)
        else argLi m c (ix2 ⟨j.val % 4 * 8 + l.val / 64, by omega⟩ ⟨l.val % 64, by omega⟩) := by
  rw [entry_lim]
  generalize hA : lamArr (argLi m c) = A
  pointwise []
  have hj := j.isLt
  by_cases h : j.val < 4
  · rw [dif_pos h, if_pos h, ← hA, lamArr_eq]
    exact congrArg (fun x : EReal => -x) (congrArg (argLi m c) (ix2_ext _ _ _ _ (by dsimp; omega) rfl))
  · rw [dif_neg h, if_neg h, ← hA, lamArr_eq]
    exact congrArg (argLi m c) (ix2_ext _ _ _ _ (by dsimp; omega) rfl)

theorem eye_read (a b : ℕ) (ha : a < 8) (hb : b < 8) : (eyeArr (ix2 ⟨a, ha⟩ ⟨b, hb⟩) : EReal) = if a = b then 1 else 0 := by
  rw [eyeArr_eq]
  simp only [Fin.mk.injEq]

theorem wb_read (j : Fin 8) (k : Fin 128) (l : Fin 512) :
    (V m c main_v40 (ix3 j k l) : EReal)
      = (if j.val < 4 then argBr m c else argBi m c) (ix3 ⟨j.val % 4 * 8 + k.val / 16, by omega⟩ ⟨l.val % 64, by omega⟩ ⟨k.val % 16, by omega⟩)
        * (if k.val / 16 = l.val / 64 then (1 : EReal) else 0) := by
  rw [entry_wb]
  generalize hA : wbArr (argBr m c) = A
  generalize hB : wbArr (argBi m c) = B
  pointwise []
  have hj := j.isLt
  by_cases h : j.val < 4
  · rw [dif_pos h, if_pos h, ← hA, wbArr_eq, eye_read]
    exact congrArg (fun x : EReal => x * _) (congrArg (argBr m c) (ix3_ext _ _ _ _ _ _ (by dsimp; omega) rfl rfl))
  · rw [dif_neg h, if_neg h, ← hB, wbArr_eq, eye_read]
    exact congrArg (fun x : EReal => x * _) (congrArg (argBi m c) (ix3_ext _ _ _ _ _ _ (by dsimp; omega) rfl rfl))

theorem wcr_read (o : Fin 4) (k : Fin 512) (l : Fin 128) :
    (V m c main_v59 (ix3 o ⟨k.val, by omega⟩ l) : EReal)
      = (argCr m c (ix3 ⟨o.val * 8 + k.val / 64, by omega⟩ ⟨l.val % 16, by omega⟩ ⟨k.val % 64, by omega⟩) : EReal)
        * (if k.val / 64 = l.val / 16 then (1 : EReal) else 0) := by
  rw [entry_wc]
  generalize hA : wcArr (argCr m c) = A
  generalize wcArr (argCi m c) = B
  pointwise []
  rw [← hA, wcArr_eq, eye_read]

theorem wci_read (o : Fin 4) (k : Fin 512) (l : Fin 128) :
    (V m c main_v59 (ix3 o ⟨512 + k.val, by omega⟩ l) : EReal)
      = -((argCi m c (ix3 ⟨o.val * 8 + k.val / 64, by omega⟩ ⟨l.val % 16, by omega⟩ ⟨k.val % 64, by omega⟩) : EReal)
        * (if k.val / 64 = l.val / 16 then (1 : EReal) else 0)) := by
  rw [entry_wc]
  generalize wcArr (argCr m c) = A
  generalize hB : wcArr (argCi m c) = B
  pointwise []
  rw [← hB, wcArr_eq, eye_read]

theorem d_read (l : Fin 512) : (V m c main_v63 (ix2 0 l) : EReal) = argD m c (ix1 l) := by
  rw [entry_d]
  pointwise []

/-! ## The state in front of every point -/

/-- The reference's states, at the kernel's arguments. -/
abbrev st : ℕ → Fin 32 → Fin 64 → EReal × EReal :=
  refScan (argU m c) (argHr m c) (argHi m c) (argLr m c) (argLi m c) (argBr m c) (argBi m c)

theorem pay9_eq (X : Vec Ideal S1x8x512 .f32) (j : Fin 8) (l : Fin 512) : (k0_pay9 X (ix2 j l) : EReal) = X (ix3 0 j l) := by
  pointwise [k0_pay9]

theorem out_step (t : Fin cfg0.N) (h : Vec Ideal S8x512 .f32)
    (hh : ∀ (j : Fin 8) (l : Fin 512), (h (ix2 j l) : EReal) = rowsOf (st m c (256 * t.val)) j l) (j : Fin 8) (l : Fin 512) :
    (hOut (iblk m c 0 t) (iblk m c 2 t) (iblk m c 3 t) (iblk m c 4 t) h (ix2 j l) : EReal) = rowsOf (st m c (256 * (t.val + 1))) j l :=
  hOut_eq (argU m c) (argHr m c) (argHi m c) (argLr m c) (argLi m c) (argBr m c) (argBi m c) (iblk m c 0 t) (iblk m c 2 t) (iblk m c 3 t)
    (iblk m c 4 t) h t.val (blk0 m c t) (by rw [blk2]; exact lre_read m c) (by rw [blk3]; exact lim_read m c) (by rw [blk4]; exact wb_read m c)
    hh j l

theorem hAt_eq (n : ℕ) (hn : n ≤ 64) (j : Fin 8) (l : Fin 512) : (hAt m c n (ix2 j l) : EReal) = rowsOf (st m c (256 * n)) j l := by
  induction n generalizing j l with
  | zero =>
    show (k0_pay9 (iblk m c 1 (pt 0)) (ix2 j l) : EReal) = _
    rw [pay9_eq, blk1]
    exact h0_read m c j l
  | succ n ih =>
    have e : (pt n).val = n := by show min n 63 = n; omega
    have h := out_step m c (pt n) (hAt m c n) (by rw [e]; exact ih (by omega)) j l
    rw [e] at h
    exact h

/-! ## The arrays after the run -/

theorem idx_inj7 : ∀ t t' : Fin cfg0.N, win0_7.index t = win0_7.index t' → t = t' :=
  (by decide +kernel : ∀ t t' : Fin grid0.N, win0_7.index t = win0_7.index t' → t = t')

theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

theorem disjoint8 : ∀ t t' : Fin cfg0.N, (cfg0.win 8).flush t = true → (cfg0.win 8).flush t' = true → t ≠ t' →
    Disjoint ((cfg0.win 8).blk t).view.set ((cfg0.win 8).blk t').view.set := fun t t' h h' hne => by
  have a := (flush0_8 t).1 h
  have b := (flush0_8 t').1 h'
  have h1 : t.val < 64 := Nat.lt_of_lt_of_eq t.isLt N_0
  have h2 : t'.val < 64 := Nat.lt_of_lt_of_eq t'.isLt N_0
  exact absurd (Fin.ext (by omega)) hne

theorem result7 (n : Fin 16384) (l : Fin 512) :
    ((dats m 0 c).arrAt 7 cfg0.N (ix3 0 n l) : EReal)
      = outAt (argU m c) (argCr m c) (argCi m c) (argD m c) (st m c) n ⟨l.val / 16, by omega⟩ ⟨l.val % 16, by omega⟩ := by
  have hN : cfg0.N = 64 := N_0
  let t : Fin cfg0.N := ⟨n.val / 256, by have := n.isLt; omega⟩
  let r : Fin 256 := ⟨n.val % 256, Nat.mod_lt _ (by norm_num)⟩
  have ht : t.val < 64 := by show n.val / 256 < 64; omega
  have hn : n.val = 256 * t.val + r.val := by show n.val = 256 * (n.val / 256) + n.val % 256; omega
  have hb := congrFun ((dats m 0 c).read_blk_arrAt_eq_flushed 7 disjoint7 cfg0.N t t.isLt (flush0_7 t)) (ix3 0 r l)
  rw [View.read_apply] at hb
  have hi : (((cfg0.win 7).blk t).view.emb (ix3 0 r l)) = ix3 0 n l := by
    obtain ⟨-, -, -, -, -, -, -, h, -⟩ := idx_facts t
    refine funext fun a => Fin.ext ?_
    match a with
    | ⟨0, _⟩ => show win0_7.index t 0 * 1 + 1 * 0 = 0; rw [h.1]
    | ⟨1, _⟩ => show win0_7.index t 1 * 256 + 1 * r.val = n.val; rw [h.2.1]; omega
    | ⟨2, _⟩ => show win0_7.index t 2 * 512 + 1 * l.val = l.val; rw [h.2.2]; omega
  rw [hi] at hb
  refine hb.trans ?_
  show (dats m 0 c).after 7 t (ix3 0 r l) = _
  rw [after0_7]
  refine (yOut_value (argU m c) (argHr m c) (argHi m c) (argLr m c) (argLi m c) (argBr m c) (argBi m c) (argCr m c) (argCi m c) (argD m c)
    (iblk m c 0 t) (iblk m c 2 t) (iblk m c 3 t) (iblk m c 4 t) (iblk m c 5 t) (iblk m c 6 t) (hAt m c t.val) t.val (blk0 m c t)
    (by rw [blk2]; exact lre_read m c) (by rw [blk3]; exact lim_read m c) (by rw [blk4]; exact wb_read m c)
    (by rw [blk5]; exact wcr_read m c) (by rw [blk5]; exact wci_read m c) (by rw [blk6]; exact d_read m c) (hAt_eq m c t.val (by omega)) ht r l).trans ?_
  have e : (⟨256 * t.val + r.val, by omega⟩ : Fin 16384) = n := Fin.ext hn.symm
  rw [e]

theorem result8 (j : Fin 8) (l : Fin 512) :
    ((dats m 0 c).arrAt 8 cfg0.N (ix3 0 j l) : EReal) = rowsOf (st m c 16384) j l := by
  have hN : cfg0.N = 64 := N_0
  let t : Fin cfg0.N := ⟨63, by omega⟩
  have hb := congrFun ((dats m 0 c).read_blk_arrAt_eq_flushed 8 disjoint8 cfg0.N t t.isLt ((flush0_8 t).2 rfl)) (ix3 0 j l)
  rw [View.read_apply] at hb
  have hi : (((cfg0.win 8).blk t).view.emb (ix3 0 j l)) = ix3 0 j l := by
    obtain ⟨-, -, -, -, -, -, -, -, h⟩ := idx_facts t
    refine funext fun a => Fin.ext ?_
    match a with
    | ⟨0, _⟩ => show win0_8.index t 0 * 1 + 1 * 0 = 0; rw [h.1]
    | ⟨1, _⟩ => show win0_8.index t 1 * 8 + 1 * j.val = j.val; rw [h.2.1]; omega
    | ⟨2, _⟩ => show win0_8.index t 2 * 512 + 1 * l.val = l.val; rw [h.2.2]; omega
  rw [hi] at hb
  refine hb.trans ?_
  show (dats m 0 c).after 8 t (ix3 0 j l) = _
  rw [after0_8]
  have e : ∀ X : FVec Ideal S8x512 .f32, (shapeCast S1x8x512 X shapeCasts_S8x512_S1x8x512 (ix3 0 j l) : EReal) = X (ix2 j l) := fun X => by
    pointwise []
  unfold hTile
  rw [e]
  exact out_step m c t _ (hAt_eq m c 63 (by omega)) j l

/-! ## The reference's two arrays, indexed the same way -/

theorem ref7 (m' : (ℓ : Loc Cert.ReferenceIdeal.nD Cert.ReferenceIdeal.τ Cert.ReferenceIdeal.sig) → Buf (Elt Ideal) ℓ) (c : Dev Cert.ReferenceIdeal.nD)
    (n : Fin 16384) (l : Fin 512) :
    (Cert.ReferenceIdeal.Value.out_main_v20 (Cert.ReferenceIdeal.Hand.at_ m' c 16384) : Vec Ideal S1x16384x512 .f32) (ix3 0 n l)
      = outAt (Cert.ReferenceIdeal.Hand.argU m' c) (Cert.ReferenceIdeal.Hand.argCr m' c) (Cert.ReferenceIdeal.Hand.argCi m' c)
        (Cert.ReferenceIdeal.Hand.argD m' c) (Cert.ReferenceIdeal.Hand.sc m' c) n ⟨l.val / 16, by omega⟩ ⟨l.val % 16, by omega⟩ := by
  have h := Cert.ReferenceIdeal.Hand.out_eq m' c n ⟨l.val / 16, by omega⟩ ⟨l.val % 16, by omega⟩
  have el : (⟨l.val / 16 * 16 + l.val % 16, by omega⟩ : Fin 512) = l := Fin.ext (by show l.val / 16 * 16 + l.val % 16 = l.val; omega)
  refine Eq.trans (congrArg (fun k : Fin 512 =>
    (Cert.ReferenceIdeal.Value.out_main_v20 (Cert.ReferenceIdeal.Hand.at_ m' c 16384) : Vec Ideal S1x16384x512 .f32) (ix3 0 n k)) el.symm) h

theorem ref8 (m' : (ℓ : Loc Cert.ReferenceIdeal.nD Cert.ReferenceIdeal.τ Cert.ReferenceIdeal.sig) → Buf (Elt Ideal) ℓ) (c : Dev Cert.ReferenceIdeal.nD)
    (j : Fin 8) (l : Fin 512) :
    (Cert.ReferenceIdeal.Value.out_main_v23 (Cert.ReferenceIdeal.Hand.at_ m' c 16384) : Vec Ideal S1x8x512 .f32) (ix3 0 j l)
      = rowsOf (Cert.ReferenceIdeal.Hand.sc m' c 16384) j l := by
  have h := Cert.ReferenceIdeal.Hand.last_eq m' c ⟨j.val % 4, by omega⟩ l
  unfold rowsOf part
  by_cases hj : j.val < 4
  · rw [if_pos hj]
    have ej : (⟨j.val % 4, by omega⟩ : Fin 8) = j := Fin.ext (by show j.val % 4 = j.val; omega)
    exact Eq.trans (congrArg (fun k : Fin 8 =>
      (Cert.ReferenceIdeal.Value.out_main_v23 (Cert.ReferenceIdeal.Hand.at_ m' c 16384) : Vec Ideal S1x8x512 .f32) (ix3 0 k l)) ej.symm) h.1
  · rw [if_neg hj]
    have ej : (⟨j.val % 4 + 4, by omega⟩ : Fin 8) = j := Fin.ext (by show j.val % 4 + 4 = j.val; omega)
    exact Eq.trans (congrArg (fun k : Fin 8 =>
      (Cert.ReferenceIdeal.Value.out_main_v23 (Cert.ReferenceIdeal.Hand.at_ m' c 16384) : Vec Ideal S1x8x512 .f32) (ix3 0 k l)) ej.symm) h.2

end Cert.KernelIdeal.Hand

end
-- ==== Proof.S5.Claims.lean ====
/-
  The claims of the recurrence's call: the frames, from the one run read at the machine's values and at the ideal ones,
  and that its two arrays are the reference's.
-/
module

public import proofs.«01_k».proof.Defs
public import proofs.«01_k».proof.Proof.Gen.Kernel
public import proofs.«01_k».proof.Proof.S5.Frame
public import proofs.«01_k».proof.Proof.S5.Same
public import proofs.«01_k».proof.Proof.S5.Result
public import proofs.«01_k».proof.Proof.Gen.ReferenceIdeal.Run
public import Idealize.ShloMosaic.Lib.Claim
public import Idealize.ShloMosaic.Lib.Quiescent

@[expose] public section

noncomputable section

namespace Cert.Proof

open Idealize.ShloMosaic Idealize.ShloMosaic.TcCoe Idealize.SL.Sem Cert.KernelIdeal

/-- The frame at the machine's words: the two texts are one program, and the run holds over any numbers. -/
theorem frame_kernel : Cert.quiescent_Kernel := fun m ρ _ => by
  rw [Cert.Kernel.same_defs, Cert.Kernel.same_main]
  exact Cert.KernelIdeal.frame (F := Bits) m ρ

/-- The frame at the ideal numbers. -/
theorem frame_kernelIdeal : Cert.quiescent_KernelIdeal := fun m ρ _ => Cert.KernelIdeal.frame m ρ

/-- The frame of the reference: a host program with one loop and no semaphore. -/
theorem frame_reference : Cert.quiescent_ReferenceIdeal := fun m ρ _ =>
  (θ_run (Cert.ReferenceIdeal.defs (F := Ideal)) _ _).mono
    (fun r h => ⟨fun c => (h c).2.2, sem_eq_zero_of_no_sems (by decide) r.2⟩) (Cert.ReferenceIdeal.Value.run m ρ)

section Args

variable {m : (ℓ : Loc nD τ sig) → Buf (Elt Ideal) ℓ}
  {m' : (ℓ : Loc Cert.ReferenceIdeal.nD Cert.ReferenceIdeal.τ Cert.ReferenceIdeal.sig) → Buf (Elt Ideal) ℓ} {c : Dev nD}

theorem ref_argU (e : m' ((c.tc : Thread Cert.ReferenceIdeal.nD Cert.ReferenceIdeal.τ).loc Cert.ReferenceIdeal.main_arg0) = m ((c.tc : Thread nD τ).loc main_arg0)) :
    Cert.ReferenceIdeal.Hand.argU m' c = Hand.argU m c := e

theorem ref_argHr (e : m' ((c.tc : Thread Cert.ReferenceIdeal.nD Cert.ReferenceIdeal.τ).loc Cert.ReferenceIdeal.main_arg1) = m ((c.tc : Thread nD τ).loc main_arg1)) :
    Cert.ReferenceIdeal.Hand.argHr m' c = Hand.argHr m c := e

theorem ref_argHi (e : m' ((c.tc : Thread Cert.ReferenceIdeal.nD Cert.ReferenceIdeal.τ).loc Cert.ReferenceIdeal.main_arg2) = m ((c.tc : Thread nD τ).loc main_arg2)) :
    Cert.ReferenceIdeal.Hand.argHi m' c = Hand.argHi m c := e

theorem ref_argLr (e : m' ((c.tc : Thread Cert.ReferenceIdeal.nD Cert.ReferenceIdeal.τ).loc Cert.ReferenceIdeal.main_arg3) = m ((c.tc : Thread nD τ).loc main_arg3)) :
    Cert.ReferenceIdeal.Hand.argLr m' c = Hand.argLr m c := e

theorem ref_argLi (e : m' ((c.tc : Thread Cert.ReferenceIdeal.nD Cert.ReferenceIdeal.τ).loc Cert.ReferenceIdeal.main_arg4) = m ((c.tc : Thread nD τ).loc main_arg4)) :
    Cert.ReferenceIdeal.Hand.argLi m' c = Hand.argLi m c := e

theorem ref_argBr (e : m' ((c.tc : Thread Cert.ReferenceIdeal.nD Cert.ReferenceIdeal.τ).loc Cert.ReferenceIdeal.main_arg5) = m ((c.tc : Thread nD τ).loc main_arg5)) :
    Cert.ReferenceIdeal.Hand.argBr m' c = Hand.argBr m c := e

theorem ref_argBi (e : m' ((c.tc : Thread Cert.ReferenceIdeal.nD Cert.ReferenceIdeal.τ).loc Cert.ReferenceIdeal.main_arg6) = m ((c.tc : Thread nD τ).loc main_arg6)) :
    Cert.ReferenceIdeal.Hand.argBi m' c = Hand.argBi m c := e

theorem ref_argCr (e : m' ((c.tc : Thread Cert.ReferenceIdeal.nD Cert.ReferenceIdeal.τ).loc Cert.ReferenceIdeal.main_arg7) = m ((c.tc : Thread nD τ).loc main_arg7)) :
    Cert.ReferenceIdeal.Hand.argCr m' c = Hand.argCr m c := e

theorem ref_argCi (e : m' ((c.tc : Thread Cert.ReferenceIdeal.nD Cert.ReferenceIdeal.τ).loc Cert.ReferenceIdeal.main_arg8) = m ((c.tc : Thread nD τ).loc main_arg8)) :
    Cert.ReferenceIdeal.Hand.argCi m' c = Hand.argCi m c := e

theorem ref_argD (e : m' ((c.tc : Thread Cert.ReferenceIdeal.nD Cert.ReferenceIdeal.τ).loc Cert.ReferenceIdeal.main_arg9) = m ((c.tc : Thread nD τ).loc main_arg9)) :
    Cert.ReferenceIdeal.Hand.argD m' c = Hand.argD m c := e

theorem ref_sc
    (e0 : m' ((c.tc : Thread Cert.ReferenceIdeal.nD Cert.ReferenceIdeal.τ).loc Cert.ReferenceIdeal.main_arg0) = m ((c.tc : Thread nD τ).loc main_arg0))
    (e1 : m' ((c.tc : Thread Cert.ReferenceIdeal.nD Cert.ReferenceIdeal.τ).loc Cert.ReferenceIdeal.main_arg1) = m ((c.tc : Thread nD τ).loc main_arg1))
    (e2 : m' ((c.tc : Thread Cert.ReferenceIdeal.nD Cert.ReferenceIdeal.τ).loc Cert.ReferenceIdeal.main_arg2) = m ((c.tc : Thread nD τ).loc main_arg2))
    (e3 : m' ((c.tc : Thread Cert.ReferenceIdeal.nD Cert.ReferenceIdeal.τ).loc Cert.ReferenceIdeal.main_arg3) = m ((c.tc : Thread nD τ).loc main_arg3))
    (e4 : m' ((c.tc : Thread Cert.ReferenceIdeal.nD Cert.ReferenceIdeal.τ).loc Cert.ReferenceIdeal.main_arg4) = m ((c.tc : Thread nD τ).loc main_arg4))
    (e5 : m' ((c.tc : Thread Cert.ReferenceIdeal.nD Cert.ReferenceIdeal.τ).loc Cert.ReferenceIdeal.main_arg5) = m ((c.tc : Thread nD τ).loc main_arg5))
    (e6 : m' ((c.tc : Thread Cert.ReferenceIdeal.nD Cert.ReferenceIdeal.τ).loc Cert.ReferenceIdeal.main_arg6) = m ((c.tc : Thread nD τ).loc main_arg6)) :
    Cert.ReferenceIdeal.Hand.sc m' c = Hand.st m c := by
  unfold Cert.ReferenceIdeal.Hand.sc
  rw [ref_argU e0, ref_argHr e1, ref_argHi e2, ref_argLr e3, ref_argLi e4, ref_argBr e5, ref_argBi e6]

end Args

/-- The kernel's arrays after the run and the reference's are the same two arrays. -/
theorem algebraic_kernel : Cert.algebraic_KernelIdeal_ReferenceIdeal := fun m ρ m' ρ' _ hargs => by
  refine ⟨fun c => (dats (F := Ideal) m 0 c).arrAt 7 Cert.KernelIdeal.cfg0.N, fun c => (dats (F := Ideal) m 0 c).arrAt 8 Cert.KernelIdeal.cfg0.N, ?_, ?_⟩
  · exact (θ_run (Cert.KernelIdeal.defs (F := Ideal)) _ _).mono
      (fun r h c => ⟨(h.1 c).1 7, (h.1 c).1 8, h.2.1 c⟩)
      (θ_run_and ((θ_run Cert.KernelIdeal.defs _ _).mono (fun _ h => h.1) (run_main m ρ)) (Cert.KernelIdeal.frame m ρ))
  · refine (θ_run (Cert.ReferenceIdeal.defs (F := Ideal)) _ _).mono (fun r h c => ⟨(h c).1.trans ?_, (h c).2.1.trans ?_, (h c).2.2⟩)
      (Cert.ReferenceIdeal.Value.run m' ρ')
    · obtain ⟨e0, e1, e2, e3, e4, e5, e6, e7, e8, e9⟩ := hargs c
      funext i
      obtain ⟨a, n, l, rfl⟩ : ∃ (a : Fin 1) (n : Fin 16384) (l : Fin 512), i = ix3 a n l := ⟨i 0, i 1, i 2, (ix3_eta i).symm⟩
      obtain rfl : a = 0 := Subsingleton.elim _ _
      refine (Hand.ref7 m' c n l).trans (Eq.trans ?_ (Hand.result7 m c n l).symm)
      rw [ref_argU e0, ref_argCr e7, ref_argCi e8, ref_argD e9, ref_sc e0 e1 e2 e3 e4 e5 e6]
    · obtain ⟨e0, e1, e2, e3, e4, e5, e6, e7, e8, e9⟩ := hargs c
      funext i
      obtain ⟨a, j, l, rfl⟩ : ∃ (a : Fin 1) (j : Fin 8) (l : Fin 512), i = ix3 a j l := ⟨i 0, i 1, i 2, (ix3_eta i).symm⟩
      obtain rfl : a = 0 := Subsingleton.elim _ _
      refine (Hand.ref8 m' c j l).trans (Eq.trans ?_ (Hand.result8 m c j l).symm)
      rw [ref_sc e0 e1 e2 e3 e4 e5 e6]

end Cert.Proof

end
-- ==== Proof.InEven.Same.lean ====
/- The recurrence layer's first program at the chip's words and at the reals is one text, printed once for each. Here the two
   texts are shown to be one program: what is proved of the second over any numbers then holds of the first. -/
module

public import proofs.«01_k».proof.Proof.Gen.InEven.Launch
public import proofs.«01_k».proof.Proof.Gen.InEvenIdeal.Launch

@[expose] public section

set_option maxHeartbeats 0

namespace Cert.InEven

open Idealize.ShloMosaic Idealize.SL.Sem

variable {F : FTy → Type} [FloatOps F]

/-- The body tables of the two texts agree. -/
theorem same_defs₀ : Cert.InEven.defs₀ (F := F) = Cert.InEvenIdeal.defs₀ (F := F) := by
  unfold Cert.InEven.defs₀ Cert.InEvenIdeal.defs₀
  refine congrArg Defs.onTc ?_
  funext k a
  match k, a with
  | 0, a => rfl
  | ⟨_+1, h⟩, _ => exact absurd h (by omega)

/-- So do the tables with the pipeline's own labels. -/
theorem same_defs : Cert.InEven.defs (F := F) = Cert.InEvenIdeal.defs (F := F) := by
  unfold Cert.InEven.defs Cert.InEvenIdeal.defs
  rw [same_defs₀]
  rfl

/-- The whole host functions agree. -/
theorem same_main : Cert.InEven.main (F := F) = Cert.InEvenIdeal.main (F := F) := by
  funext c
  rfl

end Cert.InEven
-- ==== Proof.InEven.Step.lean ====
/-
  The convolution layer's input product: what one grid point computes from its blocks and the two rows carried from the
  point before, and what the scratch holds around its loads.
-/
module

public import proofs.«01_k».proof.Proof.Gen.InEvenIdeal.Skeleton
public import Idealize.ShloMosaic.Lib.Pipeline.FrameBody
public import Idealize.ShloMosaic.Lib.Pipeline.Value
public import Idealize.ShloMosaic.Lib.WritesUnit
public import Idealize.ShloMosaic.Lib.VecWindow
public import Idealize.ShloMosaic.Lib.Pointwise
public import Idealize.ShloMosaic.Lib.Pipeline.ValueKit.Tiles

@[expose] public section

set_option maxRecDepth 16384

noncomputable section

namespace Cert.InEvenIdeal

open Idealize.ShloMosaic Idealize.ShloMosaic.TcCoe
open Idealize.SL Idealize.SL.Sem
open Gen

variable {F : FTy → Type} [FloatOps F]

/-- The tile's rows moved down by `s` (one or two), the carried rows' last `s` in front. -/
def shifted (s : ℕ) (h : Vec F S1x2x512 .f32) (f : Vec F S1x512x512 .f32) : Vec F S1x512x512 .f32 := fun y =>
  if (y 1).val < s then h (ix3 0 ⟨((y 1).val + 2 - s) % 2, Nat.mod_lt _ (by decide)⟩ (y 2))
  else f (ix3 0 ⟨(y 1).val - s, lt_of_le_of_lt (Nat.sub_le _ _) (y 1).isLt⟩ (y 2))

/-- The tile's last two rows. -/
def tailOf (f : Vec F S1x512x512 .f32) : Vec F S1x2x512 .f32 := fun y =>
  f (ix3 0 ⟨510 + (y 1).val, Nat.add_lt_add_left (y 1).isLt 510⟩ (y 2))

/-- The scratch holds the carried rows in its rows six and seven. -/
abbrev Carries (d : Vec F S1x520x512 .f32) (h : Vec F S1x2x512 .f32) : Prop :=
  ∀ (j : Fin 2) (k : Fin 512), d (ix3 0 ⟨6 + j.val, lt_trans (Nat.add_lt_add_left j.isLt 6) (by decide)⟩ k) = h (ix3 0 j k)

variable (x0 : Vec F S1x512x1024 .f32) (x1 : Vec F S1x1x3072 .f32) (x2 : Vec F S1x1024 .f32) (x3 : Vec F S1024x3072 .bf16)

/-- The first result's tile. -/
def yaOut (x4 : Vec F S3x512 .f32) (x5 : Vec F S1x512 .f32) (h : Vec F S1x2x512 .f32) : Vec F S1x512x512 .f32 :=
  k0_pay11 (k0_pay5 x1 x0 x2 x3) (k0_pay6 x1 x0 x2 x3) (k0_pay9 x1 x0 x2 x3) (shifted 1 h (k0_pay9 x1 x0 x2 x3))
    (shifted 2 h (k0_pay9 x1 x0 x2 x3)) x4 x5

/-- The second result's tile. -/
def uOut : Vec F S1x512x512 .f32 := k0_pay12 (k0_pay7 x1 x0 x2 x3)

/-- The third result's tile. -/
def sOut : Vec F S1x512x512 .f32 := k0_pay1 (k0_pay8 x1 x0 x2 x3)

/-- The rows carried to the next point, which are also the fourth result. -/
def hOut : Vec F S1x2x512 .f32 := tailOf (k0_pay9 x1 x0 x2 x3)

/-- The point is the first, as the kernel tests it. -/
abbrev isFirst (i : grid0.Coords) : Prop :=
  (Scalar.cmpi .ne (Scalar.extui (Scalar.cmpi .eq (BitVec.ofNat 32 (i 0).val) 0#32)) 0#32) = 1#1

section Loads

variable {sp : Space} (v : View sig .tc sp S1x520x512 .f32) (g : v.ty.Contents (Elt F)) (L : List (View.Piece (Elt F) S1x520x512 .f32))
  (h : Vec F S1x2x512 .f32) (f : Vec F S1x512x512 .f32)

/-- In the tile's rows the scratch is the tile. -/
theorem read_in (inb) (n : Fin 520) (r k : Fin 512) (hn : n.val = 8 + r.val) :
    v.read (Elt F) (v.writes (Elt F) g ((⟨Rect.unit (s := S1x520x512) ![0, 8, 0] S1x512x512.size inb, f⟩ : View.Piece (Elt F) S1x520x512 .f32) :: L)) (ix3 0 n k)
      = f (ix3 0 r k) :=
  View.read_writes_cons_unit_of_mem v g inb f L _ (ix3 0 r k) rfl (fun a => by
    match a with
    | ⟨0, _⟩ => rfl
    | ⟨1, _⟩ => show n.val = 8 + r.val; exact hn
    | ⟨2, _⟩ => show k.val = 0 + k.val; omega)

/-- Below them it is what it was. -/
theorem read_out (inb) (n : Fin 520) (k : Fin 512) (hn : n.val < 8) :
    v.read (Elt F) (v.writes (Elt F) g ((⟨Rect.unit (s := S1x520x512) ![0, 8, 0] S1x512x512.size inb, f⟩ : View.Piece (Elt F) S1x520x512 .f32) :: L)) (ix3 0 n k)
      = v.read (Elt F) (v.writes (Elt F) g L) (ix3 0 n k) :=
  View.read_writes_cons_unit_of_not_mem v g inb f L _ rfl 1 (.inl (by show n.val < 8; exact hn))

theorem load_shift (o s : ℕ) (ho : o + s = 8) (hs : s ≤ 2) (hc : Carries (v.read (Elt F) (v.writes (Elt F) g L)) h) (inb inb') :
    View.ld (v.read (Elt F) (v.writes (Elt F) g ((⟨Rect.unit (s := S1x520x512) ![0, 8, 0] S1x512x512.size inb, f⟩ : View.Piece (Elt F) S1x520x512 .f32) :: L)))
      (Rect.unit (s := S1x520x512) ![0, o, 0] S1x512x512.size inb') = shifted s h f := by
  funext x
  obtain ⟨u, r, k, rfl⟩ : ∃ (u : Fin 1) (r k : Fin 512), x = ix3 u r k := ⟨x 0, x 1, x 2, (ix3_eta x).symm⟩
  obtain rfl : u = 0 := Subsingleton.elim _ _
  have hr := r.isLt
  have e : (Rect.unit (s := S1x520x512) ![0, o, 0] S1x512x512.size inb').idx (ix3 0 r k) = ix3 0 ⟨o + r.val, by omega⟩ k :=
    funext fun a => Fin.ext (by
      match a with
      | ⟨0, _⟩ => rfl
      | ⟨1, _⟩ => show o + 1 * r.val = o + r.val; omega
      | ⟨2, _⟩ => show 0 + 1 * k.val = k.val; omega)
  rw [View.ld_apply, e]
  show _ = if r.val < s then h (ix3 0 ⟨(r.val + 2 - s) % 2, _⟩ k) else f (ix3 0 ⟨r.val - s, _⟩ k)
  by_cases hlt : r.val < s
  · rw [if_pos hlt, read_out v g L f inb _ _ (show o + r.val < 8 by omega)]
    have := hc ⟨(r.val + 2 - s) % 2, Nat.mod_lt _ (by decide)⟩ k
    rw [← this]
    exact congrArg _ (congrArg (fun z => ix3 0 z k) (Fin.ext (by show o + r.val = 6 + (r.val + 2 - s) % 2; omega)))
  · rw [if_neg hlt]
    exact read_in v g L f inb _ ⟨r.val - s, lt_of_le_of_lt (Nat.sub_le _ _) r.isLt⟩ _ (by show o + r.val = 8 + (r.val - s); omega)

theorem load_one (hc : Carries (v.read (Elt F) (v.writes (Elt F) g L)) h) (inb inb') :
    View.ld (v.read (Elt F) (v.writes (Elt F) g ((⟨Rect.unit (s := S1x520x512) ![0, 8, 0] S1x512x512.size inb, f⟩ : View.Piece (Elt F) S1x520x512 .f32) :: L)))
      (Rect.unit (s := S1x520x512) ![0, 7, 0] S1x512x512.size inb') = shifted 1 h f :=
  load_shift v g L h f 7 1 rfl (by decide) hc inb inb'

theorem load_two (hc : Carries (v.read (Elt F) (v.writes (Elt F) g L)) h) (inb inb') :
    View.ld (v.read (Elt F) (v.writes (Elt F) g ((⟨Rect.unit (s := S1x520x512) ![0, 8, 0] S1x512x512.size inb, f⟩ : View.Piece (Elt F) S1x520x512 .f32) :: L)))
      (Rect.unit (s := S1x520x512) ![0, 6, 0] S1x512x512.size inb') = shifted 2 h f :=
  load_shift v g L h f 6 2 rfl (by decide) hc inb inb'

theorem load_tail (inb inb') :
    View.ld (v.read (Elt F) (v.writes (Elt F) g ((⟨Rect.unit (s := S1x520x512) ![0, 8, 0] S1x512x512.size inb, f⟩ : View.Piece (Elt F) S1x520x512 .f32) :: L)))
      (Rect.unit (s := S1x520x512) ![0, 518, 0] S1x2x512.size inb') = tailOf f := by
  funext x
  obtain ⟨u, r, k, rfl⟩ : ∃ (u : Fin 1) (r : Fin 2) (k : Fin 512), x = ix3 u r k := ⟨x 0, x 1, x 2, (ix3_eta x).symm⟩
  obtain rfl : u = 0 := Subsingleton.elim _ _
  have hr := r.isLt
  have e : (Rect.unit (s := S1x520x512) ![0, 518, 0] S1x2x512.size inb').idx (ix3 0 r k) = ix3 0 ⟨518 + r.val, by omega⟩ k :=
    funext fun a => Fin.ext (by
      match a with
      | ⟨0, _⟩ => rfl
      | ⟨1, _⟩ => show 518 + 1 * r.val = 518 + r.val; omega
      | ⟨2, _⟩ => show 0 + 1 * k.val = k.val; omega)
  rw [View.ld_apply, e]
  exact read_in v g L f inb _ ⟨510 + r.val, by omega⟩ _ (by show 518 + r.val = 8 + (510 + r.val); omega)

/-- Two rows stored at six are carried. -/
theorem carries_store (inb) :
    Carries (v.read (Elt F) (v.writes (Elt F) g ((⟨Rect.unit (s := S1x520x512) ![0, 6, 0] S1x2x512.size inb, h⟩ : View.Piece (Elt F) S1x520x512 .f32) :: L))) h :=
  fun j k => View.read_writes_cons_unit_of_mem v g inb h L _ (ix3 0 j k) rfl (fun a => by
    match a with
    | ⟨0, _⟩ => rfl
    | ⟨1, _⟩ => rfl
    | ⟨2, _⟩ => show k.val = 0 + k.val; omega)

end Loads

/-! Casts to the same shape. -/

theorem pay2_eq (x : Vec F S1x2x512 .f32) : k0_pay2 x = x := shapeCast_self ..
theorem pay3_eq (x : Vec F S1x2x512 .f32) : k0_pay3 x = x := shapeCast_self ..
theorem pay10_eq (x : FVec F S1x512x512 .f32) : k0_pay10 x = x := shapeCast_self ..

/-! Loads of a whole block. -/

theorem ld_x (X : Vec F S1x512x1024 .f32) (inb : ∀ a, (![0, 0, 0] : Fin 3 → ℕ) a + (![1, 512, 1024] : Fin 3 → ℕ) a ≤ S1x512x1024.size a) :
    View.ld X (Rect.unit (s := S1x512x1024) ![0, 0, 0] ![1, 512, 1024] inb) = X :=
  View.ld_unit_zero (S := S1x512x1024) (off := ![0, 0, 0]) (by decide) inb X

theorem ld_mod (X : Vec F S1x1x3072 .f32) (inb : ∀ a, (![0, 0, 0] : Fin 3 → ℕ) a + (![1, 1, 3072] : Fin 3 → ℕ) a ≤ S1x1x3072.size a) :
    View.ld X (Rect.unit (s := S1x1x3072) ![0, 0, 0] ![1, 1, 3072] inb) = X :=
  View.ld_unit_zero (S := S1x1x3072) (off := ![0, 0, 0]) (by decide) inb X

theorem ld_g (X : Vec F S1x1024 .f32) (inb : ∀ a, (![0, 0] : Fin 2 → ℕ) a + (![1, 1024] : Fin 2 → ℕ) a ≤ S1x1024.size a) :
    View.ld X (Rect.unit (s := S1x1024) ![0, 0] ![1, 1024] inb) = X :=
  View.ld_unit_zero (S := S1x1024) (off := ![0, 0]) (by decide) inb X

theorem ld_w (X : Vec F S1024x3072 .bf16) (inb : ∀ a, (![0, 0] : Fin 2 → ℕ) a + (![1024, 3072] : Fin 2 → ℕ) a ≤ S1024x3072.size a) :
    View.ld X (Rect.unit (s := S1024x3072) ![0, 0] ![1024, 3072] inb) = X :=
  View.ld_unit_zero (S := S1024x3072) (off := ![0, 0]) (by decide) inb X

theorem ld_cw (X : Vec F S3x512 .f32) (inb : ∀ a, (![0, 0] : Fin 2 → ℕ) a + (![3, 512] : Fin 2 → ℕ) a ≤ S3x512.size a) :
    View.ld X (Rect.unit (s := S3x512) ![0, 0] ![3, 512] inb) = X :=
  View.ld_unit_zero (S := S3x512) (off := ![0, 0]) (by decide) inb X

theorem ld_cb (X : Vec F S1x512 .f32) (inb : ∀ a, (![0, 0] : Fin 2 → ℕ) a + (![1, 512] : Fin 2 → ℕ) a ≤ S1x512.size a) :
    View.ld X (Rect.unit (s := S1x512) ![0, 0] ![1, 512] inb) = X :=
  View.ld_unit_zero (S := S1x512) (off := ![0, 0]) (by decide) inb X

theorem ld_c0 (X : Vec F S1x2x512 .f32) (inb : ∀ a, (![0, 0, 0] : Fin 3 → ℕ) a + (![1, 2, 512] : Fin 3 → ℕ) a ≤ S1x2x512.size a) :
    View.ld X (Rect.unit (s := S1x2x512) ![0, 0, 0] ![1, 2, 512] inb) = X :=
  View.ld_unit_zero (S := S1x2x512) (off := ![0, 0, 0]) (by decide) inb X

end Cert.InEvenIdeal

end
-- ==== Proof.InEven.Pay.lean ====
/-
  The recurrence layer's input product and convolution: one row of what a grid point computes, and the same row of the
  reference.
-/
module

public import proofs.«01_k».proof.Proof.InEven.Step
public import proofs.«01_k».proof.Proof.Gen.InEvenRefIdeal.Read
public import Idealize.ShloMosaic.Lib.Pointwise

@[expose] public section

noncomputable section

namespace Cert.InEvenIdeal.Hand

open Cert.InEvenIdeal Cert.InEvenIdeal.Gen Idealize.ShloMosaic Idealize.ShloMosaic.TcCoe Idealize.SL.Sem
open Cert.InEvenRefIdeal.Read

/-- The product of the normalised row with the weights: row `r` of a block is row `n` of the arrays. -/
theorem proj_eq (v0 : Vec Ideal S1x1x3072 .f32) (v3 : Vec Ideal S1x512x1024 .f32) (v4 : Vec Ideal S1x1024 .f32)
    (v27 : Vec Ideal S1024x3072 .bf16)
    (x0 : Vec Ideal S1x16384x1024 .f32) (x1 : Vec Ideal S1x1x3072 .f32) (x2 : Vec Ideal S1024 .f32) (x3 : Vec Ideal S1024x3072 .f32)
    (r : Fin 512) (n : Fin 16384) (l : Fin 3072)
    (h0 : ∀ k, v3 (ix3 0 r k) = x0 (ix3 0 n k))
    (h1 : v0 = x1)
    (h2 : ∀ k, v4 (ix2 0 k) = x2 (ix1 k))
    (h3 : ∀ j k, v27 (ix2 j k) = x3 (ix2 j k)) :
    k0_pay4 v0 v3 v4 v27 (ix2 r l) = val_main_v22 (F := Ideal) x0 x1 x2 x3 (ix3 0 n l) := by
  pointwise [k0_pay4, val_main_v22, val_main_v21, val_main_v20, val_main_v19, val_main_v18, val_main_v17, val_main_v16,
    val_main_cst_2, val_main_v15, val_main_v14, val_main_v13, val_main_v12, val_main_v11, val_main_v10, val_main_v9,
    val_main_v8, val_main_cst_1, val_main_v7, val_main_v6, val_main_cst_0, val_main_v5, val_main_v4, val_main_cst,
    val_main_v3, val_main_v1, val_main_v0]
  simp only [h0, h1, h2, h3]

variable (v0 : Vec Ideal S1x1x3072 .f32) (v3 : Vec Ideal S1x512x1024 .f32) (v4 : Vec Ideal S1x1024 .f32)
  (v27 : Vec Ideal S1024x3072 .bf16)
  (x0 : Vec Ideal S1x16384x1024 .f32) (x1 : Vec Ideal S1x1x3072 .f32) (x2 : Vec Ideal S1024 .f32) (x3 : Vec Ideal S1024x3072 .f32)
  (x4 : Vec Ideal S3x512 .f32) (x5 : Vec Ideal S512 .f32) (x6 : Vec Ideal S1x2x512 .f32)

/-- The product the convolution runs over. -/
theorem f_eq (r : Fin 512) (n : Fin 16384) (l : Fin 512)
    (h : ∀ j, k0_pay4 v0 v3 v4 v27 (ix2 r j) = val_main_v22 (F := Ideal) x0 x1 x2 x3 (ix3 0 n j)) :
    k0_pay9 v0 v3 v4 v27 (ix3 0 r l) = val_main_v29 (F := Ideal) x0 x1 x2 x3 (ix3 0 n l) := by
  pointwise [k0_pay9, val_main_v29, val_main_v25, val_main_v23]
  rw [h, h]

/-- The recurrence's input. -/
theorem u_eq (r : Fin 512) (n : Fin 16384) (l : Fin 512)
    (h : ∀ j, k0_pay4 v0 v3 v4 v27 (ix2 r j) = val_main_v22 (F := Ideal) x0 x1 x2 x3 (ix3 0 n j)) :
    k0_pay12 (k0_pay7 v0 v3 v4 v27) (ix3 0 r l) = val_main_v27 (F := Ideal) x0 x1 x2 x3 (ix3 0 n l) := by
  pointwise [k0_pay12, k0_pay7, val_main_v27]
  rw [h]

/-- Its gate through the gate's sigmoid. -/
theorem s_eq (r : Fin 512) (n : Fin 16384) (l : Fin 512)
    (h : ∀ j, k0_pay4 v0 v3 v4 v27 (ix2 r j) = val_main_v22 (F := Ideal) x0 x1 x2 x3 (ix3 0 n j)) :
    k0_pay1 (k0_pay8 v0 v3 v4 v27) (ix3 0 r l) = val_main_v59 (F := Ideal) x0 x1 x2 x3 (ix3 0 n l) := by
  pointwise [k0_pay1, k0_pay8, val_main_v59, val_main_call1_v5, val_main_call1_v4, val_main_call1_cst_0, val_main_call1_v3,
    val_main_call1_v2, val_main_call1_cst, val_main_call1_v1, val_main_call1_v0, val_main_v28]
  rw [h, zero_sub]

/-- The first two rows the convolution reads are the given ones. -/
theorem rows_low (n : Fin 16386) (j : Fin 2) (l : Fin 512) (hn : n.val = j.val) :
    val_main_v30 (F := Ideal) x0 x1 x2 x3 x6 (ix3 0 n l) = x6 (ix3 0 j l) := by
  have hj := j.isLt
  obtain ⟨n, hn'⟩ := n
  obtain rfl : n = j.val := hn
  unfold val_main_v30
  generalize val_main_v29 (F := Ideal) x0 x1 x2 x3 = A
  pointwise []

/-- The others are the rows of the product. -/
theorem rows_high (n : Fin 16386) (k : Fin 16384) (l : Fin 512) (hn : n.val = k.val + 2) :
    val_main_v30 (F := Ideal) x0 x1 x2 x3 x6 (ix3 0 n l) = val_main_v29 (F := Ideal) x0 x1 x2 x3 (ix3 0 k l) := by
  have hk := k.isLt
  obtain ⟨n, hn'⟩ := n
  obtain rfl : n = k.val + 2 := hn
  unfold val_main_v30
  generalize val_main_v29 (F := Ideal) x0 x1 x2 x3 = A
  pointwise []
  rw [dif_neg (by omega)]
  exact congrArg (fun z => A (ix3 0 z l)) (Fin.ext (Nat.add_sub_cancel ..))

/-- The convolution's result, gated. -/
theorem ya_eq (f s1 s2 : Vec Ideal S1x512x512 .f32) (v5 : Vec Ideal S1x512 .f32) (r : Fin 512) (n : Fin 16384) (l : Fin 512)
    (h : ∀ j, k0_pay4 v0 v3 v4 v27 (ix2 r j) = val_main_v22 (F := Ideal) x0 x1 x2 x3 (ix3 0 n j))
    (h5 : ∀ k, v5 (ix2 0 k) = x5 (ix1 k))
    (hs2 : s2 (ix3 0 r l) = val_main_v30 (F := Ideal) x0 x1 x2 x3 x6 (ix3 0 ⟨n.val, by omega⟩ l))
    (hs1 : s1 (ix3 0 r l) = val_main_v30 (F := Ideal) x0 x1 x2 x3 x6 (ix3 0 ⟨1 + n.val, by omega⟩ l))
    (hf : f (ix3 0 r l) = val_main_v30 (F := Ideal) x0 x1 x2 x3 x6 (ix3 0 ⟨2 + n.val, by omega⟩ l)) :
    k0_pay11 (k0_pay5 v0 v3 v4 v27) (k0_pay6 v0 v3 v4 v27) f s1 s2 x4 v5 (ix3 0 r l)
      = val_main_v58 (F := Ideal) x0 x1 x2 x3 x4 x5 x6 (ix3 0 n l) := by
  unfold val_main_v58 val_main_v56 val_main_v55 val_main_v54 val_main_v53 val_main_v52 val_main_v51 val_main_v46
    val_main_v45 val_main_v44 val_main_v39 val_main_v38 val_main_v36 val_main_v31
  generalize val_main_v30 (F := Ideal) x0 x1 x2 x3 x6 = A at *
  pointwise [k0_pay11, k0_pay5, k0_pay6, val_main_v57, val_main_v50, val_main_v49,
    val_main_v48, val_main_v47, val_main_v43, val_main_v42, val_main_v41, val_main_v40,
    val_main_v37, val_main_cst_3, val_main_v35, val_main_v34, val_main_v33, val_main_v32,
    val_main_call0_v5, val_main_call0_v4, val_main_call0_cst_0, val_main_call0_v3,
    val_main_call0_v2, val_main_call0_cst, val_main_call0_v1, val_main_call0_v0, val_main_v26, val_main_v24]
  simp only [h, h5, hs2, hs1, hf, zero_sub, add_assoc, mul_comm (x4 _)]

/-- The last two rows. -/
theorem tail_eq (j : Fin 2) (l : Fin 512) :
    val_main_v60 (F := Ideal) x0 x1 x2 x3 x6 (ix3 0 j l)
      = val_main_v29 (F := Ideal) x0 x1 x2 x3 (ix3 0 ⟨16382 + j.val, by omega⟩ l) := by
  have hj := j.isLt
  refine Eq.trans ?_ (rows_high x0 x1 x2 x3 x6 ⟨16384 + j.val, by omega⟩ ⟨16382 + j.val, by omega⟩ l (by show 16384 + j.val = 16382 + j.val + 2; omega))
  unfold val_main_v60
  generalize val_main_v30 (F := Ideal) x0 x1 x2 x3 x6 = A
  pointwise []

end Cert.InEvenIdeal.Hand

end
-- ==== Proof.InEven.RunA.lean ====
/-
  One grid point of the kernel, run from what it finds: the first point, which takes the carried rows from their argument.
-/
module

public import proofs.«01_k».proof.Proof.InEven.Step
public import proofs.«01_k».proof.Proof.Gen.InEvenIdeal.Frame

@[expose] public section

set_option maxRecDepth 16384
set_option pp.maxSteps 2000

noncomputable section

namespace Cert.InEvenIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]
local notation "𝕄" => MT nD τ sig Unit (Elt F) ℕ (UR sig nD τ) ℕ

set_option maxHeartbeats 8000000 in
theorem run_A (c : Dev nD) (i : grid0.Coords) (arg1 : Memref sig .tc .vmem S1x512x1024 .f32) (harg1 : arg1.IsWhole) (arg2 : Memref sig .tc .vmem S1x1x3072 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S3x512 .f32) (harg5 : arg5.IsWhole) (arg6 : Memref sig .tc .vmem S1x512 .f32) (harg6 : arg6.IsWhole) (arg7 : Memref sig .tc .vmem S1x2x512 .f32) (harg7 : arg7.IsWhole) (arg8 : Memref sig .tc .vmem S1x512x512 .f32) (harg8 : arg8.IsWhole) (arg9 : Memref sig .tc .vmem S1x512x512 .f32) (harg9 : arg9.IsWhole) (arg10 : Memref sig .tc .vmem S1x512x512 .f32) (harg10 : arg10.IsWhole) (arg11 : Memref sig .tc .vmem S1x2x512 .f32) (harg11 : arg11.IsWhole) (arg12 : Memref sig .tc .vmem S1x520x512 .f32) (harg12 : arg12.IsWhole) (hc0 : isFirst i)
    (x0 : Vec F S1x512x1024 .f32) (x1 : Vec F S1x1x3072 .f32) (x2 : Vec F S1x1024 .f32) (x3 : Vec F S1024x3072 .bf16) (x4 : Vec F S3x512 .f32) (x5 : Vec F S1x512 .f32) (x6 : Vec F S1x2x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (yaOut x0 x1 x2 x3 x4 x5 x6) ∗ owns (c : Thread nD τ) arg9 fullShare (uOut x0 x1 x2 x3) ∗ owns (c : Thread nD τ) arg10 fullShare (sOut x0 x1 x2 x3) ∗ owns (c : Thread nD τ) arg11 fullShare (hOut x0 x1 x2 x3) ∗ (∃ d, ⌜Carries d (hOut x0 x1 x2 x3)⌝ ∗ owns (c : Thread nD τ) arg12 fullShare d)) -∗ K ⟨⟩))
      ⊢ wp frame (wpE (defs₀ (F := F)) Variants.none c none) E (cc0__l0_in_kernel i arg1 harg1 arg2 harg2 arg3 harg3 arg4 harg4 arg5 harg5 arg6 harg6 arg7 harg7 arg8 harg8 arg9 harg9 arg10 harg10 arg11 harg11 arg12 harg12) K := by
  simp only [cc0__l0_in_kernel_eq_skeleton]; unfold cc0__l0_in_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap
    · iexact H7
    · ipureintro
      rw [View.read_writes_full]
      repeat delta run_A.sl.r run_A.sl.r_1 run_A.sl.r_2 run_A.sl.r_3 run_A.sl.r_4 run_A.sl.r_5 run_A.sl.v44 run_A.sl.v45 run_A.sl.v91 run_A.sl.HS0_2
      simp only [View.readCov, View.readAt_eq_ld, harg1.read_unread, harg2.read_unread, harg3.read_unread, harg4.read_unread, harg5.read_unread, harg6.read_unread, harg7.read_unread, ld_x, ld_mod, ld_g, ld_w, ld_cw, ld_cb, ld_c0, pay2_eq, pay3_eq, pay10_eq]
      refine (congrArg₂ (fun a b => k0_pay11 (k0_pay5 x1 x0 x2 x3) (k0_pay6 x1 x0 x2 x3) (k0_pay9 x1 x0 x2 x3) a b x4 x5)
        (load_one _ _ _ _ _ (carries_store _ _ _ _ _) _ _) (load_two _ _ _ _ _ (carries_store _ _ _ _ _) _ _)).trans ?_
      rfl
  isplitl [H8]
  · iexists _; isplitr; swap
    · iexact H8
    · ipureintro
      rw [View.read_writes_full]
      repeat delta run_A.sl.r run_A.sl.r_1 run_A.sl.r_2 run_A.sl.r_3 run_A.sl.r_4 run_A.sl.r_5 run_A.sl.v44 run_A.sl.v45 run_A.sl.v91 run_A.sl.HS0_2
      simp only [View.readCov, View.readAt_eq_ld, harg1.read_unread, harg2.read_unread, harg3.read_unread, harg4.read_unread, harg5.read_unread, harg6.read_unread, harg7.read_unread, ld_x, ld_mod, ld_g, ld_w, ld_cw, ld_cb, ld_c0, pay2_eq, pay3_eq, pay10_eq]
      rfl
  isplitl [H9]
  · iexists _; isplitr; swap
    · iexact H9
    · ipureintro
      rw [View.read_writes_full]
      repeat delta run_A.sl.r run_A.sl.r_1 run_A.sl.r_2 run_A.sl.r_3 run_A.sl.r_4 run_A.sl.r_5 run_A.sl.v44 run_A.sl.v45 run_A.sl.v91 run_A.sl.HS0_2
      simp only [View.readCov, View.readAt_eq_ld, harg1.read_unread, harg2.read_unread, harg3.read_unread, harg4.read_unread, harg5.read_unread, harg6.read_unread, harg7.read_unread, ld_x, ld_mod, ld_g, ld_w, ld_cw, ld_cb, ld_c0, pay2_eq, pay3_eq, pay10_eq]
      rfl
  isplitl [H10]
  · iexists _; isplitr; swap
    · iexact H10
    · ipureintro
      rw [View.read_writes_full]
      repeat delta run_A.sl.r run_A.sl.r_1 run_A.sl.r_2 run_A.sl.r_3 run_A.sl.r_4 run_A.sl.r_5 run_A.sl.v44 run_A.sl.v45 run_A.sl.v91 run_A.sl.HS0_2
      simp only [View.readCov, View.readAt_eq_ld, harg1.read_unread, harg2.read_unread, harg3.read_unread, harg4.read_unread, harg5.read_unread, harg6.read_unread, harg7.read_unread, ld_x, ld_mod, ld_g, ld_w, ld_cw, ld_cb, ld_c0, pay2_eq, pay3_eq, pay10_eq]
      rw [load_tail]
      rfl
  iexists _; isplitr; swap
  · iexists _; isplitr; swap
    · iexact HS0
    · ipureintro; rfl
  · ipureintro
    repeat delta run_A.sl.r run_A.sl.r_1 run_A.sl.r_2 run_A.sl.r_3 run_A.sl.r_4 run_A.sl.r_5 run_A.sl.v44 run_A.sl.v45 run_A.sl.v91 run_A.sl.HS0_2
    simp only [View.readCov, View.readAt_eq_ld, harg1.read_unread, harg2.read_unread, harg3.read_unread, harg4.read_unread, harg5.read_unread, harg6.read_unread, harg7.read_unread, ld_x, ld_mod, ld_g, ld_w, ld_cw, ld_cb, ld_c0, pay2_eq, pay3_eq, pay10_eq]
    rw [load_tail]
    exact carries_store _ _ _ _ _

end Cert.InEvenIdeal

end
-- ==== Proof.InEven.RunB.lean ====
/-
  One grid point of the kernel, run from what it finds: a later point, which finds the rows the point before left.
-/
module

public import proofs.«01_k».proof.Proof.InEven.Step
public import proofs.«01_k».proof.Proof.Gen.InEvenIdeal.Frame

@[expose] public section

set_option maxRecDepth 16384
set_option pp.maxSteps 2000

noncomputable section

namespace Cert.InEvenIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]
local notation "𝕄" => MT nD τ sig Unit (Elt F) ℕ (UR sig nD τ) ℕ

set_option maxHeartbeats 8000000 in
theorem run_B (c : Dev nD) (i : grid0.Coords) (arg1 : Memref sig .tc .vmem S1x512x1024 .f32) (harg1 : arg1.IsWhole) (arg2 : Memref sig .tc .vmem S1x1x3072 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S3x512 .f32) (harg5 : arg5.IsWhole) (arg6 : Memref sig .tc .vmem S1x512 .f32) (harg6 : arg6.IsWhole) (arg7 : Memref sig .tc .vmem S1x2x512 .f32) (harg7 : arg7.IsWhole) (arg8 : Memref sig .tc .vmem S1x512x512 .f32) (harg8 : arg8.IsWhole) (arg9 : Memref sig .tc .vmem S1x512x512 .f32) (harg9 : arg9.IsWhole) (arg10 : Memref sig .tc .vmem S1x512x512 .f32) (harg10 : arg10.IsWhole) (arg11 : Memref sig .tc .vmem S1x2x512 .f32) (harg11 : arg11.IsWhole) (arg12 : Memref sig .tc .vmem S1x520x512 .f32) (harg12 : arg12.IsWhole) (hc0 : ¬ isFirst i)
    (x0 : Vec F S1x512x1024 .f32) (x1 : Vec F S1x1x3072 .f32) (x2 : Vec F S1x1024 .f32) (x3 : Vec F S1024x3072 .bf16) (x4 : Vec F S3x512 .f32) (x5 : Vec F S1x512 .f32) (x6 : Vec F S1x2x512 .f32) (h : Vec F S1x2x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, ⌜Carries d h⌝ ∗ owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (yaOut x0 x1 x2 x3 x4 x5 h) ∗ owns (c : Thread nD τ) arg9 fullShare (uOut x0 x1 x2 x3) ∗ owns (c : Thread nD τ) arg10 fullShare (sOut x0 x1 x2 x3) ∗ owns (c : Thread nD τ) arg11 fullShare (hOut x0 x1 x2 x3) ∗ (∃ d, ⌜Carries d (hOut x0 x1 x2 x3)⌝ ∗ owns (c : Thread nD τ) arg12 fullShare d)) -∗ K ⟨⟩))
      ⊢ wp frame (wpE (defs₀ (F := F)) Variants.none c none) E (cc0__l0_in_kernel i arg1 harg1 arg2 harg2 arg3 harg3 arg4 harg4 arg5 harg5 arg6 harg6 arg7 harg7 arg8 harg8 arg9 harg9 arg10 harg10 arg11 harg11 arg12 harg12) K := by
  simp only [cc0__l0_in_kernel_eq_skeleton]; unfold cc0__l0_in_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %hds, %fs0, %hs0, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap
    · iexact H7
    · ipureintro
      rw [View.read_writes_full]
      repeat delta run_B.sl.r run_B.sl.r_1 run_B.sl.r_2 run_B.sl.r_3 run_B.sl.r_4 run_B.sl.r_5 run_B.sl.v44 run_B.sl.v45 run_B.sl.v91 run_B.sl.HS0_1
      simp only [View.readCov, View.readAt_eq_ld, harg1.read_unread, harg2.read_unread, harg3.read_unread, harg4.read_unread, harg5.read_unread, harg6.read_unread, harg7.read_unread, ld_x, ld_mod, ld_g, ld_w, ld_cw, ld_cb, ld_c0, pay2_eq, pay3_eq, pay10_eq]
      refine (congrArg₂ (fun a b => k0_pay11 (k0_pay5 x1 x0 x2 x3) (k0_pay6 x1 x0 x2 x3) (k0_pay9 x1 x0 x2 x3) a b x4 x5)
        (load_one _ _ [] h _ (by rw [View.writes_nil, hs0]; exact hds) _ _) (load_two _ _ [] h _ (by rw [View.writes_nil, hs0]; exact hds) _ _)).trans ?_
      rfl
  isplitl [H8]
  · iexists _; isplitr; swap
    · iexact H8
    · ipureintro
      rw [View.read_writes_full]
      repeat delta run_B.sl.r run_B.sl.r_1 run_B.sl.r_2 run_B.sl.r_3 run_B.sl.r_4 run_B.sl.r_5 run_B.sl.v44 run_B.sl.v45 run_B.sl.v91 run_B.sl.HS0_1
      simp only [View.readCov, View.readAt_eq_ld, harg1.read_unread, harg2.read_unread, harg3.read_unread, harg4.read_unread, harg5.read_unread, harg6.read_unread, harg7.read_unread, ld_x, ld_mod, ld_g, ld_w, ld_cw, ld_cb, ld_c0, pay2_eq, pay3_eq, pay10_eq]
      rfl
  isplitl [H9]
  · iexists _; isplitr; swap
    · iexact H9
    · ipureintro
      rw [View.read_writes_full]
      repeat delta run_B.sl.r run_B.sl.r_1 run_B.sl.r_2 run_B.sl.r_3 run_B.sl.r_4 run_B.sl.r_5 run_B.sl.v44 run_B.sl.v45 run_B.sl.v91 run_B.sl.HS0_1
      simp only [View.readCov, View.readAt_eq_ld, harg1.read_unread, harg2.read_unread, harg3.read_unread, harg4.read_unread, harg5.read_unread, harg6.read_unread, harg7.read_unread, ld_x, ld_mod, ld_g, ld_w, ld_cw, ld_cb, ld_c0, pay2_eq, pay3_eq, pay10_eq]
      rfl
  isplitl [H10]
  · iexists _; isplitr; swap
    · iexact H10
    · ipureintro
      rw [View.read_writes_full]
      repeat delta run_B.sl.r run_B.sl.r_1 run_B.sl.r_2 run_B.sl.r_3 run_B.sl.r_4 run_B.sl.r_5 run_B.sl.v44 run_B.sl.v45 run_B.sl.v91 run_B.sl.HS0_1
      simp only [View.readCov, View.readAt_eq_ld, harg1.read_unread, harg2.read_unread, harg3.read_unread, harg4.read_unread, harg5.read_unread, harg6.read_unread, harg7.read_unread, ld_x, ld_mod, ld_g, ld_w, ld_cw, ld_cb, ld_c0, pay2_eq, pay3_eq, pay10_eq]
      rw [load_tail]
      rfl
  iexists _; isplitr; swap
  · iexists _; isplitr; swap
    · iexact HS0
    · ipureintro; rfl
  · ipureintro
    repeat delta run_B.sl.r run_B.sl.r_1 run_B.sl.r_2 run_B.sl.r_3 run_B.sl.r_4 run_B.sl.r_5 run_B.sl.v44 run_B.sl.v45 run_B.sl.v91 run_B.sl.HS0_1
    simp only [View.readCov, View.readAt_eq_ld, harg1.read_unread, harg2.read_unread, harg3.read_unread, harg4.read_unread, harg5.read_unread, harg6.read_unread, harg7.read_unread, ld_x, ld_mod, ld_g, ld_w, ld_cw, ld_cb, ld_c0, pay2_eq, pay3_eq, pay10_eq]
    rw [load_tail]
    exact carries_store _ _ _ _ _

end Cert.InEvenIdeal

end
-- ==== Proof.InEven.Frame.lean ====
/-
  The projection and convolution call as a whole: the two rows the scratch carries between grid points, the body at every
  point, the run of the program, and the frame claims of both programs from that one run.
-/
module

public import proofs.«01_k».proof.Proof.InEven.RunA
public import proofs.«01_k».proof.Proof.InEven.RunB
public import Idealize.ShloMosaic.Lib.WordCmp
public import Idealize.ShloMosaic.Lib.Claim

@[expose] public section

set_option maxRecDepth 16384

noncomputable section

namespace Cert.InEvenIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- A grid point, from its number (the last one past the end). -/
def pt (n : ℕ) : Fin cfg0.N := ⟨min n 31, Nat.lt_of_le_of_lt (Nat.min_le_right n 31) (Nat.lt_of_lt_of_eq (by decide) N_0.symm)⟩

theorem pt_val (t : Fin cfg0.N) : pt t.val = t := by
  have h : t.val < 32 := Nat.lt_of_lt_of_eq t.isLt N_0
  apply Fin.ext; show min t.val 31 = t.val; omega

/-- The two rows in front of point `n`: the given ones, then the last two of each point's tile. -/
def hAt (c : Dev nD) : ℕ → Vec F S1x2x512 .f32
  | 0 => iblk m c 6 (pt 0)
  | n + 1 => hOut (iblk m c 0 (pt n)) (iblk m c 1 (pt n)) (iblk m c 2 (pt n)) (iblk m c 3 (pt n))

theorem hAt_succ (c : Dev nD) (t : Fin cfg0.N) :
    hAt m c (t.val + 1) = hOut (iblk m c 0 t) (iblk m c 1 t) (iblk m c 2 t) (iblk m c 3 t) := by
  conv_lhs => rw [hAt]
  rw [pt_val]

/-- The scratch buffer, whole. -/
abbrev scF : Memref sig .tc .vmem S1x520x512 .f32 := Memref.whole cc0_scratch0

/-- The launch's invariant with its scratch buffer named. -/
theorem PhiA_eq (c : Dev nD) : (Pipeline.ΦA spec0 c : sProp 𝕄)
    = iprop((∃ d, owns (c : Thread nD τ) scF fullShare d) ∗ (∃ r, prngReg c r)) := by
  unfold Pipeline.ΦA; rw [scopedRest0_eq]; simp only [scF, owns_whole]; try rfl

/-- The proof data: each input's buffer at its block, the outputs at what the point computes from the blocks and the state
    it started from; between points the scratch carries the two rows (anything in front of the first one). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => yaOut (iblk m c 0 t) (iblk m c 1 t) (iblk m c 2 t) (iblk m c 3 t) (iblk m c 4 t) (iblk m c 5 t) (hAt m c t.val)
    | ⟨8, _⟩ => uOut (iblk m c 0 t) (iblk m c 1 t) (iblk m c 2 t) (iblk m c 3 t)
    | ⟨9, _⟩ => sOut (iblk m c 0 t) (iblk m c 1 t) (iblk m c 2 t) (iblk m c 3 t)
    | ⟨10, _⟩ => hOut (iblk m c 0 t) (iblk m c 1 t) (iblk m c 2 t) (iblk m c 3 t)
  Φ t := iprop((∃ d, ⌜t.val ≠ 0 → Carries d (hAt m c t.val)⌝ ∗ owns (c : Thread nD τ) scF fullShare d) ∗ (∃ r, prngReg c r))
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = yaOut (iblk m c 0 t) (iblk m c 1 t) (iblk m c 2 t) (iblk m c 3 t) (iblk m c 4 t) (iblk m c 5 t) (hAt m c t.val) := by dsimp only [dats]
theorem after0_8 (c : Dev nD) (t : Fin cfg0.N) : (dats m 0 c).after 8 t = uOut (iblk m c 0 t) (iblk m c 1 t) (iblk m c 2 t) (iblk m c 3 t) := by dsimp only [dats]
theorem after0_9 (c : Dev nD) (t : Fin cfg0.N) : (dats m 0 c).after 9 t = sOut (iblk m c 0 t) (iblk m c 1 t) (iblk m c 2 t) (iblk m c 3 t) := by dsimp only [dats]
theorem after0_10 (c : Dev nD) (t : Fin cfg0.N) : (dats m 0 c).after 10 t = hOut (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- Only the first point takes the rows from the argument. -/
theorem isFirst_iff : ∀ t : Fin cfg0.N, isFirst (grid0.coords t) ↔ t.val = 0 :=
  (fun t => by
    have ht : t.val < 32 := Nat.lt_of_lt_of_eq t.isLt N_0
    have e1 : (grid0.coords t 0).val = t.val / 1 % 32 := Pipeline.Grid.coords_val t 0 (by decide) rfl
    simp only [isFirst, e1]
    word_cmp : ∀ t : Fin grid0.N, _)

theorem Phi_cast (c : Dev nD) (t : Fin cfg0.N) : (dats m 0 c).Φ t.castSucc
    = iprop((∃ d, ⌜t.val ≠ 0 → Carries d (hAt m c t.val)⌝ ∗ owns (c : Thread nD τ) scF fullShare d) ∗ (∃ r, prngReg c r)) := by
  dsimp only [dats]; rfl
theorem Phi_succ (c : Dev nD) (t : Fin cfg0.N) : (dats m 0 c).Φ t.succ
    = iprop((∃ d, ⌜t.val + 1 ≠ 0 → Carries d (hAt m c (t.val + 1))⌝ ∗ owns (c : Thread nD τ) scF fullShare d) ∗ (∃ r, prngReg c r)) := by
  dsimp only [dats]; rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl, Phi_cast, Phi_succ,
    after0_0, after0_1, after0_2, after0_3, after0_4, after0_5, after0_6, after0_7, after0_8, after0_9, after0_10]
  iintro ⟨⟨⟨%dS, %hS, HS0⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  by_cases h0 : t.val = 0
  · have e : iblk m c 6 t = hAt m c t.val := by
      have := pt_val t; rw [h0] at this ⊢; rw [hAt, this]
    iapply (run_A c (grid0.coords t) _ _ _ _ _ _ _ _ _ _ _ _ _ _ _ _ _ _ _ _ _ _ _ _ ((isFirst_iff t).mpr h0) (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [HS0]; · iexists _; iexact HS0
    rw [e]
    iintro ⟨H0, H1, H2, H3, H4, H5, H6, H7, H8, H9, H10, ⟨%dE, %hE, HS0⟩⟩
    isplitl [HS0 Hr]
    · isplitl [HS0]
      · iexists dE; isplitr; · ipureintro; intro _; rw [hAt_succ]; exact hE
        iexact HS0
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · skip
    iapply (run_B c (grid0.coords t) _ _ _ _ _ _ _ _ _ _ _ _ _ _ _ _ _ _ _ _ _ _ _ _ (fun h => h0 ((isFirst_iff t).mp h)) (iblk m c 0 t) (iblk m c 1 t) (iblk m c 2 t) (iblk m c 3 t) (iblk m c 4 t) (iblk m c 5 t) (iblk m c 6 t) (hAt m c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [HS0]
    · iexists dS; isplitr; · ipureintro; exact hS h0
      iexact HS0
    iintro ⟨H0, H1, H2, H3, H4, H5, H6, H7, H8, H9, H10, ⟨%dE, %hE, HS0⟩⟩
    isplitl [HS0 Hr]
    · isplitl [HS0]
      · iexists dE; isplitr; · ipureintro; intro _; rw [hAt_succ]; exact hE
        iexact HS0
      · iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- In front of the first point the scratch may hold anything. -/
theorem hin (c : Dev nD) : (Pipeline.ΦA spec0 c : sProp 𝕄) ⊢ (dats m 0 c).Φ 0 := by
  rw [PhiA_eq]; dsimp only [dats]
  iintro ⟨⟨%d, H0⟩, Hr⟩
  isplitl [H0]
  · iexists d; isplitr; · ipureintro; exact fun h => absurd rfl h
    iexact H0
  · iexact Hr

/-- After the last point what it holds is forgotten. -/
theorem hout (c : Dev nD) : (dats m 0 c).Φ (Fin.last cfg0.N) ⊢ (Pipeline.ΦA spec0 c : sProp 𝕄) := by
  rw [PhiA_eq]; dsimp only [dats]
  iintro ⟨⟨%d, -, H0⟩, Hr⟩
  isplitl [H0]
  · iexists d; iexact H0
  · iexact Hr

set_option backward.isDefEq.respectTransparency.types false in
set_option maxHeartbeats 800000 in
/-- The run of the program: every array of the call at what the points wrote back, everything else as the host left it. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.InEvenIdeal

end
-- ==== Proof.InEven.Result.lean ====
/-
  The recurrence layer's input product and convolution, over the whole arrays: the blocks the grid writes make up the
  reference's arrays.
-/
module

public import proofs.«01_k».proof.Proof.InEven.Pay
public import proofs.«01_k».proof.Proof.InEven.Frame

@[expose] public section

set_option maxRecDepth 16384

noncomputable section

namespace Cert.InEvenIdeal.Hand

open Cert.InEvenIdeal Cert.InEvenIdeal.Gen Idealize.ShloMosaic Idealize.ShloMosaic.TcCoe Idealize.SL.Sem
open Cert.InEvenRefIdeal.Read

variable (m : (ℓ : Loc nD τ sig) → Buf (Elt Ideal) ℓ)

/-- Where each window stands at a grid point: the token windows at the point, the others at the origin. -/
theorem idx_facts : ∀ t : Fin cfg0.N,
    (win0_0.index t 0 = 0 ∧ win0_0.index t 1 = t.val ∧ win0_0.index t 2 = 0)
    ∧ (win0_1.index t 0 = 0 ∧ win0_1.index t 1 = 0 ∧ win0_1.index t 2 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0 ∧ win0_6.index t 2 = 0)
    ∧ (win0_7.index t 0 = 0 ∧ win0_7.index t 1 = t.val ∧ win0_7.index t 2 = 0)
    ∧ (win0_8.index t 0 = 0 ∧ win0_8.index t 1 = t.val ∧ win0_8.index t 2 = 0)
    ∧ (win0_9.index t 0 = 0 ∧ win0_9.index t 1 = t.val ∧ win0_9.index t 2 = 0)
    ∧ (win0_10.index t 0 = 0 ∧ win0_10.index t 1 = 0 ∧ win0_10.index t 2 = 0) :=
  (by decide +kernel : ∀ t : Fin grid0.N, _)

variable (c : Dev nD) (t : Fin cfg0.N)

/-! ## The blocks that a point reads -/

theorem blk0 (r : Fin 512) (n : Fin 16384) (hn : n.val = t.val * 512 + r.val) (k : Fin 1024) :
    iblk m c 0 t (ix3 0 r k) = m ((c : Thread nD τ).loc main_arg0) (ix3 0 n k) := by
  obtain ⟨h, -⟩ := idx_facts t
  unfold iblk
  rw [View.read_apply, ← V_main_arg0 m c]
  refine congrArg (V m c main_arg0) (funext fun a => Fin.ext ?_)
  match a with
  | ⟨0, _⟩ => show win0_0.index t 0 * 1 + 1 * 0 = 0; rw [h.1]
  | ⟨1, _⟩ => show win0_0.index t 1 * 512 + 1 * r.val = n.val; rw [h.2.1]; omega
  | ⟨2, _⟩ => show win0_0.index t 2 * 1024 + 1 * k.val = k.val; rw [h.2.2]; omega

theorem blk1 : iblk m c 1 t = m ((c : Thread nD τ).loc main_arg1) := by
  obtain ⟨-, h, -⟩ := idx_facts t
  funext j
  unfold iblk
  rw [View.read_apply, ← V_main_arg1 m c]
  refine congrArg (V m c main_arg1) (funext fun a => Fin.ext ?_)
  match a with
  | ⟨0, _⟩ => show win0_1.index t 0 * 1 + 1 * (j 0).val = (j 0).val; rw [h.1]; omega
  | ⟨1, _⟩ => show win0_1.index t 1 * 1 + 1 * (j 1).val = (j 1).val; rw [h.2.1]; omega
  | ⟨2, _⟩ => show win0_1.index t 2 * 3072 + 1 * (j 2).val = (j 2).val; rw [h.2.2]; omega

/-- The gain is the argument, laid out as one row. -/
theorem gain_entry : V m c main_v1 = shapeCast S1x1024 (m ((c : Thread nD τ).loc main_arg2)) shapeCasts_S1024_S1x1024 := rfl

theorem blk2 (k : Fin 1024) : iblk m c 2 t (ix2 0 k) = m ((c : Thread nD τ).loc main_arg2) (ix1 k) := by
  obtain ⟨-, -, h, -⟩ := idx_facts t
  unfold iblk
  rw [View.read_apply]
  have e : V m c main_v1 (ix2 0 k) = m ((c : Thread nD τ).loc main_arg2) (ix1 k) := by
    rw [gain_entry]
    pointwise []
  rw [← e]
  refine congrArg (V m c main_v1) (funext fun a => Fin.ext ?_)
  match a with
  | ⟨0, _⟩ => show win0_2.index t 0 * 1 + 1 * 0 = 0; rw [h.1]
  | ⟨1, _⟩ => show win0_2.index t 1 * 1024 + 1 * k.val = k.val; rw [h.2]; omega

/-- The weights are the argument, narrowed. -/
theorem weight_entry : V m c main_v0
    = (truncf .bf16 (m ((c : Thread nD τ).loc main_arg3) : FVec Ideal S1024x3072 .f32) bitsLt_bf16_f32 : FVec Ideal S1024x3072 .bf16) := rfl

theorem blk3 (j : Fin 1024) (k : Fin 3072) : iblk m c 3 t (ix2 j k) = m ((c : Thread nD τ).loc main_arg3) (ix2 j k) := by
  obtain ⟨-, -, -, h, -⟩ := idx_facts t
  unfold iblk
  rw [View.read_apply]
  have e : V m c main_v0 (ix2 j k) = m ((c : Thread nD τ).loc main_arg3) (ix2 j k) := by
    rw [weight_entry]
    pointwise []
  rw [← e]
  refine congrArg (V m c main_v0) (funext fun a => Fin.ext ?_)
  match a with
  | ⟨0, _⟩ => show win0_3.index t 0 * 1024 + 1 * j.val = j.val; rw [h.1]; omega
  | ⟨1, _⟩ => show win0_3.index t 1 * 3072 + 1 * k.val = k.val; rw [h.2]; omega

theorem blk4 : iblk m c 4 t = m ((c : Thread nD τ).loc main_arg4) := by
  obtain ⟨-, -, -, -, h, -⟩ := idx_facts t
  funext j
  unfold iblk
  rw [View.read_apply, ← V_main_arg4 m c]
  refine congrArg (V m c main_arg4) (funext fun a => Fin.ext ?_)
  match a with
  | ⟨0, _⟩ => show win0_4.index t 0 * 3 + 1 * (j 0).val = (j 0).val; rw [h.1]; omega
  | ⟨1, _⟩ => show win0_4.index t 1 * 512 + 1 * (j 1).val = (j 1).val; rw [h.2]; omega

/-- The convolution's offset is the argument, laid out as one row. -/
theorem offset_entry : V m c main_v2 = shapeCast S1x512 (m ((c : Thread nD τ).loc main_arg5)) shapeCasts_S512_S1x512 := rfl

theorem blk5 (k : Fin 512) : iblk m c 5 t (ix2 0 k) = m ((c : Thread nD τ).loc main_arg5) (ix1 k) := by
  obtain ⟨-, -, -, -, -, h, -⟩ := idx_facts t
  unfold iblk
  rw [View.read_apply]
  have e : V m c main_v2 (ix2 0 k) = m ((c : Thread nD τ).loc main_arg5) (ix1 k) := by
    rw [offset_entry]
    pointwise []
  rw [← e]
  refine congrArg (V m c main_v2) (funext fun a => Fin.ext ?_)
  match a with
  | ⟨0, _⟩ => show win0_5.index t 0 * 1 + 1 * 0 = 0; rw [h.1]
  | ⟨1, _⟩ => show win0_5.index t 1 * 512 + 1 * k.val = k.val; rw [h.2]; omega

theorem blk6 : iblk m c 6 t = m ((c : Thread nD τ).loc main_arg6) := by
  obtain ⟨-, -, -, -, -, -, h, -⟩ := idx_facts t
  funext j
  unfold iblk
  rw [View.read_apply, ← V_main_arg6 m c]
  refine congrArg (V m c main_arg6) (funext fun a => Fin.ext ?_)
  match a with
  | ⟨0, _⟩ => show win0_6.index t 0 * 1 + 1 * (j 0).val = (j 0).val; rw [h.1]; omega
  | ⟨1, _⟩ => show win0_6.index t 1 * 2 + 1 * (j 1).val = (j 1).val; rw [h.2.1]; omega
  | ⟨2, _⟩ => show win0_6.index t 2 * 512 + 1 * (j 2).val = (j 2).val; rw [h.2.2]; omega

/-! ## The rows the convolution reads -/

/-- The product at a grid point's row is the reference's product at that row of the arrays. -/
theorem proj_blk (r : Fin 512) (n : Fin 16384) (hn : n.val = t.val * 512 + r.val) (l : Fin 3072) :
    k0_pay4 (iblk m c 1 t) (iblk m c 0 t) (iblk m c 2 t) (iblk m c 3 t) (ix2 r l)
      = val_main_v22 (F := Ideal) (m ((c : Thread nD τ).loc main_arg0)) (m ((c : Thread nD τ).loc main_arg1))
    (m ((c : Thread nD τ).loc main_arg2)) (m ((c : Thread nD τ).loc main_arg3)) (ix3 0 n l) :=
  proj_eq _ _ _ _ _ _ _ _ r n l (blk0 m c t r n hn) (blk1 m c t) (blk2 m c t) (blk3 m c t)

/-- The reference's padded product: the two given rows, then the rows of the product. -/
abbrev rows : Vec Ideal Cert.InEvenRefIdeal.S1x16386x512 .f32 :=
  val_main_v30 (F := Ideal) (m ((c : Thread nD τ).loc main_arg0)) (m ((c : Thread nD τ).loc main_arg1))
    (m ((c : Thread nD τ).loc main_arg2)) (m ((c : Thread nD τ).loc main_arg3))
    (m ((c : Thread nD τ).loc main_arg6))

/-- A row of a point's tile is the row of the padded product two further on. -/
theorem tile_eq (r : Fin 512) (n : Fin 16386) (hn : n.val = 512 * t.val + r.val + 2) (l : Fin 512) :
    k0_pay9 (iblk m c 1 t) (iblk m c 0 t) (iblk m c 2 t) (iblk m c 3 t) (ix3 0 r l) = rows m c (ix3 0 n l) := by
  have ht : t.val < 32 := Nat.lt_of_lt_of_eq t.isLt N_0
  have hr := r.isLt
  let k : Fin 16384 := ⟨512 * t.val + r.val, by omega⟩
  refine (f_eq _ _ _ _ _ _ _ _ r k l (fun j => proj_blk m c t r k (by show 512 * t.val + r.val = t.val * 512 + r.val; omega) j)).trans ?_
  exact (rows_high _ _ _ _ _ n k l hn).symm

/-- The rows carried to a point are the two in front of its tile. -/
theorem hAt_eq : ∀ (t : ℕ) (_ : t < 32) (j : Fin 2) (n : Fin 16386) (_ : n.val = 512 * t + j.val) (l : Fin 512),
    hAt m c t (ix3 0 j l) = rows m c (ix3 0 n l)
  | 0, _, j, n, hn, l => by
    unfold hAt
    rw [blk6]
    exact (rows_low _ _ _ _ _ n j l (by omega)).symm
  | t + 1, h, j, n, hn, l => by
    have hj := j.isLt
    have hp : (pt t).val = t := by show min t 31 = t; omega
    unfold hAt
    exact tile_eq m c (pt t) ⟨510 + j.val, by omega⟩ n (by rw [hp]; show n.val = 512 * t + (510 + j.val) + 2; omega) l

/-- The tile's rows moved down, behind the carried ones, are rows of the padded product. -/
theorem shifted_eq (s : ℕ) (hs : s ≤ 2) (r : Fin 512) (n : Fin 16386) (hn : n.val + s = 512 * t.val + r.val + 2) (l : Fin 512) :
    shifted s (hAt m c t.val) (k0_pay9 (iblk m c 1 t) (iblk m c 0 t) (iblk m c 2 t) (iblk m c 3 t)) (ix3 0 r l) = rows m c (ix3 0 n l) := by
  have ht : t.val < 32 := Nat.lt_of_lt_of_eq t.isLt N_0
  show (if r.val < s then hAt m c t.val (ix3 0 ⟨(r.val + 2 - s) % 2, _⟩ l)
    else k0_pay9 (iblk m c 1 t) (iblk m c 0 t) (iblk m c 2 t) (iblk m c 3 t) (ix3 0 ⟨r.val - s, _⟩ l)) = _
  by_cases h : r.val < s
  · rw [if_pos h]
    exact hAt_eq m c t.val ht _ n (by show n.val = 512 * t.val + (r.val + 2 - s) % 2; omega) l
  · rw [if_neg h]
    exact tile_eq m c t _ n (by show n.val = 512 * t.val + (r.val - s) + 2; omega) l

/-! ## The arrays after the run -/

theorem idx_inj7 : ∀ t t' : Fin cfg0.N, win0_7.index t = win0_7.index t' → t = t' :=
  (by decide +kernel : ∀ t t' : Fin grid0.N, win0_7.index t = win0_7.index t' → t = t')

theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

theorem idx_inj8 : ∀ t t' : Fin cfg0.N, win0_8.index t = win0_8.index t' → t = t' :=
  (by decide +kernel : ∀ t t' : Fin grid0.N, win0_8.index t = win0_8.index t' → t = t')

theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

theorem idx_inj9 : ∀ t t' : Fin cfg0.N, win0_9.index t = win0_9.index t' → t = t' :=
  (by decide +kernel : ∀ t t' : Fin grid0.N, win0_9.index t = win0_9.index t' → t = t')

theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

theorem disjoint10 : ∀ t t' : Fin cfg0.N, (cfg0.win 10).flush t = true → (cfg0.win 10).flush t' = true → t ≠ t' →
    Disjoint ((cfg0.win 10).blk t).view.set ((cfg0.win 10).blk t').view.set := fun t t' h h' hne => by
  have a := (flush0_10 t).1 h
  have b := (flush0_10 t').1 h'
  have h1 : t.val < 32 := Nat.lt_of_lt_of_eq t.isLt N_0
  have h2 : t'.val < 32 := Nat.lt_of_lt_of_eq t'.isLt N_0
  exact absurd (Fin.ext (by omega)) hne

/-- The convolution's result, gated, over the whole array. -/
theorem result7 : (dats m 0 c).arrAt 7 cfg0.N = val_main_v58 (F := Ideal) (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5)) (m ((c : Thread nD τ).loc main_arg6)) := by
  funext i
  obtain ⟨u, n, l, rfl⟩ : ∃ (u : Fin 1) (n : Fin 16384) (l : Fin 512), i = ix3 u n l := ⟨i 0, i 1, i 2, (ix3_eta i).symm⟩
  obtain rfl : u = 0 := Subsingleton.elim _ _
  have hN : cfg0.N = 32 := N_0
  let t : Fin cfg0.N := ⟨n.val / 512, by have := n.isLt; omega⟩
  let r : Fin 512 := ⟨n.val % 512, Nat.mod_lt _ (by norm_num)⟩
  have hn : n.val = 512 * t.val + r.val := by show n.val = 512 * (n.val / 512) + n.val % 512; omega
  have hb := congrFun ((dats m 0 c).read_blk_arrAt_eq_flushed 7 disjoint7 cfg0.N t t.isLt (flush0_7 t)) (ix3 0 r l)
  rw [View.read_apply] at hb
  have hi : (((cfg0.win 7).blk t).view.emb (ix3 0 r l)) = ix3 0 n l := by
    obtain ⟨-, -, -, -, -, -, -, h, -⟩ := idx_facts t
    refine funext fun a => Fin.ext ?_
    match a with
    | ⟨0, _⟩ => show win0_7.index t 0 * 1 + 1 * 0 = 0; rw [h.1]
    | ⟨1, _⟩ => show win0_7.index t 1 * 512 + 1 * r.val = n.val; rw [h.2.1]; omega
    | ⟨2, _⟩ => show win0_7.index t 2 * 512 + 1 * l.val = l.val; rw [h.2.2]; omega
  rw [hi] at hb
  refine hb.trans ?_
  show (dats m 0 c).after 7 t (ix3 0 r l) = _
  rw [after0_7]
  unfold yaOut
  rw [blk4]
  exact ya_eq _ _ _ _ _ _ _ _ _ _ _ _ _ _ _ r n l (proj_blk m c t r n (by omega)) (blk5 m c t)
    (shifted_eq m c t 2 (by omega) r _ (by show n.val + 2 = 512 * t.val + r.val + 2; omega) l)
    (shifted_eq m c t 1 (by omega) r _ (by show 1 + n.val + 1 = 512 * t.val + r.val + 2; omega) l)
    (tile_eq m c t r _ (by show 2 + n.val = 512 * t.val + r.val + 2; omega) l)

/-- The recurrence's input, over the whole array. -/
theorem result8 : (dats m 0 c).arrAt 8 cfg0.N = val_main_v27 (F := Ideal) (m ((c : Thread nD τ).loc main_arg0)) (m ((c : Thread nD τ).loc main_arg1))
    (m ((c : Thread nD τ).loc main_arg2)) (m ((c : Thread nD τ).loc main_arg3)) := by
  funext i
  obtain ⟨u, n, l, rfl⟩ : ∃ (u : Fin 1) (n : Fin 16384) (l : Fin 512), i = ix3 u n l := ⟨i 0, i 1, i 2, (ix3_eta i).symm⟩
  obtain rfl : u = 0 := Subsingleton.elim _ _
  have hN : cfg0.N = 32 := N_0
  let t : Fin cfg0.N := ⟨n.val / 512, by have := n.isLt; omega⟩
  let r : Fin 512 := ⟨n.val % 512, Nat.mod_lt _ (by norm_num)⟩
  have hn : n.val = 512 * t.val + r.val := by show n.val = 512 * (n.val / 512) + n.val % 512; omega
  have hb := congrFun ((dats m 0 c).read_blk_arrAt_eq_flushed 8 disjoint8 cfg0.N t t.isLt (flush0_8 t)) (ix3 0 r l)
  rw [View.read_apply] at hb
  have hi : (((cfg0.win 8).blk t).view.emb (ix3 0 r l)) = ix3 0 n l := by
    obtain ⟨-, -, -, -, -, -, -, -, h, -⟩ := idx_facts t
    refine funext fun a => Fin.ext ?_
    match a with
    | ⟨0, _⟩ => show win0_8.index t 0 * 1 + 1 * 0 = 0; rw [h.1]
    | ⟨1, _⟩ => show win0_8.index t 1 * 512 + 1 * r.val = n.val; rw [h.2.1]; omega
    | ⟨2, _⟩ => show win0_8.index t 2 * 512 + 1 * l.val = l.val; rw [h.2.2]; omega
  rw [hi] at hb
  refine hb.trans ?_
  show (dats m 0 c).after 8 t (ix3 0 r l) = _
  rw [after0_8]
  exact u_eq _ _ _ _ _ _ _ _ r n l (proj_blk m c t r n (by omega))

/-- Its gate, over the whole array. -/
theorem result9 : (dats m 0 c).arrAt 9 cfg0.N = val_main_v59 (F := Ideal) (m ((c : Thread nD τ).loc main_arg0)) (m ((c : Thread nD τ).loc main_arg1))
    (m ((c : Thread nD τ).loc main_arg2)) (m ((c : Thread nD τ).loc main_arg3)) := by
  funext i
  obtain ⟨u, n, l, rfl⟩ : ∃ (u : Fin 1) (n : Fin 16384) (l : Fin 512), i = ix3 u n l := ⟨i 0, i 1, i 2, (ix3_eta i).symm⟩
  obtain rfl : u = 0 := Subsingleton.elim _ _
  have hN : cfg0.N = 32 := N_0
  let t : Fin cfg0.N := ⟨n.val / 512, by have := n.isLt; omega⟩
  let r : Fin 512 := ⟨n.val % 512, Nat.mod_lt _ (by norm_num)⟩
  have hn : n.val = 512 * t.val + r.val := by show n.val = 512 * (n.val / 512) + n.val % 512; omega
  have hb := congrFun ((dats m 0 c).read_blk_arrAt_eq_flushed 9 disjoint9 cfg0.N t t.isLt (flush0_9 t)) (ix3 0 r l)
  rw [View.read_apply] at hb
  have hi : (((cfg0.win 9).blk t).view.emb (ix3 0 r l)) = ix3 0 n l := by
    obtain ⟨-, -, -, -, -, -, -, -, -, h, -⟩ := idx_facts t
    refine funext fun a => Fin.ext ?_
    match a with
    | ⟨0, _⟩ => show win0_9.index t 0 * 1 + 1 * 0 = 0; rw [h.1]
    | ⟨1, _⟩ => show win0_9.index t 1 * 512 + 1 * r.val = n.val; rw [h.2.1]; omega
    | ⟨2, _⟩ => show win0_9.index t 2 * 512 + 1 * l.val = l.val; rw [h.2.2]; omega
  rw [hi] at hb
  refine hb.trans ?_
  show (dats m 0 c).after 9 t (ix3 0 r l) = _
  rw [after0_9]
  exact s_eq _ _ _ _ _ _ _ _ r n l (proj_blk m c t r n (by omega))

/-- The last two rows, which the next run starts from. -/
theorem result10 : (dats m 0 c).arrAt 10 cfg0.N = val_main_v60 (F := Ideal) (m ((c : Thread nD τ).loc main_arg0)) (m ((c : Thread nD τ).loc main_arg1))
    (m ((c : Thread nD τ).loc main_arg2)) (m ((c : Thread nD τ).loc main_arg3))
    (m ((c : Thread nD τ).loc main_arg6)) := by
  funext i
  obtain ⟨u, j, l, rfl⟩ : ∃ (u : Fin 1) (j : Fin 2) (l : Fin 512), i = ix3 u j l := ⟨i 0, i 1, i 2, (ix3_eta i).symm⟩
  obtain rfl : u = 0 := Subsingleton.elim _ _
  have hj := j.isLt
  have hN : cfg0.N = 32 := N_0
  let t : Fin cfg0.N := ⟨31, by omega⟩
  have hb := congrFun ((dats m 0 c).read_blk_arrAt_eq_flushed 10 disjoint10 cfg0.N t t.isLt ((flush0_10 t).2 rfl)) (ix3 0 j l)
  rw [View.read_apply] at hb
  have hi : (((cfg0.win 10).blk t).view.emb (ix3 0 j l)) = ix3 0 j l := by
    obtain ⟨-, -, -, -, -, -, -, -, -, -, h⟩ := idx_facts t
    refine funext fun a => Fin.ext ?_
    match a with
    | ⟨0, _⟩ => show win0_10.index t 0 * 1 + 1 * 0 = 0; rw [h.1]
    | ⟨1, _⟩ => show win0_10.index t 1 * 2 + 1 * j.val = j.val; rw [h.2.1]; omega
    | ⟨2, _⟩ => show win0_10.index t 2 * 512 + 1 * l.val = l.val; rw [h.2.2]; omega
  rw [hi] at hb
  refine hb.trans ?_
  show (dats m 0 c).after 10 t (ix3 0 j l) = _
  rw [after0_10, tail_eq]
  exact f_eq _ _ _ _ _ _ _ _ ⟨510 + j.val, by omega⟩ ⟨16382 + j.val, by omega⟩ l
    (fun k => proj_blk m c t _ _ (by show 16382 + j.val = 31 * 512 + (510 + j.val); omega) k)

end Cert.InEvenIdeal.Hand

end
-- ==== Proof.InEven.Claims.lean ====
/-
  The claims of the recurrence layer's input product and convolution: the frames, from the one run read at the machine's
  values and at the ideal ones, and that it computes what the reference defines.
-/
module

public import proofs.«01_k».proof.Defs
public import proofs.«01_k».proof.Proof.Gen.InEven
public import proofs.«01_k».proof.Proof.Gen.InEvenIdeal
public import proofs.«01_k».proof.Proof.Gen.InEvenRefIdeal
public import proofs.«01_k».proof.Proof.Gen.InEvenRefIdeal.Run
public import proofs.«01_k».proof.Proof.InEven.Same
public import proofs.«01_k».proof.Proof.InEven.Result
public import Idealize.ShloMosaic.Lib.Claim
public import Idealize.ShloMosaic.Lib.Quiescent

@[expose] public section

noncomputable section

namespace Cert.Proof

open Idealize.ShloMosaic Idealize.ShloMosaic.TcCoe Idealize.SL.Sem
open Cert.InEvenIdeal Cert.InEvenIdeal.Hand Cert.InEvenRefIdeal.Read

/-- The frame at the machine's words: the two texts are one program, and the run holds over any numbers. -/
theorem frame_inEven : Cert.quiescent_InEven := fun m ρ _ => by
  rw [Cert.InEven.same_defs, Cert.InEven.same_main]
  exact Cert.InEvenIdeal.frame (F := Bits) m ρ

/-- The frame at the ideal numbers. -/
theorem frame_inEvenIdeal : Cert.quiescent_InEvenIdeal := fun m ρ _ => Cert.InEvenIdeal.frame m ρ

/-- The frame of the reference: a host program with no semaphore. -/
theorem frame_inEvenRef : Cert.quiescent_InEvenRefIdeal := fun m ρ _ =>
  (θ_run (Cert.InEvenRefIdeal.defs (F := Ideal)) _ _).mono
    (fun r h => ⟨fun c => (h c).2.2.2.2, sem_eq_zero_of_no_sems (by decide) r.2⟩) (Cert.InEvenRefIdeal.Value.run m ρ)

/-- The kernel's four arrays after the run and the reference's are the same. -/
theorem algebraic_inEven : Cert.algebraic_InEvenIdeal_InEvenRefIdeal := fun m ρ m' ρ' _ hargs => by
  refine ⟨_, _, _, _, (θ_run (Cert.InEvenIdeal.defs (F := Ideal)) _ _).mono
      (fun r h c => ⟨((h.1 c).1 7).trans (result7 m c), ((h.1 c).1 8).trans (result8 m c), ((h.1 c).1 9).trans (result9 m c),
        ((h.1 c).1 10).trans (result10 m c), h.2.1 c⟩)
      (θ_run_and ((θ_run Cert.InEvenIdeal.defs _ _).mono (fun _ h => h.1) (run_main m ρ)) (Cert.InEvenIdeal.frame m ρ)), ?_⟩
  refine (θ_run (Cert.InEvenRefIdeal.defs (F := Ideal)) _ _).mono (fun r h c => ?_) (Cert.InEvenRefIdeal.Value.run m' ρ')
  obtain ⟨e0, e1, e2, e3, e4, e5, e6⟩ := hargs c
  obtain ⟨h0, h1, h2, h3, hk⟩ := h c
  refine ⟨h0.trans ?_, h1.trans ?_, h2.trans ?_, h3.trans ?_, hk⟩
  · rw [val_main_v58_eq, e0, e1, e2, e3, e4, e5, e6]
  · rw [val_main_v27_eq, e0, e1, e2, e3]
  · rw [val_main_v59_eq, e0, e1, e2, e3]
  · rw [val_main_v60_eq, e0, e1, e2, e3, e6]

end Cert.Proof

end
-- ==== Proof.OutEven.Pay.lean ====
/-
  The recurrent layer's output products: one row of what a grid point computes, and the same row of the reference.
-/
module

public import proofs.«01_k».proof.Proof.Gen.OutEvenIdeal.Value
public import proofs.«01_k».proof.Proof.Gen.OutEvenRefIdeal.Read
public import Idealize.ShloMosaic.Lib.Pointwise

@[expose] public section

noncomputable section

namespace Cert.OutEvenIdeal.Hand

open Cert.OutEvenIdeal Cert.OutEvenIdeal.Gen Idealize.ShloMosaic Idealize.ShloMosaic.TcCoe Idealize.SL.Sem
open Cert.OutEvenRefIdeal.Read

/-- The half of the gelu multiplies the argument in the kernel and the rest of it in the reference. -/
theorem half_assoc (y s : EReal) :
    Ideal.ofBits FTy.f32 0x3F000000#32 * y * s = y * (Ideal.ofBits FTy.f32 0x3F000000#32 * s) := by
  rw [mul_comm (Ideal.ofBits FTy.f32 0x3F000000#32) y, mul_assoc]

variable (v0 : Vec Ideal S1x512x512 .f32) (v16 : Vec Ideal S512x512 .bf16) (v27 v30 : Vec Ideal S1x512x512 .f32)
  (x0 : Vec Ideal S1x16384x1024 .f32) (x1 x2 x3 : Vec Ideal S1x16384x512 .f32) (x4 : Vec Ideal S1x1x3072 .f32)
  (x5 : Vec Ideal S1024 .f32) (x6 : Vec Ideal S512x512 .f32) (x7 : Vec Ideal S1024x1024 .f32)

/-- The second factor's left operand: the recurrence's output through gelu, its gate and `sz`, beside `ya`. -/
theorem cat_eq (r : Fin 512) (n : Fin 16384) (k : Fin 1024)
    (h1 : ∀ k, v30 (ix3 0 r k) = x1 (ix3 0 n k))
    (h2 : ∀ k, v0 (ix3 0 r k) = x2 (ix3 0 n k))
    (h3 : ∀ k, v27 (ix3 0 r k) = x3 (ix3 0 n k))
    (h6 : ∀ j k, v16 (ix2 j k) = x6 (ix2 j k)) :
    k0_pay2 v0 v16 v27 v30 (ix2 r k) = val_main_v25 (F := Ideal) x1 x2 x3 x6 (ix3 0 n k) := by
  pointwise [k0_pay2, val_main_v25, val_main_v24, val_main_v23, val_main_v22, val_main_v21, val_main_cst_4, val_main_v20,
    val_main_v19, val_main_cst_3, val_main_v18, val_main_v17, val_main_v16, val_main_v15, val_main_v14, val_main_v13,
    val_main_cst_2, val_main_v12, val_main_v11, val_main_cst_1, val_main_v10, val_main_v9, val_main_v8, val_main_cst_0,
    val_main_v7, val_main_v6, val_main_v5, val_main_cst, val_main_v4, val_main_v3]
  simp only [h1, h2, h3, h6, half_assoc, zero_sub]

/-- The product, its norm, the gain, the gate and the residue. -/
theorem out_eq (v34 : FVec Ideal S512x1024 .bf16) (v35 : FVec Ideal S1024x1024 .bf16) (v39 : Vec Ideal S1x1x3072 .f32)
    (v41 : Vec Ideal S1x512x1024 .f32) (v44 : Vec Ideal S1x1024 .f32)
    (r : Fin 512) (n : Fin 16384) (l : Fin 1024)
    (h : ∀ k, v34 (ix2 r k) = val_main_v25 (F := Ideal) x1 x2 x3 x6 (ix3 0 n k))
    (h0 : ∀ k, v41 (ix3 0 r k) = x0 (ix3 0 n k))
    (h4 : v39 = x4)
    (h5 : ∀ k, v44 (ix2 0 k) = x5 (ix1 k))
    (h7 : ∀ j k, v35 (ix2 j k) = x7 (ix2 j k)) :
    k0_pay1 v34 (k0_pay3 v35) (constant S512x1024 .f32 0x00000000#32) v39 v41 v44 (ix3 0 r l)
      = val_main_v44 (F := Ideal) x0 x1 x2 x3 x4 x5 x6 x7 (ix3 0 n l) := by
  pointwise [k0_pay1, k0_pay3, val_main_v44, val_main_v43, val_main_v42, val_main_v41, val_main_v40, val_main_v39, val_main_v38,
    val_main_v37, val_main_v36, val_main_v35, val_main_v34, val_main_cst_8, val_main_v33, val_main_v32, val_main_cst_7,
    val_main_v31, val_main_v30, val_main_cst_6, val_main_v29, val_main_v28, val_main_v27, val_main_cst_5, val_main_v26,
    val_main_v2]
  simp only [h, h0, h4, h5, h7]

end Cert.OutEvenIdeal.Hand

end
-- ==== Proof.OutEven.Result.lean ====
/-
  The recurrent layer's output products, over the whole array: the blocks the grid writes make up the reference.
-/
module

public import proofs.«01_k».proof.Proof.OutEven.Pay
public import proofs.«01_k».proof.Defs
public import Idealize.ShloMosaic.Lib.Claim

@[expose] public section

noncomputable section

namespace Cert.OutEvenIdeal.Hand

open Cert.OutEvenIdeal Cert.OutEvenIdeal.Gen Idealize.ShloMosaic Idealize.ShloMosaic.TcCoe Idealize.SL.Sem

variable (m : (ℓ : Loc nD τ sig) → Buf (Elt Ideal) ℓ)

/-- Where each window stands at a grid point: the row windows at the point, the others at the origin. -/
theorem idx_facts : ∀ t : Fin cfg0.N,
    (win0_0.index t 0 = 0 ∧ win0_0.index t 1 = t.val ∧ win0_0.index t 2 = 0)
    ∧ (win0_1.index t 0 = 0 ∧ win0_1.index t 1 = t.val ∧ win0_1.index t 2 = 0)
    ∧ (win0_2.index t 0 = 0 ∧ win0_2.index t 1 = t.val ∧ win0_2.index t 2 = 0)
    ∧ (win0_3.index t 0 = 0 ∧ win0_3.index t 1 = t.val ∧ win0_3.index t 2 = 0)
    ∧ (win0_4.index t 0 = 0 ∧ win0_4.index t 1 = 0 ∧ win0_4.index t 2 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = t.val ∧ win0_8.index t 2 = 0) :=
  (by decide +kernel : ∀ t : Fin grid0.N, _)

variable (c : Dev nD) (t : Fin cfg0.N) (r : Fin 512) (n : Fin 16384) (hn : n.val = 512 * t.val + r.val)

include hn in
theorem blk0 (k : Fin 1024) : iblk m c 0 t (ix3 0 r k) = m ((c : Thread nD τ).loc main_arg0) (ix3 0 n k) := by
  obtain ⟨h, -⟩ := idx_facts t
  unfold iblk
  rw [View.read_apply, ← V_main_arg0 m c]
  refine congrArg (V m c main_arg0) (funext fun a => Fin.ext ?_)
  match a with
  | ⟨0, _⟩ => show win0_0.index t 0 * 1 + 1 * 0 = 0; rw [h.1]
  | ⟨1, _⟩ => show win0_0.index t 1 * 512 + 1 * r.val = n.val; rw [h.2.1]; omega
  | ⟨2, _⟩ => show win0_0.index t 2 * 1024 + 1 * k.val = k.val; rw [h.2.2]; omega

include hn in
theorem blk1 (k : Fin 512) : iblk m c 1 t (ix3 0 r k) = m ((c : Thread nD τ).loc main_arg1) (ix3 0 n k) := by
  obtain ⟨-, h, -⟩ := idx_facts t
  unfold iblk
  rw [View.read_apply, ← V_main_arg1 m c]
  refine congrArg (V m c main_arg1) (funext fun a => Fin.ext ?_)
  match a with
  | ⟨0, _⟩ => show win0_1.index t 0 * 1 + 1 * 0 = 0; rw [h.1]
  | ⟨1, _⟩ => show win0_1.index t 1 * 512 + 1 * r.val = n.val; rw [h.2.1]; omega
  | ⟨2, _⟩ => show win0_1.index t 2 * 512 + 1 * k.val = k.val; rw [h.2.2]; omega

include hn in
theorem blk2 (k : Fin 512) : iblk m c 2 t (ix3 0 r k) = m ((c : Thread nD τ).loc main_arg2) (ix3 0 n k) := by
  obtain ⟨-, -, h, -⟩ := idx_facts t
  unfold iblk
  rw [View.read_apply, ← V_main_arg2 m c]
  refine congrArg (V m c main_arg2) (funext fun a => Fin.ext ?_)
  match a with
  | ⟨0, _⟩ => show win0_2.index t 0 * 1 + 1 * 0 = 0; rw [h.1]
  | ⟨1, _⟩ => show win0_2.index t 1 * 512 + 1 * r.val = n.val; rw [h.2.1]; omega
  | ⟨2, _⟩ => show win0_2.index t 2 * 512 + 1 * k.val = k.val; rw [h.2.2]; omega

include hn in
theorem blk3 (k : Fin 512) : iblk m c 3 t (ix3 0 r k) = m ((c : Thread nD τ).loc main_arg3) (ix3 0 n k) := by
  obtain ⟨-, -, -, h, -⟩ := idx_facts t
  unfold iblk
  rw [View.read_apply, ← V_main_arg3 m c]
  refine congrArg (V m c main_arg3) (funext fun a => Fin.ext ?_)
  match a with
  | ⟨0, _⟩ => show win0_3.index t 0 * 1 + 1 * 0 = 0; rw [h.1]
  | ⟨1, _⟩ => show win0_3.index t 1 * 512 + 1 * r.val = n.val; rw [h.2.1]; omega
  | ⟨2, _⟩ => show win0_3.index t 2 * 512 + 1 * k.val = k.val; rw [h.2.2]; omega

theorem blk4 : iblk m c 4 t = m ((c : Thread nD τ).loc main_arg4) := by
  obtain ⟨-, -, -, -, h, -⟩ := idx_facts t
  funext j
  unfold iblk
  rw [View.read_apply, ← V_main_arg4 m c]
  refine congrArg (V m c main_arg4) (funext fun a => Fin.ext ?_)
  match a with
  | ⟨0, _⟩ => show win0_4.index t 0 * 1 + 1 * (j 0).val = (j 0).val; rw [h.1]; omega
  | ⟨1, _⟩ => show win0_4.index t 1 * 1 + 1 * (j 1).val = (j 1).val; rw [h.2.1]; omega
  | ⟨2, _⟩ => show win0_4.index t 2 * 3072 + 1 * (j 2).val = (j 2).val; rw [h.2.2]; omega

/-- The gain is the argument, laid out as one row. -/
theorem gain_entry : V m c main_v2 = shapeCast S1x1024 (m ((c : Thread nD τ).loc main_arg5)) shapeCasts_S1024_S1x1024 := rfl

theorem blk5 (k : Fin 1024) : iblk m c 5 t (ix2 0 k) = m ((c : Thread nD τ).loc main_arg5) (ix1 k) := by
  obtain ⟨-, -, -, -, -, h, -⟩ := idx_facts t
  unfold iblk
  rw [View.read_apply]
  have e : V m c main_v2 (ix2 0 k) = m ((c : Thread nD τ).loc main_arg5) (ix1 k) := by
    rw [gain_entry]
    pointwise []
  rw [← e]
  refine congrArg (V m c main_v2) (funext fun a => Fin.ext ?_)
  match a with
  | ⟨0, _⟩ => show win0_5.index t 0 * 1 + 1 * 0 = 0; rw [h.1]
  | ⟨1, _⟩ => show win0_5.index t 1 * 1024 + 1 * k.val = k.val; rw [h.2]; omega

/-- The gate's weights: the argument, narrowed. -/
theorem entry6 : V m c main_v0
    = (truncf .bf16 (m ((c : Thread nD τ).loc main_arg6) : FVec Ideal S512x512 .f32) bitsLt_bf16_f32 : FVec Ideal S512x512 .bf16) := rfl

theorem blk6 (j k : Fin 512) : iblk m c 6 t (ix2 j k) = m ((c : Thread nD τ).loc main_arg6) (ix2 j k) := by
  obtain ⟨-, -, -, -, -, -, h, -⟩ := idx_facts t
  unfold iblk
  rw [View.read_apply]
  have e : V m c main_v0 (ix2 j k) = m ((c : Thread nD τ).loc main_arg6) (ix2 j k) := by
    rw [entry6]
    pointwise []
  rw [← e]
  refine congrArg (V m c main_v0) (funext fun a => Fin.ext ?_)
  match a with
  | ⟨0, _⟩ => show win0_6.index t 0 * 512 + 1 * j.val = j.val; rw [h.1]; omega
  | ⟨1, _⟩ => show win0_6.index t 1 * 512 + 1 * k.val = k.val; rw [h.2]; omega

/-- The output's weights: the argument, narrowed. -/
theorem entry7 : V m c main_v1
    = (truncf .bf16 (m ((c : Thread nD τ).loc main_arg7) : FVec Ideal S1024x1024 .f32) bitsLt_bf16_f32 : FVec Ideal S1024x1024 .bf16) := rfl

theorem blk7 (j k : Fin 1024) : iblk m c 7 t (ix2 j k) = m ((c : Thread nD τ).loc main_arg7) (ix2 j k) := by
  obtain ⟨-, -, -, -, -, -, -, h, -⟩ := idx_facts t
  unfold iblk
  rw [View.read_apply]
  have e : V m c main_v1 (ix2 j k) = m ((c : Thread nD τ).loc main_arg7) (ix2 j k) := by
    rw [entry7]
    pointwise []
  rw [← e]
  refine congrArg (V m c main_v1) (funext fun a => Fin.ext ?_)
  match a with
  | ⟨0, _⟩ => show win0_7.index t 0 * 1024 + 1 * j.val = j.val; rw [h.1]; omega
  | ⟨1, _⟩ => show win0_7.index t 1 * 1024 + 1 * k.val = k.val; rw [h.2]; omega

/-- The reference's array, at the kernel's arguments. -/
def ref : Vec Ideal S1x16384x1024 .f32 :=
  OutEvenRefIdeal.Read.val_main_v44 (F := Ideal) (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))

/-- The array after the run is the reference's. -/
theorem result : (dats m 0 c).arrAt 8 cfg0.N = ref m c := by
  funext i
  obtain ⟨u, n, l, rfl⟩ : ∃ (u : Fin 1) (n : Fin 16384) (l : Fin 1024), i = ix3 u n l := ⟨i 0, i 1, i 2, (ix3_eta i).symm⟩
  obtain rfl : u = 0 := Subsingleton.elim _ _
  have hN : cfg0.N = 32 := N_0
  let t : Fin cfg0.N := ⟨n.val / 512, by have := n.isLt; omega⟩
  let r : Fin 512 := ⟨n.val % 512, Nat.mod_lt _ (by norm_num)⟩
  have hn : n.val = 512 * t.val + r.val := by show n.val = 512 * (n.val / 512) + n.val % 512; omega
  have hb := congrFun (Value.blocks8 m c t (flush0_8 t)) (ix3 0 r l)
  rw [Value.flushed8, View.read_apply] at hb
  have hi : (((cfg0.win 8).blk t).view.emb (ix3 0 r l)) = ix3 0 n l := by
    obtain ⟨-, -, -, -, -, -, -, -, h⟩ := idx_facts t
    refine funext fun a => Fin.ext ?_
    match a with
    | ⟨0, _⟩ => show win0_8.index t 0 * 1 + 1 * 0 = 0; rw [h.1]
    | ⟨1, _⟩ => show win0_8.index t 1 * 512 + 1 * r.val = n.val; rw [h.2.1]; omega
    | ⟨2, _⟩ => show win0_8.index t 2 * 1024 + 1 * l.val = l.val; rw [h.2.2]; omega
  rw [hi] at hb
  refine hb.trans ?_
  show out0_8 _ _ _ _ _ _ _ _ (ix3 0 r l) = _
  unfold out0_8
  have z3 : (![0, 0, 0] : Fin 3 → Nat) = fun _ => 0 := by decide
  have z2 : (![0, 0] : Fin 2 → Nat) = fun _ => 0 := by decide
  rw [View.canon_unit_zero (S := S1x512x1024) z3]
  rw [View.ld_unit_zero (S := S1x512x512) z3, View.ld_unit_zero (S := S512x512) z2, View.ld_unit_zero (S := S1x512x512) z3,
    View.ld_unit_zero (S := S1x512x512) z3, View.ld_unit_zero (S := S1024x1024) z2, View.ld_unit_zero (S := S1x1x3072) z3,
    View.ld_unit_zero (S := S1x512x1024) z3, View.ld_unit_zero (S := S1x1024) z2]
  exact out_eq _ _ _ _ _ _ _ _ _ _ _ _ _ r n l
    (fun k => cat_eq _ _ _ _ _ _ _ _ r n k (blk1 m c t r n hn) (blk2 m c t r n hn) (blk3 m c t r n hn) (blk6 m c t))
    (blk0 m c t r n hn) (blk4 m c t) (blk5 m c t) (blk7 m c t)

end Cert.OutEvenIdeal.Hand

end
-- ==== Proof.OutEven.Claims.lean ====
/-
  The claims of the recurrent layer's output products: the frames, and that they compute what the reference defines.
-/
module

public import proofs.«01_k».proof.Defs
public import proofs.«01_k».proof.Proof.Gen.OutEven
public import proofs.«01_k».proof.Proof.Gen.OutEvenIdeal
public import proofs.«01_k».proof.Proof.Gen.OutEvenRefIdeal
public import proofs.«01_k».proof.Proof.Gen.OutEven.Frame
public import proofs.«01_k».proof.Proof.OutEven.Result
public import Idealize.ShloMosaic.Lib.Claim
public import Idealize.ShloMosaic.Lib.Quiescent

@[expose] public section

noncomputable section

namespace Cert.Proof

open Idealize.ShloMosaic Idealize.ShloMosaic.TcCoe Idealize.SL.Sem

theorem frame_outEven : Cert.quiescent_OutEven := fun m ρ _ => Cert.OutEven.Gen.frame m ρ

theorem frame_outEvenIdeal : Cert.quiescent_OutEvenIdeal := fun m ρ _ => Cert.OutEvenIdeal.Gen.frame m ρ

theorem frame_outEvenRef : Cert.quiescent_OutEvenRefIdeal := fun m ρ _ =>
  (θ_run (Cert.OutEvenRefIdeal.defs (F := Ideal)) _ _).mono
    (fun r h => ⟨fun c => (h c).2, sem_eq_zero_of_no_sems (by decide) r.2⟩) (Cert.OutEvenRefIdeal.Value.run m ρ)

/-- The kernel's array after the run and the reference's are one array. -/
theorem algebraic_outEven : Cert.algebraic_OutEvenIdeal_OutEvenRefIdeal := fun m ρ m' ρ' _ hargs => by
  refine ⟨fun c => Cert.OutEvenIdeal.Hand.ref m c, ?_, ?_⟩
  · exact (θ_run (Cert.OutEvenIdeal.defs (F := Ideal)) _ _).mono
      (fun r h c => ⟨(h c).1.trans (Cert.OutEvenIdeal.Hand.result m c), (h c).2⟩) (Cert.OutEvenIdeal.Value.run_blocks m ρ)
  · refine (θ_run (Cert.OutEvenRefIdeal.defs (F := Ideal)) _ _).mono (fun r h c => ⟨(h c).1.trans ?_, (h c).2⟩)
      (Cert.OutEvenRefIdeal.Value.run m' ρ')
    obtain ⟨e0, e1, e2, e3, e4, e5, e6, e7⟩ := hargs c
    rw [Cert.OutEvenRefIdeal.Read.val_main_v44_eq, e0, e1, e2, e3, e4, e5, e6, e7]
    rfl

end Cert.Proof

end
-- ==== Proof.InOdd.Pay.lean ====
/-
  The attention layer's input product: one row of what a grid point computes, and the same row of the reference.
-/
module

public import proofs.«01_k».proof.Proof.Gen.InOddIdeal.Value
public import proofs.«01_k».proof.Proof.Gen.InOddRefIdeal.Read
public import Idealize.ShloMosaic.Lib.Pointwise

@[expose] public section

noncomputable section

namespace Cert.InOddIdeal.Hand

open Cert.InOddIdeal Cert.InOddIdeal.Gen Idealize.ShloMosaic Idealize.ShloMosaic.TcCoe Idealize.SL.Sem
open Cert.InOddRefIdeal.Read

/-- The product of the normalised row with the weights: row `r` of a block is row `n` of the arrays. -/
theorem proj_eq (v0 : Vec Ideal S1x1x3072 .f32) (v3 : Vec Ideal S1x256x1024 .f32) (v4 : Vec Ideal S1x1024 .f32)
    (v27 : Vec Ideal S1024x4096 .bf16)
    (x0 : Vec Ideal S1x16384x1024 .f32) (x1 : Vec Ideal S1x1x3072 .f32) (x2 : Vec Ideal S1024 .f32) (x3 : Vec Ideal S1024x4096 .f32)
    (r : Fin 256) (n : Fin 16384) (l : Fin 4096)
    (h0 : ∀ k, v3 (ix3 0 r k) = x0 (ix3 0 n k))
    (h1 : v0 = x1)
    (h2 : ∀ k, v4 (ix2 0 k) = x2 (ix1 k))
    (h3 : ∀ j k, v27 (ix2 j k) = x3 (ix2 j k)) :
    k0_pay4 v0 v3 v4 v27 (ix2 r l) = val_main_v22 (F := Ideal) x0 x1 x2 x3 (ix3 0 n l) := by
  pointwise [k0_pay4, val_main_v22, val_main_v21, val_main_v20, val_main_v19, val_main_v18, val_main_v17, val_main_v16,
    val_main_cst_2, val_main_v15, val_main_v14, val_main_v13, val_main_v12, val_main_v11, val_main_v10, val_main_v9,
    val_main_v8, val_main_cst_1, val_main_v7, val_main_v6, val_main_cst_0, val_main_v5, val_main_v4, val_main_cst,
    val_main_v3, val_main_v1, val_main_v0]
  simp only [h0, h1, h2, h3]

variable (v0 : Vec Ideal S1x1x3072 .f32) (v3 : Vec Ideal S1x256x1024 .f32) (v4 : Vec Ideal S1x1024 .f32)
  (v27 : Vec Ideal S1024x4096 .bf16)
  (x0 : Vec Ideal S1x16384x1024 .f32) (x1 : Vec Ideal S1x1x3072 .f32) (x2 : Vec Ideal S1024 .f32) (x3 : Vec Ideal S1024x4096 .f32)

/-- The keys. -/
theorem key_eq (r : Fin 256) (n : Fin 16384) (l : Fin 1024)
    (h : ∀ j, k0_pay4 v0 v3 v4 v27 (ix2 r j) = val_main_v22 (F := Ideal) x0 x1 x2 x3 (ix3 0 n j)) :
    k0_pay9 v0 v3 v4 v27 (ix3 0 r l) = val_main_v24 (F := Ideal) x0 x1 x2 x3 (ix3 0 n l) := by
  pointwise [k0_pay9, k0_pay6, val_main_v24]
  rw [h]

/-- The values. -/
theorem value_eq (r : Fin 256) (n : Fin 16384) (l : Fin 1024)
    (h : ∀ j, k0_pay4 v0 v3 v4 v27 (ix2 r j) = val_main_v22 (F := Ideal) x0 x1 x2 x3 (ix3 0 n j)) :
    k0_pay10 v0 v3 v4 v27 (ix3 0 r l) = val_main_v25 (F := Ideal) x0 x1 x2 x3 (ix3 0 n l) := by
  pointwise [k0_pay10, k0_pay7, val_main_v25]
  rw [h]

/-- The queries, heads first and rows last. -/
theorem query_eq (r : Fin 256) (n : Fin 16384) (a : Fin 16) (b : Fin 64)
    (h : ∀ j, k0_pay4 v0 v3 v4 v27 (ix2 r j) = val_main_v22 (F := Ideal) x0 x1 x2 x3 (ix3 0 n j)) :
    k0_pay12 (k0_pay5 v0 v3 v4 v27) (ix3 a b r) = val_main_v29 (F := Ideal) x0 x1 x2 x3 (ix3 a b n) := by
  pointwise [k0_pay12, k0_pay5, val_main_v29, val_main_v28, val_main_v27, val_main_v23]
  rw [h]

/-- The mean key of a block of 256 rows. -/
theorem mean_eq (g : Fin 64) (l : Fin 1024)
    (h : ∀ (r : Fin 256) j, k0_pay4 v0 v3 v4 v27 (ix2 r j)
      = val_main_v22 (F := Ideal) x0 x1 x2 x3 (ix3 0 ⟨g.val * 256 + r.val, by omega⟩ j)) :
    k0_pay14 (k0_pay6 v0 v3 v4 v27) (ix3 0 0 l) = val_main_v34 (F := Ideal) x0 x1 x2 x3 (ix3 g 0 l) := by
  pointwise [k0_pay14, k0_pay6, val_main_v34, val_main_v33, val_main_cst_4, val_main_v32, val_main_v31, val_main_cst_3, val_main_v30,
    val_main_v24]
  simp only [h]

/-- The gate through its sigmoid. -/
theorem gate_eq (r : Fin 256) (n : Fin 16384) (l : Fin 1024)
    (h : ∀ j, k0_pay4 v0 v3 v4 v27 (ix2 r j) = val_main_v22 (F := Ideal) x0 x1 x2 x3 (ix3 0 n j)) :
    k0_pay11 (k0_pay8 v0 v3 v4 v27) (ix3 0 r l) = val_main_v35 (F := Ideal) x0 x1 x2 x3 (ix3 0 n l) := by
  pointwise [k0_pay11, k0_pay8, val_main_v35, val_main_call0_v5, val_main_call0_v4, val_main_call0_cst_0, val_main_call0_v3,
    val_main_call0_v2, val_main_call0_cst, val_main_call0_v1, val_main_call0_v0, val_main_v26]
  rw [h, zero_sub]

end Cert.InOddIdeal.Hand

end
-- ==== Proof.InOdd.Result.lean ====
/-
  The attention layer's input product, over the whole arrays: the blocks the grid writes make up the reference's arrays.
-/
module

public import proofs.«01_k».proof.Proof.InOdd.Pay
public import proofs.«01_k».proof.Defs
public import Idealize.ShloMosaic.Lib.Claim

@[expose] public section

noncomputable section

namespace Cert.InOddIdeal.Hand

open Cert.InOddIdeal Cert.InOddIdeal.Gen Idealize.ShloMosaic Idealize.ShloMosaic.TcCoe Idealize.SL.Sem
open Cert.InOddRefIdeal.Read

variable (m : (ℓ : Loc nD τ sig) → Buf (Elt Ideal) ℓ)

/-- Where each input window stands at a grid point. -/
theorem idx_in : ∀ t : Fin cfg0.N,
    (win0_0.index t 0 = 0 ∧ win0_0.index t 1 = t.val ∧ win0_0.index t 2 = 0)
    ∧ (win0_1.index t 0 = 0 ∧ win0_1.index t 1 = 0 ∧ win0_1.index t 2 = 0)
    ∧ (win0_2.index t 0 = 0 ∧ win0_2.index t 1 = 0)
    ∧ (win0_3.index t 0 = 0 ∧ win0_3.index t 1 = 0) :=
  (by decide +kernel : ∀ t : Fin grid0.N, _)

/-- Where each result's window stands at a grid point. -/
theorem idx_out : ∀ t : Fin cfg0.N,
    (win0_4.index t 0 = 0 ∧ win0_4.index t 1 = t.val ∧ win0_4.index t 2 = 0)
    ∧ (win0_5.index t 0 = 0 ∧ win0_5.index t 1 = t.val ∧ win0_5.index t 2 = 0)
    ∧ (win0_6.index t 0 = 0 ∧ win0_6.index t 1 = t.val ∧ win0_6.index t 2 = 0)
    ∧ (win0_7.index t 0 = 0 ∧ win0_7.index t 1 = 0 ∧ win0_7.index t 2 = t.val)
    ∧ (win0_10.index t 0 = t.val ∧ win0_10.index t 1 = 0 ∧ win0_10.index t 2 = 0) :=
  (by decide +kernel : ∀ t : Fin grid0.N, _)

variable (c : Dev nD) (t : Fin cfg0.N)

theorem blk0 (r : Fin 256) (n : Fin 16384) (hn : n.val = t.val * 256 + r.val) (k : Fin 1024) :
    iblk m c 0 t (ix3 0 r k) = m ((c : Thread nD τ).loc main_arg0) (ix3 0 n k) := by
  obtain ⟨h, -⟩ := idx_in t
  unfold iblk
  rw [View.read_apply, ← V_main_arg0 m c]
  refine congrArg (V m c main_arg0) (funext fun a => Fin.ext ?_)
  match a with
  | ⟨0, _⟩ => show win0_0.index t 0 * 1 + 1 * 0 = 0; rw [h.1]
  | ⟨1, _⟩ => show win0_0.index t 1 * 256 + 1 * r.val = n.val; rw [h.2.1]; omega
  | ⟨2, _⟩ => show win0_0.index t 2 * 1024 + 1 * k.val = k.val; rw [h.2.2]; omega

theorem blk1 : iblk m c 1 t = m ((c : Thread nD τ).loc main_arg1) := by
  obtain ⟨-, h, -⟩ := idx_in t
  funext j
  unfold iblk
  rw [View.read_apply, ← V_main_arg1 m c]
  refine congrArg (V m c main_arg1) (funext fun a => Fin.ext ?_)
  match a with
  | ⟨0, _⟩ => show win0_1.index t 0 * 1 + 1 * (j 0).val = (j 0).val; rw [h.1]; omega
  | ⟨1, _⟩ => show win0_1.index t 1 * 1 + 1 * (j 1).val = (j 1).val; rw [h.2.1]; omega
  | ⟨2, _⟩ => show win0_1.index t 2 * 3072 + 1 * (j 2).val = (j 2).val; rw [h.2.2]; omega

/-- The gain is the argument, laid out as one row. -/
theorem gain_entry : V m c main_v1 = shapeCast S1x1024 (m ((c : Thread nD τ).loc main_arg2)) shapeCasts_S1024_S1x1024 := rfl

theorem blk2 (k : Fin 1024) : iblk m c 2 t (ix2 0 k) = m ((c : Thread nD τ).loc main_arg2) (ix1 k) := by
  obtain ⟨-, -, h, -⟩ := idx_in t
  unfold iblk
  rw [View.read_apply]
  have e : V m c main_v1 (ix2 0 k) = m ((c : Thread nD τ).loc main_arg2) (ix1 k) := by
    rw [gain_entry]
    pointwise []
  rw [← e]
  refine congrArg (V m c main_v1) (funext fun a => Fin.ext ?_)
  match a with
  | ⟨0, _⟩ => show win0_2.index t 0 * 1 + 1 * 0 = 0; rw [h.1]
  | ⟨1, _⟩ => show win0_2.index t 1 * 1024 + 1 * k.val = k.val; rw [h.2]; omega

/-- The weights are the argument, narrowed. -/
theorem weight_entry : V m c main_v0
    = (truncf .bf16 (m ((c : Thread nD τ).loc main_arg3) : FVec Ideal S1024x4096 .f32) bitsLt_bf16_f32 : FVec Ideal S1024x4096 .bf16) := rfl

theorem blk3 (j : Fin 1024) (k : Fin 4096) : iblk m c 3 t (ix2 j k) = m ((c : Thread nD τ).loc main_arg3) (ix2 j k) := by
  obtain ⟨-, -, -, h⟩ := idx_in t
  unfold iblk
  rw [View.read_apply]
  have e : V m c main_v0 (ix2 j k) = m ((c : Thread nD τ).loc main_arg3) (ix2 j k) := by
    rw [weight_entry]
    pointwise []
  rw [← e]
  refine congrArg (V m c main_v0) (funext fun a => Fin.ext ?_)
  match a with
  | ⟨0, _⟩ => show win0_3.index t 0 * 1024 + 1 * j.val = j.val; rw [h.1]; omega
  | ⟨1, _⟩ => show win0_3.index t 1 * 4096 + 1 * k.val = k.val; rw [h.2]; omega

/-- The product at a grid point's row is the reference's product at that row of the arrays. -/
theorem proj_blk (r : Fin 256) (n : Fin 16384) (hn : n.val = t.val * 256 + r.val) (l : Fin 4096) :
    k0_pay4 (iblk m c 1 t) (iblk m c 0 t) (iblk m c 2 t) (iblk m c 3 t) (ix2 r l)
      = val_main_v22 (F := Ideal) (m ((c : Thread nD τ).loc main_arg0)) (m ((c : Thread nD τ).loc main_arg1))
          (m ((c : Thread nD τ).loc main_arg2)) (m ((c : Thread nD τ).loc main_arg3)) (ix3 0 n l) :=
  proj_eq _ _ _ _ _ _ _ _ r n l (blk0 m c t r n hn) (blk1 m c t) (blk2 m c t) (blk3 m c t)

theorem z3 : (![0, 0, 0] : Fin 3 → Nat) = fun _ => 0 := by decide
theorem z2 : (![0, 0] : Fin 2 → Nat) = fun _ => 0 := by decide

/-- The keys, over the whole array. -/
theorem result4 : (dats m 0 c).arrAt 4 cfg0.N = val_main_v24 (F := Ideal) (m ((c : Thread nD τ).loc main_arg0)) (m ((c : Thread nD τ).loc main_arg1))
    (m ((c : Thread nD τ).loc main_arg2)) (m ((c : Thread nD τ).loc main_arg3)) := by
  funext i
  obtain ⟨u, n, l, rfl⟩ : ∃ (u : Fin 1) (n : Fin 16384) (l : Fin 1024), i = ix3 u n l := ⟨i 0, i 1, i 2, (ix3_eta i).symm⟩
  obtain rfl : u = 0 := Subsingleton.elim _ _
  have hN : cfg0.N = 64 := N_0
  let t : Fin cfg0.N := ⟨n.val / 256, by have := n.isLt; omega⟩
  let r : Fin 256 := ⟨n.val % 256, Nat.mod_lt _ (by norm_num)⟩
  have hn : n.val = t.val * 256 + r.val := by show n.val = (n.val / 256) * 256 + n.val % 256; omega
  have hb := congrFun (Value.blocks4 m c t (flush0_4 t)) (ix3 0 r l)
  rw [Value.flushed4, View.read_apply] at hb
  have hi : (((cfg0.win 4).blk t).view.emb (ix3 0 r l)) = ix3 0 n l := by
    obtain ⟨h, -⟩ := idx_out t
    refine funext fun a => Fin.ext ?_
    match a with
    | ⟨0, _⟩ => show win0_4.index t 0 * 1 + 1 * 0 = 0; rw [h.1]
    | ⟨1, _⟩ => show win0_4.index t 1 * 256 + 1 * r.val = n.val; rw [h.2.1]; omega
    | ⟨2, _⟩ => show win0_4.index t 2 * 1024 + 1 * l.val = l.val; rw [h.2.2]; omega
  rw [hi] at hb
  refine hb.trans ?_
  show out0_4 _ _ _ _ _ (ix3 0 r l) = _
  unfold out0_4
  rw [View.canon_unit_zero (S := S1x256x1024) z3]
  rw [View.ld_unit_zero (S := S1x1x3072) z3, View.ld_unit_zero (S := S1x256x1024) z3, View.ld_unit_zero (S := S1x1024) z2,
    View.ld_unit_zero (S := S1024x4096) z2]
  exact key_eq _ _ _ _ _ _ _ _ r n l (proj_blk m c t r n hn)

/-- The values, over the whole array. -/
theorem result5 : (dats m 0 c).arrAt 5 cfg0.N = val_main_v25 (F := Ideal) (m ((c : Thread nD τ).loc main_arg0)) (m ((c : Thread nD τ).loc main_arg1))
    (m ((c : Thread nD τ).loc main_arg2)) (m ((c : Thread nD τ).loc main_arg3)) := by
  funext i
  obtain ⟨u, n, l, rfl⟩ : ∃ (u : Fin 1) (n : Fin 16384) (l : Fin 1024), i = ix3 u n l := ⟨i 0, i 1, i 2, (ix3_eta i).symm⟩
  obtain rfl : u = 0 := Subsingleton.elim _ _
  have hN : cfg0.N = 64 := N_0
  let t : Fin cfg0.N := ⟨n.val / 256, by have := n.isLt; omega⟩
  let r : Fin 256 := ⟨n.val % 256, Nat.mod_lt _ (by norm_num)⟩
  have hn : n.val = t.val * 256 + r.val := by show n.val = (n.val / 256) * 256 + n.val % 256; omega
  have hb := congrFun (Value.blocks5 m c t (flush0_5 t)) (ix3 0 r l)
  rw [Value.flushed5, View.read_apply] at hb
  have hi : (((cfg0.win 5).blk t).view.emb (ix3 0 r l)) = ix3 0 n l := by
    obtain ⟨-, h, -⟩ := idx_out t
    refine funext fun a => Fin.ext ?_
    match a with
    | ⟨0, _⟩ => show win0_5.index t 0 * 1 + 1 * 0 = 0; rw [h.1]
    | ⟨1, _⟩ => show win0_5.index t 1 * 256 + 1 * r.val = n.val; rw [h.2.1]; omega
    | ⟨2, _⟩ => show win0_5.index t 2 * 1024 + 1 * l.val = l.val; rw [h.2.2]; omega
  rw [hi] at hb
  refine hb.trans ?_
  show out0_5 _ _ _ _ _ (ix3 0 r l) = _
  unfold out0_5
  rw [View.canon_unit_zero (S := S1x256x1024) z3]
  rw [View.ld_unit_zero (S := S1x1x3072) z3, View.ld_unit_zero (S := S1x256x1024) z3, View.ld_unit_zero (S := S1x1024) z2,
    View.ld_unit_zero (S := S1024x4096) z2]
  exact value_eq _ _ _ _ _ _ _ _ r n l (proj_blk m c t r n hn)

/-- The gates, over the whole array. -/
theorem result6 : (dats m 0 c).arrAt 6 cfg0.N = val_main_v35 (F := Ideal) (m ((c : Thread nD τ).loc main_arg0)) (m ((c : Thread nD τ).loc main_arg1))
    (m ((c : Thread nD τ).loc main_arg2)) (m ((c : Thread nD τ).loc main_arg3)) := by
  funext i
  obtain ⟨u, n, l, rfl⟩ : ∃ (u : Fin 1) (n : Fin 16384) (l : Fin 1024), i = ix3 u n l := ⟨i 0, i 1, i 2, (ix3_eta i).symm⟩
  obtain rfl : u = 0 := Subsingleton.elim _ _
  have hN : cfg0.N = 64 := N_0
  let t : Fin cfg0.N := ⟨n.val / 256, by have := n.isLt; omega⟩
  let r : Fin 256 := ⟨n.val % 256, Nat.mod_lt _ (by norm_num)⟩
  have hn : n.val = t.val * 256 + r.val := by show n.val = (n.val / 256) * 256 + n.val % 256; omega
  have hb := congrFun (Value.blocks6 m c t (flush0_6 t)) (ix3 0 r l)
  rw [Value.flushed6, View.read_apply] at hb
  have hi : (((cfg0.win 6).blk t).view.emb (ix3 0 r l)) = ix3 0 n l := by
    obtain ⟨-, -, h, -⟩ := idx_out t
    refine funext fun a => Fin.ext ?_
    match a with
    | ⟨0, _⟩ => show win0_6.index t 0 * 1 + 1 * 0 = 0; rw [h.1]
    | ⟨1, _⟩ => show win0_6.index t 1 * 256 + 1 * r.val = n.val; rw [h.2.1]; omega
    | ⟨2, _⟩ => show win0_6.index t 2 * 1024 + 1 * l.val = l.val; rw [h.2.2]; omega
  rw [hi] at hb
  refine hb.trans ?_
  show out0_6 _ _ _ _ _ (ix3 0 r l) = _
  unfold out0_6
  rw [View.canon_unit_zero (S := S1x256x1024) z3]
  rw [View.ld_unit_zero (S := S1x1x3072) z3, View.ld_unit_zero (S := S1x256x1024) z3, View.ld_unit_zero (S := S1x1024) z2,
    View.ld_unit_zero (S := S1024x4096) z2]
  exact gate_eq _ _ _ _ _ _ _ _ r n l (proj_blk m c t r n hn)

/-- The queries, over the whole array. -/
theorem result7 : (dats m 0 c).arrAt 7 cfg0.N = val_main_v29 (F := Ideal) (m ((c : Thread nD τ).loc main_arg0)) (m ((c : Thread nD τ).loc main_arg1))
    (m ((c : Thread nD τ).loc main_arg2)) (m ((c : Thread nD τ).loc main_arg3)) := by
  funext i
  obtain ⟨a, b, n, rfl⟩ : ∃ (a : Fin 16) (b : Fin 64) (n : Fin 16384), i = ix3 a b n := ⟨i 0, i 1, i 2, (ix3_eta i).symm⟩
  have hN : cfg0.N = 64 := N_0
  let t : Fin cfg0.N := ⟨n.val / 256, by have := n.isLt; omega⟩
  let r : Fin 256 := ⟨n.val % 256, Nat.mod_lt _ (by norm_num)⟩
  have hn : n.val = t.val * 256 + r.val := by show n.val = (n.val / 256) * 256 + n.val % 256; omega
  have hb := congrFun (Value.blocks7 m c t (flush0_7 t)) (ix3 a b r)
  rw [Value.flushed7, View.read_apply] at hb
  have hi : (((cfg0.win 7).blk t).view.emb (ix3 a b r)) = ix3 a b n := by
    obtain ⟨-, -, -, h, -⟩ := idx_out t
    refine funext fun i => Fin.ext ?_
    match i with
    | ⟨0, _⟩ => show win0_7.index t 0 * 16 + 1 * a.val = a.val; rw [h.1]; omega
    | ⟨1, _⟩ => show win0_7.index t 1 * 64 + 1 * b.val = b.val; rw [h.2.1]; omega
    | ⟨2, _⟩ => show win0_7.index t 2 * 256 + 1 * r.val = n.val; rw [h.2.2]; omega
  rw [hi] at hb
  refine hb.trans ?_
  show out0_7 _ _ _ _ _ (ix3 a b r) = _
  unfold out0_7
  rw [View.canon_unit_zero (S := S16x64x256) z3]
  rw [View.ld_unit_zero (S := S1x1x3072) z3, View.ld_unit_zero (S := S1x256x1024) z3, View.ld_unit_zero (S := S1x1024) z2,
    View.ld_unit_zero (S := S1024x4096) z2]
  exact query_eq _ _ _ _ _ _ _ _ r n a b (proj_blk m c t r n hn)

/-- The blocks' mean keys, over the whole array. -/
theorem result10 : (dats m 0 c).arrAt 10 cfg0.N = val_main_v34 (F := Ideal) (m ((c : Thread nD τ).loc main_arg0)) (m ((c : Thread nD τ).loc main_arg1))
    (m ((c : Thread nD τ).loc main_arg2)) (m ((c : Thread nD τ).loc main_arg3)) := by
  funext i
  obtain ⟨g, u, l, rfl⟩ : ∃ (g : Fin 64) (u : Fin 1) (l : Fin 1024), i = ix3 g u l := ⟨i 0, i 1, i 2, (ix3_eta i).symm⟩
  obtain rfl : u = 0 := Subsingleton.elim _ _
  have hN : cfg0.N = 64 := N_0
  let t : Fin cfg0.N := ⟨g.val, by have := g.isLt; omega⟩
  have hb := congrFun (Value.blocks10 m c t (flush0_10 t)) (ix3 0 0 l)
  rw [Value.flushed10, View.read_apply] at hb
  have hi : (((cfg0.win 10).blk t).view.emb (ix3 0 0 l)) = ix3 g 0 l := by
    obtain ⟨-, -, -, -, h⟩ := idx_out t
    refine funext fun a => Fin.ext ?_
    match a with
    | ⟨0, _⟩ => show win0_10.index t 0 * 1 + 1 * 0 = g.val; rw [h.1]; show g.val * 1 + 1 * 0 = g.val; omega
    | ⟨1, _⟩ => show win0_10.index t 1 * 1 + 1 * 0 = 0; rw [h.2.1]
    | ⟨2, _⟩ => show win0_10.index t 2 * 1024 + 1 * l.val = l.val; rw [h.2.2]; omega
  rw [hi] at hb
  refine hb.trans ?_
  show out0_10 _ _ _ _ _ (ix3 0 0 l) = _
  unfold out0_10 k0_pay35
  rw [View.canon_unit_zero (S := S1x1x1024) z3]
  rw [View.ld_unit_zero (S := S1x1x3072) z3, View.ld_unit_zero (S := S1x256x1024) z3, View.ld_unit_zero (S := S1x1024) z2,
    View.ld_unit_zero (S := S1024x4096) z2]
  exact mean_eq _ _ _ _ _ _ _ _ g l (fun r => proj_blk m c t r ⟨g.val * 256 + r.val, by omega⟩ rfl)

end Cert.InOddIdeal.Hand

end
-- ==== Proof.InOdd.Claims.lean ====
/-
  The claims of the attention layer's input product: the frames, and that it computes what the reference defines.
-/
module

public import proofs.«01_k».proof.Defs
public import proofs.«01_k».proof.Proof.Gen.InOdd
public import proofs.«01_k».proof.Proof.Gen.InOddIdeal
public import proofs.«01_k».proof.Proof.Gen.InOddRefIdeal
public import proofs.«01_k».proof.Proof.Gen.InOdd.Frame
public import proofs.«01_k».proof.Proof.InOdd.Result
public import Idealize.ShloMosaic.Lib.Claim
public import Idealize.ShloMosaic.Lib.Quiescent

@[expose] public section

noncomputable section

namespace Cert.Proof

open Idealize.ShloMosaic Idealize.ShloMosaic.TcCoe Idealize.SL.Sem
open Cert.InOddIdeal.Hand Cert.InOddRefIdeal.Read

theorem frame_inOdd : Cert.quiescent_InOdd := fun m ρ _ => Cert.InOdd.Gen.frame m ρ

theorem frame_inOddIdeal : Cert.quiescent_InOddIdeal := fun m ρ _ => Cert.InOddIdeal.Gen.frame m ρ

theorem frame_inOddRef : Cert.quiescent_InOddRefIdeal := fun m ρ _ =>
  (θ_run (Cert.InOddRefIdeal.defs (F := Ideal)) _ _).mono
    (fun r h => ⟨fun c => (h c).2.2.2.2.2, sem_eq_zero_of_no_sems (by decide) r.2⟩) (Cert.InOddRefIdeal.Value.run m ρ)

/-- The kernel's five arrays after the run and the reference's are the same. -/
theorem algebraic_inOdd : Cert.algebraic_InOddIdeal_InOddRefIdeal := fun m ρ m' ρ' _ hargs => by
  refine ⟨_, _, _, _, _, (θ_run (Cert.InOddIdeal.defs (F := Ideal)) _ _).mono
      (fun r h c => ⟨(h c).1.trans (result4 m c), (h c).2.1.trans (result5 m c), (h c).2.2.1.trans (result6 m c),
        (h c).2.2.2.1.trans (result7 m c), (h c).2.2.2.2.2.2.1.trans (result10 m c), (h c).2.2.2.2.2.2.2⟩)
      (Cert.InOddIdeal.Value.run_blocks m ρ), ?_⟩
  refine (θ_run (Cert.InOddRefIdeal.defs (F := Ideal)) _ _).mono (fun r h c => ?_) (Cert.InOddRefIdeal.Value.run m' ρ')
  obtain ⟨e0, e1, e2, e3⟩ := hargs c
  obtain ⟨h0, h1, h2, h3, h4, hk⟩ := h c
  refine ⟨h0.trans ?_, h1.trans ?_, h2.trans ?_, h3.trans ?_, h4.trans ?_, hk⟩
  · rw [val_main_v24_eq, e0, e1, e2, e3]
  · rw [val_main_v25_eq, e0, e1, e2, e3]
  · rw [val_main_v35_eq, e0, e1, e2, e3]
  · rw [val_main_v29_eq, e0, e1, e2, e3]
  · rw [val_main_v34_eq, e0, e1, e2, e3]

end Cert.Proof

end
-- ==== Proof.OutOdd.Pay.lean ====
/-
  The last product of the attention layer: one row of what a grid point computes, and the same row of the reference.
  Both are read down to sums and scalar arithmetic on the extended reals; they are then the same expression.
-/
module

public import proofs.«01_k».proof.Proof.Gen.OutOddIdeal.Value
public import proofs.«01_k».proof.Proof.Gen.OutOddRefIdeal.Read
public import Idealize.ShloMosaic.Lib.Pointwise

@[expose] public section

noncomputable section

namespace Cert.OutOddIdeal.Hand

open Cert.OutOddIdeal Cert.OutOddIdeal.Gen Idealize.ShloMosaic Idealize.ShloMosaic.TcCoe Idealize.SL.Sem

/-- Row `r` of a block, computed from blocks whose row `r` is row `n` of the arrays, is row `n` of the reference. -/
theorem pay_eq_ref (v0 : Vec Ideal S16x64x256 .f32) (v3 : Vec Ideal S1x256x1024 .f32) (v7 : Vec Ideal S1024x1024 .bf16)
    (v11 : Vec Ideal S1x1x3072 .f32) (v13 : Vec Ideal S1x256x1024 .f32) (v16 : Vec Ideal S1x1024 .f32)
    (x0 : Vec Ideal S1x16384x1024 .f32) (x1 : Vec Ideal S16x64x16384 .f32) (x2 : Vec Ideal S1x16384x1024 .f32)
    (x3 : Vec Ideal S1x1x3072 .f32) (x4 : Vec Ideal S1024 .f32) (x5 : Vec Ideal S1024x1024 .f32)
    (r : Fin 256) (n : Fin 16384) (l : Fin 1024)
    (h0 : ∀ k, v13 (ix3 0 r k) = x0 (ix3 0 n k))
    (h1 : ∀ a b, v0 (ix3 a b r) = x1 (ix3 a b n))
    (h2 : ∀ k, v3 (ix3 0 r k) = x2 (ix3 0 n k))
    (h3 : v11 = x3)
    (h4 : ∀ k, v16 (ix2 0 k) = x4 (ix1 k))
    (h5 : ∀ j k, v7 (ix2 j k) = x5 (ix2 j k)) :
    k0_pay1 v0 v3 v7 v11 v13 v16 (ix3 0 r l) = OutOddRefIdeal.Read.val_main_v24 (F := Ideal) x0 x1 x2 x3 x4 x5 (ix3 0 n l) := by
  rw [← OutOddRefIdeal.Read.val_main_v24_eq]
  pointwise [k0_pay1]
  simp only [h0, h1, h2, h3, h4, h5]

end Cert.OutOddIdeal.Hand

end
-- ==== Proof.OutOdd.Result.lean ====
/-
  The last product of the attention layer, over the whole array: the blocks the grid writes make up the reference.
-/
module

public import proofs.«01_k».proof.Proof.OutOdd.Pay
public import proofs.«01_k».proof.Defs
public import Idealize.ShloMosaic.Lib.Claim

@[expose] public section

noncomputable section

namespace Cert.OutOddIdeal.Hand

open Cert.OutOddIdeal Cert.OutOddIdeal.Gen Idealize.ShloMosaic Idealize.ShloMosaic.TcCoe Idealize.SL.Sem

variable (m : (ℓ : Loc nD τ sig) → Buf (Elt Ideal) ℓ)

/-- Where each window stands at a grid point: the row windows at the point, the others at the origin. -/
theorem idx_facts : ∀ t : Fin cfg0.N,
    (win0_0.index t 0 = 0 ∧ win0_0.index t 1 = t.val ∧ win0_0.index t 2 = 0)
    ∧ (win0_1.index t 0 = 0 ∧ win0_1.index t 1 = 0 ∧ win0_1.index t 2 = t.val)
    ∧ (win0_2.index t 0 = 0 ∧ win0_2.index t 1 = t.val ∧ win0_2.index t 2 = 0)
    ∧ (win0_3.index t 0 = 0 ∧ win0_3.index t 1 = 0 ∧ win0_3.index t 2 = 0)
    ∧ (win0_4.index t 0 = 0 ∧ win0_4.index t 1 = 0)
    ∧ (win0_5.index t 0 = 0 ∧ win0_5.index t 1 = 0)
    ∧ (win0_6.index t 0 = 0 ∧ win0_6.index t 1 = t.val ∧ win0_6.index t 2 = 0) :=
  (by decide +kernel : ∀ t : Fin grid0.N, _)

variable (c : Dev nD) (t : Fin cfg0.N) (r : Fin 256) (n : Fin 16384) (hn : n.val = 256 * t.val + r.val)

include hn in
theorem blk0 (k : Fin 1024) : iblk m c 0 t (ix3 0 r k) = m ((c : Thread nD τ).loc main_arg0) (ix3 0 n k) := by
  obtain ⟨h, -⟩ := idx_facts t
  unfold iblk
  rw [View.read_apply, ← V_main_arg0 m c]
  refine congrArg (V m c main_arg0) (funext fun a => Fin.ext ?_)
  match a with
  | ⟨0, _⟩ => show win0_0.index t 0 * 1 + 1 * 0 = 0; rw [h.1]
  | ⟨1, _⟩ => show win0_0.index t 1 * 256 + 1 * r.val = n.val; rw [h.2.1]; omega
  | ⟨2, _⟩ => show win0_0.index t 2 * 1024 + 1 * k.val = k.val; rw [h.2.2]; omega

include hn in
theorem blk1 (a : Fin 16) (b : Fin 64) : iblk m c 1 t (ix3 a b r) = m ((c : Thread nD τ).loc main_arg1) (ix3 a b n) := by
  obtain ⟨-, h, -⟩ := idx_facts t
  unfold iblk
  rw [View.read_apply, ← V_main_arg1 m c]
  refine congrArg (V m c main_arg1) (funext fun i => Fin.ext ?_)
  match i with
  | ⟨0, _⟩ => show win0_1.index t 0 * 16 + 1 * a.val = a.val; rw [h.1]; omega
  | ⟨1, _⟩ => show win0_1.index t 1 * 64 + 1 * b.val = b.val; rw [h.2.1]; omega
  | ⟨2, _⟩ => show win0_1.index t 2 * 256 + 1 * r.val = n.val; rw [h.2.2]; omega

include hn in
theorem blk2 (k : Fin 1024) : iblk m c 2 t (ix3 0 r k) = m ((c : Thread nD τ).loc main_arg2) (ix3 0 n k) := by
  obtain ⟨-, -, h, -⟩ := idx_facts t
  unfold iblk
  rw [View.read_apply, ← V_main_arg2 m c]
  refine congrArg (V m c main_arg2) (funext fun a => Fin.ext ?_)
  match a with
  | ⟨0, _⟩ => show win0_2.index t 0 * 1 + 1 * 0 = 0; rw [h.1]
  | ⟨1, _⟩ => show win0_2.index t 1 * 256 + 1 * r.val = n.val; rw [h.2.1]; omega
  | ⟨2, _⟩ => show win0_2.index t 2 * 1024 + 1 * k.val = k.val; rw [h.2.2]; omega

theorem blk3 : iblk m c 3 t = m ((c : Thread nD τ).loc main_arg3) := by
  obtain ⟨-, -, -, h, -⟩ := idx_facts t
  funext j
  unfold iblk
  rw [View.read_apply, ← V_main_arg3 m c]
  refine congrArg (V m c main_arg3) (funext fun a => Fin.ext ?_)
  match a with
  | ⟨0, _⟩ => show win0_3.index t 0 * 1 + 1 * (j 0).val = (j 0).val; rw [h.1]; omega
  | ⟨1, _⟩ => show win0_3.index t 1 * 1 + 1 * (j 1).val = (j 1).val; rw [h.2.1]; omega
  | ⟨2, _⟩ => show win0_3.index t 2 * 3072 + 1 * (j 2).val = (j 2).val; rw [h.2.2]; omega

/-- The gain is the argument, laid out as one row. -/
theorem gain_entry : V m c main_v1 = shapeCast S1x1024 (m ((c : Thread nD τ).loc main_arg4)) shapeCasts_S1024_S1x1024 := rfl

theorem blk4 (k : Fin 1024) : iblk m c 4 t (ix2 0 k) = m ((c : Thread nD τ).loc main_arg4) (ix1 k) := by
  obtain ⟨-, -, -, -, h, -⟩ := idx_facts t
  unfold iblk
  rw [View.read_apply]
  have e : V m c main_v1 (ix2 0 k) = m ((c : Thread nD τ).loc main_arg4) (ix1 k) := by
    rw [gain_entry]
    pointwise []
  rw [← e]
  refine congrArg (V m c main_v1) (funext fun a => Fin.ext ?_)
  match a with
  | ⟨0, _⟩ => show win0_4.index t 0 * 1 + 1 * 0 = 0; rw [h.1]
  | ⟨1, _⟩ => show win0_4.index t 1 * 1024 + 1 * k.val = k.val; rw [h.2]; omega

/-- The weights are the argument, narrowed. -/
theorem weight_entry : V m c main_v0
    = (truncf .bf16 (m ((c : Thread nD τ).loc main_arg5) : FVec Ideal S1024x1024 .f32) bitsLt_bf16_f32 : FVec Ideal S1024x1024 .bf16) := rfl

theorem blk5 (j k : Fin 1024) : iblk m c 5 t (ix2 j k) = m ((c : Thread nD τ).loc main_arg5) (ix2 j k) := by
  obtain ⟨-, -, -, -, -, h, -⟩ := idx_facts t
  unfold iblk
  rw [View.read_apply]
  have e : V m c main_v0 (ix2 j k) = m ((c : Thread nD τ).loc main_arg5) (ix2 j k) := by
    rw [weight_entry]
    pointwise []
  rw [← e]
  refine congrArg (V m c main_v0) (funext fun a => Fin.ext ?_)
  match a with
  | ⟨0, _⟩ => show win0_5.index t 0 * 1024 + 1 * j.val = j.val; rw [h.1]; omega
  | ⟨1, _⟩ => show win0_5.index t 1 * 1024 + 1 * k.val = k.val; rw [h.2]; omega

/-- The reference's array, at the kernel's arguments. -/
def ref : Vec Ideal S1x16384x1024 .f32 :=
  OutOddRefIdeal.Read.val_main_v24 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- The array after the run is the reference's. -/
theorem result : (dats m 0 c).arrAt 6 cfg0.N = ref m c := by
  funext i
  obtain ⟨u, n, l, rfl⟩ : ∃ (u : Fin 1) (n : Fin 16384) (l : Fin 1024), i = ix3 u n l := ⟨i 0, i 1, i 2, (ix3_eta i).symm⟩
  obtain rfl : u = 0 := Subsingleton.elim _ _
  have hN : cfg0.N = 64 := N_0
  let t : Fin cfg0.N := ⟨n.val / 256, by have := n.isLt; omega⟩
  let r : Fin 256 := ⟨n.val % 256, Nat.mod_lt _ (by norm_num)⟩
  have hn : n.val = 256 * t.val + r.val := by show n.val = 256 * (n.val / 256) + n.val % 256; omega
  have hb := congrFun (Value.blocks6 m c t (flush0_6 t)) (ix3 0 r l)
  rw [Value.flushed6, View.read_apply] at hb
  have hi : (((cfg0.win 6).blk t).view.emb (ix3 0 r l)) = ix3 0 n l := by
    obtain ⟨-, -, -, -, -, -, h⟩ := idx_facts t
    refine funext fun a => Fin.ext ?_
    match a with
    | ⟨0, _⟩ => show win0_6.index t 0 * 1 + 1 * 0 = 0; rw [h.1]
    | ⟨1, _⟩ => show win0_6.index t 1 * 256 + 1 * r.val = n.val; rw [h.2.1]; omega
    | ⟨2, _⟩ => show win0_6.index t 2 * 1024 + 1 * l.val = l.val; rw [h.2.2]; omega
  rw [hi] at hb
  refine hb.trans ?_
  show out0_6 _ _ _ _ _ _ (ix3 0 r l) = _
  unfold out0_6
  have z3 : (![0, 0, 0] : Fin 3 → Nat) = fun _ => 0 := by decide
  have z2 : (![0, 0] : Fin 2 → Nat) = fun _ => 0 := by decide
  rw [View.canon_unit_zero (S := S1x256x1024) z3]
  rw [View.ld_unit_zero (S := S16x64x256) z3, View.ld_unit_zero (S := S1x256x1024) z3, View.ld_unit_zero (S := S1024x1024) z2,
    View.ld_unit_zero (S := S1x1x3072) z3, View.ld_unit_zero (S := S1x256x1024) z3, View.ld_unit_zero (S := S1x1024) z2]
  exact pay_eq_ref _ _ _ _ _ _ _ _ _ _ _ _ r n l (blk0 m c t r n hn) (blk1 m c t r n hn) (blk2 m c t r n hn) (blk3 m c t)
    (blk4 m c t) (blk5 m c t)

end Cert.OutOddIdeal.Hand

end
-- ==== Proof.OutOdd.Claims.lean ====
/-
  The claims of the attention layer's last product: the frames, and that it computes what the reference defines.
-/
module

public import proofs.«01_k».proof.Defs
public import proofs.«01_k».proof.Proof.Gen.OutOdd
public import proofs.«01_k».proof.Proof.Gen.OutOddIdeal
public import proofs.«01_k».proof.Proof.Gen.OutOddRefIdeal
public import proofs.«01_k».proof.Proof.Gen.OutOdd.Frame
public import proofs.«01_k».proof.Proof.OutOdd.Result
public import Idealize.ShloMosaic.Lib.Claim
public import Idealize.ShloMosaic.Lib.Quiescent

@[expose] public section

noncomputable section

namespace Cert.Proof

open Idealize.ShloMosaic Idealize.ShloMosaic.TcCoe Idealize.SL.Sem

theorem frame_outOdd : Cert.quiescent_OutOdd := fun m ρ _ => Cert.OutOdd.Gen.frame m ρ

theorem frame_outOddIdeal : Cert.quiescent_OutOddIdeal := fun m ρ _ => Cert.OutOddIdeal.Gen.frame m ρ

theorem frame_outOddRef : Cert.quiescent_OutOddRefIdeal := fun m ρ _ =>
  (θ_run (Cert.OutOddRefIdeal.defs (F := Ideal)) _ _).mono
    (fun r h => ⟨fun c => (h c).2, sem_eq_zero_of_no_sems (by decide) r.2⟩) (Cert.OutOddRefIdeal.Value.run m ρ)

/-- The kernel's array after the run and the reference's are one array. -/
theorem algebraic_outOdd : Cert.algebraic_OutOddIdeal_OutOddRefIdeal := fun m ρ m' ρ' _ hargs => by
  refine ⟨fun c => Cert.OutOddIdeal.Hand.ref m c, ?_, ?_⟩
  · exact (θ_run (Cert.OutOddIdeal.defs (F := Ideal)) _ _).mono
      (fun r h c => ⟨(h c).1.trans (Cert.OutOddIdeal.Hand.result m c), (h c).2⟩) (Cert.OutOddIdeal.Value.run_blocks m ρ)
  · refine (θ_run (Cert.OutOddRefIdeal.defs (F := Ideal)) _ _).mono (fun r h c => ⟨(h c).1.trans ?_, (h c).2⟩)
      (Cert.OutOddRefIdeal.Value.run m' ρ')
    obtain ⟨e0, e1, e2, e3, e4, e5⟩ := hargs c
    rw [Cert.OutOddRefIdeal.Read.val_main_v24_eq, e0, e1, e2, e3, e4, e5]
    rfl

end Cert.Proof

end
-- ==== Proof.Adaln.Result.lean ====
/-
  The modulation: what one grid point computes, what the reference computes, and that the blocks make up the reference's array.
-/
module

public import proofs.«01_k».proof.Proof.Gen.AdalnIdeal.Value
public import proofs.«01_k».proof.Proof.Gen.AdalnRefIdeal.Read
public import Idealize.ShloMosaic.Lib.Pointwise

@[expose] public section

noncomputable section

namespace Cert.AdalnIdeal.Hand

open Cert.AdalnIdeal Cert.AdalnIdeal.Gen Idealize.ShloMosaic Idealize.ShloMosaic.TcCoe Idealize.SL.Sem
open Cert.AdalnRefIdeal.Read

/-- One entry of the modulation of a layer: the product of the row through its SiLU with the layer's weights, and the bias. -/
def entry (x0 : Vec Ideal S40x1024 .f32) (w : Fin 1024 → Ideal .f32) (b : Ideal .f32) (r : Fin 40) : Ideal .f32 :=
  (∑ k : Fin 1024, x0 (ix2 r k) * Ideal.div 1 (1 + Ideal.exp (-x0 (ix2 r k))) * w k) + b

/-- What a grid point computes. -/
theorem pay_eq (v0 : Vec Ideal S40x1024 .f32) (v9 : Vec Ideal S1x1024x1024 .f32) (v12 : Vec Ideal S1x1x1024 .f32)
    (r : Fin 40) (j : Fin 1024) :
    k0_pay1 v0 v9 v12 (ix3 0 r j) = entry v0 (fun k => v9 (ix3 0 k j)) (v12 (ix3 0 0 j)) r := by
  pointwise [k0_pay1, entry]
  simp only [zero_sub]

/-- The reference's first layer. -/
theorem ref_first (x0 : Vec Ideal S40x1024 .f32) (x1 : Vec Ideal S2x1024x3072 .f32) (x2 : Vec Ideal S2x3072 .f32)
    (r : Fin 40) (j : Fin 3072) :
    val_main_v20 (F := Ideal) x0 x1 x2 (ix3 0 r j) = entry x0 (fun k => x1 (ix3 0 k j)) (x2 (ix2 0 j)) r := by
  pointwise [val_main_v20, val_main_v18, val_main_v8, val_main_v7, val_main_v6, val_main_v5, val_main_v4, val_main_v3,
    val_main_v2, val_main_v1, val_main_v0, val_main_call0_v5, val_main_call0_v4, val_main_call0_cst_0, val_main_call0_v3,
    val_main_call0_v2, val_main_call0_cst, val_main_call0_v1, val_main_call0_v0, entry]

/-- The reference's second layer. -/
theorem ref_second (x0 : Vec Ideal S40x1024 .f32) (x1 : Vec Ideal S2x1024x3072 .f32) (x2 : Vec Ideal S2x3072 .f32)
    (r : Fin 40) (j : Fin 3072) :
    val_main_v20 (F := Ideal) x0 x1 x2 (ix3 1 r j) = entry x0 (fun k => x1 (ix3 1 k j)) (x2 (ix2 1 j)) r := by
  pointwise [val_main_v20, val_main_v19, val_main_v17, val_main_v16, val_main_v15, val_main_v14, val_main_v13, val_main_v12,
    val_main_v11, val_main_v10, val_main_v9, val_main_call1_v5, val_main_call1_v4, val_main_call1_cst_0, val_main_call1_v3,
    val_main_call1_v2, val_main_call1_cst, val_main_call1_v1, val_main_call1_v0, entry]

variable (m : (ℓ : Loc nD τ sig) → Buf (Elt Ideal) ℓ)

/-- Where each window stands at a grid point. -/
theorem idx_all : ∀ t : Fin cfg0.N,
    (win0_0.index t 0 = 0 ∧ win0_0.index t 1 = 0)
    ∧ (win0_1.index t 0 = t.val / 3 ∧ win0_1.index t 1 = 0 ∧ win0_1.index t 2 = t.val % 3)
    ∧ (win0_2.index t 0 = t.val / 3 ∧ win0_2.index t 1 = 0 ∧ win0_2.index t 2 = t.val % 3)
    ∧ (win0_3.index t 0 = t.val / 3 ∧ win0_3.index t 1 = 0 ∧ win0_3.index t 2 = t.val % 3) :=
  (by decide +kernel : ∀ t : Fin grid0.N, _)

variable (c : Dev nD) (t : Fin cfg0.N)

theorem blk0 : iblk m c 0 t = m ((c : Thread nD τ).loc main_arg0) := by
  obtain ⟨h, -⟩ := idx_all t
  funext j
  unfold iblk
  rw [View.read_apply, ← V_main_arg0 m c]
  refine congrArg (V m c main_arg0) (funext fun a => Fin.ext ?_)
  match a with
  | ⟨0, _⟩ => show win0_0.index t 0 * 40 + 1 * (j 0).val = (j 0).val; rw [h.1]; omega
  | ⟨1, _⟩ => show win0_0.index t 1 * 1024 + 1 * (j 1).val = (j 1).val; rw [h.2]; omega

theorem blk1 (l : Fin 2) (hl : l.val = t.val / 3) (k : Fin 1024) (j : Fin 1024) (n : Fin 3072)
    (hn : n.val = t.val % 3 * 1024 + j.val) :
    iblk m c 1 t (ix3 0 k j) = m ((c : Thread nD τ).loc main_arg1) (ix3 l k n) := by
  obtain ⟨-, h, -⟩ := idx_all t
  unfold iblk
  rw [View.read_apply, ← V_main_arg1 m c]
  refine congrArg (V m c main_arg1) (funext fun a => Fin.ext ?_)
  match a with
  | ⟨0, _⟩ => show win0_1.index t 0 * 1 + 1 * 0 = l.val; rw [h.1]; omega
  | ⟨1, _⟩ => show win0_1.index t 1 * 1024 + 1 * k.val = k.val; rw [h.2.1]; omega
  | ⟨2, _⟩ => show win0_1.index t 2 * 1024 + 1 * j.val = n.val; rw [h.2.2]; omega

/-- A bias laid out with one row to a layer, entry by entry. -/
theorem row_entry (x : Vec Ideal S2x3072 .f32) (l : Fin 2) (n : Fin 3072) :
    shapeCast S2x1x3072 x shapeCasts_S2x3072_S2x1x3072 (ix3 l 0 n) = x (ix2 l n) := by
  pointwise []

/-- The bias is the argument, one row to a layer. -/
theorem bias_entry : V m c main_v0 = shapeCast S2x1x3072 (m ((c : Thread nD τ).loc main_arg2)) shapeCasts_S2x3072_S2x1x3072 := rfl

theorem blk2 (l : Fin 2) (hl : l.val = t.val / 3) (j : Fin 1024) (n : Fin 3072) (hn : n.val = t.val % 3 * 1024 + j.val) :
    iblk m c 2 t (ix3 0 0 j) = m ((c : Thread nD τ).loc main_arg2) (ix2 l n) := by
  obtain ⟨-, -, h, -⟩ := idx_all t
  unfold iblk
  rw [View.read_apply]
  have e : V m c main_v0 (ix3 l 0 n) = m ((c : Thread nD τ).loc main_arg2) (ix2 l n) := by
    rw [bias_entry]
    exact row_entry _ l n
  rw [← e]
  refine congrArg (V m c main_v0) (funext fun a => Fin.ext ?_)
  match a with
  | ⟨0, _⟩ => show win0_2.index t 0 * 1 + 1 * 0 = l.val; rw [h.1]; omega
  | ⟨1, _⟩ => show win0_2.index t 1 * 1 + 1 * 0 = 0; rw [h.2.1]
  | ⟨2, _⟩ => show win0_2.index t 2 * 1024 + 1 * j.val = n.val; rw [h.2.2]; omega

theorem z3 : (![0, 0, 0] : Fin 3 → Nat) = fun _ => 0 := by decide
theorem z2 : (![0, 0] : Fin 2 → Nat) = fun _ => 0 := by decide

/-- The modulation, over the whole array. -/
theorem result3 : (dats m 0 c).arrAt 3 cfg0.N = val_main_v20 (F := Ideal) (m ((c : Thread nD τ).loc main_arg0))
    (m ((c : Thread nD τ).loc main_arg1)) (m ((c : Thread nD τ).loc main_arg2)) := by
  funext i
  obtain ⟨l, r, n, rfl⟩ : ∃ (l : Fin 2) (r : Fin 40) (n : Fin 3072), i = ix3 l r n := ⟨i 0, i 1, i 2, (ix3_eta i).symm⟩
  have hN : cfg0.N = 6 := N_0
  let t : Fin cfg0.N := ⟨l.val * 3 + n.val / 1024, by have := l.isLt; have := n.isLt; omega⟩
  let j : Fin 1024 := ⟨n.val % 1024, Nat.mod_lt _ (by norm_num)⟩
  have hl : l.val = t.val / 3 := by show l.val = (l.val * 3 + n.val / 1024) / 3; have := n.isLt; omega
  have hn : n.val = t.val % 3 * 1024 + j.val := by
    show n.val = (l.val * 3 + n.val / 1024) % 3 * 1024 + n.val % 1024; have := n.isLt; omega
  have hb := congrFun (Value.blocks3 m c t (flush0_3 t)) (ix3 0 r j)
  rw [Value.flushed3, View.read_apply] at hb
  have hi : (((cfg0.win 3).blk t).view.emb (ix3 0 r j)) = ix3 l r n := by
    obtain ⟨-, -, -, h⟩ := idx_all t
    refine funext fun a => Fin.ext ?_
    match a with
    | ⟨0, _⟩ => show win0_3.index t 0 * 1 + 1 * 0 = l.val; rw [h.1]; omega
    | ⟨1, _⟩ => show win0_3.index t 1 * 40 + 1 * r.val = r.val; rw [h.2.1]; omega
    | ⟨2, _⟩ => show win0_3.index t 2 * 1024 + 1 * j.val = n.val; rw [h.2.2]; omega
  rw [hi] at hb
  refine hb.trans ?_
  show out0_3 _ _ _ (ix3 0 r j) = _
  unfold out0_3
  rw [View.canon_unit_zero (S := S1x40x1024) z3]
  rw [View.ld_unit_zero (S := S40x1024) z2, View.ld_unit_zero (S := S1x1024x1024) z3, View.ld_unit_zero (S := S1x1x1024) z3]
  rw [pay_eq, blk0, blk2 m c t l hl j n hn]
  simp only [fun k => blk1 m c t l hl k j n hn]
  clear hb hi hl
  match l with
  | ⟨0, _⟩ => exact (ref_first _ _ _ r n).symm
  | ⟨1, _⟩ => exact (ref_second _ _ _ r n).symm

end Cert.AdalnIdeal.Hand

end
-- ==== Proof.Adaln.Claims.lean ====
/-
  The claims of the modulation: the frames, and that it computes what the reference defines.
-/
module

public import proofs.«01_k».proof.Defs
public import proofs.«01_k».proof.Proof.Gen.Adaln
public import proofs.«01_k».proof.Proof.Gen.AdalnIdeal
public import proofs.«01_k».proof.Proof.Gen.AdalnRefIdeal
public import proofs.«01_k».proof.Proof.Gen.Adaln.Frame
public import proofs.«01_k».proof.Proof.Adaln.Result
public import Idealize.ShloMosaic.Lib.Claim
public import Idealize.ShloMosaic.Lib.Quiescent

@[expose] public section

noncomputable section

namespace Cert.Proof

open Idealize.ShloMosaic Idealize.ShloMosaic.TcCoe Idealize.SL.Sem
open Cert.AdalnIdeal.Hand Cert.AdalnRefIdeal.Read

theorem frame_adaln : Cert.quiescent_Adaln := fun m ρ _ => Cert.Adaln.Gen.frame m ρ

theorem frame_adalnIdeal : Cert.quiescent_AdalnIdeal := fun m ρ _ => Cert.AdalnIdeal.Gen.frame m ρ

theorem frame_adalnRef : Cert.quiescent_AdalnRefIdeal := fun m ρ _ =>
  (θ_run (Cert.AdalnRefIdeal.defs (F := Ideal)) _ _).mono
    (fun r h => ⟨fun c => (h c).2, sem_eq_zero_of_no_sems (by decide) r.2⟩) (Cert.AdalnRefIdeal.Value.run m ρ)

/-- The kernel's array after the run and the reference's are the same. -/
theorem algebraic_adaln : Cert.algebraic_AdalnIdeal_AdalnRefIdeal := fun m ρ m' ρ' _ hargs => by
  refine ⟨_, (θ_run (Cert.AdalnIdeal.defs (F := Ideal)) _ _).mono
      (fun r h c => ⟨(h c).1.trans (result3 m c), (h c).2⟩) (Cert.AdalnIdeal.Value.run_blocks m ρ), ?_⟩
  refine (θ_run (Cert.AdalnRefIdeal.defs (F := Ideal)) _ _).mono (fun r h c => ?_) (Cert.AdalnRefIdeal.Value.run m' ρ')
  obtain ⟨e0, e1, e2⟩ := hargs c
  obtain ⟨h0, hk⟩ := h c
  refine ⟨h0.trans ?_, hk⟩
  rw [val_main_v20_eq, e0, e1, e2]

end Cert.Proof

end
-- ==== Proof.Params.Pay.lean ====
/-
  The discretisation of the recurrence: one entry of what the call computes, and the same entry of the reference.
-/
module

public import proofs.«01_k».proof.Proof.Gen.ParamsIdeal.Value
public import proofs.«01_k».proof.Proof.Gen.ParamsRefIdeal.Read
public import Idealize.ShloMosaic.Lib.Pointwise

@[expose] public section

noncomputable section

namespace Cert.ParamsIdeal.Hand

open Cert.ParamsIdeal Cert.ParamsIdeal.Gen Idealize.ShloMosaic Idealize.ShloMosaic.TcCoe Idealize.SL.Sem
open Cert.ParamsRefIdeal.Read

/-- The group of a row, 16 rows to a group. -/
theorem group_lt (ρ : Fin 512) : ρ.val / 16 < 32 := by omega

/-- The channel of a row within its group. -/
theorem channel_lt (ρ : Fin 512) : ρ.val % 16 < 16 := by omega

variable (v0 v2 v4 v27 v29 : Vec Ideal S512x64 .f32)
  (x0 x1 : Vec Ideal S32x64 .f32) (x2 : Vec Ideal S32 .f32) (x3 x4 : Vec Ideal S32x64x16 .f32)
  (ρ : Fin 512) (l : Fin 64)
  (h0 : v0 (ix2 ρ l) = x0 (ix2 ⟨ρ.val / 16, group_lt ρ⟩ l))
  (h1 : v2 (ix2 ρ l) = x1 (ix2 ⟨ρ.val / 16, group_lt ρ⟩ l))
  (h2 : v4 (ix2 ρ l) = x2 (ix1 ⟨ρ.val / 16, group_lt ρ⟩))
  (h3 : v27 (ix2 ρ l) = x3 (ix3 ⟨ρ.val / 16, group_lt ρ⟩ l ⟨ρ.val % 16, channel_lt ρ⟩))
  (h4 : v29 (ix2 ρ l) = x4 (ix3 ⟨ρ.val / 16, group_lt ρ⟩ l ⟨ρ.val % 16, channel_lt ρ⟩))

include h0 h1 h2 in
/-- The real part of the discretised coefficient. -/
theorem bar_re_eq : k0_pay6 v0 v2 v4 (ix2 ρ l) = val_main_v41 (F := Ideal) x0 x1 x2 (ix2 ρ l) := by
  pointwise [k0_pay6, k0_pay5, k0_pay4, k0_pay3, k0_pay2, k0_pay1,
    val_main_v41, val_main_v40, val_main_v8, val_main_v7, val_main_v6, val_main_v5, val_main_v4, val_main_v3, val_main_v2, val_main_v1, val_main_v0]
  simp only [h0, h1, h2]

include h0 h1 h2 in
/-- The imaginary part of the discretised coefficient. -/
theorem bar_im_eq : k0_pay7 v0 v2 v4 (ix2 ρ l) = val_main_v43 (F := Ideal) x0 x1 x2 (ix2 ρ l) := by
  pointwise [k0_pay7, k0_pay5, k0_pay4, k0_pay3, k0_pay2, k0_pay1,
    val_main_v43, val_main_v42, val_main_v12, val_main_v11, val_main_v10, val_main_v9, val_main_v4, val_main_v3, val_main_v2, val_main_v1, val_main_v0]
  simp only [h0, h1, h2]

include h0 h1 h2 h3 h4 in
/-- The real part of the discretised input weights. -/
theorem in_re_eq : k0_pay14 v0 v2 v4 v27 v29 (ix2 ρ l) = val_main_v45 (F := Ideal) x0 x1 x2 x3 x4 (ix2 ρ l) := by
  pointwise [k0_pay15, k0_pay14, k0_pay13, k0_pay12, k0_pay11, k0_pay10, k0_pay9, k0_pay8, k0_pay7, k0_pay6, k0_pay5, k0_pay4, k0_pay3, k0_pay2, k0_pay1,
    val_main_v45, val_main_v44, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]
  simp only [h0, h1, h2, h3, h4]

include h0 h1 h2 h3 h4 in
/-- The imaginary part of the discretised input weights. -/
theorem in_im_eq : k0_pay15 v0 v2 v4 v27 v29 (ix2 ρ l) = val_main_v47 (F := Ideal) x0 x1 x2 x3 x4 (ix2 ρ l) := by
  pointwise [k0_pay15, k0_pay14, k0_pay13, k0_pay12, k0_pay11, k0_pay10, k0_pay9, k0_pay8, k0_pay7, k0_pay6, k0_pay5, k0_pay4, k0_pay3, k0_pay2, k0_pay1,
    val_main_v47, val_main_v46, val_main_v39, val_main_v38, val_main_v37, val_main_v36, val_main_v35, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]
  simp only [h0, h1, h2, h3, h4]

end Cert.ParamsIdeal.Hand

end
-- ==== Proof.Params.Result.lean ====
/-
  The discretisation of the recurrence, over the whole arrays.
-/
module

public import proofs.«01_k».proof.Proof.Params.Pay
public import Idealize.ShloMosaic.Lib.Pointwise

@[expose] public section

noncomputable section

namespace Cert.ParamsIdeal.Hand

open Cert.ParamsIdeal Cert.ParamsIdeal.Gen Idealize.ShloMosaic Idealize.ShloMosaic.TcCoe Idealize.SL.Sem
open Cert.ParamsRefIdeal.Read

/-- The coefficients, 16 rows to a group, entry by entry. -/
theorem rep_entry (x : Vec Ideal S32x64 .f32) (ρ : Fin 512) (l : Fin 64) :
    shapeCast S512x64 (broadcastInDim S32x16x64 ![0, 2] bcast_S32x64_S32x16x64_0_2 (x)) shapeCasts_S32x16x64_S512x64 (ix2 ρ l)
      = x (ix2 ⟨ρ.val / 16, group_lt ρ⟩ l) := by
  pointwise []

/-- The logarithm of the step, 16 rows to a group, entry by entry. -/
theorem step_entry (x : Vec Ideal S32 .f32) (ρ : Fin 512) (l : Fin 64) :
    shapeCast S512x64 (broadcastInDim S32x16x64 ![0, 2] bcast_S32x64_S32x16x64_0_2 (broadcastInDim S32x64 ![0, 1] bcast_S32x1_S32x64_0_1 (broadcastInDim S32x1 ![0] bcast_S32_S32x1_0 (x)))) shapeCasts_S32x16x64_S512x64 (ix2 ρ l)
      = x (ix1 ⟨ρ.val / 16, group_lt ρ⟩) := by
  pointwise []

/-- The input weights, a row to a channel, entry by entry. -/
theorem rows_entry (x : Vec Ideal S32x64x16 .f32) (ρ : Fin 512) (l : Fin 64) :
    shapeCast S512x64 (transpose S32x16x64 [0, 2, 1] (x) transposes_S32x64x16_S32x16x64_0_2_1) shapeCasts_S32x16x64_S512x64 (ix2 ρ l)
      = x (ix3 ⟨ρ.val / 16, group_lt ρ⟩ l ⟨ρ.val % 16, channel_lt ρ⟩) := by
  pointwise []

variable (m : (ℓ : Loc nD τ sig) → Buf (Elt Ideal) ℓ) (c : Dev nD) (t : Fin cfg0.N) (ρ : Fin 512) (l : Fin 64)

/-- Every window stands at the origin. -/
theorem idx_all : ∀ t : Fin cfg0.N,
    (win0_0.index t 0 = 0 ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0) :=
  (by decide +kernel : ∀ t : Fin grid0.N, _)

theorem blk0 : iblk m c 0 t (ix2 ρ l) = m ((c : Thread nD τ).loc main_arg0) (ix2 ⟨ρ.val / 16, group_lt ρ⟩ l) := by
  obtain ⟨h, -⟩ := idx_all t
  unfold iblk
  rw [View.read_apply, ← rep_entry (m ((c : Thread nD τ).loc main_arg0)) ρ l]
  have e : V m c main_v7 = shapeCast S512x64 (broadcastInDim S32x16x64 ![0, 2] bcast_S32x64_S32x16x64_0_2 (m ((c : Thread nD τ).loc main_arg0))) shapeCasts_S32x16x64_S512x64 := rfl
  rw [← e]
  refine congrArg (V m c main_v7) (funext fun a => Fin.ext ?_)
  match a with
  | ⟨0, _⟩ => show win0_0.index t 0 * 512 + 1 * ρ.val = ρ.val; rw [h.1]; omega
  | ⟨1, _⟩ => show win0_0.index t 1 * 64 + 1 * l.val = l.val; rw [h.2]; omega

theorem blk1 : iblk m c 1 t (ix2 ρ l) = m ((c : Thread nD τ).loc main_arg1) (ix2 ⟨ρ.val / 16, group_lt ρ⟩ l) := by
  obtain ⟨-, h, -⟩ := idx_all t
  unfold iblk
  rw [View.read_apply, ← rep_entry (m ((c : Thread nD τ).loc main_arg1)) ρ l]
  have e : V m c main_v9 = shapeCast S512x64 (broadcastInDim S32x16x64 ![0, 2] bcast_S32x64_S32x16x64_0_2 (m ((c : Thread nD τ).loc main_arg1))) shapeCasts_S32x16x64_S512x64 := rfl
  rw [← e]
  refine congrArg (V m c main_v9) (funext fun a => Fin.ext ?_)
  match a with
  | ⟨0, _⟩ => show win0_1.index t 0 * 512 + 1 * ρ.val = ρ.val; rw [h.1]; omega
  | ⟨1, _⟩ => show win0_1.index t 1 * 64 + 1 * l.val = l.val; rw [h.2]; omega

theorem blk2 : iblk m c 2 t (ix2 ρ l) = m ((c : Thread nD τ).loc main_arg2) (ix1 ⟨ρ.val / 16, group_lt ρ⟩) := by
  obtain ⟨-, -, h, -⟩ := idx_all t
  unfold iblk
  rw [View.read_apply, ← step_entry (m ((c : Thread nD τ).loc main_arg2)) ρ l]
  have e : V m c main_v11 = shapeCast S512x64 (broadcastInDim S32x16x64 ![0, 2] bcast_S32x64_S32x16x64_0_2 (broadcastInDim S32x64 ![0, 1] bcast_S32x1_S32x64_0_1 (broadcastInDim S32x1 ![0] bcast_S32_S32x1_0 (m ((c : Thread nD τ).loc main_arg2))))) shapeCasts_S32x16x64_S512x64 := rfl
  rw [← e]
  refine congrArg (V m c main_v11) (funext fun a => Fin.ext ?_)
  match a with
  | ⟨0, _⟩ => show win0_2.index t 0 * 512 + 1 * ρ.val = ρ.val; rw [h.1]; omega
  | ⟨1, _⟩ => show win0_2.index t 1 * 64 + 1 * l.val = l.val; rw [h.2]; omega

theorem blk3 : iblk m c 3 t (ix2 ρ l) = m ((c : Thread nD τ).loc main_arg3) (ix3 ⟨ρ.val / 16, group_lt ρ⟩ l ⟨ρ.val % 16, channel_lt ρ⟩) := by
  obtain ⟨-, -, -, h, -⟩ := idx_all t
  unfold iblk
  rw [View.read_apply, ← rows_entry (m ((c : Thread nD τ).loc main_arg3)) ρ l]
  have e : V m c main_v3 = shapeCast S512x64 (transpose S32x16x64 [0, 2, 1] (m ((c : Thread nD τ).loc main_arg3)) transposes_S32x64x16_S32x16x64_0_2_1) shapeCasts_S32x16x64_S512x64 := rfl
  rw [← e]
  refine congrArg (V m c main_v3) (funext fun a => Fin.ext ?_)
  match a with
  | ⟨0, _⟩ => show win0_3.index t 0 * 512 + 1 * ρ.val = ρ.val; rw [h.1]; omega
  | ⟨1, _⟩ => show win0_3.index t 1 * 64 + 1 * l.val = l.val; rw [h.2]; omega

theorem blk4 : iblk m c 4 t (ix2 ρ l) = m ((c : Thread nD τ).loc main_arg4) (ix3 ⟨ρ.val / 16, group_lt ρ⟩ l ⟨ρ.val % 16, channel_lt ρ⟩) := by
  obtain ⟨-, -, -, -, h, -⟩ := idx_all t
  unfold iblk
  rw [View.read_apply, ← rows_entry (m ((c : Thread nD τ).loc main_arg4)) ρ l]
  have e : V m c main_v5 = shapeCast S512x64 (transpose S32x16x64 [0, 2, 1] (m ((c : Thread nD τ).loc main_arg4)) transposes_S32x64x16_S32x16x64_0_2_1) shapeCasts_S32x16x64_S512x64 := rfl
  rw [← e]
  refine congrArg (V m c main_v5) (funext fun a => Fin.ext ?_)
  match a with
  | ⟨0, _⟩ => show win0_4.index t 0 * 512 + 1 * ρ.val = ρ.val; rw [h.1]; omega
  | ⟨1, _⟩ => show win0_4.index t 1 * 64 + 1 * l.val = l.val; rw [h.2]; omega

theorem z2 : (![0, 0] : Fin 2 → Nat) = fun _ => 0 := by decide

/-- The real part of the discretised coefficients. -/
theorem result5 : (dats m 0 c).arrAt 5 cfg0.N = val_main_v41 (F := Ideal) (m ((c : Thread nD τ).loc main_arg0)) (m ((c : Thread nD τ).loc main_arg1)) (m ((c : Thread nD τ).loc main_arg2))
     := by
  funext i
  obtain ⟨ρ, l, rfl⟩ : ∃ (ρ : Fin 512) (l : Fin 64), i = ix2 ρ l := ⟨i 0, i 1, (ix2_eta i).symm⟩
  have hN : cfg0.N = 1 := N_0
  let t : Fin cfg0.N := ⟨0, by omega⟩
  have hb := congrFun (Value.blocks5 m c t (flush0_5 t)) (ix2 ρ l)
  rw [Value.flushed5, View.read_apply] at hb
  have hi : (((cfg0.win 5).blk t).view.emb (ix2 ρ l)) = ix2 ρ l := by
    obtain ⟨-, -, -, -, -, h, -⟩ := idx_all t
    refine funext fun a => Fin.ext ?_
    match a with
    | ⟨0, _⟩ => show win0_5.index t 0 * 512 + 1 * ρ.val = ρ.val; rw [h.1]; omega
    | ⟨1, _⟩ => show win0_5.index t 1 * 64 + 1 * l.val = l.val; rw [h.2]; omega
  rw [hi] at hb
  refine hb.trans ?_
  show out0_5 _ _ _ _ _ (ix2 ρ l) = _
  unfold out0_5
  rw [View.canon_unit_zero (S := S512x64) z2]
  simp only [View.ld_unit_zero (S := S512x64) z2]
  exact bar_re_eq _ _ _ _ _ _ ρ l (blk0 m c t ρ l) (blk1 m c t ρ l) (blk2 m c t ρ l)

/-- The imaginary part of the discretised coefficients. -/
theorem result6 : (dats m 0 c).arrAt 6 cfg0.N = val_main_v43 (F := Ideal) (m ((c : Thread nD τ).loc main_arg0)) (m ((c : Thread nD τ).loc main_arg1)) (m ((c : Thread nD τ).loc main_arg2))
     := by
  funext i
  obtain ⟨ρ, l, rfl⟩ : ∃ (ρ : Fin 512) (l : Fin 64), i = ix2 ρ l := ⟨i 0, i 1, (ix2_eta i).symm⟩
  have hN : cfg0.N = 1 := N_0
  let t : Fin cfg0.N := ⟨0, by omega⟩
  have hb := congrFun (Value.blocks6 m c t (flush0_6 t)) (ix2 ρ l)
  rw [Value.flushed6, View.read_apply] at hb
  have hi : (((cfg0.win 6).blk t).view.emb (ix2 ρ l)) = ix2 ρ l := by
    obtain ⟨-, -, -, -, -, -, h, -⟩ := idx_all t
    refine funext fun a => Fin.ext ?_
    match a with
    | ⟨0, _⟩ => show win0_6.index t 0 * 512 + 1 * ρ.val = ρ.val; rw [h.1]; omega
    | ⟨1, _⟩ => show win0_6.index t 1 * 64 + 1 * l.val = l.val; rw [h.2]; omega
  rw [hi] at hb
  refine hb.trans ?_
  show out0_6 _ _ _ _ _ (ix2 ρ l) = _
  unfold out0_6
  rw [View.canon_unit_zero (S := S512x64) z2]
  simp only [View.ld_unit_zero (S := S512x64) z2]
  exact bar_im_eq _ _ _ _ _ _ ρ l (blk0 m c t ρ l) (blk1 m c t ρ l) (blk2 m c t ρ l)

/-- The real part of the discretised input weights. -/
theorem result7 : (dats m 0 c).arrAt 7 cfg0.N = val_main_v45 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) := by
  funext i
  obtain ⟨ρ, l, rfl⟩ : ∃ (ρ : Fin 512) (l : Fin 64), i = ix2 ρ l := ⟨i 0, i 1, (ix2_eta i).symm⟩
  have hN : cfg0.N = 1 := N_0
  let t : Fin cfg0.N := ⟨0, by omega⟩
  have hb := congrFun (Value.blocks7 m c t (flush0_7 t)) (ix2 ρ l)
  rw [Value.flushed7, View.read_apply] at hb
  have hi : (((cfg0.win 7).blk t).view.emb (ix2 ρ l)) = ix2 ρ l := by
    obtain ⟨-, -, -, -, -, -, -, h, -⟩ := idx_all t
    refine funext fun a => Fin.ext ?_
    match a with
    | ⟨0, _⟩ => show win0_7.index t 0 * 512 + 1 * ρ.val = ρ.val; rw [h.1]; omega
    | ⟨1, _⟩ => show win0_7.index t 1 * 64 + 1 * l.val = l.val; rw [h.2]; omega
  rw [hi] at hb
  refine hb.trans ?_
  show out0_7 _ _ _ _ _ (ix2 ρ l) = _
  unfold out0_7
  rw [View.canon_unit_zero (S := S512x64) z2]
  simp only [View.ld_unit_zero (S := S512x64) z2]
  exact in_re_eq _ _ _ _ _ _ _ _ _ _ ρ l (blk0 m c t ρ l) (blk1 m c t ρ l) (blk2 m c t ρ l) (blk3 m c t ρ l) (blk4 m c t ρ l)

/-- The imaginary part of the discretised input weights. -/
theorem result8 : (dats m 0 c).arrAt 8 cfg0.N = val_main_v47 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) := by
  funext i
  obtain ⟨ρ, l, rfl⟩ : ∃ (ρ : Fin 512) (l : Fin 64), i = ix2 ρ l := ⟨i 0, i 1, (ix2_eta i).symm⟩
  have hN : cfg0.N = 1 := N_0
  let t : Fin cfg0.N := ⟨0, by omega⟩
  have hb := congrFun (Value.blocks8 m c t (flush0_8 t)) (ix2 ρ l)
  rw [Value.flushed8, View.read_apply] at hb
  have hi : (((cfg0.win 8).blk t).view.emb (ix2 ρ l)) = ix2 ρ l := by
    obtain ⟨-, -, -, -, -, -, -, -, h⟩ := idx_all t
    refine funext fun a => Fin.ext ?_
    match a with
    | ⟨0, _⟩ => show win0_8.index t 0 * 512 + 1 * ρ.val = ρ.val; rw [h.1]; omega
    | ⟨1, _⟩ => show win0_8.index t 1 * 64 + 1 * l.val = l.val; rw [h.2]; omega
  rw [hi] at hb
  refine hb.trans ?_
  show out0_8 _ _ _ _ _ (ix2 ρ l) = _
  unfold out0_8
  rw [View.canon_unit_zero (S := S512x64) z2]
  simp only [View.ld_unit_zero (S := S512x64) z2]
  exact in_im_eq _ _ _ _ _ _ _ _ _ _ ρ l (blk0 m c t ρ l) (blk1 m c t ρ l) (blk2 m c t ρ l) (blk3 m c t ρ l) (blk4 m c t ρ l)

end Cert.ParamsIdeal.Hand

end
-- ==== Proof.Params.Claims.lean ====
/-
  The claims of the discretisation: the frames, and that it computes what the reference defines.
-/
module

public import proofs.«01_k».proof.Defs
public import proofs.«01_k».proof.Proof.Gen.Params
public import proofs.«01_k».proof.Proof.Gen.ParamsIdeal
public import proofs.«01_k».proof.Proof.Gen.ParamsRefIdeal
public import proofs.«01_k».proof.Proof.Gen.Params.Frame
public import proofs.«01_k».proof.Proof.Params.Result
public import Idealize.ShloMosaic.Lib.Claim
public import Idealize.ShloMosaic.Lib.Quiescent

@[expose] public section

noncomputable section

namespace Cert.Proof

open Idealize.ShloMosaic Idealize.ShloMosaic.TcCoe Idealize.SL.Sem
open Cert.ParamsIdeal.Hand Cert.ParamsRefIdeal.Read

theorem frame_params : Cert.quiescent_Params := fun m ρ _ => Cert.Params.Gen.frame m ρ

theorem frame_paramsIdeal : Cert.quiescent_ParamsIdeal := fun m ρ _ => Cert.ParamsIdeal.Gen.frame m ρ

theorem frame_paramsRef : Cert.quiescent_ParamsRefIdeal := fun m ρ _ =>
  (θ_run (Cert.ParamsRefIdeal.defs (F := Ideal)) _ _).mono
    (fun r h => ⟨fun c => (h c).2.2.2.2, sem_eq_zero_of_no_sems (by decide) r.2⟩) (Cert.ParamsRefIdeal.Value.run m ρ)

/-- The kernel's four arrays after the run and the reference's are the same. -/
theorem algebraic_params : Cert.algebraic_ParamsIdeal_ParamsRefIdeal := fun m ρ m' ρ' _ hargs => by
  refine ⟨_, _, _, _, (θ_run (Cert.ParamsIdeal.defs (F := Ideal)) _ _).mono
      (fun r h c => ⟨(h c).1.trans (result5 m c), (h c).2.1.trans (result6 m c), (h c).2.2.1.trans (result7 m c),
        (h c).2.2.2.1.trans (result8 m c), (h c).2.2.2.2⟩) (Cert.ParamsIdeal.Value.run_blocks m ρ), ?_⟩
  refine (θ_run (Cert.ParamsRefIdeal.defs (F := Ideal)) _ _).mono (fun r h c => ?_) (Cert.ParamsRefIdeal.Value.run m' ρ')
  obtain ⟨e0, e1, e2, e3, e4⟩ := hargs c
  obtain ⟨h0, h1, h2, h3, hk⟩ := h c
  refine ⟨h0.trans ?_, h1.trans ?_, h2.trans ?_, h3.trans ?_, hk⟩
  · rw [val_main_v41_eq, e0, e1, e2]
  · rw [val_main_v43_eq, e0, e1, e2]
  · rw [val_main_v45_eq, e0, e1, e2, e3, e4]
  · rw [val_main_v47_eq, e0, e1, e2, e3, e4]

end Cert.Proof

end
-- ==== Proof.InEvenS.Step.lean ====
/-
  The convolution layer's input product, for the sample batch: what the one grid point computes from the arrays and each
  sequence's two given rows, and what the scratch holds around its loads.
-/
module

public import proofs.«01_k».proof.Proof.Gen.InEvenSIdeal.Skeleton
public import Idealize.ShloMosaic.Lib.Pipeline.FrameBody
public import Idealize.ShloMosaic.Lib.Pipeline.Value
public import Idealize.ShloMosaic.Lib.WritesUnit
public import Idealize.ShloMosaic.Lib.VecWindow
public import Idealize.ShloMosaic.Lib.Pointwise
public import Idealize.ShloMosaic.Lib.Pipeline.ValueKit.Tiles

@[expose] public section

set_option maxRecDepth 16384

noncomputable section

namespace Cert.InEvenSIdeal

open Idealize.ShloMosaic Idealize.ShloMosaic.TcCoe
open Idealize.SL Idealize.SL.Sem
open Gen

variable {F : FTy → Type} [FloatOps F]

/-- Each sequence's rows moved down by `n` (one or two), the given rows' last `n` in front. -/
def shifted (n : ℕ) (h : Vec F S32x2x512 .f32) (f : Vec F S32x8x512 .f32) : Vec F S32x8x512 .f32 := fun y =>
  if (y 1).val < n then h (ix3 (y 0) ⟨((y 1).val + 2 - n) % 2, Nat.mod_lt _ (by decide)⟩ (y 2))
  else f (ix3 (y 0) ⟨(y 1).val - n, lt_of_le_of_lt (Nat.sub_le _ _) (y 1).isLt⟩ (y 2))

/-- Each sequence's last two rows. -/
def tailOf (f : Vec F S32x8x512 .f32) : Vec F S32x2x512 .f32 := fun y =>
  f (ix3 (y 0) ⟨6 + (y 1).val, Nat.add_lt_add_left (y 1).isLt 6⟩ (y 2))

/-- The scratch holds the given rows in its rows six and seven. -/
abbrev Carries (d : Vec F S32x16x512 .f32) (h : Vec F S32x2x512 .f32) : Prop :=
  ∀ (b : Fin 32) (j : Fin 2) (k : Fin 512), d (ix3 b ⟨6 + j.val, lt_trans (Nat.add_lt_add_left j.isLt 6) (by decide)⟩ k) = h (ix3 b j k)

variable (x0 : Vec F S32x8x1024 .f32) (x1 : Vec F S32x1x3072 .f32) (x2 : Vec F S1x1024 .f32) (x3 : Vec F S1024x3072 .bf16)

/-- The first result. -/
def yaOut (x4 : Vec F S3x512 .f32) (x5 : Vec F S1x512 .f32) (h : Vec F S32x2x512 .f32) : Vec F S32x8x512 .f32 :=
  k0_pay11 (k0_pay5 x1 x0 x2 x3) (k0_pay6 x1 x0 x2 x3) (k0_pay9 x1 x0 x2 x3) (shifted 1 h (k0_pay9 x1 x0 x2 x3))
    (shifted 2 h (k0_pay9 x1 x0 x2 x3)) x4 x5

/-- The second result. -/
def uOut : Vec F S32x8x512 .f32 := k0_pay12 (k0_pay7 x1 x0 x2 x3)

/-- The third result. -/
def sOut : Vec F S32x8x512 .f32 := k0_pay1 (k0_pay8 x1 x0 x2 x3)

/-- The fourth result: the last two rows. -/
def hOut : Vec F S32x2x512 .f32 := tailOf (k0_pay9 x1 x0 x2 x3)

section Loads

variable {sp : Space} (v : View sig .tc sp S32x16x512 .f32) (g : v.ty.Contents (Elt F)) (L : List (View.Piece (Elt F) S32x16x512 .f32))
  (h : Vec F S32x2x512 .f32) (f : Vec F S32x8x512 .f32)

/-- In the tokens' rows the scratch is what was stored. -/
theorem read_in (inb) (b : Fin 32) (n : Fin 16) (r : Fin 8) (k : Fin 512) (hn : n.val = 8 + r.val) :
    v.read (Elt F) (v.writes (Elt F) g ((⟨Rect.unit (s := S32x16x512) ![0, 8, 0] S32x8x512.size inb, f⟩ : View.Piece (Elt F) S32x16x512 .f32) :: L)) (ix3 b n k)
      = f (ix3 b r k) :=
  View.read_writes_cons_unit_of_mem v g inb f L _ (ix3 b r k) rfl (fun a => by
    match a with
    | ⟨0, _⟩ => show b.val = 0 + b.val; omega
    | ⟨1, _⟩ => show n.val = 8 + r.val; exact hn
    | ⟨2, _⟩ => show k.val = 0 + k.val; omega)

/-- Below them it is what it was. -/
theorem read_out (inb) (b : Fin 32) (n : Fin 16) (k : Fin 512) (hn : n.val < 8) :
    v.read (Elt F) (v.writes (Elt F) g ((⟨Rect.unit (s := S32x16x512) ![0, 8, 0] S32x8x512.size inb, f⟩ : View.Piece (Elt F) S32x16x512 .f32) :: L)) (ix3 b n k)
      = v.read (Elt F) (v.writes (Elt F) g L) (ix3 b n k) :=
  View.read_writes_cons_unit_of_not_mem v g inb f L _ rfl 1 (.inl (by show n.val < 8; exact hn))

theorem load_shift (o n : ℕ) (ho : o + n = 8) (hs : n ≤ 2) (hc : Carries (v.read (Elt F) (v.writes (Elt F) g L)) h) (inb inb') :
    View.ld (v.read (Elt F) (v.writes (Elt F) g ((⟨Rect.unit (s := S32x16x512) ![0, 8, 0] S32x8x512.size inb, f⟩ : View.Piece (Elt F) S32x16x512 .f32) :: L)))
      (Rect.unit (s := S32x16x512) ![0, o, 0] S32x8x512.size inb') = shifted n h f := by
  funext x
  obtain ⟨b, r, k, rfl⟩ : ∃ (b : Fin 32) (r : Fin 8) (k : Fin 512), x = ix3 b r k := ⟨x 0, x 1, x 2, (ix3_eta x).symm⟩
  have hr := r.isLt
  have e : (Rect.unit (s := S32x16x512) ![0, o, 0] S32x8x512.size inb').idx (ix3 b r k) = ix3 b ⟨o + r.val, by omega⟩ k :=
    funext fun a => Fin.ext (by
      match a with
      | ⟨0, _⟩ => show 0 + 1 * b.val = b.val; omega
      | ⟨1, _⟩ => show o + 1 * r.val = o + r.val; omega
      | ⟨2, _⟩ => show 0 + 1 * k.val = k.val; omega)
  rw [View.ld_apply, e]
  show _ = if r.val < n then h (ix3 b ⟨(r.val + 2 - n) % 2, _⟩ k) else f (ix3 b ⟨r.val - n, _⟩ k)
  by_cases hlt : r.val < n
  · rw [if_pos hlt, read_out v g L f inb _ _ _ (show o + r.val < 8 by omega)]
    have := hc b ⟨(r.val + 2 - n) % 2, Nat.mod_lt _ (by decide)⟩ k
    rw [← this]
    exact congrArg _ (congrArg (fun z => ix3 b z k) (Fin.ext (by show o + r.val = 6 + (r.val + 2 - n) % 2; omega)))
  · rw [if_neg hlt]
    exact read_in v g L f inb _ _ ⟨r.val - n, lt_of_le_of_lt (Nat.sub_le _ _) r.isLt⟩ _ (by show o + r.val = 8 + (r.val - n); omega)

theorem load_one (hc : Carries (v.read (Elt F) (v.writes (Elt F) g L)) h) (inb inb') :
    View.ld (v.read (Elt F) (v.writes (Elt F) g ((⟨Rect.unit (s := S32x16x512) ![0, 8, 0] S32x8x512.size inb, f⟩ : View.Piece (Elt F) S32x16x512 .f32) :: L)))
      (Rect.unit (s := S32x16x512) ![0, 7, 0] S32x8x512.size inb') = shifted 1 h f :=
  load_shift v g L h f 7 1 rfl (by decide) hc inb inb'

theorem load_two (hc : Carries (v.read (Elt F) (v.writes (Elt F) g L)) h) (inb inb') :
    View.ld (v.read (Elt F) (v.writes (Elt F) g ((⟨Rect.unit (s := S32x16x512) ![0, 8, 0] S32x8x512.size inb, f⟩ : View.Piece (Elt F) S32x16x512 .f32) :: L)))
      (Rect.unit (s := S32x16x512) ![0, 6, 0] S32x8x512.size inb') = shifted 2 h f :=
  load_shift v g L h f 6 2 rfl (by decide) hc inb inb'

theorem load_tail (inb inb') :
    View.ld (v.read (Elt F) (v.writes (Elt F) g ((⟨Rect.unit (s := S32x16x512) ![0, 8, 0] S32x8x512.size inb, f⟩ : View.Piece (Elt F) S32x16x512 .f32) :: L)))
      (Rect.unit (s := S32x16x512) ![0, 14, 0] S32x2x512.size inb') = tailOf f := by
  funext x
  obtain ⟨b, r, k, rfl⟩ : ∃ (b : Fin 32) (r : Fin 2) (k : Fin 512), x = ix3 b r k := ⟨x 0, x 1, x 2, (ix3_eta x).symm⟩
  have hr := r.isLt
  have e : (Rect.unit (s := S32x16x512) ![0, 14, 0] S32x2x512.size inb').idx (ix3 b r k) = ix3 b ⟨14 + r.val, by omega⟩ k :=
    funext fun a => Fin.ext (by
      match a with
      | ⟨0, _⟩ => show 0 + 1 * b.val = b.val; omega
      | ⟨1, _⟩ => show 14 + 1 * r.val = 14 + r.val; omega
      | ⟨2, _⟩ => show 0 + 1 * k.val = k.val; omega)
  rw [View.ld_apply, e]
  exact read_in v g L f inb _ _ ⟨6 + r.val, by omega⟩ _ (by show 14 + r.val = 8 + (6 + r.val); omega)

/-- Two rows stored at six are carried. -/
theorem carries_store (inb) :
    Carries (v.read (Elt F) (v.writes (Elt F) g ((⟨Rect.unit (s := S32x16x512) ![0, 6, 0] S32x2x512.size inb, h⟩ : View.Piece (Elt F) S32x16x512 .f32) :: L))) h :=
  fun b j k => View.read_writes_cons_unit_of_mem v g inb h L _ (ix3 b j k) rfl (fun a => by
    match a with
    | ⟨0, _⟩ => show b.val = 0 + b.val; omega
    | ⟨1, _⟩ => rfl
    | ⟨2, _⟩ => show k.val = 0 + k.val; omega)

end Loads

/-! Casts to the same shape. -/

theorem pay2_eq (x : Vec F S32x2x512 .f32) : k0_pay2 x = x := shapeCast_self ..
theorem pay3_eq (x : Vec F S32x2x512 .f32) : k0_pay3 x = x := shapeCast_self ..
theorem pay10_eq (x : FVec F S32x8x512 .f32) : k0_pay10 x = x := shapeCast_self ..

/-! Loads of a whole block. -/

theorem ld_x (X : Vec F S32x8x1024 .f32) (inb : ∀ a, (![0, 0, 0] : Fin 3 → ℕ) a + (![32, 8, 1024] : Fin 3 → ℕ) a ≤ S32x8x1024.size a) :
    View.ld X (Rect.unit (s := S32x8x1024) ![0, 0, 0] ![32, 8, 1024] inb) = X :=
  View.ld_unit_zero (S := S32x8x1024) (off := ![0, 0, 0]) (by decide) inb X

theorem ld_mod (X : Vec F S32x1x3072 .f32) (inb : ∀ a, (![0, 0, 0] : Fin 3 → ℕ) a + (![32, 1, 3072] : Fin 3 → ℕ) a ≤ S32x1x3072.size a) :
    View.ld X (Rect.unit (s := S32x1x3072) ![0, 0, 0] ![32, 1, 3072] inb) = X :=
  View.ld_unit_zero (S := S32x1x3072) (off := ![0, 0, 0]) (by decide) inb X

theorem ld_g (X : Vec F S1x1024 .f32) (inb : ∀ a, (![0, 0] : Fin 2 → ℕ) a + (![1, 1024] : Fin 2 → ℕ) a ≤ S1x1024.size a) :
    View.ld X (Rect.unit (s := S1x1024) ![0, 0] ![1, 1024] inb) = X :=
  View.ld_unit_zero (S := S1x1024) (off := ![0, 0]) (by decide) inb X

theorem ld_w (X : Vec F S1024x3072 .bf16) (inb : ∀ a, (![0, 0] : Fin 2 → ℕ) a + (![1024, 3072] : Fin 2 → ℕ) a ≤ S1024x3072.size a) :
    View.ld X (Rect.unit (s := S1024x3072) ![0, 0] ![1024, 3072] inb) = X :=
  View.ld_unit_zero (S := S1024x3072) (off := ![0, 0]) (by decide) inb X

theorem ld_cw (X : Vec F S3x512 .f32) (inb : ∀ a, (![0, 0] : Fin 2 → ℕ) a + (![3, 512] : Fin 2 → ℕ) a ≤ S3x512.size a) :
    View.ld X (Rect.unit (s := S3x512) ![0, 0] ![3, 512] inb) = X :=
  View.ld_unit_zero (S := S3x512) (off := ![0, 0]) (by decide) inb X

theorem ld_cb (X : Vec F S1x512 .f32) (inb : ∀ a, (![0, 0] : Fin 2 → ℕ) a + (![1, 512] : Fin 2 → ℕ) a ≤ S1x512.size a) :
    View.ld X (Rect.unit (s := S1x512) ![0, 0] ![1, 512] inb) = X :=
  View.ld_unit_zero (S := S1x512) (off := ![0, 0]) (by decide) inb X

theorem ld_c0 (X : Vec F S32x2x512 .f32) (inb : ∀ a, (![0, 0, 0] : Fin 3 → ℕ) a + (![32, 2, 512] : Fin 3 → ℕ) a ≤ S32x2x512.size a) :
    View.ld X (Rect.unit (s := S32x2x512) ![0, 0, 0] ![32, 2, 512] inb) = X :=
  View.ld_unit_zero (S := S32x2x512) (off := ![0, 0, 0]) (by decide) inb X

end Cert.InEvenSIdeal

end
-- ==== Proof.InEvenS.Pay.lean ====
/-
  The recurrence layer's input product and convolution, for the sample batch: one token's row of what the kernel computes,
  and the same row of the reference.
-/
module

public import proofs.«01_k».proof.Proof.InEvenS.Step
public import proofs.«01_k».proof.Proof.Gen.InEvenSRefIdeal.Read
public import Idealize.ShloMosaic.Lib.Pointwise

@[expose] public section

noncomputable section

namespace Cert.InEvenSIdeal.Hand

open Cert.InEvenSIdeal Cert.InEvenSIdeal.Gen Idealize.ShloMosaic Idealize.ShloMosaic.TcCoe Idealize.SL.Sem
open Cert.InEvenSRefIdeal.Read

/-- Token `r` of sequence `s` has a row among the 256. -/
theorem token_lt (s : Fin 32) (r : Fin 8) : s.val * 8 + r.val < 256 := by omega

/-- The product of the normalised row with the weights, at sequence `s` and token `r`. -/
theorem proj_eq (v0 : Vec Ideal S32x1x3072 .f32) (v3 : Vec Ideal S32x8x1024 .f32) (v4 : Vec Ideal S1x1024 .f32)
    (v27 : Vec Ideal S1024x3072 .bf16)
    (x0 : Vec Ideal S32x8x1024 .f32) (x1 : Vec Ideal S32x1x3072 .f32) (x2 : Vec Ideal S1024 .f32) (x3 : Vec Ideal S1024x3072 .f32)
    (s : Fin 32) (r : Fin 8) (l : Fin 3072)
    (h0 : v3 = x0)
    (h1 : v0 = x1)
    (h2 : ∀ k, v4 (ix2 0 k) = x2 (ix1 k))
    (h3 : ∀ j k, v27 (ix2 j k) = x3 (ix2 j k)) :
    k0_pay4 v0 v3 v4 v27 (ix2 ⟨s.val * 8 + r.val, token_lt s r⟩ l) = val_main_v22 (F := Ideal) x0 x1 x2 x3 (ix3 s r l) := by
  pointwise [k0_pay4, val_main_v22, val_main_v21, val_main_v20, val_main_v19, val_main_v18, val_main_v17, val_main_v16,
    val_main_cst_2, val_main_v15, val_main_v14, val_main_v13, val_main_v12, val_main_v11, val_main_v10, val_main_v9,
    val_main_v8, val_main_cst_1, val_main_v7, val_main_v6, val_main_cst_0, val_main_v5, val_main_v4, val_main_cst,
    val_main_v3, val_main_v1, val_main_v0]
  subst h0 h1
  simp only [h2, h3]

variable (v0 : Vec Ideal S32x1x3072 .f32) (v3 : Vec Ideal S32x8x1024 .f32) (v4 : Vec Ideal S1x1024 .f32)
  (v27 : Vec Ideal S1024x3072 .bf16)
  (x0 : Vec Ideal S32x8x1024 .f32) (x1 : Vec Ideal S32x1x3072 .f32) (x2 : Vec Ideal S1024 .f32) (x3 : Vec Ideal S1024x3072 .f32)
  (x4 : Vec Ideal S3x512 .f32) (x5 : Vec Ideal S512 .f32) (x6 : Vec Ideal S32x2x512 .f32)

/-- The product the convolution runs over. -/
theorem f_eq (s : Fin 32) (r : Fin 8) (l : Fin 512)
    (h : ∀ j, k0_pay4 v0 v3 v4 v27 (ix2 ⟨s.val * 8 + r.val, token_lt s r⟩ j) = val_main_v22 (F := Ideal) x0 x1 x2 x3 (ix3 s r j)) :
    k0_pay9 v0 v3 v4 v27 (ix3 s r l) = val_main_v29 (F := Ideal) x0 x1 x2 x3 (ix3 s r l) := by
  pointwise [k0_pay9, val_main_v29, val_main_v25, val_main_v23]
  rw [h, h]

/-- The recurrence's input. -/
theorem u_eq (s : Fin 32) (r : Fin 8) (l : Fin 512)
    (h : ∀ j, k0_pay4 v0 v3 v4 v27 (ix2 ⟨s.val * 8 + r.val, token_lt s r⟩ j) = val_main_v22 (F := Ideal) x0 x1 x2 x3 (ix3 s r j)) :
    k0_pay12 (k0_pay7 v0 v3 v4 v27) (ix3 s r l) = val_main_v27 (F := Ideal) x0 x1 x2 x3 (ix3 s r l) := by
  pointwise [k0_pay12, k0_pay7, val_main_v27]
  rw [h]

/-- Its gate through the gate's sigmoid. -/
theorem s_eq (s : Fin 32) (r : Fin 8) (l : Fin 512)
    (h : ∀ j, k0_pay4 v0 v3 v4 v27 (ix2 ⟨s.val * 8 + r.val, token_lt s r⟩ j) = val_main_v22 (F := Ideal) x0 x1 x2 x3 (ix3 s r j)) :
    k0_pay1 (k0_pay8 v0 v3 v4 v27) (ix3 s r l) = val_main_v59 (F := Ideal) x0 x1 x2 x3 (ix3 s r l) := by
  pointwise [k0_pay1, k0_pay8, val_main_v59, val_main_call1_v5, val_main_call1_v4, val_main_call1_cst_0, val_main_call1_v3,
    val_main_call1_v2, val_main_call1_cst, val_main_call1_v1, val_main_call1_v0, val_main_v28]
  rw [h, zero_sub]

/-- The first two rows the convolution reads are the given ones. -/
theorem rows_low (s : Fin 32) (n : Fin 10) (j : Fin 2) (l : Fin 512) (hn : n.val = j.val) :
    val_main_v30 (F := Ideal) x0 x1 x2 x3 x6 (ix3 s n l) = x6 (ix3 s j l) := by
  have hj := j.isLt
  obtain ⟨n, hn'⟩ := n
  obtain rfl : n = j.val := hn
  unfold val_main_v30
  generalize val_main_v29 (F := Ideal) x0 x1 x2 x3 = A
  pointwise []

/-- The others are the rows of the product. -/
theorem rows_high (s : Fin 32) (n : Fin 10) (k : Fin 8) (l : Fin 512) (hn : n.val = k.val + 2) :
    val_main_v30 (F := Ideal) x0 x1 x2 x3 x6 (ix3 s n l) = val_main_v29 (F := Ideal) x0 x1 x2 x3 (ix3 s k l) := by
  have hk := k.isLt
  obtain ⟨n, hn'⟩ := n
  obtain rfl : n = k.val + 2 := hn
  unfold val_main_v30
  generalize val_main_v29 (F := Ideal) x0 x1 x2 x3 = A
  pointwise []
  rw [dif_neg (by omega)]
  exact congrArg (fun z => A (ix3 s z l)) (Fin.ext (Nat.add_sub_cancel ..))

/-- The convolution's result, gated. -/
theorem ya_eq (f s1 s2 : Vec Ideal S32x8x512 .f32) (v5 : Vec Ideal S1x512 .f32) (s : Fin 32) (r : Fin 8) (l : Fin 512)
    (h : ∀ j, k0_pay4 v0 v3 v4 v27 (ix2 ⟨s.val * 8 + r.val, token_lt s r⟩ j) = val_main_v22 (F := Ideal) x0 x1 x2 x3 (ix3 s r j))
    (h5 : ∀ k, v5 (ix2 0 k) = x5 (ix1 k))
    (hs2 : s2 (ix3 s r l) = val_main_v30 (F := Ideal) x0 x1 x2 x3 x6 (ix3 s ⟨r.val, by omega⟩ l))
    (hs1 : s1 (ix3 s r l) = val_main_v30 (F := Ideal) x0 x1 x2 x3 x6 (ix3 s ⟨1 + r.val, by omega⟩ l))
    (hf : f (ix3 s r l) = val_main_v30 (F := Ideal) x0 x1 x2 x3 x6 (ix3 s ⟨2 + r.val, by omega⟩ l)) :
    k0_pay11 (k0_pay5 v0 v3 v4 v27) (k0_pay6 v0 v3 v4 v27) f s1 s2 x4 v5 (ix3 s r l)
      = val_main_v58 (F := Ideal) x0 x1 x2 x3 x4 x5 x6 (ix3 s r l) := by
  unfold val_main_v58 val_main_v56 val_main_v55 val_main_v54 val_main_v53 val_main_v52 val_main_v51 val_main_v46
    val_main_v45 val_main_v44 val_main_v39 val_main_v38 val_main_v36 val_main_v31
  generalize val_main_v30 (F := Ideal) x0 x1 x2 x3 x6 = A at *
  pointwise [k0_pay11, k0_pay5, k0_pay6, val_main_v57, val_main_v50, val_main_v49,
    val_main_v48, val_main_v47, val_main_v43, val_main_v42, val_main_v41, val_main_v40,
    val_main_v37, val_main_cst_3, val_main_v35, val_main_v34, val_main_v33, val_main_v32,
    val_main_call0_v5, val_main_call0_v4, val_main_call0_cst_0, val_main_call0_v3,
    val_main_call0_v2, val_main_call0_cst, val_main_call0_v1, val_main_call0_v0, val_main_v26, val_main_v24]
  simp only [h, h5, hs2, hs1, hf, zero_sub, add_assoc, mul_comm (x4 _)]

/-- The last two rows. -/
theorem tail_eq (s : Fin 32) (j : Fin 2) (l : Fin 512) :
    val_main_v60 (F := Ideal) x0 x1 x2 x3 x6 (ix3 s j l)
      = val_main_v29 (F := Ideal) x0 x1 x2 x3 (ix3 s ⟨6 + j.val, by omega⟩ l) := by
  have hj := j.isLt
  refine Eq.trans ?_ (rows_high x0 x1 x2 x3 x6 s ⟨8 + j.val, by omega⟩ ⟨6 + j.val, by omega⟩ l (by show 8 + j.val = 6 + j.val + 2; omega))
  unfold val_main_v60
  generalize val_main_v30 (F := Ideal) x0 x1 x2 x3 x6 = A
  pointwise []

end Cert.InEvenSIdeal.Hand

end
-- ==== Proof.InEvenS.Run.lean ====
/-
  The one grid point of the kernel, run from what it finds.
-/
module

public import proofs.«01_k».proof.Proof.InEvenS.Step
public import proofs.«01_k».proof.Proof.Gen.InEvenSIdeal.Frame

@[expose] public section

set_option maxRecDepth 16384
set_option pp.maxSteps 2000

noncomputable section

namespace Cert.InEvenSIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Gen

variable {F : FTy → Type} [FloatOps F]
local notation "𝕄" => MT nD τ sig Unit (Elt F) ℕ (UR sig nD τ) ℕ

set_option maxHeartbeats 8000000 in
theorem run (c : Dev nD) (i : grid0.Coords) (arg1 : Memref sig .tc .vmem S32x8x1024 .f32) (harg1 : arg1.IsWhole) (arg2 : Memref sig .tc .vmem S32x1x3072 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S3x512 .f32) (harg5 : arg5.IsWhole) (arg6 : Memref sig .tc .vmem S1x512 .f32) (harg6 : arg6.IsWhole) (arg7 : Memref sig .tc .vmem S32x2x512 .f32) (harg7 : arg7.IsWhole) (arg8 : Memref sig .tc .vmem S32x8x512 .f32) (harg8 : arg8.IsWhole) (arg9 : Memref sig .tc .vmem S32x8x512 .f32) (harg9 : arg9.IsWhole) (arg10 : Memref sig .tc .vmem S32x8x512 .f32) (harg10 : arg10.IsWhole) (arg11 : Memref sig .tc .vmem S32x2x512 .f32) (harg11 : arg11.IsWhole) (arg12 : Memref sig .tc .vmem S32x16x512 .f32) (harg12 : arg12.IsWhole) (hc0 : cond0_0 i)
    (x0 : Vec F S32x8x1024 .f32) (x1 : Vec F S32x1x3072 .f32) (x2 : Vec F S1x1024 .f32) (x3 : Vec F S1024x3072 .bf16) (x4 : Vec F S3x512 .f32) (x5 : Vec F S1x512 .f32) (x6 : Vec F S32x2x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (yaOut x0 x1 x2 x3 x4 x5 x6) ∗ owns (c : Thread nD τ) arg9 fullShare (uOut x0 x1 x2 x3) ∗ owns (c : Thread nD τ) arg10 fullShare (sOut x0 x1 x2 x3) ∗ owns (c : Thread nD τ) arg11 fullShare (hOut x0 x1 x2 x3) ∗ (∃ d, owns (c : Thread nD τ) arg12 fullShare d)) -∗ K ⟨⟩))
      ⊢ wp frame (wpE (defs₀ (F := F)) Variants.none c none) E (cc0__l0_in_kernel i arg1 harg1 arg2 harg2 arg3 harg3 arg4 harg4 arg5 harg5 arg6 harg6 arg7 harg7 arg8 harg8 arg9 harg9 arg10 harg10 arg11 harg11 arg12 harg12) K := by
  simp only [cc0__l0_in_kernel_eq_skeleton]; unfold cc0__l0_in_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap
    · iexact H7
    · ipureintro
      rw [View.read_writes_full]
      repeat delta run.sl.r run.sl.r_1 run.sl.r_2 run.sl.r_3 run.sl.r_4 run.sl.r_5 run.sl.v44 run.sl.v45 run.sl.v91 run.sl.HS0_2
      simp only [View.readCov, View.readAt_eq_ld, harg1.read_unread, harg2.read_unread, harg3.read_unread, harg4.read_unread, harg5.read_unread, harg6.read_unread, harg7.read_unread, ld_x, ld_mod, ld_g, ld_w, ld_cw, ld_cb, ld_c0, pay2_eq, pay3_eq, pay10_eq]
      refine (congrArg₂ (fun a b => k0_pay11 (k0_pay5 x1 x0 x2 x3) (k0_pay6 x1 x0 x2 x3) (k0_pay9 x1 x0 x2 x3) a b x4 x5)
        (load_one _ _ _ _ _ (carries_store _ _ _ _ _) _ _) (load_two _ _ _ _ _ (carries_store _ _ _ _ _) _ _)).trans ?_
      rfl
  isplitl [H8]
  · iexists _; isplitr; swap
    · iexact H8
    · ipureintro
      rw [View.read_writes_full]
      repeat delta run.sl.r run.sl.r_1 run.sl.r_2 run.sl.r_3 run.sl.r_4 run.sl.r_5 run.sl.v44 run.sl.v45 run.sl.v91 run.sl.HS0_2
      simp only [View.readCov, View.readAt_eq_ld, harg1.read_unread, harg2.read_unread, harg3.read_unread, harg4.read_unread, harg5.read_unread, harg6.read_unread, harg7.read_unread, ld_x, ld_mod, ld_g, ld_w, ld_cw, ld_cb, ld_c0, pay2_eq, pay3_eq, pay10_eq]
      rfl
  isplitl [H9]
  · iexists _; isplitr; swap
    · iexact H9
    · ipureintro
      rw [View.read_writes_full]
      repeat delta run.sl.r run.sl.r_1 run.sl.r_2 run.sl.r_3 run.sl.r_4 run.sl.r_5 run.sl.v44 run.sl.v45 run.sl.v91 run.sl.HS0_2
      simp only [View.readCov, View.readAt_eq_ld, harg1.read_unread, harg2.read_unread, harg3.read_unread, harg4.read_unread, harg5.read_unread, harg6.read_unread, harg7.read_unread, ld_x, ld_mod, ld_g, ld_w, ld_cw, ld_cb, ld_c0, pay2_eq, pay3_eq, pay10_eq]
      rfl
  isplitl [H10]
  · iexists _; isplitr; swap
    · iexact H10
    · ipureintro
      rw [View.read_writes_full]
      repeat delta run.sl.r run.sl.r_1 run.sl.r_2 run.sl.r_3 run.sl.r_4 run.sl.r_5 run.sl.v44 run.sl.v45 run.sl.v91 run.sl.HS0_2
      simp only [View.readCov, View.readAt_eq_ld, harg1.read_unread, harg2.read_unread, harg3.read_unread, harg4.read_unread, harg5.read_unread, harg6.read_unread, harg7.read_unread, ld_x, ld_mod, ld_g, ld_w, ld_cw, ld_cb, ld_c0, pay2_eq, pay3_eq, pay10_eq]
      rw [load_tail]
      rfl
  iexists _; iexists _; isplitr; swap
  · iexact HS0
  · ipureintro; rfl

end Cert.InEvenSIdeal

end
-- ==== Proof.InEvenS.Frame.lean ====
/-
  The projection and convolution call for the sample batch, as a whole: the body at the grid's one point and the run of the
  program.
-/
module

public import proofs.«01_k».proof.Proof.InEvenS.Run
public import Idealize.ShloMosaic.Lib.Claim

@[expose] public section

set_option maxRecDepth 16384

noncomputable section

namespace Cert.InEvenSIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InEvenSIdeal.Gen hiding dats A_eq after0_0 after0_1 after0_2 after0_3 after0_4 after0_5 after0_6 after0_7 after0_8 after0_9 after0_10 before0_0 before0_1 before0_2 before0_3 before0_4 before0_5 before0_6

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- The scratch buffer, whole. -/
abbrev scF : Memref sig .tc .vmem S32x16x512 .f32 := Memref.whole cc0_scratch0

/-- The launch's invariant with its scratch buffer named. -/
theorem PhiA_eq (c : Dev nD) : (Pipeline.ΦA spec0 c : sProp 𝕄)
    = iprop((∃ d, owns (c : Thread nD τ) scF fullShare d) ∗ (∃ r, prngReg c r)) := by
  unfold Pipeline.ΦA; rw [scopedRest0_eq]; simp only [scF, owns_whole]; try rfl

/-- The proof data: each input's buffer at its block, the outputs at what the point computes from the
    blocks; the scratch may hold anything before and after. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => yaOut (iblk m c 0 t) (iblk m c 1 t) (iblk m c 2 t) (iblk m c 3 t) (iblk m c 4 t) (iblk m c 5 t) (iblk m c 6 t)
    | ⟨8, _⟩ => uOut (iblk m c 0 t) (iblk m c 1 t) (iblk m c 2 t) (iblk m c 3 t)
    | ⟨9, _⟩ => sOut (iblk m c 0 t) (iblk m c 1 t) (iblk m c 2 t) (iblk m c 3 t)
    | ⟨10, _⟩ => hOut (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = yaOut (iblk m c 0 t) (iblk m c 1 t) (iblk m c 2 t) (iblk m c 3 t) (iblk m c 4 t) (iblk m c 5 t) (iblk m c 6 t) := by dsimp only [dats]
theorem after0_8 (c : Dev nD) (t : Fin cfg0.N) : (dats m 0 c).after 8 t = uOut (iblk m c 0 t) (iblk m c 1 t) (iblk m c 2 t) (iblk m c 3 t) := by dsimp only [dats]
theorem after0_9 (c : Dev nD) (t : Fin cfg0.N) : (dats m 0 c).after 9 t = sOut (iblk m c 0 t) (iblk m c 1 t) (iblk m c 2 t) (iblk m c 3 t) := by dsimp only [dats]
theorem after0_10 (c : Dev nD) (t : Fin cfg0.N) : (dats m 0 c).after 10 t = hOut (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

theorem Phi_eq (c : Dev nD) (t : Fin (cfg0.N + 1)) : (dats m 0 c).Φ t
    = iprop((∃ d, owns (c : Thread nD τ) scF fullShare d) ∗ (∃ r, prngReg c r)) := by
  rw [← PhiA_eq]; dsimp only [dats]

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl, Phi_eq, Phi_eq,
    after0_0, after0_1, after0_2, after0_3, after0_4, after0_5, after0_6, after0_7, after0_8, after0_9, after0_10]
  iintro ⟨⟨HS0, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run c (grid0.coords t) _ _ _ _ _ _ _ _ _ _ _ _ _ _ _ _ _ _ _ _ _ _ _ _ (hcond0_0 t) (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [HS0]; · iexact HS0
  iintro ⟨H0, H1, H2, H3, H4, H5, H6, H7, H8, H9, H10, HS0⟩
  isplitl [HS0 Hr]
  · isplitl [HS0]
    · iexact HS0
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : (Pipeline.ΦA spec0 c : sProp 𝕄) ⊢ (dats m 0 c).Φ 0 := by
  dsimp only [dats]; exact .rfl

theorem hout (c : Dev nD) : (dats m 0 c).Φ (Fin.last cfg0.N) ⊢ (Pipeline.ΦA spec0 c : sProp 𝕄) := by
  dsimp only [dats]; exact .rfl

set_option backward.isDefEq.respectTransparency.types false in
set_option maxHeartbeats 800000 in
/-- The run of the program: every array of the call at what the points wrote back, everything else as the host left it. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.InEvenSIdeal.Hand

end
-- ==== Proof.InEvenS.Result.lean ====
/-
  The recurrence layer's input product and convolution, for the sample batch, over the whole arrays: the arrays after the run
  are the reference's.
-/
module

public import proofs.«01_k».proof.Proof.InEvenS.Pay
public import proofs.«01_k».proof.Proof.InEvenS.Frame

@[expose] public section

set_option maxRecDepth 16384

noncomputable section

namespace Cert.InEvenSIdeal.Hand

open Cert.InEvenSIdeal Idealize.ShloMosaic Idealize.ShloMosaic.TcCoe Idealize.SL.Sem
open Cert.InEvenSIdeal.Gen hiding dats A_eq after0_0 after0_1 after0_2 after0_3 after0_4 after0_5 after0_6 after0_7 after0_8 after0_9 after0_10 before0_0 before0_1 before0_2 before0_3 before0_4 before0_5 before0_6
open Cert.InEvenSRefIdeal.Read

variable (m : (ℓ : Loc nD τ sig) → Buf (Elt Ideal) ℓ)

/-- Every window stands at the origin: the grid has one point. -/
theorem idx_facts : ∀ t : Fin cfg0.N,
    (win0_0.index t 0 = 0 ∧ win0_0.index t 1 = 0 ∧ win0_0.index t 2 = 0) ∧
    (win0_1.index t 0 = 0 ∧ win0_1.index t 1 = 0 ∧ win0_1.index t 2 = 0) ∧
    (win0_2.index t 0 = 0 ∧ win0_2.index t 1 = 0) ∧
    (win0_3.index t 0 = 0 ∧ win0_3.index t 1 = 0) ∧
    (win0_4.index t 0 = 0 ∧ win0_4.index t 1 = 0) ∧
    (win0_5.index t 0 = 0 ∧ win0_5.index t 1 = 0) ∧
    (win0_6.index t 0 = 0 ∧ win0_6.index t 1 = 0 ∧ win0_6.index t 2 = 0) ∧
    (win0_7.index t 0 = 0 ∧ win0_7.index t 1 = 0 ∧ win0_7.index t 2 = 0) ∧
    (win0_8.index t 0 = 0 ∧ win0_8.index t 1 = 0 ∧ win0_8.index t 2 = 0) ∧
    (win0_9.index t 0 = 0 ∧ win0_9.index t 1 = 0 ∧ win0_9.index t 2 = 0) ∧
    (win0_10.index t 0 = 0 ∧ win0_10.index t 1 = 0 ∧ win0_10.index t 2 = 0) :=
  (by decide +kernel : ∀ t : Fin grid0.N, _)

variable (c : Dev nD) (t : Fin cfg0.N)

/-! ## The arrays that the point reads -/

theorem blk0 : iblk m c 0 t = m ((c : Thread nD τ).loc main_arg0) := by
  obtain ⟨h, -⟩ := idx_facts t
  funext j
  unfold iblk
  rw [View.read_apply, ← V_main_arg0 m c]
  refine congrArg (V m c main_arg0) (funext fun a => Fin.ext ?_)
  match a with
  | ⟨0, _⟩ => show win0_0.index t 0 * 32 + 1 * (j 0).val = (j 0).val; rw [h.1]; omega
  | ⟨1, _⟩ => show win0_0.index t 1 * 8 + 1 * (j 1).val = (j 1).val; rw [h.2.1]; omega
  | ⟨2, _⟩ => show win0_0.index t 2 * 1024 + 1 * (j 2).val = (j 2).val; rw [h.2.2]; omega

theorem blk1 : iblk m c 1 t = m ((c : Thread nD τ).loc main_arg1) := by
  obtain ⟨-, h, -⟩ := idx_facts t
  funext j
  unfold iblk
  rw [View.read_apply, ← V_main_arg1 m c]
  refine congrArg (V m c main_arg1) (funext fun a => Fin.ext ?_)
  match a with
  | ⟨0, _⟩ => show win0_1.index t 0 * 32 + 1 * (j 0).val = (j 0).val; rw [h.1]; omega
  | ⟨1, _⟩ => show win0_1.index t 1 * 1 + 1 * (j 1).val = (j 1).val; rw [h.2.1]; omega
  | ⟨2, _⟩ => show win0_1.index t 2 * 3072 + 1 * (j 2).val = (j 2).val; rw [h.2.2]; omega

/-- The gain is the argument, laid out as one row. -/
theorem gain_entry : V m c main_v1 = shapeCast S1x1024 (m ((c : Thread nD τ).loc main_arg2)) shapeCasts_S1024_S1x1024 := rfl

theorem blk2 (k : Fin 1024) : iblk m c 2 t (ix2 0 k) = m ((c : Thread nD τ).loc main_arg2) (ix1 k) := by
  obtain ⟨-, -, h, -⟩ := idx_facts t
  unfold iblk
  rw [View.read_apply]
  have e : V m c main_v1 (ix2 0 k) = m ((c : Thread nD τ).loc main_arg2) (ix1 k) := by
    rw [gain_entry]
    pointwise []
  rw [← e]
  refine congrArg (V m c main_v1) (funext fun a => Fin.ext ?_)
  match a with
  | ⟨0, _⟩ => show win0_2.index t 0 * 1 + 1 * 0 = 0; rw [h.1]
  | ⟨1, _⟩ => show win0_2.index t 1 * 1024 + 1 * k.val = k.val; rw [h.2]; omega

/-- The weights are the argument, narrowed. -/
theorem weight_entry : V m c main_v0
    = (truncf .bf16 (m ((c : Thread nD τ).loc main_arg3) : FVec Ideal S1024x3072 .f32) bitsLt_bf16_f32 : FVec Ideal S1024x3072 .bf16) := rfl

theorem blk3 (j : Fin 1024) (k : Fin 3072) : iblk m c 3 t (ix2 j k) = m ((c : Thread nD τ).loc main_arg3) (ix2 j k) := by
  obtain ⟨-, -, -, h, -⟩ := idx_facts t
  unfold iblk
  rw [View.read_apply]
  have e : V m c main_v0 (ix2 j k) = m ((c : Thread nD τ).loc main_arg3) (ix2 j k) := by
    rw [weight_entry]
    pointwise []
  rw [← e]
  refine congrArg (V m c main_v0) (funext fun a => Fin.ext ?_)
  match a with
  | ⟨0, _⟩ => show win0_3.index t 0 * 1024 + 1 * j.val = j.val; rw [h.1]; omega
  | ⟨1, _⟩ => show win0_3.index t 1 * 3072 + 1 * k.val = k.val; rw [h.2]; omega

theorem blk4 : iblk m c 4 t = m ((c : Thread nD τ).loc main_arg4) := by
  obtain ⟨-, -, -, -, h, -⟩ := idx_facts t
  funext j
  unfold iblk
  rw [View.read_apply, ← V_main_arg4 m c]
  refine congrArg (V m c main_arg4) (funext fun a => Fin.ext ?_)
  match a with
  | ⟨0, _⟩ => show win0_4.index t 0 * 3 + 1 * (j 0).val = (j 0).val; rw [h.1]; omega
  | ⟨1, _⟩ => show win0_4.index t 1 * 512 + 1 * (j 1).val = (j 1).val; rw [h.2]; omega

/-- The convolution's offset is the argument, laid out as one row. -/
theorem offset_entry : V m c main_v2 = shapeCast S1x512 (m ((c : Thread nD τ).loc main_arg5)) shapeCasts_S512_S1x512 := rfl

theorem blk5 (k : Fin 512) : iblk m c 5 t (ix2 0 k) = m ((c : Thread nD τ).loc main_arg5) (ix1 k) := by
  obtain ⟨-, -, -, -, -, h, -⟩ := idx_facts t
  unfold iblk
  rw [View.read_apply]
  have e : V m c main_v2 (ix2 0 k) = m ((c : Thread nD τ).loc main_arg5) (ix1 k) := by
    rw [offset_entry]
    pointwise []
  rw [← e]
  refine congrArg (V m c main_v2) (funext fun a => Fin.ext ?_)
  match a with
  | ⟨0, _⟩ => show win0_5.index t 0 * 1 + 1 * 0 = 0; rw [h.1]
  | ⟨1, _⟩ => show win0_5.index t 1 * 512 + 1 * k.val = k.val; rw [h.2]; omega

theorem blk6 : iblk m c 6 t = m ((c : Thread nD τ).loc main_arg6) := by
  obtain ⟨-, -, -, -, -, -, h, -⟩ := idx_facts t
  funext j
  unfold iblk
  rw [View.read_apply, ← V_main_arg6 m c]
  refine congrArg (V m c main_arg6) (funext fun a => Fin.ext ?_)
  match a with
  | ⟨0, _⟩ => show win0_6.index t 0 * 32 + 1 * (j 0).val = (j 0).val; rw [h.1]; omega
  | ⟨1, _⟩ => show win0_6.index t 1 * 2 + 1 * (j 1).val = (j 1).val; rw [h.2.1]; omega
  | ⟨2, _⟩ => show win0_6.index t 2 * 512 + 1 * (j 2).val = (j 2).val; rw [h.2.2]; omega

/-! ## The rows the convolution reads -/

/-- The product of a token's row is the reference's. -/
theorem proj_blk (s : Fin 32) (r : Fin 8) (l : Fin 3072) :
    k0_pay4 (iblk m c 1 t) (iblk m c 0 t) (iblk m c 2 t) (iblk m c 3 t) (ix2 ⟨s.val * 8 + r.val, token_lt s r⟩ l)
      = val_main_v22 (F := Ideal) (m ((c : Thread nD τ).loc main_arg0)) (m ((c : Thread nD τ).loc main_arg1))
    (m ((c : Thread nD τ).loc main_arg2)) (m ((c : Thread nD τ).loc main_arg3)) (ix3 s r l) :=
  proj_eq _ _ _ _ _ _ _ _ s r l (blk0 m c t) (blk1 m c t) (blk2 m c t) (blk3 m c t)

/-- The reference's padded product: each sequence's two given rows, then its rows of the product. -/
abbrev rows : Vec Ideal Cert.InEvenSRefIdeal.S32x10x512 .f32 :=
  val_main_v30 (F := Ideal) (m ((c : Thread nD τ).loc main_arg0)) (m ((c : Thread nD τ).loc main_arg1))
    (m ((c : Thread nD τ).loc main_arg2)) (m ((c : Thread nD τ).loc main_arg3))
    (m ((c : Thread nD τ).loc main_arg6))

/-- A token's row is the row of the padded product two further on. -/
theorem tile_eq (s : Fin 32) (r : Fin 8) (n : Fin 10) (hn : n.val = r.val + 2) (l : Fin 512) :
    k0_pay9 (iblk m c 1 t) (iblk m c 0 t) (iblk m c 2 t) (iblk m c 3 t) (ix3 s r l) = rows m c (ix3 s n l) :=
  (f_eq _ _ _ _ _ _ _ _ s r l (fun j => proj_blk m c t s r j)).trans (rows_high _ _ _ _ _ s n r l hn).symm

/-- The rows moved down, behind the given ones, are rows of the padded product. -/
theorem shifted_eq (k : ℕ) (hk : k ≤ 2) (s : Fin 32) (r : Fin 8) (n : Fin 10) (hn : n.val + k = r.val + 2) (l : Fin 512) :
    shifted k (iblk m c 6 t) (k0_pay9 (iblk m c 1 t) (iblk m c 0 t) (iblk m c 2 t) (iblk m c 3 t)) (ix3 s r l) = rows m c (ix3 s n l) := by
  show (if r.val < k then iblk m c 6 t (ix3 s ⟨(r.val + 2 - k) % 2, _⟩ l)
    else k0_pay9 (iblk m c 1 t) (iblk m c 0 t) (iblk m c 2 t) (iblk m c 3 t) (ix3 s ⟨r.val - k, _⟩ l)) = _
  by_cases h : r.val < k
  · rw [if_pos h, blk6]
    exact (rows_low _ _ _ _ _ s n _ l (by show n.val = (r.val + 2 - k) % 2; omega)).symm
  · rw [if_neg h]
    exact tile_eq m c t s _ n (by show n.val = r.val - k + 2; omega) l

/-! ## The arrays after the run -/

theorem disjoint7 : ∀ t t' : Fin cfg0.N, (cfg0.win 7).flush t = true → (cfg0.win 7).flush t' = true → t ≠ t' →
    Disjoint ((cfg0.win 7).blk t).view.set ((cfg0.win 7).blk t').view.set := fun t t' _ _ hne => by
  have h1 : t.val < 1 := Nat.lt_of_lt_of_eq t.isLt N_0
  have h2 : t'.val < 1 := Nat.lt_of_lt_of_eq t'.isLt N_0
  exact absurd (Fin.ext (by omega)) hne

theorem disjoint8 : ∀ t t' : Fin cfg0.N, (cfg0.win 8).flush t = true → (cfg0.win 8).flush t' = true → t ≠ t' →
    Disjoint ((cfg0.win 8).blk t).view.set ((cfg0.win 8).blk t').view.set := fun t t' _ _ hne => by
  have h1 : t.val < 1 := Nat.lt_of_lt_of_eq t.isLt N_0
  have h2 : t'.val < 1 := Nat.lt_of_lt_of_eq t'.isLt N_0
  exact absurd (Fin.ext (by omega)) hne

theorem disjoint9 : ∀ t t' : Fin cfg0.N, (cfg0.win 9).flush t = true → (cfg0.win 9).flush t' = true → t ≠ t' →
    Disjoint ((cfg0.win 9).blk t).view.set ((cfg0.win 9).blk t').view.set := fun t t' _ _ hne => by
  have h1 : t.val < 1 := Nat.lt_of_lt_of_eq t.isLt N_0
  have h2 : t'.val < 1 := Nat.lt_of_lt_of_eq t'.isLt N_0
  exact absurd (Fin.ext (by omega)) hne

theorem disjoint10 : ∀ t t' : Fin cfg0.N, (cfg0.win 10).flush t = true → (cfg0.win 10).flush t' = true → t ≠ t' →
    Disjoint ((cfg0.win 10).blk t).view.set ((cfg0.win 10).blk t').view.set := fun t t' _ _ hne => by
  have h1 : t.val < 1 := Nat.lt_of_lt_of_eq t.isLt N_0
  have h2 : t'.val < 1 := Nat.lt_of_lt_of_eq t'.isLt N_0
  exact absurd (Fin.ext (by omega)) hne

/-- The convolution's result, gated. -/
theorem result7 : (dats m 0 c).arrAt 7 cfg0.N = val_main_v58 (F := Ideal) (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5)) (m ((c : Thread nD τ).loc main_arg6)) := by
  funext i
  obtain ⟨s, r, l, rfl⟩ : ∃ (s : Fin 32) (r : Fin 8) (l : Fin 512), i = ix3 s r l := ⟨i 0, i 1, i 2, (ix3_eta i).symm⟩
  have hN : cfg0.N = 1 := N_0
  let t : Fin cfg0.N := ⟨0, by omega⟩
  have hb := congrFun ((dats m 0 c).read_blk_arrAt_eq_flushed 7 disjoint7 cfg0.N t t.isLt (flush0_7 t)) (ix3 s r l)
  rw [View.read_apply] at hb
  have hi : (((cfg0.win 7).blk t).view.emb (ix3 s r l)) = ix3 s r l := by
    obtain ⟨-, -, -, -, -, -, -, h, -⟩ := idx_facts t
    refine funext fun a => Fin.ext ?_
    match a with
    | ⟨0, _⟩ => show win0_7.index t 0 * 32 + 1 * s.val = s.val; rw [h.1]; omega
    | ⟨1, _⟩ => show win0_7.index t 1 * 8 + 1 * r.val = r.val; rw [h.2.1]; omega
    | ⟨2, _⟩ => show win0_7.index t 2 * 512 + 1 * l.val = l.val; rw [h.2.2]; omega
  rw [hi] at hb
  refine hb.trans ?_
  show (dats m 0 c).after 7 t (ix3 s r l) = _
  rw [after0_7]
  unfold yaOut
  rw [blk4]
  exact ya_eq _ _ _ _ _ _ _ _ _ _ _ _ _ _ _ s r l (proj_blk m c t s r) (blk5 m c t)
    (shifted_eq m c t 2 (by omega) s r _ (by show r.val + 2 = r.val + 2; omega) l)
    (shifted_eq m c t 1 (by omega) s r _ (by show 1 + r.val + 1 = r.val + 2; omega) l)
    (tile_eq m c t s r _ (by show 2 + r.val = r.val + 2; omega) l)

/-- The recurrence's input. -/
theorem result8 : (dats m 0 c).arrAt 8 cfg0.N = val_main_v27 (F := Ideal) (m ((c : Thread nD τ).loc main_arg0)) (m ((c : Thread nD τ).loc main_arg1))
    (m ((c : Thread nD τ).loc main_arg2)) (m ((c : Thread nD τ).loc main_arg3)) := by
  funext i
  obtain ⟨s, r, l, rfl⟩ : ∃ (s : Fin 32) (r : Fin 8) (l : Fin 512), i = ix3 s r l := ⟨i 0, i 1, i 2, (ix3_eta i).symm⟩
  have hN : cfg0.N = 1 := N_0
  let t : Fin cfg0.N := ⟨0, by omega⟩
  have hb := congrFun ((dats m 0 c).read_blk_arrAt_eq_flushed 8 disjoint8 cfg0.N t t.isLt (flush0_8 t)) (ix3 s r l)
  rw [View.read_apply] at hb
  have hi : (((cfg0.win 8).blk t).view.emb (ix3 s r l)) = ix3 s r l := by
    obtain ⟨-, -, -, -, -, -, -, -, h, -⟩ := idx_facts t
    refine funext fun a => Fin.ext ?_
    match a with
    | ⟨0, _⟩ => show win0_8.index t 0 * 32 + 1 * s.val = s.val; rw [h.1]; omega
    | ⟨1, _⟩ => show win0_8.index t 1 * 8 + 1 * r.val = r.val; rw [h.2.1]; omega
    | ⟨2, _⟩ => show win0_8.index t 2 * 512 + 1 * l.val = l.val; rw [h.2.2]; omega
  rw [hi] at hb
  refine hb.trans ?_
  show (dats m 0 c).after 8 t (ix3 s r l) = _
  rw [after0_8]
  exact u_eq _ _ _ _ _ _ _ _ s r l (proj_blk m c t s r)

/-- Its gate. -/
theorem result9 : (dats m 0 c).arrAt 9 cfg0.N = val_main_v59 (F := Ideal) (m ((c : Thread nD τ).loc main_arg0)) (m ((c : Thread nD τ).loc main_arg1))
    (m ((c : Thread nD τ).loc main_arg2)) (m ((c : Thread nD τ).loc main_arg3)) := by
  funext i
  obtain ⟨s, r, l, rfl⟩ : ∃ (s : Fin 32) (r : Fin 8) (l : Fin 512), i = ix3 s r l := ⟨i 0, i 1, i 2, (ix3_eta i).symm⟩
  have hN : cfg0.N = 1 := N_0
  let t : Fin cfg0.N := ⟨0, by omega⟩
  have hb := congrFun ((dats m 0 c).read_blk_arrAt_eq_flushed 9 disjoint9 cfg0.N t t.isLt (flush0_9 t)) (ix3 s r l)
  rw [View.read_apply] at hb
  have hi : (((cfg0.win 9).blk t).view.emb (ix3 s r l)) = ix3 s r l := by
    obtain ⟨-, -, -, -, -, -, -, -, -, h, -⟩ := idx_facts t
    refine funext fun a => Fin.ext ?_
    match a with
    | ⟨0, _⟩ => show win0_9.index t 0 * 32 + 1 * s.val = s.val; rw [h.1]; omega
    | ⟨1, _⟩ => show win0_9.index t 1 * 8 + 1 * r.val = r.val; rw [h.2.1]; omega
    | ⟨2, _⟩ => show win0_9.index t 2 * 512 + 1 * l.val = l.val; rw [h.2.2]; omega
  rw [hi] at hb
  refine hb.trans ?_
  show (dats m 0 c).after 9 t (ix3 s r l) = _
  rw [after0_9]
  exact s_eq _ _ _ _ _ _ _ _ s r l (proj_blk m c t s r)

/-- The last two rows, which the next run starts from. -/
theorem result10 : (dats m 0 c).arrAt 10 cfg0.N = val_main_v60 (F := Ideal) (m ((c : Thread nD τ).loc main_arg0)) (m ((c : Thread nD τ).loc main_arg1))
    (m ((c : Thread nD τ).loc main_arg2)) (m ((c : Thread nD τ).loc main_arg3))
    (m ((c : Thread nD τ).loc main_arg6)) := by
  funext i
  obtain ⟨s, r, l, rfl⟩ : ∃ (s : Fin 32) (r : Fin 2) (l : Fin 512), i = ix3 s r l := ⟨i 0, i 1, i 2, (ix3_eta i).symm⟩
  have hN : cfg0.N = 1 := N_0
  let t : Fin cfg0.N := ⟨0, by omega⟩
  have hb := congrFun ((dats m 0 c).read_blk_arrAt_eq_flushed 10 disjoint10 cfg0.N t t.isLt (flush0_10 t)) (ix3 s r l)
  rw [View.read_apply] at hb
  have hi : (((cfg0.win 10).blk t).view.emb (ix3 s r l)) = ix3 s r l := by
    obtain ⟨-, -, -, -, -, -, -, -, -, -, h⟩ := idx_facts t
    refine funext fun a => Fin.ext ?_
    match a with
    | ⟨0, _⟩ => show win0_10.index t 0 * 32 + 1 * s.val = s.val; rw [h.1]; omega
    | ⟨1, _⟩ => show win0_10.index t 1 * 2 + 1 * r.val = r.val; rw [h.2.1]; omega
    | ⟨2, _⟩ => show win0_10.index t 2 * 512 + 1 * l.val = l.val; rw [h.2.2]; omega
  rw [hi] at hb
  refine hb.trans ?_
  show (dats m 0 c).after 10 t (ix3 s r l) = _
  rw [after0_10]
  rw [tail_eq]
  exact f_eq _ _ _ _ _ _ _ _ s ⟨6 + r.val, by omega⟩ l (proj_blk m c t s _)

end Cert.InEvenSIdeal.Hand

end
-- ==== Proof.InEvenS.Claims.lean ====
/-
  The claims of the recurrence layer's input product and convolution, for the sample batch: the frames, and that it computes
  what the reference defines.
-/
module

public import proofs.«01_k».proof.Defs
public import proofs.«01_k».proof.Proof.Gen.InEvenS
public import proofs.«01_k».proof.Proof.Gen.InEvenSIdeal
public import proofs.«01_k».proof.Proof.Gen.InEvenSRefIdeal
public import proofs.«01_k».proof.Proof.Gen.InEvenSRefIdeal.Run
public import proofs.«01_k».proof.Proof.Gen.InEvenS.Frame
public import proofs.«01_k».proof.Proof.InEvenS.Result
public import Idealize.ShloMosaic.Lib.Claim
public import Idealize.ShloMosaic.Lib.Quiescent

@[expose] public section

noncomputable section

namespace Cert.Proof

open Idealize.ShloMosaic Idealize.ShloMosaic.TcCoe Idealize.SL.Sem
open Cert.InEvenSIdeal Cert.InEvenSIdeal.Hand Cert.InEvenSRefIdeal.Read

theorem frame_inEvenS : Cert.quiescent_InEvenS := fun m ρ _ => Cert.InEvenS.Gen.frame m ρ

theorem frame_inEvenSIdeal : Cert.quiescent_InEvenSIdeal := fun m ρ _ => Cert.InEvenSIdeal.Gen.frame m ρ

/-- The frame of the reference: a host program with no semaphore. -/
theorem frame_inEvenSRef : Cert.quiescent_InEvenSRefIdeal := fun m ρ _ =>
  (θ_run (Cert.InEvenSRefIdeal.defs (F := Ideal)) _ _).mono
    (fun r h => ⟨fun c => (h c).2.2.2.2, sem_eq_zero_of_no_sems (by decide) r.2⟩) (Cert.InEvenSRefIdeal.Value.run m ρ)

/-- The kernel's four arrays after the run and the reference's are the same. -/
theorem algebraic_inEvenS : Cert.algebraic_InEvenSIdeal_InEvenSRefIdeal := fun m ρ m' ρ' _ hargs => by
  refine ⟨_, _, _, _, (θ_run (Cert.InEvenSIdeal.defs (F := Ideal)) _ _).mono
      (fun r h c => ⟨((h.1 c).1 7).trans (result7 m c), ((h.1 c).1 8).trans (result8 m c), ((h.1 c).1 9).trans (result9 m c),
        ((h.1 c).1 10).trans (result10 m c), h.2.1 c⟩)
      (θ_run_and ((θ_run Cert.InEvenSIdeal.defs _ _).mono (fun _ h => h.1) (run_main m ρ)) (Cert.InEvenSIdeal.Gen.frame m ρ)), ?_⟩
  refine (θ_run (Cert.InEvenSRefIdeal.defs (F := Ideal)) _ _).mono (fun r h c => ?_) (Cert.InEvenSRefIdeal.Value.run m' ρ')
  obtain ⟨e0, e1, e2, e3, e4, e5, e6⟩ := hargs c
  obtain ⟨h0, h1, h2, h3, hk⟩ := h c
  refine ⟨h0.trans ?_, h1.trans ?_, h2.trans ?_, h3.trans ?_, hk⟩
  · rw [val_main_v58_eq, e0, e1, e2, e3, e4, e5, e6]
  · rw [val_main_v27_eq, e0, e1, e2, e3]
  · rw [val_main_v59_eq, e0, e1, e2, e3]
  · rw [val_main_v60_eq, e0, e1, e2, e3, e6]

end Cert.Proof

end
-- ==== Proof.OutEvenS.Pay.lean ====
/-
  The recurrent layer's output products, for the sample batch: one token's row of what the kernel computes, and the same row
  of the reference.
-/
module

public import proofs.«01_k».proof.Proof.Gen.OutEvenSIdeal.Value
public import proofs.«01_k».proof.Proof.Gen.OutEvenSRefIdeal.Read
public import Idealize.ShloMosaic.Lib.Pointwise

@[expose] public section

noncomputable section

namespace Cert.OutEvenSIdeal.Hand

open Cert.OutEvenSIdeal Cert.OutEvenSIdeal.Gen Idealize.ShloMosaic Idealize.ShloMosaic.TcCoe Idealize.SL.Sem
open Cert.OutEvenSRefIdeal.Read

/-- The half of the gelu multiplies the argument in the kernel and the rest of it in the reference. -/
theorem half_assoc (y s : EReal) :
    Ideal.ofBits FTy.f32 0x3F000000#32 * y * s = y * (Ideal.ofBits FTy.f32 0x3F000000#32 * s) := by
  rw [mul_comm (Ideal.ofBits FTy.f32 0x3F000000#32) y, mul_assoc]

/-- The tokens of the 32 sequences, eight each, in one list. -/
theorem token_lt (s : Fin 32) (r : Fin 8) : s.val * 8 + r.val < 256 := by omega

variable (v16 : Vec Ideal S512x512 .bf16)
  (x0 : Vec Ideal S32x8x1024 .f32) (x1 x2 x3 : Vec Ideal S32x8x512 .f32) (x4 : Vec Ideal S32x1x3072 .f32)
  (x5 : Vec Ideal S1024 .f32) (x6 : Vec Ideal S512x512 .f32) (x7 : Vec Ideal S1024x1024 .f32)
  (s : Fin 32) (r : Fin 8)

/-- The second factor's left operand: the recurrence's output through gelu, its gate and `sz`, beside `ya`. -/
theorem cat_eq (k : Fin 1024)
    (h6 : ∀ j k, v16 (ix2 j k) = x6 (ix2 j k)) :
    k0_pay2 x2 v16 x3 x1 (ix2 ⟨s.val * 8 + r.val, token_lt s r⟩ k) = val_main_v25 (F := Ideal) x1 x2 x3 x6 (ix3 s r k) := by
  pointwise [k0_pay2, val_main_v25, val_main_v24, val_main_v23, val_main_v22, val_main_v21, val_main_cst_4, val_main_v20,
    val_main_v19, val_main_cst_3, val_main_v18, val_main_v17, val_main_v16, val_main_v15, val_main_v14, val_main_v13,
    val_main_cst_2, val_main_v12, val_main_v11, val_main_cst_1, val_main_v10, val_main_v9, val_main_v8, val_main_cst_0,
    val_main_v7, val_main_v6, val_main_v5, val_main_cst, val_main_v4, val_main_v3]
  simp only [h6, half_assoc, zero_sub]

/-- The product, its norm, the gain, the gate and the residue. -/
theorem out_eq (v34 : FVec Ideal S256x1024 .bf16) (v35 : FVec Ideal S1024x1024 .bf16)
    (v44 : Vec Ideal S1x1024 .f32)
    (l : Fin 1024)
    (h : ∀ k, v34 (ix2 ⟨s.val * 8 + r.val, token_lt s r⟩ k) = val_main_v25 (F := Ideal) x1 x2 x3 x6 (ix3 s r k))
    (h5 : ∀ k, v44 (ix2 0 k) = x5 (ix1 k))
    (h7 : ∀ j k, v35 (ix2 j k) = x7 (ix2 j k)) :
    k0_pay1 v34 (k0_pay3 v35) (constant S256x1024 .f32 0x00000000#32) x4 x0 v44 (ix3 s r l)
      = val_main_v44 (F := Ideal) x0 x1 x2 x3 x4 x5 x6 x7 (ix3 s r l) := by
  pointwise [k0_pay1, k0_pay3, val_main_v44, val_main_v43, val_main_v42, val_main_v41, val_main_v40, val_main_v39, val_main_v38,
    val_main_v37, val_main_v36, val_main_v35, val_main_v34, val_main_cst_8, val_main_v33, val_main_v32, val_main_cst_7,
    val_main_v31, val_main_v30, val_main_cst_6, val_main_v29, val_main_v28, val_main_v27, val_main_cst_5, val_main_v26,
    val_main_v2]
  simp only [h, h5, h7]

end Cert.OutEvenSIdeal.Hand

end
-- ==== Proof.OutEvenS.Result.lean ====
/-
  The recurrent layer's output products, for the sample batch: the array after the run is the reference's.
-/
module

public import proofs.«01_k».proof.Proof.OutEvenS.Pay
public import proofs.«01_k».proof.Defs
public import Idealize.ShloMosaic.Lib.Claim

@[expose] public section

noncomputable section

namespace Cert.OutEvenSIdeal.Hand

open Cert.OutEvenSIdeal Cert.OutEvenSIdeal.Gen Idealize.ShloMosaic Idealize.ShloMosaic.TcCoe Idealize.SL.Sem

variable (m : (ℓ : Loc nD τ sig) → Buf (Elt Ideal) ℓ)

/-- Every window stands at the origin: the grid has one point. -/
theorem idx_facts : ∀ t : Fin cfg0.N,
    (win0_0.index t 0 = 0 ∧ win0_0.index t 1 = 0 ∧ win0_0.index t 2 = 0)
    ∧ (win0_1.index t 0 = 0 ∧ win0_1.index t 1 = 0 ∧ win0_1.index t 2 = 0)
    ∧ (win0_2.index t 0 = 0 ∧ win0_2.index t 1 = 0 ∧ win0_2.index t 2 = 0)
    ∧ (win0_3.index t 0 = 0 ∧ win0_3.index t 1 = 0 ∧ win0_3.index t 2 = 0)
    ∧ (win0_4.index t 0 = 0 ∧ win0_4.index t 1 = 0 ∧ win0_4.index t 2 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0 ∧ win0_8.index t 2 = 0) :=
  (by decide +kernel : ∀ t : Fin grid0.N, _)

variable (c : Dev nD) (t : Fin cfg0.N)

theorem blk0 : iblk m c 0 t = m ((c : Thread nD τ).loc main_arg0) := by
  obtain ⟨h, -⟩ := idx_facts t
  funext j
  unfold iblk
  rw [View.read_apply, ← V_main_arg0 m c]
  refine congrArg (V m c main_arg0) (funext fun a => Fin.ext ?_)
  match a with
  | ⟨0, _⟩ => show win0_0.index t 0 * 32 + 1 * (j 0).val = (j 0).val; rw [h.1]; omega
  | ⟨1, _⟩ => show win0_0.index t 1 * 8 + 1 * (j 1).val = (j 1).val; rw [h.2.1]; omega
  | ⟨2, _⟩ => show win0_0.index t 2 * 1024 + 1 * (j 2).val = (j 2).val; rw [h.2.2]; omega

theorem blk1 : iblk m c 1 t = m ((c : Thread nD τ).loc main_arg1) := by
  obtain ⟨-, h, -⟩ := idx_facts t
  funext j
  unfold iblk
  rw [View.read_apply, ← V_main_arg1 m c]
  refine congrArg (V m c main_arg1) (funext fun a => Fin.ext ?_)
  match a with
  | ⟨0, _⟩ => show win0_1.index t 0 * 32 + 1 * (j 0).val = (j 0).val; rw [h.1]; omega
  | ⟨1, _⟩ => show win0_1.index t 1 * 8 + 1 * (j 1).val = (j 1).val; rw [h.2.1]; omega
  | ⟨2, _⟩ => show win0_1.index t 2 * 512 + 1 * (j 2).val = (j 2).val; rw [h.2.2]; omega

theorem blk2 : iblk m c 2 t = m ((c : Thread nD τ).loc main_arg2) := by
  obtain ⟨-, -, h, -⟩ := idx_facts t
  funext j
  unfold iblk
  rw [View.read_apply, ← V_main_arg2 m c]
  refine congrArg (V m c main_arg2) (funext fun a => Fin.ext ?_)
  match a with
  | ⟨0, _⟩ => show win0_2.index t 0 * 32 + 1 * (j 0).val = (j 0).val; rw [h.1]; omega
  | ⟨1, _⟩ => show win0_2.index t 1 * 8 + 1 * (j 1).val = (j 1).val; rw [h.2.1]; omega
  | ⟨2, _⟩ => show win0_2.index t 2 * 512 + 1 * (j 2).val = (j 2).val; rw [h.2.2]; omega

theorem blk3 : iblk m c 3 t = m ((c : Thread nD τ).loc main_arg3) := by
  obtain ⟨-, -, -, h, -⟩ := idx_facts t
  funext j
  unfold iblk
  rw [View.read_apply, ← V_main_arg3 m c]
  refine congrArg (V m c main_arg3) (funext fun a => Fin.ext ?_)
  match a with
  | ⟨0, _⟩ => show win0_3.index t 0 * 32 + 1 * (j 0).val = (j 0).val; rw [h.1]; omega
  | ⟨1, _⟩ => show win0_3.index t 1 * 8 + 1 * (j 1).val = (j 1).val; rw [h.2.1]; omega
  | ⟨2, _⟩ => show win0_3.index t 2 * 512 + 1 * (j 2).val = (j 2).val; rw [h.2.2]; omega

theorem blk4 : iblk m c 4 t = m ((c : Thread nD τ).loc main_arg4) := by
  obtain ⟨-, -, -, -, h, -⟩ := idx_facts t
  funext j
  unfold iblk
  rw [View.read_apply, ← V_main_arg4 m c]
  refine congrArg (V m c main_arg4) (funext fun a => Fin.ext ?_)
  match a with
  | ⟨0, _⟩ => show win0_4.index t 0 * 32 + 1 * (j 0).val = (j 0).val; rw [h.1]; omega
  | ⟨1, _⟩ => show win0_4.index t 1 * 1 + 1 * (j 1).val = (j 1).val; rw [h.2.1]; omega
  | ⟨2, _⟩ => show win0_4.index t 2 * 3072 + 1 * (j 2).val = (j 2).val; rw [h.2.2]; omega

/-- The gain is the argument, laid out as one row. -/
theorem gain_entry : V m c main_v2 = shapeCast S1x1024 (m ((c : Thread nD τ).loc main_arg5)) shapeCasts_S1024_S1x1024 := rfl

theorem blk5 (k : Fin 1024) : iblk m c 5 t (ix2 0 k) = m ((c : Thread nD τ).loc main_arg5) (ix1 k) := by
  obtain ⟨-, -, -, -, -, h, -⟩ := idx_facts t
  unfold iblk
  rw [View.read_apply]
  have e : V m c main_v2 (ix2 0 k) = m ((c : Thread nD τ).loc main_arg5) (ix1 k) := by
    rw [gain_entry]
    pointwise []
  rw [← e]
  refine congrArg (V m c main_v2) (funext fun a => Fin.ext ?_)
  match a with
  | ⟨0, _⟩ => show win0_5.index t 0 * 1 + 1 * 0 = 0; rw [h.1]
  | ⟨1, _⟩ => show win0_5.index t 1 * 1024 + 1 * k.val = k.val; rw [h.2]; omega

/-- The gate's weights: the argument, narrowed. -/
theorem entry6 : V m c main_v0
    = (truncf .bf16 (m ((c : Thread nD τ).loc main_arg6) : FVec Ideal S512x512 .f32) bitsLt_bf16_f32 : FVec Ideal S512x512 .bf16) := rfl

theorem blk6 (j k : Fin 512) : iblk m c 6 t (ix2 j k) = m ((c : Thread nD τ).loc main_arg6) (ix2 j k) := by
  obtain ⟨-, -, -, -, -, -, h, -⟩ := idx_facts t
  unfold iblk
  rw [View.read_apply]
  have e : V m c main_v0 (ix2 j k) = m ((c : Thread nD τ).loc main_arg6) (ix2 j k) := by
    rw [entry6]
    pointwise []
  rw [← e]
  refine congrArg (V m c main_v0) (funext fun a => Fin.ext ?_)
  match a with
  | ⟨0, _⟩ => show win0_6.index t 0 * 512 + 1 * j.val = j.val; rw [h.1]; omega
  | ⟨1, _⟩ => show win0_6.index t 1 * 512 + 1 * k.val = k.val; rw [h.2]; omega

/-- The output's weights: the argument, narrowed. -/
theorem entry7 : V m c main_v1
    = (truncf .bf16 (m ((c : Thread nD τ).loc main_arg7) : FVec Ideal S1024x1024 .f32) bitsLt_bf16_f32 : FVec Ideal S1024x1024 .bf16) := rfl

theorem blk7 (j k : Fin 1024) : iblk m c 7 t (ix2 j k) = m ((c : Thread nD τ).loc main_arg7) (ix2 j k) := by
  obtain ⟨-, -, -, -, -, -, -, h, -⟩ := idx_facts t
  unfold iblk
  rw [View.read_apply]
  have e : V m c main_v1 (ix2 j k) = m ((c : Thread nD τ).loc main_arg7) (ix2 j k) := by
    rw [entry7]
    pointwise []
  rw [← e]
  refine congrArg (V m c main_v1) (funext fun a => Fin.ext ?_)
  match a with
  | ⟨0, _⟩ => show win0_7.index t 0 * 1024 + 1 * j.val = j.val; rw [h.1]; omega
  | ⟨1, _⟩ => show win0_7.index t 1 * 1024 + 1 * k.val = k.val; rw [h.2]; omega

/-- The reference's array, at the kernel's arguments. -/
def ref : Vec Ideal S32x8x1024 .f32 :=
  OutEvenSRefIdeal.Read.val_main_v44 (F := Ideal) (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))

/-- The array after the run is the reference's. -/
theorem result : (dats m 0 c).arrAt 8 cfg0.N = ref m c := by
  funext i
  obtain ⟨s, r, l, rfl⟩ : ∃ (s : Fin 32) (r : Fin 8) (l : Fin 1024), i = ix3 s r l := ⟨i 0, i 1, i 2, (ix3_eta i).symm⟩
  have hN : cfg0.N = 1 := N_0
  let t : Fin cfg0.N := ⟨0, by omega⟩
  have hb := congrFun (Value.blocks8 m c t (flush0_8 t)) (ix3 s r l)
  rw [Value.flushed8, View.read_apply] at hb
  have hi : (((cfg0.win 8).blk t).view.emb (ix3 s r l)) = ix3 s r l := by
    obtain ⟨-, -, -, -, -, -, -, -, h⟩ := idx_facts t
    refine funext fun a => Fin.ext ?_
    match a with
    | ⟨0, _⟩ => show win0_8.index t 0 * 32 + 1 * s.val = s.val; rw [h.1]; omega
    | ⟨1, _⟩ => show win0_8.index t 1 * 8 + 1 * r.val = r.val; rw [h.2.1]; omega
    | ⟨2, _⟩ => show win0_8.index t 2 * 1024 + 1 * l.val = l.val; rw [h.2.2]; omega
  rw [hi] at hb
  refine hb.trans ?_
  show out0_8 _ _ _ _ _ _ _ _ (ix3 s r l) = _
  unfold out0_8
  have z3 : (![0, 0, 0] : Fin 3 → Nat) = fun _ => 0 := by decide
  have z2 : (![0, 0] : Fin 2 → Nat) = fun _ => 0 := by decide
  rw [View.canon_unit_zero (S := S32x8x1024) z3]
  rw [View.ld_unit_zero (S := S32x8x512) z3, View.ld_unit_zero (S := S512x512) z2, View.ld_unit_zero (S := S32x8x512) z3,
    View.ld_unit_zero (S := S32x8x512) z3, View.ld_unit_zero (S := S1024x1024) z2, View.ld_unit_zero (S := S32x1x3072) z3,
    View.ld_unit_zero (S := S32x8x1024) z3, View.ld_unit_zero (S := S1x1024) z2]
  rw [blk0, blk1, blk2, blk3, blk4]
  exact out_eq _ _ _ _ _ _ _ _ s r _ _ _ l (fun k => cat_eq _ _ _ _ _ s r k (blk6 m c t)) (blk5 m c t) (blk7 m c t)

end Cert.OutEvenSIdeal.Hand

end
-- ==== Proof.OutEvenS.Claims.lean ====
/-
  The claims of the recurrent layer's output products, for the sample batch: the frames, and that they compute what the reference defines.
-/
module

public import proofs.«01_k».proof.Defs
public import proofs.«01_k».proof.Proof.Gen.OutEvenS
public import proofs.«01_k».proof.Proof.Gen.OutEvenSIdeal
public import proofs.«01_k».proof.Proof.Gen.OutEvenSRefIdeal
public import proofs.«01_k».proof.Proof.Gen.OutEvenS.Frame
public import proofs.«01_k».proof.Proof.OutEvenS.Result
public import Idealize.ShloMosaic.Lib.Claim
public import Idealize.ShloMosaic.Lib.Quiescent

@[expose] public section

noncomputable section

namespace Cert.Proof

open Idealize.ShloMosaic Idealize.ShloMosaic.TcCoe Idealize.SL.Sem

theorem frame_outEvenS : Cert.quiescent_OutEvenS := fun m ρ _ => Cert.OutEvenS.Gen.frame m ρ

theorem frame_outEvenSIdeal : Cert.quiescent_OutEvenSIdeal := fun m ρ _ => Cert.OutEvenSIdeal.Gen.frame m ρ

theorem frame_outEvenSRef : Cert.quiescent_OutEvenSRefIdeal := fun m ρ _ =>
  (θ_run (Cert.OutEvenSRefIdeal.defs (F := Ideal)) _ _).mono
    (fun r h => ⟨fun c => (h c).2, sem_eq_zero_of_no_sems (by decide) r.2⟩) (Cert.OutEvenSRefIdeal.Value.run m ρ)

/-- The kernel's array after the run and the reference's are one array. -/
theorem algebraic_outEvenS : Cert.algebraic_OutEvenSIdeal_OutEvenSRefIdeal := fun m ρ m' ρ' _ hargs => by
  refine ⟨fun c => Cert.OutEvenSIdeal.Hand.ref m c, ?_, ?_⟩
  · exact (θ_run (Cert.OutEvenSIdeal.defs (F := Ideal)) _ _).mono
      (fun r h c => ⟨(h c).1.trans (Cert.OutEvenSIdeal.Hand.result m c), (h c).2⟩) (Cert.OutEvenSIdeal.Value.run_blocks m ρ)
  · refine (θ_run (Cert.OutEvenSRefIdeal.defs (F := Ideal)) _ _).mono (fun r h c => ⟨(h c).1.trans ?_, (h c).2⟩)
      (Cert.OutEvenSRefIdeal.Value.run m' ρ')
    obtain ⟨e0, e1, e2, e3, e4, e5, e6, e7⟩ := hargs c
    rw [Cert.OutEvenSRefIdeal.Read.val_main_v44_eq, e0, e1, e2, e3, e4, e5, e6, e7]
    rfl

end Cert.Proof

end
-- ==== Proof.InOddS.Blocks.lean ====
/-
  The attention layer's input product, for the sample batch: what each grid point writes back, and the run with its four
  output arrays named.
-/
module

public import proofs.«01_k».proof.Proof.Gen.InOddSIdeal.Frame
public import Idealize.ShloMosaic.Lib.Pipeline.Value

@[expose] public section

noncomputable section

namespace Cert.InOddSIdeal.Value

open Cert.InOddSIdeal Cert.InOddSIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- What a point writes back to window 4's array. -/
theorem flushed4 (c : Dev nD) (t : Fin cfg0.N) :
    (dats m 0 c).flushed 4 t = (cfg0.win 4).cut (grid0.coords t) (out0_4 (iblk m c 0 t) (iblk m c 1 t) (iblk m c 2 t) (iblk m c 3 t)) := by
  show (cfg0.win 4).cut (grid0.coords t) ((dats m 0 c).after 4 t) = _
  rw [after0_4]

/-- The window's blocks at two points are two blocks. -/
theorem idx_inj4 : ∀ t t' : Fin cfg0.N, win0_4.index t = win0_4.index t' → t = t' :=
  (by decide +kernel : ∀ t t' : Fin grid0.N, win0_4.index t = win0_4.index t' → t = t')

/-- So they share no index. -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- A block of the array after the run is what its point wrote back. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- What a point writes back to window 5's array. -/
theorem flushed5 (c : Dev nD) (t : Fin cfg0.N) :
    (dats m 0 c).flushed 5 t = (cfg0.win 5).cut (grid0.coords t) (out0_5 (iblk m c 0 t) (iblk m c 1 t) (iblk m c 2 t) (iblk m c 3 t)) := by
  show (cfg0.win 5).cut (grid0.coords t) ((dats m 0 c).after 5 t) = _
  rw [after0_5]

/-- The window's blocks at two points are two blocks. -/
theorem idx_inj5 : ∀ t t' : Fin cfg0.N, win0_5.index t = win0_5.index t' → t = t' :=
  (by decide +kernel : ∀ t t' : Fin grid0.N, win0_5.index t = win0_5.index t' → t = t')

/-- So they share no index. -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- A block of the array after the run is what its point wrote back. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- What a point writes back to window 6's array. -/
theorem flushed6 (c : Dev nD) (t : Fin cfg0.N) :
    (dats m 0 c).flushed 6 t = (cfg0.win 6).cut (grid0.coords t) (out0_6 (iblk m c 0 t) (iblk m c 1 t) (iblk m c 2 t) (iblk m c 3 t)) := by
  show (cfg0.win 6).cut (grid0.coords t) ((dats m 0 c).after 6 t) = _
  rw [after0_6]

/-- The window's blocks at two points are two blocks. -/
theorem idx_inj6 : ∀ t t' : Fin cfg0.N, win0_6.index t = win0_6.index t' → t = t' :=
  (by decide +kernel : ∀ t t' : Fin grid0.N, win0_6.index t = win0_6.index t' → t = t')

/-- So they share no index. -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- A block of the array after the run is what its point wrote back. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- What a point writes back to window 7's array. -/
theorem flushed7 (c : Dev nD) (t : Fin cfg0.N) :
    (dats m 0 c).flushed 7 t = (cfg0.win 7).cut (grid0.coords t) (out0_7 (iblk m c 0 t) (iblk m c 1 t) (iblk m c 2 t) (iblk m c 3 t)) := by
  show (cfg0.win 7).cut (grid0.coords t) ((dats m 0 c).after 7 t) = _
  rw [after0_7]

/-- The window's blocks at two points are two blocks. -/
theorem idx_inj7 : ∀ t t' : Fin cfg0.N, win0_7.index t = win0_7.index t' → t = t' :=
  (by decide +kernel : ∀ t t' : Fin grid0.N, win0_7.index t = win0_7.index t' → t = t')

/-- So they share no index. -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- A block of the array after the run is what its point wrote back. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v2_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v2_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v2_2) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v2_3) = (dats m 0 c).arrAt 7 cfg0.N :=
  (h c).1 7

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The run, with each output array named and the arguments as they were. -/
theorem run_blocks : θ_run defs (onTc (τ := τ) (main (F := F))) ⟨m, fun _ => 0, ρ⟩ fun r => ∀ c : Dev nD,
      r.2.mem ((c : Thread nD τ).loc main_v2_0) = (dats m 0 c).arrAt 4 cfg0.N
      ∧ r.2.mem ((c : Thread nD τ).loc main_v2_1) = (dats m 0 c).arrAt 5 cfg0.N
      ∧ r.2.mem ((c : Thread nD τ).loc main_v2_2) = (dats m 0 c).arrAt 6 cfg0.N
      ∧ r.2.mem ((c : Thread nD τ).loc main_v2_3) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      post6 m r h c,
      post7 m r h c,
      kept_main_arg0 m r h c,
      kept_main_arg1 m r h c,
      kept_main_arg2 m r h c,
      kept_main_arg3 m r h c⟩)
    (run_main m ρ)

end Cert.InOddSIdeal.Value

end
-- ==== Proof.InOddS.Pay.lean ====
/-
  The attention layer's input product, for the sample batch: one token's row of what the kernel computes, and the same row
  of the reference.
-/
module

public import proofs.«01_k».proof.Proof.InOddS.Blocks
public import proofs.«01_k».proof.Proof.Gen.InOddSRefIdeal.Read
public import Idealize.ShloMosaic.Lib.Pointwise

@[expose] public section

noncomputable section

namespace Cert.InOddSIdeal.Hand

open Cert.InOddSIdeal Cert.InOddSIdeal.Gen Idealize.ShloMosaic Idealize.ShloMosaic.TcCoe Idealize.SL.Sem
open Cert.InOddSRefIdeal.Read

/-- The tokens of the 32 sequences, eight each, in one list. -/
theorem token_lt (s : Fin 32) (r : Fin 8) : s.val * 8 + r.val < 256 := by omega

variable (v4 : Vec Ideal S1x1024 .f32) (v27 : Vec Ideal S1024x4096 .bf16)
  (x0 : Vec Ideal S32x8x1024 .f32) (x1 : Vec Ideal S32x1x3072 .f32) (x2 : Vec Ideal S1024 .f32) (x3 : Vec Ideal S1024x4096 .f32)
  (s : Fin 32) (r : Fin 8)

/-- The product of the normalised row with the weights. -/
theorem proj_eq (l : Fin 4096)
    (h2 : ∀ k, v4 (ix2 0 k) = x2 (ix1 k))
    (h3 : ∀ j k, v27 (ix2 j k) = x3 (ix2 j k)) :
    k0_pay3 x1 x0 v4 v27 (ix2 ⟨s.val * 8 + r.val, token_lt s r⟩ l) = val_main_v22 (F := Ideal) x0 x1 x2 x3 (ix3 s r l) := by
  pointwise [k0_pay3, val_main_v22, val_main_v21, val_main_v20, val_main_v19, val_main_v18, val_main_v17, val_main_v16,
    val_main_cst_2, val_main_v15, val_main_v14, val_main_v13, val_main_v12, val_main_v11, val_main_v10, val_main_v9,
    val_main_v8, val_main_cst_1, val_main_v7, val_main_v6, val_main_cst_0, val_main_v5, val_main_v4, val_main_cst,
    val_main_v3, val_main_v1, val_main_v0]
  simp only [h2, h3]

/-- The keys. -/
theorem key_eq (l : Fin 1024)
    (h : ∀ j, k0_pay3 x1 x0 v4 v27 (ix2 ⟨s.val * 8 + r.val, token_lt s r⟩ j) = val_main_v22 (F := Ideal) x0 x1 x2 x3 (ix3 s r j)) :
    k0_pay6 x1 x0 v4 v27 (ix3 s r l) = val_main_v24 (F := Ideal) x0 x1 x2 x3 (ix3 s r l) := by
  pointwise [k0_pay6, val_main_v24]
  rw [h]

/-- The values. -/
theorem value_eq (l : Fin 1024)
    (h : ∀ j, k0_pay3 x1 x0 v4 v27 (ix2 ⟨s.val * 8 + r.val, token_lt s r⟩ j) = val_main_v22 (F := Ideal) x0 x1 x2 x3 (ix3 s r j)) :
    k0_pay7 x1 x0 v4 v27 (ix3 s r l) = val_main_v25 (F := Ideal) x0 x1 x2 x3 (ix3 s r l) := by
  pointwise [k0_pay7, val_main_v25]
  rw [h]

/-- The gate through its sigmoid. -/
theorem gate_eq (l : Fin 1024)
    (h : ∀ j, k0_pay3 x1 x0 v4 v27 (ix2 ⟨s.val * 8 + r.val, token_lt s r⟩ j) = val_main_v22 (F := Ideal) x0 x1 x2 x3 (ix3 s r j)) :
    k0_pay1 (k0_pay5 x1 x0 v4 v27) (ix3 s r l) = val_main_v27 (F := Ideal) x0 x1 x2 x3 (ix3 s r l) := by
  pointwise [k0_pay1, k0_pay5, val_main_v27, val_main_call0_v5, val_main_call0_v4, val_main_call0_cst_0, val_main_call0_v3,
    val_main_call0_v2, val_main_call0_cst, val_main_call0_v1, val_main_call0_v0, val_main_v26]
  rw [h, zero_sub]

/-- The queries. -/
theorem query_eq (l : Fin 1024)
    (h : ∀ j, k0_pay3 x1 x0 v4 v27 (ix2 ⟨s.val * 8 + r.val, token_lt s r⟩ j) = val_main_v22 (F := Ideal) x0 x1 x2 x3 (ix3 s r j)) :
    k0_pay2 (k0_pay4 x1 x0 v4 v27) (ix3 s r l) = val_main_v23 (F := Ideal) x0 x1 x2 x3 (ix3 s r l) := by
  pointwise [k0_pay2, k0_pay4, val_main_v23]
  rw [h]

end Cert.InOddSIdeal.Hand

end
-- ==== Proof.InOddS.Result.lean ====
/-
  The attention layer's input product, for the sample batch: the arrays after the run are the reference's.
-/
module

public import proofs.«01_k».proof.Proof.InOddS.Pay
public import proofs.«01_k».proof.Defs
public import Idealize.ShloMosaic.Lib.Claim

@[expose] public section

noncomputable section

namespace Cert.InOddSIdeal.Hand

open Cert.InOddSIdeal Cert.InOddSIdeal.Gen Idealize.ShloMosaic Idealize.ShloMosaic.TcCoe Idealize.SL.Sem
open Cert.InOddSRefIdeal.Read

variable (m : (ℓ : Loc nD τ sig) → Buf (Elt Ideal) ℓ)

/-- Every window stands at the origin: the grid has one point. -/
theorem idx_facts : ∀ t : Fin cfg0.N,
    (win0_0.index t 0 = 0 ∧ win0_0.index t 1 = 0 ∧ win0_0.index t 2 = 0)
    ∧ (win0_1.index t 0 = 0 ∧ win0_1.index t 1 = 0 ∧ win0_1.index t 2 = 0)
    ∧ (win0_2.index t 0 = 0 ∧ win0_2.index t 1 = 0)
    ∧ (win0_3.index t 0 = 0 ∧ win0_3.index t 1 = 0)
    ∧ (win0_4.index t 0 = 0 ∧ win0_4.index t 1 = 0 ∧ win0_4.index t 2 = 0)
    ∧ (win0_5.index t 0 = 0 ∧ win0_5.index t 1 = 0 ∧ win0_5.index t 2 = 0)
    ∧ (win0_6.index t 0 = 0 ∧ win0_6.index t 1 = 0 ∧ win0_6.index t 2 = 0)
    ∧ (win0_7.index t 0 = 0 ∧ win0_7.index t 1 = 0 ∧ win0_7.index t 2 = 0) :=
  (by decide +kernel : ∀ t : Fin grid0.N, _)

variable (c : Dev nD) (t : Fin cfg0.N)

theorem blk0 : iblk m c 0 t = m ((c : Thread nD τ).loc main_arg0) := by
  obtain ⟨h, -⟩ := idx_facts t
  funext j
  unfold iblk
  rw [View.read_apply, ← V_main_arg0 m c]
  refine congrArg (V m c main_arg0) (funext fun a => Fin.ext ?_)
  match a with
  | ⟨0, _⟩ => show win0_0.index t 0 * 32 + 1 * (j 0).val = (j 0).val; rw [h.1]; omega
  | ⟨1, _⟩ => show win0_0.index t 1 * 8 + 1 * (j 1).val = (j 1).val; rw [h.2.1]; omega
  | ⟨2, _⟩ => show win0_0.index t 2 * 1024 + 1 * (j 2).val = (j 2).val; rw [h.2.2]; omega

theorem blk1 : iblk m c 1 t = m ((c : Thread nD τ).loc main_arg1) := by
  obtain ⟨-, h, -⟩ := idx_facts t
  funext j
  unfold iblk
  rw [View.read_apply, ← V_main_arg1 m c]
  refine congrArg (V m c main_arg1) (funext fun a => Fin.ext ?_)
  match a with
  | ⟨0, _⟩ => show win0_1.index t 0 * 32 + 1 * (j 0).val = (j 0).val; rw [h.1]; omega
  | ⟨1, _⟩ => show win0_1.index t 1 * 1 + 1 * (j 1).val = (j 1).val; rw [h.2.1]; omega
  | ⟨2, _⟩ => show win0_1.index t 2 * 3072 + 1 * (j 2).val = (j 2).val; rw [h.2.2]; omega

/-- The gain is the argument, laid out as one row. -/
theorem gain_entry : V m c main_v1 = shapeCast S1x1024 (m ((c : Thread nD τ).loc main_arg2)) shapeCasts_S1024_S1x1024 := rfl

theorem blk2 (k : Fin 1024) : iblk m c 2 t (ix2 0 k) = m ((c : Thread nD τ).loc main_arg2) (ix1 k) := by
  obtain ⟨-, -, h, -⟩ := idx_facts t
  unfold iblk
  rw [View.read_apply]
  have e : V m c main_v1 (ix2 0 k) = m ((c : Thread nD τ).loc main_arg2) (ix1 k) := by
    rw [gain_entry]
    pointwise []
  rw [← e]
  refine congrArg (V m c main_v1) (funext fun a => Fin.ext ?_)
  match a with
  | ⟨0, _⟩ => show win0_2.index t 0 * 1 + 1 * 0 = 0; rw [h.1]
  | ⟨1, _⟩ => show win0_2.index t 1 * 1024 + 1 * k.val = k.val; rw [h.2]; omega

/-- The weights are the argument, narrowed. -/
theorem weight_entry : V m c main_v0
    = (truncf .bf16 (m ((c : Thread nD τ).loc main_arg3) : FVec Ideal S1024x4096 .f32) bitsLt_bf16_f32 : FVec Ideal S1024x4096 .bf16) := rfl

theorem blk3 (j : Fin 1024) (k : Fin 4096) : iblk m c 3 t (ix2 j k) = m ((c : Thread nD τ).loc main_arg3) (ix2 j k) := by
  obtain ⟨-, -, -, h, -⟩ := idx_facts t
  unfold iblk
  rw [View.read_apply]
  have e : V m c main_v0 (ix2 j k) = m ((c : Thread nD τ).loc main_arg3) (ix2 j k) := by
    rw [weight_entry]
    pointwise []
  rw [← e]
  refine congrArg (V m c main_v0) (funext fun a => Fin.ext ?_)
  match a with
  | ⟨0, _⟩ => show win0_3.index t 0 * 1024 + 1 * j.val = j.val; rw [h.1]; omega
  | ⟨1, _⟩ => show win0_3.index t 1 * 4096 + 1 * k.val = k.val; rw [h.2]; omega

theorem z3 : (![0, 0, 0] : Fin 3 → Nat) = fun _ => 0 := by decide
theorem z2 : (![0, 0] : Fin 2 → Nat) = fun _ => 0 := by decide

/-- The keys. -/
theorem result4 : (dats m 0 c).arrAt 4 cfg0.N = val_main_v24 (F := Ideal) (m ((c : Thread nD τ).loc main_arg0)) (m ((c : Thread nD τ).loc main_arg1))
    (m ((c : Thread nD τ).loc main_arg2)) (m ((c : Thread nD τ).loc main_arg3)) := by
  funext i
  obtain ⟨s, r, l, rfl⟩ : ∃ (s : Fin 32) (r : Fin 8) (l : Fin 1024), i = ix3 s r l := ⟨i 0, i 1, i 2, (ix3_eta i).symm⟩
  have hN : cfg0.N = 1 := N_0
  let t : Fin cfg0.N := ⟨0, by omega⟩
  have hb := congrFun (Value.blocks4 m c t (flush0_4 t)) (ix3 s r l)
  rw [Value.flushed4, View.read_apply] at hb
  have hi : (((cfg0.win 4).blk t).view.emb (ix3 s r l)) = ix3 s r l := by
    obtain ⟨-, -, -, -, h, -⟩ := idx_facts t
    refine funext fun a => Fin.ext ?_
    match a with
    | ⟨0, _⟩ => show win0_4.index t 0 * 32 + 1 * s.val = s.val; rw [h.1]; omega
    | ⟨1, _⟩ => show win0_4.index t 1 * 8 + 1 * r.val = r.val; rw [h.2.1]; omega
    | ⟨2, _⟩ => show win0_4.index t 2 * 1024 + 1 * l.val = l.val; rw [h.2.2]; omega
  rw [hi] at hb
  refine hb.trans ?_
  show out0_4 _ _ _ _ (ix3 s r l) = _
  unfold out0_4
  rw [View.canon_unit_zero (S := S32x8x1024) z3]
  rw [View.ld_unit_zero (S := S32x1x3072) z3, View.ld_unit_zero (S := S32x8x1024) z3, View.ld_unit_zero (S := S1x1024) z2,
    View.ld_unit_zero (S := S1024x4096) z2]
  rw [blk0, blk1]
  exact key_eq _ _ _ _ _ _ s r l (fun j => proj_eq _ _ _ _ _ _ s r j (blk2 m c t) (blk3 m c t))

/-- The values. -/
theorem result5 : (dats m 0 c).arrAt 5 cfg0.N = val_main_v25 (F := Ideal) (m ((c : Thread nD τ).loc main_arg0)) (m ((c : Thread nD τ).loc main_arg1))
    (m ((c : Thread nD τ).loc main_arg2)) (m ((c : Thread nD τ).loc main_arg3)) := by
  funext i
  obtain ⟨s, r, l, rfl⟩ : ∃ (s : Fin 32) (r : Fin 8) (l : Fin 1024), i = ix3 s r l := ⟨i 0, i 1, i 2, (ix3_eta i).symm⟩
  have hN : cfg0.N = 1 := N_0
  let t : Fin cfg0.N := ⟨0, by omega⟩
  have hb := congrFun (Value.blocks5 m c t (flush0_5 t)) (ix3 s r l)
  rw [Value.flushed5, View.read_apply] at hb
  have hi : (((cfg0.win 5).blk t).view.emb (ix3 s r l)) = ix3 s r l := by
    obtain ⟨-, -, -, -, -, h, -⟩ := idx_facts t
    refine funext fun a => Fin.ext ?_
    match a with
    | ⟨0, _⟩ => show win0_5.index t 0 * 32 + 1 * s.val = s.val; rw [h.1]; omega
    | ⟨1, _⟩ => show win0_5.index t 1 * 8 + 1 * r.val = r.val; rw [h.2.1]; omega
    | ⟨2, _⟩ => show win0_5.index t 2 * 1024 + 1 * l.val = l.val; rw [h.2.2]; omega
  rw [hi] at hb
  refine hb.trans ?_
  show out0_5 _ _ _ _ (ix3 s r l) = _
  unfold out0_5
  rw [View.canon_unit_zero (S := S32x8x1024) z3]
  rw [View.ld_unit_zero (S := S32x1x3072) z3, View.ld_unit_zero (S := S32x8x1024) z3, View.ld_unit_zero (S := S1x1024) z2,
    View.ld_unit_zero (S := S1024x4096) z2]
  rw [blk0, blk1]
  exact value_eq _ _ _ _ _ _ s r l (fun j => proj_eq _ _ _ _ _ _ s r j (blk2 m c t) (blk3 m c t))

/-- The gate. -/
theorem result6 : (dats m 0 c).arrAt 6 cfg0.N = val_main_v27 (F := Ideal) (m ((c : Thread nD τ).loc main_arg0)) (m ((c : Thread nD τ).loc main_arg1))
    (m ((c : Thread nD τ).loc main_arg2)) (m ((c : Thread nD τ).loc main_arg3)) := by
  funext i
  obtain ⟨s, r, l, rfl⟩ : ∃ (s : Fin 32) (r : Fin 8) (l : Fin 1024), i = ix3 s r l := ⟨i 0, i 1, i 2, (ix3_eta i).symm⟩
  have hN : cfg0.N = 1 := N_0
  let t : Fin cfg0.N := ⟨0, by omega⟩
  have hb := congrFun (Value.blocks6 m c t (flush0_6 t)) (ix3 s r l)
  rw [Value.flushed6, View.read_apply] at hb
  have hi : (((cfg0.win 6).blk t).view.emb (ix3 s r l)) = ix3 s r l := by
    obtain ⟨-, -, -, -, -, -, h, -⟩ := idx_facts t
    refine funext fun a => Fin.ext ?_
    match a with
    | ⟨0, _⟩ => show win0_6.index t 0 * 32 + 1 * s.val = s.val; rw [h.1]; omega
    | ⟨1, _⟩ => show win0_6.index t 1 * 8 + 1 * r.val = r.val; rw [h.2.1]; omega
    | ⟨2, _⟩ => show win0_6.index t 2 * 1024 + 1 * l.val = l.val; rw [h.2.2]; omega
  rw [hi] at hb
  refine hb.trans ?_
  show out0_6 _ _ _ _ (ix3 s r l) = _
  unfold out0_6
  rw [View.canon_unit_zero (S := S32x8x1024) z3]
  rw [View.ld_unit_zero (S := S32x1x3072) z3, View.ld_unit_zero (S := S32x8x1024) z3, View.ld_unit_zero (S := S1x1024) z2,
    View.ld_unit_zero (S := S1024x4096) z2]
  rw [blk0, blk1]
  exact gate_eq _ _ _ _ _ _ s r l (fun j => proj_eq _ _ _ _ _ _ s r j (blk2 m c t) (blk3 m c t))

/-- The queries. -/
theorem result7 : (dats m 0 c).arrAt 7 cfg0.N = val_main_v23 (F := Ideal) (m ((c : Thread nD τ).loc main_arg0)) (m ((c : Thread nD τ).loc main_arg1))
    (m ((c : Thread nD τ).loc main_arg2)) (m ((c : Thread nD τ).loc main_arg3)) := by
  funext i
  obtain ⟨s, r, l, rfl⟩ : ∃ (s : Fin 32) (r : Fin 8) (l : Fin 1024), i = ix3 s r l := ⟨i 0, i 1, i 2, (ix3_eta i).symm⟩
  have hN : cfg0.N = 1 := N_0
  let t : Fin cfg0.N := ⟨0, by omega⟩
  have hb := congrFun (Value.blocks7 m c t (flush0_7 t)) (ix3 s r l)
  rw [Value.flushed7, View.read_apply] at hb
  have hi : (((cfg0.win 7).blk t).view.emb (ix3 s r l)) = ix3 s r l := by
    obtain ⟨-, -, -, -, -, -, -, h⟩ := idx_facts t
    refine funext fun a => Fin.ext ?_
    match a with
    | ⟨0, _⟩ => show win0_7.index t 0 * 32 + 1 * s.val = s.val; rw [h.1]; omega
    | ⟨1, _⟩ => show win0_7.index t 1 * 8 + 1 * r.val = r.val; rw [h.2.1]; omega
    | ⟨2, _⟩ => show win0_7.index t 2 * 1024 + 1 * l.val = l.val; rw [h.2.2]; omega
  rw [hi] at hb
  refine hb.trans ?_
  show out0_7 _ _ _ _ (ix3 s r l) = _
  unfold out0_7
  rw [View.canon_unit_zero (S := S32x8x1024) z3]
  rw [View.ld_unit_zero (S := S32x1x3072) z3, View.ld_unit_zero (S := S32x8x1024) z3, View.ld_unit_zero (S := S1x1024) z2,
    View.ld_unit_zero (S := S1024x4096) z2]
  rw [blk0, blk1]
  exact query_eq _ _ _ _ _ _ s r l (fun j => proj_eq _ _ _ _ _ _ s r j (blk2 m c t) (blk3 m c t))

end Cert.InOddSIdeal.Hand

end
-- ==== Proof.InOddS.Claims.lean ====
/-
  The claims of the attention layer's input product, for the sample batch: the frames, and that it computes what the reference defines.
-/
module

public import proofs.«01_k».proof.Defs
public import proofs.«01_k».proof.Proof.Gen.InOddS
public import proofs.«01_k».proof.Proof.Gen.InOddSIdeal
public import proofs.«01_k».proof.Proof.Gen.InOddSRefIdeal
public import proofs.«01_k».proof.Proof.Gen.InOddS.Frame
public import proofs.«01_k».proof.Proof.InOddS.Result
public import Idealize.ShloMosaic.Lib.Claim
public import Idealize.ShloMosaic.Lib.Quiescent

@[expose] public section

noncomputable section

namespace Cert.Proof

open Idealize.ShloMosaic Idealize.ShloMosaic.TcCoe Idealize.SL.Sem
open Cert.InOddSIdeal.Hand Cert.InOddSRefIdeal.Read

theorem frame_inOddS : Cert.quiescent_InOddS := fun m ρ _ => Cert.InOddS.Gen.frame m ρ

theorem frame_inOddSIdeal : Cert.quiescent_InOddSIdeal := fun m ρ _ => Cert.InOddSIdeal.Gen.frame m ρ

theorem frame_inOddSRef : Cert.quiescent_InOddSRefIdeal := fun m ρ _ =>
  (θ_run (Cert.InOddSRefIdeal.defs (F := Ideal)) _ _).mono
    (fun r h => ⟨fun c => (h c).2.2.2.2, sem_eq_zero_of_no_sems (by decide) r.2⟩) (Cert.InOddSRefIdeal.Value.run m ρ)

/-- The kernel's four arrays after the run and the reference's are the same. -/
theorem algebraic_inOddS : Cert.algebraic_InOddSIdeal_InOddSRefIdeal := fun m ρ m' ρ' _ hargs => by
  refine ⟨_, _, _, _, (θ_run (Cert.InOddSIdeal.defs (F := Ideal)) _ _).mono
      (fun r h c => ⟨(h c).1.trans (result4 m c), (h c).2.1.trans (result5 m c), (h c).2.2.1.trans (result6 m c),
        (h c).2.2.2.1.trans (result7 m c), (h c).2.2.2.2⟩)
      (Cert.InOddSIdeal.Value.run_blocks m ρ), ?_⟩
  refine (θ_run (Cert.InOddSRefIdeal.defs (F := Ideal)) _ _).mono (fun r h c => ?_) (Cert.InOddSRefIdeal.Value.run m' ρ')
  obtain ⟨e0, e1, e2, e3⟩ := hargs c
  obtain ⟨h0, h1, h2, h3, hk⟩ := h c
  refine ⟨h0.trans ?_, h1.trans ?_, h2.trans ?_, h3.trans ?_, hk⟩
  · rw [val_main_v24_eq, e0, e1, e2, e3]
  · rw [val_main_v25_eq, e0, e1, e2, e3]
  · rw [val_main_v27_eq, e0, e1, e2, e3]
  · rw [val_main_v23_eq, e0, e1, e2, e3]

end Cert.Proof

end
-- ==== Proof.OutOddS.Pay.lean ====
/-
  The last product of the attention layer, for the sample batch: one token's row of what the kernel computes, and the same
  row of the reference. Both are read down to sums and scalar arithmetic on the extended reals.
-/
module

public import proofs.«01_k».proof.Proof.Gen.OutOddSIdeal.Value
public import proofs.«01_k».proof.Proof.Gen.OutOddSRefIdeal.Read
public import Idealize.ShloMosaic.Lib.Pointwise

@[expose] public section

noncomputable section

namespace Cert.OutOddSIdeal.Hand

open Cert.OutOddSIdeal Cert.OutOddSIdeal.Gen Idealize.ShloMosaic Idealize.ShloMosaic.TcCoe Idealize.SL.Sem

/-- What the kernel computes from the whole arrays is the reference's array, at sequence `s`, token `r`, channel `l`. -/
theorem pay_eq_ref (x0 x1 x2 : Vec Ideal S32x8x1024 .f32) (x3 : Vec Ideal S32x1x3072 .f32) (x4 : Vec Ideal S1024 .f32)
    (x5 : Vec Ideal S1024x1024 .f32) (v6 : Vec Ideal S1024x1024 .bf16) (v15 : Vec Ideal S1x1024 .f32)
    (s : Fin 32) (r : Fin 8) (l : Fin 1024)
    (h4 : ∀ k, v15 (ix2 0 k) = x4 (ix1 k))
    (h5 : ∀ j k, v6 (ix2 j k) = x5 (ix2 j k)) :
    k0_pay1 x1 x2 v6 x3 x0 v15 (ix3 s r l) = OutOddSRefIdeal.Read.val_main_v22 (F := Ideal) x0 x1 x2 x3 x4 x5 (ix3 s r l) := by
  rw [← OutOddSRefIdeal.Read.val_main_v22_eq]
  pointwise [k0_pay1]
  simp only [h4, h5]

end Cert.OutOddSIdeal.Hand

end
-- ==== Proof.OutOddS.Result.lean ====
/-
  The last product of the attention layer, for the sample batch: the array after the run is the reference's.
-/
module

public import proofs.«01_k».proof.Proof.OutOddS.Pay
public import proofs.«01_k».proof.Defs
public import Idealize.ShloMosaic.Lib.Claim

@[expose] public section

noncomputable section

namespace Cert.OutOddSIdeal.Hand

open Cert.OutOddSIdeal Cert.OutOddSIdeal.Gen Idealize.ShloMosaic Idealize.ShloMosaic.TcCoe Idealize.SL.Sem

variable (m : (ℓ : Loc nD τ sig) → Buf (Elt Ideal) ℓ)

/-- Every window stands at the origin: the grid has one point. -/
theorem idx_facts : ∀ t : Fin cfg0.N,
    (win0_0.index t 0 = 0 ∧ win0_0.index t 1 = 0 ∧ win0_0.index t 2 = 0)
    ∧ (win0_1.index t 0 = 0 ∧ win0_1.index t 1 = 0 ∧ win0_1.index t 2 = 0)
    ∧ (win0_2.index t 0 = 0 ∧ win0_2.index t 1 = 0 ∧ win0_2.index t 2 = 0)
    ∧ (win0_3.index t 0 = 0 ∧ win0_3.index t 1 = 0 ∧ win0_3.index t 2 = 0)
    ∧ (win0_4.index t 0 = 0 ∧ win0_4.index t 1 = 0)
    ∧ (win0_5.index t 0 = 0 ∧ win0_5.index t 1 = 0)
    ∧ (win0_6.index t 0 = 0 ∧ win0_6.index t 1 = 0 ∧ win0_6.index t 2 = 0) :=
  (by decide +kernel : ∀ t : Fin grid0.N, _)

variable (c : Dev nD) (t : Fin cfg0.N)

theorem blk0 : iblk m c 0 t = m ((c : Thread nD τ).loc main_arg0) := by
  obtain ⟨h, -⟩ := idx_facts t
  funext j
  unfold iblk
  rw [View.read_apply, ← V_main_arg0 m c]
  refine congrArg (V m c main_arg0) (funext fun a => Fin.ext ?_)
  match a with
  | ⟨0, _⟩ => show win0_0.index t 0 * 32 + 1 * (j 0).val = (j 0).val; rw [h.1]; omega
  | ⟨1, _⟩ => show win0_0.index t 1 * 8 + 1 * (j 1).val = (j 1).val; rw [h.2.1]; omega
  | ⟨2, _⟩ => show win0_0.index t 2 * 1024 + 1 * (j 2).val = (j 2).val; rw [h.2.2]; omega

theorem blk1 : iblk m c 1 t = m ((c : Thread nD τ).loc main_arg1) := by
  obtain ⟨-, h, -⟩ := idx_facts t
  funext j
  unfold iblk
  rw [View.read_apply, ← V_main_arg1 m c]
  refine congrArg (V m c main_arg1) (funext fun a => Fin.ext ?_)
  match a with
  | ⟨0, _⟩ => show win0_1.index t 0 * 32 + 1 * (j 0).val = (j 0).val; rw [h.1]; omega
  | ⟨1, _⟩ => show win0_1.index t 1 * 8 + 1 * (j 1).val = (j 1).val; rw [h.2.1]; omega
  | ⟨2, _⟩ => show win0_1.index t 2 * 1024 + 1 * (j 2).val = (j 2).val; rw [h.2.2]; omega

theorem blk2 : iblk m c 2 t = m ((c : Thread nD τ).loc main_arg2) := by
  obtain ⟨-, -, h, -⟩ := idx_facts t
  funext j
  unfold iblk
  rw [View.read_apply, ← V_main_arg2 m c]
  refine congrArg (V m c main_arg2) (funext fun a => Fin.ext ?_)
  match a with
  | ⟨0, _⟩ => show win0_2.index t 0 * 32 + 1 * (j 0).val = (j 0).val; rw [h.1]; omega
  | ⟨1, _⟩ => show win0_2.index t 1 * 8 + 1 * (j 1).val = (j 1).val; rw [h.2.1]; omega
  | ⟨2, _⟩ => show win0_2.index t 2 * 1024 + 1 * (j 2).val = (j 2).val; rw [h.2.2]; omega

theorem blk3 : iblk m c 3 t = m ((c : Thread nD τ).loc main_arg3) := by
  obtain ⟨-, -, -, h, -⟩ := idx_facts t
  funext j
  unfold iblk
  rw [View.read_apply, ← V_main_arg3 m c]
  refine congrArg (V m c main_arg3) (funext fun a => Fin.ext ?_)
  match a with
  | ⟨0, _⟩ => show win0_3.index t 0 * 32 + 1 * (j 0).val = (j 0).val; rw [h.1]; omega
  | ⟨1, _⟩ => show win0_3.index t 1 * 1 + 1 * (j 1).val = (j 1).val; rw [h.2.1]; omega
  | ⟨2, _⟩ => show win0_3.index t 2 * 3072 + 1 * (j 2).val = (j 2).val; rw [h.2.2]; omega

/-- The gain is the argument, laid out as one row. -/
theorem gain_entry : V m c main_v1 = shapeCast S1x1024 (m ((c : Thread nD τ).loc main_arg4)) shapeCasts_S1024_S1x1024 := rfl

theorem blk4 (k : Fin 1024) : iblk m c 4 t (ix2 0 k) = m ((c : Thread nD τ).loc main_arg4) (ix1 k) := by
  obtain ⟨-, -, -, -, h, -⟩ := idx_facts t
  unfold iblk
  rw [View.read_apply]
  have e : V m c main_v1 (ix2 0 k) = m ((c : Thread nD τ).loc main_arg4) (ix1 k) := by
    rw [gain_entry]
    pointwise []
  rw [← e]
  refine congrArg (V m c main_v1) (funext fun a => Fin.ext ?_)
  match a with
  | ⟨0, _⟩ => show win0_4.index t 0 * 1 + 1 * 0 = 0; rw [h.1]
  | ⟨1, _⟩ => show win0_4.index t 1 * 1024 + 1 * k.val = k.val; rw [h.2]; omega

/-- The weights are the argument, narrowed. -/
theorem weight_entry : V m c main_v0
    = (truncf .bf16 (m ((c : Thread nD τ).loc main_arg5) : FVec Ideal S1024x1024 .f32) bitsLt_bf16_f32 : FVec Ideal S1024x1024 .bf16) := rfl

theorem blk5 (j k : Fin 1024) : iblk m c 5 t (ix2 j k) = m ((c : Thread nD τ).loc main_arg5) (ix2 j k) := by
  obtain ⟨-, -, -, -, -, h, -⟩ := idx_facts t
  unfold iblk
  rw [View.read_apply]
  have e : V m c main_v0 (ix2 j k) = m ((c : Thread nD τ).loc main_arg5) (ix2 j k) := by
    rw [weight_entry]
    pointwise []
  rw [← e]
  refine congrArg (V m c main_v0) (funext fun a => Fin.ext ?_)
  match a with
  | ⟨0, _⟩ => show win0_5.index t 0 * 1024 + 1 * j.val = j.val; rw [h.1]; omega
  | ⟨1, _⟩ => show win0_5.index t 1 * 1024 + 1 * k.val = k.val; rw [h.2]; omega

/-- The reference's array, at the kernel's arguments. -/
def ref : Vec Ideal S32x8x1024 .f32 :=
  OutOddSRefIdeal.Read.val_main_v22 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- The array after the run is the reference's. -/
theorem result : (dats m 0 c).arrAt 6 cfg0.N = ref m c := by
  funext i
  obtain ⟨s, r, l, rfl⟩ : ∃ (s : Fin 32) (r : Fin 8) (l : Fin 1024), i = ix3 s r l := ⟨i 0, i 1, i 2, (ix3_eta i).symm⟩
  have hN : cfg0.N = 1 := N_0
  let t : Fin cfg0.N := ⟨0, by omega⟩
  have hb := congrFun (Value.blocks6 m c t (flush0_6 t)) (ix3 s r l)
  rw [Value.flushed6, View.read_apply] at hb
  have hi : (((cfg0.win 6).blk t).view.emb (ix3 s r l)) = ix3 s r l := by
    obtain ⟨-, -, -, -, -, -, h⟩ := idx_facts t
    refine funext fun a => Fin.ext ?_
    match a with
    | ⟨0, _⟩ => show win0_6.index t 0 * 32 + 1 * s.val = s.val; rw [h.1]; omega
    | ⟨1, _⟩ => show win0_6.index t 1 * 8 + 1 * r.val = r.val; rw [h.2.1]; omega
    | ⟨2, _⟩ => show win0_6.index t 2 * 1024 + 1 * l.val = l.val; rw [h.2.2]; omega
  rw [hi] at hb
  refine hb.trans ?_
  show out0_6 _ _ _ _ _ _ (ix3 s r l) = _
  unfold out0_6
  have z3 : (![0, 0, 0] : Fin 3 → Nat) = fun _ => 0 := by decide
  have z2 : (![0, 0] : Fin 2 → Nat) = fun _ => 0 := by decide
  rw [View.canon_unit_zero (S := S32x8x1024) z3]
  rw [View.ld_unit_zero (S := S32x8x1024) z3, View.ld_unit_zero (S := S32x8x1024) z3, View.ld_unit_zero (S := S1024x1024) z2,
    View.ld_unit_zero (S := S32x1x3072) z3, View.ld_unit_zero (S := S32x8x1024) z3, View.ld_unit_zero (S := S1x1024) z2]
  rw [blk0, blk1, blk2, blk3]
  exact pay_eq_ref _ _ _ _ _ _ _ _ s r l (blk4 m c t) (blk5 m c t)

end Cert.OutOddSIdeal.Hand

end
-- ==== Proof.OutOddS.Claims.lean ====
/-
  The claims of the attention layer's last product, for the sample batch: the frames, and that it computes what the reference defines.
-/
module

public import proofs.«01_k».proof.Defs
public import proofs.«01_k».proof.Proof.Gen.OutOddS
public import proofs.«01_k».proof.Proof.Gen.OutOddSIdeal
public import proofs.«01_k».proof.Proof.Gen.OutOddSRefIdeal
public import proofs.«01_k».proof.Proof.Gen.OutOddS.Frame
public import proofs.«01_k».proof.Proof.OutOddS.Result
public import Idealize.ShloMosaic.Lib.Claim
public import Idealize.ShloMosaic.Lib.Quiescent

@[expose] public section

noncomputable section

namespace Cert.Proof

open Idealize.ShloMosaic Idealize.ShloMosaic.TcCoe Idealize.SL.Sem

theorem frame_outOddS : Cert.quiescent_OutOddS := fun m ρ _ => Cert.OutOddS.Gen.frame m ρ

theorem frame_outOddSIdeal : Cert.quiescent_OutOddSIdeal := fun m ρ _ => Cert.OutOddSIdeal.Gen.frame m ρ

theorem frame_outOddSRef : Cert.quiescent_OutOddSRefIdeal := fun m ρ _ =>
  (θ_run (Cert.OutOddSRefIdeal.defs (F := Ideal)) _ _).mono
    (fun r h => ⟨fun c => (h c).2, sem_eq_zero_of_no_sems (by decide) r.2⟩) (Cert.OutOddSRefIdeal.Value.run m ρ)

/-- The kernel's array after the run and the reference's are one array. -/
theorem algebraic_outOddS : Cert.algebraic_OutOddSIdeal_OutOddSRefIdeal := fun m ρ m' ρ' _ hargs => by
  refine ⟨fun c => Cert.OutOddSIdeal.Hand.ref m c, ?_, ?_⟩
  · exact (θ_run (Cert.OutOddSIdeal.defs (F := Ideal)) _ _).mono
      (fun r h c => ⟨(h c).1.trans (Cert.OutOddSIdeal.Hand.result m c), (h c).2⟩) (Cert.OutOddSIdeal.Value.run_blocks m ρ)
  · refine (θ_run (Cert.OutOddSRefIdeal.defs (F := Ideal)) _ _).mono (fun r h c => ⟨(h c).1.trans ?_, (h c).2⟩)
      (Cert.OutOddSRefIdeal.Value.run m' ρ')
    obtain ⟨e0, e1, e2, e3, e4, e5⟩ := hargs c
    rw [Cert.OutOddSRefIdeal.Read.val_main_v22_eq, e0, e1, e2, e3, e4, e5]
    rfl

end Cert.Proof

end
-- ==== Proof.S5S.Claims.lean ====
/-
  The claims of the recurrence's call for the sample batch: the frames.
-/
module

public import proofs.«01_k».proof.Defs
public import proofs.«01_k».proof.Proof.Gen.S5S
public import proofs.«01_k».proof.Proof.Gen.S5SIdeal
public import proofs.«01_k».proof.Proof.Gen.S5S.Frame
public import proofs.«01_k».proof.Proof.Gen.S5SIdeal.Frame
public import proofs.«01_k».proof.Proof.Gen.S5SRefIdeal
public import proofs.«01_k».proof.Proof.Gen.S5SRefIdeal.Run
public import Idealize.ShloMosaic.Lib.Claim
public import Idealize.ShloMosaic.Lib.Quiescent

@[expose] public section

noncomputable section

namespace Cert.Proof

open Idealize.ShloMosaic Idealize.ShloMosaic.TcCoe Idealize.SL.Sem

/-- The frame at the machine's words. -/
theorem frame_s5S : Cert.quiescent_S5S := fun m ρ _ => Cert.S5S.Gen.frame m ρ

/-- The frame at the ideal numbers. -/
theorem frame_s5SIdeal : Cert.quiescent_S5SIdeal := fun m ρ _ => Cert.S5SIdeal.Gen.frame m ρ

/-- The frame of the reference: a host program with one loop and no semaphore. -/
theorem frame_s5SRef : Cert.quiescent_S5SRefIdeal := fun m ρ _ =>
  (θ_run (Cert.S5SRefIdeal.defs (F := Ideal)) _ _).mono
    (fun r h => ⟨fun c => (h c).2.2, sem_eq_zero_of_no_sems (by decide) r.2⟩) (Cert.S5SRefIdeal.Value.run m ρ)

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.InEven
public import proofs.«01_k».proof.Proof.Gen.InEven.Skeleton
public import proofs.«01_k».proof.Proof.Gen.InEven.Launch
public import proofs.«01_k».proof.Proof.Gen.InEven.Points
public import proofs.«01_k».proof.Proof.Gen.InEven.Frame
public import proofs.«01_k».proof.Proof.Gen.InEvenIdeal
public import proofs.«01_k».proof.Proof.Gen.InEvenIdeal.Skeleton
public import proofs.«01_k».proof.Proof.Gen.InEvenIdeal.Launch
public import proofs.«01_k».proof.Proof.Gen.InEvenIdeal.Points
public import proofs.«01_k».proof.Proof.Gen.InEvenIdeal.Frame
public import proofs.«01_k».proof.Proof.Gen.InEvenRefIdeal
public import proofs.«01_k».proof.Proof.Gen.OutEven
public import proofs.«01_k».proof.Proof.Gen.OutEven.Skeleton
public import proofs.«01_k».proof.Proof.Gen.OutEven.Launch
public import proofs.«01_k».proof.Proof.Gen.OutEven.Points
public import proofs.«01_k».proof.Proof.Gen.OutEven.Frame
public import proofs.«01_k».proof.Proof.Gen.OutEvenIdeal
public import proofs.«01_k».proof.Proof.Gen.OutEvenIdeal.Skeleton
public import proofs.«01_k».proof.Proof.Gen.OutEvenIdeal.Launch
public import proofs.«01_k».proof.Proof.Gen.OutEvenIdeal.Points
public import proofs.«01_k».proof.Proof.Gen.OutEvenIdeal.Frame
public import proofs.«01_k».proof.Proof.Gen.OutEvenRefIdeal
public import proofs.«01_k».proof.Proof.Gen.InOdd
public import proofs.«01_k».proof.Proof.Gen.InOdd.Skeleton
public import proofs.«01_k».proof.Proof.Gen.InOdd.Launch
public import proofs.«01_k».proof.Proof.Gen.InOdd.Points
public import proofs.«01_k».proof.Proof.Gen.InOdd.Frame
public import proofs.«01_k».proof.Proof.Gen.InOddIdeal
public import proofs.«01_k».proof.Proof.Gen.InOddIdeal.Skeleton
public import proofs.«01_k».proof.Proof.Gen.InOddIdeal.Launch
public import proofs.«01_k».proof.Proof.Gen.InOddIdeal.Points
public import proofs.«01_k».proof.Proof.Gen.InOddIdeal.Frame
public import proofs.«01_k».proof.Proof.Gen.InOddRefIdeal
public import proofs.«01_k».proof.Proof.Gen.OutOdd
public import proofs.«01_k».proof.Proof.Gen.OutOdd.Skeleton
public import proofs.«01_k».proof.Proof.Gen.OutOdd.Launch
public import proofs.«01_k».proof.Proof.Gen.OutOdd.Points
public import proofs.«01_k».proof.Proof.Gen.OutOdd.Frame
public import proofs.«01_k».proof.Proof.Gen.OutOddIdeal
public import proofs.«01_k».proof.Proof.Gen.OutOddIdeal.Skeleton
public import proofs.«01_k».proof.Proof.Gen.OutOddIdeal.Launch
public import proofs.«01_k».proof.Proof.Gen.OutOddIdeal.Points
public import proofs.«01_k».proof.Proof.Gen.OutOddIdeal.Frame
public import proofs.«01_k».proof.Proof.Gen.OutOddRefIdeal
public import proofs.«01_k».proof.Proof.Gen.ReferenceIdeal.Run
public import proofs.«01_k».proof.Proof.Gen.InEvenRefIdeal.Run
public import proofs.«01_k».proof.Proof.Gen.OutEvenRefIdeal.Run
public import proofs.«01_k».proof.Proof.Gen.InOddRefIdeal.Run
public import proofs.«01_k».proof.Proof.Gen.OutOddRefIdeal.Run
public import proofs.«01_k».proof.Proof.Gen.InEvenRefIdeal.Read
public import proofs.«01_k».proof.Proof.Gen.OutEvenRefIdeal.Read
public import proofs.«01_k».proof.Proof.Gen.InOddRefIdeal.Read
public import proofs.«01_k».proof.Proof.Gen.OutOddRefIdeal.Read
public import proofs.«01_k».proof.Proof.Gen.OutEvenIdeal.Value
public import proofs.«01_k».proof.Proof.Gen.InOddIdeal.Value
public import proofs.«01_k».proof.Proof.Gen.OutOddIdeal.Value
public import proofs.«01_k».proof.Proof.Gen.Adaln
public import proofs.«01_k».proof.Proof.Gen.AdalnIdeal
public import proofs.«01_k».proof.Proof.Gen.Adaln.Skeleton
public import proofs.«01_k».proof.Proof.Gen.AdalnIdeal.Skeleton
public import proofs.«01_k».proof.Proof.Gen.Adaln.Launch
public import proofs.«01_k».proof.Proof.Gen.AdalnIdeal.Launch
public import proofs.«01_k».proof.Proof.Gen.Adaln.Points
public import proofs.«01_k».proof.Proof.Gen.AdalnIdeal.Points
public import proofs.«01_k».proof.Proof.Gen.Adaln.Frame
public import proofs.«01_k».proof.Proof.Gen.AdalnIdeal.Frame
public import proofs.«01_k».proof.Proof.Gen.AdalnRefIdeal
public import proofs.«01_k».proof.Proof.Gen.AdalnRefIdeal.Run
public import proofs.«01_k».proof.Proof.Gen.AdalnRefIdeal.Read
public import proofs.«01_k».proof.Proof.Gen.AdalnIdeal.Value
public import proofs.«01_k».proof.Proof.Gen.Params
public import proofs.«01_k».proof.Proof.Gen.ParamsIdeal
public import proofs.«01_k».proof.Proof.Gen.Params.Skeleton
public import proofs.«01_k».proof.Proof.Gen.ParamsIdeal.Skeleton
public import proofs.«01_k».proof.Proof.Gen.Params.Launch
public import proofs.«01_k».proof.Proof.Gen.ParamsIdeal.Launch
public import proofs.«01_k».proof.Proof.Gen.Params.Points
public import proofs.«01_k».proof.Proof.Gen.ParamsIdeal.Points
public import proofs.«01_k».proof.Proof.Gen.Params.Frame
public import proofs.«01_k».proof.Proof.Gen.ParamsIdeal.Frame
public import proofs.«01_k».proof.Proof.Gen.ParamsRefIdeal
public import proofs.«01_k».proof.Proof.Gen.ParamsRefIdeal.Run
public import proofs.«01_k».proof.Proof.Gen.ParamsRefIdeal.Read
public import proofs.«01_k».proof.Proof.Gen.ParamsIdeal.Value
public import proofs.«01_k».proof.Proof.Gen.InEvenS
public import proofs.«01_k».proof.Proof.Gen.InEvenSIdeal
public import proofs.«01_k».proof.Proof.Gen.InEvenS.Skeleton
public import proofs.«01_k».proof.Proof.Gen.InEvenSIdeal.Skeleton
public import proofs.«01_k».proof.Proof.Gen.InEvenS.Launch
public import proofs.«01_k».proof.Proof.Gen.InEvenSIdeal.Launch
public import proofs.«01_k».proof.Proof.Gen.InEvenS.Points
public import proofs.«01_k».proof.Proof.Gen.InEvenSIdeal.Points
public import proofs.«01_k».proof.Proof.Gen.InEvenS.Frame
public import proofs.«01_k».proof.Proof.Gen.InEvenSIdeal.Frame
public import proofs.«01_k».proof.Proof.Gen.InEvenSRefIdeal
public import proofs.«01_k».proof.Proof.Gen.InEvenSRefIdeal.Run
public import proofs.«01_k».proof.Proof.Gen.InEvenSRefIdeal.Read
public import proofs.«01_k».proof.Proof.Gen.S5S
public import proofs.«01_k».proof.Proof.Gen.S5S.Skeleton
public import proofs.«01_k».proof.Proof.Gen.S5S.Launch
public import proofs.«01_k».proof.Proof.Gen.S5S.Points
public import proofs.«01_k».proof.Proof.Gen.S5S.Frame
public import proofs.«01_k».proof.Proof.Gen.S5SIdeal
public import proofs.«01_k».proof.Proof.Gen.S5SIdeal.Skeleton
public import proofs.«01_k».proof.Proof.Gen.S5SIdeal.Launch
public import proofs.«01_k».proof.Proof.Gen.S5SIdeal.Points
public import proofs.«01_k».proof.Proof.Gen.S5SIdeal.Frame
public import proofs.«01_k».proof.Proof.Gen.S5SRefIdeal
public import proofs.«01_k».proof.Proof.Gen.S5SRefIdeal.Run
public import proofs.«01_k».proof.Proof.Gen.OutEvenS
public import proofs.«01_k».proof.Proof.Gen.OutEvenSIdeal
public import proofs.«01_k».proof.Proof.Gen.OutEvenS.Skeleton
public import proofs.«01_k».proof.Proof.Gen.OutEvenSIdeal.Skeleton
public import proofs.«01_k».proof.Proof.Gen.OutEvenS.Launch
public import proofs.«01_k».proof.Proof.Gen.OutEvenSIdeal.Launch
public import proofs.«01_k».proof.Proof.Gen.OutEvenS.Points
public import proofs.«01_k».proof.Proof.Gen.OutEvenSIdeal.Points
public import proofs.«01_k».proof.Proof.Gen.OutEvenS.Frame
public import proofs.«01_k».proof.Proof.Gen.OutEvenSIdeal.Frame
public import proofs.«01_k».proof.Proof.Gen.OutEvenSRefIdeal
public import proofs.«01_k».proof.Proof.Gen.OutEvenSRefIdeal.Run
public import proofs.«01_k».proof.Proof.Gen.OutEvenSRefIdeal.Read
public import proofs.«01_k».proof.Proof.Gen.OutEvenSIdeal.Value
public import proofs.«01_k».proof.Proof.Gen.InOddS
public import proofs.«01_k».proof.Proof.Gen.InOddSIdeal
public import proofs.«01_k».proof.Proof.Gen.InOddS.Skeleton
public import proofs.«01_k».proof.Proof.Gen.InOddSIdeal.Skeleton
public import proofs.«01_k».proof.Proof.Gen.InOddS.Launch
public import proofs.«01_k».proof.Proof.Gen.InOddSIdeal.Launch
public import proofs.«01_k».proof.Proof.Gen.InOddS.Points
public import proofs.«01_k».proof.Proof.Gen.InOddSIdeal.Points
public import proofs.«01_k».proof.Proof.Gen.InOddS.Frame
public import proofs.«01_k».proof.Proof.Gen.InOddSIdeal.Frame
public import proofs.«01_k».proof.Proof.Gen.InOddSRefIdeal
public import proofs.«01_k».proof.Proof.Gen.InOddSRefIdeal.Run
public import proofs.«01_k».proof.Proof.Gen.InOddSRefIdeal.Read
public import proofs.«01_k».proof.Proof.Gen.OutOddS
public import proofs.«01_k».proof.Proof.Gen.OutOddSIdeal
public import proofs.«01_k».proof.Proof.Gen.OutOddS.Skeleton
public import proofs.«01_k».proof.Proof.Gen.OutOddSIdeal.Skeleton
public import proofs.«01_k».proof.Proof.Gen.OutOddS.Launch
public import proofs.«01_k».proof.Proof.Gen.OutOddSIdeal.Launch
public import proofs.«01_k».proof.Proof.Gen.OutOddS.Points
public import proofs.«01_k».proof.Proof.Gen.OutOddSIdeal.Points
public import proofs.«01_k».proof.Proof.Gen.OutOddS.Frame
public import proofs.«01_k».proof.Proof.Gen.OutOddSIdeal.Frame
public import proofs.«01_k».proof.Proof.Gen.OutOddSRefIdeal
public import proofs.«01_k».proof.Proof.Gen.OutOddSRefIdeal.Run
public import proofs.«01_k».proof.Proof.Gen.OutOddSRefIdeal.Read
public import proofs.«01_k».proof.Proof.Gen.OutOddSIdeal.Value
public import proofs.«01_k».proof.Proof.S5.Claims
public import proofs.«01_k».proof.Proof.InEven.Claims
public import proofs.«01_k».proof.Proof.OutEven.Claims
public import proofs.«01_k».proof.Proof.InOdd.Claims
public import proofs.«01_k».proof.Proof.OutOdd.Claims
public import proofs.«01_k».proof.Proof.Adaln.Claims
public import proofs.«01_k».proof.Proof.Params.Claims
public import proofs.«01_k».proof.Proof.InEvenS.Claims
public import proofs.«01_k».proof.Proof.OutEvenS.Claims
public import proofs.«01_k».proof.Proof.InOddS.Claims
public import proofs.«01_k».proof.Proof.OutOddS.Claims
public import proofs.«01_k».proof.Proof.S5S.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.InEven.Gen.facts, Cert.InEvenIdeal.Gen.facts, Cert.InEvenRefIdeal.Gen.facts,
  Cert.OutEven.Gen.facts, Cert.OutEvenIdeal.Gen.facts, Cert.OutEvenRefIdeal.Gen.facts,
  Cert.InOdd.Gen.facts, Cert.InOddIdeal.Gen.facts, Cert.InOddRefIdeal.Gen.facts,
  Cert.OutOdd.Gen.facts, Cert.OutOddIdeal.Gen.facts, Cert.OutOddRefIdeal.Gen.facts,
  Cert.Adaln.Gen.facts, Cert.AdalnIdeal.Gen.facts, Cert.AdalnRefIdeal.Gen.facts,
  Cert.Params.Gen.facts, Cert.ParamsIdeal.Gen.facts, Cert.ParamsRefIdeal.Gen.facts,
  Cert.InEvenS.Gen.facts, Cert.InEvenSIdeal.Gen.facts, Cert.InEvenSRefIdeal.Gen.facts,
  Cert.OutEvenS.Gen.facts, Cert.OutEvenSIdeal.Gen.facts, Cert.OutEvenSRefIdeal.Gen.facts,
  Cert.InOddS.Gen.facts, Cert.InOddSIdeal.Gen.facts, Cert.InOddSRefIdeal.Gen.facts,
  Cert.OutOddS.Gen.facts, Cert.OutOddSIdeal.Gen.facts, Cert.OutOddSRefIdeal.Gen.facts,
  Cert.S5S.Gen.facts, Cert.S5SIdeal.Gen.facts, Cert.S5SRefIdeal.Gen.facts,
  frame_kernel, frame_kernelIdeal, frame_reference,
  frame_inEven, frame_inEvenIdeal, frame_inEvenRef,
  frame_outEven, frame_outEvenIdeal, frame_outEvenRef,
  frame_inOdd, frame_inOddIdeal, frame_inOddRef,
  frame_outOdd, frame_outOddIdeal, frame_outOddRef,
  frame_adaln, frame_adalnIdeal, frame_adalnRef,
  frame_params, frame_paramsIdeal, frame_paramsRef,
  frame_inEvenS, frame_inEvenSIdeal, frame_inEvenSRef,
  frame_outEvenS, frame_outEvenSIdeal, frame_outEvenSRef,
  frame_inOddS, frame_inOddSIdeal, frame_inOddSRef,
  frame_outOddS, frame_outOddSIdeal, frame_outOddSRef,
  frame_s5S, frame_s5SIdeal, frame_s5SRef,
  trivial, algebraic_kernel, trivial, algebraic_inEven, trivial, algebraic_outEven, trivial, algebraic_inOdd, trivial, algebraic_outOdd,
  trivial, algebraic_adaln, trivial, algebraic_params,
  trivial, algebraic_inEvenS, trivial, algebraic_outEvenS, trivial, algebraic_inOddS, trivial, algebraic_outOddS,
  trivial⟩

end Cert.Proof

end
